-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelZa (m : (ℓ : Loc Cert.KernelZa.nD Cert.KernelZa.τ Cert.KernelZa.sig) → Buf (Elt Bits) ℓ) : Prop :=
  True

def Pre_KernelZaIdeal (m : (ℓ : Loc Cert.KernelZaIdeal.nD Cert.KernelZaIdeal.τ Cert.KernelZaIdeal.sig) → Buf (Elt Ideal) ℓ) : Prop :=
  True

def Pre_ReferenceZaIdeal (m : (ℓ : Loc Cert.ReferenceZaIdeal.nD Cert.ReferenceZaIdeal.τ Cert.ReferenceZaIdeal.sig) → Buf (Elt Ideal) ℓ) : Prop :=
  True

def Pre_KernelZb (m : (ℓ : Loc Cert.KernelZb.nD Cert.KernelZb.τ Cert.KernelZb.sig) → Buf (Elt Bits) ℓ) : Prop :=
  True

def Pre_KernelZbIdeal (m : (ℓ : Loc Cert.KernelZbIdeal.nD Cert.KernelZbIdeal.τ Cert.KernelZbIdeal.sig) → Buf (Elt Ideal) ℓ) : Prop :=
  True

def Pre_ReferenceZbIdeal (m : (ℓ : Loc Cert.ReferenceZbIdeal.nD Cert.ReferenceZbIdeal.τ Cert.ReferenceZbIdeal.sig) → Buf (Elt Ideal) ℓ) : Prop :=
  True

def Pre_KernelZl (m : (ℓ : Loc Cert.KernelZl.nD Cert.KernelZl.τ Cert.KernelZl.sig) → Buf (Elt Bits) ℓ) : Prop :=
  True

def Pre_KernelZlIdeal (m : (ℓ : Loc Cert.KernelZlIdeal.nD Cert.KernelZlIdeal.τ Cert.KernelZlIdeal.sig) → Buf (Elt Ideal) ℓ) : Prop :=
  True

def Pre_ReferenceZlIdeal (m : (ℓ : Loc Cert.ReferenceZlIdeal.nD Cert.ReferenceZlIdeal.τ Cert.ReferenceZlIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelFfnSample (m : (ℓ : Loc Cert.KernelFfnSample.nD Cert.KernelFfnSample.τ Cert.KernelFfnSample.sig) → Buf (Elt Bits) ℓ) : Prop :=
  True

def Pre_KernelFfnSampleIdeal (m : (ℓ : Loc Cert.KernelFfnSampleIdeal.nD Cert.KernelFfnSampleIdeal.τ Cert.KernelFfnSampleIdeal.sig) → Buf (Elt Ideal) ℓ) : Prop :=
  True

def Pre_ReferenceFfnSampleIdeal (m : (ℓ : Loc Cert.ReferenceFfnSampleIdeal.nD Cert.ReferenceFfnSampleIdeal.τ Cert.ReferenceFfnSampleIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelNormMem (m : (ℓ : Loc Cert.KernelNormMem.nD Cert.KernelNormMem.τ Cert.KernelNormMem.sig) → Buf (Elt Bits) ℓ) : Prop :=
  True

def Pre_KernelNormMemIdeal (m : (ℓ : Loc Cert.KernelNormMemIdeal.nD Cert.KernelNormMemIdeal.τ Cert.KernelNormMemIdeal.sig) → Buf (Elt Ideal) ℓ) : Prop :=
  True

def Pre_ReferenceNormMemIdeal (m : (ℓ : Loc Cert.ReferenceNormMemIdeal.nD Cert.ReferenceNormMemIdeal.τ Cert.ReferenceNormMemIdeal.sig) → Buf (Elt Ideal) ℓ) : Prop :=
  True

def Pre_KernelGmlp (m : (ℓ : Loc Cert.KernelGmlp.nD Cert.KernelGmlp.τ Cert.KernelGmlp.sig) → Buf (Elt Bits) ℓ) : Prop :=
  True

def Pre_KernelGmlpIdeal (m : (ℓ : Loc Cert.KernelGmlpIdeal.nD Cert.KernelGmlpIdeal.τ Cert.KernelGmlpIdeal.sig) → Buf (Elt Ideal) ℓ) : Prop :=
  True

def Pre_ReferenceGmlpIdeal (m : (ℓ : Loc Cert.ReferenceGmlpIdeal.nD Cert.ReferenceGmlpIdeal.τ Cert.ReferenceGmlpIdeal.sig) → Buf (Elt Ideal) ℓ) : Prop :=
  True

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_ReferencePostIdeal (m : (ℓ : Loc Cert.ReferencePostIdeal.nD Cert.ReferencePostIdeal.τ Cert.ReferencePostIdeal.sig) → Buf (Elt Ideal) ℓ) : Prop :=
  True

def Pre_KernelPrep (m : (ℓ : Loc Cert.KernelPrep.nD Cert.KernelPrep.τ Cert.KernelPrep.sig) → Buf (Elt Bits) ℓ) : Prop :=
  True

def Pre_KernelPrepIdeal (m : (ℓ : Loc Cert.KernelPrepIdeal.nD Cert.KernelPrepIdeal.τ Cert.KernelPrepIdeal.sig) → Buf (Elt Ideal) ℓ) : Prop :=
  True

def Pre_KernelPrepIdeal_prep_finite [hPre_prep_finite : Cert.Pre_prep_finite.Facts] (m : (ℓ : Loc Cert.KernelPrepIdeal.nD Cert.KernelPrepIdeal.τ Cert.KernelPrepIdeal.sig) → Buf (Elt Ideal) ℓ) : Prop :=
  ∀ c : Dev Cert.KernelPrepIdeal.nD,
    (Cert.Pre_prep_finite.fn (F := Ideal) (m ((c.tc : Thread Cert.KernelPrepIdeal.nD Cert.KernelPrepIdeal.τ).loc Cert.KernelPrepIdeal.main_arg0)) (m ((c.tc : Thread Cert.KernelPrepIdeal.nD Cert.KernelPrepIdeal.τ).loc Cert.KernelPrepIdeal.main_arg1)) (m ((c.tc : Thread Cert.KernelPrepIdeal.nD Cert.KernelPrepIdeal.τ).loc Cert.KernelPrepIdeal.main_arg2)) (m ((c.tc : Thread Cert.KernelPrepIdeal.nD Cert.KernelPrepIdeal.τ).loc Cert.KernelPrepIdeal.main_arg3)) (m ((c.tc : Thread Cert.KernelPrepIdeal.nD Cert.KernelPrepIdeal.τ).loc Cert.KernelPrepIdeal.main_arg4)) (m ((c.tc : Thread Cert.KernelPrepIdeal.nD Cert.KernelPrepIdeal.τ).loc Cert.KernelPrepIdeal.main_arg5)) (m ((c.tc : Thread Cert.KernelPrepIdeal.nD Cert.KernelPrepIdeal.τ).loc Cert.KernelPrepIdeal.main_arg6)) (m ((c.tc : Thread Cert.KernelPrepIdeal.nD Cert.KernelPrepIdeal.τ).loc Cert.KernelPrepIdeal.main_arg7)) (m ((c.tc : Thread Cert.KernelPrepIdeal.nD Cert.KernelPrepIdeal.τ).loc Cert.KernelPrepIdeal.main_arg8)) (m ((c.tc : Thread Cert.KernelPrepIdeal.nD Cert.KernelPrepIdeal.τ).loc Cert.KernelPrepIdeal.main_arg9)) (m ((c.tc : Thread Cert.KernelPrepIdeal.nD Cert.KernelPrepIdeal.τ).loc Cert.KernelPrepIdeal.main_arg10))) = (fun _ => 1#1)

def Pre_ReferencePrepIdeal (m : (ℓ : Loc Cert.ReferencePrepIdeal.nD Cert.ReferencePrepIdeal.τ Cert.ReferencePrepIdeal.sig) → Buf (Elt Ideal) ℓ) : Prop :=
  True

def Pre_ReferencePrepIdeal_prep_finite [hPre_prep_finite : Cert.Pre_prep_finite.Facts] (m : (ℓ : Loc Cert.ReferencePrepIdeal.nD Cert.ReferencePrepIdeal.τ Cert.ReferencePrepIdeal.sig) → Buf (Elt Ideal) ℓ) : Prop :=
  ∀ c : Dev Cert.ReferencePrepIdeal.nD,
    (Cert.Pre_prep_finite.fn (F := Ideal) (m ((c.tc : Thread Cert.ReferencePrepIdeal.nD Cert.ReferencePrepIdeal.τ).loc Cert.ReferencePrepIdeal.main_arg0)) (m ((c.tc : Thread Cert.ReferencePrepIdeal.nD Cert.ReferencePrepIdeal.τ).loc Cert.ReferencePrepIdeal.main_arg1)) (m ((c.tc : Thread Cert.ReferencePrepIdeal.nD Cert.ReferencePrepIdeal.τ).loc Cert.ReferencePrepIdeal.main_arg2)) (m ((c.tc : Thread Cert.ReferencePrepIdeal.nD Cert.ReferencePrepIdeal.τ).loc Cert.ReferencePrepIdeal.main_arg3)) (m ((c.tc : Thread Cert.ReferencePrepIdeal.nD Cert.ReferencePrepIdeal.τ).loc Cert.ReferencePrepIdeal.main_arg4)) (m ((c.tc : Thread Cert.ReferencePrepIdeal.nD Cert.ReferencePrepIdeal.τ).loc Cert.ReferencePrepIdeal.main_arg5)) (m ((c.tc : Thread Cert.ReferencePrepIdeal.nD Cert.ReferencePrepIdeal.τ).loc Cert.ReferencePrepIdeal.main_arg6)) (m ((c.tc : Thread Cert.ReferencePrepIdeal.nD Cert.ReferencePrepIdeal.τ).loc Cert.ReferencePrepIdeal.main_arg7)) (m ((c.tc : Thread Cert.ReferencePrepIdeal.nD Cert.ReferencePrepIdeal.τ).loc Cert.ReferencePrepIdeal.main_arg8)) (m ((c.tc : Thread Cert.ReferencePrepIdeal.nD Cert.ReferencePrepIdeal.τ).loc Cert.ReferencePrepIdeal.main_arg9)) (m ((c.tc : Thread Cert.ReferencePrepIdeal.nD Cert.ReferencePrepIdeal.τ).loc Cert.ReferencePrepIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6))
      ∧ r.2.sem = fun _ => 0)

def quiescent_KernelZa [hKernelZa : Cert.KernelZa.Facts] : Prop :=
  ∀ (m : (ℓ : Loc Cert.KernelZa.nD Cert.KernelZa.τ Cert.KernelZa.sig) → Buf (Elt Bits) ℓ) (g : Dev Cert.KernelZa.nD → PrngReg), Pre_KernelZa m →
    θ_run (Cert.KernelZa.defs (F := Bits)) (onTc (τ := Cert.KernelZa.τ) (Cert.KernelZa.main (F := Bits))) ⟨m, fun _ => 0, g⟩ (fun r => (∀ c : Dev Cert.KernelZa.nD,
      r.2.mem ((c.tc : Thread Cert.KernelZa.nD Cert.KernelZa.τ).loc Cert.KernelZa.main_arg0) = m ((c.tc : Thread Cert.KernelZa.nD Cert.KernelZa.τ).loc Cert.KernelZa.main_arg0)
      ∧ r.2.mem ((c.tc : Thread Cert.KernelZa.nD Cert.KernelZa.τ).loc Cert.KernelZa.main_arg1) = m ((c.tc : Thread Cert.KernelZa.nD Cert.KernelZa.τ).loc Cert.KernelZa.main_arg1))
      ∧ r.2.sem = fun _ => 0)

def quiescent_KernelZaIdeal [hKernelZaIdeal : Cert.KernelZaIdeal.Facts] : Prop :=
  ∀ (m : (ℓ : Loc Cert.KernelZaIdeal.nD Cert.KernelZaIdeal.τ Cert.KernelZaIdeal.sig) → Buf (Elt Ideal) ℓ) (g : Dev Cert.KernelZaIdeal.nD → PrngReg), Pre_KernelZaIdeal m →
    θ_run (Cert.KernelZaIdeal.defs (F := Ideal)) (onTc (τ := Cert.KernelZaIdeal.τ) (Cert.KernelZaIdeal.main (F := Ideal))) ⟨m, fun _ => 0, g⟩ (fun r => (∀ c : Dev Cert.KernelZaIdeal.nD,
      r.2.mem ((c.tc : Thread Cert.KernelZaIdeal.nD Cert.KernelZaIdeal.τ).loc Cert.KernelZaIdeal.main_arg0) = m ((c.tc : Thread Cert.KernelZaIdeal.nD Cert.KernelZaIdeal.τ).loc Cert.KernelZaIdeal.main_arg0)
      ∧ r.2.mem ((c.tc : Thread Cert.KernelZaIdeal.nD Cert.KernelZaIdeal.τ).loc Cert.KernelZaIdeal.main_arg1) = m ((c.tc : Thread Cert.KernelZaIdeal.nD Cert.KernelZaIdeal.τ).loc Cert.KernelZaIdeal.main_arg1))
      ∧ r.2.sem = fun _ => 0)

def quiescent_ReferenceZaIdeal [hReferenceZaIdeal : Cert.ReferenceZaIdeal.Facts] : Prop :=
  ∀ (m : (ℓ : Loc Cert.ReferenceZaIdeal.nD Cert.ReferenceZaIdeal.τ Cert.ReferenceZaIdeal.sig) → Buf (Elt Ideal) ℓ) (g : Dev Cert.ReferenceZaIdeal.nD → PrngReg), Pre_ReferenceZaIdeal m →
    θ_run (Cert.ReferenceZaIdeal.defs (F := Ideal)) (onTc (τ := Cert.ReferenceZaIdeal.τ) (Cert.ReferenceZaIdeal.main (F := Ideal))) ⟨m, fun _ => 0, g⟩ (fun r => (∀ c : Dev Cert.ReferenceZaIdeal.nD,
      r.2.mem ((c.tc : Thread Cert.ReferenceZaIdeal.nD Cert.ReferenceZaIdeal.τ).loc Cert.ReferenceZaIdeal.main_arg0) = m ((c.tc : Thread Cert.ReferenceZaIdeal.nD Cert.ReferenceZaIdeal.τ).loc Cert.ReferenceZaIdeal.main_arg0)
      ∧ r.2.mem ((c.tc : Thread Cert.ReferenceZaIdeal.nD Cert.ReferenceZaIdeal.τ).loc Cert.ReferenceZaIdeal.main_arg1) = m ((c.tc : Thread Cert.ReferenceZaIdeal.nD Cert.ReferenceZaIdeal.τ).loc Cert.ReferenceZaIdeal.main_arg1))
      ∧ r.2.sem = fun _ => 0)

def quiescent_KernelZb [hKernelZb : Cert.KernelZb.Facts] : Prop :=
  ∀ (m : (ℓ : Loc Cert.KernelZb.nD Cert.KernelZb.τ Cert.KernelZb.sig) → Buf (Elt Bits) ℓ) (g : Dev Cert.KernelZb.nD → PrngReg), Pre_KernelZb m →
    θ_run (Cert.KernelZb.defs (F := Bits)) (onTc (τ := Cert.KernelZb.τ) (Cert.KernelZb.main (F := Bits))) ⟨m, fun _ => 0, g⟩ (fun r => (∀ c : Dev Cert.KernelZb.nD,
      r.2.mem ((c.tc : Thread Cert.KernelZb.nD Cert.KernelZb.τ).loc Cert.KernelZb.main_arg0) = m ((c.tc : Thread Cert.KernelZb.nD Cert.KernelZb.τ).loc Cert.KernelZb.main_arg0)
      ∧ r.2.mem ((c.tc : Thread Cert.KernelZb.nD Cert.KernelZb.τ).loc Cert.KernelZb.main_arg1) = m ((c.tc : Thread Cert.KernelZb.nD Cert.KernelZb.τ).loc Cert.KernelZb.main_arg1))
      ∧ r.2.sem = fun _ => 0)

def quiescent_KernelZbIdeal [hKernelZbIdeal : Cert.KernelZbIdeal.Facts] : Prop :=
  ∀ (m : (ℓ : Loc Cert.KernelZbIdeal.nD Cert.KernelZbIdeal.τ Cert.KernelZbIdeal.sig) → Buf (Elt Ideal) ℓ) (g : Dev Cert.KernelZbIdeal.nD → PrngReg), Pre_KernelZbIdeal m →
    θ_run (Cert.KernelZbIdeal.defs (F := Ideal)) (onTc (τ := Cert.KernelZbIdeal.τ) (Cert.KernelZbIdeal.main (F := Ideal))) ⟨m, fun _ => 0, g⟩ (fun r => (∀ c : Dev Cert.KernelZbIdeal.nD,
      r.2.mem ((c.tc : Thread Cert.KernelZbIdeal.nD Cert.KernelZbIdeal.τ).loc Cert.KernelZbIdeal.main_arg0) = m ((c.tc : Thread Cert.KernelZbIdeal.nD Cert.KernelZbIdeal.τ).loc Cert.KernelZbIdeal.main_arg0)
      ∧ r.2.mem ((c.tc : Thread Cert.KernelZbIdeal.nD Cert.KernelZbIdeal.τ).loc Cert.KernelZbIdeal.main_arg1) = m ((c.tc : Thread Cert.KernelZbIdeal.nD Cert.KernelZbIdeal.τ).loc Cert.KernelZbIdeal.main_arg1))
      ∧ r.2.sem = fun _ => 0)

def quiescent_ReferenceZbIdeal [hReferenceZbIdeal : Cert.ReferenceZbIdeal.Facts] : Prop :=
  ∀ (m : (ℓ : Loc Cert.ReferenceZbIdeal.nD Cert.ReferenceZbIdeal.τ Cert.ReferenceZbIdeal.sig) → Buf (Elt Ideal) ℓ) (g : Dev Cert.ReferenceZbIdeal.nD → PrngReg), Pre_ReferenceZbIdeal m →
    θ_run (Cert.ReferenceZbIdeal.defs (F := Ideal)) (onTc (τ := Cert.ReferenceZbIdeal.τ) (Cert.ReferenceZbIdeal.main (F := Ideal))) ⟨m, fun _ => 0, g⟩ (fun r => (∀ c : Dev Cert.ReferenceZbIdeal.nD,
      r.2.mem ((c.tc : Thread Cert.ReferenceZbIdeal.nD Cert.ReferenceZbIdeal.τ).loc Cert.ReferenceZbIdeal.main_arg0) = m ((c.tc : Thread Cert.ReferenceZbIdeal.nD Cert.ReferenceZbIdeal.τ).loc Cert.ReferenceZbIdeal.main_arg0)
      ∧ r.2.mem ((c.tc : Thread Cert.ReferenceZbIdeal.nD Cert.ReferenceZbIdeal.τ).loc Cert.ReferenceZbIdeal.main_arg1) = m ((c.tc : Thread Cert.ReferenceZbIdeal.nD Cert.ReferenceZbIdeal.τ).loc Cert.ReferenceZbIdeal.main_arg1))
      ∧ r.2.sem = fun _ => 0)

def quiescent_KernelZl [hKernelZl : Cert.KernelZl.Facts] : Prop :=
  ∀ (m : (ℓ : Loc Cert.KernelZl.nD Cert.KernelZl.τ Cert.KernelZl.sig) → Buf (Elt Bits) ℓ) (g : Dev Cert.KernelZl.nD → PrngReg), Pre_KernelZl m →
    θ_run (Cert.KernelZl.defs (F := Bits)) (onTc (τ := Cert.KernelZl.τ) (Cert.KernelZl.main (F := Bits))) ⟨m, fun _ => 0, g⟩ (fun r => (∀ c : Dev Cert.KernelZl.nD,
      r.2.mem ((c.tc : Thread Cert.KernelZl.nD Cert.KernelZl.τ).loc Cert.KernelZl.main_arg0) = m ((c.tc : Thread Cert.KernelZl.nD Cert.KernelZl.τ).loc Cert.KernelZl.main_arg0)
      ∧ r.2.mem ((c.tc : Thread Cert.KernelZl.nD Cert.KernelZl.τ).loc Cert.KernelZl.main_arg1) = m ((c.tc : Thread Cert.KernelZl.nD Cert.KernelZl.τ).loc Cert.KernelZl.main_arg1))
      ∧ r.2.sem = fun _ => 0)

def quiescent_KernelZlIdeal [hKernelZlIdeal : Cert.KernelZlIdeal.Facts] : Prop :=
  ∀ (m : (ℓ : Loc Cert.KernelZlIdeal.nD Cert.KernelZlIdeal.τ Cert.KernelZlIdeal.sig) → Buf (Elt Ideal) ℓ) (g : Dev Cert.KernelZlIdeal.nD → PrngReg), Pre_KernelZlIdeal m →
    θ_run (Cert.KernelZlIdeal.defs (F := Ideal)) (onTc (τ := Cert.KernelZlIdeal.τ) (Cert.KernelZlIdeal.main (F := Ideal))) ⟨m, fun _ => 0, g⟩ (fun r => (∀ c : Dev Cert.KernelZlIdeal.nD,
      r.2.mem ((c.tc : Thread Cert.KernelZlIdeal.nD Cert.KernelZlIdeal.τ).loc Cert.KernelZlIdeal.main_arg0) = m ((c.tc : Thread Cert.KernelZlIdeal.nD Cert.KernelZlIdeal.τ).loc Cert.KernelZlIdeal.main_arg0)
      ∧ r.2.mem ((c.tc : Thread Cert.KernelZlIdeal.nD Cert.KernelZlIdeal.τ).loc Cert.KernelZlIdeal.main_arg1) = m ((c.tc : Thread Cert.KernelZlIdeal.nD Cert.KernelZlIdeal.τ).loc Cert.KernelZlIdeal.main_arg1))
      ∧ r.2.sem = fun _ => 0)

def quiescent_ReferenceZlIdeal [hReferenceZlIdeal : Cert.ReferenceZlIdeal.Facts] : Prop :=
  ∀ (m : (ℓ : Loc Cert.ReferenceZlIdeal.nD Cert.ReferenceZlIdeal.τ Cert.ReferenceZlIdeal.sig) → Buf (Elt Ideal) ℓ) (g : Dev Cert.ReferenceZlIdeal.nD → PrngReg), Pre_ReferenceZlIdeal m →
    θ_run (Cert.ReferenceZlIdeal.defs (F := Ideal)) (onTc (τ := Cert.ReferenceZlIdeal.τ) (Cert.ReferenceZlIdeal.main (F := Ideal))) ⟨m, fun _ => 0, g⟩ (fun r => (∀ c : Dev Cert.ReferenceZlIdeal.nD,
      r.2.mem ((c.tc : Thread Cert.ReferenceZlIdeal.nD Cert.ReferenceZlIdeal.τ).loc Cert.ReferenceZlIdeal.main_arg0) = m ((c.tc : Thread Cert.ReferenceZlIdeal.nD Cert.ReferenceZlIdeal.τ).loc Cert.ReferenceZlIdeal.main_arg0)
      ∧ r.2.mem ((c.tc : Thread Cert.ReferenceZlIdeal.nD Cert.ReferenceZlIdeal.τ).loc Cert.ReferenceZlIdeal.main_arg1) = m ((c.tc : Thread Cert.ReferenceZlIdeal.nD Cert.ReferenceZlIdeal.τ).loc Cert.ReferenceZlIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2))
      ∧ r.2.sem = fun _ => 0)

def quiescent_KernelFfnSample [hKernelFfnSample : Cert.KernelFfnSample.Facts] : Prop :=
  ∀ (m : (ℓ : Loc Cert.KernelFfnSample.nD Cert.KernelFfnSample.τ Cert.KernelFfnSample.sig) → Buf (Elt Bits) ℓ) (g : Dev Cert.KernelFfnSample.nD → PrngReg), Pre_KernelFfnSample m →
    θ_run (Cert.KernelFfnSample.defs (F := Bits)) (onTc (τ := Cert.KernelFfnSample.τ) (Cert.KernelFfnSample.main (F := Bits))) ⟨m, fun _ => 0, g⟩ (fun r => (∀ c : Dev Cert.KernelFfnSample.nD,
      r.2.mem ((c.tc : Thread Cert.KernelFfnSample.nD Cert.KernelFfnSample.τ).loc Cert.KernelFfnSample.main_arg0) = m ((c.tc : Thread Cert.KernelFfnSample.nD Cert.KernelFfnSample.τ).loc Cert.KernelFfnSample.main_arg0)
      ∧ r.2.mem ((c.tc : Thread Cert.KernelFfnSample.nD Cert.KernelFfnSample.τ).loc Cert.KernelFfnSample.main_arg1) = m ((c.tc : Thread Cert.KernelFfnSample.nD Cert.KernelFfnSample.τ).loc Cert.KernelFfnSample.main_arg1)
      ∧ r.2.mem ((c.tc : Thread Cert.KernelFfnSample.nD Cert.KernelFfnSample.τ).loc Cert.KernelFfnSample.main_arg2) = m ((c.tc : Thread Cert.KernelFfnSample.nD Cert.KernelFfnSample.τ).loc Cert.KernelFfnSample.main_arg2)
      ∧ r.2.mem ((c.tc : Thread Cert.KernelFfnSample.nD Cert.KernelFfnSample.τ).loc Cert.KernelFfnSample.main_arg3) = m ((c.tc : Thread Cert.KernelFfnSample.nD Cert.KernelFfnSample.τ).loc Cert.KernelFfnSample.main_arg3)
      ∧ r.2.mem ((c.tc : Thread Cert.KernelFfnSample.nD Cert.KernelFfnSample.τ).loc Cert.KernelFfnSample.main_arg4) = m ((c.tc : Thread Cert.KernelFfnSample.nD Cert.KernelFfnSample.τ).loc Cert.KernelFfnSample.main_arg4)
      ∧ r.2.mem ((c.tc : Thread Cert.KernelFfnSample.nD Cert.KernelFfnSample.τ).loc Cert.KernelFfnSample.main_arg5) = m ((c.tc : Thread Cert.KernelFfnSample.nD Cert.KernelFfnSample.τ).loc Cert.KernelFfnSample.main_arg5)
      ∧ r.2.mem ((c.tc : Thread Cert.KernelFfnSample.nD Cert.KernelFfnSample.τ).loc Cert.KernelFfnSample.main_arg6) = m ((c.tc : Thread Cert.KernelFfnSample.nD Cert.KernelFfnSample.τ).loc Cert.KernelFfnSample.main_arg6))
      ∧ r.2.sem = fun _ => 0)

def quiescent_KernelFfnSampleIdeal [hKernelFfnSampleIdeal : Cert.KernelFfnSampleIdeal.Facts] : Prop :=
  ∀ (m : (ℓ : Loc Cert.KernelFfnSampleIdeal.nD Cert.KernelFfnSampleIdeal.τ Cert.KernelFfnSampleIdeal.sig) → Buf (Elt Ideal) ℓ) (g : Dev Cert.KernelFfnSampleIdeal.nD → PrngReg), Pre_KernelFfnSampleIdeal m →
    θ_run (Cert.KernelFfnSampleIdeal.defs (F := Ideal)) (onTc (τ := Cert.KernelFfnSampleIdeal.τ) (Cert.KernelFfnSampleIdeal.main (F := Ideal))) ⟨m, fun _ => 0, g⟩ (fun r => (∀ c : Dev Cert.KernelFfnSampleIdeal.nD,
      r.2.mem ((c.tc : Thread Cert.KernelFfnSampleIdeal.nD Cert.KernelFfnSampleIdeal.τ).loc Cert.KernelFfnSampleIdeal.main_arg0) = m ((c.tc : Thread Cert.KernelFfnSampleIdeal.nD Cert.KernelFfnSampleIdeal.τ).loc Cert.KernelFfnSampleIdeal.main_arg0)
      ∧ r.2.mem ((c.tc : Thread Cert.KernelFfnSampleIdeal.nD Cert.KernelFfnSampleIdeal.τ).loc Cert.KernelFfnSampleIdeal.main_arg1) = m ((c.tc : Thread Cert.KernelFfnSampleIdeal.nD Cert.KernelFfnSampleIdeal.τ).loc Cert.KernelFfnSampleIdeal.main_arg1)
      ∧ r.2.mem ((c.tc : Thread Cert.KernelFfnSampleIdeal.nD Cert.KernelFfnSampleIdeal.τ).loc Cert.KernelFfnSampleIdeal.main_arg2) = m ((c.tc : Thread Cert.KernelFfnSampleIdeal.nD Cert.KernelFfnSampleIdeal.τ).loc Cert.KernelFfnSampleIdeal.main_arg2)
      ∧ r.2.mem ((c.tc : Thread Cert.KernelFfnSampleIdeal.nD Cert.KernelFfnSampleIdeal.τ).loc Cert.KernelFfnSampleIdeal.main_arg3) = m ((c.tc : Thread Cert.KernelFfnSampleIdeal.nD Cert.KernelFfnSampleIdeal.τ).loc Cert.KernelFfnSampleIdeal.main_arg3)
      ∧ r.2.mem ((c.tc : Thread Cert.KernelFfnSampleIdeal.nD Cert.KernelFfnSampleIdeal.τ).loc Cert.KernelFfnSampleIdeal.main_arg4) = m ((c.tc : Thread Cert.KernelFfnSampleIdeal.nD Cert.KernelFfnSampleIdeal.τ).loc Cert.KernelFfnSampleIdeal.main_arg4)
      ∧ r.2.mem ((c.tc : Thread Cert.KernelFfnSampleIdeal.nD Cert.KernelFfnSampleIdeal.τ).loc Cert.KernelFfnSampleIdeal.main_arg5) = m ((c.tc : Thread Cert.KernelFfnSampleIdeal.nD Cert.KernelFfnSampleIdeal.τ).loc Cert.KernelFfnSampleIdeal.main_arg5)
      ∧ r.2.mem ((c.tc : Thread Cert.KernelFfnSampleIdeal.nD Cert.KernelFfnSampleIdeal.τ).loc Cert.KernelFfnSampleIdeal.main_arg6) = m ((c.tc : Thread Cert.KernelFfnSampleIdeal.nD Cert.KernelFfnSampleIdeal.τ).loc Cert.KernelFfnSampleIdeal.main_arg6))
      ∧ r.2.sem = fun _ => 0)

def quiescent_ReferenceFfnSampleIdeal [hReferenceFfnSampleIdeal : Cert.ReferenceFfnSampleIdeal.Facts] : Prop :=
  ∀ (m : (ℓ : Loc Cert.ReferenceFfnSampleIdeal.nD Cert.ReferenceFfnSampleIdeal.τ Cert.ReferenceFfnSampleIdeal.sig) → Buf (Elt Ideal) ℓ) (g : Dev Cert.ReferenceFfnSampleIdeal.nD → PrngReg), Pre_ReferenceFfnSampleIdeal m →
    θ_run (Cert.ReferenceFfnSampleIdeal.defs (F := Ideal)) (onTc (τ := Cert.ReferenceFfnSampleIdeal.τ) (Cert.ReferenceFfnSampleIdeal.main (F := Ideal))) ⟨m, fun _ => 0, g⟩ (fun r => (∀ c : Dev Cert.ReferenceFfnSampleIdeal.nD,
      r.2.mem ((c.tc : Thread Cert.ReferenceFfnSampleIdeal.nD Cert.ReferenceFfnSampleIdeal.τ).loc Cert.ReferenceFfnSampleIdeal.main_arg0) = m ((c.tc : Thread Cert.ReferenceFfnSampleIdeal.nD Cert.ReferenceFfnSampleIdeal.τ).loc Cert.ReferenceFfnSampleIdeal.main_arg0)
      ∧ r.2.mem ((c.tc : Thread Cert.ReferenceFfnSampleIdeal.nD Cert.ReferenceFfnSampleIdeal.τ).loc Cert.ReferenceFfnSampleIdeal.main_arg1) = m ((c.tc : Thread Cert.ReferenceFfnSampleIdeal.nD Cert.ReferenceFfnSampleIdeal.τ).loc Cert.ReferenceFfnSampleIdeal.main_arg1)
      ∧ r.2.mem ((c.tc : Thread Cert.ReferenceFfnSampleIdeal.nD Cert.ReferenceFfnSampleIdeal.τ).loc Cert.ReferenceFfnSampleIdeal.main_arg2) = m ((c.tc : Thread Cert.ReferenceFfnSampleIdeal.nD Cert.ReferenceFfnSampleIdeal.τ).loc Cert.ReferenceFfnSampleIdeal.main_arg2)
      ∧ r.2.mem ((c.tc : Thread Cert.ReferenceFfnSampleIdeal.nD Cert.ReferenceFfnSampleIdeal.τ).loc Cert.ReferenceFfnSampleIdeal.main_arg3) = m ((c.tc : Thread Cert.ReferenceFfnSampleIdeal.nD Cert.ReferenceFfnSampleIdeal.τ).loc Cert.ReferenceFfnSampleIdeal.main_arg3)
      ∧ r.2.mem ((c.tc : Thread Cert.ReferenceFfnSampleIdeal.nD Cert.ReferenceFfnSampleIdeal.τ).loc Cert.ReferenceFfnSampleIdeal.main_arg4) = m ((c.tc : Thread Cert.ReferenceFfnSampleIdeal.nD Cert.ReferenceFfnSampleIdeal.τ).loc Cert.ReferenceFfnSampleIdeal.main_arg4)
      ∧ r.2.mem ((c.tc : Thread Cert.ReferenceFfnSampleIdeal.nD Cert.ReferenceFfnSampleIdeal.τ).loc Cert.ReferenceFfnSampleIdeal.main_arg5) = m ((c.tc : Thread Cert.ReferenceFfnSampleIdeal.nD Cert.ReferenceFfnSampleIdeal.τ).loc Cert.ReferenceFfnSampleIdeal.main_arg5)
      ∧ r.2.mem ((c.tc : Thread Cert.ReferenceFfnSampleIdeal.nD Cert.ReferenceFfnSampleIdeal.τ).loc Cert.ReferenceFfnSampleIdeal.main_arg6) = m ((c.tc : Thread Cert.ReferenceFfnSampleIdeal.nD Cert.ReferenceFfnSampleIdeal.τ).loc Cert.ReferenceFfnSampleIdeal.main_arg6))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelNormMem [hKernelNormMem : Cert.KernelNormMem.Facts] : Prop :=
  ∀ (m : (ℓ : Loc Cert.KernelNormMem.nD Cert.KernelNormMem.τ Cert.KernelNormMem.sig) → Buf (Elt Bits) ℓ) (g : Dev Cert.KernelNormMem.nD → PrngReg), Pre_KernelNormMem m →
    θ_run (Cert.KernelNormMem.defs (F := Bits)) (onTc (τ := Cert.KernelNormMem.τ) (Cert.KernelNormMem.main (F := Bits))) ⟨m, fun _ => 0, g⟩ (fun r => (∀ c : Dev Cert.KernelNormMem.nD,
      r.2.mem ((c.tc : Thread Cert.KernelNormMem.nD Cert.KernelNormMem.τ).loc Cert.KernelNormMem.main_arg0) = m ((c.tc : Thread Cert.KernelNormMem.nD Cert.KernelNormMem.τ).loc Cert.KernelNormMem.main_arg0)
      ∧ r.2.mem ((c.tc : Thread Cert.KernelNormMem.nD Cert.KernelNormMem.τ).loc Cert.KernelNormMem.main_arg1) = m ((c.tc : Thread Cert.KernelNormMem.nD Cert.KernelNormMem.τ).loc Cert.KernelNormMem.main_arg1))
      ∧ r.2.sem = fun _ => 0)

def quiescent_KernelNormMemIdeal [hKernelNormMemIdeal : Cert.KernelNormMemIdeal.Facts] : Prop :=
  ∀ (m : (ℓ : Loc Cert.KernelNormMemIdeal.nD Cert.KernelNormMemIdeal.τ Cert.KernelNormMemIdeal.sig) → Buf (Elt Ideal) ℓ) (g : Dev Cert.KernelNormMemIdeal.nD → PrngReg), Pre_KernelNormMemIdeal m →
    θ_run (Cert.KernelNormMemIdeal.defs (F := Ideal)) (onTc (τ := Cert.KernelNormMemIdeal.τ) (Cert.KernelNormMemIdeal.main (F := Ideal))) ⟨m, fun _ => 0, g⟩ (fun r => (∀ c : Dev Cert.KernelNormMemIdeal.nD,
      r.2.mem ((c.tc : Thread Cert.KernelNormMemIdeal.nD Cert.KernelNormMemIdeal.τ).loc Cert.KernelNormMemIdeal.main_arg0) = m ((c.tc : Thread Cert.KernelNormMemIdeal.nD Cert.KernelNormMemIdeal.τ).loc Cert.KernelNormMemIdeal.main_arg0)
      ∧ r.2.mem ((c.tc : Thread Cert.KernelNormMemIdeal.nD Cert.KernelNormMemIdeal.τ).loc Cert.KernelNormMemIdeal.main_arg1) = m ((c.tc : Thread Cert.KernelNormMemIdeal.nD Cert.KernelNormMemIdeal.τ).loc Cert.KernelNormMemIdeal.main_arg1))
      ∧ r.2.sem = fun _ => 0)

def quiescent_ReferenceNormMemIdeal [hReferenceNormMemIdeal : Cert.ReferenceNormMemIdeal.Facts] : Prop :=
  ∀ (m : (ℓ : Loc Cert.ReferenceNormMemIdeal.nD Cert.ReferenceNormMemIdeal.τ Cert.ReferenceNormMemIdeal.sig) → Buf (Elt Ideal) ℓ) (g : Dev Cert.ReferenceNormMemIdeal.nD → PrngReg), Pre_ReferenceNormMemIdeal m →
    θ_run (Cert.ReferenceNormMemIdeal.defs (F := Ideal)) (onTc (τ := Cert.ReferenceNormMemIdeal.τ) (Cert.ReferenceNormMemIdeal.main (F := Ideal))) ⟨m, fun _ => 0, g⟩ (fun r => (∀ c : Dev Cert.ReferenceNormMemIdeal.nD,
      r.2.mem ((c.tc : Thread Cert.ReferenceNormMemIdeal.nD Cert.ReferenceNormMemIdeal.τ).loc Cert.ReferenceNormMemIdeal.main_arg0) = m ((c.tc : Thread Cert.ReferenceNormMemIdeal.nD Cert.ReferenceNormMemIdeal.τ).loc Cert.ReferenceNormMemIdeal.main_arg0)
      ∧ r.2.mem ((c.tc : Thread Cert.ReferenceNormMemIdeal.nD Cert.ReferenceNormMemIdeal.τ).loc Cert.ReferenceNormMemIdeal.main_arg1) = m ((c.tc : Thread Cert.ReferenceNormMemIdeal.nD Cert.ReferenceNormMemIdeal.τ).loc Cert.ReferenceNormMemIdeal.main_arg1))
      ∧ r.2.sem = fun _ => 0)

def quiescent_KernelGmlp [hKernelGmlp : Cert.KernelGmlp.Facts] : Prop :=
  ∀ (m : (ℓ : Loc Cert.KernelGmlp.nD Cert.KernelGmlp.τ Cert.KernelGmlp.sig) → Buf (Elt Bits) ℓ) (g : Dev Cert.KernelGmlp.nD → PrngReg), Pre_KernelGmlp m →
    θ_run (Cert.KernelGmlp.defs (F := Bits)) (onTc (τ := Cert.KernelGmlp.τ) (Cert.KernelGmlp.main (F := Bits))) ⟨m, fun _ => 0, g⟩ (fun r => (∀ c : Dev Cert.KernelGmlp.nD,
      r.2.mem ((c.tc : Thread Cert.KernelGmlp.nD Cert.KernelGmlp.τ).loc Cert.KernelGmlp.main_arg0) = m ((c.tc : Thread Cert.KernelGmlp.nD Cert.KernelGmlp.τ).loc Cert.KernelGmlp.main_arg0)
      ∧ r.2.mem ((c.tc : Thread Cert.KernelGmlp.nD Cert.KernelGmlp.τ).loc Cert.KernelGmlp.main_arg1) = m ((c.tc : Thread Cert.KernelGmlp.nD Cert.KernelGmlp.τ).loc Cert.KernelGmlp.main_arg1)
      ∧ r.2.mem ((c.tc : Thread Cert.KernelGmlp.nD Cert.KernelGmlp.τ).loc Cert.KernelGmlp.main_arg2) = m ((c.tc : Thread Cert.KernelGmlp.nD Cert.KernelGmlp.τ).loc Cert.KernelGmlp.main_arg2)
      ∧ r.2.mem ((c.tc : Thread Cert.KernelGmlp.nD Cert.KernelGmlp.τ).loc Cert.KernelGmlp.main_arg3) = m ((c.tc : Thread Cert.KernelGmlp.nD Cert.KernelGmlp.τ).loc Cert.KernelGmlp.main_arg3)
      ∧ r.2.mem ((c.tc : Thread Cert.KernelGmlp.nD Cert.KernelGmlp.τ).loc Cert.KernelGmlp.main_arg4) = m ((c.tc : Thread Cert.KernelGmlp.nD Cert.KernelGmlp.τ).loc Cert.KernelGmlp.main_arg4))
      ∧ r.2.sem = fun _ => 0)

def quiescent_KernelGmlpIdeal [hKernelGmlpIdeal : Cert.KernelGmlpIdeal.Facts] : Prop :=
  ∀ (m : (ℓ : Loc Cert.KernelGmlpIdeal.nD Cert.KernelGmlpIdeal.τ Cert.KernelGmlpIdeal.sig) → Buf (Elt Ideal) ℓ) (g : Dev Cert.KernelGmlpIdeal.nD → PrngReg), Pre_KernelGmlpIdeal m →
    θ_run (Cert.KernelGmlpIdeal.defs (F := Ideal)) (onTc (τ := Cert.KernelGmlpIdeal.τ) (Cert.KernelGmlpIdeal.main (F := Ideal))) ⟨m, fun _ => 0, g⟩ (fun r => (∀ c : Dev Cert.KernelGmlpIdeal.nD,
      r.2.mem ((c.tc : Thread Cert.KernelGmlpIdeal.nD Cert.KernelGmlpIdeal.τ).loc Cert.KernelGmlpIdeal.main_arg0) = m ((c.tc : Thread Cert.KernelGmlpIdeal.nD Cert.KernelGmlpIdeal.τ).loc Cert.KernelGmlpIdeal.main_arg0)
      ∧ r.2.mem ((c.tc : Thread Cert.KernelGmlpIdeal.nD Cert.KernelGmlpIdeal.τ).loc Cert.KernelGmlpIdeal.main_arg1) = m ((c.tc : Thread Cert.KernelGmlpIdeal.nD Cert.KernelGmlpIdeal.τ).loc Cert.KernelGmlpIdeal.main_arg1)
      ∧ r.2.mem ((c.tc : Thread Cert.KernelGmlpIdeal.nD Cert.KernelGmlpIdeal.τ).loc Cert.KernelGmlpIdeal.main_arg2) = m ((c.tc : Thread Cert.KernelGmlpIdeal.nD Cert.KernelGmlpIdeal.τ).loc Cert.KernelGmlpIdeal.main_arg2)
      ∧ r.2.mem ((c.tc : Thread Cert.KernelGmlpIdeal.nD Cert.KernelGmlpIdeal.τ).loc Cert.KernelGmlpIdeal.main_arg3) = m ((c.tc : Thread Cert.KernelGmlpIdeal.nD Cert.KernelGmlpIdeal.τ).loc Cert.KernelGmlpIdeal.main_arg3)
      ∧ r.2.mem ((c.tc : Thread Cert.KernelGmlpIdeal.nD Cert.KernelGmlpIdeal.τ).loc Cert.KernelGmlpIdeal.main_arg4) = m ((c.tc : Thread Cert.KernelGmlpIdeal.nD Cert.KernelGmlpIdeal.τ).loc Cert.KernelGmlpIdeal.main_arg4))
      ∧ r.2.sem = fun _ => 0)

def quiescent_ReferenceGmlpIdeal [hReferenceGmlpIdeal : Cert.ReferenceGmlpIdeal.Facts] : Prop :=
  ∀ (m : (ℓ : Loc Cert.ReferenceGmlpIdeal.nD Cert.ReferenceGmlpIdeal.τ Cert.ReferenceGmlpIdeal.sig) → Buf (Elt Ideal) ℓ) (g : Dev Cert.ReferenceGmlpIdeal.nD → PrngReg), Pre_ReferenceGmlpIdeal m →
    θ_run (Cert.ReferenceGmlpIdeal.defs (F := Ideal)) (onTc (τ := Cert.ReferenceGmlpIdeal.τ) (Cert.ReferenceGmlpIdeal.main (F := Ideal))) ⟨m, fun _ => 0, g⟩ (fun r => (∀ c : Dev Cert.ReferenceGmlpIdeal.nD,
      r.2.mem ((c.tc : Thread Cert.ReferenceGmlpIdeal.nD Cert.ReferenceGmlpIdeal.τ).loc Cert.ReferenceGmlpIdeal.main_arg0) = m ((c.tc : Thread Cert.ReferenceGmlpIdeal.nD Cert.ReferenceGmlpIdeal.τ).loc Cert.ReferenceGmlpIdeal.main_arg0)
      ∧ r.2.mem ((c.tc : Thread Cert.ReferenceGmlpIdeal.nD Cert.ReferenceGmlpIdeal.τ).loc Cert.ReferenceGmlpIdeal.main_arg1) = m ((c.tc : Thread Cert.ReferenceGmlpIdeal.nD Cert.ReferenceGmlpIdeal.τ).loc Cert.ReferenceGmlpIdeal.main_arg1)
      ∧ r.2.mem ((c.tc : Thread Cert.ReferenceGmlpIdeal.nD Cert.ReferenceGmlpIdeal.τ).loc Cert.ReferenceGmlpIdeal.main_arg2) = m ((c.tc : Thread Cert.ReferenceGmlpIdeal.nD Cert.ReferenceGmlpIdeal.τ).loc Cert.ReferenceGmlpIdeal.main_arg2)
      ∧ r.2.mem ((c.tc : Thread Cert.ReferenceGmlpIdeal.nD Cert.ReferenceGmlpIdeal.τ).loc Cert.ReferenceGmlpIdeal.main_arg3) = m ((c.tc : Thread Cert.ReferenceGmlpIdeal.nD Cert.ReferenceGmlpIdeal.τ).loc Cert.ReferenceGmlpIdeal.main_arg3)
      ∧ r.2.mem ((c.tc : Thread Cert.ReferenceGmlpIdeal.nD Cert.ReferenceGmlpIdeal.τ).loc Cert.ReferenceGmlpIdeal.main_arg4) = m ((c.tc : Thread Cert.ReferenceGmlpIdeal.nD Cert.ReferenceGmlpIdeal.τ).loc Cert.ReferenceGmlpIdeal.main_arg4))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2)
      ∧ r.2.mem ((c.tc : Thread Cert.KernelPost.nD Cert.KernelPost.τ).loc Cert.KernelPost.main_arg3) = m ((c.tc : Thread Cert.KernelPost.nD Cert.KernelPost.τ).loc Cert.KernelPost.main_arg3)
      ∧ r.2.mem ((c.tc : Thread Cert.KernelPost.nD Cert.KernelPost.τ).loc Cert.KernelPost.main_arg4) = m ((c.tc : Thread Cert.KernelPost.nD Cert.KernelPost.τ).loc Cert.KernelPost.main_arg4)
      ∧ r.2.mem ((c.tc : Thread Cert.KernelPost.nD Cert.KernelPost.τ).loc Cert.KernelPost.main_arg5) = m ((c.tc : Thread Cert.KernelPost.nD Cert.KernelPost.τ).loc Cert.KernelPost.main_arg5))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
      ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
      ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3)
      ∧ r.2.mem ((c.tc : Thread Cert.ReferencePostIdeal.nD Cert.ReferencePostIdeal.τ).loc Cert.ReferencePostIdeal.main_arg4) = m ((c.tc : Thread Cert.ReferencePostIdeal.nD Cert.ReferencePostIdeal.τ).loc Cert.ReferencePostIdeal.main_arg4)
      ∧ r.2.mem ((c.tc : Thread Cert.ReferencePostIdeal.nD Cert.ReferencePostIdeal.τ).loc Cert.ReferencePostIdeal.main_arg5) = m ((c.tc : Thread Cert.ReferencePostIdeal.nD Cert.ReferencePostIdeal.τ).loc Cert.ReferencePostIdeal.main_arg5))
      ∧ r.2.sem = fun _ => 0)

def quiescent_KernelPrep [hKernelPrep : Cert.KernelPrep.Facts] : Prop :=
  ∀ (m : (ℓ : Loc Cert.KernelPrep.nD Cert.KernelPrep.τ Cert.KernelPrep.sig) → Buf (Elt Bits) ℓ) (g : Dev Cert.KernelPrep.nD → PrngReg), Pre_KernelPrep m →
    θ_run (Cert.KernelPrep.defs (F := Bits)) (onTc (τ := Cert.KernelPrep.τ) (Cert.KernelPrep.main (F := Bits))) ⟨m, fun _ => 0, g⟩ (fun r => (∀ c : Dev Cert.KernelPrep.nD,
      r.2.mem ((c.tc : Thread Cert.KernelPrep.nD Cert.KernelPrep.τ).loc Cert.KernelPrep.main_arg0) = m ((c.tc : Thread Cert.KernelPrep.nD Cert.KernelPrep.τ).loc Cert.KernelPrep.main_arg0)
      ∧ r.2.mem ((c.tc : Thread Cert.KernelPrep.nD Cert.KernelPrep.τ).loc Cert.KernelPrep.main_arg1) = m ((c.tc : Thread Cert.KernelPrep.nD Cert.KernelPrep.τ).loc Cert.KernelPrep.main_arg1)
      ∧ r.2.mem ((c.tc : Thread Cert.KernelPrep.nD Cert.KernelPrep.τ).loc Cert.KernelPrep.main_arg2) = m ((c.tc : Thread Cert.KernelPrep.nD Cert.KernelPrep.τ).loc Cert.KernelPrep.main_arg2)
      ∧ r.2.mem ((c.tc : Thread Cert.KernelPrep.nD Cert.KernelPrep.τ).loc Cert.KernelPrep.main_arg3) = m ((c.tc : Thread Cert.KernelPrep.nD Cert.KernelPrep.τ).loc Cert.KernelPrep.main_arg3)
      ∧ r.2.mem ((c.tc : Thread Cert.KernelPrep.nD Cert.KernelPrep.τ).loc Cert.KernelPrep.main_arg4) = m ((c.tc : Thread Cert.KernelPrep.nD Cert.KernelPrep.τ).loc Cert.KernelPrep.main_arg4)
      ∧ r.2.mem ((c.tc : Thread Cert.KernelPrep.nD Cert.KernelPrep.τ).loc Cert.KernelPrep.main_arg5) = m ((c.tc : Thread Cert.KernelPrep.nD Cert.KernelPrep.τ).loc Cert.KernelPrep.main_arg5)
      ∧ r.2.mem ((c.tc : Thread Cert.KernelPrep.nD Cert.KernelPrep.τ).loc Cert.KernelPrep.main_arg6) = m ((c.tc : Thread Cert.KernelPrep.nD Cert.KernelPrep.τ).loc Cert.KernelPrep.main_arg6)
      ∧ r.2.mem ((c.tc : Thread Cert.KernelPrep.nD Cert.KernelPrep.τ).loc Cert.KernelPrep.main_arg7) = m ((c.tc : Thread Cert.KernelPrep.nD Cert.KernelPrep.τ).loc Cert.KernelPrep.main_arg7)
      ∧ r.2.mem ((c.tc : Thread Cert.KernelPrep.nD Cert.KernelPrep.τ).loc Cert.KernelPrep.main_arg8) = m ((c.tc : Thread Cert.KernelPrep.nD Cert.KernelPrep.τ).loc Cert.KernelPrep.main_arg8)
      ∧ r.2.mem ((c.tc : Thread Cert.KernelPrep.nD Cert.KernelPrep.τ).loc Cert.KernelPrep.main_arg9) = m ((c.tc : Thread Cert.KernelPrep.nD Cert.KernelPrep.τ).loc Cert.KernelPrep.main_arg9)
      ∧ r.2.mem ((c.tc : Thread Cert.KernelPrep.nD Cert.KernelPrep.τ).loc Cert.KernelPrep.main_arg10) = m ((c.tc : Thread Cert.KernelPrep.nD Cert.KernelPrep.τ).loc Cert.KernelPrep.main_arg10))
      ∧ r.2.sem = fun _ => 0)

def quiescent_KernelPrepIdeal [hKernelPrepIdeal : Cert.KernelPrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
      ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
      ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3)
      ∧ r.2.mem ((c.tc : Thread Cert.KernelPrepIdeal.nD Cert.KernelPrepIdeal.τ).loc Cert.KernelPrepIdeal.main_arg4) = m ((c.tc : Thread Cert.KernelPrepIdeal.nD Cert.KernelPrepIdeal.τ).loc Cert.KernelPrepIdeal.main_arg4)
      ∧ r.2.mem ((c.tc : Thread Cert.KernelPrepIdeal.nD Cert.KernelPrepIdeal.τ).loc Cert.KernelPrepIdeal.main_arg5) = m ((c.tc : Thread Cert.KernelPrepIdeal.nD Cert.KernelPrepIdeal.τ).loc Cert.KernelPrepIdeal.main_arg5)
      ∧ r.2.mem ((c.tc : Thread Cert.KernelPrepIdeal.nD Cert.KernelPrepIdeal.τ).loc Cert.KernelPrepIdeal.main_arg6) = m ((c.tc : Thread Cert.KernelPrepIdeal.nD Cert.KernelPrepIdeal.τ).loc Cert.KernelPrepIdeal.main_arg6)
      ∧ r.2.mem ((c.tc : Thread Cert.KernelPrepIdeal.nD Cert.KernelPrepIdeal.τ).loc Cert.KernelPrepIdeal.main_arg7) = m ((c.tc : Thread Cert.KernelPrepIdeal.nD Cert.KernelPrepIdeal.τ).loc Cert.KernelPrepIdeal.main_arg7)
      ∧ r.2.mem ((c.tc : Thread Cert.KernelPrepIdeal.nD Cert.KernelPrepIdeal.τ).loc Cert.KernelPrepIdeal.main_arg8) = m ((c.tc : Thread Cert.KernelPrepIdeal.nD Cert.KernelPrepIdeal.τ).loc Cert.KernelPrepIdeal.main_arg8)
      ∧ r.2.mem ((c.tc : Thread Cert.KernelPrepIdeal.nD Cert.KernelPrepIdeal.τ).loc Cert.KernelPrepIdeal.main_arg9) = m ((c.tc : Thread Cert.KernelPrepIdeal.nD Cert.KernelPrepIdeal.τ).loc Cert.KernelPrepIdeal.main_arg9)
      ∧ r.2.mem ((c.tc : Thread Cert.KernelPrepIdeal.nD Cert.KernelPrepIdeal.τ).loc Cert.KernelPrepIdeal.main_arg10) = m ((c.tc : Thread Cert.KernelPrepIdeal.nD Cert.KernelPrepIdeal.τ).loc Cert.KernelPrepIdeal.main_arg10))
      ∧ r.2.sem = fun _ => 0)

def quiescent_KernelPrepIdeal_pre_prep_finite [hKernelPrepIdeal : Cert.KernelPrepIdeal.Facts] [hPre_prep_finite : Cert.Pre_prep_finite.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal_prep_finite m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
      ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
      ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3)
      ∧ r.2.mem ((c.tc : Thread Cert.KernelPrepIdeal.nD Cert.KernelPrepIdeal.τ).loc Cert.KernelPrepIdeal.main_arg4) = m ((c.tc : Thread Cert.KernelPrepIdeal.nD Cert.KernelPrepIdeal.τ).loc Cert.KernelPrepIdeal.main_arg4)
      ∧ r.2.mem ((c.tc : Thread Cert.KernelPrepIdeal.nD Cert.KernelPrepIdeal.τ).loc Cert.KernelPrepIdeal.main_arg5) = m ((c.tc : Thread Cert.KernelPrepIdeal.nD Cert.KernelPrepIdeal.τ).loc Cert.KernelPrepIdeal.main_arg5)
      ∧ r.2.mem ((c.tc : Thread Cert.KernelPrepIdeal.nD Cert.KernelPrepIdeal.τ).loc Cert.KernelPrepIdeal.main_arg6) = m ((c.tc : Thread Cert.KernelPrepIdeal.nD Cert.KernelPrepIdeal.τ).loc Cert.KernelPrepIdeal.main_arg6)
      ∧ r.2.mem ((c.tc : Thread Cert.KernelPrepIdeal.nD Cert.KernelPrepIdeal.τ).loc Cert.KernelPrepIdeal.main_arg7) = m ((c.tc : Thread Cert.KernelPrepIdeal.nD Cert.KernelPrepIdeal.τ).loc Cert.KernelPrepIdeal.main_arg7)
      ∧ r.2.mem ((c.tc : Thread Cert.KernelPrepIdeal.nD Cert.KernelPrepIdeal.τ).loc Cert.KernelPrepIdeal.main_arg8) = m ((c.tc : Thread Cert.KernelPrepIdeal.nD Cert.KernelPrepIdeal.τ).loc Cert.KernelPrepIdeal.main_arg8)
      ∧ r.2.mem ((c.tc : Thread Cert.KernelPrepIdeal.nD Cert.KernelPrepIdeal.τ).loc Cert.KernelPrepIdeal.main_arg9) = m ((c.tc : Thread Cert.KernelPrepIdeal.nD Cert.KernelPrepIdeal.τ).loc Cert.KernelPrepIdeal.main_arg9)
      ∧ r.2.mem ((c.tc : Thread Cert.KernelPrepIdeal.nD Cert.KernelPrepIdeal.τ).loc Cert.KernelPrepIdeal.main_arg10) = m ((c.tc : Thread Cert.KernelPrepIdeal.nD Cert.KernelPrepIdeal.τ).loc Cert.KernelPrepIdeal.main_arg10))
      ∧ r.2.sem = fun _ => 0)

def quiescent_ReferencePrepIdeal [hReferencePrepIdeal : Cert.ReferencePrepIdeal.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1)
      ∧ r.2.mem ((c.tc : Thread Cert.ReferencePrepIdeal.nD Cert.ReferencePrepIdeal.τ).loc Cert.ReferencePrepIdeal.main_arg2) = m ((c.tc : Thread Cert.ReferencePrepIdeal.nD Cert.ReferencePrepIdeal.τ).loc Cert.ReferencePrepIdeal.main_arg2)
      ∧ r.2.mem ((c.tc : Thread Cert.ReferencePrepIdeal.nD Cert.ReferencePrepIdeal.τ).loc Cert.ReferencePrepIdeal.main_arg3) = m ((c.tc : Thread Cert.ReferencePrepIdeal.nD Cert.ReferencePrepIdeal.τ).loc Cert.ReferencePrepIdeal.main_arg3)
      ∧ r.2.mem ((c.tc : Thread Cert.ReferencePrepIdeal.nD Cert.ReferencePrepIdeal.τ).loc Cert.ReferencePrepIdeal.main_arg4) = m ((c.tc : Thread Cert.ReferencePrepIdeal.nD Cert.ReferencePrepIdeal.τ).loc Cert.ReferencePrepIdeal.main_arg4)
      ∧ r.2.mem ((c.tc : Thread Cert.ReferencePrepIdeal.nD Cert.ReferencePrepIdeal.τ).loc Cert.ReferencePrepIdeal.main_arg5) = m ((c.tc : Thread Cert.ReferencePrepIdeal.nD Cert.ReferencePrepIdeal.τ).loc Cert.ReferencePrepIdeal.main_arg5)
      ∧ r.2.mem ((c.tc : Thread Cert.ReferencePrepIdeal.nD Cert.ReferencePrepIdeal.τ).loc Cert.ReferencePrepIdeal.main_arg6) = m ((c.tc : Thread Cert.ReferencePrepIdeal.nD Cert.ReferencePrepIdeal.τ).loc Cert.ReferencePrepIdeal.main_arg6)
      ∧ r.2.mem ((c.tc : Thread Cert.ReferencePrepIdeal.nD Cert.ReferencePrepIdeal.τ).loc Cert.ReferencePrepIdeal.main_arg7) = m ((c.tc : Thread Cert.ReferencePrepIdeal.nD Cert.ReferencePrepIdeal.τ).loc Cert.ReferencePrepIdeal.main_arg7)
      ∧ r.2.mem ((c.tc : Thread Cert.ReferencePrepIdeal.nD Cert.ReferencePrepIdeal.τ).loc Cert.ReferencePrepIdeal.main_arg8) = m ((c.tc : Thread Cert.ReferencePrepIdeal.nD Cert.ReferencePrepIdeal.τ).loc Cert.ReferencePrepIdeal.main_arg8)
      ∧ r.2.mem ((c.tc : Thread Cert.ReferencePrepIdeal.nD Cert.ReferencePrepIdeal.τ).loc Cert.ReferencePrepIdeal.main_arg9) = m ((c.tc : Thread Cert.ReferencePrepIdeal.nD Cert.ReferencePrepIdeal.τ).loc Cert.ReferencePrepIdeal.main_arg9)
      ∧ r.2.mem ((c.tc : Thread Cert.ReferencePrepIdeal.nD Cert.ReferencePrepIdeal.τ).loc Cert.ReferencePrepIdeal.main_arg10) = m ((c.tc : Thread Cert.ReferencePrepIdeal.nD Cert.ReferencePrepIdeal.τ).loc Cert.ReferencePrepIdeal.main_arg10))
      ∧ r.2.sem = fun _ => 0)

def quiescent_ReferencePrepIdeal_pre_prep_finite [hReferencePrepIdeal : Cert.ReferencePrepIdeal.Facts] [hPre_prep_finite : Cert.Pre_prep_finite.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal_prep_finite m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1)
      ∧ r.2.mem ((c.tc : Thread Cert.ReferencePrepIdeal.nD Cert.ReferencePrepIdeal.τ).loc Cert.ReferencePrepIdeal.main_arg2) = m ((c.tc : Thread Cert.ReferencePrepIdeal.nD Cert.ReferencePrepIdeal.τ).loc Cert.ReferencePrepIdeal.main_arg2)
      ∧ r.2.mem ((c.tc : Thread Cert.ReferencePrepIdeal.nD Cert.ReferencePrepIdeal.τ).loc Cert.ReferencePrepIdeal.main_arg3) = m ((c.tc : Thread Cert.ReferencePrepIdeal.nD Cert.ReferencePrepIdeal.τ).loc Cert.ReferencePrepIdeal.main_arg3)
      ∧ r.2.mem ((c.tc : Thread Cert.ReferencePrepIdeal.nD Cert.ReferencePrepIdeal.τ).loc Cert.ReferencePrepIdeal.main_arg4) = m ((c.tc : Thread Cert.ReferencePrepIdeal.nD Cert.ReferencePrepIdeal.τ).loc Cert.ReferencePrepIdeal.main_arg4)
      ∧ r.2.mem ((c.tc : Thread Cert.ReferencePrepIdeal.nD Cert.ReferencePrepIdeal.τ).loc Cert.ReferencePrepIdeal.main_arg5) = m ((c.tc : Thread Cert.ReferencePrepIdeal.nD Cert.ReferencePrepIdeal.τ).loc Cert.ReferencePrepIdeal.main_arg5)
      ∧ r.2.mem ((c.tc : Thread Cert.ReferencePrepIdeal.nD Cert.ReferencePrepIdeal.τ).loc Cert.ReferencePrepIdeal.main_arg6) = m ((c.tc : Thread Cert.ReferencePrepIdeal.nD Cert.ReferencePrepIdeal.τ).loc Cert.ReferencePrepIdeal.main_arg6)
      ∧ r.2.mem ((c.tc : Thread Cert.ReferencePrepIdeal.nD Cert.ReferencePrepIdeal.τ).loc Cert.ReferencePrepIdeal.main_arg7) = m ((c.tc : Thread Cert.ReferencePrepIdeal.nD Cert.ReferencePrepIdeal.τ).loc Cert.ReferencePrepIdeal.main_arg7)
      ∧ r.2.mem ((c.tc : Thread Cert.ReferencePrepIdeal.nD Cert.ReferencePrepIdeal.τ).loc Cert.ReferencePrepIdeal.main_arg8) = m ((c.tc : Thread Cert.ReferencePrepIdeal.nD Cert.ReferencePrepIdeal.τ).loc Cert.ReferencePrepIdeal.main_arg8)
      ∧ r.2.mem ((c.tc : Thread Cert.ReferencePrepIdeal.nD Cert.ReferencePrepIdeal.τ).loc Cert.ReferencePrepIdeal.main_arg9) = m ((c.tc : Thread Cert.ReferencePrepIdeal.nD Cert.ReferencePrepIdeal.τ).loc Cert.ReferencePrepIdeal.main_arg9)
      ∧ r.2.mem ((c.tc : Thread Cert.ReferencePrepIdeal.nD Cert.ReferencePrepIdeal.τ).loc Cert.ReferencePrepIdeal.main_arg10) = m ((c.tc : Thread Cert.ReferencePrepIdeal.nD Cert.ReferencePrepIdeal.τ).loc Cert.ReferencePrepIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)) →
    ∃ (v0 : (c : Dev Cert.KernelFfnIdeal.nD) → Buf (Elt Ideal) ((c.tc : Thread Cert.KernelFfnIdeal.nD Cert.KernelFfnIdeal.τ).loc Cert.KernelFfnIdeal.main_v10)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v10) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v61) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6))

def preserves_KernelZa_KernelZaIdeal : Prop :=
  True

def algebraic_KernelZaIdeal_ReferenceZaIdeal [hKernelZaIdeal : Cert.KernelZaIdeal.Facts] [hReferenceZaIdeal : Cert.ReferenceZaIdeal.Facts] : Prop :=
  ∀ (m : (ℓ : Loc Cert.KernelZaIdeal.nD Cert.KernelZaIdeal.τ Cert.KernelZaIdeal.sig) → Buf (Elt Ideal) ℓ) (g : Dev Cert.KernelZaIdeal.nD → PrngReg)
    (m' : (ℓ : Loc Cert.ReferenceZaIdeal.nD Cert.ReferenceZaIdeal.τ Cert.ReferenceZaIdeal.sig) → Buf (Elt Ideal) ℓ) (g' : Dev Cert.ReferenceZaIdeal.nD → PrngReg), Pre_KernelZaIdeal m →
    (∀ c : Dev Cert.KernelZaIdeal.nD,
      m' ((c.tc : Thread Cert.ReferenceZaIdeal.nD Cert.ReferenceZaIdeal.τ).loc Cert.ReferenceZaIdeal.main_arg0) = m ((c.tc : Thread Cert.KernelZaIdeal.nD Cert.KernelZaIdeal.τ).loc Cert.KernelZaIdeal.main_arg0)
      ∧ m' ((c.tc : Thread Cert.ReferenceZaIdeal.nD Cert.ReferenceZaIdeal.τ).loc Cert.ReferenceZaIdeal.main_arg1) = m ((c.tc : Thread Cert.KernelZaIdeal.nD Cert.KernelZaIdeal.τ).loc Cert.KernelZaIdeal.main_arg1)) →
    ∃ (v0 : (c : Dev Cert.KernelZaIdeal.nD) → Buf (Elt Ideal) ((c.tc : Thread Cert.KernelZaIdeal.nD Cert.KernelZaIdeal.τ).loc Cert.KernelZaIdeal.main_v2)),
      θ_run (Cert.KernelZaIdeal.defs (F := Ideal)) (onTc (τ := Cert.KernelZaIdeal.τ) (Cert.KernelZaIdeal.main (F := Ideal))) ⟨m, fun _ => 0, g⟩ (fun r => ∀ c : Dev Cert.KernelZaIdeal.nD,
          r.2.mem ((c.tc : Thread Cert.KernelZaIdeal.nD Cert.KernelZaIdeal.τ).loc Cert.KernelZaIdeal.main_v2) = v0 c
          ∧ r.2.mem ((c.tc : Thread Cert.KernelZaIdeal.nD Cert.KernelZaIdeal.τ).loc Cert.KernelZaIdeal.main_arg0) = m ((c.tc : Thread Cert.KernelZaIdeal.nD Cert.KernelZaIdeal.τ).loc Cert.KernelZaIdeal.main_arg0)
          ∧ r.2.mem ((c.tc : Thread Cert.KernelZaIdeal.nD Cert.KernelZaIdeal.τ).loc Cert.KernelZaIdeal.main_arg1) = m ((c.tc : Thread Cert.KernelZaIdeal.nD Cert.KernelZaIdeal.τ).loc Cert.KernelZaIdeal.main_arg1))
      ∧ θ_run (Cert.ReferenceZaIdeal.defs (F := Ideal)) (onTc (τ := Cert.ReferenceZaIdeal.τ) (Cert.ReferenceZaIdeal.main (F := Ideal))) ⟨m', fun _ => 0, g'⟩ (fun r => ∀ c : Dev Cert.ReferenceZaIdeal.nD,
          r.2.mem ((c.tc : Thread Cert.ReferenceZaIdeal.nD Cert.ReferenceZaIdeal.τ).loc Cert.ReferenceZaIdeal.main_v3) = v0 c
          ∧ r.2.mem ((c.tc : Thread Cert.ReferenceZaIdeal.nD Cert.ReferenceZaIdeal.τ).loc Cert.ReferenceZaIdeal.main_arg0) = m' ((c.tc : Thread Cert.ReferenceZaIdeal.nD Cert.ReferenceZaIdeal.τ).loc Cert.ReferenceZaIdeal.main_arg0)
          ∧ r.2.mem ((c.tc : Thread Cert.ReferenceZaIdeal.nD Cert.ReferenceZaIdeal.τ).loc Cert.ReferenceZaIdeal.main_arg1) = m' ((c.tc : Thread Cert.ReferenceZaIdeal.nD Cert.ReferenceZaIdeal.τ).loc Cert.ReferenceZaIdeal.main_arg1))

def preserves_KernelZb_KernelZbIdeal : Prop :=
  True

def algebraic_KernelZbIdeal_ReferenceZbIdeal [hKernelZbIdeal : Cert.KernelZbIdeal.Facts] [hReferenceZbIdeal : Cert.ReferenceZbIdeal.Facts] : Prop :=
  ∀ (m : (ℓ : Loc Cert.KernelZbIdeal.nD Cert.KernelZbIdeal.τ Cert.KernelZbIdeal.sig) → Buf (Elt Ideal) ℓ) (g : Dev Cert.KernelZbIdeal.nD → PrngReg)
    (m' : (ℓ : Loc Cert.ReferenceZbIdeal.nD Cert.ReferenceZbIdeal.τ Cert.ReferenceZbIdeal.sig) → Buf (Elt Ideal) ℓ) (g' : Dev Cert.ReferenceZbIdeal.nD → PrngReg), Pre_KernelZbIdeal m →
    (∀ c : Dev Cert.KernelZbIdeal.nD,
      m' ((c.tc : Thread Cert.ReferenceZbIdeal.nD Cert.ReferenceZbIdeal.τ).loc Cert.ReferenceZbIdeal.main_arg0) = m ((c.tc : Thread Cert.KernelZbIdeal.nD Cert.KernelZbIdeal.τ).loc Cert.KernelZbIdeal.main_arg0)
      ∧ m' ((c.tc : Thread Cert.ReferenceZbIdeal.nD Cert.ReferenceZbIdeal.τ).loc Cert.ReferenceZbIdeal.main_arg1) = m ((c.tc : Thread Cert.KernelZbIdeal.nD Cert.KernelZbIdeal.τ).loc Cert.KernelZbIdeal.main_arg1)) →
    ∃ (v0 : (c : Dev Cert.KernelZbIdeal.nD) → Buf (Elt Ideal) ((c.tc : Thread Cert.KernelZbIdeal.nD Cert.KernelZbIdeal.τ).loc Cert.KernelZbIdeal.main_v2)),
      θ_run (Cert.KernelZbIdeal.defs (F := Ideal)) (onTc (τ := Cert.KernelZbIdeal.τ) (Cert.KernelZbIdeal.main (F := Ideal))) ⟨m, fun _ => 0, g⟩ (fun r => ∀ c : Dev Cert.KernelZbIdeal.nD,
          r.2.mem ((c.tc : Thread Cert.KernelZbIdeal.nD Cert.KernelZbIdeal.τ).loc Cert.KernelZbIdeal.main_v2) = v0 c
          ∧ r.2.mem ((c.tc : Thread Cert.KernelZbIdeal.nD Cert.KernelZbIdeal.τ).loc Cert.KernelZbIdeal.main_arg0) = m ((c.tc : Thread Cert.KernelZbIdeal.nD Cert.KernelZbIdeal.τ).loc Cert.KernelZbIdeal.main_arg0)
          ∧ r.2.mem ((c.tc : Thread Cert.KernelZbIdeal.nD Cert.KernelZbIdeal.τ).loc Cert.KernelZbIdeal.main_arg1) = m ((c.tc : Thread Cert.KernelZbIdeal.nD Cert.KernelZbIdeal.τ).loc Cert.KernelZbIdeal.main_arg1))
      ∧ θ_run (Cert.ReferenceZbIdeal.defs (F := Ideal)) (onTc (τ := Cert.ReferenceZbIdeal.τ) (Cert.ReferenceZbIdeal.main (F := Ideal))) ⟨m', fun _ => 0, g'⟩ (fun r => ∀ c : Dev Cert.ReferenceZbIdeal.nD,
          r.2.mem ((c.tc : Thread Cert.ReferenceZbIdeal.nD Cert.ReferenceZbIdeal.τ).loc Cert.ReferenceZbIdeal.main_v3) = v0 c
          ∧ r.2.mem ((c.tc : Thread Cert.ReferenceZbIdeal.nD Cert.ReferenceZbIdeal.τ).loc Cert.ReferenceZbIdeal.main_arg0) = m' ((c.tc : Thread Cert.ReferenceZbIdeal.nD Cert.ReferenceZbIdeal.τ).loc Cert.ReferenceZbIdeal.main_arg0)
          ∧ r.2.mem ((c.tc : Thread Cert.ReferenceZbIdeal.nD Cert.ReferenceZbIdeal.τ).loc Cert.ReferenceZbIdeal.main_arg1) = m' ((c.tc : Thread Cert.ReferenceZbIdeal.nD Cert.ReferenceZbIdeal.τ).loc Cert.ReferenceZbIdeal.main_arg1))

def preserves_KernelZl_KernelZlIdeal : Prop :=
  True

def algebraic_KernelZlIdeal_ReferenceZlIdeal [hKernelZlIdeal : Cert.KernelZlIdeal.Facts] [hReferenceZlIdeal : Cert.ReferenceZlIdeal.Facts] : Prop :=
  ∀ (m : (ℓ : Loc Cert.KernelZlIdeal.nD Cert.KernelZlIdeal.τ Cert.KernelZlIdeal.sig) → Buf (Elt Ideal) ℓ) (g : Dev Cert.KernelZlIdeal.nD → PrngReg)
    (m' : (ℓ : Loc Cert.ReferenceZlIdeal.nD Cert.ReferenceZlIdeal.τ Cert.ReferenceZlIdeal.sig) → Buf (Elt Ideal) ℓ) (g' : Dev Cert.ReferenceZlIdeal.nD → PrngReg), Pre_KernelZlIdeal m →
    (∀ c : Dev Cert.KernelZlIdeal.nD,
      m' ((c.tc : Thread Cert.ReferenceZlIdeal.nD Cert.ReferenceZlIdeal.τ).loc Cert.ReferenceZlIdeal.main_arg0) = m ((c.tc : Thread Cert.KernelZlIdeal.nD Cert.KernelZlIdeal.τ).loc Cert.KernelZlIdeal.main_arg0)
      ∧ m' ((c.tc : Thread Cert.ReferenceZlIdeal.nD Cert.ReferenceZlIdeal.τ).loc Cert.ReferenceZlIdeal.main_arg1) = m ((c.tc : Thread Cert.KernelZlIdeal.nD Cert.KernelZlIdeal.τ).loc Cert.KernelZlIdeal.main_arg1)) →
    ∃ (v0 : (c : Dev Cert.KernelZlIdeal.nD) → Buf (Elt Ideal) ((c.tc : Thread Cert.KernelZlIdeal.nD Cert.KernelZlIdeal.τ).loc Cert.KernelZlIdeal.main_v3)),
      θ_run (Cert.KernelZlIdeal.defs (F := Ideal)) (onTc (τ := Cert.KernelZlIdeal.τ) (Cert.KernelZlIdeal.main (F := Ideal))) ⟨m, fun _ => 0, g⟩ (fun r => ∀ c : Dev Cert.KernelZlIdeal.nD,
          r.2.mem ((c.tc : Thread Cert.KernelZlIdeal.nD Cert.KernelZlIdeal.τ).loc Cert.KernelZlIdeal.main_v3) = v0 c
          ∧ r.2.mem ((c.tc : Thread Cert.KernelZlIdeal.nD Cert.KernelZlIdeal.τ).loc Cert.KernelZlIdeal.main_arg0) = m ((c.tc : Thread Cert.KernelZlIdeal.nD Cert.KernelZlIdeal.τ).loc Cert.KernelZlIdeal.main_arg0)
          ∧ r.2.mem ((c.tc : Thread Cert.KernelZlIdeal.nD Cert.KernelZlIdeal.τ).loc Cert.KernelZlIdeal.main_arg1) = m ((c.tc : Thread Cert.KernelZlIdeal.nD Cert.KernelZlIdeal.τ).loc Cert.KernelZlIdeal.main_arg1))
      ∧ θ_run (Cert.ReferenceZlIdeal.defs (F := Ideal)) (onTc (τ := Cert.ReferenceZlIdeal.τ) (Cert.ReferenceZlIdeal.main (F := Ideal))) ⟨m', fun _ => 0, g'⟩ (fun r => ∀ c : Dev Cert.ReferenceZlIdeal.nD,
          r.2.mem ((c.tc : Thread Cert.ReferenceZlIdeal.nD Cert.ReferenceZlIdeal.τ).loc Cert.ReferenceZlIdeal.main_v3) = v0 c
          ∧ r.2.mem ((c.tc : Thread Cert.ReferenceZlIdeal.nD Cert.ReferenceZlIdeal.τ).loc Cert.ReferenceZlIdeal.main_arg0) = m' ((c.tc : Thread Cert.ReferenceZlIdeal.nD Cert.ReferenceZlIdeal.τ).loc Cert.ReferenceZlIdeal.main_arg0)
          ∧ r.2.mem ((c.tc : Thread Cert.ReferenceZlIdeal.nD Cert.ReferenceZlIdeal.τ).loc Cert.ReferenceZlIdeal.main_arg1) = m' ((c.tc : Thread Cert.ReferenceZlIdeal.nD Cert.ReferenceZlIdeal.τ).loc Cert.ReferenceZlIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)) →
    ∃ (v0 : (c : Dev Cert.KernelQIdeal.nD) → Buf (Elt Ideal) ((c.tc : Thread Cert.KernelQIdeal.nD Cert.KernelQIdeal.τ).loc Cert.KernelQIdeal.main_v2)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v2) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v3) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)) →
    ∃ (v0 : (c : Dev Cert.KernelKvIdeal.nD) → Buf (Elt Ideal) ((c.tc : Thread Cert.KernelKvIdeal.nD Cert.KernelKvIdeal.τ).loc Cert.KernelKvIdeal.main_v2)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v2) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v3) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)) →
    ∃ (v0 : (c : Dev Cert.KernelOIdeal.nD) → Buf (Elt Ideal) ((c.tc : Thread Cert.KernelOIdeal.nD Cert.KernelOIdeal.τ).loc Cert.KernelOIdeal.main_v2)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v2) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v3) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2))

def preserves_KernelFfnSample_KernelFfnSampleIdeal : Prop :=
  True

def algebraic_KernelFfnSampleIdeal_ReferenceFfnSampleIdeal [hKernelFfnSampleIdeal : Cert.KernelFfnSampleIdeal.Facts] [hReferenceFfnSampleIdeal : Cert.ReferenceFfnSampleIdeal.Facts] : Prop :=
  ∀ (m : (ℓ : Loc Cert.KernelFfnSampleIdeal.nD Cert.KernelFfnSampleIdeal.τ Cert.KernelFfnSampleIdeal.sig) → Buf (Elt Ideal) ℓ) (g : Dev Cert.KernelFfnSampleIdeal.nD → PrngReg)
    (m' : (ℓ : Loc Cert.ReferenceFfnSampleIdeal.nD Cert.ReferenceFfnSampleIdeal.τ Cert.ReferenceFfnSampleIdeal.sig) → Buf (Elt Ideal) ℓ) (g' : Dev Cert.ReferenceFfnSampleIdeal.nD → PrngReg), Pre_KernelFfnSampleIdeal m →
    (∀ c : Dev Cert.KernelFfnSampleIdeal.nD,
      m' ((c.tc : Thread Cert.ReferenceFfnSampleIdeal.nD Cert.ReferenceFfnSampleIdeal.τ).loc Cert.ReferenceFfnSampleIdeal.main_arg0) = m ((c.tc : Thread Cert.KernelFfnSampleIdeal.nD Cert.KernelFfnSampleIdeal.τ).loc Cert.KernelFfnSampleIdeal.main_arg0)
      ∧ m' ((c.tc : Thread Cert.ReferenceFfnSampleIdeal.nD Cert.ReferenceFfnSampleIdeal.τ).loc Cert.ReferenceFfnSampleIdeal.main_arg1) = m ((c.tc : Thread Cert.KernelFfnSampleIdeal.nD Cert.KernelFfnSampleIdeal.τ).loc Cert.KernelFfnSampleIdeal.main_arg1)
      ∧ m' ((c.tc : Thread Cert.ReferenceFfnSampleIdeal.nD Cert.ReferenceFfnSampleIdeal.τ).loc Cert.ReferenceFfnSampleIdeal.main_arg2) = m ((c.tc : Thread Cert.KernelFfnSampleIdeal.nD Cert.KernelFfnSampleIdeal.τ).loc Cert.KernelFfnSampleIdeal.main_arg2)
      ∧ m' ((c.tc : Thread Cert.ReferenceFfnSampleIdeal.nD Cert.ReferenceFfnSampleIdeal.τ).loc Cert.ReferenceFfnSampleIdeal.main_arg3) = m ((c.tc : Thread Cert.KernelFfnSampleIdeal.nD Cert.KernelFfnSampleIdeal.τ).loc Cert.KernelFfnSampleIdeal.main_arg3)
      ∧ m' ((c.tc : Thread Cert.ReferenceFfnSampleIdeal.nD Cert.ReferenceFfnSampleIdeal.τ).loc Cert.ReferenceFfnSampleIdeal.main_arg4) = m ((c.tc : Thread Cert.KernelFfnSampleIdeal.nD Cert.KernelFfnSampleIdeal.τ).loc Cert.KernelFfnSampleIdeal.main_arg4)
      ∧ m' ((c.tc : Thread Cert.ReferenceFfnSampleIdeal.nD Cert.ReferenceFfnSampleIdeal.τ).loc Cert.ReferenceFfnSampleIdeal.main_arg5) = m ((c.tc : Thread Cert.KernelFfnSampleIdeal.nD Cert.KernelFfnSampleIdeal.τ).loc Cert.KernelFfnSampleIdeal.main_arg5)
      ∧ m' ((c.tc : Thread Cert.ReferenceFfnSampleIdeal.nD Cert.ReferenceFfnSampleIdeal.τ).loc Cert.ReferenceFfnSampleIdeal.main_arg6) = m ((c.tc : Thread Cert.KernelFfnSampleIdeal.nD Cert.KernelFfnSampleIdeal.τ).loc Cert.KernelFfnSampleIdeal.main_arg6)) →
    ∃ (v0 : (c : Dev Cert.KernelFfnSampleIdeal.nD) → Buf (Elt Ideal) ((c.tc : Thread Cert.KernelFfnSampleIdeal.nD Cert.KernelFfnSampleIdeal.τ).loc Cert.KernelFfnSampleIdeal.main_v10)),
      θ_run (Cert.KernelFfnSampleIdeal.defs (F := Ideal)) (onTc (τ := Cert.KernelFfnSampleIdeal.τ) (Cert.KernelFfnSampleIdeal.main (F := Ideal))) ⟨m, fun _ => 0, g⟩ (fun r => ∀ c : Dev Cert.KernelFfnSampleIdeal.nD,
          r.2.mem ((c.tc : Thread Cert.KernelFfnSampleIdeal.nD Cert.KernelFfnSampleIdeal.τ).loc Cert.KernelFfnSampleIdeal.main_v10) = v0 c
          ∧ r.2.mem ((c.tc : Thread Cert.KernelFfnSampleIdeal.nD Cert.KernelFfnSampleIdeal.τ).loc Cert.KernelFfnSampleIdeal.main_arg0) = m ((c.tc : Thread Cert.KernelFfnSampleIdeal.nD Cert.KernelFfnSampleIdeal.τ).loc Cert.KernelFfnSampleIdeal.main_arg0)
          ∧ r.2.mem ((c.tc : Thread Cert.KernelFfnSampleIdeal.nD Cert.KernelFfnSampleIdeal.τ).loc Cert.KernelFfnSampleIdeal.main_arg1) = m ((c.tc : Thread Cert.KernelFfnSampleIdeal.nD Cert.KernelFfnSampleIdeal.τ).loc Cert.KernelFfnSampleIdeal.main_arg1)
          ∧ r.2.mem ((c.tc : Thread Cert.KernelFfnSampleIdeal.nD Cert.KernelFfnSampleIdeal.τ).loc Cert.KernelFfnSampleIdeal.main_arg2) = m ((c.tc : Thread Cert.KernelFfnSampleIdeal.nD Cert.KernelFfnSampleIdeal.τ).loc Cert.KernelFfnSampleIdeal.main_arg2)
          ∧ r.2.mem ((c.tc : Thread Cert.KernelFfnSampleIdeal.nD Cert.KernelFfnSampleIdeal.τ).loc Cert.KernelFfnSampleIdeal.main_arg3) = m ((c.tc : Thread Cert.KernelFfnSampleIdeal.nD Cert.KernelFfnSampleIdeal.τ).loc Cert.KernelFfnSampleIdeal.main_arg3)
          ∧ r.2.mem ((c.tc : Thread Cert.KernelFfnSampleIdeal.nD Cert.KernelFfnSampleIdeal.τ).loc Cert.KernelFfnSampleIdeal.main_arg4) = m ((c.tc : Thread Cert.KernelFfnSampleIdeal.nD Cert.KernelFfnSampleIdeal.τ).loc Cert.KernelFfnSampleIdeal.main_arg4)
          ∧ r.2.mem ((c.tc : Thread Cert.KernelFfnSampleIdeal.nD Cert.KernelFfnSampleIdeal.τ).loc Cert.KernelFfnSampleIdeal.main_arg5) = m ((c.tc : Thread Cert.KernelFfnSampleIdeal.nD Cert.KernelFfnSampleIdeal.τ).loc Cert.KernelFfnSampleIdeal.main_arg5)
          ∧ r.2.mem ((c.tc : Thread Cert.KernelFfnSampleIdeal.nD Cert.KernelFfnSampleIdeal.τ).loc Cert.KernelFfnSampleIdeal.main_arg6) = m ((c.tc : Thread Cert.KernelFfnSampleIdeal.nD Cert.KernelFfnSampleIdeal.τ).loc Cert.KernelFfnSampleIdeal.main_arg6))
      ∧ θ_run (Cert.ReferenceFfnSampleIdeal.defs (F := Ideal)) (onTc (τ := Cert.ReferenceFfnSampleIdeal.τ) (Cert.ReferenceFfnSampleIdeal.main (F := Ideal))) ⟨m', fun _ => 0, g'⟩ (fun r => ∀ c : Dev Cert.ReferenceFfnSampleIdeal.nD,
          r.2.mem ((c.tc : Thread Cert.ReferenceFfnSampleIdeal.nD Cert.ReferenceFfnSampleIdeal.τ).loc Cert.ReferenceFfnSampleIdeal.main_v61) = v0 c
          ∧ r.2.mem ((c.tc : Thread Cert.ReferenceFfnSampleIdeal.nD Cert.ReferenceFfnSampleIdeal.τ).loc Cert.ReferenceFfnSampleIdeal.main_arg0) = m' ((c.tc : Thread Cert.ReferenceFfnSampleIdeal.nD Cert.ReferenceFfnSampleIdeal.τ).loc Cert.ReferenceFfnSampleIdeal.main_arg0)
          ∧ r.2.mem ((c.tc : Thread Cert.ReferenceFfnSampleIdeal.nD Cert.ReferenceFfnSampleIdeal.τ).loc Cert.ReferenceFfnSampleIdeal.main_arg1) = m' ((c.tc : Thread Cert.ReferenceFfnSampleIdeal.nD Cert.ReferenceFfnSampleIdeal.τ).loc Cert.ReferenceFfnSampleIdeal.main_arg1)
          ∧ r.2.mem ((c.tc : Thread Cert.ReferenceFfnSampleIdeal.nD Cert.ReferenceFfnSampleIdeal.τ).loc Cert.ReferenceFfnSampleIdeal.main_arg2) = m' ((c.tc : Thread Cert.ReferenceFfnSampleIdeal.nD Cert.ReferenceFfnSampleIdeal.τ).loc Cert.ReferenceFfnSampleIdeal.main_arg2)
          ∧ r.2.mem ((c.tc : Thread Cert.ReferenceFfnSampleIdeal.nD Cert.ReferenceFfnSampleIdeal.τ).loc Cert.ReferenceFfnSampleIdeal.main_arg3) = m' ((c.tc : Thread Cert.ReferenceFfnSampleIdeal.nD Cert.ReferenceFfnSampleIdeal.τ).loc Cert.ReferenceFfnSampleIdeal.main_arg3)
          ∧ r.2.mem ((c.tc : Thread Cert.ReferenceFfnSampleIdeal.nD Cert.ReferenceFfnSampleIdeal.τ).loc Cert.ReferenceFfnSampleIdeal.main_arg4) = m' ((c.tc : Thread Cert.ReferenceFfnSampleIdeal.nD Cert.ReferenceFfnSampleIdeal.τ).loc Cert.ReferenceFfnSampleIdeal.main_arg4)
          ∧ r.2.mem ((c.tc : Thread Cert.ReferenceFfnSampleIdeal.nD Cert.ReferenceFfnSampleIdeal.τ).loc Cert.ReferenceFfnSampleIdeal.main_arg5) = m' ((c.tc : Thread Cert.ReferenceFfnSampleIdeal.nD Cert.ReferenceFfnSampleIdeal.τ).loc Cert.ReferenceFfnSampleIdeal.main_arg5)
          ∧ r.2.mem ((c.tc : Thread Cert.ReferenceFfnSampleIdeal.nD Cert.ReferenceFfnSampleIdeal.τ).loc Cert.ReferenceFfnSampleIdeal.main_arg6) = m' ((c.tc : Thread Cert.ReferenceFfnSampleIdeal.nD Cert.ReferenceFfnSampleIdeal.τ).loc Cert.ReferenceFfnSampleIdeal.main_arg6))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v2)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v2) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v14) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelNormMem_KernelNormMemIdeal : Prop :=
  True

def algebraic_KernelNormMemIdeal_ReferenceNormMemIdeal [hKernelNormMemIdeal : Cert.KernelNormMemIdeal.Facts] [hReferenceNormMemIdeal : Cert.ReferenceNormMemIdeal.Facts] : Prop :=
  ∀ (m : (ℓ : Loc Cert.KernelNormMemIdeal.nD Cert.KernelNormMemIdeal.τ Cert.KernelNormMemIdeal.sig) → Buf (Elt Ideal) ℓ) (g : Dev Cert.KernelNormMemIdeal.nD → PrngReg)
    (m' : (ℓ : Loc Cert.ReferenceNormMemIdeal.nD Cert.ReferenceNormMemIdeal.τ Cert.ReferenceNormMemIdeal.sig) → Buf (Elt Ideal) ℓ) (g' : Dev Cert.ReferenceNormMemIdeal.nD → PrngReg), Pre_KernelNormMemIdeal m →
    (∀ c : Dev Cert.KernelNormMemIdeal.nD,
      m' ((c.tc : Thread Cert.ReferenceNormMemIdeal.nD Cert.ReferenceNormMemIdeal.τ).loc Cert.ReferenceNormMemIdeal.main_arg0) = m ((c.tc : Thread Cert.KernelNormMemIdeal.nD Cert.KernelNormMemIdeal.τ).loc Cert.KernelNormMemIdeal.main_arg0)
      ∧ m' ((c.tc : Thread Cert.ReferenceNormMemIdeal.nD Cert.ReferenceNormMemIdeal.τ).loc Cert.ReferenceNormMemIdeal.main_arg1) = m ((c.tc : Thread Cert.KernelNormMemIdeal.nD Cert.KernelNormMemIdeal.τ).loc Cert.KernelNormMemIdeal.main_arg1)) →
    ∃ (v0 : (c : Dev Cert.KernelNormMemIdeal.nD) → Buf (Elt Ideal) ((c.tc : Thread Cert.KernelNormMemIdeal.nD Cert.KernelNormMemIdeal.τ).loc Cert.KernelNormMemIdeal.main_v2)),
      θ_run (Cert.KernelNormMemIdeal.defs (F := Ideal)) (onTc (τ := Cert.KernelNormMemIdeal.τ) (Cert.KernelNormMemIdeal.main (F := Ideal))) ⟨m, fun _ => 0, g⟩ (fun r => ∀ c : Dev Cert.KernelNormMemIdeal.nD,
          r.2.mem ((c.tc : Thread Cert.KernelNormMemIdeal.nD Cert.KernelNormMemIdeal.τ).loc Cert.KernelNormMemIdeal.main_v2) = v0 c
          ∧ r.2.mem ((c.tc : Thread Cert.KernelNormMemIdeal.nD Cert.KernelNormMemIdeal.τ).loc Cert.KernelNormMemIdeal.main_arg0) = m ((c.tc : Thread Cert.KernelNormMemIdeal.nD Cert.KernelNormMemIdeal.τ).loc Cert.KernelNormMemIdeal.main_arg0)
          ∧ r.2.mem ((c.tc : Thread Cert.KernelNormMemIdeal.nD Cert.KernelNormMemIdeal.τ).loc Cert.KernelNormMemIdeal.main_arg1) = m ((c.tc : Thread Cert.KernelNormMemIdeal.nD Cert.KernelNormMemIdeal.τ).loc Cert.KernelNormMemIdeal.main_arg1))
      ∧ θ_run (Cert.ReferenceNormMemIdeal.defs (F := Ideal)) (onTc (τ := Cert.ReferenceNormMemIdeal.τ) (Cert.ReferenceNormMemIdeal.main (F := Ideal))) ⟨m', fun _ => 0, g'⟩ (fun r => ∀ c : Dev Cert.ReferenceNormMemIdeal.nD,
          r.2.mem ((c.tc : Thread Cert.ReferenceNormMemIdeal.nD Cert.ReferenceNormMemIdeal.τ).loc Cert.ReferenceNormMemIdeal.main_v14) = v0 c
          ∧ r.2.mem ((c.tc : Thread Cert.ReferenceNormMemIdeal.nD Cert.ReferenceNormMemIdeal.τ).loc Cert.ReferenceNormMemIdeal.main_arg0) = m' ((c.tc : Thread Cert.ReferenceNormMemIdeal.nD Cert.ReferenceNormMemIdeal.τ).loc Cert.ReferenceNormMemIdeal.main_arg0)
          ∧ r.2.mem ((c.tc : Thread Cert.ReferenceNormMemIdeal.nD Cert.ReferenceNormMemIdeal.τ).loc Cert.ReferenceNormMemIdeal.main_arg1) = m' ((c.tc : Thread Cert.ReferenceNormMemIdeal.nD Cert.ReferenceNormMemIdeal.τ).loc Cert.ReferenceNormMemIdeal.main_arg1))

def preserves_KernelGmlp_KernelGmlpIdeal : Prop :=
  True

def algebraic_KernelGmlpIdeal_ReferenceGmlpIdeal [hKernelGmlpIdeal : Cert.KernelGmlpIdeal.Facts] [hReferenceGmlpIdeal : Cert.ReferenceGmlpIdeal.Facts] : Prop :=
  ∀ (m : (ℓ : Loc Cert.KernelGmlpIdeal.nD Cert.KernelGmlpIdeal.τ Cert.KernelGmlpIdeal.sig) → Buf (Elt Ideal) ℓ) (g : Dev Cert.KernelGmlpIdeal.nD → PrngReg)
    (m' : (ℓ : Loc Cert.ReferenceGmlpIdeal.nD Cert.ReferenceGmlpIdeal.τ Cert.ReferenceGmlpIdeal.sig) → Buf (Elt Ideal) ℓ) (g' : Dev Cert.ReferenceGmlpIdeal.nD → PrngReg), Pre_KernelGmlpIdeal m →
    (∀ c : Dev Cert.KernelGmlpIdeal.nD,
      m' ((c.tc : Thread Cert.ReferenceGmlpIdeal.nD Cert.ReferenceGmlpIdeal.τ).loc Cert.ReferenceGmlpIdeal.main_arg0) = m ((c.tc : Thread Cert.KernelGmlpIdeal.nD Cert.KernelGmlpIdeal.τ).loc Cert.KernelGmlpIdeal.main_arg0)
      ∧ m' ((c.tc : Thread Cert.ReferenceGmlpIdeal.nD Cert.ReferenceGmlpIdeal.τ).loc Cert.ReferenceGmlpIdeal.main_arg1) = m ((c.tc : Thread Cert.KernelGmlpIdeal.nD Cert.KernelGmlpIdeal.τ).loc Cert.KernelGmlpIdeal.main_arg1)
      ∧ m' ((c.tc : Thread Cert.ReferenceGmlpIdeal.nD Cert.ReferenceGmlpIdeal.τ).loc Cert.ReferenceGmlpIdeal.main_arg2) = m ((c.tc : Thread Cert.KernelGmlpIdeal.nD Cert.KernelGmlpIdeal.τ).loc Cert.KernelGmlpIdeal.main_arg2)
      ∧ m' ((c.tc : Thread Cert.ReferenceGmlpIdeal.nD Cert.ReferenceGmlpIdeal.τ).loc Cert.ReferenceGmlpIdeal.main_arg3) = m ((c.tc : Thread Cert.KernelGmlpIdeal.nD Cert.KernelGmlpIdeal.τ).loc Cert.KernelGmlpIdeal.main_arg3)
      ∧ m' ((c.tc : Thread Cert.ReferenceGmlpIdeal.nD Cert.ReferenceGmlpIdeal.τ).loc Cert.ReferenceGmlpIdeal.main_arg4) = m ((c.tc : Thread Cert.KernelGmlpIdeal.nD Cert.KernelGmlpIdeal.τ).loc Cert.KernelGmlpIdeal.main_arg4)) →
    ∃ (v0 : (c : Dev Cert.KernelGmlpIdeal.nD) → Buf (Elt Ideal) ((c.tc : Thread Cert.KernelGmlpIdeal.nD Cert.KernelGmlpIdeal.τ).loc Cert.KernelGmlpIdeal.main_v10)),
      θ_run (Cert.KernelGmlpIdeal.defs (F := Ideal)) (onTc (τ := Cert.KernelGmlpIdeal.τ) (Cert.KernelGmlpIdeal.main (F := Ideal))) ⟨m, fun _ => 0, g⟩ (fun r => ∀ c : Dev Cert.KernelGmlpIdeal.nD,
          r.2.mem ((c.tc : Thread Cert.KernelGmlpIdeal.nD Cert.KernelGmlpIdeal.τ).loc Cert.KernelGmlpIdeal.main_v10) = v0 c
          ∧ r.2.mem ((c.tc : Thread Cert.KernelGmlpIdeal.nD Cert.KernelGmlpIdeal.τ).loc Cert.KernelGmlpIdeal.main_arg0) = m ((c.tc : Thread Cert.KernelGmlpIdeal.nD Cert.KernelGmlpIdeal.τ).loc Cert.KernelGmlpIdeal.main_arg0)
          ∧ r.2.mem ((c.tc : Thread Cert.KernelGmlpIdeal.nD Cert.KernelGmlpIdeal.τ).loc Cert.KernelGmlpIdeal.main_arg1) = m ((c.tc : Thread Cert.KernelGmlpIdeal.nD Cert.KernelGmlpIdeal.τ).loc Cert.KernelGmlpIdeal.main_arg1)
          ∧ r.2.mem ((c.tc : Thread Cert.KernelGmlpIdeal.nD Cert.KernelGmlpIdeal.τ).loc Cert.KernelGmlpIdeal.main_arg2) = m ((c.tc : Thread Cert.KernelGmlpIdeal.nD Cert.KernelGmlpIdeal.τ).loc Cert.KernelGmlpIdeal.main_arg2)
          ∧ r.2.mem ((c.tc : Thread Cert.KernelGmlpIdeal.nD Cert.KernelGmlpIdeal.τ).loc Cert.KernelGmlpIdeal.main_arg3) = m ((c.tc : Thread Cert.KernelGmlpIdeal.nD Cert.KernelGmlpIdeal.τ).loc Cert.KernelGmlpIdeal.main_arg3)
          ∧ r.2.mem ((c.tc : Thread Cert.KernelGmlpIdeal.nD Cert.KernelGmlpIdeal.τ).loc Cert.KernelGmlpIdeal.main_arg4) = m ((c.tc : Thread Cert.KernelGmlpIdeal.nD Cert.KernelGmlpIdeal.τ).loc Cert.KernelGmlpIdeal.main_arg4))
      ∧ θ_run (Cert.ReferenceGmlpIdeal.defs (F := Ideal)) (onTc (τ := Cert.ReferenceGmlpIdeal.τ) (Cert.ReferenceGmlpIdeal.main (F := Ideal))) ⟨m', fun _ => 0, g'⟩ (fun r => ∀ c : Dev Cert.ReferenceGmlpIdeal.nD,
          r.2.mem ((c.tc : Thread Cert.ReferenceGmlpIdeal.nD Cert.ReferenceGmlpIdeal.τ).loc Cert.ReferenceGmlpIdeal.main_v52) = v0 c
          ∧ r.2.mem ((c.tc : Thread Cert.ReferenceGmlpIdeal.nD Cert.ReferenceGmlpIdeal.τ).loc Cert.ReferenceGmlpIdeal.main_arg0) = m' ((c.tc : Thread Cert.ReferenceGmlpIdeal.nD Cert.ReferenceGmlpIdeal.τ).loc Cert.ReferenceGmlpIdeal.main_arg0)
          ∧ r.2.mem ((c.tc : Thread Cert.ReferenceGmlpIdeal.nD Cert.ReferenceGmlpIdeal.τ).loc Cert.ReferenceGmlpIdeal.main_arg1) = m' ((c.tc : Thread Cert.ReferenceGmlpIdeal.nD Cert.ReferenceGmlpIdeal.τ).loc Cert.ReferenceGmlpIdeal.main_arg1)
          ∧ r.2.mem ((c.tc : Thread Cert.ReferenceGmlpIdeal.nD Cert.ReferenceGmlpIdeal.τ).loc Cert.ReferenceGmlpIdeal.main_arg2) = m' ((c.tc : Thread Cert.ReferenceGmlpIdeal.nD Cert.ReferenceGmlpIdeal.τ).loc Cert.ReferenceGmlpIdeal.main_arg2)
          ∧ r.2.mem ((c.tc : Thread Cert.ReferenceGmlpIdeal.nD Cert.ReferenceGmlpIdeal.τ).loc Cert.ReferenceGmlpIdeal.main_arg3) = m' ((c.tc : Thread Cert.ReferenceGmlpIdeal.nD Cert.ReferenceGmlpIdeal.τ).loc Cert.ReferenceGmlpIdeal.main_arg3)
          ∧ r.2.mem ((c.tc : Thread Cert.ReferenceGmlpIdeal.nD Cert.ReferenceGmlpIdeal.τ).loc Cert.ReferenceGmlpIdeal.main_arg4) = m' ((c.tc : Thread Cert.ReferenceGmlpIdeal.nD Cert.ReferenceGmlpIdeal.τ).loc Cert.ReferenceGmlpIdeal.main_arg4))

def preserves_KernelPost_KernelPostIdeal : Prop :=
  True

def algebraic_KernelPostIdeal_ReferencePostIdeal [hKernelPostIdeal : Cert.KernelPostIdeal.Facts] [hReferencePostIdeal : Cert.ReferencePostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)
      ∧ m' ((c.tc : Thread Cert.ReferencePostIdeal.nD Cert.ReferencePostIdeal.τ).loc Cert.ReferencePostIdeal.main_arg3) = m ((c.tc : Thread Cert.KernelPostIdeal.nD Cert.KernelPostIdeal.τ).loc Cert.KernelPostIdeal.main_arg3)
      ∧ m' ((c.tc : Thread Cert.ReferencePostIdeal.nD Cert.ReferencePostIdeal.τ).loc Cert.ReferencePostIdeal.main_arg4) = m ((c.tc : Thread Cert.KernelPostIdeal.nD Cert.KernelPostIdeal.τ).loc Cert.KernelPostIdeal.main_arg4)
      ∧ m' ((c.tc : Thread Cert.ReferencePostIdeal.nD Cert.ReferencePostIdeal.τ).loc Cert.ReferencePostIdeal.main_arg5) = m ((c.tc : Thread Cert.KernelPostIdeal.nD Cert.KernelPostIdeal.τ).loc Cert.KernelPostIdeal.main_arg5)) →
    ∃ (v0 : (c : Dev Cert.KernelPostIdeal.nD) → Buf (Elt Ideal) ((c.tc : Thread Cert.KernelPostIdeal.nD Cert.KernelPostIdeal.τ).loc Cert.KernelPostIdeal.main_v12)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v12) = v0 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
          ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
          ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
          ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_v35) = v0 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2)
          ∧ r.2.mem ((c.tc : Thread Cert.ReferencePostIdeal.nD Cert.ReferencePostIdeal.τ).loc Cert.ReferencePostIdeal.main_arg3) = m' ((c.tc : Thread Cert.ReferencePostIdeal.nD Cert.ReferencePostIdeal.τ).loc Cert.ReferencePostIdeal.main_arg3)
          ∧ r.2.mem ((c.tc : Thread Cert.ReferencePostIdeal.nD Cert.ReferencePostIdeal.τ).loc Cert.ReferencePostIdeal.main_arg4) = m' ((c.tc : Thread Cert.ReferencePostIdeal.nD Cert.ReferencePostIdeal.τ).loc Cert.ReferencePostIdeal.main_arg4)
          ∧ r.2.mem ((c.tc : Thread Cert.ReferencePostIdeal.nD Cert.ReferencePostIdeal.τ).loc Cert.ReferencePostIdeal.main_arg5) = m' ((c.tc : Thread Cert.ReferencePostIdeal.nD Cert.ReferencePostIdeal.τ).loc Cert.ReferencePostIdeal.main_arg5))

def preserves_KernelPrep_KernelPrepIdeal : Prop :=
  True

def algebraic_KernelPrepIdeal_ReferencePrepIdeal_pre_prep_finite [hKernelPrepIdeal : Cert.KernelPrepIdeal.Facts] [hReferencePrepIdeal : Cert.ReferencePrepIdeal.Facts] [hPre_prep_finite : Cert.Pre_prep_finite.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg)
    (m' : (ℓ : Loc Cert.ReferencePrepIdeal.nD Cert.ReferencePrepIdeal.τ Cert.ReferencePrepIdeal.sig) → Buf (Elt Ideal) ℓ) (g' : Dev Cert.ReferencePrepIdeal.nD → PrngReg), Pre_KernelPrepIdeal_prep_finite m →
    (∀ c : Dev Cert.KernelPrepIdeal.nD,
      m' ((c.tc : Thread Cert.ReferencePrepIdeal.nD Cert.ReferencePrepIdeal.τ).loc Cert.ReferencePrepIdeal.main_arg0) = m ((c.tc : Thread Cert.KernelPrepIdeal.nD Cert.KernelPrepIdeal.τ).loc Cert.KernelPrepIdeal.main_arg0)
      ∧ m' ((c.tc : Thread Cert.ReferencePrepIdeal.nD Cert.ReferencePrepIdeal.τ).loc Cert.ReferencePrepIdeal.main_arg1) = m ((c.tc : Thread Cert.KernelPrepIdeal.nD Cert.KernelPrepIdeal.τ).loc Cert.KernelPrepIdeal.main_arg1)
      ∧ m' ((c.tc : Thread Cert.ReferencePrepIdeal.nD Cert.ReferencePrepIdeal.τ).loc Cert.ReferencePrepIdeal.main_arg2) = m ((c.tc : Thread Cert.KernelPrepIdeal.nD Cert.KernelPrepIdeal.τ).loc Cert.KernelPrepIdeal.main_arg2)
      ∧ m' ((c.tc : Thread Cert.ReferencePrepIdeal.nD Cert.ReferencePrepIdeal.τ).loc Cert.ReferencePrepIdeal.main_arg3) = m ((c.tc : Thread Cert.KernelPrepIdeal.nD Cert.KernelPrepIdeal.τ).loc Cert.KernelPrepIdeal.main_arg3)
      ∧ m' ((c.tc : Thread Cert.ReferencePrepIdeal.nD Cert.ReferencePrepIdeal.τ).loc Cert.ReferencePrepIdeal.main_arg4) = m ((c.tc : Thread Cert.KernelPrepIdeal.nD Cert.KernelPrepIdeal.τ).loc Cert.KernelPrepIdeal.main_arg4)
      ∧ m' ((c.tc : Thread Cert.ReferencePrepIdeal.nD Cert.ReferencePrepIdeal.τ).loc Cert.ReferencePrepIdeal.main_arg5) = m ((c.tc : Thread Cert.KernelPrepIdeal.nD Cert.KernelPrepIdeal.τ).loc Cert.KernelPrepIdeal.main_arg5)
      ∧ m' ((c.tc : Thread Cert.ReferencePrepIdeal.nD Cert.ReferencePrepIdeal.τ).loc Cert.ReferencePrepIdeal.main_arg6) = m ((c.tc : Thread Cert.KernelPrepIdeal.nD Cert.KernelPrepIdeal.τ).loc Cert.KernelPrepIdeal.main_arg6)
      ∧ m' ((c.tc : Thread Cert.ReferencePrepIdeal.nD Cert.ReferencePrepIdeal.τ).loc Cert.ReferencePrepIdeal.main_arg7) = m ((c.tc : Thread Cert.KernelPrepIdeal.nD Cert.KernelPrepIdeal.τ).loc Cert.KernelPrepIdeal.main_arg7)
      ∧ m' ((c.tc : Thread Cert.ReferencePrepIdeal.nD Cert.ReferencePrepIdeal.τ).loc Cert.ReferencePrepIdeal.main_arg8) = m ((c.tc : Thread Cert.KernelPrepIdeal.nD Cert.KernelPrepIdeal.τ).loc Cert.KernelPrepIdeal.main_arg8)
      ∧ m' ((c.tc : Thread Cert.ReferencePrepIdeal.nD Cert.ReferencePrepIdeal.τ).loc Cert.ReferencePrepIdeal.main_arg9) = m ((c.tc : Thread Cert.KernelPrepIdeal.nD Cert.KernelPrepIdeal.τ).loc Cert.KernelPrepIdeal.main_arg9)
      ∧ m' ((c.tc : Thread Cert.ReferencePrepIdeal.nD Cert.ReferencePrepIdeal.τ).loc Cert.ReferencePrepIdeal.main_arg10) = m ((c.tc : Thread Cert.KernelPrepIdeal.nD Cert.KernelPrepIdeal.τ).loc Cert.KernelPrepIdeal.main_arg10)) →
    ∃ (v0 : (c : Dev Cert.KernelPrepIdeal.nD) → Buf (Elt Ideal) ((c.tc : Thread Cert.KernelPrepIdeal.nD Cert.KernelPrepIdeal.τ).loc Cert.KernelPrepIdeal.main_v26_0)) (v1 : (c : Dev Cert.KernelPrepIdeal.nD) → Buf (Elt Ideal) ((c.tc : Thread Cert.KernelPrepIdeal.nD Cert.KernelPrepIdeal.τ).loc Cert.KernelPrepIdeal.main_v26_1)) (v2 : (c : Dev Cert.KernelPrepIdeal.nD) → Buf (Elt Ideal) ((c.tc : Thread Cert.KernelPrepIdeal.nD Cert.KernelPrepIdeal.τ).loc Cert.KernelPrepIdeal.main_v26_2)) (v3 : (c : Dev Cert.KernelPrepIdeal.nD) → Buf (Elt Ideal) ((c.tc : Thread Cert.KernelPrepIdeal.nD Cert.KernelPrepIdeal.τ).loc Cert.KernelPrepIdeal.main_v26_3)) (v4 : (c : Dev Cert.KernelPrepIdeal.nD) → Buf (Elt Ideal) ((c.tc : Thread Cert.KernelPrepIdeal.nD Cert.KernelPrepIdeal.τ).loc Cert.KernelPrepIdeal.main_v26_4)) (v5 : (c : Dev Cert.KernelPrepIdeal.nD) → Buf (Elt Ideal) ((c.tc : Thread Cert.KernelPrepIdeal.nD Cert.KernelPrepIdeal.τ).loc Cert.KernelPrepIdeal.main_v26_5)) (v6 : (c : Dev Cert.KernelPrepIdeal.nD) → Buf (Elt Ideal) ((c.tc : Thread Cert.KernelPrepIdeal.nD Cert.KernelPrepIdeal.τ).loc Cert.KernelPrepIdeal.main_v26_6)) (v7 : (c : Dev Cert.KernelPrepIdeal.nD) → Buf (Elt Ideal) ((c.tc : Thread Cert.KernelPrepIdeal.nD Cert.KernelPrepIdeal.τ).loc Cert.KernelPrepIdeal.main_v26_7)),
      θ_run (Cert.KernelPrepIdeal.defs (F := Ideal)) (onTc (τ := Cert.KernelPrepIdeal.τ) (Cert.KernelPrepIdeal.main (F := Ideal))) ⟨m, fun _ => 0, g⟩ (fun r => ∀ c : Dev Cert.KernelPrepIdeal.nD,
          r.2.mem ((c.tc : Thread Cert.KernelPrepIdeal.nD Cert.KernelPrepIdeal.τ).loc Cert.KernelPrepIdeal.main_v26_0) = v0 c
          ∧ r.2.mem ((c.tc : Thread Cert.KernelPrepIdeal.nD Cert.KernelPrepIdeal.τ).loc Cert.KernelPrepIdeal.main_v26_1) = v1 c
          ∧ r.2.mem ((c.tc : Thread Cert.KernelPrepIdeal.nD Cert.KernelPrepIdeal.τ).loc Cert.KernelPrepIdeal.main_v26_2) = v2 c
          ∧ r.2.mem ((c.tc : Thread Cert.KernelPrepIdeal.nD Cert.KernelPrepIdeal.τ).loc Cert.KernelPrepIdeal.main_v26_3) = v3 c
          ∧ r.2.mem ((c.tc : Thread Cert.KernelPrepIdeal.nD Cert.KernelPrepIdeal.τ).loc Cert.KernelPrepIdeal.main_v26_4) = v4 c
          ∧ r.2.mem ((c.tc : Thread Cert.KernelPrepIdeal.nD Cert.KernelPrepIdeal.τ).loc Cert.KernelPrepIdeal.main_v26_5) = v5 c
          ∧ r.2.mem ((c.tc : Thread Cert.KernelPrepIdeal.nD Cert.KernelPrepIdeal.τ).loc Cert.KernelPrepIdeal.main_v26_6) = v6 c
          ∧ r.2.mem ((c.tc : Thread Cert.KernelPrepIdeal.nD Cert.KernelPrepIdeal.τ).loc Cert.KernelPrepIdeal.main_v26_7) = v7 c
          ∧ r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
          ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
          ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
          ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3)
          ∧ r.2.mem ((c.tc : Thread Cert.KernelPrepIdeal.nD Cert.KernelPrepIdeal.τ).loc Cert.KernelPrepIdeal.main_arg4) = m ((c.tc : Thread Cert.KernelPrepIdeal.nD Cert.KernelPrepIdeal.τ).loc Cert.KernelPrepIdeal.main_arg4)
          ∧ r.2.mem ((c.tc : Thread Cert.KernelPrepIdeal.nD Cert.KernelPrepIdeal.τ).loc Cert.KernelPrepIdeal.main_arg5) = m ((c.tc : Thread Cert.KernelPrepIdeal.nD Cert.KernelPrepIdeal.τ).loc Cert.KernelPrepIdeal.main_arg5)
          ∧ r.2.mem ((c.tc : Thread Cert.KernelPrepIdeal.nD Cert.KernelPrepIdeal.τ).loc Cert.KernelPrepIdeal.main_arg6) = m ((c.tc : Thread Cert.KernelPrepIdeal.nD Cert.KernelPrepIdeal.τ).loc Cert.KernelPrepIdeal.main_arg6)
          ∧ r.2.mem ((c.tc : Thread Cert.KernelPrepIdeal.nD Cert.KernelPrepIdeal.τ).loc Cert.KernelPrepIdeal.main_arg7) = m ((c.tc : Thread Cert.KernelPrepIdeal.nD Cert.KernelPrepIdeal.τ).loc Cert.KernelPrepIdeal.main_arg7)
          ∧ r.2.mem ((c.tc : Thread Cert.KernelPrepIdeal.nD Cert.KernelPrepIdeal.τ).loc Cert.KernelPrepIdeal.main_arg8) = m ((c.tc : Thread Cert.KernelPrepIdeal.nD Cert.KernelPrepIdeal.τ).loc Cert.KernelPrepIdeal.main_arg8)
          ∧ r.2.mem ((c.tc : Thread Cert.KernelPrepIdeal.nD Cert.KernelPrepIdeal.τ).loc Cert.KernelPrepIdeal.main_arg9) = m ((c.tc : Thread Cert.KernelPrepIdeal.nD Cert.KernelPrepIdeal.τ).loc Cert.KernelPrepIdeal.main_arg9)
          ∧ r.2.mem ((c.tc : Thread Cert.KernelPrepIdeal.nD Cert.KernelPrepIdeal.τ).loc Cert.KernelPrepIdeal.main_arg10) = m ((c.tc : Thread Cert.KernelPrepIdeal.nD Cert.KernelPrepIdeal.τ).loc Cert.KernelPrepIdeal.main_arg10))
      ∧ θ_run (Cert.ReferencePrepIdeal.defs (F := Ideal)) (onTc (τ := Cert.ReferencePrepIdeal.τ) (Cert.ReferencePrepIdeal.main (F := Ideal))) ⟨m', fun _ => 0, g'⟩ (fun r => ∀ c : Dev Cert.ReferencePrepIdeal.nD,
          r.2.mem ((c.tc : Thread Cert.ReferencePrepIdeal.nD Cert.ReferencePrepIdeal.τ).loc Cert.ReferencePrepIdeal.main_v157) = v0 c
          ∧ r.2.mem ((c.tc : Thread Cert.ReferencePrepIdeal.nD Cert.ReferencePrepIdeal.τ).loc Cert.ReferencePrepIdeal.main_v158) = v1 c
          ∧ r.2.mem ((c.tc : Thread Cert.ReferencePrepIdeal.nD Cert.ReferencePrepIdeal.τ).loc Cert.ReferencePrepIdeal.main_v160) = v2 c
          ∧ r.2.mem ((c.tc : Thread Cert.ReferencePrepIdeal.nD Cert.ReferencePrepIdeal.τ).loc Cert.ReferencePrepIdeal.main_v161) = v3 c
          ∧ r.2.mem ((c.tc : Thread Cert.ReferencePrepIdeal.nD Cert.ReferencePrepIdeal.τ).loc Cert.ReferencePrepIdeal.main_v163) = v4 c
          ∧ r.2.mem ((c.tc : Thread Cert.ReferencePrepIdeal.nD Cert.ReferencePrepIdeal.τ).loc Cert.ReferencePrepIdeal.main_v166) = v5 c
          ∧ r.2.mem ((c.tc : Thread Cert.ReferencePrepIdeal.nD Cert.ReferencePrepIdeal.τ).loc Cert.ReferencePrepIdeal.main_v170) = v6 c
          ∧ r.2.mem ((c.tc : Thread Cert.ReferencePrepIdeal.nD Cert.ReferencePrepIdeal.τ).loc Cert.ReferencePrepIdeal.main_v174) = v7 c
          ∧ r.2.mem ((c.tc : Thread Cert.ReferencePrepIdeal.nD Cert.ReferencePrepIdeal.τ).loc Cert.ReferencePrepIdeal.main_arg0) = m' ((c.tc : Thread Cert.ReferencePrepIdeal.nD Cert.ReferencePrepIdeal.τ).loc Cert.ReferencePrepIdeal.main_arg0)
          ∧ r.2.mem ((c.tc : Thread Cert.ReferencePrepIdeal.nD Cert.ReferencePrepIdeal.τ).loc Cert.ReferencePrepIdeal.main_arg1) = m' ((c.tc : Thread Cert.ReferencePrepIdeal.nD Cert.ReferencePrepIdeal.τ).loc Cert.ReferencePrepIdeal.main_arg1)
          ∧ r.2.mem ((c.tc : Thread Cert.ReferencePrepIdeal.nD Cert.ReferencePrepIdeal.τ).loc Cert.ReferencePrepIdeal.main_arg2) = m' ((c.tc : Thread Cert.ReferencePrepIdeal.nD Cert.ReferencePrepIdeal.τ).loc Cert.ReferencePrepIdeal.main_arg2)
          ∧ r.2.mem ((c.tc : Thread Cert.ReferencePrepIdeal.nD Cert.ReferencePrepIdeal.τ).loc Cert.ReferencePrepIdeal.main_arg3) = m' ((c.tc : Thread Cert.ReferencePrepIdeal.nD Cert.ReferencePrepIdeal.τ).loc Cert.ReferencePrepIdeal.main_arg3)
          ∧ r.2.mem ((c.tc : Thread Cert.ReferencePrepIdeal.nD Cert.ReferencePrepIdeal.τ).loc Cert.ReferencePrepIdeal.main_arg4) = m' ((c.tc : Thread Cert.ReferencePrepIdeal.nD Cert.ReferencePrepIdeal.τ).loc Cert.ReferencePrepIdeal.main_arg4)
          ∧ r.2.mem ((c.tc : Thread Cert.ReferencePrepIdeal.nD Cert.ReferencePrepIdeal.τ).loc Cert.ReferencePrepIdeal.main_arg5) = m' ((c.tc : Thread Cert.ReferencePrepIdeal.nD Cert.ReferencePrepIdeal.τ).loc Cert.ReferencePrepIdeal.main_arg5)
          ∧ r.2.mem ((c.tc : Thread Cert.ReferencePrepIdeal.nD Cert.ReferencePrepIdeal.τ).loc Cert.ReferencePrepIdeal.main_arg6) = m' ((c.tc : Thread Cert.ReferencePrepIdeal.nD Cert.ReferencePrepIdeal.τ).loc Cert.ReferencePrepIdeal.main_arg6)
          ∧ r.2.mem ((c.tc : Thread Cert.ReferencePrepIdeal.nD Cert.ReferencePrepIdeal.τ).loc Cert.ReferencePrepIdeal.main_arg7) = m' ((c.tc : Thread Cert.ReferencePrepIdeal.nD Cert.ReferencePrepIdeal.τ).loc Cert.ReferencePrepIdeal.main_arg7)
          ∧ r.2.mem ((c.tc : Thread Cert.ReferencePrepIdeal.nD Cert.ReferencePrepIdeal.τ).loc Cert.ReferencePrepIdeal.main_arg8) = m' ((c.tc : Thread Cert.ReferencePrepIdeal.nD Cert.ReferencePrepIdeal.τ).loc Cert.ReferencePrepIdeal.main_arg8)
          ∧ r.2.mem ((c.tc : Thread Cert.ReferencePrepIdeal.nD Cert.ReferencePrepIdeal.τ).loc Cert.ReferencePrepIdeal.main_arg9) = m' ((c.tc : Thread Cert.ReferencePrepIdeal.nD Cert.ReferencePrepIdeal.τ).loc Cert.ReferencePrepIdeal.main_arg9)
          ∧ r.2.mem ((c.tc : Thread Cert.ReferencePrepIdeal.nD Cert.ReferencePrepIdeal.τ).loc Cert.ReferencePrepIdeal.main_arg10) = m' ((c.tc : Thread Cert.ReferencePrepIdeal.nD Cert.ReferencePrepIdeal.τ).loc Cert.ReferencePrepIdeal.main_arg10))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelZa : Cert.KernelZa.Facts) (hKernelZaIdeal : Cert.KernelZaIdeal.Facts) (hReferenceZaIdeal : Cert.ReferenceZaIdeal.Facts) (hKernelZb : Cert.KernelZb.Facts) (hKernelZbIdeal : Cert.KernelZbIdeal.Facts) (hReferenceZbIdeal : Cert.ReferenceZbIdeal.Facts) (hKernelZl : Cert.KernelZl.Facts) (hKernelZlIdeal : Cert.KernelZlIdeal.Facts) (hReferenceZlIdeal : Cert.ReferenceZlIdeal.Facts) (hKernelOut : Cert.KernelOut.Facts) (hKernelOutIdeal : Cert.KernelOutIdeal.Facts) (hReferenceOutIdeal : Cert.ReferenceOutIdeal.Facts) (hKernelQ : Cert.KernelQ.Facts) (hKernelQIdeal : Cert.KernelQIdeal.Facts) (hReferenceQIdeal : Cert.ReferenceQIdeal.Facts) (hKernelKv : Cert.KernelKv.Facts) (hKernelKvIdeal : Cert.KernelKvIdeal.Facts) (hReferenceKvIdeal : Cert.ReferenceKvIdeal.Facts) (hKernelO : Cert.KernelO.Facts) (hKernelOIdeal : Cert.KernelOIdeal.Facts) (hReferenceOIdeal : Cert.ReferenceOIdeal.Facts) (hKernelFfnSample : Cert.KernelFfnSample.Facts) (hKernelFfnSampleIdeal : Cert.KernelFfnSampleIdeal.Facts) (hReferenceFfnSampleIdeal : Cert.ReferenceFfnSampleIdeal.Facts) (hKernelNorm : Cert.KernelNorm.Facts) (hKernelNormIdeal : Cert.KernelNormIdeal.Facts) (hReferenceNormIdeal : Cert.ReferenceNormIdeal.Facts) (hKernelNormMem : Cert.KernelNormMem.Facts) (hKernelNormMemIdeal : Cert.KernelNormMemIdeal.Facts) (hReferenceNormMemIdeal : Cert.ReferenceNormMemIdeal.Facts) (hKernelGmlp : Cert.KernelGmlp.Facts) (hKernelGmlpIdeal : Cert.KernelGmlpIdeal.Facts) (hReferenceGmlpIdeal : Cert.ReferenceGmlpIdeal.Facts) (hKernelPost : Cert.KernelPost.Facts) (hKernelPostIdeal : Cert.KernelPostIdeal.Facts) (hReferencePostIdeal : Cert.ReferencePostIdeal.Facts) (hKernelPrep : Cert.KernelPrep.Facts) (hKernelPrepIdeal : Cert.KernelPrepIdeal.Facts) (hReferencePrepIdeal : Cert.ReferencePrepIdeal.Facts) (hPre_prep_finite : Cert.Pre_prep_finite.Facts),
    quiescent_Kernel (hKernel := hKernel)
    ∧ quiescent_KernelIdeal (hKernelIdeal := hKernelIdeal)
    ∧ quiescent_ReferenceIdeal (hReferenceIdeal := hReferenceIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelZa (hKernelZa := hKernelZa)
    ∧ quiescent_KernelZaIdeal (hKernelZaIdeal := hKernelZaIdeal)
    ∧ quiescent_ReferenceZaIdeal (hReferenceZaIdeal := hReferenceZaIdeal)
    ∧ quiescent_KernelZb (hKernelZb := hKernelZb)
    ∧ quiescent_KernelZbIdeal (hKernelZbIdeal := hKernelZbIdeal)
    ∧ quiescent_ReferenceZbIdeal (hReferenceZbIdeal := hReferenceZbIdeal)
    ∧ quiescent_KernelZl (hKernelZl := hKernelZl)
    ∧ quiescent_KernelZlIdeal (hKernelZlIdeal := hKernelZlIdeal)
    ∧ quiescent_ReferenceZlIdeal (hReferenceZlIdeal := hReferenceZlIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelFfnSample (hKernelFfnSample := hKernelFfnSample)
    ∧ quiescent_KernelFfnSampleIdeal (hKernelFfnSampleIdeal := hKernelFfnSampleIdeal)
    ∧ quiescent_ReferenceFfnSampleIdeal (hReferenceFfnSampleIdeal := hReferenceFfnSampleIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelNormMem (hKernelNormMem := hKernelNormMem)
    ∧ quiescent_KernelNormMemIdeal (hKernelNormMemIdeal := hKernelNormMemIdeal)
    ∧ quiescent_ReferenceNormMemIdeal (hReferenceNormMemIdeal := hReferenceNormMemIdeal)
    ∧ quiescent_KernelGmlp (hKernelGmlp := hKernelGmlp)
    ∧ quiescent_KernelGmlpIdeal (hKernelGmlpIdeal := hKernelGmlpIdeal)
    ∧ quiescent_ReferenceGmlpIdeal (hReferenceGmlpIdeal := hReferenceGmlpIdeal)
    ∧ quiescent_KernelPost (hKernelPost := hKernelPost)
    ∧ quiescent_KernelPostIdeal (hKernelPostIdeal := hKernelPostIdeal)
    ∧ quiescent_ReferencePostIdeal (hReferencePostIdeal := hReferencePostIdeal)
    ∧ quiescent_KernelPrep (hKernelPrep := hKernelPrep)
    ∧ quiescent_KernelPrepIdeal (hKernelPrepIdeal := hKernelPrepIdeal)
    ∧ quiescent_KernelPrepIdeal_pre_prep_finite (hKernelPrepIdeal := hKernelPrepIdeal) (hPre_prep_finite := hPre_prep_finite)
    ∧ quiescent_ReferencePrepIdeal (hReferencePrepIdeal := hReferencePrepIdeal)
    ∧ quiescent_ReferencePrepIdeal_pre_prep_finite (hReferencePrepIdeal := hReferencePrepIdeal) (hPre_prep_finite := hPre_prep_finite)
    ∧ preserves_Kernel_KernelIdeal
    ∧ algebraic_KernelIdeal_ReferenceIdeal (hKernelIdeal := hKernelIdeal) (hReferenceIdeal := hReferenceIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelZa_KernelZaIdeal
    ∧ algebraic_KernelZaIdeal_ReferenceZaIdeal (hKernelZaIdeal := hKernelZaIdeal) (hReferenceZaIdeal := hReferenceZaIdeal)
    ∧ preserves_KernelZb_KernelZbIdeal
    ∧ algebraic_KernelZbIdeal_ReferenceZbIdeal (hKernelZbIdeal := hKernelZbIdeal) (hReferenceZbIdeal := hReferenceZbIdeal)
    ∧ preserves_KernelZl_KernelZlIdeal
    ∧ algebraic_KernelZlIdeal_ReferenceZlIdeal (hKernelZlIdeal := hKernelZlIdeal) (hReferenceZlIdeal := hReferenceZlIdeal)
    ∧ preserves_KernelOut_KernelOutIdeal
    ∧ algebraic_KernelOutIdeal_ReferenceOutIdeal (hKernelOutIdeal := hKernelOutIdeal) (hReferenceOutIdeal := hReferenceOutIdeal)
    ∧ preserves_KernelQ_KernelQIdeal
    ∧ algebraic_KernelQIdeal_ReferenceQIdeal (hKernelQIdeal := hKernelQIdeal) (hReferenceQIdeal := hReferenceQIdeal)
    ∧ preserves_KernelKv_KernelKvIdeal
    ∧ algebraic_KernelKvIdeal_ReferenceKvIdeal (hKernelKvIdeal := hKernelKvIdeal) (hReferenceKvIdeal := hReferenceKvIdeal)
    ∧ preserves_KernelO_KernelOIdeal
    ∧ algebraic_KernelOIdeal_ReferenceOIdeal (hKernelOIdeal := hKernelOIdeal) (hReferenceOIdeal := hReferenceOIdeal)
    ∧ preserves_KernelFfnSample_KernelFfnSampleIdeal
    ∧ algebraic_KernelFfnSampleIdeal_ReferenceFfnSampleIdeal (hKernelFfnSampleIdeal := hKernelFfnSampleIdeal) (hReferenceFfnSampleIdeal := hReferenceFfnSampleIdeal)
    ∧ preserves_KernelNorm_KernelNormIdeal
    ∧ algebraic_KernelNormIdeal_ReferenceNormIdeal (hKernelNormIdeal := hKernelNormIdeal) (hReferenceNormIdeal := hReferenceNormIdeal)
    ∧ preserves_KernelNormMem_KernelNormMemIdeal
    ∧ algebraic_KernelNormMemIdeal_ReferenceNormMemIdeal (hKernelNormMemIdeal := hKernelNormMemIdeal) (hReferenceNormMemIdeal := hReferenceNormMemIdeal)
    ∧ preserves_KernelGmlp_KernelGmlpIdeal
    ∧ algebraic_KernelGmlpIdeal_ReferenceGmlpIdeal (hKernelGmlpIdeal := hKernelGmlpIdeal) (hReferenceGmlpIdeal := hReferenceGmlpIdeal)
    ∧ preserves_KernelPost_KernelPostIdeal
    ∧ algebraic_KernelPostIdeal_ReferencePostIdeal (hKernelPostIdeal := hKernelPostIdeal) (hReferencePostIdeal := hReferencePostIdeal)
    ∧ preserves_KernelPrep_KernelPrepIdeal
    ∧ algebraic_KernelPrepIdeal_ReferencePrepIdeal_pre_prep_finite (hKernelPrepIdeal := hKernelPrepIdeal) (hReferencePrepIdeal := hReferencePrepIdeal) (hPre_prep_finite := hPre_prep_finite)
-- ==== Pre_prep_finite.lean ====
abbrev S4x4096x6144 : Shape := ⟨3, ![4, 4096, 6144]⟩
abbrev S4x4096x768 : Shape := ⟨3, ![4, 4096, 768]⟩
abbrev S1x6912 : Shape := ⟨2, ![1, 6912]⟩
abbrev S1x2x2048 : Shape := ⟨3, ![1, 2, 2048]⟩
abbrev S1x2x128x2048 : Shape := ⟨4, ![1, 2, 128, 2048]⟩
abbrev S1x512x2048 : Shape := ⟨3, ![1, 512, 2048]⟩
abbrev S1x2048 : Shape := ⟨2, ![1, 2048]⟩
abbrev S1x32x64 : Shape := ⟨3, ![1, 32, 64]⟩
abbrev S_ : Shape := ⟨0, ![]⟩

class Facts : Prop where
  bcast_S_S4x4096x6144 : S_.BroadcastsInDim S4x4096x6144 (![] : Fin 0 → Fin S4x4096x6144.rank)
  reducesTo_S4x4096x6144_S_d0_1_2 : S4x4096x6144.ReducesTo [0, 1, 2] S_
  h_S_ : 0 < S_.numel
  bcast_S_S4x4096x768 : S_.BroadcastsInDim S4x4096x768 (![] : Fin 0 → Fin S4x4096x768.rank)
  reducesTo_S4x4096x768_S_d0_1_2 : S4x4096x768.ReducesTo [0, 1, 2] S_
  bcast_S_S1x6912 : S_.BroadcastsInDim S1x6912 (![] : Fin 0 → Fin S1x6912.rank)
  reducesTo_S1x6912_S_d0_1 : S1x6912.ReducesTo [0, 1] S_
  bcast_S_S1x2048 : S_.BroadcastsInDim S1x2048 (![] : Fin 0 → Fin S1x2048.rank)
  reducesTo_S1x2048_S_d0_1 : S1x2048.ReducesTo [0, 1] S_
  bcast_S_S1x32x64 : S_.BroadcastsInDim S1x32x64 (![] : Fin 0 → Fin S1x32x64.rank)
  reducesTo_S1x32x64_S_d0_1_2 : S1x32x64.ReducesTo [0, 1, 2] S_

variable [Facts]

def fn_part1 {F : FTy → Type} [FloatOps F] (main_arg10 : FVec F S1x32x64 .f32) (main_v14 : IVec S_ 1) (main_v15 : FVec F S1x2048 .f32) (main_cst_5 : FVec F S_ .f32) : IVec S_ 1 :=
  let main_v16 : FVec F S1x2048 .f32 := broadcastInDim S1x2048 ![] bcast_S_S1x2048 main_cst_5
  let main_v17 : IVec S1x2048 1 := cmpf .olt main_v15 main_v16
  let main_c_6 : IVec S_ 1 := constantI S_ 1 1#1
  let main_v18 : IVec S_ 1 := (fun x v => Host.reduce IntOp.andi x v reducesTo_S1x2048_S_d0_1 h_S_) main_v17 main_c_6
  let main_v19 : IVec S_ 1 := andi main_v14 main_v18
  let main_v20 : FVec F S1x32x64 .f32 := Host.absf main_arg10
  let main_cst_7 : FVec F S_ .f32 := constant S_ .f32 0x7F800000#32
  let main_v21 : FVec F S1x32x64 .f32 := broadcastInDim S1x32x64 ![] bcast_S_S1x32x64 main_cst_7
  let main_v22 : IVec S1x32x64 1 := cmpf .olt main_v20 main_v21
  let main_c_8 : IVec S_ 1 := constantI S_ 1 1#1
  let main_v23 : IVec S_ 1 := (fun x v => Host.reduce IntOp.andi x v reducesTo_S1x32x64_S_d0_1_2 h_S_) main_v22 main_c_8
  let main_v24 : IVec S_ 1 := andi main_v19 main_v23
  main_v24

def fn {F : FTy → Type} [FloatOps F] (main_arg0 : FVec F S4x4096x6144 .f32) (main_arg1 : FVec F S4x4096x768 .f32) (main_arg2 : FVec F S1x6912 .f32) (main_arg3 : FVec F S1x2x2048 .f32) (main_arg4 : FVec F S1x2x128x2048 .f32) (main_arg5 : FVec F S1x2x2048 .f32) (main_arg6 : FVec F S1x2x128x2048 .f32) (main_arg7 : FVec F S1x512x2048 .f32) (main_arg8 : FVec F S1x2048 .f32) (main_arg9 : FVec F S1x2048 .f32) (main_arg10 : FVec F S1x32x64 .f32) : IVec S_ 1 :=
  let main_v0 : FVec F S4x4096x6144 .f32 := Host.absf main_arg0
  let main_cst : FVec F S_ .f32 := constant S_ .f32 0x7F800000#32
  let main_v1 : FVec F S4x4096x6144 .f32 := broadcastInDim S4x4096x6144 ![] bcast_S_S4x4096x6144 main_cst
  let main_v2 : IVec S4x4096x6144 1 := cmpf .olt main_v0 main_v1
  let main_c : IVec S_ 1 := constantI S_ 1 1#1
  let main_v3 : IVec S_ 1 := (fun x v => Host.reduce IntOp.andi x v reducesTo_S4x4096x6144_S_d0_1_2 h_S_) main_v2 main_c
  let main_c_0 : IVec S_ 1 := constantI S_ 1 1#1
  let main_v4 : IVec S_ 1 := andi main_c_0 main_v3
  let main_v5 : FVec F S4x4096x768 .f32 := Host.absf main_arg1
  let main_cst_1 : FVec F S_ .f32 := constant S_ .f32 0x7F800000#32
  let main_v6 : FVec F S4x4096x768 .f32 := broadcastInDim S4x4096x768 ![] bcast_S_S4x4096x768 main_cst_1
  let main_v7 : IVec S4x4096x768 1 := cmpf .olt main_v5 main_v6
  let main_c_2 : IVec S_ 1 := constantI S_ 1 1#1
  let main_v8 : IVec S_ 1 := (fun x v => Host.reduce IntOp.andi x v reducesTo_S4x4096x768_S_d0_1_2 h_S_) main_v7 main_c_2
  let main_v9 : IVec S_ 1 := andi main_v4 main_v8
  let main_v10 : FVec F S1x6912 .f32 := Host.absf main_arg2
  let main_cst_3 : FVec F S_ .f32 := constant S_ .f32 0x7F800000#32
  let main_v11 : FVec F S1x6912 .f32 := broadcastInDim S1x6912 ![] bcast_S_S1x6912 main_cst_3
  let main_v12 : IVec S1x6912 1 := cmpf .olt main_v10 main_v11
  let main_c_4 : IVec S_ 1 := constantI S_ 1 1#1
  let main_v13 : IVec S_ 1 := (fun x v => Host.reduce IntOp.andi x v reducesTo_S1x6912_S_d0_1 h_S_) main_v12 main_c_4
  let main_v14 : IVec S_ 1 := andi main_v9 main_v13
  let main_v15 : FVec F S1x2048 .f32 := Host.absf main_arg9
  let main_cst_5 : FVec F S_ .f32 := constant S_ .f32 0x7F800000#32
  fn_part1 (F := F) main_arg10 main_v14 main_v15 main_cst_5
-- ==== Kernel.lean ====
abbrev S4x4096x4096 : Shape := ⟨3, ![4, 4096, 4096]⟩
abbrev S4x256x8192 : Shape := ⟨3, ![4, 256, 8192]⟩
abbrev S1x1024x4096 : Shape := ⟨3, ![1, 1024, 4096]⟩
abbrev S1x256x8192 : Shape := ⟨3, ![1, 256, 8192]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S1024x256 : Shape := ⟨2, ![1024, 256]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x4096, .bf16⟩
  | .hbm, ⟨1, _⟩ => ⟨S4x256x8192, .bf16⟩
  | .hbm, ⟨2, _⟩ => ⟨S4x4096x4096, .bf16⟩
  | .local _ .vmem, ⟨0, _⟩ => ⟨S1x1024x4096, .bf16⟩
  | .local _ .vmem, ⟨1, _⟩ => ⟨S1x1024x4096, .bf16⟩
  | .local _ .vmem, ⟨2, _⟩ => ⟨S1x256x8192, .bf16⟩
  | .local _ .vmem, ⟨3, _⟩ => ⟨S1x256x8192, .bf16⟩
  | .local _ .vmem, ⟨4, _⟩ => ⟨S1x1024x4096, .bf16⟩
  | .local _ .vmem, ⟨5, _⟩ => ⟨S1x1024x4096, .bf16⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x4096x4096 : Shape := ⟨3, ![4, 4096, 4096]⟩
abbrev S4x256x8192 : Shape := ⟨3, ![4, 256, 8192]⟩
abbrev S4x4096x4x1024 : Shape := ⟨4, ![4, 4096, 4, 1024]⟩
abbrev S4x256x4096 : Shape := ⟨3, ![4, 256, 4096]⟩
abbrev S4x256x4x1024 : Shape := ⟨4, ![4, 256, 4, 1024]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x1024x4096 : Shape := ⟨4, ![4, 4, 1024, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4x256x8192, .bf16⟩
  | .hbm, ⟨2, _⟩ => ⟨S4x4096x4096, .f32⟩
  | .hbm, ⟨3, _⟩ => ⟨S4x4096x4x1024, .f32⟩
  | .hbm, ⟨4, _⟩ => ⟨S4x256x8192, .f32⟩
  | .hbm, ⟨5, _⟩ => ⟨S4x256x4096, .f32⟩
  | .hbm, ⟨6, _⟩ => ⟨S4x256x4096, .f32⟩
  | .hbm, ⟨7, _⟩ => ⟨S4x256x4x1024, .f32⟩
  | .hbm, ⟨8, _⟩ => ⟨S4x256x4x1024, .f32⟩
  | .hbm, ⟨9, _⟩ => ⟨S4x4x4096x256, .f32⟩
  | .hbm, ⟨10, _⟩ => ⟨S_, .f32⟩
  | .hbm, ⟨11, _⟩ => ⟨S4x4x4096x256, .f32⟩
  | .hbm, ⟨12, _⟩ => ⟨S4x4x4096x256, .f32⟩
  | .hbm, ⟨13, _⟩ => ⟨S_, .f32⟩
  | .hbm, ⟨14, _⟩ => ⟨S4x4x4096, .f32⟩
  | .hbm, ⟨15, _⟩ => ⟨S_, .f32⟩
  | .hbm, ⟨16, _⟩ => ⟨S4x4x4096, .f32⟩
  | .hbm, ⟨17, _⟩ => ⟨S4x4x4096, .f32⟩
  | .hbm, ⟨18, _⟩ => ⟨S4x4x4096x1, .f32⟩
  | .hbm, ⟨19, _⟩ => ⟨S4x4x4096x256, .f32⟩
  | .hbm, ⟨20, _⟩ => ⟨S4x4x4096x256, .f32⟩
  | .hbm, ⟨21, _⟩ => ⟨S4x4x4096x256, .f32⟩
  | .hbm, ⟨22, _⟩ => ⟨S_, .f32⟩
  | .hbm, ⟨23, _⟩ => ⟨S4x4x4096, .f32⟩
  | .hbm, ⟨24, _⟩ => ⟨S4x4x4096x1, .f32⟩
  | .hbm, ⟨25, _⟩ => ⟨S4x4x4096x256, .f32⟩
  | .hbm, ⟨26, _⟩ => ⟨S4x4x4096x256, .f32⟩
  | .hbm, ⟨27, _⟩ => ⟨S4x4x1024x4096, .f32⟩
  | .hbm, ⟨28, _⟩ => ⟨S4x4096x4x1024, .f32⟩
  | .hbm, ⟨29, _⟩ => ⟨S4x4096x4096, .f32⟩
  | .hbm, ⟨30, _⟩ => ⟨S4x4096x4096, .bf16⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== KernelFfn.lean ====
abbrev S4x4096x4096 : Shape := ⟨3, ![4, 4096, 4096]⟩
abbrev S1x4096 : Shape := ⟨2, ![1, 4096]⟩
abbrev S4096 : Shape := ⟨1, ![4096]⟩
abbrev S1x4096x22016 : Shape := ⟨3, ![1, 4096, 22016]⟩
abbrev S1x3x22016 : Shape := ⟨3, ![1, 3, 22016]⟩
abbrev S1x22016 : Shape := ⟨2, ![1, 22016]⟩
abbrev S1x11008x4096 : Shape := ⟨3, ![1, 11008, 4096]⟩
abbrev S4096x22016 : Shape := ⟨2, ![4096, 22016]⟩
abbrev S3x22016 : Shape := ⟨2, ![3, 22016]⟩
abbrev S22016 : Shape := ⟨1, ![22016]⟩
abbrev S11008x4096 : Shape := ⟨2, ![11008, 4096]⟩
abbrev S1x1024x4096 : Shape := ⟨3, ![1, 1024, 4096]⟩
abbrev S1x16x4096 : Shape := ⟨3, ![1, 16, 4096]⟩
abbrev S4096x256 : Shape := ⟨2, ![4096, 256]⟩
abbrev S3x256 : Shape := ⟨2, ![3, 256]⟩
abbrev S1x256 : Shape := ⟨2, ![1, 256]⟩
abbrev S256x4096 : Shape := ⟨2, ![256, 4096]⟩
abbrev S1056x4096 : Shape := ⟨2, ![1056, 4096]⟩
abbrev S16x4096 : Shape := ⟨2, ![16, 4096]⟩
abbrev S16 : Shape := ⟨1, ![16]⟩
abbrev S16x1 : Shape := ⟨2, ![16, 1]⟩
abbrev S1x128x4096 : Shape := ⟨3, ![1, 128, 4096]⟩
abbrev S128x4096 : Shape := ⟨2, ![128, 4096]⟩
abbrev S128 : Shape := ⟨1, ![128]⟩
abbrev S128x1 : Shape := ⟨2, ![128, 1]⟩
abbrev S1056x256 : Shape := ⟨2, ![1056, 256]⟩
abbrev S1024x256 : Shape := ⟨2, ![1024, 256]⟩
abbrev S1024x4096 : Shape := ⟨2, ![1024, 4096]⟩

abbrev nBuf : Space → Nat
  | .hbm => 18
  | .vmem => 23
  | .smem => 0
  | _ => 0

abbrev bufTy : (tb : Table) → Fin (tcTables nBuf tb) → BufTy
  | .hbm, ⟨0, _⟩ => ⟨S4x4096x4096, .f32⟩
  | .hbm, ⟨1, _⟩ => ⟨S1x4096, .f32⟩
  | .hbm, ⟨2, _⟩ => ⟨S4096, .f32⟩
  | .hbm, ⟨3, _⟩ => ⟨S1x4096x22016, .f32⟩
  | .hbm, ⟨4, _⟩ => ⟨S1x3x22016, .f32⟩
  | .hbm, ⟨5, _⟩ => ⟨S1x22016, .f32⟩
  | .hbm, ⟨6, _⟩ => ⟨S1x11008x4096, .f32⟩
  | .hbm, ⟨7, _⟩ => ⟨S4096, .f32⟩
  | .hbm, ⟨8, _⟩ => ⟨S4096x22016, .f32⟩
  | .hbm, ⟨9, _⟩ => ⟨S4096x22016, .bf16⟩
  | .hbm, ⟨10, _⟩ => ⟨S3x22016, .f32⟩
  | .hbm, ⟨11, _⟩ => ⟨S22016, .f32⟩
  | .hbm, ⟨12, _⟩ => ⟨S11008x4096, .f32⟩
  | .hbm, ⟨13, _⟩ => ⟨S11008x4096, .bf16⟩
  | .hbm, ⟨14, _⟩ => ⟨S1x22016, .f32⟩
  | .hbm, ⟨15, _⟩ => ⟨S1x4096, .f32⟩
  | .hbm, ⟨16, _⟩ => ⟨S1x4096, .f32⟩
  | .hbm, ⟨17, _⟩ => ⟨S4x4096x4096, .f32⟩
  | .local _ .vmem, ⟨0, _⟩ => ⟨S1x1024x4096, .f32⟩
  | .local _ .vmem, ⟨1, _⟩ => ⟨S1x16x4096, .f32⟩
  | .local _ .vmem, ⟨2, _⟩ => ⟨S1x16x4096, .f32⟩
  | .local _ .vmem, ⟨3, _⟩ => ⟨S1x16x4096, .f32⟩
  | .local _ .vmem, ⟨4, _⟩ => ⟨S1x16x4096, .f32⟩
  | .local _ .vmem, ⟨5, _⟩ => ⟨S1x4096, .f32⟩
  | .local _ .vmem, ⟨6, _⟩ => ⟨S1x4096, .f32⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S256x4096, .bf16⟩
  | .local _ .vmem, ⟨20, _⟩ => ⟨S256x4096, .bf16⟩
  | .local _ .vmem, ⟨21, _⟩ => ⟨S1x1024x4096, .f32⟩
  | .local _ .vmem, ⟨22, _⟩ => ⟨S1056x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_scratch0 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨3, ![4, 4, 43], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_46 : BitVec 32 := 0#32
  let c8_i32 : BitVec 32 := 8#32
  let v113 : BitVec 32 := Scalar.addi c0_i32_46 c8_i32
  let c1_i32_47 : BitVec 32 := 1#32
  ⟨c0_i32_46, v113, c1_i32_47⟩
def k0_mult1 (k0_t1 : Fin k0_t1_loop.trips) : BitVec 32 :=
  let c0_i32_46 : BitVec 32 := 0#32
  let c1_i32_47 : BitVec 32 := 1#32
  let arg17 : BitVec 32 := Scf.iv c0_i32_46 c1_i32_47 k0_t1
  let c128_i32 : BitVec 32 := 128#32
  let v114 : BitVec 32 := Scalar.muli arg17 c128_i32
  v114
def k0_off1 (k0_t1 : Fin k0_t1_loop.trips) : Fin 3 → Nat :=
  let c0_49 : Index := 0#32
  let c0_i32_46 : BitVec 32 := 0#32
  let c1_i32_47 : BitVec 32 := 1#32
  let arg17 : BitVec 32 := Scf.iv c0_i32_46 c1_i32_47 k0_t1
  let c128_i32 : BitVec 32 := 128#32
  let v114 : BitVec 32 := Scalar.muli arg17 c128_i32
  let v115 : BitVec 32 := v114
  let v116 : Index := Scalar.indexCast v115
  let c0_50 : Index := 0#32
  ![0, v116.toNat, 0]
def k0_off2 (k0_t1 : Fin k0_t1_loop.trips) : Fin 2 → Nat :=
  let c16_i32 : BitVec 32 := 16#32
  let c0_i32_46 : BitVec 32 := 0#32
  let c1_i32_47 : BitVec 32 := 1#32
  let arg17 : BitVec 32 := Scf.iv c0_i32_46 c1_i32_47 k0_t1
  let c128_i32 : BitVec 32 := 128#32
  let v114 : BitVec 32 := Scalar.muli arg17 c128_i32
  let v115 : BitVec 32 := v114
  let v132 : BitVec 32 := Scalar.addi c16_i32 v115
  let v133 : Index := Scalar.indexCast v132
  let c0_54 : Index := 0#32
  ![v133.toNat, 0]
def k0_cond2 (i : grid0.Coords) : BitVec 1 :=
  let arg2 : BitVec 32 := BitVec.ofNat 32 (i 2).val
  let c42_i32 : BitVec 32 := 42#32
  let v67 : BitVec 1 := Scalar.cmpi .eq arg2 c42_i32
  let v68 : BitVec 32 := Scalar.extui v67
  let c0_i32_26 : BitVec 32 := 0#32
  let v69 : BitVec 1 := Scalar.cmpi .ne v68 c0_i32_26
  v69

@[reducible] def k0_t2_loop : Scf.Loop 32 :=
  let c0_i32_29 : BitVec 32 := 0#32
  let c8_i32 : BitVec 32 := 8#32
  let v72 : BitVec 32 := Scalar.addi c0_i32_29 c8_i32
  let c1_i32_30 : BitVec 32 := 1#32
  ⟨c0_i32_29, v72, c1_i32_30⟩
def k0_mult2 (k0_t2 : Fin k0_t2_loop.trips) : BitVec 32 :=
  let c0_i32_29 : BitVec 32 := 0#32
  let c1_i32_30 : BitVec 32 := 1#32
  let arg17 : BitVec 32 := Scf.iv c0_i32_29 c1_i32_30 k0_t2
  let c128_i32 : BitVec 32 := 128#32
  let v73 : BitVec 32 := Scalar.muli arg17 c128_i32
  v73
def k0_off3 (k0_t2 : Fin k0_t2_loop.trips) : Fin 3 → Nat :=
  let c0_32 : Index := 0#32
  let c0_i32_29 : BitVec 32 := 0#32
  let c1_i32_30 : BitVec 32 := 1#32
  let arg17 : BitVec 32 := Scf.iv c0_i32_29 c1_i32_30 k0_t2
  let c128_i32 : BitVec 32 := 128#32
  let v73 : BitVec 32 := Scalar.muli arg17 c128_i32
  let v74 : BitVec 32 := v73
  let v75 : Index := Scalar.indexCast v74
  let c0_33 : Index := 0#32
  ![0, v75.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.addi c43_i32 arg2
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.addi c43_i32 arg2
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.addi c43_i32 arg2
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1x1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 1 → Memref sig .tc .vmem S1x1024x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true, false]
-- ==== KernelFfnIdeal.lean ====
abbrev S4x4096x4096 : Shape := ⟨3, ![4, 4096, 4096]⟩
abbrev S1x4096 : Shape := ⟨2, ![1, 4096]⟩
abbrev S4096 : Shape := ⟨1, ![4096]⟩
abbrev S1x4096x22016 : Shape := ⟨3, ![1, 4096, 22016]⟩
abbrev S1x3x22016 : Shape := ⟨3, ![1, 3, 22016]⟩
abbrev S1x22016 : Shape := ⟨2, ![1, 22016]⟩
abbrev S1x11008x4096 : Shape := ⟨3, ![1, 11008, 4096]⟩
abbrev S4096x22016 : Shape := ⟨2, ![4096, 22016]⟩
abbrev S3x22016 : Shape := ⟨2, ![3, 22016]⟩
abbrev S22016 : Shape := ⟨1, ![22016]⟩
abbrev S11008x4096 : Shape := ⟨2, ![11008, 4096]⟩
abbrev S1x1024x4096 : Shape := ⟨3, ![1, 1024, 4096]⟩
abbrev S1x16x4096 : Shape := ⟨3, ![1, 16, 4096]⟩
abbrev S4096x256 : Shape := ⟨2, ![4096, 256]⟩
abbrev S3x256 : Shape := ⟨2, ![3, 256]⟩
abbrev S1x256 : Shape := ⟨2, ![1, 256]⟩
abbrev S256x4096 : Shape := ⟨2, ![256, 4096]⟩
abbrev S1056x4096 : Shape := ⟨2, ![1056, 4096]⟩
abbrev S16x4096 : Shape := ⟨2, ![16, 4096]⟩
abbrev S16 : Shape := ⟨1, ![16]⟩
abbrev S16x1 : Shape := ⟨2, ![16, 1]⟩
abbrev S1x128x4096 : Shape := ⟨3, ![1, 128, 4096]⟩
abbrev S128x4096 : Shape := ⟨2, ![128, 4096]⟩
abbrev S128 : Shape := ⟨1, ![128]⟩
abbrev S128x1 : Shape := ⟨2, ![128, 1]⟩
abbrev S1056x256 : Shape := ⟨2, ![1056, 256]⟩
abbrev S1024x256 : Shape := ⟨2, ![1024, 256]⟩
abbrev S1024x4096 : Shape := ⟨2, ![1024, 4096]⟩

abbrev nBuf : Space → Nat
  | .hbm => 18
  | .vmem => 23
  | .smem => 0
  | _ => 0

abbrev bufTy : (tb : Table) → Fin (tcTables nBuf tb) → BufTy
  | .hbm, ⟨0, _⟩ => ⟨S4x4096x4096, .f32⟩
  | .hbm, ⟨1, _⟩ => ⟨S1x4096, .f32⟩
  | .hbm, ⟨2, _⟩ => ⟨S4096, .f32⟩
  | .hbm, ⟨3, _⟩ => ⟨S1x4096x22016, .f32⟩
  | .hbm, ⟨4, _⟩ => ⟨S1x3x22016, .f32⟩
  | .hbm, ⟨5, _⟩ => ⟨S1x22016, .f32⟩
  | .hbm, ⟨6, _⟩ => ⟨S1x11008x4096, .f32⟩
  | .hbm, ⟨7, _⟩ => ⟨S4096, .f32⟩
  | .hbm, ⟨8, _⟩ => ⟨S4096x22016, .f32⟩
  | .hbm, ⟨9, _⟩ => ⟨S4096x22016, .bf16⟩
  | .hbm, ⟨10, _⟩ => ⟨S3x22016, .f32⟩
  | .hbm, ⟨11, _⟩ => ⟨S22016, .f32⟩
  | .hbm, ⟨12, _⟩ => ⟨S11008x4096, .f32⟩
  | .hbm, ⟨13, _⟩ => ⟨S11008x4096, .bf16⟩
  | .hbm, ⟨14, _⟩ => ⟨S1x22016, .f32⟩
  | .hbm, ⟨15, _⟩ => ⟨S1x4096, .f32⟩
  | .hbm, ⟨16, _⟩ => ⟨S1x4096, .f32⟩
  | .hbm, ⟨17, _⟩ => ⟨S4x4096x4096, .f32⟩
  | .local _ .vmem, ⟨0, _⟩ => ⟨S1x1024x4096, .f32⟩
  | .local _ .vmem, ⟨1, _⟩ => ⟨S1x16x4096, .f32⟩
  | .local _ .vmem, ⟨2, _⟩ => ⟨S1x16x4096, .f32⟩
  | .local _ .vmem, ⟨3, _⟩ => ⟨S1x16x4096, .f32⟩
  | .local _ .vmem, ⟨4, _⟩ => ⟨S1x16x4096, .f32⟩
  | .local _ .vmem, ⟨5, _⟩ => ⟨S1x4096, .f32⟩
  | .local _ .vmem, ⟨6, _⟩ => ⟨S1x4096, .f32⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S256x4096, .bf16⟩
  | .local _ .vmem, ⟨20, _⟩ => ⟨S256x4096, .bf16⟩
  | .local _ .vmem, ⟨21, _⟩ => ⟨S1x1024x4096, .f32⟩
  | .local _ .vmem, ⟨22, _⟩ => ⟨S1056x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_scratch0 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨3, ![4, 4, 43], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_46 : BitVec 32 := 0#32
  let c8_i32 : BitVec 32 := 8#32
  let v113 : BitVec 32 := Scalar.addi c0_i32_46 c8_i32
  let c1_i32_47 : BitVec 32 := 1#32
  ⟨c0_i32_46, v113, c1_i32_47⟩
def k0_mult1 (k0_t1 : Fin k0_t1_loop.trips) : BitVec 32 :=
  let c0_i32_46 : BitVec 32 := 0#32
  let c1_i32_47 : BitVec 32 := 1#32
  let arg17 : BitVec 32 := Scf.iv c0_i32_46 c1_i32_47 k0_t1
  let c128_i32 : BitVec 32 := 128#32
  let v114 : BitVec 32 := Scalar.muli arg17 c128_i32
  v114
def k0_off1 (k0_t1 : Fin k0_t1_loop.trips) : Fin 3 → Nat :=
  let c0_49 : Index := 0#32
  let c0_i32_46 : BitVec 32 := 0#32
  let c1_i32_47 : BitVec 32 := 1#32
  let arg17 : BitVec 32 := Scf.iv c0_i32_46 c1_i32_47 k0_t1
  let c128_i32 : BitVec 32 := 128#32
  let v114 : BitVec 32 := Scalar.muli arg17 c128_i32
  let v115 : BitVec 32 := v114
  let v116 : Index := Scalar.indexCast v115
  let c0_50 : Index := 0#32
  ![0, v116.toNat, 0]
def k0_off2 (k0_t1 : Fin k0_t1_loop.trips) : Fin 2 → Nat :=
  let c16_i32 : BitVec 32 := 16#32
  let c0_i32_46 : BitVec 32 := 0#32
  let c1_i32_47 : BitVec 32 := 1#32
  let arg17 : BitVec 32 := Scf.iv c0_i32_46 c1_i32_47 k0_t1
  let c128_i32 : BitVec 32 := 128#32
  let v114 : BitVec 32 := Scalar.muli arg17 c128_i32
  let v115 : BitVec 32 := v114
  let v132 : BitVec 32 := Scalar.addi c16_i32 v115
  let v133 : Index := Scalar.indexCast v132
  let c0_54 : Index := 0#32
  ![v133.toNat, 0]
def k0_cond2 (i : grid0.Coords) : BitVec 1 :=
  let arg2 : BitVec 32 := BitVec.ofNat 32 (i 2).val
  let c42_i32 : BitVec 32 := 42#32
  let v67 : BitVec 1 := Scalar.cmpi .eq arg2 c42_i32
  let v68 : BitVec 32 := Scalar.extui v67
  let c0_i32_26 : BitVec 32 := 0#32
  let v69 : BitVec 1 := Scalar.cmpi .ne v68 c0_i32_26
  v69

@[reducible] def k0_t2_loop : Scf.Loop 32 :=
  let c0_i32_29 : BitVec 32 := 0#32
  let c8_i32 : BitVec 32 := 8#32
  let v72 : BitVec 32 := Scalar.addi c0_i32_29 c8_i32
  let c1_i32_30 : BitVec 32 := 1#32
  ⟨c0_i32_29, v72, c1_i32_30⟩
def k0_mult2 (k0_t2 : Fin k0_t2_loop.trips) : BitVec 32 :=
  let c0_i32_29 : BitVec 32 := 0#32
  let c1_i32_30 : BitVec 32 := 1#32
  let arg17 : BitVec 32 := Scf.iv c0_i32_29 c1_i32_30 k0_t2
  let c128_i32 : BitVec 32 := 128#32
  let v73 : BitVec 32 := Scalar.muli arg17 c128_i32
  v73
def k0_off3 (k0_t2 : Fin k0_t2_loop.trips) : Fin 3 → Nat :=
  let c0_32 : Index := 0#32
  let c0_i32_29 : BitVec 32 := 0#32
  let c1_i32_30 : BitVec 32 := 1#32
  let arg17 : BitVec 32 := Scf.iv c0_i32_29 c1_i32_30 k0_t2
  let c128_i32 : BitVec 32 := 128#32
  let v73 : BitVec 32 := Scalar.muli arg17 c128_i32
  let v74 : BitVec 32 := v73
  let v75 : Index := Scalar.indexCast v74
  let c0_33 : Index := 0#32
  ![0, v75.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.addi c43_i32 arg2
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.addi c43_i32 arg2
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.addi c43_i32 arg2
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1x1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 1 → Memref sig .tc .vmem S1x1024x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true, false]
-- ==== ReferenceFfnIdeal.lean ====
abbrev S4x4096x4096 : Shape := ⟨3, ![4, 4096, 4096]⟩
abbrev S1x4096 : Shape := ⟨2, ![1, 4096]⟩
abbrev S4096 : Shape := ⟨1, ![4096]⟩
abbrev S1x4096x22016 : Shape := ⟨3, ![1, 4096, 22016]⟩
abbrev S1x3x22016 : Shape := ⟨3, ![1, 3, 22016]⟩
abbrev S1x22016 : Shape := ⟨2, ![1, 22016]⟩
abbrev S1x11008x4096 : Shape := ⟨3, ![1, 11008, 4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S4096x22016 : Shape := ⟨2, ![4096, 22016]⟩
abbrev S4x4096x22016 : Shape := ⟨3, ![4, 4096, 22016]⟩
abbrev S4x4098x22016 : Shape := ⟨3, ![4, 4098, 22016]⟩
abbrev S3x22016 : Shape := ⟨2, ![3, 22016]⟩
abbrev S22016 : Shape := ⟨1, ![22016]⟩
abbrev S1x1x22016 : Shape := ⟨3, ![1, 1, 22016]⟩
abbrev S4x4096x11008 : Shape := ⟨3, ![4, 4096, 11008]⟩
abbrev S11008x4096 : Shape := ⟨2, ![11008, 4096]⟩

abbrev nBuf : Space → Nat
  | .hbm => 85
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096, .f32⟩
  | .hbm, ⟨2, _⟩ => ⟨S4096, .f32⟩
  | .hbm, ⟨3, _⟩ => ⟨S1x4096x22016, .f32⟩
  | .hbm, ⟨4, _⟩ => ⟨S1x3x22016, .f32⟩
  | .hbm, ⟨5, _⟩ => ⟨S1x22016, .f32⟩
  | .hbm, ⟨6, _⟩ => ⟨S1x11008x4096, .f32⟩
  | .hbm, ⟨7, _⟩ => ⟨S4096, .f32⟩
  | .hbm, ⟨8, _⟩ => ⟨S4x4096x4096, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x4096, .f32⟩
  | .hbm, ⟨20, _⟩ => ⟨S4x4096x4096, .f32⟩
  | .hbm, ⟨21, _⟩ => ⟨S1x1x4096, .f32⟩
  | .hbm, ⟨22, _⟩ => ⟨S4x4096x4096, .f32⟩
  | .hbm, ⟨23, _⟩ => ⟨S4x4096x4096, .f32⟩
  | .hbm, ⟨24, _⟩ => ⟨S4096x22016, .f32⟩
  | .hbm, ⟨25, _⟩ => ⟨S4x4096x22016, .f32⟩
  | .hbm, ⟨26, _⟩ => ⟨S_, .i32⟩
  | .hbm, ⟨27, _⟩ => ⟨S_, .f32⟩
  | .hbm, ⟨28, _⟩ => ⟨S4x4098x22016, .f32⟩
  | .hbm, ⟨29, _⟩ => ⟨S3x22016, .f32⟩
  | .hbm, ⟨30, _⟩ => ⟨S1x22016, .f32⟩
  | .hbm, ⟨31, _⟩ => ⟨S22016, .f32⟩
  | .hbm, ⟨32, _⟩ => ⟨S4x4096x22016, .f32⟩
  | .hbm, ⟨33, _⟩ => ⟨S1x1x22016, .f32⟩
  | .hbm, ⟨34, _⟩ => ⟨S4x4096x22016, .f32⟩
  | .hbm, ⟨35, _⟩ => ⟨S4x4096x22016, .f32⟩
  | .hbm, ⟨36, _⟩ => ⟨S1x22016, .f32⟩
  | .hbm, ⟨37, _⟩ => ⟨S22016, .f32⟩
  | .hbm, ⟨38, _⟩ => ⟨S4x4096x22016, .f32⟩
  | .hbm, ⟨39, _⟩ => ⟨S1x1x22016, .f32⟩
  | .hbm, ⟨40, _⟩ => ⟨S4x4096x22016, .f32⟩
  | .hbm, ⟨41, _⟩ => ⟨S4x4096x22016, .f32⟩
  | .hbm, ⟨42, _⟩ => ⟨S4x4096x22016, .f32⟩
  | .hbm, ⟨43, _⟩ => ⟨S1x22016, .f32⟩
  | .hbm, ⟨44, _⟩ => ⟨S22016, .f32⟩
  | .hbm, ⟨45, _⟩ => ⟨S4x4096x22016, .f32⟩
  | .hbm, ⟨46, _⟩ => ⟨S1x1x22016, .f32⟩
  | .hbm, ⟨47, _⟩ => ⟨S4x4096x22016, .f32⟩
  | .hbm, ⟨48, _⟩ => ⟨S4x4096x22016, .f32⟩
  | .hbm, ⟨49, _⟩ => ⟨S4x4096x22016, .f32⟩
  | .hbm, ⟨50, _⟩ => ⟨S22016, .f32⟩
  | .hbm, ⟨51, _⟩ => ⟨S1x1x22016, .f32⟩
  | .hbm, ⟨52, _⟩ => ⟨S4x4096x22016, .f32⟩
  | .hbm, ⟨53, _⟩ => ⟨S4x4096x22016, .f32⟩
  | .hbm, ⟨54, _⟩ => ⟨S4x4096x11008, .f32⟩
  | .hbm, ⟨55, _⟩ => ⟨S4x4096x11008, .f32⟩
  | .hbm, ⟨56, _⟩ => ⟨S4x4096x11008, .f32⟩
  | .hbm, ⟨57, _⟩ => ⟨S4x4096x11008, .f32⟩
  | .hbm, ⟨58, _⟩ => ⟨S_, .f32⟩
  | .hbm, ⟨59, _⟩ => ⟨S4x4096x11008, .f32⟩
  | .hbm, ⟨60, _⟩ => ⟨S4x4096x11008, .f32⟩
  | .hbm, ⟨61, _⟩ => ⟨S_, .f32⟩
  | .hbm, ⟨62, _⟩ => ⟨S4x4096x11008, .f32⟩
  | .hbm, ⟨63, _⟩ => ⟨S4x4096x11008, .f32⟩
  | .hbm, ⟨64, _⟩ => ⟨S4x4096x11008, .f32⟩
  | .hbm, ⟨65, _⟩ => ⟨S4x4096x11008, .f32⟩
  | .hbm, ⟨66, _⟩ => ⟨S11008x4096, .f32⟩
  | .hbm, ⟨67, _⟩ => ⟨S4x4096x4096, .f32⟩
  | .hbm, ⟨68, _⟩ => ⟨S4x4096x4096, .f32⟩
  | .hbm, ⟨69, _⟩ => ⟨S4x4096x4096, .f32⟩
  | .hbm, ⟨70, _⟩ => ⟨S_, .f32⟩
  | .hbm, ⟨71, _⟩ => ⟨S4x4096, .f32⟩
  | .hbm, ⟨72, _⟩ => ⟨S4x4096x1, .f32⟩
  | .hbm, ⟨73, _⟩ => ⟨S_, .f32⟩
  | .hbm, ⟨74, _⟩ => ⟨S4x4096x1, .f32⟩
  | .hbm, ⟨75, _⟩ => ⟨S4x4096x1, .f32⟩
  | .hbm, ⟨76, _⟩ => ⟨S_, .f32⟩
  | .hbm, ⟨77, _⟩ => ⟨S4x4096x1, .f32⟩
  | .hbm, ⟨78, _⟩ => ⟨S4x4096x1, .f32⟩
  | .hbm, ⟨79, _⟩ => ⟨S4x4096x1, .f32⟩
  | .hbm, ⟨80, _⟩ => ⟨S4x4096x4096, .f32⟩
  | .hbm, ⟨81, _⟩ => ⟨S4x4096x4096, .f32⟩
  | .hbm, ⟨82, _⟩ => ⟨S1x1x4096, .f32⟩
  | .hbm, ⟨83, _⟩ => ⟨S4x4096x4096, .f32⟩
  | .hbm, ⟨84, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_2 : Ref sig .tc := ⟨.hbm, 70, rfl⟩
abbrev main_v50 : Ref sig .tc := ⟨.hbm, 71, rfl⟩
abbrev main_v51 : Ref sig .tc := ⟨.hbm, 72, rfl⟩
abbrev main_cst_3 : Ref sig .tc := ⟨.hbm, 73, rfl⟩
abbrev main_v52 : Ref sig .tc := ⟨.hbm, 74, rfl⟩
abbrev main_v53 : Ref sig .tc := ⟨.hbm, 75, rfl⟩
abbrev main_cst_4 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== KernelZa.lean ====
abbrev S16384x4096 : Shape := ⟨2, ![16384, 4096]⟩
abbrev S1x4096x11008 : Shape := ⟨3, ![1, 4096, 11008]⟩
abbrev S4096x11008 : Shape := ⟨2, ![4096, 11008]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x11008, .f32⟩
  | .hbm, ⟨2, _⟩ => ⟨S4096x11008, .f32⟩
  | .hbm, ⟨3, _⟩ => ⟨S4096x11008, .bf16⟩
  | .hbm, ⟨4, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZaIdeal.lean ====
abbrev S16384x4096 : Shape := ⟨2, ![16384, 4096]⟩
abbrev S1x4096x11008 : Shape := ⟨3, ![1, 4096, 11008]⟩
abbrev S4096x11008 : Shape := ⟨2, ![4096, 11008]⟩
abbrev S16384x11008 : Shape := ⟨2, ![16384, 11008]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x11008, .f32⟩
  | .hbm, ⟨2, _⟩ => ⟨S16384x4096, .f32⟩
  | .hbm, ⟨3, _⟩ => ⟨S4096x11008, .f32⟩
  | .hbm, ⟨4, _⟩ => ⟨S16384x11008, .f32⟩
  | .hbm, ⟨5, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelZb.lean ====
abbrev S16384x4096 : Shape := ⟨2, ![16384, 4096]⟩
abbrev S1x4096x11008 : Shape := ⟨3, ![1, 4096, 11008]⟩
abbrev S4096x11008 : Shape := ⟨2, ![4096, 11008]⟩
abbrev S16384x6144 : Shape := ⟨2, ![16384, 6144]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x11008, .f32⟩
  | .hbm, ⟨2, _⟩ => ⟨S4096x11008, .f32⟩
  | .hbm, ⟨3, _⟩ => ⟨S4096x11008, .bf16⟩
  | .hbm, ⟨4, _⟩ => ⟨S16384x6144, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZbIdeal.lean ====
abbrev S16384x4096 : Shape := ⟨2, ![16384, 4096]⟩
abbrev S1x4096x11008 : Shape := ⟨3, ![1, 4096, 11008]⟩
abbrev S4096x11008 : Shape := ⟨2, ![4096, 11008]⟩
abbrev S16384x11008 : Shape := ⟨2, ![16384, 11008]⟩
abbrev S16384x6144 : Shape := ⟨2, ![16384, 6144]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x11008, .f32⟩
  | .hbm, ⟨2, _⟩ => ⟨S16384x4096, .f32⟩
  | .hbm, ⟨3, _⟩ => ⟨S4096x11008, .f32⟩
  | .hbm, ⟨4, _⟩ => ⟨S16384x11008, .f32⟩
  | .hbm, ⟨5, _⟩ => ⟨S16384x6144, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelZl.lean ====
abbrev S16384x4096 : Shape := ⟨2, ![16384, 4096]⟩
abbrev S1x4096x11008 : Shape := ⟨3, ![1, 4096, 11008]⟩
abbrev S4096x11008 : Shape := ⟨2, ![4096, 11008]⟩
abbrev S4096x768 : Shape := ⟨2, ![4096, 768]⟩
abbrev S16384x768 : Shape := ⟨2, ![16384, 768]⟩
abbrev S1024x4096 : Shape := ⟨2, ![1024, 4096]⟩
abbrev S1024x768 : Shape := ⟨2, ![1024, 768]⟩

abbrev nBuf : Space → Nat
  | .hbm => 6
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S1x4096x11008, .f32⟩
  | .hbm, ⟨2, _⟩ => ⟨S4096x11008, .f32⟩
  | .hbm, ⟨3, _⟩ => ⟨S4096x11008, .bf16⟩
  | .hbm, ⟨4, _⟩ => ⟨S4096x768, .bf16⟩
  | .hbm, ⟨5, _⟩ => ⟨S16384x768, .f32⟩
  | .local _ .vmem, ⟨0, _⟩ => ⟨S1024x4096, .bf16⟩
  | .local _ .vmem, ⟨1, _⟩ => ⟨S1024x4096, .bf16⟩
  | .local _ .vmem, ⟨2, _⟩ => ⟨S4096x768, .bf16⟩
  | .local _ .vmem, ⟨3, _⟩ => ⟨S1024x768, .f32⟩
  | .local _ .vmem, ⟨4, _⟩ => ⟨S1024x768, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZlIdeal.lean ====
abbrev S16384x4096 : Shape := ⟨2, ![16384, 4096]⟩
abbrev S1x4096x11008 : Shape := ⟨3, ![1, 4096, 11008]⟩
abbrev S4096x11008 : Shape := ⟨2, ![4096, 11008]⟩
abbrev S16384x11008 : Shape := ⟨2, ![16384, 11008]⟩
abbrev S16384x768 : Shape := ⟨2, ![16384, 768]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x11008, .f32⟩
  | .hbm, ⟨2, _⟩ => ⟨S16384x4096, .f32⟩
  | .hbm, ⟨3, _⟩ => ⟨S4096x11008, .f32⟩
  | .hbm, ⟨4, _⟩ => ⟨S16384x11008, .f32⟩
  | .hbm, ⟨5, _⟩ => ⟨S16384x768, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelOut.lean ====
abbrev S16384x2048 : Shape := ⟨2, ![16384, 2048]⟩
abbrev S1x4096x4096 : Shape := ⟨3, ![1, 4096, 4096]⟩
abbrev S16384x4096 : Shape := ⟨2, ![16384, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x4096x4096, .f32⟩
  | .hbm, ⟨3, _⟩ => ⟨S16384x4096, .f32⟩
  | .hbm, ⟨4, _⟩ => ⟨S4096x4096, .f32⟩
  | .hbm, ⟨5, _⟩ => ⟨S4096x4096, .bf16⟩
  | .hbm, ⟨6, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  ![c1_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceOutIdeal.lean ====
abbrev S16384x2048 : Shape := ⟨2, ![16384, 2048]⟩
abbrev S1x4096x4096 : Shape := ⟨3, ![1, 4096, 4096]⟩
abbrev S16384x4096 : Shape := ⟨2, ![16384, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x4096x4096, .f32⟩
  | .hbm, ⟨3, _⟩ => ⟨S16384x4096, .f32⟩
  | .hbm, ⟨4, _⟩ => ⟨S16384x4096, .bf16⟩
  | .hbm, ⟨5, _⟩ => ⟨S16384x4096, .f32⟩
  | .hbm, ⟨6, _⟩ => ⟨S4096x4096, .f32⟩
  | .hbm, ⟨7, _⟩ => ⟨S16384x4096, .f32⟩
  | .hbm, ⟨8, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelQ.lean ====
abbrev S16384x4096 : Shape := ⟨2, ![16384, 4096]⟩
abbrev S1x4096x4096 : Shape := ⟨3, ![1, 4096, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S4096x4096, .f32⟩
  | .hbm, ⟨3, _⟩ => ⟨S4096x4096, .bf16⟩
  | .hbm, ⟨4, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQIdeal.lean ====
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S4096x4096, .f32⟩
  | .hbm, ⟨4, _⟩ => ⟨S16384x4096, .f32⟩
  | .hbm, ⟨5, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelKv.lean ====
abbrev S1024x4096 : Shape := ⟨2, ![1024, 4096]⟩
abbrev S1x4096x8192 : Shape := ⟨3, ![1, 4096, 8192]⟩
abbrev S4096x8192 : Shape := ⟨2, ![4096, 8192]⟩
abbrev S1024x8192 : Shape := ⟨2, ![1024, 8192]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S1x4096x8192, .f32⟩
  | .hbm, ⟨2, _⟩ => ⟨S4096x8192, .f32⟩
  | .hbm, ⟨3, _⟩ => ⟨S4096x8192, .bf16⟩
  | .hbm, ⟨4, _⟩ => ⟨S1024x8192, .bf16⟩
  | .local _ .vmem, ⟨0, _⟩ => ⟨S1024x4096, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceKvIdeal.lean ====
abbrev S1024x4096 : Shape := ⟨2, ![1024, 4096]⟩
abbrev S1x4096x8192 : Shape := ⟨3, ![1, 4096, 8192]⟩
abbrev S4096x8192 : Shape := ⟨2, ![4096, 8192]⟩
abbrev S1024x8192 : Shape := ⟨2, ![1024, 8192]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S1x4096x8192, .f32⟩
  | .hbm, ⟨2, _⟩ => ⟨S1024x4096, .f32⟩
  | .hbm, ⟨3, _⟩ => ⟨S4096x8192, .f32⟩
  | .hbm, ⟨4, _⟩ => ⟨S1024x8192, .f32⟩
  | .hbm, ⟨5, _⟩ => ⟨S1024x8192, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelO.lean ====
abbrev S16384x4096 : Shape := ⟨2, ![16384, 4096]⟩
abbrev S1x4096x4096 : Shape := ⟨3, ![1, 4096, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S4096x4096, .f32⟩
  | .hbm, ⟨4, _⟩ => ⟨S4096x4096, .bf16⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOIdeal.lean ====
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S16384x4096, .f32⟩
  | .hbm, ⟨4, _⟩ => ⟨S4096x4096, .f32⟩
  | .hbm, ⟨5, _⟩ => ⟨S16384x4096, .f32⟩
  | .hbm, ⟨6, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelFfnSample.lean ====
abbrev S4x2048x4096 : Shape := ⟨3, ![4, 2048, 4096]⟩
abbrev S1x4096 : Shape := ⟨2, ![1, 4096]⟩
abbrev S4096 : Shape := ⟨1, ![4096]⟩
abbrev S1x4096x22016 : Shape := ⟨3, ![1, 4096, 22016]⟩
abbrev S1x3x22016 : Shape := ⟨3, ![1, 3, 22016]⟩
abbrev S1x22016 : Shape := ⟨2, ![1, 22016]⟩
abbrev S1x11008x4096 : Shape := ⟨3, ![1, 11008, 4096]⟩
abbrev S4096x22016 : Shape := ⟨2, ![4096, 22016]⟩
abbrev S3x22016 : Shape := ⟨2, ![3, 22016]⟩
abbrev S22016 : Shape := ⟨1, ![22016]⟩
abbrev S11008x4096 : Shape := ⟨2, ![11008, 4096]⟩
abbrev S1x1024x4096 : Shape := ⟨3, ![1, 1024, 4096]⟩
abbrev S1x16x4096 : Shape := ⟨3, ![1, 16, 4096]⟩
abbrev S4096x256 : Shape := ⟨2, ![4096, 256]⟩
abbrev S3x256 : Shape := ⟨2, ![3, 256]⟩
abbrev S1x256 : Shape := ⟨2, ![1, 256]⟩
abbrev S256x4096 : Shape := ⟨2, ![256, 4096]⟩
abbrev S1056x4096 : Shape := ⟨2, ![1056, 4096]⟩
abbrev S16x4096 : Shape := ⟨2, ![16, 4096]⟩
abbrev S16 : Shape := ⟨1, ![16]⟩
abbrev S16x1 : Shape := ⟨2, ![16, 1]⟩
abbrev S1x128x4096 : Shape := ⟨3, ![1, 128, 4096]⟩
abbrev S128x4096 : Shape := ⟨2, ![128, 4096]⟩
abbrev S128 : Shape := ⟨1, ![128]⟩
abbrev S128x1 : Shape := ⟨2, ![128, 1]⟩
abbrev S1056x256 : Shape := ⟨2, ![1056, 256]⟩
abbrev S1024x256 : Shape := ⟨2, ![1024, 256]⟩
abbrev S1024x4096 : Shape := ⟨2, ![1024, 4096]⟩

abbrev nBuf : Space → Nat
  | .hbm => 18
  | .vmem => 23
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S4096, .f32⟩
  | .hbm, ⟨3, _⟩ => ⟨S1x4096x22016, .f32⟩
  | .hbm, ⟨4, _⟩ => ⟨S1x3x22016, .f32⟩
  | .hbm, ⟨5, _⟩ => ⟨S1x22016, .f32⟩
  | .hbm, ⟨6, _⟩ => ⟨S1x11008x4096, .f32⟩
  | .hbm, ⟨7, _⟩ => ⟨S4096, .f32⟩
  | .hbm, ⟨8, _⟩ => ⟨S4096x22016, .f32⟩
  | .hbm, ⟨9, _⟩ => ⟨S4096x22016, .bf16⟩
  | .hbm, ⟨10, _⟩ => ⟨S3x22016, .f32⟩
  | .hbm, ⟨11, _⟩ => ⟨S22016, .f32⟩
  | .hbm, ⟨12, _⟩ => ⟨S11008x4096, .f32⟩
  | .hbm, ⟨13, _⟩ => ⟨S11008x4096, .bf16⟩
  | .hbm, ⟨14, _⟩ => ⟨S1x22016, .f32⟩
  | .hbm, ⟨15, _⟩ => ⟨S1x4096, .f32⟩
  | .hbm, ⟨16, _⟩ => ⟨S1x4096, .f32⟩
  | .hbm, ⟨17, _⟩ => ⟨S4x2048x4096, .f32⟩
  | .local _ .vmem, ⟨0, _⟩ => ⟨S1x1024x4096, .f32⟩
  | .local _ .vmem, ⟨1, _⟩ => ⟨S1x16x4096, .f32⟩
  | .local _ .vmem, ⟨2, _⟩ => ⟨S1x16x4096, .f32⟩
  | .local _ .vmem, ⟨3, _⟩ => ⟨S1x16x4096, .f32⟩
  | .local _ .vmem, ⟨4, _⟩ => ⟨S1x16x4096, .f32⟩
  | .local _ .vmem, ⟨5, _⟩ => ⟨S1x4096, .f32⟩
  | .local _ .vmem, ⟨6, _⟩ => ⟨S1x4096, .f32⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S256x4096, .bf16⟩
  | .local _ .vmem, ⟨20, _⟩ => ⟨S256x4096, .bf16⟩
  | .local _ .vmem, ⟨21, _⟩ => ⟨S1x1024x4096, .f32⟩
  | .local _ .vmem, ⟨22, _⟩ => ⟨S1056x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_scratch0 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨3, ![4, 2, 43], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_47 : BitVec 32 := 0#32
  let c8_i32 : BitVec 32 := 8#32
  let v113 : BitVec 32 := Scalar.addi c0_i32_47 c8_i32
  let c1_i32_48 : BitVec 32 := 1#32
  ⟨c0_i32_47, v113, c1_i32_48⟩
def k0_mult1 (k0_t1 : Fin k0_t1_loop.trips) : BitVec 32 :=
  let c0_i32_47 : BitVec 32 := 0#32
  let c1_i32_48 : BitVec 32 := 1#32
  let arg17 : BitVec 32 := Scf.iv c0_i32_47 c1_i32_48 k0_t1
  let c128_i32 : BitVec 32 := 128#32
  let v114 : BitVec 32 := Scalar.muli arg17 c128_i32
  v114
def k0_off1 (k0_t1 : Fin k0_t1_loop.trips) : Fin 3 → Nat :=
  let c0_50 : Index := 0#32
  let c0_i32_47 : BitVec 32 := 0#32
  let c1_i32_48 : BitVec 32 := 1#32
  let arg17 : BitVec 32 := Scf.iv c0_i32_47 c1_i32_48 k0_t1
  let c128_i32 : BitVec 32 := 128#32
  let v114 : BitVec 32 := Scalar.muli arg17 c128_i32
  let v115 : BitVec 32 := v114
  let v116 : Index := Scalar.indexCast v115
  let c0_51 : Index := 0#32
  ![0, v116.toNat, 0]
def k0_off2 (k0_t1 : Fin k0_t1_loop.trips) : Fin 2 → Nat :=
  let c16_i32 : BitVec 32 := 16#32
  let c0_i32_47 : BitVec 32 := 0#32
  let c1_i32_48 : BitVec 32 := 1#32
  let arg17 : BitVec 32 := Scf.iv c0_i32_47 c1_i32_48 k0_t1
  let c128_i32 : BitVec 32 := 128#32
  let v114 : BitVec 32 := Scalar.muli arg17 c128_i32
  let v115 : BitVec 32 := v114
  let v132 : BitVec 32 := Scalar.addi c16_i32 v115
  let v133 : Index := Scalar.indexCast v132
  let c0_55 : Index := 0#32
  ![v133.toNat, 0]
def k0_cond2 (i : grid0.Coords) : BitVec 1 :=
  let arg2 : BitVec 32 := BitVec.ofNat 32 (i 2).val
  let c42_i32 : BitVec 32 := 42#32
  let v67 : BitVec 1 := Scalar.cmpi .eq arg2 c42_i32
  let v68 : BitVec 32 := Scalar.extui v67
  let c0_i32_26 : BitVec 32 := 0#32
  let v69 : BitVec 1 := Scalar.cmpi .ne v68 c0_i32_26
  v69

@[reducible] def k0_t2_loop : Scf.Loop 32 :=
  let c0_i32_29 : BitVec 32 := 0#32
  let c8_i32 : BitVec 32 := 8#32
  let v72 : BitVec 32 := Scalar.addi c0_i32_29 c8_i32
  let c1_i32_30 : BitVec 32 := 1#32
  ⟨c0_i32_29, v72, c1_i32_30⟩
def k0_mult2 (k0_t2 : Fin k0_t2_loop.trips) : BitVec 32 :=
  let c0_i32_29 : BitVec 32 := 0#32
  let c1_i32_30 : BitVec 32 := 1#32
  let arg17 : BitVec 32 := Scf.iv c0_i32_29 c1_i32_30 k0_t2
  let c128_i32 : BitVec 32 := 128#32
  let v73 : BitVec 32 := Scalar.muli arg17 c128_i32
  v73
def k0_off3 (k0_t2 : Fin k0_t2_loop.trips) : Fin 3 → Nat :=
  let c0_32 : Index := 0#32
  let c0_i32_29 : BitVec 32 := 0#32
  let c1_i32_30 : BitVec 32 := 1#32
  let arg17 : BitVec 32 := Scf.iv c0_i32_29 c1_i32_30 k0_t2
  let c128_i32 : BitVec 32 := 128#32
  let v73 : BitVec 32 := Scalar.muli arg17 c128_i32
  let v74 : BitVec 32 := v73
  let v75 : Index := Scalar.indexCast v74
  let c0_33 : Index := 0#32
  ![0, v75.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.addi c43_i32 arg2
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.addi c43_i32 arg2
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.addi c43_i32 arg2
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1x1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 1 → Memref sig .tc .vmem S1x1024x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true, false]
-- ==== ReferenceFfnSampleIdeal.lean ====
abbrev S4x2048x4096 : Shape := ⟨3, ![4, 2048, 4096]⟩
abbrev S1x4096 : Shape := ⟨2, ![1, 4096]⟩
abbrev S4096 : Shape := ⟨1, ![4096]⟩
abbrev S1x4096x22016 : Shape := ⟨3, ![1, 4096, 22016]⟩
abbrev S1x3x22016 : Shape := ⟨3, ![1, 3, 22016]⟩
abbrev S1x22016 : Shape := ⟨2, ![1, 22016]⟩
abbrev S1x11008x4096 : Shape := ⟨3, ![1, 11008, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4096x22016 : Shape := ⟨2, ![4096, 22016]⟩
abbrev S4x2048x22016 : Shape := ⟨3, ![4, 2048, 22016]⟩
abbrev S4x2050x22016 : Shape := ⟨3, ![4, 2050, 22016]⟩
abbrev S3x22016 : Shape := ⟨2, ![3, 22016]⟩
abbrev S22016 : Shape := ⟨1, ![22016]⟩
abbrev S1x1x22016 : Shape := ⟨3, ![1, 1, 22016]⟩
abbrev S4x2048x11008 : Shape := ⟨3, ![4, 2048, 11008]⟩
abbrev S11008x4096 : Shape := ⟨2, ![11008, 4096]⟩

abbrev nBuf : Space → Nat
  | .hbm => 85
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S4096, .f32⟩
  | .hbm, ⟨3, _⟩ => ⟨S1x4096x22016, .f32⟩
  | .hbm, ⟨4, _⟩ => ⟨S1x3x22016, .f32⟩
  | .hbm, ⟨5, _⟩ => ⟨S1x22016, .f32⟩
  | .hbm, ⟨6, _⟩ => ⟨S1x11008x4096, .f32⟩
  | .hbm, ⟨7, _⟩ => ⟨S4096, .f32⟩
  | .hbm, ⟨8, _⟩ => ⟨S4x2048x4096, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x4096, .f32⟩
  | .hbm, ⟨20, _⟩ => ⟨S4x2048x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | .hbm, ⟨24, _⟩ => ⟨S4096x22016, .f32⟩
  | .hbm, ⟨25, _⟩ => ⟨S4x2048x22016, .f32⟩
  | .hbm, ⟨26, _⟩ => ⟨S_, .i32⟩
  | .hbm, ⟨27, _⟩ => ⟨S_, .f32⟩
  | .hbm, ⟨28, _⟩ => ⟨S4x2050x22016, .f32⟩
  | .hbm, ⟨29, _⟩ => ⟨S3x22016, .f32⟩
  | .hbm, ⟨30, _⟩ => ⟨S1x22016, .f32⟩
  | .hbm, ⟨31, _⟩ => ⟨S22016, .f32⟩
  | .hbm, ⟨32, _⟩ => ⟨S4x2048x22016, .f32⟩
  | .hbm, ⟨33, _⟩ => ⟨S1x1x22016, .f32⟩
  | .hbm, ⟨34, _⟩ => ⟨S4x2048x22016, .f32⟩
  | .hbm, ⟨35, _⟩ => ⟨S4x2048x22016, .f32⟩
  | .hbm, ⟨36, _⟩ => ⟨S1x22016, .f32⟩
  | .hbm, ⟨37, _⟩ => ⟨S22016, .f32⟩
  | .hbm, ⟨38, _⟩ => ⟨S4x2048x22016, .f32⟩
  | .hbm, ⟨39, _⟩ => ⟨S1x1x22016, .f32⟩
  | .hbm, ⟨40, _⟩ => ⟨S4x2048x22016, .f32⟩
  | .hbm, ⟨41, _⟩ => ⟨S4x2048x22016, .f32⟩
  | .hbm, ⟨42, _⟩ => ⟨S4x2048x22016, .f32⟩
  | .hbm, ⟨43, _⟩ => ⟨S1x22016, .f32⟩
  | .hbm, ⟨44, _⟩ => ⟨S22016, .f32⟩
  | .hbm, ⟨45, _⟩ => ⟨S4x2048x22016, .f32⟩
  | .hbm, ⟨46, _⟩ => ⟨S1x1x22016, .f32⟩
  | .hbm, ⟨47, _⟩ => ⟨S4x2048x22016, .f32⟩
  | .hbm, ⟨48, _⟩ => ⟨S4x2048x22016, .f32⟩
  | .hbm, ⟨49, _⟩ => ⟨S4x2048x22016, .f32⟩
  | .hbm, ⟨50, _⟩ => ⟨S22016, .f32⟩
  | .hbm, ⟨51, _⟩ => ⟨S1x1x22016, .f32⟩
  | .hbm, ⟨52, _⟩ => ⟨S4x2048x22016, .f32⟩
  | .hbm, ⟨53, _⟩ => ⟨S4x2048x22016, .f32⟩
  | .hbm, ⟨54, _⟩ => ⟨S4x2048x11008, .f32⟩
  | .hbm, ⟨55, _⟩ => ⟨S4x2048x11008, .f32⟩
  | .hbm, ⟨56, _⟩ => ⟨S4x2048x11008, .f32⟩
  | .hbm, ⟨57, _⟩ => ⟨S4x2048x11008, .f32⟩
  | .hbm, ⟨58, _⟩ => ⟨S_, .f32⟩
  | .hbm, ⟨59, _⟩ => ⟨S4x2048x11008, .f32⟩
  | .hbm, ⟨60, _⟩ => ⟨S4x2048x11008, .f32⟩
  | .hbm, ⟨61, _⟩ => ⟨S_, .f32⟩
  | .hbm, ⟨62, _⟩ => ⟨S4x2048x11008, .f32⟩
  | .hbm, ⟨63, _⟩ => ⟨S4x2048x11008, .f32⟩
  | .hbm, ⟨64, _⟩ => ⟨S4x2048x11008, .f32⟩
  | .hbm, ⟨65, _⟩ => ⟨S4x2048x11008, .f32⟩
  | .hbm, ⟨66, _⟩ => ⟨S11008x4096, .f32⟩
  | .hbm, ⟨67, _⟩ => ⟨S4x2048x4096, .f32⟩
  | .hbm, ⟨68, _⟩ => ⟨S4x2048x4096, .f32⟩
  | .hbm, ⟨69, _⟩ => ⟨S4x2048x4096, .f32⟩
  | .hbm, ⟨70, _⟩ => ⟨S_, .f32⟩
  | .hbm, ⟨71, _⟩ => ⟨S4x2048, .f32⟩
  | .hbm, ⟨72, _⟩ => ⟨S4x2048x1, .f32⟩
  | .hbm, ⟨73, _⟩ => ⟨S_, .f32⟩
  | .hbm, ⟨74, _⟩ => ⟨S4x2048x1, .f32⟩
  | .hbm, ⟨75, _⟩ => ⟨S4x2048x1, .f32⟩
  | .hbm, ⟨76, _⟩ => ⟨S_, .f32⟩
  | .hbm, ⟨77, _⟩ => ⟨S4x2048x1, .f32⟩
  | .hbm, ⟨78, _⟩ => ⟨S4x2048x1, .f32⟩
  | .hbm, ⟨79, _⟩ => ⟨S4x2048x1, .f32⟩
  | .hbm, ⟨80, _⟩ => ⟨S4x2048x4096, .f32⟩
  | .hbm, ⟨81, _⟩ => ⟨S4x2048x4096, .f32⟩
  | .hbm, ⟨82, _⟩ => ⟨S1x1x4096, .f32⟩
  | .hbm, ⟨83, _⟩ => ⟨S4x2048x4096, .f32⟩
  | .hbm, ⟨84, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_2 : Ref sig .tc := ⟨.hbm, 70, rfl⟩
abbrev main_v50 : Ref sig .tc := ⟨.hbm, 71, rfl⟩
abbrev main_v51 : Ref sig .tc := ⟨.hbm, 72, rfl⟩
abbrev main_cst_3 : Ref sig .tc := ⟨.hbm, 73, rfl⟩
abbrev main_v52 : Ref sig .tc := ⟨.hbm, 74, rfl⟩
abbrev main_v53 : Ref sig .tc := ⟨.hbm, 75, rfl⟩
abbrev main_cst_4 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== KernelNorm.lean ====
abbrev S16384x4096 : Shape := ⟨2, ![16384, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096, .f32⟩
  | .hbm, ⟨3, _⟩ => ⟨S1x4096, .f32⟩
  | .hbm, ⟨4, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelNormIdeal.lean ====
abbrev S16384x4096 : Shape := ⟨2, ![16384, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096, .f32⟩
  | .hbm, ⟨3, _⟩ => ⟨S1x4096, .f32⟩
  | .hbm, ⟨4, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S16384x4096 : Shape := ⟨2, ![16384, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S4096 : Shape := ⟨1, ![4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KernelNormMem.lean ====
abbrev S1024x4096 : Shape := ⟨2, ![1024, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S1x4096, .f32⟩
  | .hbm, ⟨2, _⟩ => ⟨S4096, .f32⟩
  | .hbm, ⟨3, _⟩ => ⟨S1x4096, .f32⟩
  | .hbm, ⟨4, _⟩ => ⟨S1024x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormMemIdeal.lean ====
abbrev S1024x4096 : Shape := ⟨2, ![1024, 4096]⟩
abbrev S1x4096 : Shape := ⟨2, ![1, 4096]⟩
abbrev S_ : Shape := ⟨0, ![]⟩
abbrev S1024 : Shape := ⟨1, ![1024]⟩
abbrev S1024x1 : Shape := ⟨2, ![1024, 1]⟩
abbrev S4096 : Shape := ⟨1, ![4096]⟩

abbrev nBuf : Space → Nat
  | .hbm => 20
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1x4096, .f32⟩
  | .hbm, ⟨2, _⟩ => ⟨S1024x4096, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x4096, .f32⟩
  | .hbm, ⟨14, _⟩ => ⟨S1024x4096, .f32⟩
  | .hbm, ⟨15, _⟩ => ⟨S4096, .f32⟩
  | .hbm, ⟨16, _⟩ => ⟨S1x4096, .f32⟩
  | .hbm, ⟨17, _⟩ => ⟨S1024x4096, .f32⟩
  | .hbm, ⟨18, _⟩ => ⟨S1024x4096, .f32⟩
  | .hbm, ⟨19, _⟩ => ⟨S1024x4096, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KernelGmlp.lean ====
abbrev S16384x4096 : Shape := ⟨2, ![16384, 4096]⟩
abbrev S1x2048 : Shape := ⟨2, ![1, 2048]⟩
abbrev S1x4x128x128 : Shape := ⟨4, ![1, 4, 128, 128]⟩
abbrev S1x4x128 : Shape := ⟨3, ![1, 4, 128]⟩
abbrev S2048 : Shape := ⟨1, ![2048]⟩
abbrev S4x128x128 : Shape := ⟨3, ![4, 128, 128]⟩
abbrev S4x128 : Shape := ⟨2, ![4, 128]⟩
abbrev S128x4 : Shape := ⟨2, ![128, 4]⟩
abbrev S128x4x512 : Shape := ⟨3, ![128, 4, 512]⟩
abbrev S128x2048 : Shape := ⟨2, ![128, 2048]⟩
abbrev S16384x2048 : Shape := ⟨2, ![16384, 2048]⟩
abbrev S512x2048 : Shape := ⟨2, ![512, 2048]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S128x512 : Shape := ⟨2, ![128, 512]⟩

abbrev nBuf : Space → Nat
  | .hbm => 16
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S1x2048, .f32⟩
  | .hbm, ⟨2, _⟩ => ⟨S1x2048, .f32⟩
  | .hbm, ⟨3, _⟩ => ⟨S1x4x128x128, .f32⟩
  | .hbm, ⟨4, _⟩ => ⟨S1x4x128, .f32⟩
  | .hbm, ⟨5, _⟩ => ⟨S2048, .f32⟩
  | .hbm, ⟨6, _⟩ => ⟨S2048, .f32⟩
  | .hbm, ⟨7, _⟩ => ⟨S4x128x128, .f32⟩
  | .hbm, ⟨8, _⟩ => ⟨S4x128, .f32⟩
  | .hbm, ⟨9, _⟩ => ⟨S128x4, .f32⟩
  | .hbm, ⟨10, _⟩ => ⟨S128x4x512, .f32⟩
  | .hbm, ⟨11, _⟩ => ⟨S128x2048, .f32⟩
  | .hbm, ⟨12, _⟩ => ⟨S1x2048, .f32⟩
  | .hbm, ⟨13, _⟩ => ⟨S1x2048, .f32⟩
  | .hbm, ⟨14, _⟩ => ⟨S4x128x128, .bf16⟩
  | .hbm, ⟨15, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S4x128x128, .bf16⟩
  | .local _ .vmem, ⟨7, _⟩ => ⟨S128x2048, .f32⟩
  | .local _ .vmem, ⟨8, _⟩ => ⟨S512x2048, .bf16⟩
  | .local _ .vmem, ⟨9, _⟩ => ⟨S512x2048, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceGmlpIdeal.lean ====
abbrev S16384x4096 : Shape := ⟨2, ![16384, 4096]⟩
abbrev S1x2048 : Shape := ⟨2, ![1, 2048]⟩
abbrev S1x4x128x128 : Shape := ⟨4, ![1, 4, 128, 128]⟩
abbrev S1x4x128 : Shape := ⟨3, ![1, 4, 128]⟩
abbrev S_ : Shape := ⟨0, ![]⟩
abbrev S16384x2048 : Shape := ⟨2, ![16384, 2048]⟩
abbrev S16384 : Shape := ⟨1, ![16384]⟩
abbrev S16384x1 : Shape := ⟨2, ![16384, 1]⟩
abbrev S2048 : Shape := ⟨1, ![2048]⟩
abbrev S128x128x4x512 : Shape := ⟨4, ![128, 128, 4, 512]⟩
abbrev S4x128x128 : Shape := ⟨3, ![4, 128, 128]⟩
abbrev S4x128x512x128 : Shape := ⟨4, ![4, 128, 512, 128]⟩
abbrev S4x128 : Shape := ⟨2, ![4, 128]⟩
abbrev S128x4 : Shape := ⟨2, ![128, 4]⟩
abbrev S1x128x4x1 : Shape := ⟨4, ![1, 128, 4, 1]⟩

abbrev nBuf : Space → Nat
  | .hbm => 67
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x2048, .f32⟩
  | .hbm, ⟨2, _⟩ => ⟨S1x2048, .f32⟩
  | .hbm, ⟨3, _⟩ => ⟨S1x4x128x128, .f32⟩
  | .hbm, ⟨4, _⟩ => ⟨S1x4x128, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x2048, .f32⟩
  | .hbm, ⟨46, _⟩ => ⟨S16384x2048, .f32⟩
  | .hbm, ⟨47, _⟩ => ⟨S2048, .f32⟩
  | .hbm, ⟨48, _⟩ => ⟨S1x2048, .f32⟩
  | .hbm, ⟨49, _⟩ => ⟨S16384x2048, .f32⟩
  | .hbm, ⟨50, _⟩ => ⟨S16384x2048, .f32⟩
  | .hbm, ⟨51, _⟩ => ⟨S2048, .f32⟩
  | .hbm, ⟨52, _⟩ => ⟨S1x2048, .f32⟩
  | .hbm, ⟨53, _⟩ => ⟨S16384x2048, .f32⟩
  | .hbm, ⟨54, _⟩ => ⟨S16384x2048, .f32⟩
  | .hbm, ⟨55, _⟩ => ⟨S128x128x4x512, .f32⟩
  | .hbm, ⟨56, _⟩ => ⟨S4x128x128, .f32⟩
  | .hbm, ⟨57, _⟩ => ⟨S4x128x512x128, .f32⟩
  | .hbm, ⟨58, _⟩ => ⟨S128x128x4x512, .f32⟩
  | .hbm, ⟨59, _⟩ => ⟨S4x128, .f32⟩
  | .hbm, ⟨60, _⟩ => ⟨S128x4, .f32⟩
  | .hbm, ⟨61, _⟩ => ⟨S1x128x4x1, .f32⟩
  | .hbm, ⟨62, _⟩ => ⟨S128x128x4x512, .f32⟩
  | .hbm, ⟨63, _⟩ => ⟨S128x128x4x512, .f32⟩
  | .hbm, ⟨64, _⟩ => ⟨S16384x2048, .f32⟩
  | .hbm, ⟨65, _⟩ => ⟨S16384x2048, .f32⟩
  | .hbm, ⟨66, _⟩ => ⟨S16384x2048, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== KernelPost.lean ====
abbrev S16384x2048 : Shape := ⟨2, ![16384, 2048]⟩
abbrev S1x2048 : Shape := ⟨2, ![1, 2048]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2048 : Shape := ⟨1, ![2048]⟩
abbrev S512x2048 : Shape := ⟨2, ![512, 2048]⟩
abbrev S512x128 : Shape := ⟨2, ![512, 128]⟩
abbrev S8192x128 : Shape := ⟨2, ![8192, 128]⟩

abbrev nBuf : Space → Nat
  | .hbm => 36
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .bf16⟩
  | .hbm, ⟨3, _⟩ => ⟨S16384x2048, .bf16⟩
  | .hbm, ⟨4, _⟩ => ⟨S1x2048, .f32⟩
  | .hbm, ⟨5, _⟩ => ⟨S1x2048, .f32⟩
  | .hbm, ⟨6, _⟩ => ⟨S128, .i32⟩
  | .hbm, ⟨7, _⟩ => ⟨S_, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S128, .i1⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S128x1, .i32⟩
  | .hbm, ⟨26, _⟩ => ⟨S1x128, .i32⟩
  | .hbm, ⟨27, _⟩ => ⟨S128x128, .i32⟩
  | .hbm, ⟨28, _⟩ => ⟨S128x128, .i32⟩
  | .hbm, ⟨29, _⟩ => ⟨S128x128, .i1⟩
  | .hbm, ⟨30, _⟩ => ⟨S128x128, .bf16⟩
  | .hbm, ⟨31, _⟩ => ⟨S2048, .f32⟩
  | .hbm, ⟨32, _⟩ => ⟨S2048, .f32⟩
  | .hbm, ⟨33, _⟩ => ⟨S1x2048, .f32⟩
  | .hbm, ⟨34, _⟩ => ⟨S1x2048, .f32⟩
  | .hbm, ⟨35, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S128x128, .bf16⟩
  | .local _ .vmem, ⟨11, _⟩ => ⟨S512x2048, .bf16⟩
  | .local _ .vmem, ⟨12, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferencePostIdeal.lean ====
abbrev S16384x2048 : Shape := ⟨2, ![16384, 2048]⟩
abbrev S1x2048 : Shape := ⟨2, ![1, 2048]⟩
abbrev S16384x32x64 : Shape := ⟨3, ![16384, 32, 64]⟩
abbrev S_ : Shape := ⟨0, ![]⟩
abbrev S16384x32 : Shape := ⟨2, ![16384, 32]⟩
abbrev S16384x32x1 : Shape := ⟨3, ![16384, 32, 1]⟩
abbrev S2048 : Shape := ⟨1, ![2048]⟩
abbrev S32x64 : Shape := ⟨2, ![32, 64]⟩
abbrev S1x32x64 : Shape := ⟨3, ![1, 32, 64]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .bf16⟩
  | .hbm, ⟨3, _⟩ => ⟨S16384x2048, .bf16⟩
  | .hbm, ⟨4, _⟩ => ⟨S1x2048, .f32⟩
  | .hbm, ⟨5, _⟩ => ⟨S1x2048, .f32⟩
  | .hbm, ⟨6, _⟩ => ⟨S16384x2048, .f32⟩
  | .hbm, ⟨7, _⟩ => ⟨S16384x32x64, .f32⟩
  | .hbm, ⟨8, _⟩ => ⟨S_, .f32⟩
  | .hbm, ⟨9, _⟩ => ⟨S16384x32, .f32⟩
  | .hbm, ⟨10, _⟩ => ⟨S16384x32x1, .f32⟩
  | .hbm, ⟨11, _⟩ => ⟨S_, .f32⟩
  | .hbm, ⟨12, _⟩ => ⟨S16384x32x1, .f32⟩
  | .hbm, ⟨13, _⟩ => ⟨S16384x32x1, .f32⟩
  | .hbm, ⟨14, _⟩ => ⟨S16384x32x64, .f32⟩
  | .hbm, ⟨15, _⟩ => ⟨S16384x32x64, .f32⟩
  | .hbm, ⟨16, _⟩ => ⟨S16384x32x64, .f32⟩
  | .hbm, ⟨17, _⟩ => ⟨S_, .f32⟩
  | .hbm, ⟨18, _⟩ => ⟨S16384x32, .f32⟩
  | .hbm, ⟨19, _⟩ => ⟨S16384x32x1, .f32⟩
  | .hbm, ⟨20, _⟩ => ⟨S_, .f32⟩
  | .hbm, ⟨21, _⟩ => ⟨S16384x32x1, .f32⟩
  | .hbm, ⟨22, _⟩ => ⟨S16384x32x1, .f32⟩
  | .hbm, ⟨23, _⟩ => ⟨S16384x32x64, .f32⟩
  | .hbm, ⟨24, _⟩ => ⟨S16384x32x64, .f32⟩
  | .hbm, ⟨25, _⟩ => ⟨S_, .f32⟩
  | .hbm, ⟨26, _⟩ => ⟨S16384x32x1, .f32⟩
  | .hbm, ⟨27, _⟩ => ⟨S16384x32x1, .f32⟩
  | .hbm, ⟨28, _⟩ => ⟨S16384x32x1, .f32⟩
  | .hbm, ⟨29, _⟩ => ⟨S16384x32x64, .f32⟩
  | .hbm, ⟨30, _⟩ => ⟨S16384x32x64, .f32⟩
  | .hbm, ⟨31, _⟩ => ⟨S2048, .f32⟩
  | .hbm, ⟨32, _⟩ => ⟨S32x64, .f32⟩
  | .hbm, ⟨33, _⟩ => ⟨S1x32x64, .f32⟩
  | .hbm, ⟨34, _⟩ => ⟨S16384x32x64, .f32⟩
  | .hbm, ⟨35, _⟩ => ⟨S16384x32x64, .f32⟩
  | .hbm, ⟨36, _⟩ => ⟨S2048, .f32⟩
  | .hbm, ⟨37, _⟩ => ⟨S32x64, .f32⟩
  | .hbm, ⟨38, _⟩ => ⟨S1x32x64, .f32⟩
  | .hbm, ⟨39, _⟩ => ⟨S16384x32x64, .f32⟩
  | .hbm, ⟨40, _⟩ => ⟨S16384x32x64, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== KernelPrep.lean ====
abbrev S4x4096x6144 : Shape := ⟨3, ![4, 4096, 6144]⟩
abbrev S4x4096x768 : Shape := ⟨3, ![4, 4096, 768]⟩
abbrev S1x6912 : Shape := ⟨2, ![1, 6912]⟩
abbrev S1x2x2048 : Shape := ⟨3, ![1, 2, 2048]⟩
abbrev S1x2x128x2048 : Shape := ⟨4, ![1, 2, 128, 2048]⟩
abbrev S1x512x2048 : Shape := ⟨3, ![1, 512, 2048]⟩
abbrev S1x2048 : Shape := ⟨2, ![1, 2048]⟩
abbrev S1x32x64 : Shape := ⟨3, ![1, 32, 64]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S6912 : Shape := ⟨1, ![6912]⟩
abbrev S2x2048 : Shape := ⟨2, ![2, 2048]⟩
abbrev S2x128x2048 : Shape := ⟨3, ![2, 128, 2048]⟩
abbrev S512x2048 : Shape := ⟨2, ![512, 2048]⟩
abbrev S2048 : Shape := ⟨1, ![2048]⟩
abbrev S32x64 : Shape := ⟨2, ![32, 64]⟩
abbrev S1x6144 : Shape := ⟨2, ![1, 6144]⟩
abbrev S1x768 : Shape := ⟨2, ![1, 768]⟩
abbrev S4x4096x2048 : Shape := ⟨3, ![4, 4096, 2048]⟩
abbrev S2x4x4096x2048 : Shape := ⟨4, ![2, 4, 4096, 2048]⟩
abbrev S1x128x2048 : Shape := ⟨3, ![1, 128, 2048]⟩
abbrev S1x8x2048 : Shape := ⟨3, ![1, 8, 2048]⟩
abbrev S1x128x768 : Shape := ⟨3, ![1, 128, 768]⟩
abbrev S1x8x768 : Shape := ⟨3, ![1, 8, 768]⟩
abbrev S2x1x128x2048 : Shape := ⟨4, ![2, 1, 128, 2048]⟩
abbrev S128x2048 : Shape := ⟨2, ![128, 2048]⟩
abbrev S8x2048 : Shape := ⟨2, ![8, 2048]⟩
abbrev S8x1 : Shape := ⟨2, ![8, 1]⟩
abbrev S120x2048 : Shape := ⟨2, ![120, 2048]⟩
abbrev S128x768 : Shape := ⟨2, ![128, 768]⟩
abbrev S8x768 : Shape := ⟨2, ![8, 768]⟩
abbrev S120x768 : Shape := ⟨2, ![120, 768]⟩
abbrev S128x512 : Shape := ⟨2, ![128, 512]⟩
abbrev S2048x128 : Shape := ⟨2, ![2048, 128]⟩
abbrev S1x1x128x2048 : Shape := ⟨4, ![1, 1, 128, 2048]⟩

abbrev nBuf : Space → Nat
  | .hbm => 62
  | .vmem => 53
  | .smem => 0
  | _ => 0

abbrev bufTy : (tb : Table) → Fin (tcTables nBuf tb) → BufTy
  | .hbm, ⟨0, _⟩ => ⟨S4x4096x6144, .f32⟩
  | .hbm, ⟨1, _⟩ => ⟨S4x4096x768, .f32⟩
  | .hbm, ⟨2, _⟩ => ⟨S1x6912, .f32⟩
  | .hbm, ⟨3, _⟩ => ⟨S1x2x2048, .f32⟩
  | .hbm, ⟨4, _⟩ => ⟨S1x2x128x2048, .f32⟩
  | .hbm, ⟨5, _⟩ => ⟨S1x2x2048, .f32⟩
  | .hbm, ⟨6, _⟩ => ⟨S1x2x128x2048, .f32⟩
  | .hbm, ⟨7, _⟩ => ⟨S1x512x2048, .f32⟩
  | .hbm, ⟨8, _⟩ => ⟨S1x2048, .f32⟩
  | .hbm, ⟨9, _⟩ => ⟨S1x2048, .f32⟩
  | .hbm, ⟨10, _⟩ => ⟨S1x32x64, .f32⟩
  | .hbm, ⟨11, _⟩ => ⟨S128, .i32⟩
  | .hbm, ⟨12, _⟩ => ⟨S_, .i32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S128, .i32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S128, .i1⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S1x128, .i32⟩
  | .hbm, ⟨32, _⟩ => ⟨S128x128, .i32⟩
  | .hbm, ⟨33, _⟩ => ⟨S128x128, .i32⟩
  | .hbm, ⟨34, _⟩ => ⟨S128x128, .i1⟩
  | .hbm, ⟨35, _⟩ => ⟨S128x128, .bf16⟩
  | .hbm, ⟨36, _⟩ => ⟨S6912, .f32⟩
  | .hbm, ⟨37, _⟩ => ⟨S2x2048, .f32⟩
  | .hbm, ⟨38, _⟩ => ⟨S2x128x2048, .f32⟩
  | .hbm, ⟨39, _⟩ => ⟨S2x2048, .f32⟩
  | .hbm, ⟨40, _⟩ => ⟨S2x128x2048, .f32⟩
  | .hbm, ⟨41, _⟩ => ⟨S512x2048, .f32⟩
  | .hbm, ⟨42, _⟩ => ⟨S2048, .f32⟩
  | .hbm, ⟨43, _⟩ => ⟨S2048, .f32⟩
  | .hbm, ⟨44, _⟩ => ⟨S32x64, .f32⟩
  | .hbm, ⟨45, _⟩ => ⟨S1x6912, .f32⟩
  | .hbm, ⟨46, _⟩ => ⟨S1x6144, .f32⟩
  | .hbm, ⟨47, _⟩ => ⟨S1x768, .f32⟩
  | .hbm, ⟨48, _⟩ => ⟨S2x128x2048, .bf16⟩
  | .hbm, ⟨49, _⟩ => ⟨S2x128x2048, .bf16⟩
  | .hbm, ⟨50, _⟩ => ⟨S512x2048, .bf16⟩
  | .hbm, ⟨51, _⟩ => ⟨S1x2048, .f32⟩
  | .hbm, ⟨52, _⟩ => ⟨S1x2048, .f32⟩
  | .hbm, ⟨53, _⟩ => ⟨S1x2048, .f32⟩
  | .hbm, ⟨54, _⟩ => ⟨S4x4096x2048, .bf16⟩
  | .hbm, ⟨55, _⟩ => ⟨S4x4096x2048, .bf16⟩
  | .hbm, ⟨56, _⟩ => ⟨S4x4096x2048, .bf16⟩
  | .hbm, ⟨57, _⟩ => ⟨S4x4096x2048, .bf16⟩
  | .hbm, ⟨58, _⟩ => ⟨S4x4096x2048, .bf16⟩
  | .hbm, ⟨59, _⟩ => ⟨S2x4x4096x2048, .f32⟩
  | .hbm, ⟨60, _⟩ => ⟨S2x4x4096x2048, .bf16⟩
  | .hbm, ⟨61, _⟩ => ⟨S2x4x4096x2048, .bf16⟩
  | .local _ .vmem, ⟨0, _⟩ => ⟨S1x128x2048, .f32⟩
  | .local _ .vmem, ⟨1, _⟩ => ⟨S1x128x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x8x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x8x2048, .f32⟩
  | .local _ .vmem, ⟨9, _⟩ => ⟨S1x8x2048, .f32⟩
  | .local _ .vmem, ⟨10, _⟩ => ⟨S1x8x2048, .f32⟩
  | .local _ .vmem, ⟨11, _⟩ => ⟨S1x8x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x8x2048, .f32⟩
  | .local _ .vmem, ⟨15, _⟩ => ⟨S1x8x2048, .f32⟩
  | .local _ .vmem, ⟨16, _⟩ => ⟨S1x8x2048, .f32⟩
  | .local _ .vmem, ⟨17, _⟩ => ⟨S1x8x2048, .f32⟩
  | .local _ .vmem, ⟨18, _⟩ => ⟨S1x128x768, .f32⟩
  | .local _ .vmem, ⟨19, _⟩ => ⟨S1x128x768, .f32⟩
  | .local _ .vmem, ⟨20, _⟩ => ⟨S1x8x768, .f32⟩
  | .local _ .vmem, ⟨21, _⟩ => ⟨S1x8x768, .f32⟩
  | .local _ .vmem, ⟨22, _⟩ => ⟨S1x8x768, .f32⟩
  | .local _ .vmem, ⟨23, _⟩ => ⟨S1x8x768, .f32⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | .local _ .vmem, ⟨27, _⟩ => ⟨S1x768, .f32⟩
  | .local _ .vmem, ⟨28, _⟩ => ⟨S2x2048, .f32⟩
  | .local _ .vmem, ⟨29, _⟩ => ⟨S2x128x2048, .bf16⟩
  | .local _ .vmem, ⟨30, _⟩ => ⟨S2x2048, .f32⟩
  | .local _ .vmem, ⟨31, _⟩ => ⟨S2x128x2048, .bf16⟩
  | .local _ .vmem, ⟨32, _⟩ => ⟨S512x2048, .bf16⟩
  | .local _ .vmem, ⟨33, _⟩ => ⟨S1x2048, .f32⟩
  | .local _ .vmem, ⟨34, _⟩ => ⟨S1x2048, .f32⟩
  | .local _ .vmem, ⟨35, _⟩ => ⟨S1x2048, .f32⟩
  | .local _ .vmem, ⟨36, _⟩ => ⟨S128x128, .bf16⟩
  | .local _ .vmem, ⟨37, _⟩ => ⟨S1x128x2048, .bf16⟩
  | .local _ .vmem, ⟨38, _⟩ => ⟨S1x128x2048, .bf16⟩
  | .local _ .vmem, ⟨39, _⟩ => ⟨S1x128x2048, .bf16⟩
  | .local _ .vmem, ⟨40, _⟩ => ⟨S1x128x2048, .bf16⟩
  | .local _ .vmem, ⟨41, _⟩ => ⟨S1x128x2048, .bf16⟩
  | .local _ .vmem, ⟨42, _⟩ => ⟨S1x128x2048, .bf16⟩
  | .local _ .vmem, ⟨43, _⟩ => ⟨S1x128x2048, .bf16⟩
  | .local _ .vmem, ⟨44, _⟩ => ⟨S1x128x2048, .bf16⟩
  | .local _ .vmem, ⟨45, _⟩ => ⟨S1x128x2048, .bf16⟩
  | .local _ .vmem, ⟨46, _⟩ => ⟨S1x128x2048, .bf16⟩
  | .local _ .vmem, ⟨47, _⟩ => ⟨S2x1x128x2048, .f32⟩
  | .local _ .vmem, ⟨48, _⟩ => ⟨S2x1x128x2048, .f32⟩
  | .local _ .vmem, ⟨49, _⟩ => ⟨S2x1x128x2048, .bf16⟩
  | .local _ .vmem, ⟨50, _⟩ => ⟨S2x1x128x2048, .bf16⟩
  | .local _ .vmem, ⟨51, _⟩ => ⟨S2x1x128x2048, .bf16⟩
  | .local _ .vmem, ⟨52, _⟩ => ⟨S2x1x128x2048, .bf16⟩
  | _, _ => ⟨S4x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26_0 : Ref sig .tc := ⟨.hbm, 54, rfl⟩
abbrev main_v26_1 : Ref sig .tc := ⟨.hbm, 55, rfl⟩
abbrev main_v26_2 : Ref sig .tc := ⟨.hbm, 56, rfl⟩
abbrev main_v26_3 : Ref sig .tc := ⟨.hbm, 57, rfl⟩
abbrev main_v26_4 : Ref sig .tc := ⟨.hbm, 58, rfl⟩
abbrev main_v26_5 : Ref sig .tc := ⟨.hbm, 59, rfl⟩
abbrev main_v26_6 : Ref sig .tc := ⟨.hbm, 60, rfl⟩
abbrev main_v26_7 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg24_0 : Ref sig .tc := ⟨.vmem, 36, rfl⟩
abbrev cc0_stg25_0 : Ref sig .tc := ⟨.vmem, 37, rfl⟩
abbrev cc0_stg25_1 : Ref sig .tc := ⟨.vmem, 38, rfl⟩
abbrev cc0_stg26_0 : Ref sig .tc := ⟨.vmem, 39, rfl⟩
abbrev cc0_stg26_1 : Ref sig .tc := ⟨.vmem, 40, rfl⟩
abbrev cc0_stg27_0 : Ref sig .tc := ⟨.vmem, 41, rfl⟩
abbrev cc0_stg27_1 : Ref sig .tc := ⟨.vmem, 42, rfl⟩
abbrev cc0_stg28_0 : Ref sig .tc := ⟨.vmem, 43, rfl⟩
abbrev cc0_stg28_1 : Ref sig .tc := ⟨.vmem, 44, rfl⟩
abbrev cc0_stg29_0 : Ref sig .tc := ⟨.vmem, 45, rfl⟩
abbrev cc0_stg29_1 : Ref sig .tc := ⟨.vmem, 46, rfl⟩
abbrev cc0_stg30_0 : Ref sig .tc := ⟨.vmem, 47, rfl⟩
abbrev cc0_stg30_1 : Ref sig .tc := ⟨.vmem, 48, rfl⟩
abbrev cc0_stg31_0 : Ref sig .tc := ⟨.vmem, 49, rfl⟩
abbrev cc0_stg31_1 : Ref sig .tc := ⟨.vmem, 50, rfl⟩
abbrev cc0_stg32_0 : Ref sig .tc := ⟨.vmem, 51, rfl⟩
abbrev cc0_stg32_1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem20_0 : DmaSem sig := 32
abbrev cc0_sem21_0 : DmaSem sig := 33
abbrev cc0_sem22_0 : DmaSem sig := 34
abbrev cc0_sem23_0 : DmaSem sig := 35
abbrev cc0_sem24_0 : DmaSem sig := 36
abbrev cc0_sem25_0 : DmaSem sig := 37
abbrev cc0_sem25_1 : DmaSem sig := 38
abbrev cc0_sem26_0 : DmaSem sig := 39
abbrev cc0_sem26_1 : DmaSem sig := 40
abbrev cc0_sem27_0 : DmaSem sig := 41
abbrev cc0_sem27_1 : DmaSem sig := 42
abbrev cc0_sem28_0 : DmaSem sig := 43
abbrev cc0_sem28_1 : DmaSem sig := 44
abbrev cc0_sem29_0 : DmaSem sig := 45
abbrev cc0_sem29_1 : DmaSem sig := 46
abbrev cc0_sem30_0 : DmaSem sig := 47
abbrev cc0_sem30_1 : DmaSem sig := 48
abbrev cc0_sem31_0 : DmaSem sig := 49
abbrev cc0_sem31_1 : DmaSem sig := 50
abbrev cc0_sem32_0 : DmaSem sig := 51
abbrev cc0_sem32_1 : DmaSem sig := 52

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c1_i32_0 : BitVec 32 := 1#32
  let c0_i32 : BitVec 32 := 0#32
  ![arg0.toNat, v2.toNat, c1_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c2_i32 : BitVec 32 := 2#32
  let c0_i32 : BitVec 32 := 0#32
  ![arg0.toNat, v2.toNat, c2_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_29 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_30 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_31 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_32 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S2x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S2x128x2048 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S2x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S2x128x2048 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S512x2048 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x2048 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S128x128 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 2 → Memref sig .tc .vmem S1x128x2048 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x128x2048 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x128x2048 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x128x2048 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x128x2048 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S2x1x128x2048 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S2x1x128x2048 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 2 → Memref sig .tc .vmem S2x1x128x2048 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true]
-- ==== ReferencePrepIdeal.lean ====
abbrev S4x4096x6144 : Shape := ⟨3, ![4, 4096, 6144]⟩
abbrev S4x4096x768 : Shape := ⟨3, ![4, 4096, 768]⟩
abbrev S1x6912 : Shape := ⟨2, ![1, 6912]⟩
abbrev S1x2x2048 : Shape := ⟨3, ![1, 2, 2048]⟩
abbrev S1x2x128x2048 : Shape := ⟨4, ![1, 2, 128, 2048]⟩
abbrev S1x512x2048 : Shape := ⟨3, ![1, 512, 2048]⟩
abbrev S1x2048 : Shape := ⟨2, ![1, 2048]⟩
abbrev S1x32x64 : Shape := ⟨3, ![1, 32, 64]⟩
abbrev S1x6144 : Shape := ⟨2, ![1, 6144]⟩
abbrev S6144 : Shape := ⟨1, ![6144]⟩
abbrev S_ : Shape := ⟨0, ![]⟩
abbrev S4x4098x6144 : Shape := ⟨3, ![4, 4098, 6144]⟩
abbrev S1x1x6144 : Shape := ⟨3, ![1, 1, 6144]⟩
abbrev S4x4096x2048 : Shape := ⟨3, ![4, 4096, 2048]⟩
abbrev S1x768 : Shape := ⟨2, ![1, 768]⟩
abbrev S768 : Shape := ⟨1, ![768]⟩
abbrev S4x4098x768 : Shape := ⟨3, ![4, 4098, 768]⟩
abbrev S1x1x768 : Shape := ⟨3, ![1, 1, 768]⟩
abbrev S4x4096x128 : Shape := ⟨3, ![4, 4096, 128]⟩
abbrev S4x4096x512 : Shape := ⟨3, ![4, 4096, 512]⟩
abbrev S512x2048 : Shape := ⟨2, ![512, 2048]⟩
abbrev S2048 : Shape := ⟨1, ![2048]⟩
abbrev S1x1x2048 : Shape := ⟨3, ![1, 1, 2048]⟩
abbrev S4x4096x32x64 : Shape := ⟨4, ![4, 4096, 32, 64]⟩
abbrev S4x4096x32 : Shape := ⟨3, ![4, 4096, 32]⟩
abbrev S4x4096x32x1 : Shape := ⟨4, ![4, 4096, 32, 1]⟩
abbrev S1x1x128x2048 : Shape := ⟨4, ![1, 1, 128, 2048]⟩
abbrev S128x2048 : Shape := ⟨2, ![128, 2048]⟩
abbrev S32x64 : Shape := ⟨2, ![32, 64]⟩
abbrev S1x1x32x64 : Shape := ⟨4, ![1, 1, 32, 64]⟩
abbrev S1x4x4096x2048 : Shape := ⟨4, ![1, 4, 4096, 2048]⟩
abbrev S2x4x4096x2048 : Shape := ⟨4, ![2, 4, 4096, 2048]⟩

abbrev nBuf : Space → Nat
  | .hbm => 213
  | .vmem => 0
  | .smem => 0
  | _ => 0

abbrev hbmTy0_0 (i : Nat) : BufTy := match i % 128 with
  | 0 => ⟨S4x4096x6144, .f32⟩
  | 1 => ⟨S4x4096x768, .f32⟩
  | 2 => ⟨S1x6912, .f32⟩
  | 3 => ⟨S1x2x2048, .f32⟩
  | 4 => ⟨S1x2x128x2048, .f32⟩
  | 5 => ⟨S1x2x2048, .f32⟩
  | 6 => ⟨S1x2x128x2048, .f32⟩
  | 7 => ⟨S1x512x2048, .f32⟩
  | 8 => ⟨S1x2048, .f32⟩
  | 9 => ⟨S1x2048, .f32⟩
  | 10 => ⟨S1x32x64, .f32⟩
  | 11 => ⟨S1x6144, .f32⟩
  | 12 => ⟨S6144, .f32⟩
  | 13 => ⟨S_, .i32⟩
  | 14 => ⟨S_, .f32⟩
  | 15 => ⟨S4x4098x6144, .f32⟩
  | 16 => ⟨S4x4096x6144, .f32⟩
  | 17 => ⟨S4x4096x6144, .f32⟩
  | 18 => ⟨S4x4096x6144, .f32⟩
  | 19 => ⟨S_, .f32⟩
  | 20 => ⟨S4x4096x6144, .f32⟩
  | 21 => ⟨S4x4096x6144, .f32⟩
  | 22 => ⟨S4x4096x6144, .f32⟩
  | 23 => ⟨S1x1x6144, .f32⟩
  | 24 => ⟨S4x4096x6144, .f32⟩
  | 25 => ⟨S4x4096x6144, .f32⟩
  | 26 => ⟨S4x4096x6144, .f32⟩
  | 27 => ⟨S4x4096x2048, .f32⟩
  | 28 => ⟨S4x4096x2048, .f32⟩
  | 29 => ⟨S4x4096x2048, .f32⟩
  | 30 => ⟨S1x768, .f32⟩
  | 31 => ⟨S768, .f32⟩
  | 32 => ⟨S_, .i32⟩
  | 33 => ⟨S_, .f32⟩
  | 34 => ⟨S4x4098x768, .f32⟩
  | 35 => ⟨S4x4096x768, .f32⟩
  | 36 => ⟨S4x4096x768, .f32⟩
  | 37 => ⟨S4x4096x768, .f32⟩
  | 38 => ⟨S_, .f32⟩
  | 39 => ⟨S4x4096x768, .f32⟩
  | 40 => ⟨S4x4096x768, .f32⟩
  | 41 => ⟨S4x4096x768, .f32⟩
  | 42 => ⟨S1x1x768, .f32⟩
  | 43 => ⟨S4x4096x768, .f32⟩
  | 44 => ⟨S4x4096x768, .f32⟩
  | 45 => ⟨S4x4096x768, .f32⟩
  | 46 => ⟨S4x4096x128, .f32⟩
  | 47 => ⟨S4x4096x128, .f32⟩
  | 48 => ⟨S4x4096x512, .f32⟩
  | 49 => ⟨S4x4096x512, .f32⟩
  | 50 => ⟨S4x4096x512, .f32⟩
  | 51 => ⟨S_, .f32⟩
  | 52 => ⟨S4x4096x512, .f32⟩
  | 53 => ⟨S4x4096x512, .f32⟩
  | 54 => ⟨S_, .f32⟩
  | 55 => ⟨S4x4096x512, .f32⟩
  | 56 => ⟨S4x4096x512, .f32⟩
  | 57 => ⟨S512x2048, .f32⟩
  | 58 => ⟨S4x4096x2048, .f32⟩
  | 59 => ⟨S2048, .f32⟩
  | 60 => ⟨S1x1x2048, .f32⟩
  | 61 => ⟨S4x4096x2048, .f32⟩
  | 62 => ⟨S4x4096x2048, .f32⟩
  | 63 => ⟨S4x4096x32x64, .f32⟩
  | 64 => ⟨S4x4096x32x64, .f32⟩
  | 65 => ⟨S_, .f32⟩
  | 66 => ⟨S4x4096x32, .f32⟩
  | 67 => ⟨S4x4096x32x1, .f32⟩
  | 68 => ⟨S_, .f32⟩
  | 69 => ⟨S4x4096x32x1, .f32⟩
  | 70 => ⟨S4x4096x32x1, .f32⟩
  | 71 => ⟨S4x4096x32x1, .f32⟩
  | 72 => ⟨S4x4096x32x64, .f32⟩
  | 73 => ⟨S4x4096x32x64, .f32⟩
  | 74 => ⟨S4x4096x32x64, .f32⟩
  | 75 => ⟨S4x4096x32x64, .f32⟩
  | 76 => ⟨S4x4096x128, .f32⟩
  | 77 => ⟨S_, .f32⟩
  | 78 => ⟨S4x4096x32x64, .f32⟩
  | 79 => ⟨S1x1x2048, .f32⟩
  | 80 => ⟨S2048, .f32⟩
  | 81 => ⟨S1x1x128x2048, .f32⟩
  | 82 => ⟨S128x2048, .f32⟩
  | 83 => ⟨S4x4096x2048, .f32⟩
  | 84 => ⟨S1x1x2048, .f32⟩
  | 85 => ⟨S4x4096x2048, .f32⟩
  | 86 => ⟨S4x4096x2048, .f32⟩
  | 87 => ⟨S4x4096x2048, .f32⟩
  | 88 => ⟨S4x4096x2048, .f32⟩
  | 89 => ⟨S_, .f32⟩
  | 90 => ⟨S4x4096x2048, .f32⟩
  | 91 => ⟨S4x4096x2048, .f32⟩
  | 92 => ⟨S_, .f32⟩
  | 93 => ⟨S4x4096x2048, .f32⟩
  | 94 => ⟨S4x4096x2048, .f32⟩
  | 95 => ⟨S_, .f32⟩
  | 96 => ⟨S4x4096x2048, .f32⟩
  | 97 => ⟨S4x4096x2048, .f32⟩
  | 98 => ⟨S1x1x2048, .f32⟩
  | 99 => ⟨S2048, .f32⟩
  | 100 => ⟨S1x1x128x2048, .f32⟩
  | 101 => ⟨S128x2048, .f32⟩
  | 102 => ⟨S4x4096x2048, .f32⟩
  | 103 => ⟨S1x1x2048, .f32⟩
  | 104 => ⟨S4x4096x2048, .f32⟩
  | 105 => ⟨S4x4096x2048, .f32⟩
  | 106 => ⟨S4x4096x2048, .f32⟩
  | 107 => ⟨S4x4096x2048, .f32⟩
  | 108 => ⟨S_, .f32⟩
  | 109 => ⟨S4x4096x2048, .f32⟩
  | 110 => ⟨S4x4096x2048, .f32⟩
  | 111 => ⟨S_, .f32⟩
  | 112 => ⟨S4x4096x2048, .f32⟩
  | 113 => ⟨S4x4096x2048, .f32⟩
  | 114 => ⟨S_, .f32⟩
  | 115 => ⟨S4x4096x2048, .f32⟩
  | 116 => ⟨S4x4096x2048, .f32⟩
  | 117 => ⟨S2048, .f32⟩
  | 118 => ⟨S1x1x2048, .f32⟩
  | 119 => ⟨S4x4096x2048, .f32⟩
  | 120 => ⟨S4x4096x2048, .f32⟩
  | 121 => ⟨S_, .f32⟩
  | 122 => ⟨S4x4096x2048, .f32⟩
  | 123 => ⟨S4x4096x2048, .f32⟩
  | 124 => ⟨S4x4096x2048, .f32⟩
  | 125 => ⟨S4x4096x32x64, .f32⟩
  | 126 => ⟨S4x4096x32x64, .f32⟩
  | 127 => ⟨S32x64, .f32⟩
  | _ => ⟨S4x4096x6144, .f32⟩

abbrev hbmTy0_1 (i : Nat) : BufTy := match i % 128 with
  | 0 => ⟨S1x1x32x64, .f32⟩
  | 1 => ⟨S4x4096x32x64, .f32⟩
  | 2 => ⟨S4x4096x32x64, .f32⟩
  | 3 => ⟨S_, .f32⟩
  | 4 => ⟨S4x4096x32, .f32⟩
  | 5 => ⟨S4x4096x32x1, .f32⟩
  | 6 => ⟨S4x4096x32x64, .f32⟩
  | 7 => ⟨S4x4096x32x64, .f32⟩
  | 8 => ⟨S4x4096x32x64, .f32⟩
  | 9 => ⟨S1x1x2048, .f32⟩
  | 10 => ⟨S2048, .f32⟩
  | 11 => ⟨S1x1x128x2048, .f32⟩
  | 12 => ⟨S128x2048, .f32⟩
  | 13 => ⟨S4x4096x2048, .f32⟩
  | 14 => ⟨S1x1x2048, .f32⟩
  | 15 => ⟨S4x4096x2048, .f32⟩
  | 16 => ⟨S4x4096x2048, .f32⟩
  | 17 => ⟨S4x4096x2048, .f32⟩
  | 18 => ⟨S4x4096x2048, .f32⟩
  | 19 => ⟨S_, .f32⟩
  | 20 => ⟨S4x4096x2048, .f32⟩
  | 21 => ⟨S4x4096x2048, .f32⟩
  | 22 => ⟨S_, .f32⟩
  | 23 => ⟨S4x4096x2048, .f32⟩
  | 24 => ⟨S4x4096x2048, .f32⟩
  | 25 => ⟨S_, .f32⟩
  | 26 => ⟨S4x4096x2048, .f32⟩
  | 27 => ⟨S4x4096x2048, .f32⟩
  | 28 => ⟨S1x1x2048, .f32⟩
  | 29 => ⟨S2048, .f32⟩
  | 30 => ⟨S1x1x128x2048, .f32⟩
  | 31 => ⟨S128x2048, .f32⟩
  | 32 => ⟨S4x4096x2048, .f32⟩
  | 33 => ⟨S1x1x2048, .f32⟩
  | 34 => ⟨S4x4096x2048, .f32⟩
  | 35 => ⟨S4x4096x2048, .f32⟩
  | 36 => ⟨S4x4096x2048, .f32⟩
  | 37 => ⟨S4x4096x2048, .f32⟩
  | 38 => ⟨S_, .f32⟩
  | 39 => ⟨S4x4096x2048, .f32⟩
  | 40 => ⟨S4x4096x2048, .f32⟩
  | 41 => ⟨S_, .f32⟩
  | 42 => ⟨S4x4096x2048, .f32⟩
  | 43 => ⟨S4x4096x2048, .f32⟩
  | 44 => ⟨S_, .f32⟩
  | 45 => ⟨S4x4096x2048, .f32⟩
  | 46 => ⟨S4x4096x2048, .f32⟩
  | 47 => ⟨S2048, .f32⟩
  | 48 => ⟨S1x1x2048, .f32⟩
  | 49 => ⟨S4x4096x2048, .f32⟩
  | 50 => ⟨S4x4096x2048, .f32⟩
  | 51 => ⟨S_, .f32⟩
  | 52 => ⟨S4x4096x2048, .f32⟩
  | 53 => ⟨S4x4096x2048, .f32⟩
  | 54 => ⟨S4x4096x2048, .f32⟩
  | 55 => ⟨S4x4096x32x64, .f32⟩
  | 56 => ⟨S4x4096x32x64, .f32⟩
  | 57 => ⟨S32x64, .f32⟩
  | 58 => ⟨S1x1x32x64, .f32⟩
  | 59 => ⟨S4x4096x32x64, .f32⟩
  | 60 => ⟨S4x4096x32x64, .f32⟩
  | 61 => ⟨S_, .f32⟩
  | 62 => ⟨S4x4096x32, .f32⟩
  | 63 => ⟨S4x4096x32x1, .f32⟩
  | 64 => ⟨S4x4096x32x64, .f32⟩
  | 65 => ⟨S4x4096x32x64, .f32⟩
  | 66 => ⟨S4x4096x32x64, .f32⟩
  | 67 => ⟨S4x4096x2048, .bf16⟩
  | 68 => ⟨S4x4096x2048, .bf16⟩
  | 69 => ⟨S4x4096x2048, .f32⟩
  | 70 => ⟨S4x4096x2048, .bf16⟩
  | 71 => ⟨S4x4096x2048, .bf16⟩
  | 72 => ⟨S4x4096x2048, .f32⟩
  | 73 => ⟨S4x4096x2048, .bf16⟩
  | 74 => ⟨S1x4x4096x2048, .f32⟩
  | 75 => ⟨S1x4x4096x2048, .f32⟩
  | 76 => ⟨S2x4x4096x2048, .f32⟩
  | 77 => ⟨S1x4x4096x2048, .f32⟩
  | 78 => ⟨S1x4x4096x2048, .f32⟩
  | 79 => ⟨S2x4x4096x2048, .f32⟩
  | 80 => ⟨S2x4x4096x2048, .bf16⟩
  | 81 => ⟨S1x4x4096x2048, .f32⟩
  | 82 => ⟨S1x4x4096x2048, .f32⟩
  | 83 => ⟨S2x4x4096x2048, .f32⟩
  | 84 => ⟨S2x4x4096x2048, .bf16⟩
  | _ => ⟨S4x4096x6144, .f32⟩

abbrev hbmTy (i : Nat) : BufTy := match i / 128 with
  | 0 => hbmTy0_0 i
  | 1 => hbmTy0_1 i
  | _ => ⟨S4x4096x6144, .f32⟩

abbrev bufTy : (tb : Table) → Fin (tcTables nBuf tb) → BufTy
  | .hbm, ⟨i, _⟩ => hbmTy i
  | _, _ => ⟨S4x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_0 : Ref sig .tc := ⟨.hbm, 32, rfl⟩
abbrev main_call1_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_6 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_7 : Ref sig .tc := ⟨.hbm, 89, rfl⟩
abbrev main_v67 : Ref sig .tc := ⟨.hbm, 90, rfl⟩
abbrev main_v68 : Ref sig .tc := ⟨.hbm, 91, rfl⟩
abbrev main_cst_8 : Ref sig .tc := ⟨.hbm, 92, rfl⟩
abbrev main_v69 : Ref sig .tc := ⟨.hbm, 93, rfl⟩
abbrev main_v70 : Ref sig .tc := ⟨.hbm, 94, rfl⟩
abbrev main_cst_9 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_10 : Ref sig .tc := ⟨.hbm, 108, rfl⟩
abbrev main_v83 : Ref sig .tc := ⟨.hbm, 109, rfl⟩
abbrev main_v84 : Ref sig .tc := ⟨.hbm, 110, rfl⟩
abbrev main_cst_11 : Ref sig .tc := ⟨.hbm, 111, rfl⟩
abbrev main_v85 : Ref sig .tc := ⟨.hbm, 112, rfl⟩
abbrev main_v86 : Ref sig .tc := ⟨.hbm, 113, rfl⟩
abbrev main_cst_12 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_13 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_14 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_15 : Ref sig .tc := ⟨.hbm, 147, rfl⟩
abbrev main_v117 : Ref sig .tc := ⟨.hbm, 148, rfl⟩
abbrev main_v118 : Ref sig .tc := ⟨.hbm, 149, rfl⟩
abbrev main_cst_16 : Ref sig .tc := ⟨.hbm, 150, rfl⟩
abbrev main_v119 : Ref sig .tc := ⟨.hbm, 151, rfl⟩
abbrev main_v120 : Ref sig .tc := ⟨.hbm, 152, rfl⟩
abbrev main_cst_17 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_18 : Ref sig .tc := ⟨.hbm, 166, rfl⟩
abbrev main_v133 : Ref sig .tc := ⟨.hbm, 167, rfl⟩
abbrev main_v134 : Ref sig .tc := ⟨.hbm, 168, rfl⟩
abbrev main_cst_19 : Ref sig .tc := ⟨.hbm, 169, rfl⟩
abbrev main_v135 : Ref sig .tc := ⟨.hbm, 170, rfl⟩
abbrev main_v136 : Ref sig .tc := ⟨.hbm, 171, rfl⟩
abbrev main_cst_20 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_cst_21 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_cst_22 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩

abbrev nD : Nat := 1
abbrev τ : Topo := Topo.v7x

variable {F : FTy → Type} [FloatOps F]
-- ==== Proof.Attn.Head.lean ====
/-
  One head of the cross-attention as a function of rows: what the kernel computes for a head from the head's columns of
  the queries, keys and values, and what the plain reference computes at an element of its result, are the same `attend`.
-/
module

public import proofs.«01_k».proof.Proof.Gen.KernelIdeal.Frame
public import proofs.«01_k».proof.Proof.Gen.ReferenceIdeal.Read
public import Idealize.ShloMosaic.Lib.Pointwise

@[expose] public section

set_option maxRecDepth 16384

noncomputable section

namespace Cert.Attn

open Idealize.ShloMosaic Idealize.ShloMosaic.TcCoe

/-- The scores of one query row against the 256 keys, scaled by 1/32. -/
def score (q : Fin 1024 → EReal) (k : Fin 256 → Fin 1024 → EReal) (κ : Fin 256) : EReal :=
  (∑ e : Fin 1024, q e * k κ e) * Ideal.ofBits .f32 0x3D000000#32

/-- The greatest entry of a row of 256. -/
def rowMax (s : Fin 256 → EReal) : EReal :=
  (Finset.univ : Finset (Fin 256)).fold max (Ideal.ofBits .f32 0xFF800000#32) s

/-- The softmax of a row of 256, the row's maximum subtracted before exponentiation. -/
def soft (s : Fin 256 → EReal) (κ : Fin 256) : EReal :=
  Ideal.div (Ideal.exp (s κ - rowMax s)) (∑ κ' : Fin 256, Ideal.exp (s κ' - rowMax s))

/-- Scaled dot-product attention of one query row over 256 keys and values, column `l` of the result. -/
def attend (q : Fin 1024 → EReal) (k v : Fin 256 → Fin 1024 → EReal) (l : Fin 1024) : EReal :=
  ∑ κ : Fin 256, soft (score q k) κ * v κ l

open Cert.KernelIdeal Cert.KernelIdeal.Gen in
/-- One head of the kernel's body, from the head's loaded columns. -/
def head (q : FVec Ideal S1x1024x1024 .bf16) (k v : FVec Ideal S1x256x1024 .bf16) : FVec Ideal S1x1024x1024 .bf16 :=
  k0_pay2 (F := Ideal) (k0_pay9 (k0_pay6 q k)) v

open Cert.KernelIdeal Cert.KernelIdeal.Gen in
/-- The scores the kernel forms for a head, read at an element. -/
theorem scores_apply (q : FVec Ideal S1x1024x1024 .bf16) (k : FVec Ideal S1x256x1024 .bf16) (r : Fin 1024) (κ : Fin 256) :
    k0_pay6 (F := Ideal) q k (ix2 r κ) = score (fun e => q (ix3 0 r e)) (fun κ e => k (ix3 0 κ e)) κ := by
  pointwise [k0_pay6]
  unfold score
  rfl

open Cert.KernelIdeal Cert.KernelIdeal.Gen in
/-- The softmax the kernel forms for a head, read at an element. -/
theorem soft_apply (s : FVec Ideal S1024x256 .f32) (r : Fin 1024) (κ : Fin 256) :
    k0_pay9 (F := Ideal) s (ix2 r κ) = soft (fun κ => s (ix2 r κ)) κ := by
  pointwise [k0_pay9]
  unfold soft rowMax
  rfl

open Cert.KernelIdeal Cert.KernelIdeal.Gen in
theorem out_apply (p : FVec Ideal S1024x256 .bf16) (v : FVec Ideal S1x256x1024 .bf16) (r l : Fin 1024) (u : Fin 1) :
    k0_pay2 (F := Ideal) p v (ix3 u r l) = ∑ κ : Fin 256, p (ix2 r κ) * v (ix3 0 κ l) := by
  pointwise [k0_pay2]

open Cert.KernelIdeal Cert.KernelIdeal.Gen in
/-- One head of the kernel's body, read at an element, is `attend` of the loaded rows. -/
theorem head_apply (q : FVec Ideal S1x1024x1024 .bf16) (k v : FVec Ideal S1x256x1024 .bf16) (u : Fin 1) (r l : Fin 1024) :
    head q k v (ix3 u r l) = attend (fun e => q (ix3 0 r e)) (fun κ e => k (ix3 0 κ e)) (fun κ e => v (ix3 0 κ e)) l := by
  unfold head attend
  rw [out_apply]
  simp only [soft_apply, scores_apply]

open Cert.ReferenceIdeal Cert.ReferenceIdeal.Read

/-- An index of the queries laid out by heads, as an index of the flat array. -/
theorem flat_q (b h : Fin 4) (t : Fin 4096) (e : Fin 1024) (κ : Fin 256) :
    idx_main_v1 (lidx_main_v7 (ix4 b h t κ) e) = ix3 b t ⟨1024 * h.val + e.val, by omega⟩ :=
  funext fun a => Fin.ext (by
    have hb := b.isLt; have hh := h.isLt; have ht := t.isLt; have he := e.isLt
    match a with
    | ⟨0, _⟩ => show (((b.val * 4096 + t.val) * 4 + h.val) * 1024 + e.val) / 16777216 = b.val; omega
    | ⟨1, _⟩ => show (((b.val * 4096 + t.val) * 4 + h.val) * 1024 + e.val) / 4096 % 4096 = t.val; omega
    | ⟨2, _⟩ => show (((b.val * 4096 + t.val) * 4 + h.val) * 1024 + e.val) % 4096 = 1024 * h.val + e.val; omega)

/-- An index of the keys laid out by heads, as an index of the flat array of keys and values. -/
theorem flat_k (b h : Fin 4) (t : Fin 4096) (e : Fin 1024) (κ : Fin 256) :
    idx_main_v3 (idx_main_v5 (ridx_main_v7 (ix4 b h t κ) e)) = ix3 b κ ⟨1024 * h.val + e.val, by omega⟩ :=
  funext fun a => Fin.ext (by
    have hb := b.isLt; have hh := h.isLt; have ht := κ.isLt; have he := e.isLt
    match a with
    | ⟨0, _⟩ => show (((b.val * 256 + κ.val) * 4 + h.val) * 1024 + e.val) / 1048576 = b.val; omega
    | ⟨1, _⟩ => show (((b.val * 256 + κ.val) * 4 + h.val) * 1024 + e.val) / 4096 % 256 = κ.val; omega
    | ⟨2, _⟩ => show (((b.val * 256 + κ.val) * 4 + h.val) * 1024 + e.val) % 4096 = 1024 * h.val + e.val; omega)

/-- The reference's scores, read at an element. -/
theorem ref_score (x0 : FVec Ideal S4x4096x4096 .bf16) (x1 : FVec Ideal S4x256x8192 .bf16)
    (b : Fin 4) (h : Fin 4) (t : Fin 4096) (κ : Fin 256) :
    val_main_v9 (F := Ideal) x0 x1 (ix4 b h t κ)
      = score (fun e => x0 (ix3 b t ⟨1024 * h.val + e.val, by omega⟩)) (fun κ e => x1 (ix3 b κ ⟨1024 * h.val + e.val, by omega⟩)) κ := by
  rw [val_main_v9_apply, val_main_v7_apply, val_main_v8_apply, val_main_cst_apply]
  simp only [val_main_v1_apply, val_main_v0_apply, val_main_v5_apply, val_main_v3_apply, val_main_v2_apply, Ideal.extf_def, Ideal.mulf_def]
  unfold score
  refine congrArg (· * _) (Finset.sum_congr rfl fun e _ => ?_)
  rw [flat_q, flat_k]

/-- The reference's row maximum, read at an element. -/
theorem ref_max (x0 : FVec Ideal S4x4096x4096 .bf16) (x1 : FVec Ideal S4x256x8192 .bf16)
    (b : Fin 4) (h : Fin 4) (t : Fin 4096) :
    val_main_v12 (F := Ideal) x0 x1 (ix3 b h t)
      = rowMax (fun κ => val_main_v9 (F := Ideal) x0 x1 (ix4 b h t κ)) := by
  rw [val_main_v12_apply, val_main_v11_apply, val_main_cst_1_apply]
  unfold val_main_v10 val_main_cst_0
  generalize val_main_v9 (F := Ideal) x0 x1 = y
  pointwise
  exact max_eq_right ((Finset.le_fold_max _).mpr (Or.inl le_rfl))

/-- The reference's softmax, read at an element. -/
theorem ref_soft (x0 : FVec Ideal S4x4096x4096 .bf16) (x1 : FVec Ideal S4x256x8192 .bf16)
    (b : Fin 4) (h : Fin 4) (t : Fin 4096) (κ : Fin 256) :
    val_main_v20 (F := Ideal) x0 x1 (ix4 b h t κ)
      = soft (fun κ => val_main_v9 (F := Ideal) x0 x1 (ix4 b h t κ)) κ := by
  have e16 : ∀ κ, val_main_v16 (F := Ideal) x0 x1 (ix4 b h t κ)
      = Ideal.exp (val_main_v9 (F := Ideal) x0 x1 (ix4 b h t κ) - rowMax (fun κ => val_main_v9 (F := Ideal) x0 x1 (ix4 b h t κ))) := by
    intro κ
    have em : idx_main_v13 (idx_main_v14 (ix4 b h t κ)) = ix3 b h t :=
      funext fun a => match a with
        | ⟨0, _⟩ => rfl
        | ⟨1, _⟩ => rfl
        | ⟨2, _⟩ => rfl
    rw [val_main_v16_apply, val_main_v15_apply, val_main_v14_apply, val_main_v13_apply, em, ref_max]
    simp only [Ideal.hostUnary_exp_def, Ideal.subf_def]
  rw [val_main_v20_apply, val_main_v19_apply, val_main_v18_apply, val_main_v17_apply, e16]
  have es : ∀ k : Fin 256, idx_main_v17 (idx_main_v18 (idx_main_v19 (ix4 b h t κ))) k = ix4 b h t k := fun k =>
    funext fun a => match a with
      | ⟨0, _⟩ => rfl
      | ⟨1, _⟩ => rfl
      | ⟨2, _⟩ => rfl
      | ⟨3, _⟩ => rfl
  simp only [es, e16, val_main_cst_2_apply, Ideal.ofBits_def, Ideal.hostDivf_def]
  unfold soft
  rw [show Ideal.ofBits .f32 0x00000000#32 = 0 from Ideal.ofBits_zero _, zero_add]

/-- The reference's result at column `1024 h + l`, read at an element. -/
theorem ref_apply (x0 : FVec Ideal S4x4096x4096 .bf16) (x1 : FVec Ideal S4x256x8192 .bf16)
    (b : Fin 4) (h : Fin 4) (t : Fin 4096) (l : Fin 1024) (j : S4x4096x4096.Idx)
    (h0 : (j 0).val = b.val) (h1 : (j 1).val = t.val) (h2 : (j 2).val = 1024 * h.val + l.val) :
    val_main_v24 (F := Ideal) x0 x1 j
      = attend (fun e => x0 (ix3 b t ⟨1024 * h.val + e.val, by omega⟩))
          (fun κ e => x1 (ix3 b κ ⟨1024 * h.val + e.val, by omega⟩))
          (fun κ e => x1 (ix3 b κ ⟨4096 + 1024 * h.val + e.val, by omega⟩)) l := by
  have hb := b.isLt; have hh := h.isLt; have ht := t.isLt; have hl := l.isLt
  have ev : ∀ κ : Fin 256, idx_main_v4 (idx_main_v6 (lidx_main_v21 (idx_main_v22 (idx_main_v23 j)) κ))
      = ix3 b κ ⟨4096 + 1024 * h.val + l.val, by omega⟩ := fun κ => by
    have hκ := κ.isLt
    have g : ((j 0).val * 4096 + (j 1).val) * 4096 + (j 2).val = (b.val * 4096 + t.val) * 4096 + (1024 * h.val + l.val) := by
      rw [h0, h1, h2]
    have g0 : (((j 0).val * 4096 + (j 1).val) * 4096 + (j 2).val) / 16777216 = b.val := by omega
    have g2 : (((j 0).val * 4096 + (j 1).val) * 4096 + (j 2).val) / 1024 % 4 = h.val := by omega
    have g3 : (((j 0).val * 4096 + (j 1).val) * 4096 + (j 2).val) % 1024 = l.val := by omega
    refine funext fun a => Fin.ext ?_
    match a with
    | ⟨0, _⟩ =>
      show ((((((j 0).val * 4096 + (j 1).val) * 4096 + (j 2).val) / 16777216 * 256 + κ.val) * 4
        + (((j 0).val * 4096 + (j 1).val) * 4096 + (j 2).val) / 1024 % 4) * 1024
        + (((j 0).val * 4096 + (j 1).val) * 4096 + (j 2).val) % 1024) / 1048576 = b.val
      rw [g0, g2, g3]; omega
    | ⟨1, _⟩ =>
      show ((((((j 0).val * 4096 + (j 1).val) * 4096 + (j 2).val) / 16777216 * 256 + κ.val) * 4
        + (((j 0).val * 4096 + (j 1).val) * 4096 + (j 2).val) / 1024 % 4) * 1024
        + (((j 0).val * 4096 + (j 1).val) * 4096 + (j 2).val) % 1024) / 4096 % 256 = κ.val
      rw [g0, g2, g3]; omega
    | ⟨2, _⟩ =>
      show 4096 + ((((((j 0).val * 4096 + (j 1).val) * 4096 + (j 2).val) / 16777216 * 256 + κ.val) * 4
        + (((j 0).val * 4096 + (j 1).val) * 4096 + (j 2).val) / 1024 % 4) * 1024
        + (((j 0).val * 4096 + (j 1).val) * 4096 + (j 2).val) % 1024) % 4096 = 4096 + 1024 * h.val + l.val
      rw [g0, g2, g3]; omega
  have ep : ∀ κ : Fin 256, ridx_main_v21 (idx_main_v22 (idx_main_v23 j)) κ = ix4 b h t κ := fun κ => by
    refine funext fun a => Fin.ext ?_
    match a with
    | ⟨0, _⟩ => show (((j 0).val * 4096 + (j 1).val) * 4096 + (j 2).val) / 16777216 = b.val; omega
    | ⟨1, _⟩ => show (((j 0).val * 4096 + (j 1).val) * 4096 + (j 2).val) / 1024 % 4 = h.val; omega
    | ⟨2, _⟩ => show (((j 0).val * 4096 + (j 1).val) * 4096 + (j 2).val) / 4096 % 4096 = t.val; omega
    | ⟨3, _⟩ => rfl
  rw [val_main_v24_apply, val_main_v23_apply, val_main_v22_apply, val_main_v21_apply]
  simp only [ep, val_main_v6_apply, val_main_v4_apply, val_main_v2_apply, ev, ref_soft, ref_score, Ideal.truncf_def, Ideal.extf_def]
  unfold attend
  exact Finset.sum_congr rfl fun κ _ => mul_comm _ _

end Cert.Attn
end
-- ==== Proof.Attn.Run.lean ====
/-
  The cross-attention call's result array after its run is the plain reference's result of the two argument arrays:
  each grid point writes back its block of that array (head by head), and the blocks cover it.
-/
module

public import proofs.«01_k».proof.Proof.Attn.Head
public import proofs.«01_k».proof.Proof.Gen.KernelIdeal.Value
public import Idealize.ShloMosaic.Lib.Pipeline.ValueKit

@[expose] public section

set_option maxRecDepth 16384

noncomputable section

namespace Cert.KernelIdeal.RefValue

open Cert.KernelIdeal Cert.KernelIdeal.Gen Idealize.ShloMosaic Idealize.ShloMosaic.TcCoe Idealize.SL.Sem
open Idealize.ShloMosaic.Pipeline (Dat)
open Cert.Attn

variable (m : (ℓ : Loc nD τ sig) → Buf (Elt Ideal) ℓ) (ρ : Dev nD → PrngReg)

/-- The reference's result of device `c`'s two argument arrays. -/
abbrev G (c : Dev nD) : Buf (Elt Ideal) ((c : Thread nD τ).loc main_v0) :=
  Cert.ReferenceIdeal.Read.val_main_v24 (F := Ideal) (m ((c : Thread nD τ).loc main_arg0)) (m ((c : Thread nD τ).loc main_arg1))

/-- One head's store, where it holds an index of the block: the reference's value at the placed index. -/
theorem head_at (x0 : Vec Ideal S1x1024x4096 .bf16) (x1 : Vec Ideal S1x256x8192 .bf16)
    (Q : FVec Ideal S4x4096x4096 .bf16) (KV : FVec Ideal S4x256x8192 .bf16) (b p h : Fin 4)
    (hq : ∀ (r : Fin 1024) (e : Fin 4096), x0 (ix3 0 r e) = Q (ix3 b ⟨1024 * p.val + r.val, by omega⟩ e))
    (hk : ∀ (κ : Fin 256) (e : Fin 8192), x1 (ix3 0 κ e) = KV (ix3 b κ e))
    (oq ok ov : Nat) (eq : oq = 1024 * h.val) (ek : ok = 1024 * h.val) (ev : ov = 4096 + 1024 * h.val)
    (iq : ∀ a, (![0, 0, oq] : Fin 3 → Nat) a + S1x1024x1024.size a ≤ S1x1024x4096.size a)
    (ik : ∀ a, (![0, 0, ok] : Fin 3 → Nat) a + S1x256x1024.size a ≤ S1x256x8192.size a)
    (iv : ∀ a, (![0, 0, ov] : Fin 3 → Nat) a + S1x256x1024.size a ≤ S1x256x8192.size a)
    (y : S1x1024x4096.Idx) (j : S4x4096x4096.Idx) (j0 : (j 0).val = b.val) (j1 : (j 1).val = 1024 * p.val + (y 1).val)
    (j2 : (j 2).val = (y 2).val) :
    View.RectAt y (Rect.unit (s := S1x1024x4096) ![0, 0, oq] S1x1024x1024.size iq)
      (head (View.ld x0 (Rect.unit (s := S1x1024x4096) ![0, 0, oq] S1x1024x1024.size iq))
        (View.ld x1 (Rect.unit (s := S1x256x8192) ![0, 0, ok] S1x256x1024.size ik))
        (View.ld x1 (Rect.unit (s := S1x256x8192) ![0, 0, ov] S1x256x1024.size iv)))
      (Cert.ReferenceIdeal.Read.val_main_v24 (F := Ideal) Q KV j) := by
  subst eq ek ev
  intro x hx
  have y1 : (y 1).val = (x 1).val := by
    rw [← hx, Rect.emb_apply]; show 0 + 1 * (x 1 : Nat) = _; omega
  have y2 : (y 2).val = 1024 * h.val + (x 2).val := by
    rw [← hx, Rect.emb_apply]; show 1024 * h.val + 1 * (x 2 : Nat) = _; omega
  have x1lt : (x 1).val < 1024 := (x 1).isLt
  have x2lt : (x 2).val < 1024 := (x 2).isLt
  refine ((congrArg (head _ _ _) (ValueIdx.eq_ix3 x)).trans (head_apply _ _ _ (x 0) (x 1) (x 2))).trans ?_
  refine Eq.trans ?_ (ref_apply Q KV b h ⟨1024 * p.val + (x 1).val, by omega⟩ (x 2) j j0 (by rw [j1, y1]) (by rw [j2, y2])).symm
  congr 1
  · funext e
    rw [View.ld_unit_apply_of x0 _ _ _ _ (ix3 0 (x 1) ⟨1024 * h.val + e.val, by omega⟩)]
    · exact hq (x 1) ⟨1024 * h.val + e.val, by omega⟩
    intro a
    match a with
    | ⟨0, _⟩ => rfl
    | ⟨1, _⟩ => exact (Nat.zero_add _).symm
    | ⟨2, _⟩ => rfl
  · funext κ e
    rw [View.ld_unit_apply_of x1 _ _ _ _ (ix3 0 κ ⟨1024 * h.val + e.val, by omega⟩), hk]
    intro a
    match a with
    | ⟨0, _⟩ => rfl
    | ⟨1, _⟩ => exact (Nat.zero_add _).symm
    | ⟨2, _⟩ => rfl
  · funext κ e
    rw [View.ld_unit_apply_of x1 _ _ _ _ (ix3 0 κ ⟨4096 + 1024 * h.val + e.val, by omega⟩), hk]
    intro a
    match a with
    | ⟨0, _⟩ => rfl
    | ⟨1, _⟩ => exact (Nat.zero_add _).symm
    | ⟨2, _⟩ => rfl

/-- The block indices of the three windows at a point, in closed form. -/
theorem idx_facts : ∀ t : Fin cfg0.N,
    win0_0.index t 0 = t.val / 4 ∧ win0_0.index t 1 = t.val % 4 ∧ win0_0.index t 2 = 0
    ∧ win0_1.index t 0 = t.val / 4 ∧ win0_1.index t 1 = 0 ∧ win0_1.index t 2 = 0
    ∧ win0_2.index t 0 = t.val / 4 ∧ win0_2.index t 1 = t.val % 4 ∧ win0_2.index t 2 = 0 :=
  (by decide +kernel : ∀ t : Fin grid0.N,
    win0_0.index t 0 = t.val / 4 ∧ win0_0.index t 1 = t.val % 4 ∧ win0_0.index t 2 = 0
    ∧ win0_1.index t 0 = t.val / 4 ∧ win0_1.index t 1 = 0 ∧ win0_1.index t 2 = 0
    ∧ win0_2.index t 0 = t.val / 4 ∧ win0_2.index t 1 = t.val % 4 ∧ win0_2.index t 2 = 0)

/-- Point `t`'s block of the queries, read at an element. -/
theorem blk_q (c : Dev nD) (t : Fin cfg0.N) (j : S1x1024x4096.Idx) (i : S4x4096x4096.Idx)
    (h0 : (i 0).val = t.val / 4 + (j 0).val) (h1 : (i 1).val = 1024 * (t.val % 4) + (j 1).val) (h2 : (i 2).val = (j 2).val) :
    iblk m c 0 t j = m ((c : Thread nD τ).loc main_arg0) i := by
  unfold iblk
  rw [View.read_apply]
  show V m c main_arg0 _ = _
  refine congrArg (m ((c : Thread nD τ).loc main_arg0)) (funext fun a => Fin.ext ?_)
  have e := idx_facts t
  match a with
  | ⟨0, _⟩ => show win0_0.index t 0 * 1 + 1 * (j 0).val = (i 0).val; rw [e.1, h0]; omega
  | ⟨1, _⟩ => show win0_0.index t 1 * 1024 + 1 * (j 1).val = (i 1).val; rw [e.2.1, h1]; omega
  | ⟨2, _⟩ => show win0_0.index t 2 * 4096 + 1 * (j 2).val = (i 2).val; rw [e.2.2.1, h2]; omega

/-- Point `t`'s block of the keys and values, read at an element. -/
theorem blk_kv (c : Dev nD) (t : Fin cfg0.N) (j : S1x256x8192.Idx) (i : S4x256x8192.Idx)
    (h0 : (i 0).val = t.val / 4 + (j 0).val) (h1 : (i 1).val = (j 1).val) (h2 : (i 2).val = (j 2).val) :
    iblk m c 1 t j = m ((c : Thread nD τ).loc main_arg1) i := by
  unfold iblk
  rw [View.read_apply]
  show V m c main_arg1 _ = _
  refine congrArg (m ((c : Thread nD τ).loc main_arg1)) (funext fun a => Fin.ext ?_)
  have e := (idx_facts t).2.2.2
  match a with
  | ⟨0, _⟩ => show win0_1.index t 0 * 1 + 1 * (j 0).val = (i 0).val; rw [e.1, h0]; omega
  | ⟨1, _⟩ => show win0_1.index t 1 * 256 + 1 * (j 1).val = (i 1).val; rw [e.2.1, h1]; omega
  | ⟨2, _⟩ => show win0_1.index t 2 * 8192 + 1 * (j 2).val = (i 2).val; rw [e.2.2.1, h2]; omega

/-- What point `t` writes back is block `t` of the reference's result. -/
theorem flushed_eq (c : Dev nD) (t : Fin cfg0.N) :
    (dats m 0 c).flushed 2 t = (win0_2.blk t).view.read (Elt Ideal) (G m c) := by
  have ht : t.val < 16 := N_0 ▸ t.isLt
  rw [Value.flushed2]
  funext y
  rw [View.read_apply]
  show out0_2 (iblk m c 0 t) (iblk m c 1 t) _ = G m c _
  unfold out0_2
  have e := (idx_facts t).2.2.2.2.2.2
  refine View.canon_eq_of_allAt _ _ _ (cover0_2 _ _ _ _ _) ?_
  have key := fun (h : Fin 4) => head_at (iblk m c 0 t) (iblk m c 1 t) (m ((c : Thread nD τ).loc main_arg0)) (m ((c : Thread nD τ).loc main_arg1))
    ⟨t.val / 4, by omega⟩ ⟨t.val % 4, by omega⟩ h
    (fun r e => blk_q m c t _ _ rfl rfl rfl) (fun κ e => blk_kv m c t _ _ rfl rfl rfl)
  have j0 : (((win0_2.blk t).view.emb y) 0).val = t.val / 4 := by
    show win0_2.index t 0 * 1 + 1 * (y 0).val = _
    have : (y 0).val < 1 := (y 0).isLt
    rw [e.1]; omega
  have j1 : (((win0_2.blk t).view.emb y) 1).val = 1024 * (t.val % 4) + (y 1).val := by
    show win0_2.index t 1 * 1024 + 1 * (y 1).val = _
    rw [e.2.1]; omega
  have j2 : (((win0_2.blk t).view.emb y) 2).val = (y 2).val := by
    show win0_2.index t 2 * 4096 + 1 * (y 2).val = _
    rw [e.2.2]; omega
  refine View.allAt_cons _ _ _ (key 3 3072 3072 7168 rfl rfl rfl _ _ _ _ _ j0 j1 j2) ?_
  refine View.allAt_cons _ _ _ (key 2 2048 2048 6144 rfl rfl rfl _ _ _ _ _ j0 j1 j2) ?_
  refine View.allAt_cons _ _ _ (key 1 1024 1024 5120 rfl rfl rfl _ _ _ _ _ j0 j1 j2) ?_
  refine View.allAt_cons _ _ _ (key 0 0 0 4096 rfl rfl rfl _ _ _ _ _ j0 j1 j2) ?_
  exact View.allAt_nil _ _

/-- An index of the result array is in point `t`'s block exactly when the point's coordinates are the index's. -/
theorem mem_blk (t : Fin cfg0.N) (i : S4x4096x4096.Idx) (h0 : (i 0).val = t.val / 4)
    (h1 : 1024 * (t.val % 4) ≤ (i 1).val) (h1' : (i 1).val < 1024 * (t.val % 4) + 1024) :
    i ∈ ((cfg0.win 2).blk t).view.set := by
  show i ∈ ((View.whole main_v0).slice (win0_2.rect t)).set
  rw [View.set_slice_whole, Rect.mem_set_unit]
  have e := (idx_facts t).2.2.2.2.2.2
  have h2 : (i 2).val < 4096 := (i 2).isLt
  intro a
  match a with
  | ⟨0, _⟩ => show win0_2.index t 0 * 1 ≤ (i 0).val ∧ (i 0).val < win0_2.index t 0 * 1 + 1; rw [e.1]; omega
  | ⟨1, _⟩ => show win0_2.index t 1 * 1024 ≤ (i 1).val ∧ (i 1).val < win0_2.index t 1 * 1024 + 1024; rw [e.2.1]; omega
  | ⟨2, _⟩ => show win0_2.index t 2 * 4096 ≤ (i 2).val ∧ (i 2).val < win0_2.index t 2 * 4096 + 4096; rw [e.2.2]; omega

/-- Every index of the result array is in some point's block. -/
theorem cover (i : S4x4096x4096.Idx) : ∃ t : Fin cfg0.N, (cfg0.win 2).flush t = true ∧ i ∈ ((cfg0.win 2).blk t).view.set := by
  have h0 : (i 0).val < 4 := (i 0).isLt
  have h1 : (i 1).val < 4096 := (i 1).isLt
  have hN : 4 * (i 0).val + (i 1).val / 1024 < cfg0.N := by show _ < grid0.N; rw [N_0]; omega
  refine ⟨⟨4 * (i 0).val + (i 1).val / 1024, hN⟩, flush0_2 _, mem_blk _ i ?_ ?_ ?_⟩ <;> dsimp only <;> omega

/-- The result array after the last point is the reference's result. -/
theorem final (c : Dev nD) : (dats m 0 c).arrAt 2 cfg0.N = G m c :=
  (dats m 0 c).arrAt_eq_of_cover 2 (G m c) (fun t _ => flushed_eq m c t) cover

/-- The run: the result array at the reference's result of the arguments, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.RefValue
end
-- ==== Proof.Attn.Claims.lean ====
/-
  The five claims about the cross-attention call and its plain reference.
-/
module

public import proofs.«01_k».proof.Defs
public import proofs.«01_k».proof.Proof.Attn.Run
public import proofs.«01_k».proof.Proof.Gen.Kernel.Frame
public import proofs.«01_k».proof.Proof.Gen.ReferenceIdeal.Run
public import Idealize.ShloMosaic.Lib.Quiescent

@[expose] public section

noncomputable section

namespace Cert.Attn

open Idealize.ShloMosaic Idealize.ShloMosaic.TcCoe Idealize.SL.Sem

/-- The reference's run, its result named stage by stage, for arguments that agree with the kernel's. -/
theorem run_ref (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      fun r => ∀ c : Dev ReferenceIdeal.nD,
        r.2.mem ((c.tc : Thread ReferenceIdeal.nD ReferenceIdeal.τ).loc ReferenceIdeal.main_v24)
          = ReferenceIdeal.Read.val_main_v24 (F := Ideal)
              (m ((c.tc : Thread ReferenceIdeal.nD ReferenceIdeal.τ).loc ReferenceIdeal.main_arg0))
              (m ((c.tc : Thread ReferenceIdeal.nD ReferenceIdeal.τ).loc ReferenceIdeal.main_arg1))
        ∧ r.2.mem ((c.tc : Thread ReferenceIdeal.nD ReferenceIdeal.τ).loc ReferenceIdeal.main_arg0)
            = m ((c.tc : Thread ReferenceIdeal.nD ReferenceIdeal.τ).loc ReferenceIdeal.main_arg0)
        ∧ r.2.mem ((c.tc : Thread ReferenceIdeal.nD ReferenceIdeal.τ).loc ReferenceIdeal.main_arg1)
            = m ((c.tc : Thread ReferenceIdeal.nD ReferenceIdeal.τ).loc ReferenceIdeal.main_arg1) :=
  (θ_run _ _ _).mono (fun _ h c => ⟨(h c).1.trans (ReferenceIdeal.Read.val_main_v24_eq ..), (h c).2⟩)
    (ReferenceIdeal.Value.run (F := Ideal) m ρ)

/-- The kernel as printed terminates without a fault, its arguments unchanged and every counter at zero. -/
theorem frame_kernel : quiescent_Kernel := fun m ρ _ => Kernel.Gen.frame m ρ
/-- The idealized kernel likewise. -/
theorem frame_kernelIdeal : quiescent_KernelIdeal := fun m ρ _ => KernelIdeal.Gen.frame m ρ
/-- The reference likewise. -/
theorem frame_ref : quiescent_ReferenceIdeal := fun m ρ _ =>
  (θ_run _ _ _).mono (fun r h => ⟨fun c => (h c).2, sem_eq_zero_of_no_sems (by decide) r.2⟩) (run_ref m ρ)

/-- The idealized kernel's result array equals the reference's. -/
theorem algebraic : algebraic_KernelIdeal_ReferenceIdeal := by
  intro m ρ m' ρ' _ hag
  refine ⟨fun c => KernelIdeal.RefValue.G m c, KernelIdeal.RefValue.run m ρ, ?_⟩
  refine (θ_run _ _ _).mono (fun _ h c => ⟨(h c).1.trans ?_, (h c).2⟩) (run_ref m' ρ')
  rw [(hag c).1, (hag c).2]

end Cert.Attn
end
-- ==== Proof.Ffn.Vals.lean ====
/-
  The feed-forward call's payloads at the idealized reading, index by index: the row normalisation, the
  three-tap convolution along the sequence, the gated product with its down projection, and the contents the
  kernel's scratch and accumulator reach by their chunked stores.
-/
module

public import proofs.«01_k».proof.Proof.Gen.KernelFfnIdeal.Skeleton
public import Idealize.ShloMosaic.Lib.Pointwise

@[expose] public section

set_option maxRecDepth 16384

noncomputable section

namespace Cert.KernelFfnIdeal.Hand

open Idealize.ShloMosaic Idealize.ShloMosaic.TcCoe
open Cert.KernelFfnIdeal.Gen

/-- A row of length 4096 divided by the root of its mean square (plus the small constant), times the weights. -/
def rms (row g : Fin 4096 → EReal) (k : Fin 4096) : EReal :=
  row k * Ideal.rsqrt (Ideal.div (∑ x, row x * row x) (Ideal.ofBits FTy.f32 1166016512#32)
    + Ideal.ofBits FTy.f32 897988541#32) * g k

/-- Chunk rows are normalised row by row. -/
theorem pay8_apply (v71 : FVec Ideal S1x4096 .f32) (v117 : Vec Ideal S1x128x4096 .f32) (r : Fin 128) (k : Fin 4096) :
    k0_pay8 v71 v117 (ix2 r k) = rms (fun x => v117 (ix3 0 r x)) (fun x => v71 (ix2 0 x)) k := by
  pointwise [k0_pay8]
  rfl

/-- The rows before the tile are normalised too, and zero at the first tile. -/
theorem pay5_apply (a : BitVec 32) (v70 : Vec Ideal S1x4096 .f32) (v74 : Vec Ideal S1x16x4096 .f32) (r : Fin 16) (k : Fin 4096) :
    k0_pay5 a v70 v74 (ix2 r k) = Scalar.select (Scalar.cmpi CmpIPredicate.eq a 0#32) 0
      (rms (fun x => v74 (ix3 0 r x)) (fun x => v70 (ix2 0 x)) k) := by
  pointwise [k0_pay5, k0_pay4, k0_pay3]
  rfl

/-- The rows after the tile are normalised too, and zero at the last tile. -/
theorem pay76_apply (a : BitVec 32) (v70 : Vec Ideal S1x4096 .f32) (v94 : Vec Ideal S1x16x4096 .f32) (r : Fin 16) (k : Fin 4096) :
    k0_pay7 (k0_pay6 a v70 v94) (ix2 r k) = Scalar.select (Scalar.cmpi CmpIPredicate.eq a 3#32) 0
      (rms (fun x => v94 (ix3 0 r x)) (fun x => v70 (ix2 0 x)) k) := by
  pointwise [k0_pay7, k0_pay6, k0_pay4, k0_pay3]
  rfl

/-- The weights pass unchanged. -/
theorem pay3_apply (v70 : Vec Ideal S1x4096 .f32) (u : Fin 1) (k : Fin 4096) : k0_pay3 v70 (ix2 u k) = v70 (ix2 0 k) := by
  obtain rfl : u = 0 := Subsingleton.elim _ _
  pointwise [k0_pay3]

/-- The accumulator starts at zero. -/
theorem pay9_apply (u : Fin 1) (r : Fin 128) (k : Fin 4096) : k0_pay9 (F := Ideal) (ix3 u r k) = 0 := by
  pointwise [k0_pay9]
  try exact Ideal.ofBits_zero _

/-- The last step's row: the residual row plus the accumulated row, normalised. -/
theorem pay2_apply (v70 : Vec Ideal S1x4096 .f32) (v76 v79 : Vec Ideal S1x128x4096 .f32) (u : Fin 1) (r : Fin 128) (k : Fin 4096) :
    k0_pay2 v70 v76 v79 (ix3 u r k) = rms (fun x => v76 (ix3 0 r x) + v79 (ix3 0 r x)) (fun x => v70 (ix2 0 x)) k := by
  pointwise [k0_pay2]
  rfl

/-- One column of the projected rows. -/
def prod (hx : Vec Ideal S1056x4096 .bf16) (w : Vec Ideal S4096x256 .bf16) (q : Fin 1056) (l : Fin 256) : EReal :=
  ∑ x, hx (ix2 q x) * w (ix2 x l)

/-- Three taps along the sequence and a bias, at the tile's row `r` (row `16 + r` of the projected rows). -/
def conv (hx : Vec Ideal S1056x4096 .bf16) (w : Vec Ideal S4096x256 .bf16) (cw : Vec Ideal S3x256 .f32) (cb : Vec Ideal S1x256 .f32)
    (r : Fin 1024) (l : Fin 256) : EReal :=
  cw (ix2 0 l) * prod hx w ⟨15 + r.val, by omega⟩ l + cw (ix2 1 l) * prod hx w ⟨16 + r.val, by omega⟩ l
    + cw (ix2 2 l) * prod hx w ⟨17 + r.val, by omega⟩ l + cb (ix2 0 l)

theorem prev_row (r : Fin 1024) (h : (16 + r.val + 1056 - 1) % 1056 < 1056) :
    (⟨(16 + r.val + 1056 - 1) % 1056, h⟩ : Fin 1056) = ⟨15 + r.val, by omega⟩ := Fin.ext (by show _ % 1056 = 15 + r.val; omega)

theorem next_row (r : Fin 1024) (h : (16 + r.val + 1056 - 1055) % 1056 < 1056) :
    (⟨(16 + r.val + 1056 - 1055) % 1056, h⟩ : Fin 1056) = ⟨17 + r.val, by omega⟩ := Fin.ext (by show _ % 1056 = 17 + r.val; omega)

/-- The gate's convolution. -/
theorem pay10_apply (v3 : Vec Ideal S1056x4096 .bf16) (v4 : Vec Ideal S4096x256 .bf16) (v11 : Vec Ideal S3x256 .f32)
    (v25 : Vec Ideal S1x256 .f32) (r : Fin 1024) (l : Fin 256) : k0_pay10 v3 v4 v11 v25 (ix2 r l) = conv v3 v4 v11 v25 r l := by
  pointwise [k0_pay10]
  rw [prev_row, next_row]
  rfl

/-- The value's projected rows. -/
theorem pay11_apply (v3 : Vec Ideal S1056x4096 .bf16) (v4 : Vec Ideal S4096x256 .bf16) (q : Fin 1056) (l : Fin 256) :
    k0_pay11 v3 v4 (ix2 q l) = prod v3 v4 q l := by
  pointwise [k0_pay11]
  rfl

/-- The value's rows one before. -/
theorem pay12_apply (v3 : Vec Ideal S1056x4096 .bf16) (v4 : Vec Ideal S4096x256 .bf16) (r : Fin 1024) (l : Fin 256) :
    k0_pay12 v3 v4 (ix2 r l) = prod v3 v4 ⟨15 + r.val, by omega⟩ l := by
  pointwise [k0_pay12]
  rw [prev_row, pay11_apply]

/-- The value's rows one after. -/
theorem pay13_apply (v3 : Vec Ideal S1056x4096 .bf16) (v4 : Vec Ideal S4096x256 .bf16) (r : Fin 1024) (l : Fin 256) :
    k0_pay13 v3 v4 (ix2 r l) = prod v3 v4 ⟨17 + r.val, by omega⟩ l := by
  pointwise [k0_pay13]
  rw [next_row, pay11_apply]

/-- A gate times its logistic, times the value. -/
def gated (a b : EReal) : EReal := a * Ideal.logistic a * b

/-- One feed-forward block added to the accumulator: the gated product of the two convolutions, projected down. -/
theorem step_apply (hx : Vec Ideal S1056x4096 .bf16) (wg wv : Vec Ideal S4096x256 .bf16) (cwg cwv : Vec Ideal S3x256 .f32)
    (cbg cbv : Vec Ideal S1x256 .f32) (o : Vec Ideal S1x1024x4096 .f32) (wd : Vec Ideal S256x4096 .bf16)
    (u : Fin 1) (r : Fin 1024) (k : Fin 4096) :
    k0_pay1 (k0_pay10 hx wg cwg cbg) (k0_pay11 hx wv) (k0_pay12 hx wv) (k0_pay13 hx wv) cwv cbv o wd (ix3 u r k)
      = o (ix3 0 r k) + ∑ l, gated (conv hx wg cwg cbg r l) (conv hx wv cwv cbv r l) * wd (ix2 l k) := by
  pointwise [k0_pay1]
  refine congrArg (o (ix3 0 r k) + ·) (Finset.sum_congr rfl fun l _ => ?_)
  rw [pay10_apply, pay11_apply, pay12_apply, pay13_apply]
  rfl

/-- The scratch's contents once a tile's rows are normalised: sixteen rows before the tile (zero at the first
    tile), the tile's rows, sixteen rows after it (zero at the last tile). -/
def hxv (a : BitVec 32) (x0 : Vec Ideal S1x1024x4096 .f32) (x1 x2 : Vec Ideal S1x16x4096 .f32) (x3 : Vec Ideal S1x4096 .f32) :
    Vec Ideal S1056x4096 .bf16 := fun y =>
  if (y 0).val < 16 then Scalar.select (Scalar.cmpi CmpIPredicate.eq a 0#32) 0
    (rms (fun x => x1 (ix3 0 (Fin.ofNat 16 (y 0).val) x)) (fun x => x3 (ix2 0 x)) (y 1))
  else if (y 0).val < 1040 then rms (fun x => x0 (ix3 0 (Fin.ofNat 1024 ((y 0).val - 16)) x)) (fun x => x3 (ix2 0 x)) (y 1)
  else Scalar.select (Scalar.cmpi CmpIPredicate.eq a 3#32) 0
    (rms (fun x => x2 (ix3 0 (Fin.ofNat 16 ((y 0).val - 1040)) x)) (fun x => x3 (ix2 0 x)) (y 1))

/-- The output tile after the last step: each row the normalised sum of the residual row and the accumulated row. -/
def fin (x0 : Vec Ideal S1x1024x4096 .f32) (x4 : Vec Ideal S1x4096 .f32) (o : Vec Ideal S1x1024x4096 .f32) :
    Vec Ideal S1x1024x4096 .f32 := fun y =>
  rms (fun x => x0 (ix3 0 (y 1) x) + o (ix3 0 (y 1) x)) (fun x => x4 (ix2 0 x)) (y 2)

/-- One block's step as a vector. -/
def stepv (hx : Vec Ideal S1056x4096 .bf16) (wg wv : Vec Ideal S4096x256 .bf16) (cwg cwv : Vec Ideal S3x256 .f32)
    (cbg cbv : Vec Ideal S1x256 .f32) (wd : Vec Ideal S256x4096 .bf16) (o : Vec Ideal S1x1024x4096 .f32) : Vec Ideal S1x1024x4096 .f32 :=
  k0_pay1 (k0_pay10 hx wg cwg cbg) (k0_pay11 hx wv) (k0_pay12 hx wv) (k0_pay13 hx wv) cwv cbv o wd

end Cert.KernelFfnIdeal.Hand
end
-- ==== Proof.Ffn.Blocks.lean ====
/-
  The feed-forward call's blocks: which part of its array each window stages at a grid point, and the scratch's
  contents as a function of the array and the tile alone.
-/
module

public import proofs.«01_k».proof.Proof.Ffn.Step

@[expose] public section

set_option maxRecDepth 16384

noncomputable section

namespace Cert.KernelFfnIdeal.Hand

open Idealize.ShloMosaic Idealize.ShloMosaic.TcCoe
open Cert.KernelFfnIdeal.Gen

variable (m : (ℓ : Loc nD τ sig) → Buf (Elt Ideal) ℓ)

/-- The grid point's coordinates: batch, tile and block, from the point's number. -/
theorem coord0 (t : Fin cfg0.N) : (grid0.coords t 0).val = t.val / 172 % 4 := Pipeline.Grid.coords_val t 0 (by decide) rfl
theorem coord1 (t : Fin cfg0.N) : (grid0.coords t 1).val = t.val / 43 % 4 := Pipeline.Grid.coords_val t 1 (by decide) rfl
theorem coord2 (t : Fin cfg0.N) : (grid0.coords t 2).val = t.val / 1 % 43 := Pipeline.Grid.coords_val t 2 (by decide) rfl

/-- A tile's first step is the points at a multiple of 43. -/
theorem cond1_iff (t : Fin cfg0.N) : k0_cond1 (grid0.coords t) = 1#1 ↔ t.val % 43 = 0 := by
  have ht : t.val < 688 := Nat.lt_of_lt_of_eq t.isLt N_0
  simp only [k0_cond1, coord0, coord1, coord2]
  word_cmp

/-- A tile's last step is the points one before a multiple of 43. -/
theorem cond2_iff (t : Fin cfg0.N) : k0_cond2 (grid0.coords t) = 1#1 ↔ t.val % 43 = 42 := by
  have ht : t.val < 688 := Nat.lt_of_lt_of_eq t.isLt N_0
  simp only [k0_cond2, coord0, coord1, coord2]
  word_cmp

/-- Every window's block index at a point, from the point's number. -/
theorem idx_facts : ∀ t : Fin grid0.N,
    (win0_0.index t 0 = t.val / 172 ∧ win0_0.index t 1 = t.val / 43 % 4 ∧ win0_0.index t 2 = 0)
    ∧ (win0_1.index t 0 = t.val / 172 ∧ win0_1.index t 1 = 64 * (t.val / 43 % 4) - 1 ∧ win0_1.index t 2 = 0)
    ∧ (win0_2.index t 0 = t.val / 172 ∧ win0_2.index t 1 = min (64 * (t.val / 43 % 4) + 64) 255 ∧ win0_2.index t 2 = 0)
    ∧ (win0_3.index t 0 = 0 ∧ win0_3.index t 1 = 0) ∧ (win0_4.index t 0 = 0 ∧ win0_4.index t 1 = 0)
    ∧ (win0_5.index t 0 = 0 ∧ win0_5.index t 1 = t.val % 43) ∧ (win0_6.index t 0 = 0 ∧ win0_6.index t 1 = 43 + t.val % 43)
    ∧ (win0_7.index t 0 = 0 ∧ win0_7.index t 1 = t.val % 43) ∧ (win0_8.index t 0 = 0 ∧ win0_8.index t 1 = 43 + t.val % 43)
    ∧ (win0_9.index t 0 = 0 ∧ win0_9.index t 1 = t.val % 43) ∧ (win0_10.index t 0 = 0 ∧ win0_10.index t 1 = 43 + t.val % 43)
    ∧ (win0_11.index t 0 = t.val % 43 ∧ win0_11.index t 1 = 0)
    ∧ (win0_12.index t 0 = t.val / 172 ∧ win0_12.index t 1 = t.val / 43 % 4 ∧ win0_12.index t 2 = 0) := by decide +kernel

/-- Window 0 stages the residual rows of the tile. -/
theorem blk0 (c : Dev nD) (t : Fin cfg0.N) (j : S1x1024x4096.Idx) (i : S4x4096x4096.Idx) (h0 : (i 0).val = 1 * (t.val / 172) + (j 0).val) (h1 : (i 1).val = 1024 * (t.val / 43 % 4) + (j 1).val) (h2 : (i 2).val = 0 + (j 2).val) :
    (iblk m c 0 t : Vec Ideal S1x1024x4096 .f32) j = (V m c main_arg0 : Vec Ideal S4x4096x4096 .f32) i := by
  unfold iblk
  rw [View.read_apply]
  show V m c main_arg0 _ = _
  refine congrArg (V m c main_arg0) (funext fun a => Fin.ext ?_)
  have e := (idx_facts t).1
  match a with
  | ⟨0, _⟩ => show win0_0.index t 0 * 1 + 1 * (j 0).val = (i 0).val; rw [e.1, h0]; omega
  | ⟨1, _⟩ => show win0_0.index t 1 * 1024 + 1 * (j 1).val = (i 1).val; rw [e.2.1, h1]; omega
  | ⟨2, _⟩ => show win0_0.index t 2 * 4096 + 1 * (j 2).val = (i 2).val; rw [e.2.2, h2]; omega

/-- Window 1 stages the sixteen rows before the tile. -/
theorem blk1 (c : Dev nD) (t : Fin cfg0.N) (j : S1x16x4096.Idx) (i : S4x4096x4096.Idx) (h0 : (i 0).val = 1 * (t.val / 172) + (j 0).val) (h1 : (i 1).val = 16 * ((64 * (t.val / 43 % 4) - 1)) + (j 1).val) (h2 : (i 2).val = 0 + (j 2).val) :
    (iblk m c 1 t : Vec Ideal S1x16x4096 .f32) j = (V m c main_arg0 : Vec Ideal S4x4096x4096 .f32) i := by
  unfold iblk
  rw [View.read_apply]
  show V m c main_arg0 _ = _
  refine congrArg (V m c main_arg0) (funext fun a => Fin.ext ?_)
  have e := (idx_facts t).2.1
  match a with
  | ⟨0, _⟩ => show win0_1.index t 0 * 1 + 1 * (j 0).val = (i 0).val; rw [e.1, h0]; omega
  | ⟨1, _⟩ => show win0_1.index t 1 * 16 + 1 * (j 1).val = (i 1).val; rw [e.2.1, h1]; omega
  | ⟨2, _⟩ => show win0_1.index t 2 * 4096 + 1 * (j 2).val = (i 2).val; rw [e.2.2, h2]; omega

/-- Window 2 stages the sixteen rows after the tile. -/
theorem blk2 (c : Dev nD) (t : Fin cfg0.N) (j : S1x16x4096.Idx) (i : S4x4096x4096.Idx) (h0 : (i 0).val = 1 * (t.val / 172) + (j 0).val) (h1 : (i 1).val = 16 * (min (64 * (t.val / 43 % 4) + 64) 255) + (j 1).val) (h2 : (i 2).val = 0 + (j 2).val) :
    (iblk m c 2 t : Vec Ideal S1x16x4096 .f32) j = (V m c main_arg0 : Vec Ideal S4x4096x4096 .f32) i := by
  unfold iblk
  rw [View.read_apply]
  show V m c main_arg0 _ = _
  refine congrArg (V m c main_arg0) (funext fun a => Fin.ext ?_)
  have e := (idx_facts t).2.2.1
  match a with
  | ⟨0, _⟩ => show win0_2.index t 0 * 1 + 1 * (j 0).val = (i 0).val; rw [e.1, h0]; omega
  | ⟨1, _⟩ => show win0_2.index t 1 * 16 + 1 * (j 1).val = (i 1).val; rw [e.2.1, h1]; omega
  | ⟨2, _⟩ => show win0_2.index t 2 * 4096 + 1 * (j 2).val = (i 2).val; rw [e.2.2, h2]; omega

/-- Window 3 stages the inner weights. -/
theorem blk3 (c : Dev nD) (t : Fin cfg0.N) (j : S1x4096.Idx) (i : S1x4096.Idx) (h0 : (i 0).val = 0 + (j 0).val) (h1 : (i 1).val = 0 + (j 1).val) :
    (iblk m c 3 t : Vec Ideal S1x4096 .f32) j = (V m c main_v8 : Vec Ideal S1x4096 .f32) i := by
  unfold iblk
  rw [View.read_apply]
  show V m c main_v8 _ = _
  refine congrArg (V m c main_v8) (funext fun a => Fin.ext ?_)
  have e := (idx_facts t).2.2.2.1
  match a with
  | ⟨0, _⟩ => show win0_3.index t 0 * 1 + 1 * (j 0).val = (i 0).val; rw [e.1, h0]; omega
  | ⟨1, _⟩ => show win0_3.index t 1 * 4096 + 1 * (j 1).val = (i 1).val; rw [e.2, h1]; omega

/-- Window 4 stages the outer weights. -/
theorem blk4 (c : Dev nD) (t : Fin cfg0.N) (j : S1x4096.Idx) (i : S1x4096.Idx) (h0 : (i 0).val = 0 + (j 0).val) (h1 : (i 1).val = 0 + (j 1).val) :
    (iblk m c 4 t : Vec Ideal S1x4096 .f32) j = (V m c main_v9 : Vec Ideal S1x4096 .f32) i := by
  unfold iblk
  rw [View.read_apply]
  show V m c main_v9 _ = _
  refine congrArg (V m c main_v9) (funext fun a => Fin.ext ?_)
  have e := (idx_facts t).2.2.2.2.1
  match a with
  | ⟨0, _⟩ => show win0_4.index t 0 * 1 + 1 * (j 0).val = (i 0).val; rw [e.1, h0]; omega
  | ⟨1, _⟩ => show win0_4.index t 1 * 4096 + 1 * (j 1).val = (i 1).val; rw [e.2, h1]; omega

/-- Window 5 stages the gate's columns. -/
theorem blk5 (c : Dev nD) (t : Fin cfg0.N) (j : S4096x256.Idx) (i : S4096x22016.Idx) (h0 : (i 0).val = 0 + (j 0).val) (h1 : (i 1).val = 256 * (t.val % 43) + (j 1).val) :
    (iblk m c 5 t : Vec Ideal S4096x256 .bf16) j = (V m c main_v2 : Vec Ideal S4096x22016 .bf16) i := by
  unfold iblk
  rw [View.read_apply]
  show V m c main_v2 _ = _
  refine congrArg (V m c main_v2) (funext fun a => Fin.ext ?_)
  have e := (idx_facts t).2.2.2.2.2.1
  match a with
  | ⟨0, _⟩ => show win0_5.index t 0 * 4096 + 1 * (j 0).val = (i 0).val; rw [e.1, h0]; omega
  | ⟨1, _⟩ => show win0_5.index t 1 * 256 + 1 * (j 1).val = (i 1).val; rw [e.2, h1]; omega

/-- Window 6 stages the value's columns. -/
theorem blk6 (c : Dev nD) (t : Fin cfg0.N) (j : S4096x256.Idx) (i : S4096x22016.Idx) (h0 : (i 0).val = 0 + (j 0).val) (h1 : (i 1).val = 256 * ((43 + t.val % 43)) + (j 1).val) :
    (iblk m c 6 t : Vec Ideal S4096x256 .bf16) j = (V m c main_v2 : Vec Ideal S4096x22016 .bf16) i := by
  unfold iblk
  rw [View.read_apply]
  show V m c main_v2 _ = _
  refine congrArg (V m c main_v2) (funext fun a => Fin.ext ?_)
  have e := (idx_facts t).2.2.2.2.2.2.1
  match a with
  | ⟨0, _⟩ => show win0_6.index t 0 * 4096 + 1 * (j 0).val = (i 0).val; rw [e.1, h0]; omega
  | ⟨1, _⟩ => show win0_6.index t 1 * 256 + 1 * (j 1).val = (i 1).val; rw [e.2, h1]; omega

/-- Window 7 stages the gate's taps. -/
theorem blk7 (c : Dev nD) (t : Fin cfg0.N) (j : S3x256.Idx) (i : S3x22016.Idx) (h0 : (i 0).val = 0 + (j 0).val) (h1 : (i 1).val = 256 * (t.val % 43) + (j 1).val) :
    (iblk m c 7 t : Vec Ideal S3x256 .f32) j = (V m c main_v3 : Vec Ideal S3x22016 .f32) i := by
  unfold iblk
  rw [View.read_apply]
  show V m c main_v3 _ = _
  refine congrArg (V m c main_v3) (funext fun a => Fin.ext ?_)
  have e := (idx_facts t).2.2.2.2.2.2.2.1
  match a with
  | ⟨0, _⟩ => show win0_7.index t 0 * 3 + 1 * (j 0).val = (i 0).val; rw [e.1, h0]; omega
  | ⟨1, _⟩ => show win0_7.index t 1 * 256 + 1 * (j 1).val = (i 1).val; rw [e.2, h1]; omega

/-- Window 8 stages the value's taps. -/
theorem blk8 (c : Dev nD) (t : Fin cfg0.N) (j : S3x256.Idx) (i : S3x22016.Idx) (h0 : (i 0).val = 0 + (j 0).val) (h1 : (i 1).val = 256 * ((43 + t.val % 43)) + (j 1).val) :
    (iblk m c 8 t : Vec Ideal S3x256 .f32) j = (V m c main_v3 : Vec Ideal S3x22016 .f32) i := by
  unfold iblk
  rw [View.read_apply]
  show V m c main_v3 _ = _
  refine congrArg (V m c main_v3) (funext fun a => Fin.ext ?_)
  have e := (idx_facts t).2.2.2.2.2.2.2.2.1
  match a with
  | ⟨0, _⟩ => show win0_8.index t 0 * 3 + 1 * (j 0).val = (i 0).val; rw [e.1, h0]; omega
  | ⟨1, _⟩ => show win0_8.index t 1 * 256 + 1 * (j 1).val = (i 1).val; rw [e.2, h1]; omega

/-- Window 9 stages the gate's bias. -/
theorem blk9 (c : Dev nD) (t : Fin cfg0.N) (j : S1x256.Idx) (i : S1x22016.Idx) (h0 : (i 0).val = 0 + (j 0).val) (h1 : (i 1).val = 256 * (t.val % 43) + (j 1).val) :
    (iblk m c 9 t : Vec Ideal S1x256 .f32) j = (V m c main_v7 : Vec Ideal S1x22016 .f32) i := by
  unfold iblk
  rw [View.read_apply]
  show V m c main_v7 _ = _
  refine congrArg (V m c main_v7) (funext fun a => Fin.ext ?_)
  have e := (idx_facts t).2.2.2.2.2.2.2.2.2.1
  match a with
  | ⟨0, _⟩ => show win0_9.index t 0 * 1 + 1 * (j 0).val = (i 0).val; rw [e.1, h0]; omega
  | ⟨1, _⟩ => show win0_9.index t 1 * 256 + 1 * (j 1).val = (i 1).val; rw [e.2, h1]; omega

/-- Window 10 stages the value's bias. -/
theorem blk10 (c : Dev nD) (t : Fin cfg0.N) (j : S1x256.Idx) (i : S1x22016.Idx) (h0 : (i 0).val = 0 + (j 0).val) (h1 : (i 1).val = 256 * ((43 + t.val % 43)) + (j 1).val) :
    (iblk m c 10 t : Vec Ideal S1x256 .f32) j = (V m c main_v7 : Vec Ideal S1x22016 .f32) i := by
  unfold iblk
  rw [View.read_apply]
  show V m c main_v7 _ = _
  refine congrArg (V m c main_v7) (funext fun a => Fin.ext ?_)
  have e := (idx_facts t).2.2.2.2.2.2.2.2.2.2.1
  match a with
  | ⟨0, _⟩ => show win0_10.index t 0 * 1 + 1 * (j 0).val = (i 0).val; rw [e.1, h0]; omega
  | ⟨1, _⟩ => show win0_10.index t 1 * 256 + 1 * (j 1).val = (i 1).val; rw [e.2, h1]; omega

/-- Window 11 stages the rows of the down projection. -/
theorem blk11 (c : Dev nD) (t : Fin cfg0.N) (j : S256x4096.Idx) (i : S11008x4096.Idx) (h0 : (i 0).val = 256 * (t.val % 43) + (j 0).val) (h1 : (i 1).val = 0 + (j 1).val) :
    (iblk m c 11 t : Vec Ideal S256x4096 .bf16) j = (V m c main_v6 : Vec Ideal S11008x4096 .bf16) i := by
  unfold iblk
  rw [View.read_apply]
  show V m c main_v6 _ = _
  refine congrArg (V m c main_v6) (funext fun a => Fin.ext ?_)
  have e := (idx_facts t).2.2.2.2.2.2.2.2.2.2.2.1
  match a with
  | ⟨0, _⟩ => show win0_11.index t 0 * 256 + 1 * (j 0).val = (i 0).val; rw [e.1, h0]; omega
  | ⟨1, _⟩ => show win0_11.index t 1 * 4096 + 1 * (j 1).val = (i 1).val; rw [e.2, h1]; omega

/-- The scratch at tile `n`: row `q` is the normalised row `1024 (n % 4) + q - 16` of batch `n / 4`, and zero off the sequence. -/
def hxE (X : Vec Ideal S4x4096x4096 .f32) (g : Vec Ideal S1x4096 .f32) (n : ℕ) : Vec Ideal S1056x4096 .bf16 := fun y =>
  if 16 ≤ 1024 * (n % 4) + (y 0).val ∧ 1024 * (n % 4) + (y 0).val < 4112 then
    rms (fun x => X (ix3 (Fin.ofNat 4 (n / 4)) (Fin.ofNat 4096 (1024 * (n % 4) + (y 0).val - 16)) x)) (fun x => g (ix2 0 x)) (y 1)
  else 0

/-- A choice on a word comparison of small numbers. -/
theorem sel_eq {n k : ℕ} (hn : n < 4) (hk : k < 4) (p q : EReal) :
    Scalar.select (Scalar.cmpi CmpIPredicate.eq (BitVec.ofNat 32 n) (BitVec.ofNat 32 k)) p q = if n = k then p else q := by
  interval_cases n <;> interval_cases k <;> rfl

/-- The scratch filled at a point is the tile's. -/
theorem hxv_eq (c : Dev nD) (t : Fin cfg0.N) :
    hxv (BitVec.ofNat 32 (grid0.coords t 1)) (iblk m c 0 t) (iblk m c 1 t) (iblk m c 2 t) (iblk m c 3 t)
      = hxE (V m c main_arg0) (V m c main_v8) (t.val / 43) := by
  have ht : t.val < 688 := Nat.lt_of_lt_of_eq t.isLt N_0
  funext y
  have hy : (y 0).val < 1056 := (y 0).isLt
  have hi : t.val / 43 % 4 < 4 := Nat.mod_lt _ (by decide)
  have hg : (fun x => (iblk m c 3 t : Vec Ideal S1x4096 .f32) (ix2 0 x)) = fun x => (V m c main_v8 : Vec Ideal S1x4096 .f32) (ix2 0 x) :=
    funext fun x => blk3 m c t _ _ (by rfl) (by show x.val = 0 + x.val; omega)
  unfold hxv hxE
  rw [coord1, hg]
  by_cases h1 : (y 0).val < 16
  · rw [if_pos h1]
    refine (sel_eq hi (k := 0) (by decide) _ _).trans ?_
    by_cases h0 : t.val / 43 % 4 = 0
    · rw [if_pos h0, if_neg (by omega)]
    · rw [if_neg h0, if_pos (by omega)]
      refine congrArg (fun f => rms f _ (y 1)) (funext fun x => blk1 m c t _ _ ?_ ?_ ?_)
      · show t.val / 43 / 4 % 4 = 1 * (t.val / 172) + 0; omega
      · show (1024 * (t.val / 43 % 4) + (y 0).val - 16) % 4096 = 16 * (64 * (t.val / 43 % 4) - 1) + (y 0).val % 16; omega
      · show x.val = 0 + x.val; omega
  · by_cases h2 : (y 0).val < 1040
    · rw [if_neg h1, if_pos h2, if_pos (by omega)]
      refine congrArg (fun f => rms f _ (y 1)) (funext fun x => blk0 m c t _ _ ?_ ?_ ?_)
      · show t.val / 43 / 4 % 4 = 1 * (t.val / 172) + 0; omega
      · show (1024 * (t.val / 43 % 4) + (y 0).val - 16) % 4096 = 1024 * (t.val / 43 % 4) + ((y 0).val - 16) % 1024; omega
      · show x.val = 0 + x.val; omega
    · rw [if_neg h1, if_neg h2]
      refine (sel_eq hi (k := 3) (by decide) _ _).trans ?_
      by_cases h3 : t.val / 43 % 4 = 3
      · rw [if_pos h3, if_neg (by omega)]
      · rw [if_neg h3, if_pos (by omega)]
        refine congrArg (fun f => rms f _ (y 1)) (funext fun x => blk2 m c t _ _ ?_ ?_ ?_)
        · show t.val / 43 / 4 % 4 = 1 * (t.val / 172) + 0; omega
        · show (1024 * (t.val / 43 % 4) + (y 0).val - 16) % 4096 = 16 * (min (64 * (t.val / 43 % 4) + 64) 255) + ((y 0).val - 1040) % 16; omega
        · show x.val = 0 + x.val; omega

end Cert.KernelFfnIdeal.Hand
end
-- ==== Proof.Ffn.Host.lean ====
/-
  The feed-forward call's operands as the launch finds them: each weight array is the argument with its unit axis dropped.
-/
module

public import proofs.«01_k».proof.Proof.Ffn.Frame
public import Idealize.ShloMosaic.Lib.Pointwise
public import Idealize.ShloMosaic.Lib.StableHlo.RunRead

@[expose] public section

set_option maxRecDepth 16384

noncomputable section

namespace Cert.KernelFfnIdeal.Hand

open Idealize.ShloMosaic Idealize.ShloMosaic.TcCoe Idealize.ShloMosaic.StableHlo
open Cert.KernelFfnIdeal.Gen

variable (m : (ℓ : Loc nD τ sig) → Buf (Elt Ideal) ℓ) (c : Dev nD)

/-- The arguments. -/
abbrev a0 : Vec Ideal S4x4096x4096 .f32 := m ((c : Thread nD τ).loc main_arg0)
abbrev a1 : Vec Ideal S1x4096 .f32 := m ((c : Thread nD τ).loc main_arg1)
abbrev a2 : Vec Ideal S4096 .f32 := m ((c : Thread nD τ).loc main_arg2)
abbrev a3 : Vec Ideal S1x4096x22016 .f32 := m ((c : Thread nD τ).loc main_arg3)
abbrev a4 : Vec Ideal S1x3x22016 .f32 := m ((c : Thread nD τ).loc main_arg4)
abbrev a5 : Vec Ideal S1x22016 .f32 := m ((c : Thread nD τ).loc main_arg5)
abbrev a6 : Vec Ideal S1x11008x4096 .f32 := m ((c : Thread nD τ).loc main_arg6)

/-- The up projection's weights. -/
theorem V_v2 (k : Fin 4096) (j : Fin 22016) : (V m c main_v2 : Vec Ideal S4096x22016 .bf16) (ix2 k j) = a3 m c (ix3 0 k j) := by
  show after hostOps0 (fun b => m (c, b)) (Proc.devRef .tc main_v2) (ix2 k j) = _
  after_reads_simp
  pointwise []

/-- The taps. -/
theorem V_v3 (k : Fin 3) (j : Fin 22016) : (V m c main_v3 : Vec Ideal S3x22016 .f32) (ix2 k j) = a4 m c (ix3 0 k j) := by
  show after hostOps0 (fun b => m (c, b)) (Proc.devRef .tc main_v3) (ix2 k j) = _
  after_reads_simp
  pointwise []

/-- The down projection's weights. -/
theorem V_v6 (l : Fin 11008) (k : Fin 4096) : (V m c main_v6 : Vec Ideal S11008x4096 .bf16) (ix2 l k) = a6 m c (ix3 0 l k) := by
  show after hostOps0 (fun b => m (c, b)) (Proc.devRef .tc main_v6) (ix2 l k) = _
  after_reads_simp
  pointwise []

/-- The bias. -/
theorem V_v7 (j : Fin 22016) : (V m c main_v7 : Vec Ideal S1x22016 .f32) (ix2 0 j) = a5 m c (ix2 0 j) := by
  show after hostOps0 (fun b => m (c, b)) (Proc.devRef .tc main_v7) (ix2 0 j) = _
  after_reads_simp
  pointwise []

/-- The inner weights. -/
theorem V_v8 (k : Fin 4096) : (V m c main_v8 : Vec Ideal S1x4096 .f32) (ix2 0 k) = a1 m c (ix2 0 k) := by
  show after hostOps0 (fun b => m (c, b)) (Proc.devRef .tc main_v8) (ix2 0 k) = _
  after_reads_simp
  pointwise []

/-- The outer weights. -/
theorem V_v9 (k : Fin 4096) : (V m c main_v9 : Vec Ideal S1x4096 .f32) (ix2 0 k) = a2 m c (ix1 k) := by
  show after hostOps0 (fun b => m (c, b)) (Proc.devRef .tc main_v9) (ix2 0 k) = _
  after_reads_simp
  pointwise []

end Cert.KernelFfnIdeal.Hand
end
-- ==== Proof.Ffn.Ref.lean ====
/-
  The feed-forward reference's stages, index by index: the normalised rows, their projection, the three-tap
  convolution over the padded sequence, the gated product, its down projection, and the normalised result.
-/
module

public import proofs.«01_k».proof.Proof.Gen.ReferenceFfnIdeal.Read
public import proofs.«01_k».proof.Proof.Ffn.Vals
public import Idealize.ShloMosaic.Lib.Pointwise

@[expose] public section

set_option maxRecDepth 16384

noncomputable section

namespace Cert.KernelFfnIdeal.Hand

open Idealize.ShloMosaic Idealize.ShloMosaic.TcCoe
open Cert.ReferenceFfnIdeal Cert.ReferenceFfnIdeal.Read

variable (x0 : Vec Ideal S4x4096x4096 .f32) (x1 : Vec Ideal S1x4096 .f32) (x2 : Vec Ideal S4096 .f32)
  (x3 : Vec Ideal S1x4096x22016 .f32) (x4 : Vec Ideal S1x3x22016 .f32) (x5 : Vec Ideal S1x22016 .f32)
  (x6 : Vec Ideal S1x11008x4096 .f32)

/-- The projected normalised row `s` of batch `b`, column `j`. -/
def zr (b : Fin 4) (s : Fin 4096) (j : Fin 22016) : EReal :=
  ∑ k, rms (fun x => x0 (ix3 b s x)) (fun x => x1 (ix2 0 x)) k * x3 (ix3 0 k j)

/-- The same with one zero row before and one after: row `q` is the projected row `q - 1`. -/
def zp (b : Fin 4) (q : ℕ) (j : Fin 22016) : EReal :=
  if 1 ≤ q ∧ q < 4097 then zr x0 x1 x3 b (Fin.ofNat 4096 (q - 1)) j else 0

/-- Three taps along the sequence and a bias. -/
def cvr (b : Fin 4) (s : Fin 4096) (j : Fin 22016) : EReal :=
  x4 (ix3 0 0 j) * zp x0 x1 x3 b s.val j + x4 (ix3 0 1 j) * zp x0 x1 x3 b (s.val + 1) j
    + x4 (ix3 0 2 j) * zp x0 x1 x3 b (s.val + 2) j + x5 (ix2 0 j)

/-- The gated product. -/
def gtr (b : Fin 4) (s : Fin 4096) (l : Fin 11008) : EReal :=
  gated (cvr x0 x1 x3 x4 x5 b s ⟨l.val, by omega⟩) (cvr x0 x1 x3 x4 x5 b s ⟨11008 + l.val, by omega⟩)

/-- The result. -/
def ffn (b : Fin 4) (s : Fin 4096) (k : Fin 4096) : EReal :=
  rms (fun x => x0 (ix3 b s x) + ∑ l, gtr x0 x1 x3 x4 x5 b s l * x6 (ix3 0 l x)) (fun x => x2 (ix1 x)) k

/-- The normalised rows. -/
theorem v13_at (b : Fin 4) (s k : Fin 4096) :
    val_main_v13 (F := Ideal) x0 x1 (ix3 b s k) = rms (fun x => x0 (ix3 b s x)) (fun x => x1 (ix2 0 x)) k := by
  pointwise [val_main_v13, val_main_v12, val_main_v11, val_main_v0, val_main_v10, val_main_v9, val_main_v8, val_main_v7,
    val_main_v6, val_main_v5, val_main_v4, val_main_v3, val_main_v2, val_main_v1, val_main_cst, val_main_cst_0, val_main_cst_1]
  rfl

/-- The projection. -/
theorem v15_at (b : Fin 4) (s : Fin 4096) (j : Fin 22016) :
    val_main_v15 (F := Ideal) x0 x1 x3 (ix3 b s j) = zr x0 x1 x3 b s j := by
  pointwise [val_main_v15, val_main_v14]
  exact Finset.sum_congr rfl fun k _ => congrArg (· * _) (v13_at x0 x1 b s k)

/-- The padding value is zero. -/
theorem pad_zero (i : S_.Idx) : val_main_call0_v0 (F := Ideal) i = 0 := by
  pointwise [val_main_call0_v0, val_main_c]
  show (((0#32 : BitVec 32).toInt : ℝ) : EReal) = 0
  simp

/-- The padded projection. -/
theorem v16_at (b : Fin 4) (q : Fin 4098) (j : Fin 22016) :
    val_main_v16 (F := Ideal) x0 x1 x3 (ix3 b q j) = zp x0 x1 x3 b q.val j := by
  pointwise [val_main_v16]
  unfold zp
  by_cases h : 1 ≤ q.val ∧ q.val < 4097
  · have h' : 1 ≤ q.val ∧ q.val - 1 < 4096 := by omega
    rw [dif_pos h', if_pos h, v15_at]
    exact congrArg (fun s => zr x0 x1 x3 b s j) (Fin.ext (Nat.mod_eq_of_lt (by omega)).symm)
  · have h' : ¬(1 ≤ q.val ∧ q.val - 1 < 4096) := by omega
    rw [dif_neg h', if_neg h]
    exact pad_zero _

/-- The convolution. -/
theorem v41_at (b : Fin 4) (s : Fin 4096) (j : Fin 22016) :
    val_main_v41 (F := Ideal) x0 x1 x3 x4 x5 (ix3 b s j) = cvr x0 x1 x3 x4 x5 b s j := by
  pointwise [val_main_v41, val_main_v40, val_main_v39, val_main_v38, val_main_v37, val_main_v36, val_main_v35, val_main_v34,
    val_main_v33, val_main_v32, val_main_v31, val_main_v30, val_main_v29, val_main_v28, val_main_v27, val_main_v26,
    val_main_v25, val_main_v24, val_main_v23, val_main_v22, val_main_v21, val_main_v20, val_main_v19, val_main_v18, val_main_v17]
  rw [v16_at, v16_at, v16_at]
  show _ * zp x0 x1 x3 b s.val j + _ * zp x0 x1 x3 b (1 + s.val) j + _ * zp x0 x1 x3 b (2 + s.val) j + _ = _
  rw [Nat.add_comm 1 s.val, Nat.add_comm 2 s.val]
  rfl

/-- The gated product. -/
theorem v45_at (b : Fin 4) (s : Fin 4096) (l : Fin 11008) :
    val_main_v45 (F := Ideal) x0 x1 x3 x4 x5 (ix3 b s l) = gtr x0 x1 x3 x4 x5 b s l := by
  pointwise [val_main_v45, val_main_v44, val_main_call1_v5, val_main_call1_v4, val_main_call1_v3, val_main_call1_v2, val_main_call1_v1,
    val_main_call1_v0, val_main_call1_cst, val_main_call1_cst_0, val_main_v43, val_main_v42]
  rw [v41_at, v41_at]
  rfl

/-- The reference's result. -/
theorem v61_at (b : Fin 4) (s k : Fin 4096) :
    val_main_v61 (F := Ideal) x0 x1 x2 x3 x4 x5 x6 (ix3 b s k) = ffn x0 x1 x2 x3 x4 x5 x6 b s k := by
  pointwise [val_main_v61, val_main_v60, val_main_v59, val_main_v58, val_main_v57, val_main_v56, val_main_v55, val_main_v54,
    val_main_v53, val_main_v52, val_main_v51, val_main_v50, val_main_v49, val_main_v48, val_main_v47, val_main_v46,
    val_main_cst_2, val_main_cst_3, val_main_cst_4]
  have h : ∀ x : Fin 4096, (∑ l : Fin 11008, val_main_v45 (F := Ideal) x0 x1 x3 x4 x5 (ix3 b s l) * x6 (ix3 0 l x))
      = ∑ l, gtr x0 x1 x3 x4 x5 b s l * x6 (ix3 0 l x) := fun x => Finset.sum_congr rfl fun l _ => congrArg (· * _) (v45_at x0 x1 x3 x4 x5 b s l)
  simp only [h]
  rfl

end Cert.KernelFfnIdeal.Hand
end
-- ==== Proof.Ffn.Value.lean ====
/-
  The feed-forward call's result: the accumulator after each of a tile's steps is the sum of the blocks so far, the last
  step's rows are the reference's, and the tiles cover the array.
-/
module

public import proofs.«01_k».proof.Proof.Ffn.Host
public import proofs.«01_k».proof.Proof.Ffn.Ref

@[expose] public section

set_option maxRecDepth 16384

noncomputable section

namespace Cert.KernelFfnIdeal.Hand

open Idealize.ShloMosaic Idealize.ShloMosaic.TcCoe Idealize.SL.Sem
open Idealize.ShloMosaic.Pipeline (Dat Cfg Window)
open Cert.KernelFfnIdeal.Gen

variable (m : (ℓ : Loc nD τ sig) → Buf (Elt Ideal) ℓ) (ρ : Dev nD → PrngReg)

/-- The scratch's rows from the arguments. -/
theorem hxT_at (c : Dev nD) (n : ℕ) (q : Fin 1056) (x : Fin 4096) : hxT m c n (ix2 q x)
    = if 16 ≤ 1024 * (n % 4) + q.val ∧ 1024 * (n % 4) + q.val < 4112 then
        rms (fun x => a0 m c (ix3 (Fin.ofNat 4 (n / 4)) (Fin.ofNat 4096 (1024 * (n % 4) + q.val - 16)) x)) (fun x => a1 m c (ix2 0 x)) x
      else 0 := by
  unfold hxT hxE
  have e : (fun x => (V m c main_v8 : Vec Ideal S1x4096 .f32) (ix2 0 x)) = fun x => a1 m c (ix2 0 x) := funext fun x => V_v8 m c x
  rw [e, V_main_arg0]
  rfl

/-- A projected row of the tile is the reference's padded row. -/
theorem prod_at (c : Dev nD) (n : ℕ) (w : Vec Ideal S4096x256 .bf16) (q : Fin 1056) (hq : 15 ≤ q.val) (l : Fin 256) (j : Fin 22016)
    (Q : ℕ) (hQ : Q = 1024 * (n % 4) + q.val - 15) (hw : ∀ x, w (ix2 x l) = a3 m c (ix3 0 x j)) :
    prod (hxT m c n) w q l = zp (a0 m c) (a1 m c) (a3 m c) (Fin.ofNat 4 (n / 4)) Q j := by
  subst hQ
  unfold prod zp
  simp only [hxT_at, hw]
  by_cases h : 16 ≤ 1024 * (n % 4) + q.val ∧ 1024 * (n % 4) + q.val < 4112
  · rw [if_pos (show 1 ≤ 1024 * (n % 4) + q.val - 15 ∧ 1024 * (n % 4) + q.val - 15 < 4097 by omega)]
    simp only [if_pos h]
    rw [show 1024 * (n % 4) + q.val - 15 - 1 = 1024 * (n % 4) + q.val - 16 by omega]
    rfl
  · rw [if_neg (show ¬(1 ≤ 1024 * (n % 4) + q.val - 15 ∧ 1024 * (n % 4) + q.val - 15 < 4097) by omega)]
    simp only [if_neg h, zero_mul, Finset.sum_const_zero]

/-- The tile's convolution is the reference's. -/
theorem conv_at (c : Dev nD) (n : ℕ) (w : Vec Ideal S4096x256 .bf16) (cw : Vec Ideal S3x256 .f32) (cb : Vec Ideal S1x256 .f32)
    (r : Fin 1024) (l : Fin 256) (j : Fin 22016) (s : Fin 4096) (hs : s.val = 1024 * (n % 4) + r.val)
    (hw : ∀ x, w (ix2 x l) = a3 m c (ix3 0 x j)) (hc : ∀ u, cw (ix2 u l) = a4 m c (ix3 0 u j)) (hb : cb (ix2 0 l) = a5 m c (ix2 0 j)) :
    conv (hxT m c n) w cw cb r l = cvr (a0 m c) (a1 m c) (a3 m c) (a4 m c) (a5 m c) (Fin.ofNat 4 (n / 4)) s j := by
  unfold conv cvr
  rw [prod_at m c n w ⟨15 + r.val, by omega⟩ (by show 15 ≤ 15 + r.val; omega) l j s.val (by show s.val = 1024 * (n % 4) + (15 + r.val) - 15; omega) hw,
    prod_at m c n w ⟨16 + r.val, by omega⟩ (by show 15 ≤ 16 + r.val; omega) l j (s.val + 1) (by show s.val + 1 = 1024 * (n % 4) + (16 + r.val) - 15; omega) hw,
    prod_at m c n w ⟨17 + r.val, by omega⟩ (by show 15 ≤ 17 + r.val; omega) l j (s.val + 2) (by show s.val + 2 = 1024 * (n % 4) + (17 + r.val) - 15; omega) hw,
    hc, hc, hc, hb]

/-- One term of the down projection, by the hidden column's number. -/
def term (c : Dev nD) (b : Fin 4) (s k : Fin 4096) (n : ℕ) : EReal :=
  if h : n < 11008 then gtr (a0 m c) (a1 m c) (a3 m c) (a4 m c) (a5 m c) b s ⟨n, h⟩ * a6 m c (ix3 0 ⟨n, h⟩ k) else 0

/-- One step adds its block's terms. -/
theorem step_at (c : Dev nD) (t : Fin cfg0.N) (o : Vec Ideal S1x1024x4096 .f32) (r : Fin 1024) (k s : Fin 4096)
    (hs : s.val = 1024 * (t.val / 43 % 4) + r.val) :
    stepv (hxT m c (t.val / 43)) (iblk m c 5 t) (iblk m c 6 t) (iblk m c 7 t) (iblk m c 8 t) (iblk m c 9 t) (iblk m c 10 t)
        (iblk m c 11 t) o (ix3 0 r k)
      = o (ix3 0 r k) + ∑ l : Fin 256, term m c (Fin.ofNat 4 (t.val / 43 / 4)) s k (256 * (t.val % 43) + l.val) := by
  refine (step_apply _ _ _ _ _ _ _ _ _ _ _ _).trans ?_
  refine congrArg (o (ix3 0 r k) + ·) (Finset.sum_congr rfl fun l _ => ?_)
  have hl := l.isLt
  have hf : t.val % 43 < 43 := Nat.mod_lt _ (by norm_num)
  have hn : 256 * (t.val % 43) + l.val < 11008 := by omega
  unfold term
  rw [dif_pos hn]
  have e11 : (iblk m c 11 t : Vec Ideal S256x4096 .bf16) (ix2 l k) = a6 m c (ix3 0 ⟨256 * (t.val % 43) + l.val, hn⟩ k) :=
    (blk11 m c t _ (ix2 ⟨256 * (t.val % 43) + l.val, hn⟩ k) rfl (Nat.zero_add _).symm).trans (V_v6 m c _ _)
  have g : conv (hxT m c (t.val / 43)) (iblk m c 5 t) (iblk m c 7 t) (iblk m c 9 t) r l
      = cvr (a0 m c) (a1 m c) (a3 m c) (a4 m c) (a5 m c) (Fin.ofNat 4 (t.val / 43 / 4)) s ⟨256 * (t.val % 43) + l.val, by omega⟩ :=
    conv_at m c _ _ _ _ r l _ s hs
      (fun x => (blk5 m c t _ (ix2 x ⟨256 * (t.val % 43) + l.val, by omega⟩) (Nat.zero_add _).symm rfl).trans (V_v2 m c _ _))
      (fun x => (blk7 m c t _ (ix2 x ⟨256 * (t.val % 43) + l.val, by omega⟩) (Nat.zero_add _).symm rfl).trans (V_v3 m c _ _))
      ((blk9 m c t _ (ix2 0 ⟨256 * (t.val % 43) + l.val, by omega⟩) (Nat.zero_add _).symm rfl).trans (V_v7 m c _))
  have v : conv (hxT m c (t.val / 43)) (iblk m c 6 t) (iblk m c 8 t) (iblk m c 10 t) r l
      = cvr (a0 m c) (a1 m c) (a3 m c) (a4 m c) (a5 m c) (Fin.ofNat 4 (t.val / 43 / 4)) s ⟨11008 + (256 * (t.val % 43) + l.val), by omega⟩ :=
    conv_at m c _ _ _ _ r l _ s hs
      (fun x => (blk6 m c t _ (ix2 x ⟨11008 + (256 * (t.val % 43) + l.val), by omega⟩) (Nat.zero_add _).symm
        (by show 11008 + (256 * (t.val % 43) + l.val) = 256 * (43 + t.val % 43) + l.val; omega)).trans (V_v2 m c _ _))
      (fun x => (blk8 m c t _ (ix2 x ⟨11008 + (256 * (t.val % 43) + l.val), by omega⟩) (Nat.zero_add _).symm
        (by show 11008 + (256 * (t.val % 43) + l.val) = 256 * (43 + t.val % 43) + l.val; omega)).trans (V_v3 m c _ _))
      ((blk10 m c t _ (ix2 0 ⟨11008 + (256 * (t.val % 43) + l.val), by omega⟩) (Nat.zero_add _).symm
        (by show 11008 + (256 * (t.val % 43) + l.val) = 256 * (43 + t.val % 43) + l.val; omega)).trans (V_v7 m c _))
  rw [e11, g, v]
  rfl

/-- The blocks so far, from what the accumulator held. -/
theorem blocks_add (F : ℕ → EReal) (f : ℕ) :
    (∑ n ∈ Finset.range (256 * f), F n) + ∑ l : Fin 256, F (256 * f + l.val) = ∑ n ∈ Finset.range (256 * (f + 1)), F n := by
  rw [show 256 * (f + 1) = 256 * f + 256 by ring, Finset.sum_range_add, Finset.sum_range (fun x => F (256 * f + x))]

/-- The accumulator before a step, with the clearing of the tile's first step. -/
theorem start_at (c : Dev nD) (t : Fin cfg0.N) (o : Vec Ideal S1x1024x4096 .f32) (r : Fin 1024) (k s : Fin 4096)
    (hs : s.val = 1024 * (t.val / 43 % 4) + r.val)
    (ho : t.val % 43 ≠ 0 → o (ix3 0 r k) = ∑ n ∈ Finset.range (256 * (t.val % 43)), term m c (Fin.ofNat 4 (t.val / 43 / 4)) s k n) :
    stepv (hxT m c (t.val / 43)) (iblk m c 5 t) (iblk m c 6 t) (iblk m c 7 t) (iblk m c 8 t) (iblk m c 9 t) (iblk m c 10 t)
        (iblk m c 11 t) (if k0_cond1 (grid0.coords t) = 1#1 then fun _ => (0 : EReal) else o) (ix3 0 r k)
      = ∑ n ∈ Finset.range (256 * (t.val % 43 + 1)), term m c (Fin.ofNat 4 (t.val / 43 / 4)) s k n := by
  refine (step_at m c t _ r k s hs).trans ?_
  rw [← blocks_add]
  refine congrArg (· + _) ?_
  by_cases h : t.val % 43 = 0
  · rw [if_pos ((cond1_iff t).mpr h), h]
    rfl
  · rw [if_neg (fun e => h ((cond1_iff t).mp e))]
    exact ho h

/-- Before a tile's last step the accumulator is the sum of the blocks so far. -/
theorem acc_at (c : Dev nD) : ∀ (f : ℕ) (t : Fin cfg0.N), t.val % 43 = f → f < 42 → ∀ (r : Fin 1024) (k s : Fin 4096),
    s.val = 1024 * (t.val / 43 % 4) + r.val →
    accN m c t.val (ix3 0 r k) = ∑ n ∈ Finset.range (256 * (f + 1)), term m c (Fin.ofNat 4 (t.val / 43 / 4)) s k n := by
  have last : ∀ t : Fin cfg0.N, t.val % 43 < 42 → ∀ o, stepAt m c t o =
      stepv (hxT m c (t.val / 43)) (iblk m c 5 t) (iblk m c 6 t) (iblk m c 7 t) (iblk m c 8 t) (iblk m c 9 t) (iblk m c 10 t)
        (iblk m c 11 t) (if k0_cond1 (grid0.coords t) = 1#1 then fun _ => (0 : EReal) else o) := fun t h o => by
    unfold stepAt nxtO
    exact if_neg (fun e => by have := (cond2_iff t).mp e; omega)
  intro f
  induction f with
  | zero =>
    intro t ht _ r k s hs
    rw [accN_first m c t ht (fun _ => (0 : EReal)), last t (by omega)]
    refine (start_at m c t _ r k s hs fun h => absurd ht h).trans ?_
    rw [ht]
  | succ f ih =>
    intro t ht hf r k s hs
    rw [accN_next m c t (by omega), last t (by omega)]
    have hlt : t.val - 1 < cfg0.N := by have := t.isLt; omega
    refine (start_at m c t _ r k s hs fun _ => ?_).trans (by rw [ht])
    have e := ih ⟨t.val - 1, hlt⟩ (by show (t.val - 1) % 43 = f; omega) (by omega) r k s
      (by show s.val = 1024 * ((t.val - 1) / 43 % 4) + r.val; rw [show (t.val - 1) / 43 = t.val / 43 by omega]; exact hs)
    refine e.trans ?_
    rw [ht, show (t.val - 1) / 43 / 4 = t.val / 43 / 4 by omega]

/-- The terms sum to the down projection. -/
theorem terms_sum (c : Dev nD) (b : Fin 4) (s k : Fin 4096) : ∑ n ∈ Finset.range 11008, term m c b s k n
    = ∑ l, gtr (a0 m c) (a1 m c) (a3 m c) (a4 m c) (a5 m c) b s l * a6 m c (ix3 0 l k) := by
  rw [Finset.sum_range]
  exact Finset.sum_congr rfl fun l _ => dif_pos l.isLt

/-- The last step's row, from its operands' rows. -/
theorem fin_at (x0 : Vec Ideal S1x1024x4096 .f32) (x4 : Vec Ideal S1x4096 .f32) (o : Vec Ideal S1x1024x4096 .f32) (r : Fin 1024) (k : Fin 4096)
    (X A O : Fin 4096 → EReal) (h0 : ∀ x, x0 (ix3 0 r x) = X x) (h4 : ∀ x, x4 (ix2 0 x) = A x) (ho : ∀ x, o (ix3 0 r x) = O x) :
    fin x0 x4 o (ix3 0 r k) = rms (fun x => X x + O x) A k := by
  obtain rfl : (fun x => x0 (ix3 0 r x)) = X := funext h0
  obtain rfl : (fun x => x4 (ix2 0 x)) = A := funext h4
  obtain rfl : (fun x => o (ix3 0 r x)) = O := funext ho
  rfl

/-- A tile's last step leaves the reference's rows. -/
theorem acc_last (c : Dev nD) (t : Fin cfg0.N) (ht : t.val % 43 = 42) (r : Fin 1024) (k s : Fin 4096)
    (hs : s.val = 1024 * (t.val / 43 % 4) + r.val) : accN m c t.val (ix3 0 r k)
      = ffn (a0 m c) (a1 m c) (a2 m c) (a3 m c) (a4 m c) (a5 m c) (a6 m c) (Fin.ofNat 4 (t.val / 43 / 4)) s k := by
  have hN : t.val < 688 := Nat.lt_of_lt_of_eq t.isLt N_0
  have hlt : t.val - 1 < cfg0.N := by have := t.isLt; omega
  rw [accN_next m c t (by omega)]
  unfold stepAt nxtO
  rw [if_pos ((cond2_iff t).mpr ht)]
  have e0 : ∀ x : Fin 4096, (iblk m c 0 t : Vec Ideal S1x1024x4096 .f32) (ix3 0 r x) = a0 m c (ix3 (Fin.ofNat 4 (t.val / 43 / 4)) s x) := fun x =>
    (blk0 m c t (ix3 0 r x) (ix3 (Fin.ofNat 4 (t.val / 43 / 4)) s x)
      (by show t.val / 43 / 4 % 4 = 1 * (t.val / 172) + 0; omega) hs (Nat.zero_add _).symm).trans (congrFun (V_main_arg0 m c) _)
  have e4 : ∀ x : Fin 4096, (iblk m c 4 t : Vec Ideal S1x4096 .f32) (ix2 0 x) = a2 m c (ix1 x) := fun x =>
    (blk4 m c t (ix2 0 x) (ix2 0 x) rfl (Nat.zero_add _).symm).trans (V_v9 m c x)
  refine fin_at _ _ _ r k _ _ _ e0 e4 fun x => ?_
  refine (start_at m c t _ r x s hs fun _ => ?_).trans ?_
  · have e := acc_at m c 41 ⟨t.val - 1, hlt⟩ (by show (t.val - 1) % 43 = 41; omega) (by omega) r x s
      (by show s.val = 1024 * ((t.val - 1) / 43 % 4) + r.val; rw [show (t.val - 1) / 43 = t.val / 43 by omega]; exact hs)
    refine e.trans ?_
    rw [ht, show (t.val - 1) / 43 / 4 = t.val / 43 / 4 by omega]
  · rw [ht]
    exact terms_sum m c _ s x

/-- The result of the reference for the kernel's arguments. -/
abbrev G (c : Dev nD) : Vec Ideal S4x4096x4096 .f32 :=
  Cert.ReferenceFfnIdeal.Read.val_main_v61 (F := Ideal) (a0 m c) (a1 m c) (a2 m c) (a3 m c) (a4 m c) (a5 m c) (a6 m c)

/-- What a tile's last point writes back is the tile of the reference's result. -/
theorem flushed_eq (c : Dev nD) (t : Fin cfg0.N) (ht : t.val % 43 = 42) :
    (dats m 0 c).flushed 12 t = (win0_12.blk t).view.read (Elt Ideal) (G m c) := by
  have hN : t.val < 688 := Nat.lt_of_lt_of_eq t.isLt N_0
  funext y
  rw [View.read_apply]
  show accN m c t.val y = G m c _
  have e := (idx_facts t).2.2.2.2.2.2.2.2.2.2.2.2
  have y0 : (y 0).val < 1 := (y 0).isLt
  have y1 : (y 1).val < 1024 := (y 1).isLt
  have hy : y = ix3 0 (⟨(y 1).val, y1⟩ : Fin 1024) (⟨(y 2).val, (y 2).isLt⟩ : Fin 4096) := funext fun a => Fin.ext (match a with
    | ⟨0, _⟩ => by show (y 0).val = 0; omega
    | ⟨1, _⟩ => rfl
    | ⟨2, _⟩ => rfl)
  have hi : (win0_12.blk t).view.emb y = ix3 (Fin.ofNat 4 (t.val / 43 / 4)) (⟨1024 * (t.val / 43 % 4) + (y 1).val, by omega⟩ : Fin 4096)
      (⟨(y 2).val, (y 2).isLt⟩ : Fin 4096) := funext fun a => Fin.ext (match a with
    | ⟨0, _⟩ => by show win0_12.index t 0 * 1 + 1 * (y 0).val = t.val / 43 / 4 % 4; rw [e.1]; omega
    | ⟨1, _⟩ => by show win0_12.index t 1 * 1024 + 1 * (y 1).val = 1024 * (t.val / 43 % 4) + (y 1).val; rw [e.2.1]; omega
    | ⟨2, _⟩ => by show win0_12.index t 2 * 4096 + 1 * (y 2).val = (y 2).val; rw [e.2.2]; omega)
  refine (congrArg (accN m c t.val) hy).trans (Eq.trans ?_ (congrArg (G m c) hi).symm)
  exact (acc_last m c t ht _ _ _ rfl).trans (v61_at _ _ _ _ _ _ _ _ _ _).symm

/-- An index of the result array is in a point's block exactly when the point's tile is the index's. -/
theorem mem_blk (t : Fin cfg0.N) (i : S4x4096x4096.Idx) (h0 : (i 0).val = t.val / 172)
    (h1 : 1024 * (t.val / 43 % 4) ≤ (i 1).val) (h1' : (i 1).val < 1024 * (t.val / 43 % 4) + 1024) :
    i ∈ ((cfg0.win 12).blk t).view.set := by
  show i ∈ ((View.whole main_v10).slice (win0_12.rect t)).set
  rw [View.set_slice_whole, Rect.mem_set_unit]
  have e := (idx_facts t).2.2.2.2.2.2.2.2.2.2.2.2
  have h2 : (i 2).val < 4096 := (i 2).isLt
  intro a
  match a with
  | ⟨0, _⟩ => show win0_12.index t 0 * 1 ≤ (i 0).val ∧ (i 0).val < win0_12.index t 0 * 1 + 1; rw [e.1]; omega
  | ⟨1, _⟩ => show win0_12.index t 1 * 1024 ≤ (i 1).val ∧ (i 1).val < win0_12.index t 1 * 1024 + 1024; rw [e.2.1]; omega
  | ⟨2, _⟩ => show win0_12.index t 2 * 4096 ≤ (i 2).val ∧ (i 2).val < win0_12.index t 2 * 4096 + 4096; rw [e.2.2]; omega

/-- Every index of the result array is in some tile's last block. -/
theorem cover (i : S4x4096x4096.Idx) : ∃ t : Fin cfg0.N, (cfg0.win 12).flush t = true ∧ i ∈ ((cfg0.win 12).blk t).view.set := by
  have h0 : (i 0).val < 4 := (i 0).isLt
  have h1 : (i 1).val < 4096 := (i 1).isLt
  have hN : 172 * (i 0).val + 43 * ((i 1).val / 1024) + 42 < cfg0.N := by show _ < grid0.N; rw [N_0]; omega
  refine ⟨⟨172 * (i 0).val + 43 * ((i 1).val / 1024) + 42, hN⟩, (flush0_12 _).mpr ?_, mem_blk _ i ?_ ?_ ?_⟩ <;> dsimp only <;> omega

/-- The result array after the last point is the reference's result. -/
theorem final (c : Dev nD) : (dats m 0 c).arrAt 12 cfg0.N = G m c :=
  (dats m 0 c).arrAt_eq_of_cover 12 (G m c) (fun t h => flushed_eq m c t ((flush0_12 t).mp h)) cover

/-- The run: the result array at the reference's result of the arguments, the arguments unchanged. -/
theorem run : θ_run defs (onTc (τ := τ) (main (F := Ideal))) ⟨m, fun _ => 0, ρ⟩ fun r => ∀ c : Dev nD,
      r.2.mem ((c.tc : Thread nD τ).loc main_v10) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h.2 c).1 12).trans (final m c), h.1 c⟩)
    (θ_run_and (frame_of m ρ (dats m) (A_eq m) (run_main m ρ)) (run_main m ρ))

end Cert.KernelFfnIdeal.Hand
end
-- ==== Proof.Ffn.Bits.lean ====
/-
  The feed-forward call as printed, at any values: every grid point's body runs without a fault from any contents of its
  output block and its scratch, so the launch terminates with the arguments unchanged and every counter at zero.
-/
module

public import proofs.«01_k».proof.Proof.Gen.KernelFfn.Launch
public import proofs.«01_k».proof.Proof.Gen.KernelFfn.Skeleton
public import proofs.«01_k».proof.Proof.Gen.KernelFfn.Loops
public import proofs.«01_k».proof.Proof.Gen.KernelFfn.Points
public import proofs.«01_k».proof.Proof.Gen.KernelFfn.Frame
public import Idealize.ShloMosaic.Lib.Claim

@[expose] public section

set_option maxRecDepth 16384

noncomputable section

namespace Cert.KernelFfn.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelFfn.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A tile's first step is the points at a multiple of 43. -/
theorem cond1_iff (t : Fin cfg0.N) : k0_cond1 (grid0.coords t) = 1#1 ↔ t.val % 43 = 0 := by
  have ht : t.val < 688 := Nat.lt_of_lt_of_eq t.isLt N_0
  have e2 : (grid0.coords t 2).val = t.val / 1 % 43 := Pipeline.Grid.coords_val t 2 (by decide) rfl
  simp only [k0_cond1, e2]
  word_cmp

/-- A tile's last step is the points one before a multiple of 43. -/
theorem cond2_iff (t : Fin cfg0.N) : k0_cond2 (grid0.coords t) = 1#1 ↔ t.val % 43 = 42 := by
  have ht : t.val < 688 := Nat.lt_of_lt_of_eq t.isLt N_0
  have e2 : (grid0.coords t 2).val = t.val / 1 % 43 := Pipeline.Grid.coords_val t 2 (by decide) rfl
  simp only [k0_cond2, e2]
  word_cmp

set_option maxHeartbeats 4000000 in
/-- The body runs from any contents of its output block and its scratch, at a tile's first step, its last, or between. -/
theorem run_any (c : Dev nD) (i : grid0.Coords) (arg3 : Memref sig .tc .vmem S1x1024x4096 .f32) (harg3 : arg3.IsWhole) (arg4 : Memref sig .tc .vmem S1x16x4096 .f32) (harg4 : arg4.IsWhole) (arg5 : Memref sig .tc .vmem S1x16x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S3x256 .f32) (harg10 : arg10.IsWhole) (arg11 : Memref sig .tc .vmem S3x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .bf16) (harg14 : arg14.IsWhole) (arg15 : Memref sig .tc .vmem S1x1024x4096 .f32) (harg15 : arg15.IsWhole) (arg16 : Memref sig .tc .vmem S1056x4096 .bf16) (harg16 : arg16.IsWhole)
    (x0 : Vec F S1x1024x4096 .f32) (x1 : Vec F S1x16x4096 .f32) (x2 : Vec F S1x16x4096 .f32) (x3 : Vec F S1x4096 .f32) (x4 : Vec F S1x4096 .f32) (x5 : Vec F S4096x256 .bf16) (x6 : Vec F S4096x256 .bf16) (x7 : Vec F S3x256 .f32) (x8 : Vec F S3x256 .f32) (x9 : Vec F S1x256 .f32) (x10 : Vec F S1x256 .f32) (x11 : Vec F S256x4096 .bf16)
    (h : (k0_cond1 i = 1#1 ∧ ¬k0_cond2 i = 1#1) ∨ (¬k0_cond1 i = 1#1 ∧ k0_cond2 i = 1#1) ∨ (¬k0_cond1 i = 1#1 ∧ ¬k0_cond2 i = 1#1)) :
    ∀ (E : Set ℕ) (K : PUnit → sProp 𝕄),
      iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare x7 ∗ owns c arg11 fullShare x8 ∗ owns c arg12 fullShare x9 ∗ owns c arg13 fullShare x10 ∗ owns c arg14 fullShare x11 ∗ (∃ d, owns c arg15 fullShare d) ∗ (∃ d, owns c arg16 fullShare d)
          ∗ (iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare x7 ∗ owns c arg11 fullShare x8 ∗ owns c arg12 fullShare x9 ∗ owns c arg13 fullShare x10 ∗ owns c arg14 fullShare x11 ∗ (∃ d, owns c arg15 fullShare d) ∗ (∃ d, owns c arg16 fullShare d)) -∗ K ⟨⟩))
        ⊢ wp frame (wpE (defs₀ (F := F)) Variants.none c none) E (cc0_conv_ffn i arg3 harg3 arg4 harg4 arg5 harg5 arg6 harg6 arg7 harg7 arg8 harg8 arg9 harg9 arg10 harg10 arg11 harg11 arg12 harg12 arg13 harg13 arg14 harg14 arg15 harg15 arg16 harg16) K := by
  intro E K
  simp only [cc0_conv_ffn_eq_skeleton]; unfold cc0_conv_ffn_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, ⟨%f12, %hf12, H12⟩⟩, ⟨%d13, ⟨%f13, %hf13, H13⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
  rcases h with ⟨hc0, hc1⟩ | ⟨hc0, hc1⟩ | ⟨hc0, hc1⟩ <;>
  · sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _, _; isplitr; swap; · iexact H12
      ipureintro; rfl
    iexists _, _; isplitr; swap; · iexact H13
    ipureintro; rfl

/-- Nothing is said of what the output holds. -/
def forgets : Fin 13 → Bool := fun w => w.val == 12

/-- The pipeline's data: the inputs' buffers at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
  Φ _ := Pipeline.ΦA spec0 c
  q w := Pipeline.shareOf spec0 w
  owed _ := 0

/-- The arrays as the region finds them. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d
theorem before10 (c : Dev nD) (t : Fin cfg0.N) (d) : (dats m 0 c).before 10 t d = iblk m c 10 t := before0_10_of m (dats m 0 c) (A_eq m c 10) (after10 m c) t d
theorem before11 (c : Dev nD) (t : Fin cfg0.N) (d) : (dats m 0 c).before 11 t d = iblk m c 11 t := before0_11_of m (dats m 0 c) (A_eq m c 11) (after11 m c) t d

/-- The scratch operand. -/
abbrev scM : Memref sig .tc .vmem S1056x4096 .bf16 := Memref.whole cc0_scratch0

/-- The invariant: the scratch at some contents, and the generator's register. -/
theorem PhiA_eq (c : Dev nD) : (Pipeline.ΦA spec0 c : sProp 𝕄)
      = iprop(iprop((∃ d, owns c scM fullShare d)) ∗ (∃ r, prngReg c r)) := by
  unfold Pipeline.ΦA; rw [scopedRest0_eq]; simp only [scM, owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns c (win0_0.stage (cfg0.slots t 0)) fullShare ((dats m 0 c).before 0 t d))
    ∗ (∃ d, owns c (win0_1.stage (cfg0.slots t 1)) fullShare ((dats m 0 c).before 1 t d))
    ∗ (∃ d, owns c (win0_2.stage (cfg0.slots t 2)) fullShare ((dats m 0 c).before 2 t d))
    ∗ (∃ d, owns c (win0_3.stage (cfg0.slots t 3)) fullShare ((dats m 0 c).before 3 t d))
    ∗ (∃ d, owns c (win0_4.stage (cfg0.slots t 4)) fullShare ((dats m 0 c).before 4 t d))
    ∗ (∃ d, owns c (win0_5.stage (cfg0.slots t 5)) fullShare ((dats m 0 c).before 5 t d))
    ∗ (∃ d, owns c (win0_6.stage (cfg0.slots t 6)) fullShare ((dats m 0 c).before 6 t d))
    ∗ (∃ d, owns c (win0_7.stage (cfg0.slots t 7)) fullShare ((dats m 0 c).before 7 t d))
    ∗ (∃ d, owns c (win0_8.stage (cfg0.slots t 8)) fullShare ((dats m 0 c).before 8 t d))
    ∗ (∃ d, owns c (win0_9.stage (cfg0.slots t 9)) fullShare ((dats m 0 c).before 9 t d))
    ∗ (∃ d, owns c (win0_10.stage (cfg0.slots t 10)) fullShare ((dats m 0 c).before 10 t d))
    ∗ (∃ d, owns c (win0_11.stage (cfg0.slots t 11)) fullShare ((dats m 0 c).before 11 t d))
    ∗ (∃ d, owns c (win0_12.stage (cfg0.slots t 12)) fullShare d))

/-- and what it returns. -/
def bodyPost (c : Dev nD) (t : Fin cfg0.N) : sProp 𝕄 :=
  iprop((dats m 0 c).Φ t.succ ∗ (dats m 0 c).owesAt () t.succ
    ∗ owns c (win0_0.stage (cfg0.slots t 0)) fullShare ((dats m 0 c).after 0 t)
    ∗ owns c (win0_1.stage (cfg0.slots t 1)) fullShare ((dats m 0 c).after 1 t)
    ∗ owns c (win0_2.stage (cfg0.slots t 2)) fullShare ((dats m 0 c).after 2 t)
    ∗ owns c (win0_3.stage (cfg0.slots t 3)) fullShare ((dats m 0 c).after 3 t)
    ∗ owns c (win0_4.stage (cfg0.slots t 4)) fullShare ((dats m 0 c).after 4 t)
    ∗ owns c (win0_5.stage (cfg0.slots t 5)) fullShare ((dats m 0 c).after 5 t)
    ∗ owns c (win0_6.stage (cfg0.slots t 6)) fullShare ((dats m 0 c).after 6 t)
    ∗ owns c (win0_7.stage (cfg0.slots t 7)) fullShare ((dats m 0 c).after 7 t)
    ∗ owns c (win0_8.stage (cfg0.slots t 8)) fullShare ((dats m 0 c).after 8 t)
    ∗ owns c (win0_9.stage (cfg0.slots t 9)) fullShare ((dats m 0 c).after 9 t)
    ∗ owns c (win0_10.stage (cfg0.slots t 10)) fullShare ((dats m 0 c).after 10 t)
    ∗ owns c (win0_11.stage (cfg0.slots t 11)) fullShare ((dats m 0 c).after 11 t)
    ∗ (∃ d, owns c (win0_12.stage (cfg0.slots t 12)) fullShare d))

set_option maxHeartbeats 3600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  rw [show (dats m 0 c).Φ t.castSucc = Pipeline.ΦA spec0 c from rfl, PhiA_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_any c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) scM (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (by rw [cond1_iff, cond2_iff]; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS]; · iexact HS
  iintro ⟨H0, H1, H2, H3, H4, H5, H6, H7, H8, H9, H10, H11, H12, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body at a point is the kernel on that point's memrefs. -/
theorem defs₀_row (t : Fin cfg0.N) : defs₀ (F := F) .tc cfg0.body (cfg0.bodyArgs t (cfg0.slots t)) = bodyAt0 t := by
  unfold defs₀; rw [Defs.onTc_tc]

/-- The library's obligation of the body. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every input array unchanged and every counter at zero. -/
theorem run_main : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

/-- The launch terminates without a fault, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(Pipeline.RDat.FramePost.arr_in h.1 c 2 rfl).trans ((A_eq m c 2).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩)
    (run_main m ρ)

end Cert.KernelFfn.Hand
end
-- ==== Proof.Ffn.Claims.lean ====
/-
  The five claims about the feed-forward call and its plain reference.
-/
module

public import proofs.«01_k».proof.Defs
public import proofs.«01_k».proof.Proof.Ffn.Value
public import proofs.«01_k».proof.Proof.Ffn.Bits
public import proofs.«01_k».proof.Proof.Gen.ReferenceFfnIdeal.Run
public import Idealize.ShloMosaic.Lib.Quiescent

@[expose] public section

noncomputable section

namespace Cert.Ffn

open Idealize.ShloMosaic Idealize.ShloMosaic.TcCoe Idealize.SL.Sem

/-- The reference's run, its result named stage by stage, for arguments that agree with the kernel's. -/
theorem run_ref (m : (ℓ : Loc ReferenceFfnIdeal.nD ReferenceFfnIdeal.τ ReferenceFfnIdeal.sig) → Buf (Elt Ideal) ℓ)
    (ρ : Dev ReferenceFfnIdeal.nD → PrngReg) :
    θ_run (ReferenceFfnIdeal.defs (F := Ideal)) (onTc (τ := ReferenceFfnIdeal.τ) (ReferenceFfnIdeal.main (F := Ideal))) ⟨m, fun _ => 0, ρ⟩
      fun r => ∀ c : Dev ReferenceFfnIdeal.nD,
        r.2.mem ((c.tc : Thread ReferenceFfnIdeal.nD ReferenceFfnIdeal.τ).loc ReferenceFfnIdeal.main_v61)
          = ReferenceFfnIdeal.Read.val_main_v61 (F := Ideal)
              (m ((c.tc : Thread ReferenceFfnIdeal.nD ReferenceFfnIdeal.τ).loc ReferenceFfnIdeal.main_arg0))
              (m ((c.tc : Thread ReferenceFfnIdeal.nD ReferenceFfnIdeal.τ).loc ReferenceFfnIdeal.main_arg1))
              (m ((c.tc : Thread ReferenceFfnIdeal.nD ReferenceFfnIdeal.τ).loc ReferenceFfnIdeal.main_arg2))
              (m ((c.tc : Thread ReferenceFfnIdeal.nD ReferenceFfnIdeal.τ).loc ReferenceFfnIdeal.main_arg3))
              (m ((c.tc : Thread ReferenceFfnIdeal.nD ReferenceFfnIdeal.τ).loc ReferenceFfnIdeal.main_arg4))
              (m ((c.tc : Thread ReferenceFfnIdeal.nD ReferenceFfnIdeal.τ).loc ReferenceFfnIdeal.main_arg5))
              (m ((c.tc : Thread ReferenceFfnIdeal.nD ReferenceFfnIdeal.τ).loc ReferenceFfnIdeal.main_arg6))
        ∧ r.2.mem ((c.tc : Thread ReferenceFfnIdeal.nD ReferenceFfnIdeal.τ).loc ReferenceFfnIdeal.main_arg0)
            = m ((c.tc : Thread ReferenceFfnIdeal.nD ReferenceFfnIdeal.τ).loc ReferenceFfnIdeal.main_arg0)
        ∧ r.2.mem ((c.tc : Thread ReferenceFfnIdeal.nD ReferenceFfnIdeal.τ).loc ReferenceFfnIdeal.main_arg1)
            = m ((c.tc : Thread ReferenceFfnIdeal.nD ReferenceFfnIdeal.τ).loc ReferenceFfnIdeal.main_arg1)
        ∧ r.2.mem ((c.tc : Thread ReferenceFfnIdeal.nD ReferenceFfnIdeal.τ).loc ReferenceFfnIdeal.main_arg2)
            = m ((c.tc : Thread ReferenceFfnIdeal.nD ReferenceFfnIdeal.τ).loc ReferenceFfnIdeal.main_arg2)
        ∧ r.2.mem ((c.tc : Thread ReferenceFfnIdeal.nD ReferenceFfnIdeal.τ).loc ReferenceFfnIdeal.main_arg3)
            = m ((c.tc : Thread ReferenceFfnIdeal.nD ReferenceFfnIdeal.τ).loc ReferenceFfnIdeal.main_arg3)
        ∧ r.2.mem ((c.tc : Thread ReferenceFfnIdeal.nD ReferenceFfnIdeal.τ).loc ReferenceFfnIdeal.main_arg4)
            = m ((c.tc : Thread ReferenceFfnIdeal.nD ReferenceFfnIdeal.τ).loc ReferenceFfnIdeal.main_arg4)
        ∧ r.2.mem ((c.tc : Thread ReferenceFfnIdeal.nD ReferenceFfnIdeal.τ).loc ReferenceFfnIdeal.main_arg5)
            = m ((c.tc : Thread ReferenceFfnIdeal.nD ReferenceFfnIdeal.τ).loc ReferenceFfnIdeal.main_arg5)
        ∧ r.2.mem ((c.tc : Thread ReferenceFfnIdeal.nD ReferenceFfnIdeal.τ).loc ReferenceFfnIdeal.main_arg6)
            = m ((c.tc : Thread ReferenceFfnIdeal.nD ReferenceFfnIdeal.τ).loc ReferenceFfnIdeal.main_arg6) :=
  (θ_run _ _ _).mono (fun _ h c => ⟨(h c).1.trans (ReferenceFfnIdeal.Read.val_main_v61_eq ..), (h c).2⟩)
    (ReferenceFfnIdeal.Value.run (F := Ideal) m ρ)

/-- The kernel as printed terminates without a fault, its arguments unchanged and every counter at zero. -/
theorem frame_kernel : quiescent_KernelFfn := fun m ρ _ => KernelFfn.Hand.frame m ρ
/-- The idealized kernel likewise. -/
theorem frame_kernelIdeal : quiescent_KernelFfnIdeal := fun m ρ _ =>
  θ_run_and (KernelFfnIdeal.Gen.frame_of m ρ (KernelFfnIdeal.Hand.dats m) (KernelFfnIdeal.Hand.A_eq m)
      (KernelFfnIdeal.Hand.run_main m ρ))
    ((θ_run _ _ _).mono (fun _ h => h.2) (KernelFfnIdeal.Hand.run_main_quiescent m ρ))
/-- The reference likewise. -/
theorem frame_ref : quiescent_ReferenceFfnIdeal := fun m ρ _ =>
  (θ_run _ _ _).mono (fun r h => ⟨fun c => (h c).2, sem_eq_zero_of_no_sems (by decide) r.2⟩) (run_ref m ρ)

/-- The idealized kernel's result array equals the reference's. -/
theorem algebraic : algebraic_KernelFfnIdeal_ReferenceFfnIdeal := by
  intro m ρ m' ρ' _ hag
  refine ⟨fun c => KernelFfnIdeal.Hand.G m c, KernelFfnIdeal.Hand.run m ρ, ?_⟩
  refine (θ_run _ _ _).mono (fun _ h c => ⟨(h c).1.trans ?_, (h c).2⟩) (run_ref m' ρ')
  obtain ⟨h0, h1, h2, h3, h4, h5, h6⟩ := hag c
  rw [h0, h1, h2, h3, h4, h5, h6]

end Cert.Ffn
end
-- ==== Proof.FfnSample.Vals.lean ====
/-
  The feed-forward call's payloads at the sample's sizes. A tile is the prompt's tile, so every payload is the
  prompt's, except the one that asks whether the tile is a batch's last: there are two tiles to a batch here.
-/
module

public import proofs.«01_k».proof.Proof.Gen.KernelFfnSampleIdeal.Skeleton
public import proofs.«01_k».proof.Proof.Ffn.Value
public import Idealize.ShloMosaic.Lib.Pointwise

@[expose] public section

set_option maxRecDepth 16384

noncomputable section

namespace Cert.KernelFfnSampleIdeal.Hand

open Idealize.ShloMosaic Idealize.ShloMosaic.TcCoe
open Cert.KernelFfnSampleIdeal.Gen
open Cert.KernelFfnIdeal.Hand (rms prod conv gated fin stepv)

/-- Chunk rows are normalised row by row. -/
theorem pay8_apply (v71 : FVec Ideal S1x4096 .f32) (v117 : Vec Ideal S1x128x4096 .f32) (r : Fin 128) (k : Fin 4096) :
    k0_pay8 v71 v117 (ix2 r k) = rms (fun x => v117 (ix3 0 r x)) (fun x => v71 (ix2 0 x)) k :=
  Cert.KernelFfnIdeal.Hand.pay8_apply v71 v117 r k

/-- The rows before the tile are normalised too, and zero at the first tile. -/
theorem pay5_apply (a : BitVec 32) (v70 : Vec Ideal S1x4096 .f32) (v74 : Vec Ideal S1x16x4096 .f32) (r : Fin 16) (k : Fin 4096) :
    k0_pay5 a v70 v74 (ix2 r k) = Scalar.select (Scalar.cmpi CmpIPredicate.eq a 0#32) 0
      (rms (fun x => v74 (ix3 0 r x)) (fun x => v70 (ix2 0 x)) k) :=
  Cert.KernelFfnIdeal.Hand.pay5_apply a v70 v74 r k

/-- The rows after the tile are normalised too, and zero at the last tile. -/
theorem pay76_apply (a : BitVec 32) (v70 : Vec Ideal S1x4096 .f32) (v94 : Vec Ideal S1x16x4096 .f32) (r : Fin 16) (k : Fin 4096) :
    k0_pay7 (k0_pay6 a v70 v94) (ix2 r k) = Scalar.select (Scalar.cmpi CmpIPredicate.eq a 1#32) 0
      (rms (fun x => v94 (ix3 0 r x)) (fun x => v70 (ix2 0 x)) k) := by
  pointwise [k0_pay7, k0_pay6, k0_pay4, k0_pay3]
  rfl

/-- The weights pass unchanged. -/
theorem pay3_apply (v70 : Vec Ideal S1x4096 .f32) (u : Fin 1) (k : Fin 4096) : k0_pay3 v70 (ix2 u k) = v70 (ix2 0 k) :=
  Cert.KernelFfnIdeal.Hand.pay3_apply v70 u k

/-- The accumulator starts at zero. -/
theorem pay9_apply (u : Fin 1) (r : Fin 128) (k : Fin 4096) : k0_pay9 (F := Ideal) (ix3 u r k) = 0 :=
  Cert.KernelFfnIdeal.Hand.pay9_apply u r k

/-- The last step's row: the residual row plus the accumulated row, normalised. -/
theorem pay2_apply (v70 : Vec Ideal S1x4096 .f32) (v76 v79 : Vec Ideal S1x128x4096 .f32) (u : Fin 1) (r : Fin 128) (k : Fin 4096) :
    k0_pay2 v70 v76 v79 (ix3 u r k) = rms (fun x => v76 (ix3 0 r x) + v79 (ix3 0 r x)) (fun x => v70 (ix2 0 x)) k :=
  Cert.KernelFfnIdeal.Hand.pay2_apply v70 v76 v79 u r k

/-- One feed-forward block added to the accumulator: the gated product of the two convolutions, projected down. -/
theorem step_apply (hx : Vec Ideal S1056x4096 .bf16) (wg wv : Vec Ideal S4096x256 .bf16) (cwg cwv : Vec Ideal S3x256 .f32)
    (cbg cbv : Vec Ideal S1x256 .f32) (o : Vec Ideal S1x1024x4096 .f32) (wd : Vec Ideal S256x4096 .bf16)
    (u : Fin 1) (r : Fin 1024) (k : Fin 4096) :
    k0_pay1 (k0_pay10 hx wg cwg cbg) (k0_pay11 hx wv) (k0_pay12 hx wv) (k0_pay13 hx wv) cwv cbv o wd (ix3 u r k)
      = o (ix3 0 r k) + ∑ l, gated (conv hx wg cwg cbg r l) (conv hx wv cwv cbv r l) * wd (ix2 l k) :=
  Cert.KernelFfnIdeal.Hand.step_apply hx wg wv cwg cwv cbg cbv o wd u r k

/-- The scratch's contents once a tile's rows are normalised: sixteen rows before the tile (zero at the first
    tile), the tile's rows, sixteen rows after it (zero at the last tile). -/
def hxv (a : BitVec 32) (x0 : Vec Ideal S1x1024x4096 .f32) (x1 x2 : Vec Ideal S1x16x4096 .f32) (x3 : Vec Ideal S1x4096 .f32) :
    Vec Ideal S1056x4096 .bf16 := fun y =>
  if (y 0).val < 16 then Scalar.select (Scalar.cmpi CmpIPredicate.eq a 0#32) 0
    (rms (fun x => x1 (ix3 0 (Fin.ofNat 16 (y 0).val) x)) (fun x => x3 (ix2 0 x)) (y 1))
  else if (y 0).val < 1040 then rms (fun x => x0 (ix3 0 (Fin.ofNat 1024 ((y 0).val - 16)) x)) (fun x => x3 (ix2 0 x)) (y 1)
  else Scalar.select (Scalar.cmpi CmpIPredicate.eq a 1#32) 0
    (rms (fun x => x2 (ix3 0 (Fin.ofNat 16 ((y 0).val - 1040)) x)) (fun x => x3 (ix2 0 x)) (y 1))

end Cert.KernelFfnSampleIdeal.Hand
end
-- ==== Proof.FfnSample.Trips.lean ====
/-
  What the feed-forward body's two counted loops leave: the first fills the scratch's tile rows and zeroes the
  accumulator, chunk by chunk; the last normalises the accumulator's rows in place, chunk by chunk.
-/
module

public import proofs.«01_k».proof.Proof.Gen.KernelFfnSampleIdeal.Frame
public import proofs.«01_k».proof.Proof.Gen.KernelFfnSampleIdeal.Loops
public import proofs.«01_k».proof.Proof.FfnSample.Vals
public import Idealize.ShloMosaic.Lib.WritesUnit
public import Idealize.ShloMosaic.Lib.WholeRead

@[expose] public section

set_option maxRecDepth 16384

noncomputable section

namespace Cert.KernelFfnSampleIdeal.Hand

open Idealize.ShloMosaic Idealize.ShloMosaic.TcCoe
open Cert.KernelFfnSampleIdeal.Gen
open Cert.KernelFfnIdeal.Hand (rms prod conv gated fin stepv chunk_idx)

theorem off1_eq : ∀ k : Fin k0_t1_loop.trips, k0_off1 k = ![0, 128 * k.val, 0] := by decide +kernel
theorem off2_eq : ∀ k : Fin k0_t1_loop.trips, k0_off2 k = ![16 + 128 * k.val, 0] := by decide +kernel
theorem off3_eq : ∀ k : Fin k0_t2_loop.trips, k0_off3 k = ![0, 128 * k.val, 0] := by decide +kernel
theorem trips1 : k0_t1_loop.trips = 8 := by decide +kernel
theorem trips2 : k0_t2_loop.trips = 8 := by decide +kernel

/-- Chunk `n` of the tile, normalised, is the scratch's rows `16 + 128 n` and on. -/
theorem chunk_row (a : BitVec 32) (x0 : Vec Ideal S1x1024x4096 .f32) (x1 x2 : Vec Ideal S1x16x4096 .f32)
    (x3 : Vec Ideal S1x4096 .f32) {off1 : Fin 3 → ℕ} {off2 : Fin 2 → ℕ} (n : ℕ) (hn : n < 8) (ho1 : off1 = ![0, 128 * n, 0])
    (ho2 : off2 = ![16 + 128 * n, 0]) (inb1 : ∀ a, off1 a + S1x128x4096.size a ≤ S1x1024x4096.size a)
    (inb2 : ∀ a, off2 a + S128x4096.size a ≤ S1056x4096.size a) (M : Memref sig .tc .vmem S1x1024x4096 .f32) (hM : M.IsWhole)
    (x : S128x4096.Idx) :
    k0_pay8 (k0_pay3 x3) (View.readAt (Elt Ideal) M.view (Rect.unit (s := S1x1024x4096) off1 S1x128x4096.size inb1).toLoadRect
      (hM.unread x0)) x = hxv a x0 x1 x2 x3 ((Rect.unit (s := S1056x4096) off2 S128x4096.size inb2).emb x) := by
  have hx0 : (x 0).val < 128 := (x 0).isLt
  have hy0 : ((Rect.unit (s := S1056x4096) off2 S128x4096.size inb2).emb x 0).val = 16 + 128 * n + (x 0).val := by
    subst ho2; show 16 + 128 * n + 1 * (x 0).val = _; omega
  have hy1 : (Rect.unit (s := S1056x4096) off2 S128x4096.size inb2).emb x 1 = x 1 := Fin.ext (by
    subst ho2; show 0 + 1 * (x 1).val = _; omega)
  refine (congrArg (k0_pay8 (k0_pay3 x3) _) (ValueIdx.eq_ix2 x)).trans ((pay8_apply _ _ _ _).trans ?_)
  unfold hxv
  rw [if_neg (by omega), if_pos (by omega), hy0, hy1]
  refine congrArg₂ (fun f g => rms f g (x 1)) (funext fun k => ?_) (funext fun k => pay3_apply _ _ _)
  rw [Memref.IsWhole.readAt_unread]
  refine congrArg x0 ((congrArg _ ?_).trans ((chunk_idx n hn ho1 inb1 (Fin.ofNat 1024 (16 + 128 * n + (x 0).val - 16))
    (by show 128 * n ≤ (16 + 128 * n + (x 0).val - 16) % 1024; omega) (by show (16 + 128 * n + (x 0).val - 16) % 1024 < _; omega) k)))
  exact congrArg (fun q => ix3 (0 : Fin 1) q k) (Fin.ext (by
    show (x 0).val = (16 + 128 * n + (x 0).val - 16) % 1024 - 128 * n; omega))

variable (𝒱 : Variants) (c : Dev nD) (bd : Option 𝒱.V) (i : grid0.Coords) (arg3 : Memref sig .tc .vmem S1x1024x4096 .f32) (harg3 : arg3.IsWhole) (arg4 : Memref sig .tc .vmem S1x16x4096 .f32) (harg4 : arg4.IsWhole) (arg5 : Memref sig .tc .vmem S1x16x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S3x256 .f32) (harg10 : arg10.IsWhole) (arg11 : Memref sig .tc .vmem S3x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .bf16) (harg14 : arg14.IsWhole) (arg15 : Memref sig .tc .vmem S1x1024x4096 .f32) (harg15 : arg15.IsWhole) (arg16 : Memref sig .tc .vmem S1056x4096 .bf16) (harg16 : arg16.IsWhole)

/-- The first loop's trip, chunk `k`: a zeroed accumulator chunk and a normalised scratch chunk. -/
theorem tripL1 (h1 : k0_cond1 i = 1#1) (v71 : FVec Ideal S1x4096 .f32) (X : BufTy.Contents (Elt Ideal) arg3.view.ty) (k) :
    tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 h1 v71 X k
      = ([⟨Rect.unit (s := S1x1024x4096) (k0_off1 k) S1x128x4096.size (k0_off1_inb i k h1), k0_pay9 (F := Ideal)⟩],
        [⟨Rect.unit (s := S1056x4096) (k0_off2 k) S128x4096.size (k0_off2_inb i k h1),
          k0_pay8 v71 (View.readAt (Elt Ideal) arg3.view
            (Rect.unit (s := S1x1024x4096) (k0_off1 k) S1x128x4096.size (k0_off1_inb i k h1)).toLoadRect X)⟩]) := by
  unfold tripL_k0_t1 trip_k0_t1
  rfl

/-- The last loop's trip, chunk `k`: the accumulator's chunk normalised with the residual chunk added. -/
theorem tripL2 (h2 : k0_cond2 i = 1#1) (v70 : Vec Ideal S1x4096 .f32) (X : BufTy.Contents (Elt Ideal) arg3.view.ty) (k) (f) :
    tripL_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 h2 v70 X k f
      = [⟨Rect.unit (s := S1x1024x4096) (k0_off3 k) S1x128x4096.size (k0_off3_inb i k h2),
          k0_pay2 v70 (View.readAt (Elt Ideal) arg3.view
              (Rect.unit (s := S1x1024x4096) (k0_off3 k) S1x128x4096.size (k0_off3_inb i k h2)).toLoadRect X)
            (View.readAt (Elt Ideal) arg15.view
              (Rect.unit (s := S1x1024x4096) (k0_off3 k) S1x128x4096.size (k0_off3_inb i k h2)).toLoadRect f)⟩] := by
  unfold tripL_k0_t2 trip_k0_t2
  rfl

/-- After `n` trips the first loop's accumulator pieces are zero and hold the first `128 n` rows. -/
theorem acc_pieces (h1 : k0_cond1 i = 1#1) (v71 : FVec Ideal S1x4096 .f32) (X : BufTy.Contents (Elt Ideal) arg3.view.ty) :
    ∀ n ≤ 8, (∀ p ∈ (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 h1 v71 X n).1, ∀ x : p.1.shape.Idx,
        p.2 x = (fun _ => (0 : EReal) : Vec Ideal S1x1024x4096 .f32) (p.1.emb x))
      ∧ ∀ y : S1x1024x4096.Idx, (y 1).val < 128 * n →
        ∃ p ∈ (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 h1 v71 X n).1, y ∈ p.1.set := by
  intro n
  induction n with
  | zero => exact fun _ => ⟨fun p hp => absurd hp List.not_mem_nil, fun y hy => absurd hy (by omega)⟩
  | succ n ih =>
    intro hn
    obtain ⟨ih1, ih2⟩ := ih (by omega)
    have e := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 h1 v71 X ⟨n, trips1 ▸ hn⟩
    rw [tripL1] at e
    rw [e]
    refine ⟨fun p hp x => ?_, fun y hy => ?_⟩
    · rcases List.mem_cons.mp hp with rfl | hp
      · refine (congrArg (k0_pay9 (F := Ideal)) (ValueIdx.eq_ix3 x)).trans (pay9_apply _ _ _)
      · exact ih1 p hp x
    · by_cases hlt : (y 1).val < 128 * n
      · obtain ⟨p, hp, hy'⟩ := ih2 y hlt
        exact ⟨p, List.mem_cons_of_mem _ hp, hy'⟩
      · refine ⟨_, List.mem_cons_self, ?_⟩
        refine (Rect.mem_set_unit (inb := k0_off1_inb i ⟨n, trips1 ▸ hn⟩ h1)).mpr ?_
        rw [off1_eq]
        have h0 := (y 0).isLt
        have h2 := (y 2).isLt
        intro a
        match a with
        | ⟨0, _⟩ => exact ⟨Nat.zero_le _, h0⟩
        | ⟨1, _⟩ => show 128 * n ≤ (y 1).val ∧ (y 1).val < 128 * n + 128; omega
        | ⟨2, _⟩ => exact ⟨Nat.zero_le _, h2⟩

/-- After `n` trips the first loop's scratch pieces are the normalised tile rows and hold the first `128 n` of them. -/
theorem hx_pieces (h1 : k0_cond1 i = 1#1) (a : BitVec 32) (x0 : Vec Ideal S1x1024x4096 .f32) (x1 x2 : Vec Ideal S1x16x4096 .f32)
    (x3 : Vec Ideal S1x4096 .f32) :
    ∀ n ≤ 8, (∀ p ∈ (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 h1 (k0_pay3 x3) (harg3.unread x0) n).2, ∀ x : p.1.shape.Idx,
        p.2 x = hxv a x0 x1 x2 x3 (p.1.emb x))
      ∧ ∀ y : S1056x4096.Idx, 16 ≤ (y 0).val → (y 0).val < 16 + 128 * n →
        ∃ p ∈ (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 h1 (k0_pay3 x3) (harg3.unread x0) n).2, y ∈ p.1.set := by
  intro n
  induction n with
  | zero => exact fun _ => ⟨fun p hp => absurd hp List.not_mem_nil, fun y hy hy' => absurd hy' (by omega)⟩
  | succ n ih =>
    intro hn
    obtain ⟨ih1, ih2⟩ := ih (by omega)
    have e := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 h1 (k0_pay3 x3) (harg3.unread x0) ⟨n, trips1 ▸ hn⟩
    rw [tripL1] at e
    rw [e]
    refine ⟨fun p hp x => ?_, fun y hy hy' => ?_⟩
    · rcases List.mem_cons.mp hp with rfl | hp
      · exact chunk_row a x0 x1 x2 x3 n (by omega) (off1_eq _) (off2_eq _) (k0_off1_inb i _ h1) (k0_off2_inb i _ h1) arg3 harg3 x
      · exact ih1 p hp x
    · by_cases hlt : (y 0).val < 16 + 128 * n
      · obtain ⟨p, hp, hy''⟩ := ih2 y hy hlt
        exact ⟨p, List.mem_cons_of_mem _ hp, hy''⟩
      · refine ⟨_, List.mem_cons_self, ?_⟩
        refine (Rect.mem_set_unit (inb := k0_off2_inb i ⟨n, trips1 ▸ hn⟩ h1)).mpr ?_
        rw [off2_eq]
        have h1 := (y 1).isLt
        intro b
        match b with
        | ⟨0, _⟩ => show 16 + 128 * n ≤ (y 0).val ∧ (y 0).val < 16 + 128 * n + 128; omega
        | ⟨1, _⟩ => exact ⟨Nat.zero_le _, h1⟩

/-- After `n` trips of the last loop the accumulator's first `128 n` rows are normalised and the others as before. -/
theorem fin_rows (h2 : k0_cond2 i = 1#1) (x0 : Vec Ideal S1x1024x4096 .f32) (x4 : Vec Ideal S1x4096 .f32)
    (G : BufTy.Contents (Elt Ideal) arg15.view.ty) :
    ∀ n ≤ 8, ∀ y : S1x1024x4096.Idx,
      View.read (Elt Ideal) arg15.view (arg15.view.writes (Elt Ideal) G
          (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 h2 x4 (harg3.unread x0) G n)) y
        = if (y 1).val < 128 * n then fin x0 x4 (View.read (Elt Ideal) arg15.view G) y else View.read (Elt Ideal) arg15.view G y := by
  intro n
  induction n with
  | zero => intro _ y; rw [if_neg (by omega)]; rfl
  | succ n ih =>
    intro hn y
    have ih' := ih (by omega)
    have e := pb_k0_t2_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 h2 x4 (harg3.unread x0) G ⟨n, trips2 ▸ hn⟩
    rw [tripL2] at e
    rw [e, List.singleton_append]
    have ho := off3_eq ⟨n, trips2 ▸ hn⟩
    have hy0 : (y 0).val < 1 := (y 0).isLt
    by_cases hlt : 128 * n ≤ (y 1).val ∧ (y 1).val < 128 * n + 128
    · refine (View.read_writes_cons_unit_of_mem arg15.view G _ _ _ y (ix3 (0 : Fin 1) (⟨(y 1).val - 128 * n, by omega⟩ : Fin 128) (y 2)) ho
        (fun b => ?_)).trans ?_
      · match b with
        | ⟨0, _⟩ => show (y 0).val = 0 + 0; omega
        | ⟨1, _⟩ => show (y 1).val = 128 * n + ((y 1).val - 128 * n); omega
        | ⟨2, _⟩ => show (y 2).val = 0 + (y 2).val; omega
      · refine (pay2_apply _ _ _ _ _ _).trans ?_
        rw [if_pos (by omega)]
        unfold fin
        refine congrArg (fun f => rms f _ (y 2)) (funext fun k => ?_)
        rw [Memref.IsWhole.readAt_unread, View.readAt_apply, chunk_idx n (by omega) (off3_eq ⟨n, trips2 ▸ hn⟩) (k0_off3_inb i ⟨n, trips2 ▸ hn⟩ h2) (y 1) hlt.1 hlt.2 k]
        exact congrArg (x0 (ix3 0 (y 1) k) + ·) ((ih' _).trans (if_neg (by show ¬ (y 1).val < 128 * n; omega)))
    · refine (View.read_writes_cons_unit_of_not_mem arg15.view G _ _ _ y ho 1 ?_).trans ?_
      · show (y 1).val < 128 * n ∨ 128 * n + 128 ≤ (y 1).val; omega
      · refine (ih' y).trans ?_
        by_cases h : (y 1).val < 128 * n
        · rw [if_pos h, if_pos (by omega)]
        · rw [if_neg h, if_neg (by omega)]

end Cert.KernelFfnSampleIdeal.Hand
end
-- ==== Proof.FfnSample.Step.lean ====
/-
  One grid step of the feed-forward body, with every buffer's contents named: the scratch and the accumulator after the
  step as functions of what the step reads.
-/
module

public import proofs.«01_k».proof.Proof.Gen.KernelFfnSampleIdeal.Launch
public import proofs.«01_k».proof.Proof.Gen.KernelFfnSampleIdeal.Points
public import proofs.«01_k».proof.Proof.FfnSample.Trips
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelFfnSampleIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelFfnSampleIdeal.Gen
open Cert.KernelFfnIdeal.Hand (rms prod conv gated fin stepv step_congr)

local notation "𝕄" => MT nD τ sig Unit (Elt Ideal) ℕ (UR sig nD τ) ℕ

/-- A whole-memref load of named contents. -/
theorem ld_in {s : Shape} {e : EltTy} {M : Memref sig .tc .vmem s e} (hM : M.IsWhole) (x : Vec Ideal s e) {off : Fin s.rank → ℕ}
    (inb : ∀ a, off a + s.size a ≤ s.size a) :
    View.readAt (Elt Ideal) M.view (Rect.unit off s.size inb).toLoadRect (hM.unread x) = x :=
  (View.readAt_full M.view _ inb).trans (hM.read_unread x)

/-- A store of the whole memref hides what was there. -/
theorem read_top {s : Shape} {e : EltTy} (M : Memref sig .tc .vmem s e) (f : BufTy.Contents (Elt Ideal) M.view.ty) {off : Fin s.rank → ℕ}
    (inb : ∀ a, off a + s.size a ≤ s.size a) (w : Vec Ideal s e) (L : List (View.Piece (Elt Ideal) s e)) :
    View.read (Elt Ideal) M.view (M.view.writes (Elt Ideal) f (⟨Rect.unit off s.size inb, w⟩ :: L)) = w :=
  funext fun y => View.read_writes_cons_unit_of_mem M.view f inb w L y y rfl fun a => by have := inb a; omega

section
variable (𝒱 : Variants) (c : Dev nD) (bd : Option 𝒱.V) (i : grid0.Coords) (arg3 : Memref sig .tc .vmem S1x1024x4096 .f32) (harg3 : arg3.IsWhole) (arg4 : Memref sig .tc .vmem S1x16x4096 .f32) (harg4 : arg4.IsWhole) (arg5 : Memref sig .tc .vmem S1x16x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S3x256 .f32) (harg10 : arg10.IsWhole) (arg11 : Memref sig .tc .vmem S3x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .bf16) (harg14 : arg14.IsWhole) (arg15 : Memref sig .tc .vmem S1x1024x4096 .f32) (harg15 : arg15.IsWhole) (arg16 : Memref sig .tc .vmem S1056x4096 .bf16) (harg16 : arg16.IsWhole)

/-- The first loop leaves the accumulator zero. -/
theorem acc_read (h1 : k0_cond1 i = 1#1) (v71 : FVec Ideal S1x4096 .f32) (X : BufTy.Contents (Elt Ideal) arg3.view.ty)
    (f : BufTy.Contents (Elt Ideal) arg15.view.ty) :
    View.read (Elt Ideal) arg15.view (arg15.view.writes (Elt Ideal) f (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 h1 v71 X k0_t1_loop.trips).1)
      = fun _ => (0 : EReal) := by
  funext y
  obtain ⟨hp, hc⟩ := acc_pieces 𝒱 c bd i arg3 harg3 arg4 harg4 arg5 harg5 arg6 harg6 arg7 harg7 arg8 harg8 arg9 harg9 arg10 harg10 arg11 harg11 arg12 harg12 arg13 harg13 arg14 harg14 arg15 harg15 arg16 harg16 h1 v71 X _ (le_of_eq trips1)
  exact View.read_writes_apply_of_pieces arg15.view f (fun _ => (0 : EReal)) _ hp y (hc y (by rw [trips1]; exact (y 1).isLt))

/-- The head rows and the first loop leave the scratch filled. -/
theorem hx_read (h1 : k0_cond1 i = 1#1) (a : BitVec 32) (x0 : Vec Ideal S1x1024x4096 .f32) (x1 x2 : Vec Ideal S1x16x4096 .f32)
    (x3 : Vec Ideal S1x4096 .f32) (f : BufTy.Contents (Elt Ideal) arg16.view.ty)
    (inb1 : ∀ b, ![1040, 0] b + S16x4096.size b ≤ S1056x4096.size b) (inb2 : ∀ b, ![0, 0] b + S16x4096.size b ≤ S1056x4096.size b) :
    View.read (Elt Ideal) arg16.view (arg16.view.writes (Elt Ideal) f
        ((pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 h1 (k0_pay3 x3) (harg3.unread x0) k0_t1_loop.trips).2
          ++ [⟨Rect.unit (s := S1056x4096) ![1040, 0] S16x4096.size inb1, k0_pay7 (k0_pay6 a x3 x2)⟩,
            ⟨Rect.unit (s := S1056x4096) ![0, 0] S16x4096.size inb2, k0_pay5 a x3 x1⟩])) = hxv a x0 x1 x2 x3 := by
  funext y
  obtain ⟨hp, hc⟩ := hx_pieces 𝒱 c bd i arg3 harg3 arg4 harg4 arg5 harg5 arg6 harg6 arg7 harg7 arg8 harg8 arg9 harg9 arg10 harg10 arg11 harg11 arg12 harg12 arg13 harg13 arg14 harg14 arg15 harg15 arg16 harg16 h1 a x0 x1 x2 x3 _ (le_of_eq trips1)
  have hy := (y 0).isLt
  have hy1 := (y 1).isLt
  refine View.read_writes_apply_of_pieces arg16.view f _ _ (fun p hm x => ?_) y ?_
  · rcases List.mem_append.mp hm with hm | hm
    · exact hp p hm x
    · rcases List.mem_cons.mp hm with rfl | hm
      · have hx0 : (x 0).val < 16 := (x 0).isLt
        refine (congrArg (k0_pay7 (k0_pay6 a x3 x2)) (ValueIdx.eq_ix2 x)).trans ((pay76_apply _ _ _ _ _).trans ?_)
        have hy0 : ((Rect.unit (s := S1056x4096) ![1040, 0] S16x4096.size inb1).emb x 0).val = 1040 + (x 0).val := by
          show 1040 + 1 * (x 0).val = _; omega
        have hy1 : (Rect.unit (s := S1056x4096) ![1040, 0] S16x4096.size inb1).emb x 1 = x 1 := Fin.ext (by
          show 0 + 1 * (x 1).val = _; omega)
        have hq : Fin.ofNat 16 (1040 + (x 0).val - 1040) = x 0 := Fin.ext (by
          show (1040 + (x 0).val - 1040) % 16 = (x 0).val; omega)
        show _ = hxv a x0 x1 x2 x3 ((Rect.unit (s := S1056x4096) ![1040, 0] S16x4096.size inb1).emb x)
        unfold hxv
        rw [if_neg (by omega), if_neg (by omega), hy0, hy1]
        exact congrArg (fun q => Scalar.select (Scalar.cmpi CmpIPredicate.eq a 1#32) 0
          (rms (fun k => x2 (ix3 0 q k)) (fun k => x3 (ix2 0 k)) (x 1))) hq.symm
      · obtain rfl := List.mem_singleton.mp hm
        have hx0 : (x 0).val < 16 := (x 0).isLt
        refine (congrArg (k0_pay5 a x3 x1) (ValueIdx.eq_ix2 x)).trans ((pay5_apply _ _ _ _ _).trans ?_)
        have hy0 : ((Rect.unit (s := S1056x4096) ![0, 0] S16x4096.size inb2).emb x 0).val = (x 0).val := by
          show 0 + 1 * (x 0).val = _; omega
        have hy1 : (Rect.unit (s := S1056x4096) ![0, 0] S16x4096.size inb2).emb x 1 = x 1 := Fin.ext (by
          show 0 + 1 * (x 1).val = _; omega)
        have hq : Fin.ofNat 16 (x 0).val = x 0 := Fin.ext (by show (x 0).val % 16 = (x 0).val; omega)
        show _ = hxv a x0 x1 x2 x3 ((Rect.unit (s := S1056x4096) ![0, 0] S16x4096.size inb2).emb x)
        unfold hxv
        rw [if_pos (by omega), hy0, hy1]
        exact congrArg (fun q => Scalar.select (Scalar.cmpi CmpIPredicate.eq a 0#32) 0
          (rms (fun k => x1 (ix3 0 q k)) (fun k => x3 (ix2 0 k)) (x 1))) hq.symm
  · by_cases h : (y 0).val < 16
    · refine ⟨_, List.mem_append_right _ (List.mem_cons_of_mem _ List.mem_cons_self), (Rect.mem_set_unit (inb := inb2)).mpr ?_⟩
      intro b
      match b with
      | ⟨0, _⟩ => exact ⟨Nat.zero_le _, by show (y 0).val < 0 + 16; omega⟩
      | ⟨1, _⟩ => exact ⟨Nat.zero_le _, by show (y 1).val < 0 + 4096; exact hy1⟩
    · by_cases h' : (y 0).val < 1040
      · obtain ⟨p, hm, hy'⟩ := hc y (by omega) (by rw [trips1]; omega)
        exact ⟨p, List.mem_append_left _ hm, hy'⟩
      · refine ⟨_, List.mem_append_right _ List.mem_cons_self, (Rect.mem_set_unit (inb := inb1)).mpr ?_⟩
        intro b
        match b with
        | ⟨0, _⟩ => exact ⟨by show 1040 ≤ (y 0).val; omega, by show (y 0).val < 1040 + 16; exact hy⟩
        | ⟨1, _⟩ => exact ⟨Nat.zero_le _, by show (y 1).val < 0 + 4096; exact hy1⟩

/-- The last loop leaves every row of the accumulator normalised. -/
theorem fin_read (h2 : k0_cond2 i = 1#1) (x0 : Vec Ideal S1x1024x4096 .f32) (x4 : Vec Ideal S1x4096 .f32)
    (f : BufTy.Contents (Elt Ideal) arg15.view.ty) (L : List (View.Piece (Elt Ideal) S1x1024x4096 .f32)) :
    View.read (Elt Ideal) arg15.view (arg15.view.writes (Elt Ideal) f
        (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 h2 x4 (harg3.unread x0) (arg15.view.writes (Elt Ideal) f L) k0_t2_loop.trips ++ L))
      = fin x0 x4 (View.read (Elt Ideal) arg15.view (arg15.view.writes (Elt Ideal) f L)) := by
  rw [View.writes_append]
  funext y
  exact (fin_rows 𝒱 c bd i arg3 harg3 arg4 harg4 arg5 harg5 arg6 harg6 arg7 harg7 arg8 harg8 arg9 harg9 arg10 harg10 arg11 harg11 arg12 harg12 arg13 harg13 arg14 harg14 arg15 harg15 arg16 harg16 h2 x0 x4 _ _ (le_of_eq trips2) y).trans (if_pos (by rw [trips2]; exact (y 1).isLt))
end

/-- The scratch after a step: refilled at a tile's first step, kept otherwise. -/
def nxtH (i : grid0.Coords) (x0 : Vec Ideal S1x1024x4096 .f32) (x1 x2 : Vec Ideal S1x16x4096 .f32) (x3 : Vec Ideal S1x4096 .f32)
    (hx : Vec Ideal S1056x4096 .bf16) : Vec Ideal S1056x4096 .bf16 :=
  if k0_cond1 i = 1#1 then hxv (BitVec.ofNat 32 (i 1)) x0 x1 x2 x3 else hx

/-- The accumulator after a step: zeroed before a tile's first step, normalised after its last. -/
def nxtO (i : grid0.Coords) (x0 : Vec Ideal S1x1024x4096 .f32) (x4 : Vec Ideal S1x4096 .f32) (x5 x6 : Vec Ideal S4096x256 .bf16)
    (x7 x8 : Vec Ideal S3x256 .f32) (x9 x10 : Vec Ideal S1x256 .f32) (x11 : Vec Ideal S256x4096 .bf16)
    (hx : Vec Ideal S1056x4096 .bf16) (o : Vec Ideal S1x1024x4096 .f32) : Vec Ideal S1x1024x4096 .f32 :=
  if k0_cond2 i = 1#1 then fin x0 x4 (stepv hx x5 x6 x7 x8 x9 x10 x11 (if k0_cond1 i = 1#1 then fun _ => (0 : EReal) else o))
  else stepv hx x5 x6 x7 x8 x9 x10 x11 (if k0_cond1 i = 1#1 then fun _ => (0 : EReal) else o)

set_option maxHeartbeats 1000000 in
/-- The body's step, all contents named. -/
theorem run_step (c : Dev nD) (i : grid0.Coords) (arg3 : Memref sig .tc .vmem S1x1024x4096 .f32) (harg3 : arg3.IsWhole) (arg4 : Memref sig .tc .vmem S1x16x4096 .f32) (harg4 : arg4.IsWhole) (arg5 : Memref sig .tc .vmem S1x16x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S3x256 .f32) (harg10 : arg10.IsWhole) (arg11 : Memref sig .tc .vmem S3x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .bf16) (harg14 : arg14.IsWhole) (arg15 : Memref sig .tc .vmem S1x1024x4096 .f32) (harg15 : arg15.IsWhole) (arg16 : Memref sig .tc .vmem S1056x4096 .bf16) (harg16 : arg16.IsWhole)
    (x0 : Vec Ideal S1x1024x4096 .f32) (x1 : Vec Ideal S1x16x4096 .f32) (x2 : Vec Ideal S1x16x4096 .f32) (x3 : Vec Ideal S1x4096 .f32) (x4 : Vec Ideal S1x4096 .f32) (x5 : Vec Ideal S4096x256 .bf16) (x6 : Vec Ideal S4096x256 .bf16) (x7 : Vec Ideal S3x256 .f32) (x8 : Vec Ideal S3x256 .f32) (x9 : Vec Ideal S1x256 .f32) (x10 : Vec Ideal S1x256 .f32) (x11 : Vec Ideal S256x4096 .bf16)
    (o : Vec Ideal S1x1024x4096 .f32) (hx : Vec Ideal S1056x4096 .bf16) (hc : ¬ (k0_cond1 i = 1#1 ∧ k0_cond2 i = 1#1)) :
    ∀ (E : Set ℕ) (K : PUnit → sProp 𝕄),
      iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare x7 ∗ owns c arg11 fullShare x8 ∗ owns c arg12 fullShare x9 ∗ owns c arg13 fullShare x10 ∗ owns c arg14 fullShare x11 ∗ owns c arg15 fullShare o ∗ owns c arg16 fullShare hx
          ∗ (iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare x7 ∗ owns c arg11 fullShare x8 ∗ owns c arg12 fullShare x9 ∗ owns c arg13 fullShare x10 ∗ owns c arg14 fullShare x11 ∗ owns c arg15 fullShare (nxtO i x0 x4 x5 x6 x7 x8 x9 x10 x11 (nxtH i x0 x1 x2 x3 hx) o)
            ∗ owns c arg16 fullShare (nxtH i x0 x1 x2 x3 hx)) -∗ K ⟨⟩))
        ⊢ wp frame (wpE (defs₀ (F := Ideal)) Variants.none c none) E (cc0_conv_ffn i arg3 harg3 arg4 harg4 arg5 harg5 arg6 harg6 arg7 harg7 arg8 harg8 arg9 harg9 arg10 harg10 arg11 harg11 arg12 harg12 arg13 harg13 arg14 harg14 arg15 harg15 arg16 harg16) K := by
  intro E K
  simp only [cc0_conv_ffn_eq_skeleton]; unfold cc0_conv_ffn_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hfs0
  by_cases hc0 : k0_cond1 i = 1#1
  · have hc1 : ¬ k0_cond2 i = 1#1 := fun h => hc ⟨hc0, h⟩
    sl_exec (disch := first | sl_exact hc0 | sl_exact hc1)
    sl_step
    have hr : run_step.sl.r c arg6 harg6 x3 = k0_pay3 x3 := congrArg k0_pay3 (ld_in harg6 x3 _)
    have hr1 : run_step.sl.r_1 c i arg5 harg5 arg6 harg6 x2 x3 = k0_pay6 (BitVec.ofNat 32 (i 1)) x3 x2 :=
      congrArg₂ (k0_pay6 (BitVec.ofNat 32 (i 1))) (ld_in harg6 x3 _) (ld_in harg5 x2 _)
    have hr2 := congrArg₂ (k0_pay5 (BitVec.ofNat 32 (i 1))) (ld_in harg6 x3 inb_S1x4096_S1x4096_0_0)
      (ld_in harg4 x1 inb_S1x16x4096_S1x16x4096_0_0_0)
    have hH := (hx_read Variants.none c none i arg3 harg3 arg4 harg4 arg5 harg5 arg6 harg6 arg7 harg7 arg8 harg8 arg9 harg9 arg10 harg10 arg11 harg11 arg12 harg12 arg13 harg13 arg14 harg14 arg15 harg15 arg16 harg16 hc0 (BitVec.ofNat 32 (i 1)) x0 x1 x2 x3 (harg16.unread hx)
      inb_S1056x4096_S16x4096_1040_0 inb_S1056x4096_S16x4096_0_0).trans (show _ = nxtH i x0 x1 x2 x3 hx from (if_pos hc0).symm)
    rw [← hr, ← hr1, ← hr2] at hH
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; swap; · iexact H12
      ipureintro
      refine (read_top arg15 _ _ _ _).trans ?_
      rw [nxtO, if_neg hc1, if_pos hc0]
      exact step_congr ((View.readAt_full arg16.view _ _).trans hH) (ld_in harg8 x5 _) (ld_in harg9 x6 _) (ld_in harg10 x7 _) (ld_in harg11 x8 _) (ld_in harg12 x9 _) (ld_in harg13 x10 _) (ld_in harg14 x11 _) ((View.readAt_full arg15.view _ _).trans (acc_read Variants.none c none i arg3 harg3 arg4 harg4 arg5 harg5 arg6 harg6 arg7 harg7 arg8 harg8 arg9 harg9 arg10 harg10 arg11 harg11 arg12 harg12 arg13 harg13 arg14 harg14 arg15 harg15 arg16 harg16 hc0 _ _ _))
    iexists _; isplitr; swap; · iexact HS0
    ipureintro
    exact hH
  · by_cases hc1 : k0_cond2 i = 1#1
    · sl_exec (disch := first | sl_exact hc0 | sl_exact hc1)
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _; isplitr; · ipureintro; exact harg10.read_unread _
        iexact H7
      isplitl [H8]
      · iexists _; isplitr; · ipureintro; exact harg11.read_unread _
        iexact H8
      isplitl [H9]
      · iexists _; isplitr; · ipureintro; exact harg12.read_unread _
        iexact H9
      isplitl [H10]
      · iexists _; isplitr; · ipureintro; exact harg13.read_unread _
        iexact H10
      isplitl [H11]
      · iexists _; isplitr; · ipureintro; exact harg14.read_unread _
        iexact H11
      isplitl [H12]
      · iexists _; isplitr; swap; · iexact H12
        ipureintro
        have e4 : View.readAt (Elt Ideal) arg7.view (Rect.unit (s := S1x4096) ![0, 0] S1x4096.size inb_S1x4096_S1x4096_0_0).toLoadRect (harg7.unread x4) = x4 := ld_in harg7 x4 _
        refine (congrArg (fun x => View.read (Elt Ideal) arg15.view (arg15.view.writes (Elt Ideal) arg15.view.junk (pb_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 hc1 x (harg3.unread x0)
          (arg15.view.writes (Elt Ideal) arg15.view.junk _) k0_t2_loop.trips ++ _))) e4).trans ?_
        refine (fin_read Variants.none c none i arg3 harg3 arg4 harg4 arg5 harg5 arg6 harg6 arg7 harg7 arg8 harg8 arg9 harg9 arg10 harg10 arg11 harg11 arg12 harg12 arg13 harg13 arg14 harg14 arg15 harg15 arg16 harg16 hc1 x0 x4 _ _).trans ?_
        rw [nxtO, if_pos hc1, if_neg hc0]
        refine congrArg (fin x0 x4) ((read_top arg15 _ _ _ _).trans ?_)
        exact step_congr ((ld_in harg16 hx _).trans (if_neg hc0).symm) (ld_in harg8 x5 _) (ld_in harg9 x6 _) (ld_in harg10 x7 _) (ld_in harg11 x8 _) (ld_in harg12 x9 _) (ld_in harg13 x10 _) (ld_in harg14 x11 _) (ld_in harg15 o _)
      iexists _; isplitr; swap; · iexact HS0
      ipureintro
      exact (harg16.read_unread hx).trans (if_neg hc0).symm
    · sl_exec (disch := first | sl_exact hc0 | sl_exact hc1)
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _; isplitr; · ipureintro; exact harg10.read_unread _
        iexact H7
      isplitl [H8]
      · iexists _; isplitr; · ipureintro; exact harg11.read_unread _
        iexact H8
      isplitl [H9]
      · iexists _; isplitr; · ipureintro; exact harg12.read_unread _
        iexact H9
      isplitl [H10]
      · iexists _; isplitr; · ipureintro; exact harg13.read_unread _
        iexact H10
      isplitl [H11]
      · iexists _; isplitr; · ipureintro; exact harg14.read_unread _
        iexact H11
      isplitl [H12]
      · iexists _; isplitr; swap; · iexact H12
        ipureintro
        refine (read_top arg15 _ _ _ _).trans ?_
        rw [nxtO, if_neg hc1, if_neg hc0]
        exact step_congr ((ld_in harg16 hx _).trans (if_neg hc0).symm) (ld_in harg8 x5 _) (ld_in harg9 x6 _) (ld_in harg10 x7 _) (ld_in harg11 x8 _) (ld_in harg12 x9 _) (ld_in harg13 x10 _) (ld_in harg14 x11 _) (ld_in harg15 o _)
      iexists _; isplitr; swap; · iexact HS0
      ipureintro
      exact (harg16.read_unread hx).trans (if_neg hc0).symm

end Cert.KernelFfnSampleIdeal.Hand
end
-- ==== Proof.FfnSample.Blocks.lean ====
/-
  The feed-forward call (at the sample's sizes)'s blocks: which part of its array each window stages at a grid point, and the scratch's
  contents as a function of the array and the tile alone.
-/
module

public import proofs.«01_k».proof.Proof.FfnSample.Step

@[expose] public section

set_option maxRecDepth 16384

noncomputable section

namespace Cert.KernelFfnSampleIdeal.Hand

open Idealize.ShloMosaic Idealize.ShloMosaic.TcCoe
open Cert.KernelFfnSampleIdeal.Gen
open Cert.KernelFfnIdeal.Hand (rms prod conv gated fin stepv sel_eq)

variable (m : (ℓ : Loc nD τ sig) → Buf (Elt Ideal) ℓ)

/-- The grid point's coordinates: batch, tile and block, from the point's number. -/
theorem coord0 (t : Fin cfg0.N) : (grid0.coords t 0).val = t.val / 86 % 4 := Pipeline.Grid.coords_val t 0 (by decide) rfl
theorem coord1 (t : Fin cfg0.N) : (grid0.coords t 1).val = t.val / 43 % 2 := Pipeline.Grid.coords_val t 1 (by decide) rfl
theorem coord2 (t : Fin cfg0.N) : (grid0.coords t 2).val = t.val / 1 % 43 := Pipeline.Grid.coords_val t 2 (by decide) rfl

/-- A tile's first step is the points at a multiple of 43. -/
theorem cond1_iff (t : Fin cfg0.N) : k0_cond1 (grid0.coords t) = 1#1 ↔ t.val % 43 = 0 := by
  have ht : t.val < 344 := Nat.lt_of_lt_of_eq t.isLt N_0
  simp only [k0_cond1, coord0, coord1, coord2]
  word_cmp

/-- A tile's last step is the points one before a multiple of 43. -/
theorem cond2_iff (t : Fin cfg0.N) : k0_cond2 (grid0.coords t) = 1#1 ↔ t.val % 43 = 42 := by
  have ht : t.val < 344 := Nat.lt_of_lt_of_eq t.isLt N_0
  simp only [k0_cond2, coord0, coord1, coord2]
  word_cmp

/-- Every window's block index at a point, from the point's number. -/
theorem idx_facts : ∀ t : Fin grid0.N,
    (win0_0.index t 0 = t.val / 86 ∧ win0_0.index t 1 = t.val / 43 % 2 ∧ win0_0.index t 2 = 0)
    ∧ (win0_1.index t 0 = t.val / 86 ∧ win0_1.index t 1 = 64 * (t.val / 43 % 2) - 1 ∧ win0_1.index t 2 = 0)
    ∧ (win0_2.index t 0 = t.val / 86 ∧ win0_2.index t 1 = min (64 * (t.val / 43 % 2) + 64) 127 ∧ win0_2.index t 2 = 0)
    ∧ (win0_3.index t 0 = 0 ∧ win0_3.index t 1 = 0) ∧ (win0_4.index t 0 = 0 ∧ win0_4.index t 1 = 0)
    ∧ (win0_5.index t 0 = 0 ∧ win0_5.index t 1 = t.val % 43) ∧ (win0_6.index t 0 = 0 ∧ win0_6.index t 1 = 43 + t.val % 43)
    ∧ (win0_7.index t 0 = 0 ∧ win0_7.index t 1 = t.val % 43) ∧ (win0_8.index t 0 = 0 ∧ win0_8.index t 1 = 43 + t.val % 43)
    ∧ (win0_9.index t 0 = 0 ∧ win0_9.index t 1 = t.val % 43) ∧ (win0_10.index t 0 = 0 ∧ win0_10.index t 1 = 43 + t.val % 43)
    ∧ (win0_11.index t 0 = t.val % 43 ∧ win0_11.index t 1 = 0)
    ∧ (win0_12.index t 0 = t.val / 86 ∧ win0_12.index t 1 = t.val / 43 % 2 ∧ win0_12.index t 2 = 0) := by decide +kernel

/-- Window 0 stages the residual rows of the tile. -/
theorem blk0 (c : Dev nD) (t : Fin cfg0.N) (j : S1x1024x4096.Idx) (i : S4x2048x4096.Idx) (h0 : (i 0).val = 1 * (t.val / 86) + (j 0).val) (h1 : (i 1).val = 1024 * (t.val / 43 % 2) + (j 1).val) (h2 : (i 2).val = 0 + (j 2).val) :
    (iblk m c 0 t : Vec Ideal S1x1024x4096 .f32) j = (V m c main_arg0 : Vec Ideal S4x2048x4096 .f32) i := by
  unfold iblk
  rw [View.read_apply]
  show V m c main_arg0 _ = _
  refine congrArg (V m c main_arg0) (funext fun a => Fin.ext ?_)
  have e := (idx_facts t).1
  match a with
  | ⟨0, _⟩ => show win0_0.index t 0 * 1 + 1 * (j 0).val = (i 0).val; rw [e.1, h0]; omega
  | ⟨1, _⟩ => show win0_0.index t 1 * 1024 + 1 * (j 1).val = (i 1).val; rw [e.2.1, h1]; omega
  | ⟨2, _⟩ => show win0_0.index t 2 * 4096 + 1 * (j 2).val = (i 2).val; rw [e.2.2, h2]; omega

/-- Window 1 stages the sixteen rows before the tile. -/
theorem blk1 (c : Dev nD) (t : Fin cfg0.N) (j : S1x16x4096.Idx) (i : S4x2048x4096.Idx) (h0 : (i 0).val = 1 * (t.val / 86) + (j 0).val) (h1 : (i 1).val = 16 * ((64 * (t.val / 43 % 2) - 1)) + (j 1).val) (h2 : (i 2).val = 0 + (j 2).val) :
    (iblk m c 1 t : Vec Ideal S1x16x4096 .f32) j = (V m c main_arg0 : Vec Ideal S4x2048x4096 .f32) i := by
  unfold iblk
  rw [View.read_apply]
  show V m c main_arg0 _ = _
  refine congrArg (V m c main_arg0) (funext fun a => Fin.ext ?_)
  have e := (idx_facts t).2.1
  match a with
  | ⟨0, _⟩ => show win0_1.index t 0 * 1 + 1 * (j 0).val = (i 0).val; rw [e.1, h0]; omega
  | ⟨1, _⟩ => show win0_1.index t 1 * 16 + 1 * (j 1).val = (i 1).val; rw [e.2.1, h1]; omega
  | ⟨2, _⟩ => show win0_1.index t 2 * 4096 + 1 * (j 2).val = (i 2).val; rw [e.2.2, h2]; omega

/-- Window 2 stages the sixteen rows after the tile. -/
theorem blk2 (c : Dev nD) (t : Fin cfg0.N) (j : S1x16x4096.Idx) (i : S4x2048x4096.Idx) (h0 : (i 0).val = 1 * (t.val / 86) + (j 0).val) (h1 : (i 1).val = 16 * (min (64 * (t.val / 43 % 2) + 64) 127) + (j 1).val) (h2 : (i 2).val = 0 + (j 2).val) :
    (iblk m c 2 t : Vec Ideal S1x16x4096 .f32) j = (V m c main_arg0 : Vec Ideal S4x2048x4096 .f32) i := by
  unfold iblk
  rw [View.read_apply]
  show V m c main_arg0 _ = _
  refine congrArg (V m c main_arg0) (funext fun a => Fin.ext ?_)
  have e := (idx_facts t).2.2.1
  match a with
  | ⟨0, _⟩ => show win0_2.index t 0 * 1 + 1 * (j 0).val = (i 0).val; rw [e.1, h0]; omega
  | ⟨1, _⟩ => show win0_2.index t 1 * 16 + 1 * (j 1).val = (i 1).val; rw [e.2.1, h1]; omega
  | ⟨2, _⟩ => show win0_2.index t 2 * 4096 + 1 * (j 2).val = (i 2).val; rw [e.2.2, h2]; omega

/-- Window 3 stages the inner weights. -/
theorem blk3 (c : Dev nD) (t : Fin cfg0.N) (j : S1x4096.Idx) (i : S1x4096.Idx) (h0 : (i 0).val = 0 + (j 0).val) (h1 : (i 1).val = 0 + (j 1).val) :
    (iblk m c 3 t : Vec Ideal S1x4096 .f32) j = (V m c main_v8 : Vec Ideal S1x4096 .f32) i := by
  unfold iblk
  rw [View.read_apply]
  show V m c main_v8 _ = _
  refine congrArg (V m c main_v8) (funext fun a => Fin.ext ?_)
  have e := (idx_facts t).2.2.2.1
  match a with
  | ⟨0, _⟩ => show win0_3.index t 0 * 1 + 1 * (j 0).val = (i 0).val; rw [e.1, h0]; omega
  | ⟨1, _⟩ => show win0_3.index t 1 * 4096 + 1 * (j 1).val = (i 1).val; rw [e.2, h1]; omega

/-- Window 4 stages the outer weights. -/
theorem blk4 (c : Dev nD) (t : Fin cfg0.N) (j : S1x4096.Idx) (i : S1x4096.Idx) (h0 : (i 0).val = 0 + (j 0).val) (h1 : (i 1).val = 0 + (j 1).val) :
    (iblk m c 4 t : Vec Ideal S1x4096 .f32) j = (V m c main_v9 : Vec Ideal S1x4096 .f32) i := by
  unfold iblk
  rw [View.read_apply]
  show V m c main_v9 _ = _
  refine congrArg (V m c main_v9) (funext fun a => Fin.ext ?_)
  have e := (idx_facts t).2.2.2.2.1
  match a with
  | ⟨0, _⟩ => show win0_4.index t 0 * 1 + 1 * (j 0).val = (i 0).val; rw [e.1, h0]; omega
  | ⟨1, _⟩ => show win0_4.index t 1 * 4096 + 1 * (j 1).val = (i 1).val; rw [e.2, h1]; omega

/-- Window 5 stages the gate's columns. -/
theorem blk5 (c : Dev nD) (t : Fin cfg0.N) (j : S4096x256.Idx) (i : S4096x22016.Idx) (h0 : (i 0).val = 0 + (j 0).val) (h1 : (i 1).val = 256 * (t.val % 43) + (j 1).val) :
    (iblk m c 5 t : Vec Ideal S4096x256 .bf16) j = (V m c main_v2 : Vec Ideal S4096x22016 .bf16) i := by
  unfold iblk
  rw [View.read_apply]
  show V m c main_v2 _ = _
  refine congrArg (V m c main_v2) (funext fun a => Fin.ext ?_)
  have e := (idx_facts t).2.2.2.2.2.1
  match a with
  | ⟨0, _⟩ => show win0_5.index t 0 * 4096 + 1 * (j 0).val = (i 0).val; rw [e.1, h0]; omega
  | ⟨1, _⟩ => show win0_5.index t 1 * 256 + 1 * (j 1).val = (i 1).val; rw [e.2, h1]; omega

/-- Window 6 stages the value's columns. -/
theorem blk6 (c : Dev nD) (t : Fin cfg0.N) (j : S4096x256.Idx) (i : S4096x22016.Idx) (h0 : (i 0).val = 0 + (j 0).val) (h1 : (i 1).val = 256 * ((43 + t.val % 43)) + (j 1).val) :
    (iblk m c 6 t : Vec Ideal S4096x256 .bf16) j = (V m c main_v2 : Vec Ideal S4096x22016 .bf16) i := by
  unfold iblk
  rw [View.read_apply]
  show V m c main_v2 _ = _
  refine congrArg (V m c main_v2) (funext fun a => Fin.ext ?_)
  have e := (idx_facts t).2.2.2.2.2.2.1
  match a with
  | ⟨0, _⟩ => show win0_6.index t 0 * 4096 + 1 * (j 0).val = (i 0).val; rw [e.1, h0]; omega
  | ⟨1, _⟩ => show win0_6.index t 1 * 256 + 1 * (j 1).val = (i 1).val; rw [e.2, h1]; omega

/-- Window 7 stages the gate's taps. -/
theorem blk7 (c : Dev nD) (t : Fin cfg0.N) (j : S3x256.Idx) (i : S3x22016.Idx) (h0 : (i 0).val = 0 + (j 0).val) (h1 : (i 1).val = 256 * (t.val % 43) + (j 1).val) :
    (iblk m c 7 t : Vec Ideal S3x256 .f32) j = (V m c main_v3 : Vec Ideal S3x22016 .f32) i := by
  unfold iblk
  rw [View.read_apply]
  show V m c main_v3 _ = _
  refine congrArg (V m c main_v3) (funext fun a => Fin.ext ?_)
  have e := (idx_facts t).2.2.2.2.2.2.2.1
  match a with
  | ⟨0, _⟩ => show win0_7.index t 0 * 3 + 1 * (j 0).val = (i 0).val; rw [e.1, h0]; omega
  | ⟨1, _⟩ => show win0_7.index t 1 * 256 + 1 * (j 1).val = (i 1).val; rw [e.2, h1]; omega

/-- Window 8 stages the value's taps. -/
theorem blk8 (c : Dev nD) (t : Fin cfg0.N) (j : S3x256.Idx) (i : S3x22016.Idx) (h0 : (i 0).val = 0 + (j 0).val) (h1 : (i 1).val = 256 * ((43 + t.val % 43)) + (j 1).val) :
    (iblk m c 8 t : Vec Ideal S3x256 .f32) j = (V m c main_v3 : Vec Ideal S3x22016 .f32) i := by
  unfold iblk
  rw [View.read_apply]
  show V m c main_v3 _ = _
  refine congrArg (V m c main_v3) (funext fun a => Fin.ext ?_)
  have e := (idx_facts t).2.2.2.2.2.2.2.2.1
  match a with
  | ⟨0, _⟩ => show win0_8.index t 0 * 3 + 1 * (j 0).val = (i 0).val; rw [e.1, h0]; omega
  | ⟨1, _⟩ => show win0_8.index t 1 * 256 + 1 * (j 1).val = (i 1).val; rw [e.2, h1]; omega

/-- Window 9 stages the gate's bias. -/
theorem blk9 (c : Dev nD) (t : Fin cfg0.N) (j : S1x256.Idx) (i : S1x22016.Idx) (h0 : (i 0).val = 0 + (j 0).val) (h1 : (i 1).val = 256 * (t.val % 43) + (j 1).val) :
    (iblk m c 9 t : Vec Ideal S1x256 .f32) j = (V m c main_v7 : Vec Ideal S1x22016 .f32) i := by
  unfold iblk
  rw [View.read_apply]
  show V m c main_v7 _ = _
  refine congrArg (V m c main_v7) (funext fun a => Fin.ext ?_)
  have e := (idx_facts t).2.2.2.2.2.2.2.2.2.1
  match a with
  | ⟨0, _⟩ => show win0_9.index t 0 * 1 + 1 * (j 0).val = (i 0).val; rw [e.1, h0]; omega
  | ⟨1, _⟩ => show win0_9.index t 1 * 256 + 1 * (j 1).val = (i 1).val; rw [e.2, h1]; omega

/-- Window 10 stages the value's bias. -/
theorem blk10 (c : Dev nD) (t : Fin cfg0.N) (j : S1x256.Idx) (i : S1x22016.Idx) (h0 : (i 0).val = 0 + (j 0).val) (h1 : (i 1).val = 256 * ((43 + t.val % 43)) + (j 1).val) :
    (iblk m c 10 t : Vec Ideal S1x256 .f32) j = (V m c main_v7 : Vec Ideal S1x22016 .f32) i := by
  unfold iblk
  rw [View.read_apply]
  show V m c main_v7 _ = _
  refine congrArg (V m c main_v7) (funext fun a => Fin.ext ?_)
  have e := (idx_facts t).2.2.2.2.2.2.2.2.2.2.1
  match a with
  | ⟨0, _⟩ => show win0_10.index t 0 * 1 + 1 * (j 0).val = (i 0).val; rw [e.1, h0]; omega
  | ⟨1, _⟩ => show win0_10.index t 1 * 256 + 1 * (j 1).val = (i 1).val; rw [e.2, h1]; omega

/-- Window 11 stages the rows of the down projection. -/
theorem blk11 (c : Dev nD) (t : Fin cfg0.N) (j : S256x4096.Idx) (i : S11008x4096.Idx) (h0 : (i 0).val = 256 * (t.val % 43) + (j 0).val) (h1 : (i 1).val = 0 + (j 1).val) :
    (iblk m c 11 t : Vec Ideal S256x4096 .bf16) j = (V m c main_v6 : Vec Ideal S11008x4096 .bf16) i := by
  unfold iblk
  rw [View.read_apply]
  show V m c main_v6 _ = _
  refine congrArg (V m c main_v6) (funext fun a => Fin.ext ?_)
  have e := (idx_facts t).2.2.2.2.2.2.2.2.2.2.2.1
  match a with
  | ⟨0, _⟩ => show win0_11.index t 0 * 256 + 1 * (j 0).val = (i 0).val; rw [e.1, h0]; omega
  | ⟨1, _⟩ => show win0_11.index t 1 * 4096 + 1 * (j 1).val = (i 1).val; rw [e.2, h1]; omega

/-- The scratch at tile `n`: row `q` is the normalised row `1024 (n % 2) + q - 16` of batch `n / 2`, and zero off the sequence. -/
def hxE (X : Vec Ideal S4x2048x4096 .f32) (g : Vec Ideal S1x4096 .f32) (n : ℕ) : Vec Ideal S1056x4096 .bf16 := fun y =>
  if 16 ≤ 1024 * (n % 2) + (y 0).val ∧ 1024 * (n % 2) + (y 0).val < 2064 then
    rms (fun x => X (ix3 (Fin.ofNat 4 (n / 2)) (Fin.ofNat 2048 (1024 * (n % 2) + (y 0).val - 16)) x)) (fun x => g (ix2 0 x)) (y 1)
  else 0

/-- The scratch filled at a point is the tile's. -/
theorem hxv_eq (c : Dev nD) (t : Fin cfg0.N) :
    hxv (BitVec.ofNat 32 (grid0.coords t 1)) (iblk m c 0 t) (iblk m c 1 t) (iblk m c 2 t) (iblk m c 3 t)
      = hxE (V m c main_arg0) (V m c main_v8) (t.val / 43) := by
  have ht : t.val < 344 := Nat.lt_of_lt_of_eq t.isLt N_0
  funext y
  have hy : (y 0).val < 1056 := (y 0).isLt
  have hi : t.val / 43 % 2 < 2 := Nat.mod_lt _ (by decide)
  have hg : (fun x => (iblk m c 3 t : Vec Ideal S1x4096 .f32) (ix2 0 x)) = fun x => (V m c main_v8 : Vec Ideal S1x4096 .f32) (ix2 0 x) :=
    funext fun x => blk3 m c t _ _ (by rfl) (by show x.val = 0 + x.val; omega)
  unfold hxv hxE
  rw [coord1, hg]
  by_cases h1 : (y 0).val < 16
  · rw [if_pos h1]
    refine (sel_eq (Nat.lt_trans hi (by decide)) (k := 0) (by decide) _ _).trans ?_
    by_cases h0 : t.val / 43 % 2 = 0
    · rw [if_pos h0, if_neg (by omega)]
    · rw [if_neg h0, if_pos (by omega)]
      refine congrArg (fun f => rms f _ (y 1)) (funext fun x => blk1 m c t _ _ ?_ ?_ ?_)
      · show t.val / 43 / 2 % 4 = 1 * (t.val / 86) + 0; omega
      · show (1024 * (t.val / 43 % 2) + (y 0).val - 16) % 2048 = 16 * (64 * (t.val / 43 % 2) - 1) + (y 0).val % 16; omega
      · show x.val = 0 + x.val; omega
  · by_cases h2 : (y 0).val < 1040
    · rw [if_neg h1, if_pos h2, if_pos (by omega)]
      refine congrArg (fun f => rms f _ (y 1)) (funext fun x => blk0 m c t _ _ ?_ ?_ ?_)
      · show t.val / 43 / 2 % 4 = 1 * (t.val / 86) + 0; omega
      · show (1024 * (t.val / 43 % 2) + (y 0).val - 16) % 2048 = 1024 * (t.val / 43 % 2) + ((y 0).val - 16) % 1024; omega
      · show x.val = 0 + x.val; omega
    · rw [if_neg h1, if_neg h2]
      refine (sel_eq (Nat.lt_trans hi (by decide)) (k := 1) (by decide) _ _).trans ?_
      by_cases h3 : t.val / 43 % 2 = 1
      · rw [if_pos h3, if_neg (by omega)]
      · rw [if_neg h3, if_pos (by omega)]
        refine congrArg (fun f => rms f _ (y 1)) (funext fun x => blk2 m c t _ _ ?_ ?_ ?_)
        · show t.val / 43 / 2 % 4 = 1 * (t.val / 86) + 0; omega
        · show (1024 * (t.val / 43 % 2) + (y 0).val - 16) % 2048 = 16 * (min (64 * (t.val / 43 % 2) + 64) 127) + ((y 0).val - 1040) % 16; omega
        · show x.val = 0 + x.val; omega

end Cert.KernelFfnSampleIdeal.Hand
end
-- ==== Proof.FfnSample.Frame.lean ====
/-
  The feed-forward call (at the sample's sizes)'s run with every output block named: the accumulator's contents after each grid point by
  recursion over the points, the scratch kept between them, and the launch.
-/
module

public import proofs.«01_k».proof.Proof.FfnSample.Blocks
public import Idealize.ShloMosaic.Lib.Claim

@[expose] public section

set_option maxRecDepth 16384

noncomputable section

namespace Cert.KernelFfnSampleIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelFfnSampleIdeal.Gen
open Cert.KernelFfnIdeal.Hand (rms prod conv gated fin stepv)

local notation "𝕄" => MT nD τ sig Unit (Elt Ideal) ℕ (UR sig nD τ) ℕ

variable (m : (ℓ : Loc nD τ sig) → Buf (Elt Ideal) ℓ) (ρ : Dev nD → PrngReg)

/-- Each window's current staging memref at a point. -/
abbrev ms0 (t : Fin cfg0.N) : Memref sig .tc .vmem S1x1024x4096 .f32 := win0_0.stage (cfg0.slots t 0)
abbrev ms1 (t : Fin cfg0.N) : Memref sig .tc .vmem S1x16x4096 .f32 := win0_1.stage (cfg0.slots t 1)
abbrev ms2 (t : Fin cfg0.N) : Memref sig .tc .vmem S1x16x4096 .f32 := win0_2.stage (cfg0.slots t 2)
abbrev ms3 (t : Fin cfg0.N) : Memref sig .tc .vmem S1x4096 .f32 := win0_3.stage (cfg0.slots t 3)
abbrev ms4 (t : Fin cfg0.N) : Memref sig .tc .vmem S1x4096 .f32 := win0_4.stage (cfg0.slots t 4)
abbrev ms5 (t : Fin cfg0.N) : Memref sig .tc .vmem S4096x256 .bf16 := win0_5.stage (cfg0.slots t 5)
abbrev ms6 (t : Fin cfg0.N) : Memref sig .tc .vmem S4096x256 .bf16 := win0_6.stage (cfg0.slots t 6)
abbrev ms7 (t : Fin cfg0.N) : Memref sig .tc .vmem S3x256 .f32 := win0_7.stage (cfg0.slots t 7)
abbrev ms8 (t : Fin cfg0.N) : Memref sig .tc .vmem S3x256 .f32 := win0_8.stage (cfg0.slots t 8)
abbrev ms9 (t : Fin cfg0.N) : Memref sig .tc .vmem S1x256 .f32 := win0_9.stage (cfg0.slots t 9)
abbrev ms10 (t : Fin cfg0.N) : Memref sig .tc .vmem S1x256 .f32 := win0_10.stage (cfg0.slots t 10)
abbrev ms11 (t : Fin cfg0.N) : Memref sig .tc .vmem S256x4096 .bf16 := win0_11.stage (cfg0.slots t 11)
abbrev ms12 (t : Fin cfg0.N) : Memref sig .tc .vmem S1x1024x4096 .f32 := win0_12.stage (cfg0.slots t 12)

/-- The scratch operand. -/
abbrev scM : Memref sig .tc .vmem S1056x4096 .bf16 := Memref.whole cc0_scratch0

/-- The scratch's contents at tile `n`. -/
def hxT (c : Dev nD) (n : ℕ) : Vec Ideal S1056x4096 .bf16 := hxE (V m c main_arg0) (V m c main_v8) n

/-- One point's step on the accumulator. -/
def stepAt (c : Dev nD) (t : Fin cfg0.N) (o : Vec Ideal S1x1024x4096 .f32) : Vec Ideal S1x1024x4096 .f32 :=
  nxtO (grid0.coords t) (iblk m c 0 t) (iblk m c 4 t) (iblk m c 5 t) (iblk m c 6 t) (iblk m c 7 t) (iblk m c 8 t)
    (iblk m c 9 t) (iblk m c 10 t) (iblk m c 11 t) (hxT m c (t.val / 43)) o

/-- The accumulator after point `n`. -/
def accN (c : Dev nD) : ℕ → Vec Ideal S1x1024x4096 .f32
  | 0 => if h : 0 < cfg0.N then stepAt m c ⟨0, h⟩ (fun _ => (0 : EReal)) else fun _ => (0 : EReal)
  | n + 1 => if h : n + 1 < cfg0.N then stepAt m c ⟨n + 1, h⟩ (accN c n) else fun _ => (0 : EReal)

/-- A tile's first step does not depend on the accumulator. -/
theorem nxtO_first (i : grid0.Coords) (hc : k0_cond1 i = 1#1) (x0 : Vec Ideal S1x1024x4096 .f32) (x4 : Vec Ideal S1x4096 .f32)
    (x5 x6 : Vec Ideal S4096x256 .bf16) (x7 x8 : Vec Ideal S3x256 .f32) (x9 x10 : Vec Ideal S1x256 .f32)
    (x11 : Vec Ideal S256x4096 .bf16) (hx : Vec Ideal S1056x4096 .bf16) (o o' : Vec Ideal S1x1024x4096 .f32) :
    nxtO i x0 x4 x5 x6 x7 x8 x9 x10 x11 hx o = nxtO i x0 x4 x5 x6 x7 x8 x9 x10 x11 hx o' := by
  unfold nxtO
  rw [if_pos hc, if_pos hc]

/-- At a tile's first point the accumulator does not depend on what it held. -/
theorem accN_first (c : Dev nD) (t : Fin cfg0.N) (h : t.val % 43 = 0) (o : Vec Ideal S1x1024x4096 .f32) :
    accN m c t.val = stepAt m c t o := by
  have hs : ∀ o', stepAt m c t o' = stepAt m c t o := fun o' =>
    nxtO_first _ ((cond1_iff t).mpr h) ..
  obtain ⟨n, hn⟩ := t
  cases n with
  | zero => exact (dif_pos hn).trans (hs _)
  | succ n => exact (dif_pos hn).trans (hs _)

/-- At a tile's other points it is the step of what the point before left. -/
theorem accN_next (c : Dev nD) (t : Fin cfg0.N) (h : t.val ≠ 0) : accN m c t.val = stepAt m c t (accN m c (t.val - 1)) := by
  obtain ⟨n, hn⟩ := t
  cases n with
  | zero => exact absurd rfl h
  | succ n => exact dif_pos hn

/-- The pipeline's data: the inputs' buffers at their blocks, the output's at the accumulator, the scratch at the tile's
    rows between two points of one tile. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => accN m c t.val
  Φ k := iprop((∃ d, ⌜k.val % 43 ≠ 0 → d = hxT m c (k.val / 43)⌝ ∗ owns c scM fullShare d) ∗ (∃ r, prngReg c r))
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = accN m c t.val := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d

/-- Within a tile the output's buffer holds what the point before left. -/
theorem before12 (c : Dev nD) (t : Fin cfg0.N) (h : t.val % 43 ≠ 0) (d) : (dats m 0 c).before 12 t d = accN m c (t.val - 1) :=
  ((dats m 0 c).before_out_kept 12 rfl t (fun e => h (by rw [e])) (by
    rw [Bool.eq_false_iff]
    intro hf
    have := (flush0_12 ⟨t.val - 1, Nat.lt_of_le_of_lt (Nat.sub_le _ _) t.isLt⟩).mp hf
    have hv : (t.val - 1) % 43 = 42 := this
    omega) (fun _ => rfl) (fun _ _ => rfl) d).trans (after12 m c _)

/-- The accumulator after a point is the body's step of what the buffer held before it. -/
theorem acc_step (c : Dev nD) (t : Fin cfg0.N) (d) : accN m c t.val = stepAt m c t ((dats m 0 c).before 12 t d) := by
  by_cases h : t.val % 43 = 0
  · exact accN_first m c t h _
  · rw [before12 m c t h]
    exact accN_next m c t (fun e => h (by rw [e]))

/-- The scratch after a point is the tile's rows. -/
theorem hx_step (c : Dev nD) (t : Fin cfg0.N) (d : Vec Ideal S1056x4096 .bf16) (hd : t.val % 43 ≠ 0 → d = hxT m c (t.val / 43)) :
    nxtH (grid0.coords t) (iblk m c 0 t) (iblk m c 1 t) (iblk m c 2 t) (iblk m c 3 t) d = hxT m c (t.val / 43) := by
  unfold nxtH
  by_cases h : t.val % 43 = 0
  · rw [if_pos ((cond1_iff t).mpr h)]
    exact hxv_eq m c t
  · rw [if_neg (fun e => h ((cond1_iff t).mp e))]
    exact hd h

/-- The pipeline's plain invariant, the scratch named. -/
theorem PhiA_eq (c : Dev nD) :
    (Pipeline.ΦA spec0 c : sProp 𝕄)
      = iprop(iprop((∃ d, owns c scM fullShare d)) ∗ (∃ r, prngReg c r)) := by
  unfold Pipeline.ΦA; rw [scopedRest0_eq]; simp only [scM, owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns c (ms0 t) fullShare ((dats m 0 c).before 0 t d))
    ∗ (∃ d, owns c (ms1 t) fullShare ((dats m 0 c).before 1 t d))
    ∗ (∃ d, owns c (ms2 t) fullShare ((dats m 0 c).before 2 t d))
    ∗ (∃ d, owns c (ms3 t) fullShare ((dats m 0 c).before 3 t d))
    ∗ (∃ d, owns c (ms4 t) fullShare ((dats m 0 c).before 4 t d))
    ∗ (∃ d, owns c (ms5 t) fullShare ((dats m 0 c).before 5 t d))
    ∗ (∃ d, owns c (ms6 t) fullShare ((dats m 0 c).before 6 t d))
    ∗ (∃ d, owns c (ms7 t) fullShare ((dats m 0 c).before 7 t d))
    ∗ (∃ d, owns c (ms8 t) fullShare ((dats m 0 c).before 8 t d))
    ∗ (∃ d, owns c (ms9 t) fullShare ((dats m 0 c).before 9 t d))
    ∗ (∃ d, owns c (ms10 t) fullShare ((dats m 0 c).before 10 t d))
    ∗ (∃ d, owns c (ms11 t) fullShare ((dats m 0 c).before 11 t d))
    ∗ (∃ d, owns c (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns c (ms0 t) fullShare ((dats m 0 c).after 0 t)
    ∗ owns c (ms1 t) fullShare ((dats m 0 c).after 1 t)
    ∗ owns c (ms2 t) fullShare ((dats m 0 c).after 2 t)
    ∗ owns c (ms3 t) fullShare ((dats m 0 c).after 3 t)
    ∗ owns c (ms4 t) fullShare ((dats m 0 c).after 4 t)
    ∗ owns c (ms5 t) fullShare ((dats m 0 c).after 5 t)
    ∗ owns c (ms6 t) fullShare ((dats m 0 c).after 6 t)
    ∗ owns c (ms7 t) fullShare ((dats m 0 c).after 7 t)
    ∗ owns c (ms8 t) fullShare ((dats m 0 c).after 8 t)
    ∗ owns c (ms9 t) fullShare ((dats m 0 c).after 9 t)
    ∗ owns c (ms10 t) fullShare ((dats m 0 c).after 10 t)
    ∗ owns c (ms11 t) fullShare ((dats m 0 c).after 11 t)
    ∗ owns c (ms12 t) fullShare ((dats m 0 c).after 12 t))

set_option maxHeartbeats 3600000 in
/-- The body at any point, by the step with its contents named. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6, before7, before8, before9, before10, before11]
  rw [show (dats m 0 c).owesAt () t.succ = (dats m 0 c).owesAt () t.castSucc from rfl,
    after0, after1, after2, after3, after4, after5, after6, after7, after8, after9, after10, after11, after12]
  rw [show (dats m 0 c).Φ t.castSucc = iprop((∃ d, ⌜t.val % 43 ≠ 0 → d = hxT m c (t.val / 43)⌝ ∗ owns c scM fullShare d) ∗ (∃ r, prngReg c r)) from rfl,
    show (dats m 0 c).Φ t.succ = iprop((∃ d, ⌜(t.val + 1) % 43 ≠ 0 → d = hxT m c ((t.val + 1) / 43)⌝ ∗ owns c scM fullShare d) ∗ (∃ r, prngReg c r)) from rfl]
  iintro ⟨⟨⟨%ds, %hds, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hh := hx_step m c t ds hds
  have ha := acc_step m c t d12
  iapply (run_step c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) scM (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).before 12 t d12) ds
    (fun h => by have h0 := (cond1_iff t).mp h.1; have h1 := (cond2_iff t).mp h.2; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  iintro ⟨H0, H1, H2, H3, H4, H5, H6, H7, H8, H9, H10, H11, H12, HS0⟩
  isplitl [HS0 Hg]
  · isplitl [HS0]
    · iexists _
      isplitr; swap; · iexact HS0
      ipureintro
      intro hne
      rw [hh]
      exact congrArg (hxT m c) (by omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  rw [ha, stepAt, ← hh]
  iexact H12

/-- The pipeline's body at a point is the kernel on that point's memrefs. -/
theorem defs₀_row (t : Fin cfg0.N) : defs₀ (F := Ideal) .tc cfg0.body (cfg0.bodyArgs t (cfg0.slots t)) = bodyAt0 t := by
  unfold defs₀; rw [Defs.onTc_tc]

/-- The library's obligation of the body. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The invariant at the first point, from any scratch. -/
theorem Phi_in (c : Dev nD) : Pipeline.ΦA spec0 c ⊢ (dats m 0 c).Φ 0 := by
  rw [PhiA_eq, show (dats m 0 c).Φ 0 = iprop((∃ d, ⌜0 % 43 ≠ 0 → d = hxT m c (0 / 43)⌝ ∗ owns c scM fullShare d) ∗ (∃ r, prngReg c r)) from rfl]
  iintro ⟨⟨%d, HS⟩, Hg⟩
  isplitl [HS]
  · iexists d
    isplitr; · ipureintro; exact fun h => absurd rfl h
    iexact HS
  iexact Hg

/-- The invariant after the last point gives the scratch back. -/
theorem Phi_out (c : Dev nD) : (dats m 0 c).Φ (Fin.last (cfgs 0).N) ⊢ Pipeline.ΦA spec0 c := by
  rw [PhiA_eq, show (dats m 0 c).Φ (Fin.last (cfgs 0).N) = iprop((∃ d, ⌜(cfgs 0).N % 43 ≠ 0 → d = hxT m c ((cfgs 0).N / 43)⌝ ∗ owns c scM fullShare d) ∗ (∃ r, prngReg c r)) from rfl]
  iintro ⟨⟨%d, -, HS⟩, Hg⟩
  isplitl [HS]
  · iexists d
    iexact HS
  iexact Hg

set_option backward.isDefEq.respectTransparency.types false in
/-- The launch: every array at its named contents, every counter at zero. -/
theorem run_main_quiescent : θ_run defs (onTc (τ := τ) (main (F := Ideal))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := Phi_in m) (hout := Phi_out m)

/-- The launch without the counters. -/
theorem run_main : θ_run defs (onTc (τ := τ) (main (F := Ideal))) (s₀ m ρ) (Pipeline.FramePost cfgs (dats m) 0 (V m)) :=
  (θ_run defs _ _).mono (fun _ h => h.1) (run_main_quiescent m ρ)

end Cert.KernelFfnSampleIdeal.Hand
end
-- ==== Proof.FfnSample.Host.lean ====
/-
  The feed-forward call (at the sample's sizes)'s operands as the launch finds them: each weight array is the argument with its unit axis dropped.
-/
module

public import proofs.«01_k».proof.Proof.FfnSample.Frame
public import Idealize.ShloMosaic.Lib.Pointwise
public import Idealize.ShloMosaic.Lib.StableHlo.RunRead

@[expose] public section

set_option maxRecDepth 16384

noncomputable section

namespace Cert.KernelFfnSampleIdeal.Hand

open Idealize.ShloMosaic Idealize.ShloMosaic.TcCoe Idealize.ShloMosaic.StableHlo
open Cert.KernelFfnSampleIdeal.Gen

variable (m : (ℓ : Loc nD τ sig) → Buf (Elt Ideal) ℓ) (c : Dev nD)

/-- The arguments. -/
abbrev a0 : Vec Ideal S4x2048x4096 .f32 := m ((c : Thread nD τ).loc main_arg0)
abbrev a1 : Vec Ideal S1x4096 .f32 := m ((c : Thread nD τ).loc main_arg1)
abbrev a2 : Vec Ideal S4096 .f32 := m ((c : Thread nD τ).loc main_arg2)
abbrev a3 : Vec Ideal S1x4096x22016 .f32 := m ((c : Thread nD τ).loc main_arg3)
abbrev a4 : Vec Ideal S1x3x22016 .f32 := m ((c : Thread nD τ).loc main_arg4)
abbrev a5 : Vec Ideal S1x22016 .f32 := m ((c : Thread nD τ).loc main_arg5)
abbrev a6 : Vec Ideal S1x11008x4096 .f32 := m ((c : Thread nD τ).loc main_arg6)

/-- The up projection's weights. -/
theorem V_v2 (k : Fin 4096) (j : Fin 22016) : (V m c main_v2 : Vec Ideal S4096x22016 .bf16) (ix2 k j) = a3 m c (ix3 0 k j) := by
  show after hostOps0 (fun b => m (c, b)) (Proc.devRef .tc main_v2) (ix2 k j) = _
  after_reads_simp
  pointwise []

/-- The taps. -/
theorem V_v3 (k : Fin 3) (j : Fin 22016) : (V m c main_v3 : Vec Ideal S3x22016 .f32) (ix2 k j) = a4 m c (ix3 0 k j) := by
  show after hostOps0 (fun b => m (c, b)) (Proc.devRef .tc main_v3) (ix2 k j) = _
  after_reads_simp
  pointwise []

/-- The down projection's weights. -/
theorem V_v6 (l : Fin 11008) (k : Fin 4096) : (V m c main_v6 : Vec Ideal S11008x4096 .bf16) (ix2 l k) = a6 m c (ix3 0 l k) := by
  show after hostOps0 (fun b => m (c, b)) (Proc.devRef .tc main_v6) (ix2 l k) = _
  after_reads_simp
  pointwise []

/-- The bias. -/
theorem V_v7 (j : Fin 22016) : (V m c main_v7 : Vec Ideal S1x22016 .f32) (ix2 0 j) = a5 m c (ix2 0 j) := by
  show after hostOps0 (fun b => m (c, b)) (Proc.devRef .tc main_v7) (ix2 0 j) = _
  after_reads_simp
  pointwise []

/-- The inner weights. -/
theorem V_v8 (k : Fin 4096) : (V m c main_v8 : Vec Ideal S1x4096 .f32) (ix2 0 k) = a1 m c (ix2 0 k) := by
  show after hostOps0 (fun b => m (c, b)) (Proc.devRef .tc main_v8) (ix2 0 k) = _
  after_reads_simp
  pointwise []

/-- The outer weights. -/
theorem V_v9 (k : Fin 4096) : (V m c main_v9 : Vec Ideal S1x4096 .f32) (ix2 0 k) = a2 m c (ix1 k) := by
  show after hostOps0 (fun b => m (c, b)) (Proc.devRef .tc main_v9) (ix2 0 k) = _
  after_reads_simp
  pointwise []

end Cert.KernelFfnSampleIdeal.Hand
end
-- ==== Proof.FfnSample.Ref.lean ====
/-
  The feed-forward reference (at the sample's sizes)'s stages, index by index: the normalised rows, their projection, the three-tap
  convolution over the padded sequence, the gated product, its down projection, and the normalised result.
-/
module

public import proofs.«01_k».proof.Proof.Gen.ReferenceFfnSampleIdeal.Read
public import proofs.«01_k».proof.Proof.FfnSample.Vals
public import Idealize.ShloMosaic.Lib.Pointwise

@[expose] public section

set_option maxRecDepth 16384

noncomputable section

namespace Cert.KernelFfnSampleIdeal.Hand

open Idealize.ShloMosaic Idealize.ShloMosaic.TcCoe
open Cert.ReferenceFfnSampleIdeal Cert.ReferenceFfnSampleIdeal.Read
open Cert.KernelFfnIdeal.Hand (rms prod conv gated fin)

variable (x0 : Vec Ideal S4x2048x4096 .f32) (x1 : Vec Ideal S1x4096 .f32) (x2 : Vec Ideal S4096 .f32)
  (x3 : Vec Ideal S1x4096x22016 .f32) (x4 : Vec Ideal S1x3x22016 .f32) (x5 : Vec Ideal S1x22016 .f32)
  (x6 : Vec Ideal S1x11008x4096 .f32)

/-- The projected normalised row `s` of batch `b`, column `j`. -/
def zr (b : Fin 4) (s : Fin 2048) (j : Fin 22016) : EReal :=
  ∑ k, rms (fun x => x0 (ix3 b s x)) (fun x => x1 (ix2 0 x)) k * x3 (ix3 0 k j)

/-- The same with one zero row before and one after: row `q` is the projected row `q - 1`. -/
def zp (b : Fin 4) (q : ℕ) (j : Fin 22016) : EReal :=
  if 1 ≤ q ∧ q < 2049 then zr x0 x1 x3 b (Fin.ofNat 2048 (q - 1)) j else 0

/-- Three taps along the sequence and a bias. -/
def cvr (b : Fin 4) (s : Fin 2048) (j : Fin 22016) : EReal :=
  x4 (ix3 0 0 j) * zp x0 x1 x3 b s.val j + x4 (ix3 0 1 j) * zp x0 x1 x3 b (s.val + 1) j
    + x4 (ix3 0 2 j) * zp x0 x1 x3 b (s.val + 2) j + x5 (ix2 0 j)

/-- The gated product. -/
def gtr (b : Fin 4) (s : Fin 2048) (l : Fin 11008) : EReal :=
  gated (cvr x0 x1 x3 x4 x5 b s ⟨l.val, by omega⟩) (cvr x0 x1 x3 x4 x5 b s ⟨11008 + l.val, by omega⟩)

/-- The result. -/
def ffn (b : Fin 4) (s : Fin 2048) (k : Fin 4096) : EReal :=
  rms (fun x => x0 (ix3 b s x) + ∑ l, gtr x0 x1 x3 x4 x5 b s l * x6 (ix3 0 l x)) (fun x => x2 (ix1 x)) k

/-- The normalised rows. -/
theorem v13_at (b : Fin 4) (s : Fin 2048) (k : Fin 4096) :
    val_main_v13 (F := Ideal) x0 x1 (ix3 b s k) = rms (fun x => x0 (ix3 b s x)) (fun x => x1 (ix2 0 x)) k := by
  pointwise [val_main_v13, val_main_v12, val_main_v11, val_main_v0, val_main_v10, val_main_v9, val_main_v8, val_main_v7,
    val_main_v6, val_main_v5, val_main_v4, val_main_v3, val_main_v2, val_main_v1, val_main_cst, val_main_cst_0, val_main_cst_1]
  rfl

/-- The projection. -/
theorem v15_at (b : Fin 4) (s : Fin 2048) (j : Fin 22016) :
    val_main_v15 (F := Ideal) x0 x1 x3 (ix3 b s j) = zr x0 x1 x3 b s j := by
  pointwise [val_main_v15, val_main_v14]
  exact Finset.sum_congr rfl fun k _ => congrArg (· * _) (v13_at x0 x1 b s k)

/-- The padding value is zero. -/
theorem pad_zero (i : S_.Idx) : val_main_call0_v0 (F := Ideal) i = 0 := by
  pointwise [val_main_call0_v0, val_main_c]
  show (((0#32 : BitVec 32).toInt : ℝ) : EReal) = 0
  simp

/-- The padded projection. -/
theorem v16_at (b : Fin 4) (q : Fin 2050) (j : Fin 22016) :
    val_main_v16 (F := Ideal) x0 x1 x3 (ix3 b q j) = zp x0 x1 x3 b q.val j := by
  pointwise [val_main_v16]
  unfold zp
  by_cases h : 1 ≤ q.val ∧ q.val < 2049
  · have h' : 1 ≤ q.val ∧ q.val - 1 < 2048 := by omega
    rw [dif_pos h', if_pos h, v15_at]
    exact congrArg (fun s => zr x0 x1 x3 b s j) (Fin.ext (Nat.mod_eq_of_lt (by omega)).symm)
  · have h' : ¬(1 ≤ q.val ∧ q.val - 1 < 2048) := by omega
    rw [dif_neg h', if_neg h]
    exact pad_zero _

/-- The convolution. -/
theorem v41_at (b : Fin 4) (s : Fin 2048) (j : Fin 22016) :
    val_main_v41 (F := Ideal) x0 x1 x3 x4 x5 (ix3 b s j) = cvr x0 x1 x3 x4 x5 b s j := by
  pointwise [val_main_v41, val_main_v40, val_main_v39, val_main_v38, val_main_v37, val_main_v36, val_main_v35, val_main_v34,
    val_main_v33, val_main_v32, val_main_v31, val_main_v30, val_main_v29, val_main_v28, val_main_v27, val_main_v26,
    val_main_v25, val_main_v24, val_main_v23, val_main_v22, val_main_v21, val_main_v20, val_main_v19, val_main_v18, val_main_v17]
  rw [v16_at, v16_at, v16_at]
  show _ * zp x0 x1 x3 b s.val j + _ * zp x0 x1 x3 b (1 + s.val) j + _ * zp x0 x1 x3 b (2 + s.val) j + _ = _
  rw [Nat.add_comm 1 s.val, Nat.add_comm 2 s.val]
  rfl

/-- The gated product. -/
theorem v45_at (b : Fin 4) (s : Fin 2048) (l : Fin 11008) :
    val_main_v45 (F := Ideal) x0 x1 x3 x4 x5 (ix3 b s l) = gtr x0 x1 x3 x4 x5 b s l := by
  pointwise [val_main_v45, val_main_v44, val_main_call1_v5, val_main_call1_v4, val_main_call1_v3, val_main_call1_v2, val_main_call1_v1,
    val_main_call1_v0, val_main_call1_cst, val_main_call1_cst_0, val_main_v43, val_main_v42]
  rw [v41_at, v41_at]
  rfl

/-- The reference's result. -/
theorem v61_at (b : Fin 4) (s : Fin 2048) (k : Fin 4096) :
    val_main_v61 (F := Ideal) x0 x1 x2 x3 x4 x5 x6 (ix3 b s k) = ffn x0 x1 x2 x3 x4 x5 x6 b s k := by
  pointwise [val_main_v61, val_main_v60, val_main_v59, val_main_v58, val_main_v57, val_main_v56, val_main_v55, val_main_v54,
    val_main_v53, val_main_v52, val_main_v51, val_main_v50, val_main_v49, val_main_v48, val_main_v47, val_main_v46,
    val_main_cst_2, val_main_cst_3, val_main_cst_4]
  have h : ∀ x : Fin 4096, (∑ l : Fin 11008, val_main_v45 (F := Ideal) x0 x1 x3 x4 x5 (ix3 b s l) * x6 (ix3 0 l x))
      = ∑ l, gtr x0 x1 x3 x4 x5 b s l * x6 (ix3 0 l x) := fun x => Finset.sum_congr rfl fun l _ => congrArg (· * _) (v45_at x0 x1 x3 x4 x5 b s l)
  simp only [h]
  rfl

end Cert.KernelFfnSampleIdeal.Hand
end
-- ==== Proof.FfnSample.Value.lean ====
/-
  The feed-forward call (at the sample's sizes)'s result: the accumulator after each of a tile's steps is the sum of the blocks so far, the last
  step's rows are the reference's, and the tiles cover the array.
-/
module

public import proofs.«01_k».proof.Proof.FfnSample.Host
public import proofs.«01_k».proof.Proof.FfnSample.Ref

@[expose] public section

set_option maxRecDepth 16384

noncomputable section

namespace Cert.KernelFfnSampleIdeal.Hand

open Idealize.ShloMosaic Idealize.ShloMosaic.TcCoe Idealize.SL.Sem
open Idealize.ShloMosaic.Pipeline (Dat Cfg Window)
open Cert.KernelFfnSampleIdeal.Gen
open Cert.KernelFfnIdeal.Hand (rms prod conv gated fin stepv step_apply blocks_add fin_at)

variable (m : (ℓ : Loc nD τ sig) → Buf (Elt Ideal) ℓ) (ρ : Dev nD → PrngReg)

/-- The scratch's rows from the arguments. -/
theorem hxT_at (c : Dev nD) (n : ℕ) (q : Fin 1056) (x : Fin 4096) : hxT m c n (ix2 q x)
    = if 16 ≤ 1024 * (n % 2) + q.val ∧ 1024 * (n % 2) + q.val < 2064 then
        rms (fun x => a0 m c (ix3 (Fin.ofNat 4 (n / 2)) (Fin.ofNat 2048 (1024 * (n % 2) + q.val - 16)) x)) (fun x => a1 m c (ix2 0 x)) x
      else 0 := by
  unfold hxT hxE
  have e : (fun x => (V m c main_v8 : Vec Ideal S1x4096 .f32) (ix2 0 x)) = fun x => a1 m c (ix2 0 x) := funext fun x => V_v8 m c x
  rw [e, V_main_arg0]
  rfl

/-- A projected row of the tile is the reference's padded row. -/
theorem prod_at (c : Dev nD) (n : ℕ) (w : Vec Ideal S4096x256 .bf16) (q : Fin 1056) (hq : 15 ≤ q.val) (l : Fin 256) (j : Fin 22016)
    (Q : ℕ) (hQ : Q = 1024 * (n % 2) + q.val - 15) (hw : ∀ x, w (ix2 x l) = a3 m c (ix3 0 x j)) :
    prod (hxT m c n) w q l = zp (a0 m c) (a1 m c) (a3 m c) (Fin.ofNat 4 (n / 2)) Q j := by
  subst hQ
  unfold prod zp
  simp only [hxT_at, hw]
  by_cases h : 16 ≤ 1024 * (n % 2) + q.val ∧ 1024 * (n % 2) + q.val < 2064
  · rw [if_pos (show 1 ≤ 1024 * (n % 2) + q.val - 15 ∧ 1024 * (n % 2) + q.val - 15 < 2049 by omega)]
    simp only [if_pos h]
    rw [show 1024 * (n % 2) + q.val - 15 - 1 = 1024 * (n % 2) + q.val - 16 by omega]
    rfl
  · rw [if_neg (show ¬(1 ≤ 1024 * (n % 2) + q.val - 15 ∧ 1024 * (n % 2) + q.val - 15 < 2049) by omega)]
    simp only [if_neg h, zero_mul, Finset.sum_const_zero]

/-- The tile's convolution is the reference's. -/
theorem conv_at (c : Dev nD) (n : ℕ) (w : Vec Ideal S4096x256 .bf16) (cw : Vec Ideal S3x256 .f32) (cb : Vec Ideal S1x256 .f32)
    (r : Fin 1024) (l : Fin 256) (j : Fin 22016) (s : Fin 2048) (hs : s.val = 1024 * (n % 2) + r.val)
    (hw : ∀ x, w (ix2 x l) = a3 m c (ix3 0 x j)) (hc : ∀ u, cw (ix2 u l) = a4 m c (ix3 0 u j)) (hb : cb (ix2 0 l) = a5 m c (ix2 0 j)) :
    conv (hxT m c n) w cw cb r l = cvr (a0 m c) (a1 m c) (a3 m c) (a4 m c) (a5 m c) (Fin.ofNat 4 (n / 2)) s j := by
  unfold conv cvr
  rw [prod_at m c n w ⟨15 + r.val, by omega⟩ (by show 15 ≤ 15 + r.val; omega) l j s.val (by show s.val = 1024 * (n % 2) + (15 + r.val) - 15; omega) hw,
    prod_at m c n w ⟨16 + r.val, by omega⟩ (by show 15 ≤ 16 + r.val; omega) l j (s.val + 1) (by show s.val + 1 = 1024 * (n % 2) + (16 + r.val) - 15; omega) hw,
    prod_at m c n w ⟨17 + r.val, by omega⟩ (by show 15 ≤ 17 + r.val; omega) l j (s.val + 2) (by show s.val + 2 = 1024 * (n % 2) + (17 + r.val) - 15; omega) hw,
    hc, hc, hc, hb]

/-- One term of the down projection, by the hidden column's number. -/
def term (c : Dev nD) (b : Fin 4) (s : Fin 2048) (k : Fin 4096) (n : ℕ) : EReal :=
  if h : n < 11008 then gtr (a0 m c) (a1 m c) (a3 m c) (a4 m c) (a5 m c) b s ⟨n, h⟩ * a6 m c (ix3 0 ⟨n, h⟩ k) else 0

/-- One step adds its block's terms. -/
theorem step_at (c : Dev nD) (t : Fin cfg0.N) (o : Vec Ideal S1x1024x4096 .f32) (r : Fin 1024) (k : Fin 4096) (s : Fin 2048)
    (hs : s.val = 1024 * (t.val / 43 % 2) + r.val) :
    stepv (hxT m c (t.val / 43)) (iblk m c 5 t) (iblk m c 6 t) (iblk m c 7 t) (iblk m c 8 t) (iblk m c 9 t) (iblk m c 10 t)
        (iblk m c 11 t) o (ix3 0 r k)
      = o (ix3 0 r k) + ∑ l : Fin 256, term m c (Fin.ofNat 4 (t.val / 43 / 2)) s k (256 * (t.val % 43) + l.val) := by
  refine (step_apply _ _ _ _ _ _ _ _ _ _ _ _).trans ?_
  refine congrArg (o (ix3 0 r k) + ·) (Finset.sum_congr rfl fun l _ => ?_)
  have hl := l.isLt
  have hf : t.val % 43 < 43 := Nat.mod_lt _ (by norm_num)
  have hn : 256 * (t.val % 43) + l.val < 11008 := by omega
  unfold term
  rw [dif_pos hn]
  have e11 : (iblk m c 11 t : Vec Ideal S256x4096 .bf16) (ix2 l k) = a6 m c (ix3 0 ⟨256 * (t.val % 43) + l.val, hn⟩ k) :=
    (blk11 m c t _ (ix2 ⟨256 * (t.val % 43) + l.val, hn⟩ k) rfl (Nat.zero_add _).symm).trans (V_v6 m c _ _)
  have g : conv (hxT m c (t.val / 43)) (iblk m c 5 t) (iblk m c 7 t) (iblk m c 9 t) r l
      = cvr (a0 m c) (a1 m c) (a3 m c) (a4 m c) (a5 m c) (Fin.ofNat 4 (t.val / 43 / 2)) s ⟨256 * (t.val % 43) + l.val, by omega⟩ :=
    conv_at m c _ _ _ _ r l _ s hs
      (fun x => (blk5 m c t _ (ix2 x ⟨256 * (t.val % 43) + l.val, by omega⟩) (Nat.zero_add _).symm rfl).trans (V_v2 m c _ _))
      (fun x => (blk7 m c t _ (ix2 x ⟨256 * (t.val % 43) + l.val, by omega⟩) (Nat.zero_add _).symm rfl).trans (V_v3 m c _ _))
      ((blk9 m c t _ (ix2 0 ⟨256 * (t.val % 43) + l.val, by omega⟩) (Nat.zero_add _).symm rfl).trans (V_v7 m c _))
  have v : conv (hxT m c (t.val / 43)) (iblk m c 6 t) (iblk m c 8 t) (iblk m c 10 t) r l
      = cvr (a0 m c) (a1 m c) (a3 m c) (a4 m c) (a5 m c) (Fin.ofNat 4 (t.val / 43 / 2)) s ⟨11008 + (256 * (t.val % 43) + l.val), by omega⟩ :=
    conv_at m c _ _ _ _ r l _ s hs
      (fun x => (blk6 m c t _ (ix2 x ⟨11008 + (256 * (t.val % 43) + l.val), by omega⟩) (Nat.zero_add _).symm
        (by show 11008 + (256 * (t.val % 43) + l.val) = 256 * (43 + t.val % 43) + l.val; omega)).trans (V_v2 m c _ _))
      (fun x => (blk8 m c t _ (ix2 x ⟨11008 + (256 * (t.val % 43) + l.val), by omega⟩) (Nat.zero_add _).symm
        (by show 11008 + (256 * (t.val % 43) + l.val) = 256 * (43 + t.val % 43) + l.val; omega)).trans (V_v3 m c _ _))
      ((blk10 m c t _ (ix2 0 ⟨11008 + (256 * (t.val % 43) + l.val), by omega⟩) (Nat.zero_add _).symm
        (by show 11008 + (256 * (t.val % 43) + l.val) = 256 * (43 + t.val % 43) + l.val; omega)).trans (V_v7 m c _))
  rw [e11, g, v]
  rfl

/-- The accumulator before a step, with the clearing of the tile's first step. -/
theorem start_at (c : Dev nD) (t : Fin cfg0.N) (o : Vec Ideal S1x1024x4096 .f32) (r : Fin 1024) (k : Fin 4096) (s : Fin 2048)
    (hs : s.val = 1024 * (t.val / 43 % 2) + r.val)
    (ho : t.val % 43 ≠ 0 → o (ix3 0 r k) = ∑ n ∈ Finset.range (256 * (t.val % 43)), term m c (Fin.ofNat 4 (t.val / 43 / 2)) s k n) :
    stepv (hxT m c (t.val / 43)) (iblk m c 5 t) (iblk m c 6 t) (iblk m c 7 t) (iblk m c 8 t) (iblk m c 9 t) (iblk m c 10 t)
        (iblk m c 11 t) (if k0_cond1 (grid0.coords t) = 1#1 then fun _ => (0 : EReal) else o) (ix3 0 r k)
      = ∑ n ∈ Finset.range (256 * (t.val % 43 + 1)), term m c (Fin.ofNat 4 (t.val / 43 / 2)) s k n := by
  refine (step_at m c t _ r k s hs).trans ?_
  rw [← blocks_add]
  refine congrArg (· + _) ?_
  by_cases h : t.val % 43 = 0
  · rw [if_pos ((cond1_iff t).mpr h), h]
    rfl
  · rw [if_neg (fun e => h ((cond1_iff t).mp e))]
    exact ho h

/-- Before a tile's last step the accumulator is the sum of the blocks so far. -/
theorem acc_at (c : Dev nD) : ∀ (f : ℕ) (t : Fin cfg0.N), t.val % 43 = f → f < 42 → ∀ (r : Fin 1024) (k : Fin 4096) (s : Fin 2048),
    s.val = 1024 * (t.val / 43 % 2) + r.val →
    accN m c t.val (ix3 0 r k) = ∑ n ∈ Finset.range (256 * (f + 1)), term m c (Fin.ofNat 4 (t.val / 43 / 2)) s k n := by
  have last : ∀ t : Fin cfg0.N, t.val % 43 < 42 → ∀ o, stepAt m c t o =
      stepv (hxT m c (t.val / 43)) (iblk m c 5 t) (iblk m c 6 t) (iblk m c 7 t) (iblk m c 8 t) (iblk m c 9 t) (iblk m c 10 t)
        (iblk m c 11 t) (if k0_cond1 (grid0.coords t) = 1#1 then fun _ => (0 : EReal) else o) := fun t h o => by
    unfold stepAt nxtO
    exact if_neg (fun e => by have := (cond2_iff t).mp e; omega)
  intro f
  induction f with
  | zero =>
    intro t ht _ r k s hs
    rw [accN_first m c t ht (fun _ => (0 : EReal)), last t (by omega)]
    refine (start_at m c t _ r k s hs fun h => absurd ht h).trans ?_
    rw [ht]
  | succ f ih =>
    intro t ht hf r k s hs
    rw [accN_next m c t (by omega), last t (by omega)]
    have hlt : t.val - 1 < cfg0.N := by have := t.isLt; omega
    refine (start_at m c t _ r k s hs fun _ => ?_).trans (by rw [ht])
    have e := ih ⟨t.val - 1, hlt⟩ (by show (t.val - 1) % 43 = f; omega) (by omega) r k s
      (by show s.val = 1024 * ((t.val - 1) / 43 % 2) + r.val; rw [show (t.val - 1) / 43 = t.val / 43 by omega]; exact hs)
    refine e.trans ?_
    rw [ht, show (t.val - 1) / 43 / 2 = t.val / 43 / 2 by omega]

/-- The terms sum to the down projection. -/
theorem terms_sum (c : Dev nD) (b : Fin 4) (s : Fin 2048) (k : Fin 4096) : ∑ n ∈ Finset.range 11008, term m c b s k n
    = ∑ l, gtr (a0 m c) (a1 m c) (a3 m c) (a4 m c) (a5 m c) b s l * a6 m c (ix3 0 l k) := by
  rw [Finset.sum_range]
  exact Finset.sum_congr rfl fun l _ => dif_pos l.isLt

/-- A tile's last step leaves the reference's rows. -/
theorem acc_last (c : Dev nD) (t : Fin cfg0.N) (ht : t.val % 43 = 42) (r : Fin 1024) (k : Fin 4096) (s : Fin 2048)
    (hs : s.val = 1024 * (t.val / 43 % 2) + r.val) : accN m c t.val (ix3 0 r k)
      = ffn (a0 m c) (a1 m c) (a2 m c) (a3 m c) (a4 m c) (a5 m c) (a6 m c) (Fin.ofNat 4 (t.val / 43 / 2)) s k := by
  have hN : t.val < 344 := Nat.lt_of_lt_of_eq t.isLt N_0
  have hlt : t.val - 1 < cfg0.N := by have := t.isLt; omega
  rw [accN_next m c t (by omega)]
  unfold stepAt nxtO
  rw [if_pos ((cond2_iff t).mpr ht)]
  have e0 : ∀ x : Fin 4096, (iblk m c 0 t : Vec Ideal S1x1024x4096 .f32) (ix3 0 r x) = a0 m c (ix3 (Fin.ofNat 4 (t.val / 43 / 2)) s x) := fun x =>
    (blk0 m c t (ix3 0 r x) (ix3 (Fin.ofNat 4 (t.val / 43 / 2)) s x)
      (by show t.val / 43 / 2 % 4 = 1 * (t.val / 86) + 0; omega) hs (Nat.zero_add _).symm).trans (congrFun (V_main_arg0 m c) _)
  have e4 : ∀ x : Fin 4096, (iblk m c 4 t : Vec Ideal S1x4096 .f32) (ix2 0 x) = a2 m c (ix1 x) := fun x =>
    (blk4 m c t (ix2 0 x) (ix2 0 x) rfl (Nat.zero_add _).symm).trans (V_v9 m c x)
  refine fin_at _ _ _ r k _ _ _ e0 e4 fun x => ?_
  refine (start_at m c t _ r x s hs fun _ => ?_).trans ?_
  · have e := acc_at m c 41 ⟨t.val - 1, hlt⟩ (by show (t.val - 1) % 43 = 41; omega) (by omega) r x s
      (by show s.val = 1024 * ((t.val - 1) / 43 % 2) + r.val; rw [show (t.val - 1) / 43 = t.val / 43 by omega]; exact hs)
    refine e.trans ?_
    rw [ht, show (t.val - 1) / 43 / 2 = t.val / 43 / 2 by omega]
  · rw [ht]
    exact terms_sum m c _ s x

/-- The result of the reference for the kernel's arguments. -/
abbrev G (c : Dev nD) : Vec Ideal S4x2048x4096 .f32 :=
  Cert.ReferenceFfnSampleIdeal.Read.val_main_v61 (F := Ideal) (a0 m c) (a1 m c) (a2 m c) (a3 m c) (a4 m c) (a5 m c) (a6 m c)

/-- What a tile's last point writes back is the tile of the reference's result. -/
theorem flushed_eq (c : Dev nD) (t : Fin cfg0.N) (ht : t.val % 43 = 42) :
    (dats m 0 c).flushed 12 t = (win0_12.blk t).view.read (Elt Ideal) (G m c) := by
  have hN : t.val < 344 := Nat.lt_of_lt_of_eq t.isLt N_0
  funext y
  rw [View.read_apply]
  show accN m c t.val y = G m c _
  have e := (idx_facts t).2.2.2.2.2.2.2.2.2.2.2.2
  have y0 : (y 0).val < 1 := (y 0).isLt
  have y1 : (y 1).val < 1024 := (y 1).isLt
  have hy : y = ix3 0 (⟨(y 1).val, y1⟩ : Fin 1024) (⟨(y 2).val, (y 2).isLt⟩ : Fin 4096) := funext fun a => Fin.ext (match a with
    | ⟨0, _⟩ => by show (y 0).val = 0; omega
    | ⟨1, _⟩ => rfl
    | ⟨2, _⟩ => rfl)
  have hi : (win0_12.blk t).view.emb y = ix3 (Fin.ofNat 4 (t.val / 43 / 2)) (⟨1024 * (t.val / 43 % 2) + (y 1).val, by omega⟩ : Fin 2048)
      (⟨(y 2).val, (y 2).isLt⟩ : Fin 4096) := funext fun a => Fin.ext (match a with
    | ⟨0, _⟩ => by show win0_12.index t 0 * 1 + 1 * (y 0).val = t.val / 43 / 2 % 4; rw [e.1]; omega
    | ⟨1, _⟩ => by show win0_12.index t 1 * 1024 + 1 * (y 1).val = 1024 * (t.val / 43 % 2) + (y 1).val; rw [e.2.1]; omega
    | ⟨2, _⟩ => by show win0_12.index t 2 * 4096 + 1 * (y 2).val = (y 2).val; rw [e.2.2]; omega)
  refine (congrArg (accN m c t.val) hy).trans (Eq.trans ?_ (congrArg (G m c) hi).symm)
  exact (acc_last m c t ht _ _ _ rfl).trans (v61_at _ _ _ _ _ _ _ _ _ _).symm

/-- An index of the result array is in a point's block exactly when the point's tile is the index's. -/
theorem mem_blk (t : Fin cfg0.N) (i : S4x2048x4096.Idx) (h0 : (i 0).val = t.val / 86)
    (h1 : 1024 * (t.val / 43 % 2) ≤ (i 1).val) (h1' : (i 1).val < 1024 * (t.val / 43 % 2) + 1024) :
    i ∈ ((cfg0.win 12).blk t).view.set := by
  show i ∈ ((View.whole main_v10).slice (win0_12.rect t)).set
  rw [View.set_slice_whole, Rect.mem_set_unit]
  have e := (idx_facts t).2.2.2.2.2.2.2.2.2.2.2.2
  have h2 : (i 2).val < 4096 := (i 2).isLt
  intro a
  match a with
  | ⟨0, _⟩ => show win0_12.index t 0 * 1 ≤ (i 0).val ∧ (i 0).val < win0_12.index t 0 * 1 + 1; rw [e.1]; omega
  | ⟨1, _⟩ => show win0_12.index t 1 * 1024 ≤ (i 1).val ∧ (i 1).val < win0_12.index t 1 * 1024 + 1024; rw [e.2.1]; omega
  | ⟨2, _⟩ => show win0_12.index t 2 * 4096 ≤ (i 2).val ∧ (i 2).val < win0_12.index t 2 * 4096 + 4096; rw [e.2.2]; omega

/-- Every index of the result array is in some tile's last block. -/
theorem cover (i : S4x2048x4096.Idx) : ∃ t : Fin cfg0.N, (cfg0.win 12).flush t = true ∧ i ∈ ((cfg0.win 12).blk t).view.set := by
  have h0 : (i 0).val < 4 := (i 0).isLt
  have h1 : (i 1).val < 2048 := (i 1).isLt
  have hN : 86 * (i 0).val + 43 * ((i 1).val / 1024) + 42 < cfg0.N := by show _ < grid0.N; rw [N_0]; omega
  refine ⟨⟨86 * (i 0).val + 43 * ((i 1).val / 1024) + 42, hN⟩, (flush0_12 _).mpr ?_, mem_blk _ i ?_ ?_ ?_⟩ <;> dsimp only <;> omega

/-- The result array after the last point is the reference's result. -/
theorem final (c : Dev nD) : (dats m 0 c).arrAt 12 cfg0.N = G m c :=
  (dats m 0 c).arrAt_eq_of_cover 12 (G m c) (fun t h => flushed_eq m c t ((flush0_12 t).mp h)) cover

/-- The run: the result array at the reference's result of the arguments, the arguments unchanged. -/
theorem run : θ_run defs (onTc (τ := τ) (main (F := Ideal))) ⟨m, fun _ => 0, ρ⟩ fun r => ∀ c : Dev nD,
      r.2.mem ((c.tc : Thread nD τ).loc main_v10) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h.2 c).1 12).trans (final m c), h.1 c⟩)
    (θ_run_and (frame_of m ρ (dats m) (A_eq m) (run_main m ρ)) (run_main m ρ))

end Cert.KernelFfnSampleIdeal.Hand
end
-- ==== Proof.FfnSample.Bits.lean ====
/-
  The feed-forward call (at the sample's sizes) as printed, at any values: every grid point's body runs without a fault from any contents of its
  output block and its scratch, so the launch terminates with the arguments unchanged and every counter at zero.
-/
module

public import proofs.«01_k».proof.Proof.Gen.KernelFfnSample.Launch
public import proofs.«01_k».proof.Proof.Gen.KernelFfnSample.Skeleton
public import proofs.«01_k».proof.Proof.Gen.KernelFfnSample.Loops
public import proofs.«01_k».proof.Proof.Gen.KernelFfnSample.Points
public import proofs.«01_k».proof.Proof.Gen.KernelFfnSample.Frame
public import Idealize.ShloMosaic.Lib.Claim

@[expose] public section

set_option maxRecDepth 16384

noncomputable section

namespace Cert.KernelFfnSample.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelFfnSample.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A tile's first step is the points at a multiple of 43. -/
theorem cond1_iff (t : Fin cfg0.N) : k0_cond1 (grid0.coords t) = 1#1 ↔ t.val % 43 = 0 := by
  have ht : t.val < 344 := Nat.lt_of_lt_of_eq t.isLt N_0
  have e2 : (grid0.coords t 2).val = t.val / 1 % 43 := Pipeline.Grid.coords_val t 2 (by decide) rfl
  simp only [k0_cond1, e2]
  word_cmp

/-- A tile's last step is the points one before a multiple of 43. -/
theorem cond2_iff (t : Fin cfg0.N) : k0_cond2 (grid0.coords t) = 1#1 ↔ t.val % 43 = 42 := by
  have ht : t.val < 344 := Nat.lt_of_lt_of_eq t.isLt N_0
  have e2 : (grid0.coords t 2).val = t.val / 1 % 43 := Pipeline.Grid.coords_val t 2 (by decide) rfl
  simp only [k0_cond2, e2]
  word_cmp

set_option maxHeartbeats 4000000 in
/-- The body runs from any contents of its output block and its scratch, at a tile's first step, its last, or between. -/
theorem run_any (c : Dev nD) (i : grid0.Coords) (arg3 : Memref sig .tc .vmem S1x1024x4096 .f32) (harg3 : arg3.IsWhole) (arg4 : Memref sig .tc .vmem S1x16x4096 .f32) (harg4 : arg4.IsWhole) (arg5 : Memref sig .tc .vmem S1x16x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S4096x256 .bf16) (harg8 : arg8.IsWhole) (arg9 : Memref sig .tc .vmem S4096x256 .bf16) (harg9 : arg9.IsWhole) (arg10 : Memref sig .tc .vmem S3x256 .f32) (harg10 : arg10.IsWhole) (arg11 : Memref sig .tc .vmem S3x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S256x4096 .bf16) (harg14 : arg14.IsWhole) (arg15 : Memref sig .tc .vmem S1x1024x4096 .f32) (harg15 : arg15.IsWhole) (arg16 : Memref sig .tc .vmem S1056x4096 .bf16) (harg16 : arg16.IsWhole)
    (x0 : Vec F S1x1024x4096 .f32) (x1 : Vec F S1x16x4096 .f32) (x2 : Vec F S1x16x4096 .f32) (x3 : Vec F S1x4096 .f32) (x4 : Vec F S1x4096 .f32) (x5 : Vec F S4096x256 .bf16) (x6 : Vec F S4096x256 .bf16) (x7 : Vec F S3x256 .f32) (x8 : Vec F S3x256 .f32) (x9 : Vec F S1x256 .f32) (x10 : Vec F S1x256 .f32) (x11 : Vec F S256x4096 .bf16)
    (h : (k0_cond1 i = 1#1 ∧ ¬k0_cond2 i = 1#1) ∨ (¬k0_cond1 i = 1#1 ∧ k0_cond2 i = 1#1) ∨ (¬k0_cond1 i = 1#1 ∧ ¬k0_cond2 i = 1#1)) :
    ∀ (E : Set ℕ) (K : PUnit → sProp 𝕄),
      iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare x7 ∗ owns c arg11 fullShare x8 ∗ owns c arg12 fullShare x9 ∗ owns c arg13 fullShare x10 ∗ owns c arg14 fullShare x11 ∗ (∃ d, owns c arg15 fullShare d) ∗ (∃ d, owns c arg16 fullShare d)
          ∗ (iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare x7 ∗ owns c arg11 fullShare x8 ∗ owns c arg12 fullShare x9 ∗ owns c arg13 fullShare x10 ∗ owns c arg14 fullShare x11 ∗ (∃ d, owns c arg15 fullShare d) ∗ (∃ d, owns c arg16 fullShare d)) -∗ K ⟨⟩))
        ⊢ wp frame (wpE (defs₀ (F := F)) Variants.none c none) E (cc0_conv_ffn i arg3 harg3 arg4 harg4 arg5 harg5 arg6 harg6 arg7 harg7 arg8 harg8 arg9 harg9 arg10 harg10 arg11 harg11 arg12 harg12 arg13 harg13 arg14 harg14 arg15 harg15 arg16 harg16) K := by
  intro E K
  simp only [cc0_conv_ffn_eq_skeleton]; unfold cc0_conv_ffn_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, ⟨%f12, %hf12, H12⟩⟩, ⟨%d13, ⟨%f13, %hf13, H13⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
  rcases h with ⟨hc0, hc1⟩ | ⟨hc0, hc1⟩ | ⟨hc0, hc1⟩ <;>
  · sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _, _; isplitr; swap; · iexact H12
      ipureintro; rfl
    iexists _, _; isplitr; swap; · iexact H13
    ipureintro; rfl

/-- Nothing is said of what the output holds. -/
def forgets : Fin 13 → Bool := fun w => w.val == 12

/-- The pipeline's data: the inputs' buffers at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
  Φ _ := Pipeline.ΦA spec0 c
  q w := Pipeline.shareOf spec0 w
  owed _ := 0

/-- The arrays as the region finds them. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d
theorem before10 (c : Dev nD) (t : Fin cfg0.N) (d) : (dats m 0 c).before 10 t d = iblk m c 10 t := before0_10_of m (dats m 0 c) (A_eq m c 10) (after10 m c) t d
theorem before11 (c : Dev nD) (t : Fin cfg0.N) (d) : (dats m 0 c).before 11 t d = iblk m c 11 t := before0_11_of m (dats m 0 c) (A_eq m c 11) (after11 m c) t d

/-- The scratch operand. -/
abbrev scM : Memref sig .tc .vmem S1056x4096 .bf16 := Memref.whole cc0_scratch0

/-- The invariant: the scratch at some contents, and the generator's register. -/
theorem PhiA_eq (c : Dev nD) : (Pipeline.ΦA spec0 c : sProp 𝕄)
      = iprop(iprop((∃ d, owns c scM fullShare d)) ∗ (∃ r, prngReg c r)) := by
  unfold Pipeline.ΦA; rw [scopedRest0_eq]; simp only [scM, owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns c (win0_0.stage (cfg0.slots t 0)) fullShare ((dats m 0 c).before 0 t d))
    ∗ (∃ d, owns c (win0_1.stage (cfg0.slots t 1)) fullShare ((dats m 0 c).before 1 t d))
    ∗ (∃ d, owns c (win0_2.stage (cfg0.slots t 2)) fullShare ((dats m 0 c).before 2 t d))
    ∗ (∃ d, owns c (win0_3.stage (cfg0.slots t 3)) fullShare ((dats m 0 c).before 3 t d))
    ∗ (∃ d, owns c (win0_4.stage (cfg0.slots t 4)) fullShare ((dats m 0 c).before 4 t d))
    ∗ (∃ d, owns c (win0_5.stage (cfg0.slots t 5)) fullShare ((dats m 0 c).before 5 t d))
    ∗ (∃ d, owns c (win0_6.stage (cfg0.slots t 6)) fullShare ((dats m 0 c).before 6 t d))
    ∗ (∃ d, owns c (win0_7.stage (cfg0.slots t 7)) fullShare ((dats m 0 c).before 7 t d))
    ∗ (∃ d, owns c (win0_8.stage (cfg0.slots t 8)) fullShare ((dats m 0 c).before 8 t d))
    ∗ (∃ d, owns c (win0_9.stage (cfg0.slots t 9)) fullShare ((dats m 0 c).before 9 t d))
    ∗ (∃ d, owns c (win0_10.stage (cfg0.slots t 10)) fullShare ((dats m 0 c).before 10 t d))
    ∗ (∃ d, owns c (win0_11.stage (cfg0.slots t 11)) fullShare ((dats m 0 c).before 11 t d))
    ∗ (∃ d, owns c (win0_12.stage (cfg0.slots t 12)) fullShare d))

/-- and what it returns. -/
def bodyPost (c : Dev nD) (t : Fin cfg0.N) : sProp 𝕄 :=
  iprop((dats m 0 c).Φ t.succ ∗ (dats m 0 c).owesAt () t.succ
    ∗ owns c (win0_0.stage (cfg0.slots t 0)) fullShare ((dats m 0 c).after 0 t)
    ∗ owns c (win0_1.stage (cfg0.slots t 1)) fullShare ((dats m 0 c).after 1 t)
    ∗ owns c (win0_2.stage (cfg0.slots t 2)) fullShare ((dats m 0 c).after 2 t)
    ∗ owns c (win0_3.stage (cfg0.slots t 3)) fullShare ((dats m 0 c).after 3 t)
    ∗ owns c (win0_4.stage (cfg0.slots t 4)) fullShare ((dats m 0 c).after 4 t)
    ∗ owns c (win0_5.stage (cfg0.slots t 5)) fullShare ((dats m 0 c).after 5 t)
    ∗ owns c (win0_6.stage (cfg0.slots t 6)) fullShare ((dats m 0 c).after 6 t)
    ∗ owns c (win0_7.stage (cfg0.slots t 7)) fullShare ((dats m 0 c).after 7 t)
    ∗ owns c (win0_8.stage (cfg0.slots t 8)) fullShare ((dats m 0 c).after 8 t)
    ∗ owns c (win0_9.stage (cfg0.slots t 9)) fullShare ((dats m 0 c).after 9 t)
    ∗ owns c (win0_10.stage (cfg0.slots t 10)) fullShare ((dats m 0 c).after 10 t)
    ∗ owns c (win0_11.stage (cfg0.slots t 11)) fullShare ((dats m 0 c).after 11 t)
    ∗ (∃ d, owns c (win0_12.stage (cfg0.slots t 12)) fullShare d))

set_option maxHeartbeats 3600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  rw [show (dats m 0 c).Φ t.castSucc = Pipeline.ΦA spec0 c from rfl, PhiA_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_any c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) scM (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (by rw [cond1_iff, cond2_iff]; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS]; · iexact HS
  iintro ⟨H0, H1, H2, H3, H4, H5, H6, H7, H8, H9, H10, H11, H12, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body at a point is the kernel on that point's memrefs. -/
theorem defs₀_row (t : Fin cfg0.N) : defs₀ (F := F) .tc cfg0.body (cfg0.bodyArgs t (cfg0.slots t)) = bodyAt0 t := by
  unfold defs₀; rw [Defs.onTc_tc]

/-- The library's obligation of the body. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every input array unchanged and every counter at zero. -/
theorem run_main : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

/-- The launch terminates without a fault, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(Pipeline.RDat.FramePost.arr_in h.1 c 2 rfl).trans ((A_eq m c 2).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩)
    (run_main m ρ)

end Cert.KernelFfnSample.Hand
end
-- ==== Proof.FfnSample.Claims.lean ====
/-
  The five claims about the feed-forward call at the sample's sizes and its plain reference.
-/
module

public import proofs.«01_k».proof.Defs
public import proofs.«01_k».proof.Proof.FfnSample.Value
public import proofs.«01_k».proof.Proof.FfnSample.Bits
public import proofs.«01_k».proof.Proof.Gen.ReferenceFfnSampleIdeal.Run
public import Idealize.ShloMosaic.Lib.Quiescent

@[expose] public section

noncomputable section

namespace Cert.FfnSample

open Idealize.ShloMosaic Idealize.ShloMosaic.TcCoe Idealize.SL.Sem

/-- The reference's run, its result named stage by stage, for arguments that agree with the kernel's. -/
theorem run_ref (m : (ℓ : Loc ReferenceFfnSampleIdeal.nD ReferenceFfnSampleIdeal.τ ReferenceFfnSampleIdeal.sig) → Buf (Elt Ideal) ℓ)
    (ρ : Dev ReferenceFfnSampleIdeal.nD → PrngReg) :
    θ_run (ReferenceFfnSampleIdeal.defs (F := Ideal)) (onTc (τ := ReferenceFfnSampleIdeal.τ) (ReferenceFfnSampleIdeal.main (F := Ideal))) ⟨m, fun _ => 0, ρ⟩
      fun r => ∀ c : Dev ReferenceFfnSampleIdeal.nD,
        r.2.mem ((c.tc : Thread ReferenceFfnSampleIdeal.nD ReferenceFfnSampleIdeal.τ).loc ReferenceFfnSampleIdeal.main_v61)
          = ReferenceFfnSampleIdeal.Read.val_main_v61 (F := Ideal)
              (m ((c.tc : Thread ReferenceFfnSampleIdeal.nD ReferenceFfnSampleIdeal.τ).loc ReferenceFfnSampleIdeal.main_arg0))
              (m ((c.tc : Thread ReferenceFfnSampleIdeal.nD ReferenceFfnSampleIdeal.τ).loc ReferenceFfnSampleIdeal.main_arg1))
              (m ((c.tc : Thread ReferenceFfnSampleIdeal.nD ReferenceFfnSampleIdeal.τ).loc ReferenceFfnSampleIdeal.main_arg2))
              (m ((c.tc : Thread ReferenceFfnSampleIdeal.nD ReferenceFfnSampleIdeal.τ).loc ReferenceFfnSampleIdeal.main_arg3))
              (m ((c.tc : Thread ReferenceFfnSampleIdeal.nD ReferenceFfnSampleIdeal.τ).loc ReferenceFfnSampleIdeal.main_arg4))
              (m ((c.tc : Thread ReferenceFfnSampleIdeal.nD ReferenceFfnSampleIdeal.τ).loc ReferenceFfnSampleIdeal.main_arg5))
              (m ((c.tc : Thread ReferenceFfnSampleIdeal.nD ReferenceFfnSampleIdeal.τ).loc ReferenceFfnSampleIdeal.main_arg6))
        ∧ r.2.mem ((c.tc : Thread ReferenceFfnSampleIdeal.nD ReferenceFfnSampleIdeal.τ).loc ReferenceFfnSampleIdeal.main_arg0)
            = m ((c.tc : Thread ReferenceFfnSampleIdeal.nD ReferenceFfnSampleIdeal.τ).loc ReferenceFfnSampleIdeal.main_arg0)
        ∧ r.2.mem ((c.tc : Thread ReferenceFfnSampleIdeal.nD ReferenceFfnSampleIdeal.τ).loc ReferenceFfnSampleIdeal.main_arg1)
            = m ((c.tc : Thread ReferenceFfnSampleIdeal.nD ReferenceFfnSampleIdeal.τ).loc ReferenceFfnSampleIdeal.main_arg1)
        ∧ r.2.mem ((c.tc : Thread ReferenceFfnSampleIdeal.nD ReferenceFfnSampleIdeal.τ).loc ReferenceFfnSampleIdeal.main_arg2)
            = m ((c.tc : Thread ReferenceFfnSampleIdeal.nD ReferenceFfnSampleIdeal.τ).loc ReferenceFfnSampleIdeal.main_arg2)
        ∧ r.2.mem ((c.tc : Thread ReferenceFfnSampleIdeal.nD ReferenceFfnSampleIdeal.τ).loc ReferenceFfnSampleIdeal.main_arg3)
            = m ((c.tc : Thread ReferenceFfnSampleIdeal.nD ReferenceFfnSampleIdeal.τ).loc ReferenceFfnSampleIdeal.main_arg3)
        ∧ r.2.mem ((c.tc : Thread ReferenceFfnSampleIdeal.nD ReferenceFfnSampleIdeal.τ).loc ReferenceFfnSampleIdeal.main_arg4)
            = m ((c.tc : Thread ReferenceFfnSampleIdeal.nD ReferenceFfnSampleIdeal.τ).loc ReferenceFfnSampleIdeal.main_arg4)
        ∧ r.2.mem ((c.tc : Thread ReferenceFfnSampleIdeal.nD ReferenceFfnSampleIdeal.τ).loc ReferenceFfnSampleIdeal.main_arg5)
            = m ((c.tc : Thread ReferenceFfnSampleIdeal.nD ReferenceFfnSampleIdeal.τ).loc ReferenceFfnSampleIdeal.main_arg5)
        ∧ r.2.mem ((c.tc : Thread ReferenceFfnSampleIdeal.nD ReferenceFfnSampleIdeal.τ).loc ReferenceFfnSampleIdeal.main_arg6)
            = m ((c.tc : Thread ReferenceFfnSampleIdeal.nD ReferenceFfnSampleIdeal.τ).loc ReferenceFfnSampleIdeal.main_arg6) :=
  (θ_run _ _ _).mono (fun _ h c => ⟨(h c).1.trans (ReferenceFfnSampleIdeal.Read.val_main_v61_eq ..), (h c).2⟩)
    (ReferenceFfnSampleIdeal.Value.run (F := Ideal) m ρ)

/-- The kernel as printed terminates without a fault, its arguments unchanged and every counter at zero. -/
theorem frame_kernel : quiescent_KernelFfnSample := fun m ρ _ => KernelFfnSample.Hand.frame m ρ
/-- The idealized kernel likewise. -/
theorem frame_kernelIdeal : quiescent_KernelFfnSampleIdeal := fun m ρ _ =>
  θ_run_and (KernelFfnSampleIdeal.Gen.frame_of m ρ (KernelFfnSampleIdeal.Hand.dats m) (KernelFfnSampleIdeal.Hand.A_eq m)
      (KernelFfnSampleIdeal.Hand.run_main m ρ))
    ((θ_run _ _ _).mono (fun _ h => h.2) (KernelFfnSampleIdeal.Hand.run_main_quiescent m ρ))
/-- The reference likewise. -/
theorem frame_ref : quiescent_ReferenceFfnSampleIdeal := fun m ρ _ =>
  (θ_run _ _ _).mono (fun r h => ⟨fun c => (h c).2, sem_eq_zero_of_no_sems (by decide) r.2⟩) (run_ref m ρ)

/-- The idealized kernel's result array equals the reference's. -/
theorem algebraic : algebraic_KernelFfnSampleIdeal_ReferenceFfnSampleIdeal := by
  intro m ρ m' ρ' _ hag
  refine ⟨fun c => KernelFfnSampleIdeal.Hand.G m c, KernelFfnSampleIdeal.Hand.run m ρ, ?_⟩
  refine (θ_run _ _ _).mono (fun _ h c => ⟨(h c).1.trans ?_, (h c).2⟩) (run_ref m' ρ')
  obtain ⟨h0, h1, h2, h3, h4, h5, h6⟩ := hag c
  rw [h0, h1, h2, h3, h4, h5, h6]

end Cert.FfnSample
end
-- ==== Proof.Mm.Base.lean ====
/-
  What the products' modules share: an index of a two-axis shape from its coordinates.
-/
module

public import Idealize.ShloMosaic.Lib.Pointwise

@[expose] public section

noncomputable section

namespace Mm

open Idealize.ShloMosaic

/-- An index of a two-axis shape is the one of its coordinates. -/
theorem eq_ix2_of {a b : Nat} (i : (⟨2, ![a, b]⟩ : Shape).Idx) (x : Fin a) (y : Fin b) (h0 : (i 0).val = x.val) (h1 : (i 1).val = y.val) :
    i = ix2 x y :=
  (ValueIdx.eq_ix2 i).trans (by rw [show i 0 = x from Fin.ext h0, show i 1 = y from Fin.ext h1]; rfl)

end Mm
end
-- ==== Proof.Mm.Za.lean ====
/-
  The gating columns of the combined input projection: the call's result array after its run is the plain reference's result of
  the argument arrays; the five claims.
-/
module

public import proofs.«01_k».proof.Defs
public import proofs.«01_k».proof.Proof.Gen.KernelZa.Frame
public import proofs.«01_k».proof.Proof.Gen.KernelZaIdeal.Value
public import proofs.«01_k».proof.Proof.Gen.ReferenceZaIdeal.Read
public import proofs.«01_k».proof.Proof.Gen.ReferenceZaIdeal.Run
public import Idealize.ShloMosaic.Lib.Pipeline.ValueKit
public import Idealize.ShloMosaic.Lib.Pointwise
public import Idealize.ShloMosaic.Lib.StableHlo.RunRead
public import Idealize.ShloMosaic.Lib.Quiescent
public import proofs.«01_k».proof.Proof.Mm.Base

@[expose] public section

set_option maxRecDepth 16384

noncomputable section

namespace Cert.KernelZaIdeal.Hand

open Cert.KernelZaIdeal Cert.KernelZaIdeal.Gen Idealize.ShloMosaic Idealize.ShloMosaic.TcCoe Idealize.SL.Sem
open Idealize.ShloMosaic.StableHlo (after)

variable (m : (ℓ : Loc nD τ sig) → Buf (Elt Ideal) ℓ) (ρ : Dev nD → PrngReg) (c : Dev nD)

/-- An argument array: rows. -/
abbrev a0 : Vec Ideal S16384x4096 .bf16 := m ((c : Thread nD τ).loc main_arg0)
/-- An argument array: weights. -/
abbrev a1 : Vec Ideal S1x4096x11008 .f32 := m ((c : Thread nD τ).loc main_arg1)

/-- The reference's result of device `c`'s argument arrays. -/
abbrev G : Buf (Elt Ideal) ((c : Thread nD τ).loc main_v2) :=
  ReferenceZaIdeal.Read.val_main_v3 (F := Ideal) (a0 m c) (a1 m c)

/-- The reference's result at an element. -/
theorem ref_apply (x0 : FVec Ideal S16384x4096 .bf16) (w : FVec Ideal S1x4096x11008 .f32) (i : Fin 16384) (j : Fin 4096) :
    ReferenceZaIdeal.Read.val_main_v3 (F := Ideal) x0 w (ix2 i j)
      = ∑ k : Fin 4096, x0 (ix2 i k) * w (ix3 0 k ⟨0 + j.val, by omega⟩) := by
  pointwise [ReferenceZaIdeal.Read.val_main_v3, ReferenceZaIdeal.Read.val_main_v2, ReferenceZaIdeal.Read.val_main_v1, ReferenceZaIdeal.Read.val_main_v0]

/-- What a point stores, at an element of its block. -/
theorem pay_apply (v0 : Vec Ideal S1024x4096 .bf16) (v1 : Vec Ideal S4096x1024 .bf16) (r : Fin 1024) (l : Fin 1024) :
    k0_pay1 (F := Ideal) v0 v1 (ix2 r l) = ∑ k, v0 (ix2 r k) * v1 (ix2 k l) := by
  pointwise [k0_pay1]

/-- The staged weights. -/
theorem V_w (k : Fin 4096) (j : Fin 11008) : (V m c main_v1 : Vec Ideal S4096x11008 .bf16) (ix2 k j) = a1 m c (ix3 0 k j) := by
  show after hostOps0 (fun b => m (c, b)) (Proc.devRef .tc main_v1) (ix2 k j) = _
  after_reads_simp
  pointwise []

/-- The block indices of the windows at a point, in closed form. -/
theorem idx_facts : ∀ t : Fin cfg0.N,
    win0_0.index t 0 = t.val / 4 ∧ win0_0.index t 1 = 0
    ∧ win0_1.index t 0 = 0 ∧ win0_1.index t 1 = 0 + t.val % 4
    ∧ win0_2.index t 0 = t.val / 4 ∧ win0_2.index t 1 = t.val % 4 :=
  (by decide +kernel : ∀ t : Fin grid0.N,
    win0_0.index t 0 = t.val / 4 ∧ win0_0.index t 1 = 0
    ∧ win0_1.index t 0 = 0 ∧ win0_1.index t 1 = 0 + t.val % 4
    ∧ win0_2.index t 0 = t.val / 4 ∧ win0_2.index t 1 = t.val % 4)

/-- A point's block of the rows, read at an element. -/
theorem blk_a0 (t : Fin cfg0.N) (r : Fin 1024) (k : Fin 4096) (i : Fin 16384) (hi : i.val = 1024 * (t.val / 4) + r.val) :
    iblk m c 0 t (ix2 r k) = a0 m c (ix2 i k) := by
  unfold iblk
  rw [View.read_apply]
  show V m c main_arg0 _ = _
  rw [V_main_arg0]
  have e := idx_facts t
  refine congrArg (a0 m c) (Mm.eq_ix2_of _ _ _ ?_ ?_)
  · show win0_0.index t 0 * 1024 + 1 * r.val = i.val; rw [e.1, hi]; omega
  · show win0_0.index t 1 * 4096 + 1 * k.val = k.val; rw [e.2.1]; omega

/-- A point's block of the weights, read at an element. -/
theorem blk_w0 (t : Fin cfg0.N) (k : Fin 4096) (l : Fin 1024) (j : Fin 11008) (hj : j.val = 0 + 1024 * (t.val % 4) + l.val) :
    X0_1 m c t (ix2 k l) = a1 m c (ix3 0 k j) := by
  have ht : t.val < 64 := N_0 ▸ t.isLt
  unfold X0_1 Pipeline.Window.fill
  rw [dif_pos (moved0_1 t _)]
  unfold iblk
  rw [View.read_apply]
  show (V m c main_v1 : Vec Ideal S4096x11008 .bf16) _ = _
  have e := idx_facts t
  refine Eq.trans ?_ ((V_w m c k ⟨0 + 1024 * (t.val % 4) + l.val, by omega⟩).trans (congrArg (fun j => a1 m c (ix3 0 k j)) (Fin.ext (by exact hj.symm))))
  refine congrArg (V m c main_v1 : Vec Ideal S4096x11008 .bf16) (Mm.eq_ix2_of _ _ _ ?_ ?_)
  · show win0_1.index t 0 * 4096 + 1 * k.val = k.val; rw [e.2.2.1]; omega
  · show win0_1.index t 1 * 1024 + 1 * l.val = 0 + 1024 * (t.val % 4) + l.val; rw [e.2.2.2.1]; omega

/-- What a point writes back is its block of the reference's result. -/
theorem flushed_eq (t : Fin cfg0.N) : (dats m 0 c).flushed 2 t = (win0_2.blk t).view.read (Elt Ideal) (G m c) := by
  have ht : t.val < 64 := N_0 ▸ t.isLt
  have e := idx_facts t
  rw [Value.flushed2_A]
  unfold out0_A_2
  frame_out
  funext y
  rw [View.read_apply]
  have y0 : (y 0).val < 1024 := (y 0).isLt
  have y1 : (y 1).val < 1024 := (y 1).isLt
  have hp : (win0_2.blk t).view.emb y = (ix2 ⟨1024 * (t.val / 4) + (y 0).val, by omega⟩ ⟨1024 * (t.val % 4) + (y 1).val, by omega⟩ : S16384x4096.Idx) := by
    refine Mm.eq_ix2_of _ _ _ ?_ ?_
    · show win0_2.index t 0 * 1024 + 1 * (y 0).val = 1024 * (t.val / 4) + (y 0).val; rw [e.2.2.2.2.1]; omega
    · show win0_2.index t 1 * 1024 + 1 * (y 1).val = 1024 * (t.val % 4) + (y 1).val; rw [e.2.2.2.2.2]; omega
  rw [hp]
  refine ((congrArg (k0_pay1 (F := Ideal) (iblk m c 0 t) (X0_1 m c t)) (ValueIdx.eq_ix2 y)).trans (pay_apply (iblk m c 0 t) (X0_1 m c t) (y 0) (y 1))).trans ?_
  refine Eq.trans ?_ (ref_apply (a0 m c) (a1 m c) ⟨1024 * (t.val / 4) + (y 0).val, by omega⟩ ⟨1024 * (t.val % 4) + (y 1).val, by omega⟩).symm
  exact Finset.sum_congr rfl fun k _ => congrArg₂ (· * ·) (blk_a0 m c t _ k _ rfl) (blk_w0 m c t k _ _ (by dsimp only; omega))

/-- Every index of the result array is in some point's block. -/
theorem cover (i : S16384x4096.Idx) : ∃ t : Fin cfg0.N, (cfg0.win 2).flush t = true ∧ i ∈ ((cfg0.win 2).blk t).view.set := by
  have h0 : (i 0).val < 16384 := (i 0).isLt
  have h1 : (i 1).val < 4096 := (i 1).isLt
  have hN : 4 * ((i 0).val / 1024) + (i 1).val / 1024 < cfg0.N := by show _ < grid0.N; rw [N_0]; omega
  refine ⟨⟨4 * ((i 0).val / 1024) + (i 1).val / 1024, hN⟩, flush0_2 _, ?_⟩
  show i ∈ ((View.whole main_v2).slice (win0_2.rect ⟨4 * ((i 0).val / 1024) + (i 1).val / 1024, hN⟩)).set
  rw [View.set_slice_whole, Rect.mem_set_unit]
  have e := idx_facts ⟨4 * ((i 0).val / 1024) + (i 1).val / 1024, hN⟩
  dsimp only at e
  intro b
  match b with
  | ⟨0, _⟩ => show win0_2.index _ 0 * 1024 ≤ (i 0).val ∧ (i 0).val < win0_2.index _ 0 * 1024 + 1024; rw [e.2.2.2.2.1]; omega
  | ⟨1, _⟩ => show win0_2.index _ 1 * 1024 ≤ (i 1).val ∧ (i 1).val < win0_2.index _ 1 * 1024 + 1024; rw [e.2.2.2.2.2]; omega

/-- The result array after the last point is the reference's result. -/
theorem final : (dats m 0 c).arrAt 2 cfg0.N = G m c :=
  (dats m 0 c).arrAt_eq_of_cover 2 (G m c) (fun t _ => flushed_eq m c t) cover

/-- The kernel as printed terminates without a fault, its arguments unchanged and every counter at zero. -/
theorem frame_kernel : quiescent_KernelZa := fun m ρ _ => KernelZa.Gen.frame m ρ
/-- The idealized kernel likewise. -/
theorem frame_kernelIdeal : quiescent_KernelZaIdeal := fun m ρ _ => KernelZaIdeal.Gen.frame m ρ
/-- The reference likewise. -/
theorem frame_ref : quiescent_ReferenceZaIdeal := fun m ρ _ =>
  (θ_run _ _ _).mono (fun r h => ⟨fun c => (h c).2, sem_eq_zero_of_no_sems (by decide) r.2⟩) (ReferenceZaIdeal.Value.run (F := Ideal) m ρ)

/-- The idealized kernel's result array equals the reference's. -/
theorem algebraic : algebraic_KernelZaIdeal_ReferenceZaIdeal := by
  intro m ρ m' ρ' _ hag
  refine ⟨fun c => G m c, (θ_run _ _ _).mono (fun _ h c => ⟨(h c).1.trans (final m c), (h c).2⟩) (Value.run_blocks m ρ), ?_⟩
  refine (θ_run _ _ _).mono (fun _ h c => ⟨((h c).1.trans (ReferenceZaIdeal.Read.val_main_v3_eq ..)).trans ?_, (h c).2⟩)
    (ReferenceZaIdeal.Value.run (F := Ideal) m' ρ')
  rw [(hag c).1, (hag c).2]

end Cert.KernelZaIdeal.Hand
end
-- ==== Proof.Mm.Zb.lean ====
/-
  The receptance, key and value columns of the combined input projection: the call's result array after its run is the plain reference's result of
  the argument arrays; the five claims.
-/
module

public import proofs.«01_k».proof.Defs
public import proofs.«01_k».proof.Proof.Gen.KernelZb.Frame
public import proofs.«01_k».proof.Proof.Gen.KernelZbIdeal.Value
public import proofs.«01_k».proof.Proof.Gen.ReferenceZbIdeal.Read
public import proofs.«01_k».proof.Proof.Gen.ReferenceZbIdeal.Run
public import Idealize.ShloMosaic.Lib.Pipeline.ValueKit
public import Idealize.ShloMosaic.Lib.Pointwise
public import Idealize.ShloMosaic.Lib.StableHlo.RunRead
public import Idealize.ShloMosaic.Lib.Quiescent
public import proofs.«01_k».proof.Proof.Mm.Base

@[expose] public section

set_option maxRecDepth 16384

noncomputable section

namespace Cert.KernelZbIdeal.Hand

open Cert.KernelZbIdeal Cert.KernelZbIdeal.Gen Idealize.ShloMosaic Idealize.ShloMosaic.TcCoe Idealize.SL.Sem
open Idealize.ShloMosaic.StableHlo (after)

variable (m : (ℓ : Loc nD τ sig) → Buf (Elt Ideal) ℓ) (ρ : Dev nD → PrngReg) (c : Dev nD)

/-- An argument array: rows. -/
abbrev a0 : Vec Ideal S16384x4096 .bf16 := m ((c : Thread nD τ).loc main_arg0)
/-- An argument array: weights. -/
abbrev a1 : Vec Ideal S1x4096x11008 .f32 := m ((c : Thread nD τ).loc main_arg1)

/-- The reference's result of device `c`'s argument arrays. -/
abbrev G : Buf (Elt Ideal) ((c : Thread nD τ).loc main_v2) :=
  ReferenceZbIdeal.Read.val_main_v3 (F := Ideal) (a0 m c) (a1 m c)

/-- The reference's result at an element. -/
theorem ref_apply (x0 : FVec Ideal S16384x4096 .bf16) (w : FVec Ideal S1x4096x11008 .f32) (i : Fin 16384) (j : Fin 6144) :
    ReferenceZbIdeal.Read.val_main_v3 (F := Ideal) x0 w (ix2 i j)
      = ∑ k : Fin 4096, x0 (ix2 i k) * w (ix3 0 k ⟨4096 + j.val, by omega⟩) := by
  pointwise [ReferenceZbIdeal.Read.val_main_v3, ReferenceZbIdeal.Read.val_main_v2, ReferenceZbIdeal.Read.val_main_v1, ReferenceZbIdeal.Read.val_main_v0]

/-- What a point stores, at an element of its block. -/
theorem pay_apply (v0 : Vec Ideal S1024x4096 .bf16) (v1 : Vec Ideal S4096x1024 .bf16) (r : Fin 1024) (l : Fin 1024) :
    k0_pay1 (F := Ideal) v0 v1 (ix2 r l) = ∑ k, v0 (ix2 r k) * v1 (ix2 k l) := by
  pointwise [k0_pay1]

/-- The staged weights. -/
theorem V_w (k : Fin 4096) (j : Fin 11008) : (V m c main_v1 : Vec Ideal S4096x11008 .bf16) (ix2 k j) = a1 m c (ix3 0 k j) := by
  show after hostOps0 (fun b => m (c, b)) (Proc.devRef .tc main_v1) (ix2 k j) = _
  after_reads_simp
  pointwise []

/-- The block indices of the windows at a point, in closed form. -/
theorem idx_facts : ∀ t : Fin cfg0.N,
    win0_0.index t 0 = t.val / 6 ∧ win0_0.index t 1 = 0
    ∧ win0_1.index t 0 = 0 ∧ win0_1.index t 1 = 4 + t.val % 6
    ∧ win0_2.index t 0 = t.val / 6 ∧ win0_2.index t 1 = t.val % 6 :=
  (by decide +kernel : ∀ t : Fin grid0.N,
    win0_0.index t 0 = t.val / 6 ∧ win0_0.index t 1 = 0
    ∧ win0_1.index t 0 = 0 ∧ win0_1.index t 1 = 4 + t.val % 6
    ∧ win0_2.index t 0 = t.val / 6 ∧ win0_2.index t 1 = t.val % 6)

/-- A point's block of the rows, read at an element. -/
theorem blk_a0 (t : Fin cfg0.N) (r : Fin 1024) (k : Fin 4096) (i : Fin 16384) (hi : i.val = 1024 * (t.val / 6) + r.val) :
    iblk m c 0 t (ix2 r k) = a0 m c (ix2 i k) := by
  unfold iblk
  rw [View.read_apply]
  show V m c main_arg0 _ = _
  rw [V_main_arg0]
  have e := idx_facts t
  refine congrArg (a0 m c) (Mm.eq_ix2_of _ _ _ ?_ ?_)
  · show win0_0.index t 0 * 1024 + 1 * r.val = i.val; rw [e.1, hi]; omega
  · show win0_0.index t 1 * 4096 + 1 * k.val = k.val; rw [e.2.1]; omega

/-- A point's block of the weights, read at an element. -/
theorem blk_w0 (t : Fin cfg0.N) (k : Fin 4096) (l : Fin 1024) (j : Fin 11008) (hj : j.val = 4096 + 1024 * (t.val % 6) + l.val) :
    X0_1 m c t (ix2 k l) = a1 m c (ix3 0 k j) := by
  have ht : t.val < 96 := N_0 ▸ t.isLt
  unfold X0_1 Pipeline.Window.fill
  rw [dif_pos (moved0_1 t _)]
  unfold iblk
  rw [View.read_apply]
  show (V m c main_v1 : Vec Ideal S4096x11008 .bf16) _ = _
  have e := idx_facts t
  refine Eq.trans ?_ ((V_w m c k ⟨4096 + 1024 * (t.val % 6) + l.val, by omega⟩).trans (congrArg (fun j => a1 m c (ix3 0 k j)) (Fin.ext (by exact hj.symm))))
  refine congrArg (V m c main_v1 : Vec Ideal S4096x11008 .bf16) (Mm.eq_ix2_of _ _ _ ?_ ?_)
  · show win0_1.index t 0 * 4096 + 1 * k.val = k.val; rw [e.2.2.1]; omega
  · show win0_1.index t 1 * 1024 + 1 * l.val = 4096 + 1024 * (t.val % 6) + l.val; rw [e.2.2.2.1]; omega

/-- What a point writes back is its block of the reference's result. -/
theorem flushed_eq (t : Fin cfg0.N) : (dats m 0 c).flushed 2 t = (win0_2.blk t).view.read (Elt Ideal) (G m c) := by
  have ht : t.val < 96 := N_0 ▸ t.isLt
  have e := idx_facts t
  rw [Value.flushed2_A]
  unfold out0_A_2
  frame_out
  funext y
  rw [View.read_apply]
  have y0 : (y 0).val < 1024 := (y 0).isLt
  have y1 : (y 1).val < 1024 := (y 1).isLt
  have hp : (win0_2.blk t).view.emb y = (ix2 ⟨1024 * (t.val / 6) + (y 0).val, by omega⟩ ⟨1024 * (t.val % 6) + (y 1).val, by omega⟩ : S16384x6144.Idx) := by
    refine Mm.eq_ix2_of _ _ _ ?_ ?_
    · show win0_2.index t 0 * 1024 + 1 * (y 0).val = 1024 * (t.val / 6) + (y 0).val; rw [e.2.2.2.2.1]; omega
    · show win0_2.index t 1 * 1024 + 1 * (y 1).val = 1024 * (t.val % 6) + (y 1).val; rw [e.2.2.2.2.2]; omega
  rw [hp]
  refine ((congrArg (k0_pay1 (F := Ideal) (iblk m c 0 t) (X0_1 m c t)) (ValueIdx.eq_ix2 y)).trans (pay_apply (iblk m c 0 t) (X0_1 m c t) (y 0) (y 1))).trans ?_
  refine Eq.trans ?_ (ref_apply (a0 m c) (a1 m c) ⟨1024 * (t.val / 6) + (y 0).val, by omega⟩ ⟨1024 * (t.val % 6) + (y 1).val, by omega⟩).symm
  exact Finset.sum_congr rfl fun k _ => congrArg₂ (· * ·) (blk_a0 m c t _ k _ rfl) (blk_w0 m c t k _ _ (by dsimp only; omega))

/-- Every index of the result array is in some point's block. -/
theorem cover (i : S16384x6144.Idx) : ∃ t : Fin cfg0.N, (cfg0.win 2).flush t = true ∧ i ∈ ((cfg0.win 2).blk t).view.set := by
  have h0 : (i 0).val < 16384 := (i 0).isLt
  have h1 : (i 1).val < 6144 := (i 1).isLt
  have hN : 6 * ((i 0).val / 1024) + (i 1).val / 1024 < cfg0.N := by show _ < grid0.N; rw [N_0]; omega
  refine ⟨⟨6 * ((i 0).val / 1024) + (i 1).val / 1024, hN⟩, flush0_2 _, ?_⟩
  show i ∈ ((View.whole main_v2).slice (win0_2.rect ⟨6 * ((i 0).val / 1024) + (i 1).val / 1024, hN⟩)).set
  rw [View.set_slice_whole, Rect.mem_set_unit]
  have e := idx_facts ⟨6 * ((i 0).val / 1024) + (i 1).val / 1024, hN⟩
  dsimp only at e
  intro b
  match b with
  | ⟨0, _⟩ => show win0_2.index _ 0 * 1024 ≤ (i 0).val ∧ (i 0).val < win0_2.index _ 0 * 1024 + 1024; rw [e.2.2.2.2.1]; omega
  | ⟨1, _⟩ => show win0_2.index _ 1 * 1024 ≤ (i 1).val ∧ (i 1).val < win0_2.index _ 1 * 1024 + 1024; rw [e.2.2.2.2.2]; omega

/-- The result array after the last point is the reference's result. -/
theorem final : (dats m 0 c).arrAt 2 cfg0.N = G m c :=
  (dats m 0 c).arrAt_eq_of_cover 2 (G m c) (fun t _ => flushed_eq m c t) cover

/-- The kernel as printed terminates without a fault, its arguments unchanged and every counter at zero. -/
theorem frame_kernel : quiescent_KernelZb := fun m ρ _ => KernelZb.Gen.frame m ρ
/-- The idealized kernel likewise. -/
theorem frame_kernelIdeal : quiescent_KernelZbIdeal := fun m ρ _ => KernelZbIdeal.Gen.frame m ρ
/-- The reference likewise. -/
theorem frame_ref : quiescent_ReferenceZbIdeal := fun m ρ _ =>
  (θ_run _ _ _).mono (fun r h => ⟨fun c => (h c).2, sem_eq_zero_of_no_sems (by decide) r.2⟩) (ReferenceZbIdeal.Value.run (F := Ideal) m ρ)

/-- The idealized kernel's result array equals the reference's. -/
theorem algebraic : algebraic_KernelZbIdeal_ReferenceZbIdeal := by
  intro m ρ m' ρ' _ hag
  refine ⟨fun c => G m c, (θ_run _ _ _).mono (fun _ h c => ⟨(h c).1.trans (final m c), (h c).2⟩) (Value.run_blocks m ρ), ?_⟩
  refine (θ_run _ _ _).mono (fun _ h c => ⟨((h c).1.trans (ReferenceZbIdeal.Read.val_main_v3_eq ..)).trans ?_, (h c).2⟩)
    (ReferenceZbIdeal.Value.run (F := Ideal) m' ρ')
  rw [(hag c).1, (hag c).2]

end Cert.KernelZbIdeal.Hand
end
-- ==== Proof.Mm.Zl.lean ====
/-
  The low-rank columns of the combined input projection: the call's result array after its run is the plain reference's result of
  the argument arrays; the five claims.
-/
module

public import proofs.«01_k».proof.Defs
public import proofs.«01_k».proof.Proof.Gen.KernelZl.Frame
public import proofs.«01_k».proof.Proof.Gen.KernelZlIdeal.Value
public import proofs.«01_k».proof.Proof.Gen.ReferenceZlIdeal.Read
public import proofs.«01_k».proof.Proof.Gen.ReferenceZlIdeal.Run
public import Idealize.ShloMosaic.Lib.Pipeline.ValueKit
public import Idealize.ShloMosaic.Lib.Pointwise
public import Idealize.ShloMosaic.Lib.StableHlo.RunRead
public import Idealize.ShloMosaic.Lib.Quiescent
public import proofs.«01_k».proof.Proof.Mm.Base

@[expose] public section

set_option maxRecDepth 16384

noncomputable section

namespace Cert.KernelZlIdeal.Hand

open Cert.KernelZlIdeal Cert.KernelZlIdeal.Gen Idealize.ShloMosaic Idealize.ShloMosaic.TcCoe Idealize.SL.Sem
open Idealize.ShloMosaic.StableHlo (after)

variable (m : (ℓ : Loc nD τ sig) → Buf (Elt Ideal) ℓ) (ρ : Dev nD → PrngReg) (c : Dev nD)

/-- An argument array: rows. -/
abbrev a0 : Vec Ideal S16384x4096 .bf16 := m ((c : Thread nD τ).loc main_arg0)
/-- An argument array: weights. -/
abbrev a1 : Vec Ideal S1x4096x11008 .f32 := m ((c : Thread nD τ).loc main_arg1)

/-- The reference's result of device `c`'s argument arrays. -/
abbrev G : Buf (Elt Ideal) ((c : Thread nD τ).loc main_v3) :=
  ReferenceZlIdeal.Read.val_main_v3 (F := Ideal) (a0 m c) (a1 m c)

/-- The reference's result at an element. -/
theorem ref_apply (x0 : FVec Ideal S16384x4096 .bf16) (w : FVec Ideal S1x4096x11008 .f32) (i : Fin 16384) (j : Fin 768) :
    ReferenceZlIdeal.Read.val_main_v3 (F := Ideal) x0 w (ix2 i j)
      = ∑ k : Fin 4096, x0 (ix2 i k) * w (ix3 0 k ⟨10240 + j.val, by omega⟩) := by
  pointwise [ReferenceZlIdeal.Read.val_main_v3, ReferenceZlIdeal.Read.val_main_v2, ReferenceZlIdeal.Read.val_main_v1, ReferenceZlIdeal.Read.val_main_v0]

/-- What a point stores, at an element of its block. -/
theorem pay_apply (v0 : Vec Ideal S1024x4096 .bf16) (v1 : Vec Ideal S4096x768 .bf16) (r : Fin 1024) (l : Fin 768) :
    k0_pay1 (F := Ideal) v0 v1 (ix2 r l) = ∑ k, v0 (ix2 r k) * v1 (ix2 k l) := by
  pointwise [k0_pay1]

/-- The staged weights. -/
theorem V_w (k : Fin 4096) (j : Fin 768) : (V m c main_v2 : Vec Ideal S4096x768 .bf16) (ix2 k j) = a1 m c (ix3 0 k ⟨10240 + j.val, by omega⟩) := by
  show after hostOps0 (fun b => m (c, b)) (Proc.devRef .tc main_v2) (ix2 k j) = _
  after_reads_simp
  pointwise []

/-- The block indices of the windows at a point, in closed form. -/
theorem idx_facts : ∀ t : Fin cfg0.N,
    win0_0.index t 0 = t.val / 1 ∧ win0_0.index t 1 = 0
    ∧ win0_1.index t 0 = 0 ∧ win0_1.index t 1 = 0 + t.val % 1
    ∧ win0_2.index t 0 = t.val / 1 ∧ win0_2.index t 1 = t.val % 1 :=
  (by decide +kernel : ∀ t : Fin grid0.N,
    win0_0.index t 0 = t.val / 1 ∧ win0_0.index t 1 = 0
    ∧ win0_1.index t 0 = 0 ∧ win0_1.index t 1 = 0 + t.val % 1
    ∧ win0_2.index t 0 = t.val / 1 ∧ win0_2.index t 1 = t.val % 1)

/-- A point's block of the rows, read at an element. -/
theorem blk_a0 (t : Fin cfg0.N) (r : Fin 1024) (k : Fin 4096) (i : Fin 16384) (hi : i.val = 1024 * (t.val / 1) + r.val) :
    iblk m c 0 t (ix2 r k) = a0 m c (ix2 i k) := by
  unfold iblk
  rw [View.read_apply]
  show V m c main_arg0 _ = _
  rw [V_main_arg0]
  have e := idx_facts t
  refine congrArg (a0 m c) (Mm.eq_ix2_of _ _ _ ?_ ?_)
  · show win0_0.index t 0 * 1024 + 1 * r.val = i.val; rw [e.1, hi]; omega
  · show win0_0.index t 1 * 4096 + 1 * k.val = k.val; rw [e.2.1]; omega

/-- A point's block of the weights, read at an element. -/
theorem blk_w0 (t : Fin cfg0.N) (k : Fin 4096) (l : Fin 768) (j : Fin 11008) (hj : j.val = 10240 + 768 * (t.val % 1) + l.val) :
    iblk m c 1 t (ix2 k l) = a1 m c (ix3 0 k j) := by
  have ht : t.val < 16 := N_0 ▸ t.isLt
  unfold iblk
  rw [View.read_apply]
  show (V m c main_v2 : Vec Ideal S4096x768 .bf16) _ = _
  have e := idx_facts t
  refine Eq.trans ?_ ((V_w m c k ⟨0 + 768 * (t.val % 1) + l.val, by omega⟩).trans (congrArg (fun j => a1 m c (ix3 0 k j)) (Fin.ext (by show 10240 + (0 + 768 * (t.val % 1) + l.val) = _; omega))))
  refine congrArg (V m c main_v2 : Vec Ideal S4096x768 .bf16) (Mm.eq_ix2_of _ _ _ ?_ ?_)
  · show win0_1.index t 0 * 4096 + 1 * k.val = k.val; rw [e.2.2.1]; omega
  · show win0_1.index t 1 * 768 + 1 * l.val = 0 + 768 * (t.val % 1) + l.val; rw [e.2.2.2.1]; omega

/-- What a point writes back is its block of the reference's result. -/
theorem flushed_eq (t : Fin cfg0.N) : (dats m 0 c).flushed 2 t = (win0_2.blk t).view.read (Elt Ideal) (G m c) := by
  have ht : t.val < 16 := N_0 ▸ t.isLt
  have e := idx_facts t
  rw [Value.flushed2]
  unfold out0_2
  frame_out
  funext y
  rw [View.read_apply]
  have y0 : (y 0).val < 1024 := (y 0).isLt
  have y1 : (y 1).val < 768 := (y 1).isLt
  have hp : (win0_2.blk t).view.emb y = (ix2 ⟨1024 * (t.val / 1) + (y 0).val, by omega⟩ ⟨768 * (t.val % 1) + (y 1).val, by omega⟩ : S16384x768.Idx) := by
    refine Mm.eq_ix2_of _ _ _ ?_ ?_
    · show win0_2.index t 0 * 1024 + 1 * (y 0).val = 1024 * (t.val / 1) + (y 0).val; rw [e.2.2.2.2.1]; omega
    · show win0_2.index t 1 * 768 + 1 * (y 1).val = 768 * (t.val % 1) + (y 1).val; rw [e.2.2.2.2.2]; omega
  rw [hp]
  refine ((congrArg (k0_pay1 (F := Ideal) (iblk m c 0 t) (iblk m c 1 t)) (ValueIdx.eq_ix2 y)).trans (pay_apply (iblk m c 0 t) (iblk m c 1 t) (y 0) (y 1))).trans ?_
  refine Eq.trans ?_ (ref_apply (a0 m c) (a1 m c) ⟨1024 * (t.val / 1) + (y 0).val, by omega⟩ ⟨768 * (t.val % 1) + (y 1).val, by omega⟩).symm
  exact Finset.sum_congr rfl fun k _ => congrArg₂ (· * ·) (blk_a0 m c t _ k _ rfl) (blk_w0 m c t k _ _ (by dsimp only; omega))

/-- Every index of the result array is in some point's block. -/
theorem cover (i : S16384x768.Idx) : ∃ t : Fin cfg0.N, (cfg0.win 2).flush t = true ∧ i ∈ ((cfg0.win 2).blk t).view.set := by
  have h0 : (i 0).val < 16384 := (i 0).isLt
  have h1 : (i 1).val < 768 := (i 1).isLt
  have hN : 1 * ((i 0).val / 1024) + (i 1).val / 768 < cfg0.N := by show _ < grid0.N; rw [N_0]; omega
  refine ⟨⟨1 * ((i 0).val / 1024) + (i 1).val / 768, hN⟩, flush0_2 _, ?_⟩
  show i ∈ ((View.whole main_v3).slice (win0_2.rect ⟨1 * ((i 0).val / 1024) + (i 1).val / 768, hN⟩)).set
  rw [View.set_slice_whole, Rect.mem_set_unit]
  have e := idx_facts ⟨1 * ((i 0).val / 1024) + (i 1).val / 768, hN⟩
  dsimp only at e
  intro b
  match b with
  | ⟨0, _⟩ => show win0_2.index _ 0 * 1024 ≤ (i 0).val ∧ (i 0).val < win0_2.index _ 0 * 1024 + 1024; rw [e.2.2.2.2.1]; omega
  | ⟨1, _⟩ => show win0_2.index _ 1 * 768 ≤ (i 1).val ∧ (i 1).val < win0_2.index _ 1 * 768 + 768; rw [e.2.2.2.2.2]; omega

/-- The result array after the last point is the reference's result. -/
theorem final : (dats m 0 c).arrAt 2 cfg0.N = G m c :=
  (dats m 0 c).arrAt_eq_of_cover 2 (G m c) (fun t _ => flushed_eq m c t) cover

/-- The kernel as printed terminates without a fault, its arguments unchanged and every counter at zero. -/
theorem frame_kernel : quiescent_KernelZl := fun m ρ _ => KernelZl.Gen.frame m ρ
/-- The idealized kernel likewise. -/
theorem frame_kernelIdeal : quiescent_KernelZlIdeal := fun m ρ _ => KernelZlIdeal.Gen.frame m ρ
/-- The reference likewise. -/
theorem frame_ref : quiescent_ReferenceZlIdeal := fun m ρ _ =>
  (θ_run _ _ _).mono (fun r h => ⟨fun c => (h c).2, sem_eq_zero_of_no_sems (by decide) r.2⟩) (ReferenceZlIdeal.Value.run (F := Ideal) m ρ)

/-- The idealized kernel's result array equals the reference's. -/
theorem algebraic : algebraic_KernelZlIdeal_ReferenceZlIdeal := by
  intro m ρ m' ρ' _ hag
  refine ⟨fun c => G m c, (θ_run _ _ _).mono (fun _ h c => ⟨(h c).1.trans (final m c), (h c).2⟩) (Value.run_blocks m ρ), ?_⟩
  refine (θ_run _ _ _).mono (fun _ h c => ⟨((h c).1.trans (ReferenceZlIdeal.Read.val_main_v3_eq ..)).trans ?_, (h c).2⟩)
    (ReferenceZlIdeal.Value.run (F := Ideal) m' ρ')
  rw [(hag c).1, (hag c).2]

end Cert.KernelZlIdeal.Hand
end
-- ==== Proof.Mm.Out.lean ====
/-
  The mixing groups' output projection onto the residual stream: the call's result array after its run is the plain reference's result of
  the argument arrays; the five claims.
-/
module

public import proofs.«01_k».proof.Defs
public import proofs.«01_k».proof.Proof.Gen.KernelOut.Frame
public import proofs.«01_k».proof.Proof.Gen.KernelOutIdeal.Value
public import proofs.«01_k».proof.Proof.Gen.ReferenceOutIdeal.Read
public import proofs.«01_k».proof.Proof.Gen.ReferenceOutIdeal.Run
public import Idealize.ShloMosaic.Lib.Pipeline.ValueKit
public import Idealize.ShloMosaic.Lib.Pointwise
public import Idealize.ShloMosaic.Lib.StableHlo.RunRead
public import Idealize.ShloMosaic.Lib.Quiescent
public import proofs.«01_k».proof.Proof.Mm.Base

@[expose] public section

set_option maxRecDepth 16384

noncomputable section

namespace Cert.KernelOutIdeal.Hand

open Cert.KernelOutIdeal Cert.KernelOutIdeal.Gen Idealize.ShloMosaic Idealize.ShloMosaic.TcCoe Idealize.SL.Sem
open Idealize.ShloMosaic.StableHlo (after)

variable (m : (ℓ : Loc nD τ sig) → Buf (Elt Ideal) ℓ) (ρ : Dev nD → PrngReg) (c : Dev nD)

/-- An argument array: rows. -/
abbrev a0 : Vec Ideal S16384x2048 .bf16 := m ((c : Thread nD τ).loc main_arg0)
/-- An argument array: rows. -/
abbrev a1 : Vec Ideal S16384x2048 .bf16 := m ((c : Thread nD τ).loc main_arg1)
/-- An argument array: weights. -/
abbrev a2 : Vec Ideal S1x4096x4096 .f32 := m ((c : Thread nD τ).loc main_arg2)
/-- An argument array: the residual stream. -/
abbrev a3 : Vec Ideal S16384x4096 .f32 := m ((c : Thread nD τ).loc main_arg3)

/-- The reference's result of device `c`'s argument arrays. -/
abbrev G : Buf (Elt Ideal) ((c : Thread nD τ).loc main_v2) :=
  Cert.ReferenceOutIdeal.Read.val_main_v4 (F := Ideal) (a0 m c) (a1 m c) (a2 m c) (a3 m c)

/-- The reference's result at an element. -/
theorem ref_apply (x0 : FVec Ideal S16384x2048 .bf16) (x1 : FVec Ideal S16384x2048 .bf16) (w : FVec Ideal S1x4096x4096 .f32) (x : FVec Ideal S16384x4096 .f32) (i : Fin 16384) (j : Fin 4096) :
    Cert.ReferenceOutIdeal.Read.val_main_v4 (F := Ideal) x0 x1 w x (ix2 i j)
      = x (ix2 i j) + ((∑ k : Fin 2048, x0 (ix2 i k) * w (ix3 0 ⟨k.val, by omega⟩ j)) + ∑ k : Fin 2048, x1 (ix2 i k) * w (ix3 0 ⟨2048 + k.val, by omega⟩ j)) := by
  pointwise [Cert.ReferenceOutIdeal.Read.val_main_v4, Cert.ReferenceOutIdeal.Read.val_main_v3, Cert.ReferenceOutIdeal.Read.val_main_v2, Cert.ReferenceOutIdeal.Read.val_main_v1, Cert.ReferenceOutIdeal.Read.val_main_v0]

/-- What a point stores, at an element of its block. -/
theorem pay_apply (v0 : Vec Ideal S1024x2048 .bf16) (v1 : Vec Ideal S2048x1024 .bf16) (v4 : Vec Ideal S1024x2048 .bf16) (v5 : Vec Ideal S2048x1024 .bf16) (v9 : Vec Ideal S1024x1024 .f32) (r : Fin 1024) (l : Fin 1024) :
    k0_pay1 (F := Ideal) v0 v1 v4 v5 v9 (ix2 r l) = ((∑ k, v0 (ix2 r k) * v1 (ix2 k l)) + (∑ k, v4 (ix2 r k) * v5 (ix2 k l))) + v9 (ix2 r l) := by
  pointwise [k0_pay1]

/-- The staged weights. -/
theorem V_w (k : Fin 4096) (j : Fin 4096) : (V m c main_v1 : Vec Ideal S4096x4096 .bf16) (ix2 k j) = a2 m c (ix3 0 k j) := by
  show after hostOps0 (fun b => m (c, b)) (Proc.devRef .tc main_v1) (ix2 k j) = _
  after_reads_simp
  pointwise []

/-- The block indices of the windows at a point, in closed form. -/
theorem idx_facts : ∀ t : Fin cfg0.N,
    win0_0.index t 0 = t.val / 4 ∧ win0_0.index t 1 = 0
    ∧ win0_1.index t 0 = t.val / 4 ∧ win0_1.index t 1 = 0
    ∧ win0_2.index t 0 = 0 ∧ win0_2.index t 1 = 0 + t.val % 4
    ∧ win0_3.index t 0 = 1 ∧ win0_3.index t 1 = 0 + t.val % 4
    ∧ win0_4.index t 0 = t.val / 4 ∧ win0_4.index t 1 = t.val % 4
    ∧ win0_5.index t 0 = t.val / 4 ∧ win0_5.index t 1 = t.val % 4 :=
  (by decide +kernel : ∀ t : Fin grid0.N,
    win0_0.index t 0 = t.val / 4 ∧ win0_0.index t 1 = 0
    ∧ win0_1.index t 0 = t.val / 4 ∧ win0_1.index t 1 = 0
    ∧ win0_2.index t 0 = 0 ∧ win0_2.index t 1 = 0 + t.val % 4
    ∧ win0_3.index t 0 = 1 ∧ win0_3.index t 1 = 0 + t.val % 4
    ∧ win0_4.index t 0 = t.val / 4 ∧ win0_4.index t 1 = t.val % 4
    ∧ win0_5.index t 0 = t.val / 4 ∧ win0_5.index t 1 = t.val % 4)

/-- A point's block of the rows, read at an element. -/
theorem blk_a0 (t : Fin cfg0.N) (r : Fin 1024) (k : Fin 2048) (i : Fin 16384) (hi : i.val = 1024 * (t.val / 4) + r.val) :
    iblk m c 0 t (ix2 r k) = a0 m c (ix2 i k) := by
  unfold iblk
  rw [View.read_apply]
  show V m c main_arg0 _ = _
  rw [V_main_arg0]
  have e := idx_facts t
  refine congrArg (a0 m c) (Mm.eq_ix2_of _ _ _ ?_ ?_)
  · show win0_0.index t 0 * 1024 + 1 * r.val = i.val; rw [e.1, hi]; omega
  · show win0_0.index t 1 * 2048 + 1 * k.val = k.val; rw [e.2.1]; omega

/-- A point's block of the rows, read at an element. -/
theorem blk_a1 (t : Fin cfg0.N) (r : Fin 1024) (k : Fin 2048) (i : Fin 16384) (hi : i.val = 1024 * (t.val / 4) + r.val) :
    iblk m c 1 t (ix2 r k) = a1 m c (ix2 i k) := by
  unfold iblk
  rw [View.read_apply]
  show V m c main_arg1 _ = _
  rw [V_main_arg1]
  have e := idx_facts t
  refine congrArg (a1 m c) (Mm.eq_ix2_of _ _ _ ?_ ?_)
  · show win0_1.index t 0 * 1024 + 1 * r.val = i.val; rw [e.2.2.1, hi]; omega
  · show win0_1.index t 1 * 2048 + 1 * k.val = k.val; rw [e.2.2.2.1]; omega

/-- A point's block of the weights, read at an element. -/
theorem blk_w0 (t : Fin cfg0.N) (k : Fin 2048) (l : Fin 1024) (k' : Fin 4096) (hk : k'.val = 0 + k.val) (j : Fin 4096) (hj : j.val = 0 + 1024 * (t.val % 4) + l.val) :
    iblk m c 2 t (ix2 k l) = a2 m c (ix3 0 k' j) := by
  have ht : t.val < 64 := N_0 ▸ t.isLt
  unfold iblk
  rw [View.read_apply]
  show (V m c main_v1 : Vec Ideal S4096x4096 .bf16) _ = _
  have e := idx_facts t
  refine Eq.trans ?_ ((V_w m c k' ⟨0 + 1024 * (t.val % 4) + l.val, by omega⟩).trans (congrArg (fun j => a2 m c (ix3 0 k' j)) (Fin.ext (by exact hj.symm))))
  refine congrArg (V m c main_v1 : Vec Ideal S4096x4096 .bf16) (Mm.eq_ix2_of _ _ _ ?_ ?_)
  · show win0_2.index t 0 * 2048 + 1 * k.val = k'.val; rw [e.2.2.2.2.1]; omega
  · show win0_2.index t 1 * 1024 + 1 * l.val = 0 + 1024 * (t.val % 4) + l.val; rw [e.2.2.2.2.2.1]; omega

/-- A point's block of the weights, read at an element. -/
theorem blk_w1 (t : Fin cfg0.N) (k : Fin 2048) (l : Fin 1024) (k' : Fin 4096) (hk : k'.val = 2048 + k.val) (j : Fin 4096) (hj : j.val = 0 + 1024 * (t.val % 4) + l.val) :
    iblk m c 3 t (ix2 k l) = a2 m c (ix3 0 k' j) := by
  have ht : t.val < 64 := N_0 ▸ t.isLt
  unfold iblk
  rw [View.read_apply]
  show (V m c main_v1 : Vec Ideal S4096x4096 .bf16) _ = _
  have e := idx_facts t
  refine Eq.trans ?_ ((V_w m c k' ⟨0 + 1024 * (t.val % 4) + l.val, by omega⟩).trans (congrArg (fun j => a2 m c (ix3 0 k' j)) (Fin.ext (by exact hj.symm))))
  refine congrArg (V m c main_v1 : Vec Ideal S4096x4096 .bf16) (Mm.eq_ix2_of _ _ _ ?_ ?_)
  · show win0_3.index t 0 * 2048 + 1 * k.val = k'.val; rw [e.2.2.2.2.2.2.1]; omega
  · show win0_3.index t 1 * 1024 + 1 * l.val = 0 + 1024 * (t.val % 4) + l.val; rw [e.2.2.2.2.2.2.2.1]; omega

/-- A point's block of the residual stream, read at an element. -/
theorem blk_x (t : Fin cfg0.N) (r : Fin 1024) (l : Fin 1024) (i : Fin 16384) (j : Fin 4096) (hi : i.val = 1024 * (t.val / 4) + r.val)
    (hj : j.val = 1024 * (t.val % 4) + l.val) : iblk m c 4 t (ix2 r l) = a3 m c (ix2 i j) := by
  unfold iblk
  rw [View.read_apply]
  show V m c main_arg3 _ = _
  rw [V_main_arg3]
  have e := idx_facts t
  refine congrArg (a3 m c) (Mm.eq_ix2_of _ _ _ ?_ ?_)
  · show win0_4.index t 0 * 1024 + 1 * r.val = i.val; rw [e.2.2.2.2.2.2.2.2.1, hi]; omega
  · show win0_4.index t 1 * 1024 + 1 * l.val = j.val; rw [e.2.2.2.2.2.2.2.2.2.1, hj]; omega

/-- What a point writes back is its block of the reference's result. -/
theorem flushed_eq (t : Fin cfg0.N) : (dats m 0 c).flushed 5 t = (win0_5.blk t).view.read (Elt Ideal) (G m c) := by
  have ht : t.val < 64 := N_0 ▸ t.isLt
  have e := idx_facts t
  rw [Value.flushed5]
  unfold out0_5
  frame_out
  funext y
  rw [View.read_apply]
  have y0 : (y 0).val < 1024 := (y 0).isLt
  have y1 : (y 1).val < 1024 := (y 1).isLt
  have hp : (win0_5.blk t).view.emb y = (ix2 ⟨1024 * (t.val / 4) + (y 0).val, by omega⟩ ⟨1024 * (t.val % 4) + (y 1).val, by omega⟩ : S16384x4096.Idx) := by
    refine Mm.eq_ix2_of _ _ _ ?_ ?_
    · show win0_5.index t 0 * 1024 + 1 * (y 0).val = 1024 * (t.val / 4) + (y 0).val; rw [e.2.2.2.2.2.2.2.2.2.2.1]; omega
    · show win0_5.index t 1 * 1024 + 1 * (y 1).val = 1024 * (t.val % 4) + (y 1).val; rw [e.2.2.2.2.2.2.2.2.2.2.2]; omega
  rw [hp]
  refine ((congrArg (k0_pay1 (F := Ideal) (iblk m c 0 t) (iblk m c 2 t) (iblk m c 1 t) (iblk m c 3 t) (iblk m c 4 t)) (ValueIdx.eq_ix2 y)).trans (pay_apply (iblk m c 0 t) (iblk m c 2 t) (iblk m c 1 t) (iblk m c 3 t) (iblk m c 4 t) (y 0) (y 1))).trans ?_
  refine Eq.trans ?_ (ref_apply (a0 m c) (a1 m c) (a2 m c) (a3 m c) ⟨1024 * (t.val / 4) + (y 0).val, by omega⟩ ⟨1024 * (t.val % 4) + (y 1).val, by omega⟩).symm
  rw [add_comm]
  refine congrArg₂ (· + ·) (blk_x m c t _ _ _ _ rfl rfl) (congrArg₂ (· + ·) ?_ ?_)
  · exact Finset.sum_congr rfl fun k _ => congrArg₂ (· * ·) (blk_a0 m c t _ k _ rfl) (blk_w0 m c t k _ _ (Nat.zero_add _).symm _ (by dsimp only; omega))
  · exact Finset.sum_congr rfl fun k _ => congrArg₂ (· * ·) (blk_a1 m c t _ k _ rfl) (blk_w1 m c t k _ _ rfl _ (by dsimp only; omega))

/-- Every index of the result array is in some point's block. -/
theorem cover (i : S16384x4096.Idx) : ∃ t : Fin cfg0.N, (cfg0.win 5).flush t = true ∧ i ∈ ((cfg0.win 5).blk t).view.set := by
  have h0 : (i 0).val < 16384 := (i 0).isLt
  have h1 : (i 1).val < 4096 := (i 1).isLt
  have hN : 4 * ((i 0).val / 1024) + (i 1).val / 1024 < cfg0.N := by show _ < grid0.N; rw [N_0]; omega
  refine ⟨⟨4 * ((i 0).val / 1024) + (i 1).val / 1024, hN⟩, flush0_5 _, ?_⟩
  show i ∈ ((View.whole main_v2).slice (win0_5.rect ⟨4 * ((i 0).val / 1024) + (i 1).val / 1024, hN⟩)).set
  rw [View.set_slice_whole, Rect.mem_set_unit]
  have e := idx_facts ⟨4 * ((i 0).val / 1024) + (i 1).val / 1024, hN⟩
  dsimp only at e
  intro b
  match b with
  | ⟨0, _⟩ => show win0_5.index _ 0 * 1024 ≤ (i 0).val ∧ (i 0).val < win0_5.index _ 0 * 1024 + 1024; rw [e.2.2.2.2.2.2.2.2.2.2.1]; omega
  | ⟨1, _⟩ => show win0_5.index _ 1 * 1024 ≤ (i 1).val ∧ (i 1).val < win0_5.index _ 1 * 1024 + 1024; rw [e.2.2.2.2.2.2.2.2.2.2.2]; omega

/-- The result array after the last point is the reference's result. -/
theorem final : (dats m 0 c).arrAt 5 cfg0.N = G m c :=
  (dats m 0 c).arrAt_eq_of_cover 5 (G m c) (fun t _ => flushed_eq m c t) cover

/-- The kernel as printed terminates without a fault, its arguments unchanged and every counter at zero. -/
theorem frame_kernel : Cert.quiescent_KernelOut := fun m ρ _ => Cert.KernelOut.Gen.frame m ρ
/-- The idealized kernel likewise. -/
theorem frame_kernelIdeal : Cert.quiescent_KernelOutIdeal := fun m ρ _ => Cert.KernelOutIdeal.Gen.frame m ρ
/-- The reference likewise. -/
theorem frame_ref : Cert.quiescent_ReferenceOutIdeal := fun m ρ _ =>
  (θ_run _ _ _).mono (fun r h => ⟨fun c => (h c).2, sem_eq_zero_of_no_sems (by decide) r.2⟩) (Cert.ReferenceOutIdeal.Value.run (F := Ideal) m ρ)

/-- The idealized kernel's result array equals the reference's. -/
theorem algebraic : Cert.algebraic_KernelOutIdeal_ReferenceOutIdeal := by
  intro m ρ m' ρ' _ hag
  refine ⟨fun c => G m c, (θ_run _ _ _).mono (fun _ h c => ⟨(h c).1.trans (final m c), (h c).2⟩) (Value.run_blocks m ρ), ?_⟩
  refine (θ_run _ _ _).mono (fun _ h c => ⟨((h c).1.trans (Cert.ReferenceOutIdeal.Read.val_main_v4_eq ..)).trans ?_, (h c).2⟩)
    (Cert.ReferenceOutIdeal.Value.run (F := Ideal) m' ρ')
  rw [(hag c).1, (hag c).2.1, (hag c).2.2.1, (hag c).2.2.2]

end Cert.KernelOutIdeal.Hand
end
-- ==== Proof.Mm.Q.lean ====
/-
  The projection of the queries: the call's result array after its run is the plain reference's result of
  the argument arrays; the five claims.
-/
module

public import proofs.«01_k».proof.Defs
public import proofs.«01_k».proof.Proof.Gen.KernelQ.Frame
public import proofs.«01_k».proof.Proof.Gen.KernelQIdeal.Value
public import proofs.«01_k».proof.Proof.Gen.ReferenceQIdeal.Read
public import proofs.«01_k».proof.Proof.Gen.ReferenceQIdeal.Run
public import Idealize.ShloMosaic.Lib.Pipeline.ValueKit
public import Idealize.ShloMosaic.Lib.Pointwise
public import Idealize.ShloMosaic.Lib.StableHlo.RunRead
public import Idealize.ShloMosaic.Lib.Quiescent
public import proofs.«01_k».proof.Proof.Mm.Base

@[expose] public section

set_option maxRecDepth 16384

noncomputable section

namespace Cert.KernelQIdeal.Hand

open Cert.KernelQIdeal Cert.KernelQIdeal.Gen Idealize.ShloMosaic Idealize.ShloMosaic.TcCoe Idealize.SL.Sem
open Idealize.ShloMosaic.StableHlo (after)

variable (m : (ℓ : Loc nD τ sig) → Buf (Elt Ideal) ℓ) (ρ : Dev nD → PrngReg) (c : Dev nD)

/-- An argument array: rows. -/
abbrev a0 : Vec Ideal S16384x4096 .bf16 := m ((c : Thread nD τ).loc main_arg0)
/-- An argument array: weights. -/
abbrev a1 : Vec Ideal S1x4096x4096 .f32 := m ((c : Thread nD τ).loc main_arg1)

/-- The reference's result of device `c`'s argument arrays. -/
abbrev G : Buf (Elt Ideal) ((c : Thread nD τ).loc main_v2) :=
  Cert.ReferenceQIdeal.Read.val_main_v3 (F := Ideal) (a0 m c) (a1 m c)

/-- The reference's result at an element. -/
theorem ref_apply (x0 : FVec Ideal S16384x4096 .bf16) (w : FVec Ideal S1x4096x4096 .f32) (i : Fin 16384) (j : Fin 4096) :
    Cert.ReferenceQIdeal.Read.val_main_v3 (F := Ideal) x0 w (ix2 i j)
      = ∑ k : Fin 4096, x0 (ix2 i k) * w (ix3 0 k j) := by
  pointwise [Cert.ReferenceQIdeal.Read.val_main_v3, Cert.ReferenceQIdeal.Read.val_main_v2, Cert.ReferenceQIdeal.Read.val_main_v1, Cert.ReferenceQIdeal.Read.val_main_v0]

/-- What a point stores, at an element of its block. -/
theorem pay_apply (v0 : Vec Ideal S1024x4096 .bf16) (v1 : Vec Ideal S4096x1024 .bf16) (r : Fin 1024) (l : Fin 1024) :
    k0_pay1 (F := Ideal) v0 v1 (ix2 r l) = ∑ k, v0 (ix2 r k) * v1 (ix2 k l) := by
  pointwise [k0_pay1]

/-- The staged weights. -/
theorem V_w (k : Fin 4096) (j : Fin 4096) : (V m c main_v1 : Vec Ideal S4096x4096 .bf16) (ix2 k j) = a1 m c (ix3 0 k j) := by
  show after hostOps0 (fun b => m (c, b)) (Proc.devRef .tc main_v1) (ix2 k j) = _
  after_reads_simp
  pointwise []

/-- The block indices of the windows at a point, in closed form. -/
theorem idx_facts : ∀ t : Fin cfg0.N,
    win0_0.index t 0 = t.val / 4 ∧ win0_0.index t 1 = 0
    ∧ win0_1.index t 0 = 0 ∧ win0_1.index t 1 = 0 + t.val % 4
    ∧ win0_2.index t 0 = t.val / 4 ∧ win0_2.index t 1 = t.val % 4 :=
  (by decide +kernel : ∀ t : Fin grid0.N,
    win0_0.index t 0 = t.val / 4 ∧ win0_0.index t 1 = 0
    ∧ win0_1.index t 0 = 0 ∧ win0_1.index t 1 = 0 + t.val % 4
    ∧ win0_2.index t 0 = t.val / 4 ∧ win0_2.index t 1 = t.val % 4)

/-- A point's block of the rows, read at an element. -/
theorem blk_a0 (t : Fin cfg0.N) (r : Fin 1024) (k : Fin 4096) (i : Fin 16384) (hi : i.val = 1024 * (t.val / 4) + r.val) :
    iblk m c 0 t (ix2 r k) = a0 m c (ix2 i k) := by
  unfold iblk
  rw [View.read_apply]
  show V m c main_arg0 _ = _
  rw [V_main_arg0]
  have e := idx_facts t
  refine congrArg (a0 m c) (Mm.eq_ix2_of _ _ _ ?_ ?_)
  · show win0_0.index t 0 * 1024 + 1 * r.val = i.val; rw [e.1, hi]; omega
  · show win0_0.index t 1 * 4096 + 1 * k.val = k.val; rw [e.2.1]; omega

/-- A point's block of the weights, read at an element. -/
theorem blk_w0 (t : Fin cfg0.N) (k : Fin 4096) (l : Fin 1024) (j : Fin 4096) (hj : j.val = 0 + 1024 * (t.val % 4) + l.val) :
    iblk m c 1 t (ix2 k l) = a1 m c (ix3 0 k j) := by
  have ht : t.val < 64 := N_0 ▸ t.isLt
  unfold iblk
  rw [View.read_apply]
  show (V m c main_v1 : Vec Ideal S4096x4096 .bf16) _ = _
  have e := idx_facts t
  refine Eq.trans ?_ ((V_w m c k ⟨0 + 1024 * (t.val % 4) + l.val, by omega⟩).trans (congrArg (fun j => a1 m c (ix3 0 k j)) (Fin.ext (by exact hj.symm))))
  refine congrArg (V m c main_v1 : Vec Ideal S4096x4096 .bf16) (Mm.eq_ix2_of _ _ _ ?_ ?_)
  · show win0_1.index t 0 * 4096 + 1 * k.val = k.val; rw [e.2.2.1]; omega
  · show win0_1.index t 1 * 1024 + 1 * l.val = 0 + 1024 * (t.val % 4) + l.val; rw [e.2.2.2.1]; omega

/-- What a point writes back is its block of the reference's result. -/
theorem flushed_eq (t : Fin cfg0.N) : (dats m 0 c).flushed 2 t = (win0_2.blk t).view.read (Elt Ideal) (G m c) := by
  have ht : t.val < 64 := N_0 ▸ t.isLt
  have e := idx_facts t
  rw [Value.flushed2]
  unfold out0_2
  frame_out
  funext y
  rw [View.read_apply]
  have y0 : (y 0).val < 1024 := (y 0).isLt
  have y1 : (y 1).val < 1024 := (y 1).isLt
  have hp : (win0_2.blk t).view.emb y = (ix2 ⟨1024 * (t.val / 4) + (y 0).val, by omega⟩ ⟨1024 * (t.val % 4) + (y 1).val, by omega⟩ : S16384x4096.Idx) := by
    refine Mm.eq_ix2_of _ _ _ ?_ ?_
    · show win0_2.index t 0 * 1024 + 1 * (y 0).val = 1024 * (t.val / 4) + (y 0).val; rw [e.2.2.2.2.1]; omega
    · show win0_2.index t 1 * 1024 + 1 * (y 1).val = 1024 * (t.val % 4) + (y 1).val; rw [e.2.2.2.2.2]; omega
  rw [hp]
  refine ((congrArg (k0_pay1 (F := Ideal) (iblk m c 0 t) (iblk m c 1 t)) (ValueIdx.eq_ix2 y)).trans (pay_apply (iblk m c 0 t) (iblk m c 1 t) (y 0) (y 1))).trans ?_
  refine Eq.trans ?_ (ref_apply (a0 m c) (a1 m c) ⟨1024 * (t.val / 4) + (y 0).val, by omega⟩ ⟨1024 * (t.val % 4) + (y 1).val, by omega⟩).symm
  exact Finset.sum_congr rfl fun k _ => congrArg₂ (· * ·) (blk_a0 m c t _ k _ rfl) (blk_w0 m c t k _ _ (by dsimp only; omega))

/-- Every index of the result array is in some point's block. -/
theorem cover (i : S16384x4096.Idx) : ∃ t : Fin cfg0.N, (cfg0.win 2).flush t = true ∧ i ∈ ((cfg0.win 2).blk t).view.set := by
  have h0 : (i 0).val < 16384 := (i 0).isLt
  have h1 : (i 1).val < 4096 := (i 1).isLt
  have hN : 4 * ((i 0).val / 1024) + (i 1).val / 1024 < cfg0.N := by show _ < grid0.N; rw [N_0]; omega
  refine ⟨⟨4 * ((i 0).val / 1024) + (i 1).val / 1024, hN⟩, flush0_2 _, ?_⟩
  show i ∈ ((View.whole main_v2).slice (win0_2.rect ⟨4 * ((i 0).val / 1024) + (i 1).val / 1024, hN⟩)).set
  rw [View.set_slice_whole, Rect.mem_set_unit]
  have e := idx_facts ⟨4 * ((i 0).val / 1024) + (i 1).val / 1024, hN⟩
  dsimp only at e
  intro b
  match b with
  | ⟨0, _⟩ => show win0_2.index _ 0 * 1024 ≤ (i 0).val ∧ (i 0).val < win0_2.index _ 0 * 1024 + 1024; rw [e.2.2.2.2.1]; omega
  | ⟨1, _⟩ => show win0_2.index _ 1 * 1024 ≤ (i 1).val ∧ (i 1).val < win0_2.index _ 1 * 1024 + 1024; rw [e.2.2.2.2.2]; omega

/-- The result array after the last point is the reference's result. -/
theorem final : (dats m 0 c).arrAt 2 cfg0.N = G m c :=
  (dats m 0 c).arrAt_eq_of_cover 2 (G m c) (fun t _ => flushed_eq m c t) cover

/-- The kernel as printed terminates without a fault, its arguments unchanged and every counter at zero. -/
theorem frame_kernel : Cert.quiescent_KernelQ := fun m ρ _ => Cert.KernelQ.Gen.frame m ρ
/-- The idealized kernel likewise. -/
theorem frame_kernelIdeal : Cert.quiescent_KernelQIdeal := fun m ρ _ => Cert.KernelQIdeal.Gen.frame m ρ
/-- The reference likewise. -/
theorem frame_ref : Cert.quiescent_ReferenceQIdeal := fun m ρ _ =>
  (θ_run _ _ _).mono (fun r h => ⟨fun c => (h c).2, sem_eq_zero_of_no_sems (by decide) r.2⟩) (Cert.ReferenceQIdeal.Value.run (F := Ideal) m ρ)

/-- The idealized kernel's result array equals the reference's. -/
theorem algebraic : Cert.algebraic_KernelQIdeal_ReferenceQIdeal := by
  intro m ρ m' ρ' _ hag
  refine ⟨fun c => G m c, (θ_run _ _ _).mono (fun _ h c => ⟨(h c).1.trans (final m c), (h c).2⟩) (Value.run_blocks m ρ), ?_⟩
  refine (θ_run _ _ _).mono (fun _ h c => ⟨((h c).1.trans (Cert.ReferenceQIdeal.Read.val_main_v3_eq ..)).trans ?_, (h c).2⟩)
    (Cert.ReferenceQIdeal.Value.run (F := Ideal) m' ρ')
  rw [(hag c).1, (hag c).2]

end Cert.KernelQIdeal.Hand
end
-- ==== Proof.Mm.Kv.lean ====
/-
  The projection of the keys and values: the call's result array after its run is the plain reference's result of
  the argument arrays; the five claims.
-/
module

public import proofs.«01_k».proof.Defs
public import proofs.«01_k».proof.Proof.Gen.KernelKv.Frame
public import proofs.«01_k».proof.Proof.Gen.KernelKvIdeal.Value
public import proofs.«01_k».proof.Proof.Gen.ReferenceKvIdeal.Read
public import proofs.«01_k».proof.Proof.Gen.ReferenceKvIdeal.Run
public import Idealize.ShloMosaic.Lib.Pipeline.ValueKit
public import Idealize.ShloMosaic.Lib.Pointwise
public import Idealize.ShloMosaic.Lib.StableHlo.RunRead
public import Idealize.ShloMosaic.Lib.Quiescent
public import proofs.«01_k».proof.Proof.Mm.Base

@[expose] public section

set_option maxRecDepth 16384

noncomputable section

namespace Cert.KernelKvIdeal.Hand

open Cert.KernelKvIdeal Cert.KernelKvIdeal.Gen Idealize.ShloMosaic Idealize.ShloMosaic.TcCoe Idealize.SL.Sem
open Idealize.ShloMosaic.StableHlo (after)

variable (m : (ℓ : Loc nD τ sig) → Buf (Elt Ideal) ℓ) (ρ : Dev nD → PrngReg) (c : Dev nD)

/-- An argument array: rows. -/
abbrev a0 : Vec Ideal S1024x4096 .bf16 := m ((c : Thread nD τ).loc main_arg0)
/-- An argument array: weights. -/
abbrev a1 : Vec Ideal S1x4096x8192 .f32 := m ((c : Thread nD τ).loc main_arg1)

/-- The reference's result of device `c`'s argument arrays. -/
abbrev G : Buf (Elt Ideal) ((c : Thread nD τ).loc main_v2) :=
  Cert.ReferenceKvIdeal.Read.val_main_v3 (F := Ideal) (a0 m c) (a1 m c)

/-- The reference's result at an element. -/
theorem ref_apply (x0 : FVec Ideal S1024x4096 .bf16) (w : FVec Ideal S1x4096x8192 .f32) (i : Fin 1024) (j : Fin 8192) :
    Cert.ReferenceKvIdeal.Read.val_main_v3 (F := Ideal) x0 w (ix2 i j)
      = ∑ k : Fin 4096, x0 (ix2 i k) * w (ix3 0 k j) := by
  pointwise [Cert.ReferenceKvIdeal.Read.val_main_v3, Cert.ReferenceKvIdeal.Read.val_main_v2, Cert.ReferenceKvIdeal.Read.val_main_v1, Cert.ReferenceKvIdeal.Read.val_main_v0]

/-- What a point stores, at an element of its block. -/
theorem pay_apply (v0 : Vec Ideal S1024x4096 .bf16) (v1 : Vec Ideal S4096x1024 .bf16) (r : Fin 1024) (l : Fin 1024) :
    k0_pay1 (F := Ideal) v0 v1 (ix2 r l) = ∑ k, v0 (ix2 r k) * v1 (ix2 k l) := by
  pointwise [k0_pay1]

/-- The staged weights. -/
theorem V_w (k : Fin 4096) (j : Fin 8192) : (V m c main_v1 : Vec Ideal S4096x8192 .bf16) (ix2 k j) = a1 m c (ix3 0 k j) := by
  show after hostOps0 (fun b => m (c, b)) (Proc.devRef .tc main_v1) (ix2 k j) = _
  after_reads_simp
  pointwise []

/-- The block indices of the windows at a point, in closed form. -/
theorem idx_facts : ∀ t : Fin cfg0.N,
    win0_0.index t 0 = t.val / 8 ∧ win0_0.index t 1 = 0
    ∧ win0_1.index t 0 = 0 ∧ win0_1.index t 1 = 0 + t.val % 8
    ∧ win0_2.index t 0 = t.val / 8 ∧ win0_2.index t 1 = t.val % 8 :=
  (by decide +kernel : ∀ t : Fin grid0.N,
    win0_0.index t 0 = t.val / 8 ∧ win0_0.index t 1 = 0
    ∧ win0_1.index t 0 = 0 ∧ win0_1.index t 1 = 0 + t.val % 8
    ∧ win0_2.index t 0 = t.val / 8 ∧ win0_2.index t 1 = t.val % 8)

/-- A point's block of the rows, read at an element. -/
theorem blk_a0 (t : Fin cfg0.N) (r : Fin 1024) (k : Fin 4096) (i : Fin 1024) (hi : i.val = 1024 * (t.val / 8) + r.val) :
    iblk m c 0 t (ix2 r k) = a0 m c (ix2 i k) := by
  unfold iblk
  rw [View.read_apply]
  show V m c main_arg0 _ = _
  rw [V_main_arg0]
  have e := idx_facts t
  refine congrArg (a0 m c) (Mm.eq_ix2_of _ _ _ ?_ ?_)
  · show win0_0.index t 0 * 1024 + 1 * r.val = i.val; rw [e.1, hi]; omega
  · show win0_0.index t 1 * 4096 + 1 * k.val = k.val; rw [e.2.1]; omega

/-- A point's block of the weights, read at an element. -/
theorem blk_w0 (t : Fin cfg0.N) (k : Fin 4096) (l : Fin 1024) (j : Fin 8192) (hj : j.val = 0 + 1024 * (t.val % 8) + l.val) :
    iblk m c 1 t (ix2 k l) = a1 m c (ix3 0 k j) := by
  have ht : t.val < 8 := N_0 ▸ t.isLt
  unfold iblk
  rw [View.read_apply]
  show (V m c main_v1 : Vec Ideal S4096x8192 .bf16) _ = _
  have e := idx_facts t
  refine Eq.trans ?_ ((V_w m c k ⟨0 + 1024 * (t.val % 8) + l.val, by omega⟩).trans (congrArg (fun j => a1 m c (ix3 0 k j)) (Fin.ext (by exact hj.symm))))
  refine congrArg (V m c main_v1 : Vec Ideal S4096x8192 .bf16) (Mm.eq_ix2_of _ _ _ ?_ ?_)
  · show win0_1.index t 0 * 4096 + 1 * k.val = k.val; rw [e.2.2.1]; omega
  · show win0_1.index t 1 * 1024 + 1 * l.val = 0 + 1024 * (t.val % 8) + l.val; rw [e.2.2.2.1]; omega

/-- What a point writes back is its block of the reference's result. -/
theorem flushed_eq (t : Fin cfg0.N) : (dats m 0 c).flushed 2 t = (win0_2.blk t).view.read (Elt Ideal) (G m c) := by
  have ht : t.val < 8 := N_0 ▸ t.isLt
  have e := idx_facts t
  rw [Value.flushed2]
  unfold out0_2
  frame_out
  funext y
  rw [View.read_apply]
  have y0 : (y 0).val < 1024 := (y 0).isLt
  have y1 : (y 1).val < 1024 := (y 1).isLt
  have hp : (win0_2.blk t).view.emb y = (ix2 ⟨1024 * (t.val / 8) + (y 0).val, by omega⟩ ⟨1024 * (t.val % 8) + (y 1).val, by omega⟩ : S1024x8192.Idx) := by
    refine Mm.eq_ix2_of _ _ _ ?_ ?_
    · show win0_2.index t 0 * 1024 + 1 * (y 0).val = 1024 * (t.val / 8) + (y 0).val; rw [e.2.2.2.2.1]; omega
    · show win0_2.index t 1 * 1024 + 1 * (y 1).val = 1024 * (t.val % 8) + (y 1).val; rw [e.2.2.2.2.2]; omega
  rw [hp]
  refine ((congrArg (k0_pay1 (F := Ideal) (iblk m c 0 t) (iblk m c 1 t)) (ValueIdx.eq_ix2 y)).trans (pay_apply (iblk m c 0 t) (iblk m c 1 t) (y 0) (y 1))).trans ?_
  refine Eq.trans ?_ (ref_apply (a0 m c) (a1 m c) ⟨1024 * (t.val / 8) + (y 0).val, by omega⟩ ⟨1024 * (t.val % 8) + (y 1).val, by omega⟩).symm
  exact Finset.sum_congr rfl fun k _ => congrArg₂ (· * ·) (blk_a0 m c t _ k _ rfl) (blk_w0 m c t k _ _ (by dsimp only; omega))

/-- Every index of the result array is in some point's block. -/
theorem cover (i : S1024x8192.Idx) : ∃ t : Fin cfg0.N, (cfg0.win 2).flush t = true ∧ i ∈ ((cfg0.win 2).blk t).view.set := by
  have h0 : (i 0).val < 1024 := (i 0).isLt
  have h1 : (i 1).val < 8192 := (i 1).isLt
  have hN : 8 * ((i 0).val / 1024) + (i 1).val / 1024 < cfg0.N := by show _ < grid0.N; rw [N_0]; omega
  refine ⟨⟨8 * ((i 0).val / 1024) + (i 1).val / 1024, hN⟩, flush0_2 _, ?_⟩
  show i ∈ ((View.whole main_v2).slice (win0_2.rect ⟨8 * ((i 0).val / 1024) + (i 1).val / 1024, hN⟩)).set
  rw [View.set_slice_whole, Rect.mem_set_unit]
  have e := idx_facts ⟨8 * ((i 0).val / 1024) + (i 1).val / 1024, hN⟩
  dsimp only at e
  intro b
  match b with
  | ⟨0, _⟩ => show win0_2.index _ 0 * 1024 ≤ (i 0).val ∧ (i 0).val < win0_2.index _ 0 * 1024 + 1024; rw [e.2.2.2.2.1]; omega
  | ⟨1, _⟩ => show win0_2.index _ 1 * 1024 ≤ (i 1).val ∧ (i 1).val < win0_2.index _ 1 * 1024 + 1024; rw [e.2.2.2.2.2]; omega

/-- The result array after the last point is the reference's result. -/
theorem final : (dats m 0 c).arrAt 2 cfg0.N = G m c :=
  (dats m 0 c).arrAt_eq_of_cover 2 (G m c) (fun t _ => flushed_eq m c t) cover

/-- The kernel as printed terminates without a fault, its arguments unchanged and every counter at zero. -/
theorem frame_kernel : Cert.quiescent_KernelKv := fun m ρ _ => Cert.KernelKv.Gen.frame m ρ
/-- The idealized kernel likewise. -/
theorem frame_kernelIdeal : Cert.quiescent_KernelKvIdeal := fun m ρ _ => Cert.KernelKvIdeal.Gen.frame m ρ
/-- The reference likewise. -/
theorem frame_ref : Cert.quiescent_ReferenceKvIdeal := fun m ρ _ =>
  (θ_run _ _ _).mono (fun r h => ⟨fun c => (h c).2, sem_eq_zero_of_no_sems (by decide) r.2⟩) (Cert.ReferenceKvIdeal.Value.run (F := Ideal) m ρ)

/-- The idealized kernel's result array equals the reference's. -/
theorem algebraic : Cert.algebraic_KernelKvIdeal_ReferenceKvIdeal := by
  intro m ρ m' ρ' _ hag
  refine ⟨fun c => G m c, (θ_run _ _ _).mono (fun _ h c => ⟨(h c).1.trans (final m c), (h c).2⟩) (Value.run_blocks m ρ), ?_⟩
  refine (θ_run _ _ _).mono (fun _ h c => ⟨((h c).1.trans (Cert.ReferenceKvIdeal.Read.val_main_v3_eq ..)).trans ?_, (h c).2⟩)
    (Cert.ReferenceKvIdeal.Value.run (F := Ideal) m' ρ')
  rw [(hag c).1, (hag c).2]

end Cert.KernelKvIdeal.Hand
end
-- ==== Proof.Mm.O.lean ====
/-
  The attention's output projection onto the residual stream: the call's result array after its run is the plain reference's result of
  the argument arrays; the five claims.
-/
module

public import proofs.«01_k».proof.Defs
public import proofs.«01_k».proof.Proof.Gen.KernelO.Frame
public import proofs.«01_k».proof.Proof.Gen.KernelOIdeal.Value
public import proofs.«01_k».proof.Proof.Gen.ReferenceOIdeal.Read
public import proofs.«01_k».proof.Proof.Gen.ReferenceOIdeal.Run
public import Idealize.ShloMosaic.Lib.Pipeline.ValueKit
public import Idealize.ShloMosaic.Lib.Pointwise
public import Idealize.ShloMosaic.Lib.StableHlo.RunRead
public import Idealize.ShloMosaic.Lib.Quiescent
public import proofs.«01_k».proof.Proof.Mm.Base

@[expose] public section

set_option maxRecDepth 16384

noncomputable section

namespace Cert.KernelOIdeal.Hand

open Cert.KernelOIdeal Cert.KernelOIdeal.Gen Idealize.ShloMosaic Idealize.ShloMosaic.TcCoe Idealize.SL.Sem
open Idealize.ShloMosaic.StableHlo (after)

variable (m : (ℓ : Loc nD τ sig) → Buf (Elt Ideal) ℓ) (ρ : Dev nD → PrngReg) (c : Dev nD)

/-- An argument array: rows. -/
abbrev a0 : Vec Ideal S16384x4096 .bf16 := m ((c : Thread nD τ).loc main_arg0)
/-- An argument array: weights. -/
abbrev a1 : Vec Ideal S1x4096x4096 .f32 := m ((c : Thread nD τ).loc main_arg1)
/-- An argument array: the residual stream. -/
abbrev a2 : Vec Ideal S16384x4096 .f32 := m ((c : Thread nD τ).loc main_arg2)

/-- The reference's result of device `c`'s argument arrays. -/
abbrev G : Buf (Elt Ideal) ((c : Thread nD τ).loc main_v2) :=
  Cert.ReferenceOIdeal.Read.val_main_v3 (F := Ideal) (a0 m c) (a1 m c) (a2 m c)

/-- The reference's result at an element. -/
theorem ref_apply (x0 : FVec Ideal S16384x4096 .bf16) (w : FVec Ideal S1x4096x4096 .f32) (x : FVec Ideal S16384x4096 .f32) (i : Fin 16384) (j : Fin 4096) :
    Cert.ReferenceOIdeal.Read.val_main_v3 (F := Ideal) x0 w x (ix2 i j)
      = x (ix2 i j) + (∑ k : Fin 4096, x0 (ix2 i k) * w (ix3 0 k j)) := by
  pointwise [Cert.ReferenceOIdeal.Read.val_main_v3, Cert.ReferenceOIdeal.Read.val_main_v2, Cert.ReferenceOIdeal.Read.val_main_v1, Cert.ReferenceOIdeal.Read.val_main_v0]

/-- What a point stores, at an element of its block. -/
theorem pay_apply (v0 : Vec Ideal S1024x4096 .bf16) (v1 : Vec Ideal S4096x1024 .bf16) (v9 : Vec Ideal S1024x1024 .f32) (r : Fin 1024) (l : Fin 1024) :
    k0_pay1 (F := Ideal) v0 v1 v9 (ix2 r l) = (∑ k, v0 (ix2 r k) * v1 (ix2 k l)) + v9 (ix2 r l) := by
  pointwise [k0_pay1]

/-- The staged weights. -/
theorem V_w (k : Fin 4096) (j : Fin 4096) : (V m c main_v1 : Vec Ideal S4096x4096 .bf16) (ix2 k j) = a1 m c (ix3 0 k j) := by
  show after hostOps0 (fun b => m (c, b)) (Proc.devRef .tc main_v1) (ix2 k j) = _
  after_reads_simp
  pointwise []

/-- The block indices of the windows at a point, in closed form. -/
theorem idx_facts : ∀ t : Fin cfg0.N,
    win0_0.index t 0 = t.val / 4 ∧ win0_0.index t 1 = 0
    ∧ win0_1.index t 0 = 0 ∧ win0_1.index t 1 = 0 + t.val % 4
    ∧ win0_2.index t 0 = t.val / 4 ∧ win0_2.index t 1 = t.val % 4
    ∧ win0_3.index t 0 = t.val / 4 ∧ win0_3.index t 1 = t.val % 4 :=
  (by decide +kernel : ∀ t : Fin grid0.N,
    win0_0.index t 0 = t.val / 4 ∧ win0_0.index t 1 = 0
    ∧ win0_1.index t 0 = 0 ∧ win0_1.index t 1 = 0 + t.val % 4
    ∧ win0_2.index t 0 = t.val / 4 ∧ win0_2.index t 1 = t.val % 4
    ∧ win0_3.index t 0 = t.val / 4 ∧ win0_3.index t 1 = t.val % 4)

/-- A point's block of the rows, read at an element. -/
theorem blk_a0 (t : Fin cfg0.N) (r : Fin 1024) (k : Fin 4096) (i : Fin 16384) (hi : i.val = 1024 * (t.val / 4) + r.val) :
    iblk m c 0 t (ix2 r k) = a0 m c (ix2 i k) := by
  unfold iblk
  rw [View.read_apply]
  show V m c main_arg0 _ = _
  rw [V_main_arg0]
  have e := idx_facts t
  refine congrArg (a0 m c) (Mm.eq_ix2_of _ _ _ ?_ ?_)
  · show win0_0.index t 0 * 1024 + 1 * r.val = i.val; rw [e.1, hi]; omega
  · show win0_0.index t 1 * 4096 + 1 * k.val = k.val; rw [e.2.1]; omega

/-- A point's block of the weights, read at an element. -/
theorem blk_w0 (t : Fin cfg0.N) (k : Fin 4096) (l : Fin 1024) (j : Fin 4096) (hj : j.val = 0 + 1024 * (t.val % 4) + l.val) :
    iblk m c 1 t (ix2 k l) = a1 m c (ix3 0 k j) := by
  have ht : t.val < 64 := N_0 ▸ t.isLt
  unfold iblk
  rw [View.read_apply]
  show (V m c main_v1 : Vec Ideal S4096x4096 .bf16) _ = _
  have e := idx_facts t
  refine Eq.trans ?_ ((V_w m c k ⟨0 + 1024 * (t.val % 4) + l.val, by omega⟩).trans (congrArg (fun j => a1 m c (ix3 0 k j)) (Fin.ext (by exact hj.symm))))
  refine congrArg (V m c main_v1 : Vec Ideal S4096x4096 .bf16) (Mm.eq_ix2_of _ _ _ ?_ ?_)
  · show win0_1.index t 0 * 4096 + 1 * k.val = k.val; rw [e.2.2.1]; omega
  · show win0_1.index t 1 * 1024 + 1 * l.val = 0 + 1024 * (t.val % 4) + l.val; rw [e.2.2.2.1]; omega

/-- A point's block of the residual stream, read at an element. -/
theorem blk_x (t : Fin cfg0.N) (r : Fin 1024) (l : Fin 1024) (i : Fin 16384) (j : Fin 4096) (hi : i.val = 1024 * (t.val / 4) + r.val)
    (hj : j.val = 1024 * (t.val % 4) + l.val) : iblk m c 2 t (ix2 r l) = a2 m c (ix2 i j) := by
  unfold iblk
  rw [View.read_apply]
  show V m c main_arg2 _ = _
  rw [V_main_arg2]
  have e := idx_facts t
  refine congrArg (a2 m c) (Mm.eq_ix2_of _ _ _ ?_ ?_)
  · show win0_2.index t 0 * 1024 + 1 * r.val = i.val; rw [e.2.2.2.2.1, hi]; omega
  · show win0_2.index t 1 * 1024 + 1 * l.val = j.val; rw [e.2.2.2.2.2.1, hj]; omega

/-- What a point writes back is its block of the reference's result. -/
theorem flushed_eq (t : Fin cfg0.N) : (dats m 0 c).flushed 3 t = (win0_3.blk t).view.read (Elt Ideal) (G m c) := by
  have ht : t.val < 64 := N_0 ▸ t.isLt
  have e := idx_facts t
  rw [Value.flushed3]
  unfold out0_3
  frame_out
  funext y
  rw [View.read_apply]
  have y0 : (y 0).val < 1024 := (y 0).isLt
  have y1 : (y 1).val < 1024 := (y 1).isLt
  have hp : (win0_3.blk t).view.emb y = (ix2 ⟨1024 * (t.val / 4) + (y 0).val, by omega⟩ ⟨1024 * (t.val % 4) + (y 1).val, by omega⟩ : S16384x4096.Idx) := by
    refine Mm.eq_ix2_of _ _ _ ?_ ?_
    · show win0_3.index t 0 * 1024 + 1 * (y 0).val = 1024 * (t.val / 4) + (y 0).val; rw [e.2.2.2.2.2.2.1]; omega
    · show win0_3.index t 1 * 1024 + 1 * (y 1).val = 1024 * (t.val % 4) + (y 1).val; rw [e.2.2.2.2.2.2.2]; omega
  rw [hp]
  refine ((congrArg (k0_pay1 (F := Ideal) (iblk m c 0 t) (iblk m c 1 t) (iblk m c 2 t)) (ValueIdx.eq_ix2 y)).trans (pay_apply (iblk m c 0 t) (iblk m c 1 t) (iblk m c 2 t) (y 0) (y 1))).trans ?_
  refine Eq.trans ?_ (ref_apply (a0 m c) (a1 m c) (a2 m c) ⟨1024 * (t.val / 4) + (y 0).val, by omega⟩ ⟨1024 * (t.val % 4) + (y 1).val, by omega⟩).symm
  rw [add_comm]
  refine congrArg₂ (· + ·) (blk_x m c t _ _ _ _ rfl rfl) ?_
  exact Finset.sum_congr rfl fun k _ => congrArg₂ (· * ·) (blk_a0 m c t _ k _ rfl) (blk_w0 m c t k _ _ (by dsimp only; omega))

/-- Every index of the result array is in some point's block. -/
theorem cover (i : S16384x4096.Idx) : ∃ t : Fin cfg0.N, (cfg0.win 3).flush t = true ∧ i ∈ ((cfg0.win 3).blk t).view.set := by
  have h0 : (i 0).val < 16384 := (i 0).isLt
  have h1 : (i 1).val < 4096 := (i 1).isLt
  have hN : 4 * ((i 0).val / 1024) + (i 1).val / 1024 < cfg0.N := by show _ < grid0.N; rw [N_0]; omega
  refine ⟨⟨4 * ((i 0).val / 1024) + (i 1).val / 1024, hN⟩, flush0_3 _, ?_⟩
  show i ∈ ((View.whole main_v2).slice (win0_3.rect ⟨4 * ((i 0).val / 1024) + (i 1).val / 1024, hN⟩)).set
  rw [View.set_slice_whole, Rect.mem_set_unit]
  have e := idx_facts ⟨4 * ((i 0).val / 1024) + (i 1).val / 1024, hN⟩
  dsimp only at e
  intro b
  match b with
  | ⟨0, _⟩ => show win0_3.index _ 0 * 1024 ≤ (i 0).val ∧ (i 0).val < win0_3.index _ 0 * 1024 + 1024; rw [e.2.2.2.2.2.2.1]; omega
  | ⟨1, _⟩ => show win0_3.index _ 1 * 1024 ≤ (i 1).val ∧ (i 1).val < win0_3.index _ 1 * 1024 + 1024; rw [e.2.2.2.2.2.2.2]; omega

/-- The result array after the last point is the reference's result. -/
theorem final : (dats m 0 c).arrAt 3 cfg0.N = G m c :=
  (dats m 0 c).arrAt_eq_of_cover 3 (G m c) (fun t _ => flushed_eq m c t) cover

/-- The kernel as printed terminates without a fault, its arguments unchanged and every counter at zero. -/
theorem frame_kernel : Cert.quiescent_KernelO := fun m ρ _ => Cert.KernelO.Gen.frame m ρ
/-- The idealized kernel likewise. -/
theorem frame_kernelIdeal : Cert.quiescent_KernelOIdeal := fun m ρ _ => Cert.KernelOIdeal.Gen.frame m ρ
/-- The reference likewise. -/
theorem frame_ref : Cert.quiescent_ReferenceOIdeal := fun m ρ _ =>
  (θ_run _ _ _).mono (fun r h => ⟨fun c => (h c).2, sem_eq_zero_of_no_sems (by decide) r.2⟩) (Cert.ReferenceOIdeal.Value.run (F := Ideal) m ρ)

/-- The idealized kernel's result array equals the reference's. -/
theorem algebraic : Cert.algebraic_KernelOIdeal_ReferenceOIdeal := by
  intro m ρ m' ρ' _ hag
  refine ⟨fun c => G m c, (θ_run _ _ _).mono (fun _ h c => ⟨(h c).1.trans (final m c), (h c).2⟩) (Value.run_blocks m ρ), ?_⟩
  refine (θ_run _ _ _).mono (fun _ h c => ⟨((h c).1.trans (Cert.ReferenceOIdeal.Read.val_main_v3_eq ..)).trans ?_, (h c).2⟩)
    (Cert.ReferenceOIdeal.Value.run (F := Ideal) m' ρ')
  rw [(hag c).1, (hag c).2.1, (hag c).2.2]

end Cert.KernelOIdeal.Hand
end
-- ==== Proof.Norm.Rows.lean ====
/-
  The norm of the rows: the call's result array after its run is the plain reference's result of
  the argument arrays; the five claims.
-/
module

public import proofs.«01_k».proof.Defs
public import proofs.«01_k».proof.Proof.Gen.KernelNorm.Frame
public import proofs.«01_k».proof.Proof.Gen.KernelNormIdeal.Value
public import proofs.«01_k».proof.Proof.Gen.ReferenceNormIdeal.Read
public import proofs.«01_k».proof.Proof.Gen.ReferenceNormIdeal.Run
public import Idealize.ShloMosaic.Lib.Pipeline.ValueKit
public import Idealize.ShloMosaic.Lib.Pointwise
public import Idealize.ShloMosaic.Lib.StableHlo.RunRead
public import Idealize.ShloMosaic.Lib.Quiescent
public import proofs.«01_k».proof.Proof.Mm.Base

@[expose] public section

set_option maxRecDepth 16384

noncomputable section

namespace Cert.KernelNormIdeal.Hand

open Cert.KernelNormIdeal Cert.KernelNormIdeal.Gen Idealize.ShloMosaic Idealize.ShloMosaic.TcCoe Idealize.SL.Sem
open Idealize.ShloMosaic.StableHlo (after)

variable (m : (ℓ : Loc nD τ sig) → Buf (Elt Ideal) ℓ) (ρ : Dev nD → PrngReg) (c : Dev nD)

/-- An argument array: rows. -/
abbrev a0 : Vec Ideal S16384x4096 .f32 := m ((c : Thread nD τ).loc main_arg0)
/-- An argument array: weights. -/
abbrev a1 : Vec Ideal S1x4096 .f32 := m ((c : Thread nD τ).loc main_arg1)

/-- The reference's result of device `c`'s argument arrays. -/
abbrev G : Buf (Elt Ideal) ((c : Thread nD τ).loc main_v2) :=
  ReferenceNormIdeal.Read.val_main_v14 (F := Ideal) (a0 m c) (a1 m c)

/-- A row of length 4096 divided by the root of its mean square (plus the small constant), times the weights. -/
def rms (row g : Fin 4096 → EReal) (k : Fin 4096) : EReal :=
  row k * Ideal.rsqrt (Ideal.div (∑ x, row x * row x) (Ideal.ofBits FTy.f32 1166016512#32)
    + Ideal.ofBits FTy.f32 897988541#32) * g k

/-- The reference's result at an element. -/
theorem ref_apply (x0 : FVec Ideal S16384x4096 .f32) (g : FVec Ideal S1x4096 .f32) (i : Fin 16384) (j : Fin 4096) :
    ReferenceNormIdeal.Read.val_main_v14 (F := Ideal) x0 g (ix2 i j)
      = rms (fun x => x0 (ix2 i x)) (fun x => g (ix2 0 x)) j := by
  pointwise [ReferenceNormIdeal.Read.val_main_v14, ReferenceNormIdeal.Read.val_main_v13, ReferenceNormIdeal.Read.val_main_v12, ReferenceNormIdeal.Read.val_main_v11, ReferenceNormIdeal.Read.val_main_v10, ReferenceNormIdeal.Read.val_main_v9, ReferenceNormIdeal.Read.val_main_v8, ReferenceNormIdeal.Read.val_main_v7, ReferenceNormIdeal.Read.val_main_v6, ReferenceNormIdeal.Read.val_main_v5, ReferenceNormIdeal.Read.val_main_cst_1, ReferenceNormIdeal.Read.val_main_v4, ReferenceNormIdeal.Read.val_main_v3, ReferenceNormIdeal.Read.val_main_cst_0, ReferenceNormIdeal.Read.val_main_v2, ReferenceNormIdeal.Read.val_main_v1, ReferenceNormIdeal.Read.val_main_cst, ReferenceNormIdeal.Read.val_main_v0]
  rfl

/-- What a point stores, at an element of its block. -/
theorem pay_apply (v0 : Vec Ideal S512x4096 .f32) (v1 : Vec Ideal S1x4096 .f32) (r : Fin 512) (l : Fin 4096) :
    k0_pay1 (F := Ideal) v0 v1 (ix2 r l) = rms (fun x => v0 (ix2 r x)) (fun x => v1 (ix2 0 x)) l := by
  pointwise [k0_pay1]
  rfl

/-- The staged weights. -/
theorem V_w (j : Fin 4096) : (V m c main_v1 : Vec Ideal S1x4096 .f32) (ix2 0 j) = a1 m c (ix2 0 j) := by
  show after hostOps0 (fun b => m (c, b)) (Proc.devRef .tc main_v1) (ix2 0 j) = _
  after_reads_simp
  pointwise []

/-- The block indices of the windows at a point, in closed form. -/
theorem idx_facts : ∀ t : Fin cfg0.N,
    win0_0.index t 0 = t.val ∧ win0_0.index t 1 = 0
    ∧ win0_1.index t 0 = 0 ∧ win0_1.index t 1 = 0
    ∧ win0_2.index t 0 = t.val ∧ win0_2.index t 1 = 0 :=
  (by decide +kernel : ∀ t : Fin grid0.N,
    win0_0.index t 0 = t.val ∧ win0_0.index t 1 = 0
    ∧ win0_1.index t 0 = 0 ∧ win0_1.index t 1 = 0
    ∧ win0_2.index t 0 = t.val ∧ win0_2.index t 1 = 0)

/-- A point's block of the rows, read at an element. -/
theorem blk_a0 (t : Fin cfg0.N) (r : Fin 512) (k : Fin 4096) (i : Fin 16384) (hi : i.val = 512 * t.val + r.val) :
    iblk m c 0 t (ix2 r k) = a0 m c (ix2 i k) := by
  unfold iblk
  rw [View.read_apply]
  show V m c main_arg0 _ = _
  rw [V_main_arg0]
  have e := idx_facts t
  refine congrArg (a0 m c) (Mm.eq_ix2_of _ _ _ ?_ ?_)
  · show win0_0.index t 0 * 512 + 1 * r.val = i.val; rw [e.1, hi]; omega
  · show win0_0.index t 1 * 4096 + 1 * k.val = k.val; rw [e.2.1]; omega

/-- A point's block of the weights, read at an element. -/
theorem blk_w0 (t : Fin cfg0.N) (l : Fin 4096) :
    iblk m c 1 t (ix2 0 l) = a1 m c (ix2 0 l) := by
  unfold iblk
  rw [View.read_apply]
  show (V m c main_v1 : Vec Ideal S1x4096 .f32) _ = _
  have e := idx_facts t
  refine Eq.trans ?_ (V_w m c l)
  refine congrArg (V m c main_v1 : Vec Ideal S1x4096 .f32) (Mm.eq_ix2_of _ _ _ ?_ ?_)
  · show win0_1.index t 0 * 1 + 1 * 0 = 0; rw [e.2.2.1]
  · show win0_1.index t 1 * 4096 + 1 * l.val = l.val; rw [e.2.2.2.1]; omega

/-- What a point writes back is its block of the reference's result. -/
theorem flushed_eq (t : Fin cfg0.N) : (dats m 0 c).flushed 2 t = (win0_2.blk t).view.read (Elt Ideal) (G m c) := by
  have ht : t.val < 32 := N_0 ▸ t.isLt
  have e := idx_facts t
  rw [Value.flushed2]
  unfold out0_2
  frame_out
  funext y
  rw [View.read_apply]
  have y0 : (y 0).val < 512 := (y 0).isLt
  have y1 : (y 1).val < 4096 := (y 1).isLt
  have hp : (win0_2.blk t).view.emb y = (ix2 ⟨512 * t.val + (y 0).val, by omega⟩ (y 1) : S16384x4096.Idx) := by
    refine Mm.eq_ix2_of _ _ _ ?_ ?_
    · show win0_2.index t 0 * 512 + 1 * (y 0).val = 512 * t.val + (y 0).val; rw [e.2.2.2.2.1]; omega
    · show win0_2.index t 1 * 4096 + 1 * (y 1).val = (y 1).val; rw [e.2.2.2.2.2]; omega
  rw [hp]
  refine ((congrArg (k0_pay1 (F := Ideal) (iblk m c 0 t) (iblk m c 1 t)) (ValueIdx.eq_ix2 y)).trans (pay_apply (iblk m c 0 t) (iblk m c 1 t) (y 0) (y 1))).trans ?_
  refine Eq.trans ?_ (ref_apply (a0 m c) (a1 m c) ⟨512 * t.val + (y 0).val, by omega⟩ (y 1)).symm
  exact congrArg₂ (fun row g => rms row g (y 1)) (funext fun k => blk_a0 m c t _ k _ rfl) (funext fun k => blk_w0 m c t k)

/-- Every index of the result array is in some point's block. -/
theorem cover (i : S16384x4096.Idx) : ∃ t : Fin cfg0.N, (cfg0.win 2).flush t = true ∧ i ∈ ((cfg0.win 2).blk t).view.set := by
  have h0 : (i 0).val < 16384 := (i 0).isLt
  have h1 : (i 1).val < 4096 := (i 1).isLt
  have hN : (i 0).val / 512 < cfg0.N := by show _ < grid0.N; rw [N_0]; omega
  refine ⟨⟨(i 0).val / 512, hN⟩, flush0_2 _, ?_⟩
  show i ∈ ((View.whole main_v2).slice (win0_2.rect ⟨(i 0).val / 512, hN⟩)).set
  rw [View.set_slice_whole, Rect.mem_set_unit]
  have e := idx_facts ⟨(i 0).val / 512, hN⟩
  dsimp only at e
  intro b
  match b with
  | ⟨0, _⟩ => show win0_2.index _ 0 * 512 ≤ (i 0).val ∧ (i 0).val < win0_2.index _ 0 * 512 + 512; rw [e.2.2.2.2.1]; omega
  | ⟨1, _⟩ => show win0_2.index _ 1 * 4096 ≤ (i 1).val ∧ (i 1).val < win0_2.index _ 1 * 4096 + 4096; rw [e.2.2.2.2.2]; omega

/-- The result array after the last point is the reference's result. -/
theorem final : (dats m 0 c).arrAt 2 cfg0.N = G m c :=
  (dats m 0 c).arrAt_eq_of_cover 2 (G m c) (fun t _ => flushed_eq m c t) cover

/-- The kernel as printed terminates without a fault, its arguments unchanged and every counter at zero. -/
theorem frame_kernel : quiescent_KernelNorm := fun m ρ _ => KernelNorm.Gen.frame m ρ
/-- The idealized kernel likewise. -/
theorem frame_kernelIdeal : quiescent_KernelNormIdeal := fun m ρ _ => KernelNormIdeal.Gen.frame m ρ
/-- The reference likewise. -/
theorem frame_ref : quiescent_ReferenceNormIdeal := fun m ρ _ =>
  (θ_run _ _ _).mono (fun r h => ⟨fun c => (h c).2, sem_eq_zero_of_no_sems (by decide) r.2⟩) (ReferenceNormIdeal.Value.run (F := Ideal) m ρ)

/-- The idealized kernel's result array equals the reference's. -/
theorem algebraic : algebraic_KernelNormIdeal_ReferenceNormIdeal := by
  intro m ρ m' ρ' _ hag
  refine ⟨fun c => G m c, (θ_run _ _ _).mono (fun _ h c => ⟨(h c).1.trans (final m c), (h c).2⟩) (Value.run_blocks m ρ), ?_⟩
  refine (θ_run _ _ _).mono (fun _ h c => ⟨((h c).1.trans (ReferenceNormIdeal.Read.val_main_v14_eq ..)).trans ?_, (h c).2⟩)
    (ReferenceNormIdeal.Value.run (F := Ideal) m' ρ')
  rw [(hag c).1, (hag c).2]

end Cert.KernelNormIdeal.Hand
end
-- ==== Proof.Norm.Mem.lean ====
/-
  The norm of the memory's rows: the call's result array after its run is the plain reference's result of
  the argument arrays; the five claims.
-/
module

public import proofs.«01_k».proof.Defs
public import proofs.«01_k».proof.Proof.Gen.KernelNormMem.Frame
public import proofs.«01_k».proof.Proof.Gen.KernelNormMemIdeal.Value
public import proofs.«01_k».proof.Proof.Gen.ReferenceNormMemIdeal.Read
public import proofs.«01_k».proof.Proof.Gen.ReferenceNormMemIdeal.Run
public import Idealize.ShloMosaic.Lib.Pipeline.ValueKit
public import Idealize.ShloMosaic.Lib.Pointwise
public import Idealize.ShloMosaic.Lib.StableHlo.RunRead
public import Idealize.ShloMosaic.Lib.Quiescent
public import proofs.«01_k».proof.Proof.Norm.Rows

@[expose] public section

set_option maxRecDepth 1024

noncomputable section

namespace Cert.KernelNormMemIdeal.Hand

open Cert.KernelNormMemIdeal Cert.KernelNormMemIdeal.Gen Idealize.ShloMosaic Idealize.ShloMosaic.TcCoe Idealize.SL.Sem
open Idealize.ShloMosaic.StableHlo (after)
open Cert.KernelNormIdeal.Hand (rms)

variable (m : (ℓ : Loc nD τ sig) → Buf (Elt Ideal) ℓ) (ρ : Dev nD → PrngReg) (c : Dev nD)

/-- An argument array: rows. -/
abbrev a0 : Vec Ideal S1024x4096 .f32 := m ((c : Thread nD τ).loc main_arg0)
/-- An argument array: weights. -/
abbrev a1 : Vec Ideal S1x4096 .f32 := m ((c : Thread nD τ).loc main_arg1)

/-- The reference's result of device `c`'s argument arrays. -/
abbrev G : Buf (Elt Ideal) ((c : Thread nD τ).loc main_v2) :=
  ReferenceNormMemIdeal.Read.val_main_v14 (F := Ideal) (a0 m c) (a1 m c)

/-- The reference's result at an element. -/
theorem ref_apply (x0 : FVec Ideal S1024x4096 .f32) (g : FVec Ideal S1x4096 .f32) (i : Fin 1024) (j : Fin 4096) :
    ReferenceNormMemIdeal.Read.val_main_v14 (F := Ideal) x0 g (ix2 i j)
      = rms (fun x => x0 (ix2 i x)) (fun x => g (ix2 0 x)) j := by
  pointwise [ReferenceNormMemIdeal.Read.val_main_v14, ReferenceNormMemIdeal.Read.val_main_v13, ReferenceNormMemIdeal.Read.val_main_v12, ReferenceNormMemIdeal.Read.val_main_v11, ReferenceNormMemIdeal.Read.val_main_v10, ReferenceNormMemIdeal.Read.val_main_v9, ReferenceNormMemIdeal.Read.val_main_v8, ReferenceNormMemIdeal.Read.val_main_v7, ReferenceNormMemIdeal.Read.val_main_v6, ReferenceNormMemIdeal.Read.val_main_v5, ReferenceNormMemIdeal.Read.val_main_cst_1, ReferenceNormMemIdeal.Read.val_main_v4, ReferenceNormMemIdeal.Read.val_main_v3, ReferenceNormMemIdeal.Read.val_main_cst_0, ReferenceNormMemIdeal.Read.val_main_v2, ReferenceNormMemIdeal.Read.val_main_v1, ReferenceNormMemIdeal.Read.val_main_cst, ReferenceNormMemIdeal.Read.val_main_v0]
  rfl

/-- What a point stores, at an element of its block. -/
theorem pay_apply (v0 : Vec Ideal S512x4096 .f32) (v1 : Vec Ideal S1x4096 .f32) (r : Fin 512) (l : Fin 4096) :
    k0_pay1 (F := Ideal) v0 v1 (ix2 r l) = rms (fun x => v0 (ix2 r x)) (fun x => v1 (ix2 0 x)) l :=
  KernelNormIdeal.Hand.pay_apply v0 v1 r l

/-- The staged weights. -/
theorem V_w (j : Fin 4096) : (V m c main_v1 : Vec Ideal S1x4096 .f32) (ix2 0 j) = a1 m c (ix2 0 j) := by
  show after hostOps0 (fun b => m (c, b)) (Proc.devRef .tc main_v1) (ix2 0 j) = _
  after_reads_simp
  pointwise []

/-- The block indices of the windows at a point, in closed form. -/
theorem idx_facts : ∀ t : Fin cfg0.N,
    win0_0.index t 0 = t.val ∧ win0_0.index t 1 = 0
    ∧ win0_1.index t 0 = 0 ∧ win0_1.index t 1 = 0
    ∧ win0_2.index t 0 = t.val ∧ win0_2.index t 1 = 0 :=
  (by decide +kernel : ∀ t : Fin grid0.N,
    win0_0.index t 0 = t.val ∧ win0_0.index t 1 = 0
    ∧ win0_1.index t 0 = 0 ∧ win0_1.index t 1 = 0
    ∧ win0_2.index t 0 = t.val ∧ win0_2.index t 1 = 0)

/-- A point's block of the rows, read at an element. -/
theorem blk_a0 (t : Fin cfg0.N) (r : Fin 512) (k : Fin 4096) (i : Fin 1024) (hi : i.val = 512 * t.val + r.val) :
    iblk m c 0 t (ix2 r k) = a0 m c (ix2 i k) := by
  unfold iblk
  rw [View.read_apply]
  show V m c main_arg0 _ = _
  rw [V_main_arg0]
  have e := idx_facts t
  refine congrArg (a0 m c) (Mm.eq_ix2_of _ _ _ ?_ ?_)
  · show win0_0.index t 0 * 512 + 1 * r.val = i.val; rw [e.1, hi]; omega
  · show win0_0.index t 1 * 4096 + 1 * k.val = k.val; rw [e.2.1]; omega

/-- A point's block of the weights, read at an element. -/
theorem blk_w0 (t : Fin cfg0.N) (l : Fin 4096) :
    iblk m c 1 t (ix2 0 l) = a1 m c (ix2 0 l) := by
  unfold iblk
  rw [View.read_apply]
  show (V m c main_v1 : Vec Ideal S1x4096 .f32) _ = _
  have e := idx_facts t
  refine Eq.trans ?_ (V_w m c l)
  refine congrArg (V m c main_v1 : Vec Ideal S1x4096 .f32) (Mm.eq_ix2_of _ _ _ ?_ ?_)
  · show win0_1.index t 0 * 1 + 1 * 0 = 0; rw [e.2.2.1]
  · show win0_1.index t 1 * 4096 + 1 * l.val = l.val; rw [e.2.2.2.1]; omega

/-- What a point writes back is its block of the reference's result. -/
theorem flushed_eq (t : Fin cfg0.N) : (dats m 0 c).flushed 2 t = (win0_2.blk t).view.read (Elt Ideal) (G m c) := by
  have ht : t.val < 2 := N_0 ▸ t.isLt
  have e := idx_facts t
  rw [Value.flushed2]
  unfold out0_2
  frame_out
  funext y
  rw [View.read_apply]
  have y0 : (y 0).val < 512 := (y 0).isLt
  have y1 : (y 1).val < 4096 := (y 1).isLt
  have hp : (win0_2.blk t).view.emb y = (ix2 ⟨512 * t.val + (y 0).val, by omega⟩ (y 1) : S1024x4096.Idx) := by
    refine Mm.eq_ix2_of _ _ _ ?_ ?_
    · show win0_2.index t 0 * 512 + 1 * (y 0).val = 512 * t.val + (y 0).val; rw [e.2.2.2.2.1]; omega
    · show win0_2.index t 1 * 4096 + 1 * (y 1).val = (y 1).val; rw [e.2.2.2.2.2]; omega
  rw [hp]
  refine ((congrArg (k0_pay1 (F := Ideal) (iblk m c 0 t) (iblk m c 1 t)) (ValueIdx.eq_ix2 y)).trans (pay_apply (iblk m c 0 t) (iblk m c 1 t) (y 0) (y 1))).trans ?_
  refine Eq.trans ?_ (ref_apply (a0 m c) (a1 m c) ⟨512 * t.val + (y 0).val, by omega⟩ (y 1)).symm
  exact congrArg₂ (fun row g => rms row g (y 1)) (funext fun k => blk_a0 m c t _ k _ rfl) (funext fun k => blk_w0 m c t k)

/-- Every index of the result array is in some point's block. -/
theorem cover (i : S1024x4096.Idx) : ∃ t : Fin cfg0.N, (cfg0.win 2).flush t = true ∧ i ∈ ((cfg0.win 2).blk t).view.set := by
  have h0 : (i 0).val < 1024 := (i 0).isLt
  have h1 : (i 1).val < 4096 := (i 1).isLt
  have hN : (i 0).val / 512 < cfg0.N := by show _ < grid0.N; rw [N_0]; omega
  refine ⟨⟨(i 0).val / 512, hN⟩, flush0_2 _, ?_⟩
  show i ∈ ((View.whole main_v2).slice (win0_2.rect ⟨(i 0).val / 512, hN⟩)).set
  rw [View.set_slice_whole, Rect.mem_set_unit]
  have e := idx_facts ⟨(i 0).val / 512, hN⟩
  dsimp only at e
  intro b
  match b with
  | ⟨0, _⟩ => show win0_2.index _ 0 * 512 ≤ (i 0).val ∧ (i 0).val < win0_2.index _ 0 * 512 + 512; rw [e.2.2.2.2.1]; omega
  | ⟨1, _⟩ => show win0_2.index _ 1 * 4096 ≤ (i 1).val ∧ (i 1).val < win0_2.index _ 1 * 4096 + 4096; rw [e.2.2.2.2.2]; omega

/-- The result array after the last point is the reference's result. -/
theorem final : (dats m 0 c).arrAt 2 cfg0.N = G m c :=
  (dats m 0 c).arrAt_eq_of_cover 2 (G m c) (fun t _ => flushed_eq m c t) cover

/-- The kernel as printed terminates without a fault, its arguments unchanged and every counter at zero. -/
theorem frame_kernel : quiescent_KernelNormMem := fun m ρ _ => KernelNormMem.Gen.frame m ρ
/-- The idealized kernel likewise. -/
theorem frame_kernelIdeal : quiescent_KernelNormMemIdeal := fun m ρ _ => KernelNormMemIdeal.Gen.frame m ρ
/-- The reference likewise. -/
theorem frame_ref : quiescent_ReferenceNormMemIdeal := fun m ρ _ =>
  (θ_run _ _ _).mono (fun r h => ⟨fun c => (h c).2, sem_eq_zero_of_no_sems (by decide) r.2⟩) (ReferenceNormMemIdeal.Value.run (F := Ideal) m ρ)

/-- The idealized kernel's result array equals the reference's. -/
theorem algebraic : algebraic_KernelNormMemIdeal_ReferenceNormMemIdeal := by
  intro m ρ m' ρ' _ hag
  refine ⟨fun c => G m c, (θ_run _ _ _).mono (fun _ h c => ⟨(h c).1.trans (final m c), (h c).2⟩) (Value.run_blocks m ρ), ?_⟩
  refine (θ_run _ _ _).mono (fun _ h c => ⟨((h c).1.trans (ReferenceNormMemIdeal.Read.val_main_v14_eq ..)).trans ?_, (h c).2⟩)
    (ReferenceNormMemIdeal.Value.run (F := Ideal) m' ρ')
  rw [(hag c).1, (hag c).2]

end Cert.KernelNormMemIdeal.Hand
end
-- ==== Proof.Gmlp.Pay.lean ====
/-
  The spatial gating: what a point stores at an element of each of the four chunks of its block, and the plain
  reference's result at an element.
-/
module

public import proofs.«01_k».proof.Defs
public import proofs.«01_k».proof.Proof.Gen.KernelGmlpIdeal.Value
public import proofs.«01_k».proof.Proof.Gen.ReferenceGmlpIdeal.Read
public import Idealize.ShloMosaic.Lib.Pipeline.ValueKit
public import Idealize.ShloMosaic.Lib.Pointwise
public import Idealize.ShloMosaic.Lib.StableHlo.RunRead
public import proofs.«01_k».proof.Proof.Mm.Base

@[expose] public section

set_option maxRecDepth 16384

noncomputable section

namespace Cert.KernelGmlpIdeal.Hand

open Cert.KernelGmlpIdeal Cert.KernelGmlpIdeal.Gen Idealize.ShloMosaic Idealize.ShloMosaic.TcCoe Idealize.SL.Sem
open Idealize.ShloMosaic.StableHlo (after)

/-- The smooth rectifier, by its tanh form. -/
def gelu (x : EReal) : EReal :=
  x * (Ideal.ofBits .f32 0x3F000000#32 * (1
    + Ideal.tanh (Ideal.ofBits .f32 0x3F4C422A#32 * (x + Ideal.ofBits .f32 0x3D372713#32 * (x * (x * x))))))

/-- The mean of a row of length 2048. -/
def mean (y : Fin 2048 → EReal) : EReal := Ideal.div (∑ x, y x) (Ideal.ofBits .f32 0x45000000#32)

/-- A row of length 2048 normalised, weighted and shifted. -/
def norm (y g b : Fin 2048 → EReal) (l : Fin 2048) : EReal :=
  (y l - mean y) * Ideal.rsqrt (mean (fun x => (y x - mean y) * (y x - mean y)) + Ideal.ofBits .f32 0x3727C5AC#32) * g l + b l

/-- A lane of the 2048, from its head and its place in the head. -/
abbrev lane (n : Fin 4) (d : Fin 512) : Fin 2048 := ⟨512 * n.val + d.val, by omega⟩

/-- A row of the 512, from its chunk and its place in the chunk. -/
abbrev row (a : Fin 4) (p : Fin 128) : Fin 512 := ⟨128 * a.val + p.val, by omega⟩

/-- The gated value at a lane: the rectified row times the chunk's mixture of normalised rows plus the bias. -/
def gate (u : Fin 2048 → EReal) (v : Fin 128 → Fin 2048 → EReal) (g b : Fin 2048 → EReal) (w : Fin 128 → EReal) (o : EReal) (l : Fin 2048) : EReal :=
  gelu (u l) * ((∑ q, w q * norm (fun x => gelu (v q x)) g b l) + o)

/-- The rectified first half. -/
theorem pay2_apply (v0 : Vec Ideal S512x2048 .f32) (r : Fin 512) (l : Fin 2048) : k0_pay2 v0 (ix2 r l) = gelu (v0 (ix2 r l)) := by
  pointwise [k0_pay2]
  rfl

/-- The rectified second half. -/
theorem pay3_apply (v0 : Vec Ideal S512x2048 .f32) (r : Fin 512) (l : Fin 2048) : k0_pay3 v0 (ix2 r l) = gelu (v0 (ix2 r l)) := by
  pointwise [k0_pay3]
  rfl

/-- The mean of a rectified row. -/
theorem pay4_apply (v0 : Vec Ideal S512x2048 .f32) (r : Fin 512) : k0_pay4 v0 (ix2 r 0) = mean (fun x => gelu (v0 (ix2 r x))) := by
  have h := pay3_apply v0
  unfold k0_pay4
  generalize k0_pay3 v0 = y at h ⊢
  pointwise []
  simp only [h]
  rfl

/-- A rectified row less its mean. -/
theorem pay6_apply (v0 : Vec Ideal S512x2048 .f32) (r : Fin 512) (l : Fin 2048) :
    k0_pay6 v0 (ix2 r l) = gelu (v0 (ix2 r l)) - mean (fun x => gelu (v0 (ix2 r x))) := by
  have h := pay3_apply v0
  have h4 := pay4_apply v0
  unfold k0_pay6
  generalize k0_pay3 v0 = y at h ⊢
  generalize k0_pay4 v0 = z at h4 ⊢
  pointwise []
  rw [h, h4]

/-- The variance of a rectified row. -/
theorem pay5_apply (v0 : Vec Ideal S512x2048 .f32) (r : Fin 512) :
    k0_pay5 v0 (ix2 r 0) = mean (fun x => (gelu (v0 (ix2 r x)) - mean (fun x => gelu (v0 (ix2 r x)))) * (gelu (v0 (ix2 r x)) - mean (fun x => gelu (v0 (ix2 r x))))) := by
  have h := pay3_apply v0
  have h4 := pay4_apply v0
  unfold k0_pay5
  generalize k0_pay3 v0 = y at h ⊢
  generalize k0_pay4 v0 = z at h4 ⊢
  pointwise []
  simp only [h, h4]
  rfl

/-- The normalised rows. -/
theorem pay8_apply (v0 : Vec Ideal S512x2048 .f32) (g b : Vec Ideal S1x2048 .f32) (r : Fin 512) (l : Fin 2048) :
    k0_pay8 (k0_pay5 v0) (k0_pay6 v0) k0_pay7 g b (ix2 r l)
      = norm (fun x => gelu (v0 (ix2 r x))) (fun x => g (ix2 0 x)) (fun x => b (ix2 0 x)) l := by
  have h5 := pay5_apply v0
  have h6 := pay6_apply v0
  generalize k0_pay5 v0 = y at h5 ⊢
  generalize k0_pay6 v0 = z at h6 ⊢
  pointwise [k0_pay8, k0_pay7]
  rw [h5, h6]
  rfl

/-- A chunk's columns of one head lie in the block. -/
theorem parts (a : Fin 4) : ∀ n : Fin 4, S512x2048.Slices ![128 * a.val, 512 * n.val] S128x512 := by revert a; decide
/-- A chunk's rows lie in the block. -/
theorem chunks : ∀ a : Fin 4, S512x2048.Slices ![128 * a.val, 0] S128x2048 := by decide
/-- The four heads side by side make the 2048 columns. -/
theorem joined {α : Type} {f : Fin 4 → (S128x512.Idx → α)} :
    Shape.Concatenates ((List.ofFn fun n : Fin 4 => (⟨S128x512, f n⟩ : (s : Shape) × (s.Idx → α))).map (·.1)) S128x2048 1 :=
  (by decide : Shape.Concatenates (List.replicate 4 S128x512) S128x2048 1)

/-- One head's mixture of a chunk's rows. -/
def mix (a : Fin 4) (y : Vec Ideal S512x2048 .bf16) (w : Fin 4 → Vec Ideal S1x128x128 .bf16) (n : Fin 4) : FVec Ideal S128x512 .f32 :=
  matmul dot_S128x128_S128x512_S128x512_1_0_0_1_n_n none (shapeCast S128x128 (w n) shapeCasts_S1x128x128_S128x128 : FVec Ideal S128x128 .bf16)
    (extractStridedSlice S128x512 ![128 * a.val, 512 * n.val] y (parts a n) : FVec Ideal S128x512 .bf16) (constant S128x512 .f32 0x00000000#32)

/-- A chunk of what a point stores. -/
def gated (a : Fin 4) (u : FVec Ideal S512x2048 .f32) (y : FVec Ideal S512x2048 .bf16) (o : FVec Ideal S128x2048 .f32)
    (w : Fin 4 → Vec Ideal S1x128x128 .bf16) : FVec Ideal S128x2048 .bf16 :=
  truncf .bf16 (mulf (extractStridedSlice S128x2048 ![128 * a.val, 0] u (chunks a))
    (addf (concatenate S128x2048 1 (List.ofFn fun n : Fin 4 => ⟨S128x512, mix a y w n⟩) joined) o)) bitsLt_bf16_f32

/-- One head's mixture at an element. -/
theorem mix_apply (a : Fin 4) (y : Vec Ideal S512x2048 .bf16) (w : Fin 4 → Vec Ideal S1x128x128 .bf16) (n : Fin 4) (p : Fin 128) (d : Fin 512) :
    mix a y w n (ix2 p d) = ∑ q, w n (ix3 0 p q) * y (ix2 (row a q) (lane n d)) := by
  pointwise [mix]

/-- A chunk of what a point stores, at an element. -/
theorem gated_apply (a : Fin 4) (u : FVec Ideal S512x2048 .f32) (y : FVec Ideal S512x2048 .bf16) (o : FVec Ideal S128x2048 .f32)
    (w : Fin 4 → Vec Ideal S1x128x128 .bf16) (n : Fin 4) (p : Fin 128) (d : Fin 512) :
    gated a u y o w (ix2 p (lane n d))
      = u (ix2 (row a p) (lane n d)) * ((∑ q, w n (ix3 0 p q) * y (ix2 (row a q) (lane n d))) + o (ix2 p (lane n d))) := by
  have e : concatenate S128x2048 1 (List.ofFn fun n : Fin 4 => (⟨S128x512, mix a y w n⟩ : (s : Shape) × (s.Idx → EReal))) joined (ix2 p (lane n d))
      = mix a y w n (ix2 p d) := by
    refine concatenate_ofFn_apply (s₁ := S128x512) 1 (fun n : Fin 4 => mix a y w n) joined rfl 512 rfl _ n ?_ (ix2 p d) ?_ ?_
    · show (512 * n.val + d.val) / 512 = n.val; omega
    · show d.val = (512 * n.val + d.val) % 512; omega
    · intro b hb
      match b with
      | ⟨0, _⟩ => rfl
      | ⟨1, _⟩ => exact absurd rfl hb
  have e2 : extractStridedSlice S128x2048 ![128 * a.val, 0] u (chunks a) (ix2 p (lane n d)) = u (ix2 (row a p) (lane n d)) := by
    pointwise []
  show extractStridedSlice S128x2048 ![128 * a.val, 0] u (chunks a) (ix2 p (lane n d))
    * (concatenate S128x2048 1 (List.ofFn fun n : Fin 4 => (⟨S128x512, mix a y w n⟩ : (s : Shape) × (s.Idx → EReal))) joined (ix2 p (lane n d)) + o (ix2 p (lane n d))) = _
  rw [e, e2, mix_apply]

/-- The second half of an input row. -/
abbrev half (l : Fin 2048) : Fin 4096 := ⟨2048 + l.val, by omega⟩
/-- The first half of an input row. -/
abbrev low (l : Fin 2048) : Fin 4096 := ⟨l.val, by omega⟩

section
variable (x0 : FVec Ideal S16384x4096 .f32) (x1 x2 : FVec Ideal S1x2048 .f32) (x3 : FVec Ideal S1x4x128x128 .f32) (x4 : FVec Ideal S1x4x128 .f32)

/-- The reference's rectified values. -/
theorem ref_gelu (i : Fin 16384) (j : Fin 4096) : Cert.ReferenceGmlpIdeal.Read.val_main_v12 (F := Ideal) x0 (ix2 i j) = gelu (x0 (ix2 i j)) := by
  pointwise [Cert.ReferenceGmlpIdeal.Read.val_main_v0, Cert.ReferenceGmlpIdeal.Read.val_main_v1, Cert.ReferenceGmlpIdeal.Read.val_main_v2, Cert.ReferenceGmlpIdeal.Read.val_main_v3, Cert.ReferenceGmlpIdeal.Read.val_main_v4, Cert.ReferenceGmlpIdeal.Read.val_main_v5, Cert.ReferenceGmlpIdeal.Read.val_main_v6, Cert.ReferenceGmlpIdeal.Read.val_main_v7, Cert.ReferenceGmlpIdeal.Read.val_main_v8, Cert.ReferenceGmlpIdeal.Read.val_main_v9, Cert.ReferenceGmlpIdeal.Read.val_main_v10, Cert.ReferenceGmlpIdeal.Read.val_main_v11, Cert.ReferenceGmlpIdeal.Read.val_main_v12, Cert.ReferenceGmlpIdeal.Read.val_main_cst, Cert.ReferenceGmlpIdeal.Read.val_main_cst_0, Cert.ReferenceGmlpIdeal.Read.val_main_cst_1, Cert.ReferenceGmlpIdeal.Read.val_main_cst_2]
  unfold gelu
  rw [show x0 (ix2 i j) * x0 (ix2 i j) * x0 (ix2 i j) = x0 (ix2 i j) * (x0 (ix2 i j) * x0 (ix2 i j)) from mul_assoc _ _ _]

/-- The reference's mean of a rectified second half. -/
theorem ref_mean (i : Fin 16384) : Cert.ReferenceGmlpIdeal.Read.val_main_v18 (F := Ideal) x0 (ix2 i 0) = mean (fun x => gelu (x0 (ix2 i (half x)))) := by
  have h := ref_gelu x0
  unfold Cert.ReferenceGmlpIdeal.Read.val_main_v18 Cert.ReferenceGmlpIdeal.Read.val_main_v17 Cert.ReferenceGmlpIdeal.Read.val_main_v16 Cert.ReferenceGmlpIdeal.Read.val_main_v15 Cert.ReferenceGmlpIdeal.Read.val_main_v14 Cert.ReferenceGmlpIdeal.Read.val_main_cst_3 Cert.ReferenceGmlpIdeal.Read.val_main_cst_4
  generalize Cert.ReferenceGmlpIdeal.Read.val_main_v12 (F := Ideal) x0 = y at h ⊢
  pointwise []
  simp only [h]
  rfl

/-- The reference's normalised rows. -/
theorem ref_norm (i : Fin 16384) (l : Fin 2048) : Cert.ReferenceGmlpIdeal.Read.val_main_v40 (F := Ideal) x0 x1 x2 (ix2 i l)
    = norm (fun x => gelu (x0 (ix2 i (half x)))) (fun x => x1 (ix2 0 x)) (fun x => x2 (ix2 0 x)) l := by
  have h := ref_gelu x0
  have h8 := ref_mean x0
  unfold Cert.ReferenceGmlpIdeal.Read.val_main_v40 Cert.ReferenceGmlpIdeal.Read.val_main_v39 Cert.ReferenceGmlpIdeal.Read.val_main_v38 Cert.ReferenceGmlpIdeal.Read.val_main_v37 Cert.ReferenceGmlpIdeal.Read.val_main_v36 Cert.ReferenceGmlpIdeal.Read.val_main_v35 Cert.ReferenceGmlpIdeal.Read.val_main_v34 Cert.ReferenceGmlpIdeal.Read.val_main_v33 Cert.ReferenceGmlpIdeal.Read.val_main_v32 Cert.ReferenceGmlpIdeal.Read.val_main_v31 Cert.ReferenceGmlpIdeal.Read.val_main_v30 Cert.ReferenceGmlpIdeal.Read.val_main_v29 Cert.ReferenceGmlpIdeal.Read.val_main_v28 Cert.ReferenceGmlpIdeal.Read.val_main_v27 Cert.ReferenceGmlpIdeal.Read.val_main_v26 Cert.ReferenceGmlpIdeal.Read.val_main_v25 Cert.ReferenceGmlpIdeal.Read.val_main_v24 Cert.ReferenceGmlpIdeal.Read.val_main_v23 Cert.ReferenceGmlpIdeal.Read.val_main_v22 Cert.ReferenceGmlpIdeal.Read.val_main_v21 Cert.ReferenceGmlpIdeal.Read.val_main_v20 Cert.ReferenceGmlpIdeal.Read.val_main_v19 Cert.ReferenceGmlpIdeal.Read.val_main_v14 Cert.ReferenceGmlpIdeal.Read.val_main_cst_5 Cert.ReferenceGmlpIdeal.Read.val_main_cst_6 Cert.ReferenceGmlpIdeal.Read.val_main_cst_7
  generalize Cert.ReferenceGmlpIdeal.Read.val_main_v12 (F := Ideal) x0 = y at h ⊢
  generalize Cert.ReferenceGmlpIdeal.Read.val_main_v18 (F := Ideal) x0 = z at h8 ⊢
  pointwise []
  simp only [h, h8]
  rfl

/-- A row of all the rows, from its chunk and its place in the chunk. -/
abbrev grow (a p : Fin 128) : Fin 16384 := ⟨128 * a.val + p.val, by omega⟩

/-- The reference's result at an element. -/
theorem ref_apply (a p : Fin 128) (n : Fin 4) (d : Fin 512) : Cert.ReferenceGmlpIdeal.Read.val_main_v52 (F := Ideal) x0 x1 x2 x3 x4 (ix2 (grow a p) (lane n d))
    = gate (fun x => x0 (ix2 (grow a p) (low x))) (fun q x => x0 (ix2 (grow a q) (half x))) (fun x => x1 (ix2 0 x)) (fun x => x2 (ix2 0 x))
        (fun q => x3 (ix4 0 n p q)) (x4 (ix3 0 n p)) (lane n d) := by
  have h := ref_gelu x0
  have hn := ref_norm x0 x1 x2
  unfold Cert.ReferenceGmlpIdeal.Read.val_main_v52 Cert.ReferenceGmlpIdeal.Read.val_main_v51 Cert.ReferenceGmlpIdeal.Read.val_main_v50 Cert.ReferenceGmlpIdeal.Read.val_main_v49 Cert.ReferenceGmlpIdeal.Read.val_main_v48 Cert.ReferenceGmlpIdeal.Read.val_main_v47 Cert.ReferenceGmlpIdeal.Read.val_main_v46 Cert.ReferenceGmlpIdeal.Read.val_main_v45 Cert.ReferenceGmlpIdeal.Read.val_main_v44 Cert.ReferenceGmlpIdeal.Read.val_main_v43 Cert.ReferenceGmlpIdeal.Read.val_main_v42 Cert.ReferenceGmlpIdeal.Read.val_main_v41 Cert.ReferenceGmlpIdeal.Read.val_main_v13
  generalize Cert.ReferenceGmlpIdeal.Read.val_main_v12 (F := Ideal) x0 = y at h ⊢
  generalize Cert.ReferenceGmlpIdeal.Read.val_main_v40 (F := Ideal) x0 x1 x2 = z at hn ⊢
  have e1 : (512 * n.val + d.val) / 512 = n.val := by omega
  have e2 : (512 * n.val + d.val) % 512 = d.val := by omega
  have e3 : (128 * a.val + p.val) / 128 = a.val := by omega
  have e4 : (128 * a.val + p.val) % 128 = p.val := by omega
  pointwise []
  simp only [e1, e2, e3, e4]
  refine congrArg₂ (fun s t : EReal => s * t) (h _ _) (congrArg (fun s : EReal => s + x4 (ix3 0 n p)) (Finset.sum_congr rfl fun q _ => ?_))
  refine (mul_comm _ _).trans (congrArg (fun s : EReal => x3 (ix4 0 n p q) * s) (Eq.trans ?_ (hn (grow a q) (lane n d))))
  exact congrArg z (Mm.eq_ix2_of _ _ _ (by show a.val * 128 + q.val = 128 * a.val + q.val; omega) (by show n.val * 512 + d.val = 512 * n.val + d.val; omega))

end

end Cert.KernelGmlpIdeal.Hand
end
-- ==== Proof.Gmlp.Run.lean ====
/-
  The spatial gating: the call's result array after its run is the plain reference's result of the argument
  arrays; the five claims.
-/
module

public import proofs.«01_k».proof.Proof.Gen.KernelGmlp.Frame
public import proofs.«01_k».proof.Proof.Gen.ReferenceGmlpIdeal.Run
public import Idealize.ShloMosaic.Lib.Quiescent
public import proofs.«01_k».proof.Proof.Gmlp.Pay

@[expose] public section

set_option maxRecDepth 16384

noncomputable section

namespace Cert.KernelGmlpIdeal.Hand

open Cert.KernelGmlpIdeal Cert.KernelGmlpIdeal.Gen Idealize.ShloMosaic Idealize.ShloMosaic.TcCoe Idealize.SL.Sem
open Idealize.ShloMosaic.StableHlo (after)

variable (m : (ℓ : Loc nD τ sig) → Buf (Elt Ideal) ℓ) (ρ : Dev nD → PrngReg) (c : Dev nD)

/-- A load of a whole array of rows is the array. -/
theorem ld_rows (x : Vec Ideal S512x2048 .f32) : View.ld x r0_0 = x :=
  funext fun j => View.ld_unit_apply_of x _ _ _ _ j fun a => match a with
    | ⟨0, _⟩ => (Nat.zero_add _).symm
    | ⟨1, _⟩ => (Nat.zero_add _).symm

/-- A load of a whole row is the row. -/
theorem ld_row (x : Vec Ideal S1x2048 .f32) : View.ld x r0_1 = x :=
  funext fun j => View.ld_unit_apply_of x _ _ _ _ j fun a => match a with
    | ⟨0, _⟩ => (Nat.zero_add _).symm
    | ⟨1, _⟩ => (Nat.zero_add _).symm

/-- A load of the whole bias is the bias. -/
theorem ld_bias (x : Vec Ideal S128x2048 .f32) : View.ld x r0_2 = x :=
  funext fun j => View.ld_unit_apply_of x _ _ _ _ j fun a => match a with
    | ⟨0, _⟩ => (Nat.zero_add _).symm
    | ⟨1, _⟩ => (Nat.zero_add _).symm

/-- The four heads' mixing matrices. -/
def wts (x4 : Vec Ideal S4x128x128 .bf16) : Fin 4 → Vec Ideal S1x128x128 .bf16 :=
  ![View.ld x4 r0_3, View.ld x4 r0_4, View.ld x4 r0_5, View.ld x4 r0_6]

/-- A head's mixing matrix at an element. -/
theorem wts_apply (x4 : Vec Ideal S4x128x128 .bf16) (n : Fin 4) (p q : Fin 128) : wts x4 n (ix3 0 p q) = x4 (ix3 n p q) := by
  match n with
  | ⟨0, _⟩ | ⟨1, _⟩ | ⟨2, _⟩ | ⟨3, _⟩ =>
    refine View.ld_unit_apply_of x4 _ _ _ _ _ fun a => ?_
    match a with
    | ⟨0, _⟩ => rfl
    | ⟨1, _⟩ => exact (Nat.zero_add _).symm
    | ⟨2, _⟩ => exact (Nat.zero_add _).symm

section
variable (x0 x1 : Vec Ideal S512x2048 .f32) (x2 x3 : Vec Ideal S1x2048 .f32) (x4 : Vec Ideal S4x128x128 .bf16) (x5 : Vec Ideal S128x2048 .f32)

/-- The stored value of a chunk. -/
abbrev piece (a : Fin 4) : FVec Ideal S128x2048 .bf16 :=
  gated a (k0_pay2 (View.ld x0 r0_0)) (k0_pay8 (k0_pay5 (View.ld x1 r0_0)) (k0_pay6 (View.ld x1 r0_0)) k0_pay7 (View.ld x2 r0_1) (View.ld x3 r0_1))
    (k0_pay9 (View.ld x5 r0_2)) (wts x4)

/-- The stored block's pieces are the four chunks. -/
theorem out_eq : out0_6 (F := Ideal) x0 x1 x2 x3 x4 x5
    = View.canon [⟨r0_10, piece x0 x1 x2 x3 x4 x5 3⟩, ⟨r0_9, piece x0 x1 x2 x3 x4 x5 2⟩, ⟨r0_8, piece x0 x1 x2 x3 x4 x5 1⟩, ⟨r0_7, piece x0 x1 x2 x3 x4 x5 0⟩] := rfl

/-- A chunk's stored value at an element. -/
theorem piece_apply (a n : Fin 4) (p : Fin 128) (d : Fin 512) : piece x0 x1 x2 x3 x4 x5 a (ix2 p (lane n d))
    = gate (fun x => x0 (ix2 (row a p) x)) (fun q x => x1 (ix2 (row a q) x)) (fun x => x2 (ix2 0 x)) (fun x => x3 (ix2 0 x))
        (fun q => x4 (ix3 n p q)) (x5 (ix2 p (lane n d))) (lane n d) := by
  unfold piece
  rw [gated_apply, ld_rows, ld_rows, ld_row, ld_row, ld_bias, pay2_apply]
  unfold gate
  simp only [pay8_apply, wts_apply]
  rw [show k0_pay9 x5 = x5 from shapeCast_self x5 _]

/-- A chunk's piece, where it holds an index of the block. -/
theorem piece_at (b : Fin 4) (o : Nat) (ho : o = 128 * b.val) (inb : ∀ k, (![o, 0] : Fin 2 → Nat) k + S128x2048.size k ≤ S512x2048.size k)
    (a n : Fin 4) (p : Fin 128) (d : Fin 512) :
    View.RectAt (Val := Elt Ideal) (e := .bf16) (ix2 (row a p) (lane n d) : S512x2048.Idx) (Rect.unit (s := S512x2048) ![o, 0] S128x2048.size inb) (piece x0 x1 x2 x3 x4 x5 b)
      (gate (fun x => x0 (ix2 (row a p) x)) (fun q x => x1 (ix2 (row a q) x)) (fun x => x2 (ix2 0 x)) (fun x => x3 (ix2 0 x))
        (fun q => x4 (ix3 n p q)) (x5 (ix2 p (lane n d))) (lane n d)) := by
  subst ho
  intro x hx
  have x0lt : (x 0).val < 128 := (x 0).isLt
  have h0 : 128 * b.val + 1 * (x 0).val = 128 * a.val + p.val := congrArg (fun y : S512x2048.Idx => (y 0).val) hx
  have h1 : 0 + 1 * (x 1).val = 512 * n.val + d.val := congrArg (fun y : S512x2048.Idx => (y 1).val) hx
  have hb : b = a := Fin.ext (by omega)
  subst hb
  have hxx : x = (ix2 p (lane n d) : S128x2048.Idx) := Mm.eq_ix2_of _ _ _ (by omega) (by rw [show (lane n d).val = 512 * n.val + d.val from rfl]; omega)
  rw [hxx]
  exact piece_apply x0 x1 x2 x3 x4 x5 b n p d

/-- What a point stores, at an element of its block. -/
theorem out_apply (a n : Fin 4) (p : Fin 128) (d : Fin 512) : out0_6 (F := Ideal) x0 x1 x2 x3 x4 x5 (ix2 (row a p) (lane n d))
    = gate (fun x => x0 (ix2 (row a p) x)) (fun q x => x1 (ix2 (row a q) x)) (fun x => x2 (ix2 0 x)) (fun x => x3 (ix2 0 x))
        (fun q => x4 (ix3 n p q)) (x5 (ix2 p (lane n d))) (lane n d) := by
  rw [out_eq]
  refine View.canon_eq_of_allAt _ _ _ (cover0_6 _ _ _ _ _) ?_
  refine View.allAt_cons _ _ _ (piece_at x0 x1 x2 x3 x4 x5 3 384 rfl _ a n p d) ?_
  refine View.allAt_cons _ _ _ (piece_at x0 x1 x2 x3 x4 x5 2 256 rfl _ a n p d) ?_
  refine View.allAt_cons _ _ _ (piece_at x0 x1 x2 x3 x4 x5 1 128 rfl _ a n p d) ?_
  refine View.allAt_cons _ _ _ (piece_at x0 x1 x2 x3 x4 x5 0 0 rfl _ a n p d) ?_
  exact View.allAt_nil _ _

end

/-- An argument array: the rows. -/
abbrev a0 : Vec Ideal S16384x4096 .f32 := m ((c : Thread nD τ).loc main_arg0)
/-- An argument array: the norm's weights. -/
abbrev a1 : Vec Ideal S1x2048 .f32 := m ((c : Thread nD τ).loc main_arg1)
/-- An argument array: the norm's biases. -/
abbrev a2 : Vec Ideal S1x2048 .f32 := m ((c : Thread nD τ).loc main_arg2)
/-- An argument array: the mixing matrices. -/
abbrev a3 : Vec Ideal S1x4x128x128 .f32 := m ((c : Thread nD τ).loc main_arg3)
/-- An argument array: the mixing biases. -/
abbrev a4 : Vec Ideal S1x4x128 .f32 := m ((c : Thread nD τ).loc main_arg4)

/-- The reference's result of device `c`'s argument arrays. -/
abbrev G : Buf (Elt Ideal) ((c : Thread nD τ).loc main_v10) :=
  ReferenceGmlpIdeal.Read.val_main_v52 (F := Ideal) (a0 m c) (a1 m c) (a2 m c) (a3 m c) (a4 m c)

/-- The staged norm weights. -/
theorem V_g (l : Fin 2048) : (V m c main_v7 : Vec Ideal S1x2048 .f32) (ix2 0 l) = a1 m c (ix2 0 l) := by
  show after hostOps0 (fun b => m (c, b)) (Proc.devRef .tc main_v7) (ix2 0 l) = _
  after_reads_simp
  pointwise []

/-- The staged norm biases. -/
theorem V_b (l : Fin 2048) : (V m c main_v8 : Vec Ideal S1x2048 .f32) (ix2 0 l) = a2 m c (ix2 0 l) := by
  show after hostOps0 (fun b => m (c, b)) (Proc.devRef .tc main_v8) (ix2 0 l) = _
  after_reads_simp
  pointwise []

/-- The staged mixing matrices. -/
theorem V_w (n : Fin 4) (p q : Fin 128) : (V m c main_v9 : Vec Ideal S4x128x128 .bf16) (ix3 n p q) = a3 m c (ix4 0 n p q) := by
  show after hostOps0 (fun b => m (c, b)) (Proc.devRef .tc main_v9) (ix3 n p q) = _
  after_reads_simp
  pointwise []

/-- The staged mixing biases. -/
theorem V_o (p : Fin 128) (n : Fin 4) (d : Fin 512) : (V m c main_v6 : Vec Ideal S128x2048 .f32) (ix2 p (lane n d)) = a4 m c (ix3 0 n p) := by
  have e1 : (512 * n.val + d.val) / 512 = n.val := by omega
  show after hostOps0 (fun b => m (c, b)) (Proc.devRef .tc main_v6) (ix2 p (lane n d)) = _
  after_reads_simp
  pointwise []
  simp only [e1]

/-- The block indices of the windows at a point, in closed form. -/
theorem idx_facts : ∀ t : Fin cfg0.N,
    win0_0.index t 0 = t.val ∧ win0_0.index t 1 = 0
    ∧ win0_1.index t 0 = t.val ∧ win0_1.index t 1 = 1
    ∧ win0_6.index t 0 = t.val ∧ win0_6.index t 1 = 0
    ∧ win0_2.index t 0 = 0 ∧ win0_2.index t 1 = 0
    ∧ win0_3.index t 0 = 0 ∧ win0_3.index t 1 = 0
    ∧ win0_5.index t 0 = 0 ∧ win0_5.index t 1 = 0
    ∧ win0_4.index t 0 = 0 ∧ win0_4.index t 1 = 0 ∧ win0_4.index t 2 = 0 :=
  (by decide +kernel : ∀ t : Fin grid0.N,
    win0_0.index t 0 = t.val ∧ win0_0.index t 1 = 0
    ∧ win0_1.index t 0 = t.val ∧ win0_1.index t 1 = 1
    ∧ win0_6.index t 0 = t.val ∧ win0_6.index t 1 = 0
    ∧ win0_2.index t 0 = 0 ∧ win0_2.index t 1 = 0
    ∧ win0_3.index t 0 = 0 ∧ win0_3.index t 1 = 0
    ∧ win0_5.index t 0 = 0 ∧ win0_5.index t 1 = 0
    ∧ win0_4.index t 0 = 0 ∧ win0_4.index t 1 = 0 ∧ win0_4.index t 2 = 0)

/-- A point's block of the rows' first halves, read at an element. -/
theorem blk0 (t : Fin cfg0.N) (r : Fin 512) (l : Fin 2048) (i : Fin 16384) (hi : i.val = 512 * t.val + r.val) :
    iblk m c 0 t (ix2 r l) = a0 m c (ix2 i (low l)) := by
  unfold iblk
  rw [View.read_apply]
  show V m c main_arg0 _ = _
  rw [V_main_arg0]
  have e := idx_facts t
  refine congrArg (a0 m c) (Mm.eq_ix2_of _ _ _ ?_ ?_)
  · show win0_0.index t 0 * 512 + 1 * r.val = i.val; rw [e.1, hi]; omega
  · show win0_0.index t 1 * 2048 + 1 * l.val = l.val; rw [e.2.1]; omega

/-- A point's block of the rows' second halves, read at an element. -/
theorem blk1 (t : Fin cfg0.N) (r : Fin 512) (l : Fin 2048) (i : Fin 16384) (hi : i.val = 512 * t.val + r.val) :
    iblk m c 1 t (ix2 r l) = a0 m c (ix2 i (half l)) := by
  unfold iblk
  rw [View.read_apply]
  show V m c main_arg0 _ = _
  rw [V_main_arg0]
  have e := idx_facts t
  refine congrArg (a0 m c) (Mm.eq_ix2_of _ _ _ ?_ ?_)
  · show win0_1.index t 0 * 512 + 1 * r.val = i.val; rw [e.2.2.1, hi]; omega
  · show win0_1.index t 1 * 2048 + 1 * l.val = 2048 + l.val; rw [e.2.2.2.1]; omega

/-- A point's block of the norm's weights, read at an element. -/
theorem blk2 (t : Fin cfg0.N) (k : Fin 2048) : iblk m c 2 t (ix2 0 k) = a1 m c (ix2 0 k) := by
  unfold iblk
  rw [View.read_apply]
  show (V m c main_v7 : Vec Ideal S1x2048 .f32) _ = _
  have e := idx_facts t
  refine Eq.trans ?_ (V_g m c k)
  refine congrArg (V m c main_v7 : Vec Ideal S1x2048 .f32) (Mm.eq_ix2_of _ _ _ ?_ ?_)
  · show win0_2.index t 0 * 1 + 1 * 0 = 0; rw [e.2.2.2.2.2.2.1]
  · show win0_2.index t 1 * 2048 + 1 * k.val = k.val; rw [e.2.2.2.2.2.2.2.1]; omega

/-- A point's block of the norm's biases, read at an element. -/
theorem blk3 (t : Fin cfg0.N) (k : Fin 2048) : iblk m c 3 t (ix2 0 k) = a2 m c (ix2 0 k) := by
  unfold iblk
  rw [View.read_apply]
  show (V m c main_v8 : Vec Ideal S1x2048 .f32) _ = _
  have e := idx_facts t
  refine Eq.trans ?_ (V_b m c k)
  refine congrArg (V m c main_v8 : Vec Ideal S1x2048 .f32) (Mm.eq_ix2_of _ _ _ ?_ ?_)
  · show win0_3.index t 0 * 1 + 1 * 0 = 0; rw [e.2.2.2.2.2.2.2.2.1]
  · show win0_3.index t 1 * 2048 + 1 * k.val = k.val; rw [e.2.2.2.2.2.2.2.2.2.1]; omega

/-- A point's block of the mixing matrices, read at an element. -/
theorem blk4 (t : Fin cfg0.N) (n : Fin 4) (p q : Fin 128) : iblk m c 4 t (ix3 n p q) = a3 m c (ix4 0 n p q) := by
  unfold iblk
  rw [View.read_apply]
  show (V m c main_v9 : Vec Ideal S4x128x128 .bf16) _ = _
  have e := idx_facts t
  refine Eq.trans ?_ (V_w m c n p q)
  refine congrArg (V m c main_v9 : Vec Ideal S4x128x128 .bf16) (funext fun b => Fin.ext ?_)
  match b with
  | ⟨0, _⟩ => show win0_4.index t 0 * 4 + 1 * n.val = n.val; rw [e.2.2.2.2.2.2.2.2.2.2.2.2.1]; omega
  | ⟨1, _⟩ => show win0_4.index t 1 * 128 + 1 * p.val = p.val; rw [e.2.2.2.2.2.2.2.2.2.2.2.2.2.1]; omega
  | ⟨2, _⟩ => show win0_4.index t 2 * 128 + 1 * q.val = q.val; rw [e.2.2.2.2.2.2.2.2.2.2.2.2.2.2]; omega

/-- A point's block of the mixing biases, read at an element. -/
theorem blk5 (t : Fin cfg0.N) (p : Fin 128) (n : Fin 4) (d : Fin 512) : iblk m c 5 t (ix2 p (lane n d)) = a4 m c (ix3 0 n p) := by
  unfold iblk
  rw [View.read_apply]
  show (V m c main_v6 : Vec Ideal S128x2048 .f32) _ = _
  have e := idx_facts t
  refine Eq.trans ?_ (V_o m c p n d)
  refine congrArg (V m c main_v6 : Vec Ideal S128x2048 .f32) (Mm.eq_ix2_of _ _ _ ?_ ?_)
  · show win0_5.index t 0 * 128 + 1 * p.val = p.val; rw [e.2.2.2.2.2.2.2.2.2.2.1]; omega
  · show win0_5.index t 1 * 2048 + 1 * (lane n d).val = (lane n d).val; rw [e.2.2.2.2.2.2.2.2.2.2.2.1]; omega

/-- The gated value of equal rows. -/
theorem gate_congr {u u' : Fin 2048 → EReal} {v v' : Fin 128 → Fin 2048 → EReal} {g g' b b' : Fin 2048 → EReal} {w w' : Fin 128 → EReal} {o o' : EReal}
    (l : Fin 2048) (hu : ∀ x, u x = u' x) (hv : ∀ q x, v q x = v' q x) (hg : ∀ x, g x = g' x) (hb : ∀ x, b x = b' x) (hw : ∀ q, w q = w' q)
    (ho : o = o') : gate u v g b w o l = gate u' v' g' b' w' o' l := by
  rw [funext hu, funext fun q => funext (hv q), funext hg, funext hb, funext hw, ho]

/-- What a point writes back is its block of the reference's result. -/
theorem flushed_eq (t : Fin cfg0.N) : (dats m 0 c).flushed 6 t = (win0_6.blk t).view.read (Elt Ideal) (G m c) := by
  have ht : t.val < 32 := N_0 ▸ t.isLt
  have e := idx_facts t
  rw [Value.flushed6]
  funext y
  rw [View.read_apply]
  show out0_6 (iblk m c 0 t) (iblk m c 1 t) (iblk m c 2 t) (iblk m c 3 t) (iblk m c 4 t) (iblk m c 5 t) y = G m c _
  have y0 : (y 0).val < 512 := (y 0).isLt
  have y1 : (y 1).val < 2048 := (y 1).isLt
  obtain ⟨a, p, hr⟩ : ∃ (a : Fin 4) (p : Fin 128), (row a p).val = (y 0).val :=
    ⟨⟨(y 0).val / 128, by omega⟩, ⟨(y 0).val % 128, by omega⟩, by dsimp only; omega⟩
  obtain ⟨n, d, hl⟩ : ∃ (n : Fin 4) (d : Fin 512), (lane n d).val = (y 1).val :=
    ⟨⟨(y 1).val / 512, by omega⟩, ⟨(y 1).val % 512, by omega⟩, by dsimp only; omega⟩
  have hy : y = (ix2 (row a p) (lane n d) : S512x2048.Idx) := Mm.eq_ix2_of _ _ _ hr.symm hl.symm
  subst hy
  have hg : ∀ q : Fin 128, (grow ⟨4 * t.val + a.val, by omega⟩ q).val = 512 * t.val + (row a q).val := fun q => by dsimp only; omega
  have hp : (win0_6.blk t).view.emb (ix2 (row a p) (lane n d) : S512x2048.Idx)
      = (ix2 (grow ⟨4 * t.val + a.val, by omega⟩ p) (lane n d) : S16384x2048.Idx) := by
    refine Mm.eq_ix2_of _ _ _ ?_ ?_
    · show win0_6.index t 0 * 512 + 1 * (row a p).val = _; rw [e.2.2.2.2.1, hg]; omega
    · show win0_6.index t 1 * 2048 + 1 * (lane n d).val = (lane n d).val; rw [e.2.2.2.2.2.1]; omega
  rw [hp]
  refine (out_apply (iblk m c 0 t) (iblk m c 1 t) (iblk m c 2 t) (iblk m c 3 t) (iblk m c 4 t) (iblk m c 5 t) a n p d).trans ?_
  refine Eq.trans ?_ (ref_apply (a0 m c) (a1 m c) (a2 m c) (a3 m c) (a4 m c) ⟨4 * t.val + a.val, by omega⟩ p n d).symm
  exact gate_congr _ (fun x => blk0 m c t _ x _ (hg p)) (fun q x => blk1 m c t _ x _ (hg q)) (fun x => blk2 m c t x) (fun x => blk3 m c t x)
    (fun q => blk4 m c t n p q) (blk5 m c t p n d)

/-- Every index of the result array is in some point's block. -/
theorem cover (i : S16384x2048.Idx) : ∃ t : Fin cfg0.N, (cfg0.win 6).flush t = true ∧ i ∈ ((cfg0.win 6).blk t).view.set := by
  have h0 : (i 0).val < 16384 := (i 0).isLt
  have h1 : (i 1).val < 2048 := (i 1).isLt
  have hN : (i 0).val / 512 < cfg0.N := by show _ < grid0.N; rw [N_0]; omega
  refine ⟨⟨(i 0).val / 512, hN⟩, flush0_6 _, ?_⟩
  show i ∈ ((View.whole main_v10).slice (win0_6.rect ⟨(i 0).val / 512, hN⟩)).set
  rw [View.set_slice_whole, Rect.mem_set_unit]
  have e := idx_facts ⟨(i 0).val / 512, hN⟩
  dsimp only at e
  intro b
  match b with
  | ⟨0, _⟩ => show win0_6.index _ 0 * 512 ≤ (i 0).val ∧ (i 0).val < win0_6.index _ 0 * 512 + 512; rw [e.2.2.2.2.1]; omega
  | ⟨1, _⟩ => show win0_6.index _ 1 * 2048 ≤ (i 1).val ∧ (i 1).val < win0_6.index _ 1 * 2048 + 2048; rw [e.2.2.2.2.2.1]; omega

/-- The result array after the last point is the reference's result. -/
theorem final : (dats m 0 c).arrAt 6 cfg0.N = G m c :=
  (dats m 0 c).arrAt_eq_of_cover 6 (G m c) (fun t _ => flushed_eq m c t) cover

/-- The kernel as printed terminates without a fault, its arguments unchanged and every counter at zero. -/
theorem frame_kernel : quiescent_KernelGmlp := fun m ρ _ => KernelGmlp.Gen.frame m ρ
/-- The idealized kernel likewise. -/
theorem frame_kernelIdeal : quiescent_KernelGmlpIdeal := fun m ρ _ => KernelGmlpIdeal.Gen.frame m ρ
/-- The reference likewise. -/
theorem frame_ref : quiescent_ReferenceGmlpIdeal := fun m ρ _ =>
  (θ_run _ _ _).mono (fun r h => ⟨fun c => (h c).2, sem_eq_zero_of_no_sems (by decide) r.2⟩) (ReferenceGmlpIdeal.Value.run (F := Ideal) m ρ)

/-- The idealized kernel's result array equals the reference's. -/
theorem algebraic : algebraic_KernelGmlpIdeal_ReferenceGmlpIdeal := by
  intro m ρ m' ρ' _ hag
  refine ⟨fun c => G m c, (θ_run _ _ _).mono (fun _ h c => ⟨(h c).1.trans (final m c), (h c).2⟩) (Value.run_blocks m ρ), ?_⟩
  refine (θ_run _ _ _).mono (fun _ h c => ⟨((h c).1.trans (ReferenceGmlpIdeal.Read.val_main_v52_eq ..)).trans ?_, (h c).2⟩)
    (ReferenceGmlpIdeal.Value.run (F := Ideal) m' ρ')
  obtain ⟨h0, h1, h2, h3, h4⟩ := hag c
  rw [h0, h1, h2, h3, h4]

end Cert.KernelGmlpIdeal.Hand
end
-- ==== Proof.Post.Pay.lean ====
/-
  The group norm after the two scans: the sums over a head's lanes the kernel takes by a product with a 0/1 matrix,
  and what a point stores at an element of its block.
-/
module

public import proofs.«01_k».proof.Defs
public import proofs.«01_k».proof.Proof.Gen.KernelPostIdeal.Value
public import Idealize.ShloMosaic.Lib.Pipeline.ValueKit
public import Idealize.ShloMosaic.Lib.Pointwise
public import Idealize.ShloMosaic.Lib.StableHlo.RunRead
public import proofs.«01_k».proof.Proof.Mm.Base

@[expose] public section

set_option maxRecDepth 16384

noncomputable section

namespace Cert.KernelPostIdeal.Hand

open Cert.KernelPostIdeal Cert.KernelPostIdeal.Gen Idealize.ShloMosaic Idealize.ShloMosaic.TcCoe Idealize.SL.Sem
open Idealize.ShloMosaic.StableHlo (after)

/-- A block of 128 columns lies in the 2048. -/
theorem cols : ∀ n : Fin 16, S512x2048.Slices ![0, 128 * n.val] S512x128 := by decide
/-- A band of 512 rows lies in the 8192. -/
theorem bands : ∀ n : Fin 16, S8192x128.Slices ![512 * n.val, 0] S512x128 := by decide
/-- Sixteen blocks stacked make the 8192 rows. -/
theorem piled {α : Type} {f : Fin 16 → (S512x128.Idx → α)} :
    Shape.Concatenates ((List.ofFn fun n : Fin 16 => (⟨S512x128, f n⟩ : (s : Shape) × (s.Idx → α))).map (·.1)) S8192x128 0 :=
  (by decide : Shape.Concatenates (List.replicate 16 S512x128) S8192x128 0)
/-- Sixteen bands side by side make the 2048 columns. -/
theorem joined {α : Type} {f : Fin 16 → (S512x128.Idx → α)} :
    Shape.Concatenates ((List.ofFn fun n : Fin 16 => (⟨S512x128, f n⟩ : (s : Shape) × (s.Idx → α))).map (·.1)) S512x2048 1 :=
  (by decide : Shape.Concatenates (List.replicate 16 S512x128) S512x2048 1)

/-- The sixteen column blocks of 128 lanes, stacked as rows. -/
def stack (y : Vec Ideal S512x2048 .f32) : FVec Ideal S8192x128 .f32 :=
  concatenate S8192x128 0 (List.ofFn fun n : Fin 16 => ⟨S512x128, extractStridedSlice S512x128 ![0, 128 * n.val] y
    (cols n)⟩) piled

/-- The stacked rows laid side by side again. -/
def unstack (s : FVec Ideal S8192x128 .f32) : FVec Ideal S512x2048 .f32 :=
  concatenate S512x2048 1 (List.ofFn fun n : Fin 16 => ⟨S512x128, extractStridedSlice S512x128 ![512 * n.val, 0] s
    (bands n)⟩) joined

/-- The product of the stacked blocks with the matrix, unstacked. -/
def hsum (y : Vec Ideal S512x2048 .f32) (j : Vec Ideal S128x128 .bf16) : FVec Ideal S512x2048 .f32 :=
  unstack (matmul dot_S8192x128_S128x128_S8192x128_1_0_0_1_n_n none (truncf .bf16 (stack y) bitsLt_bf16_f32)
    (shapeCast S128x128 j shapeCasts_S128x128_S128x128 : FVec Ideal S128x128 .bf16) (constant S8192x128 .f32 0x00000000#32))

/-- A stacked row at an element. -/
theorem stack_apply (y : Vec Ideal S512x2048 .f32) (n : Fin 16) (r : Fin 512) (k : Fin 128) :
    stack y (ix2 ⟨512 * n.val + r.val, by omega⟩ k) = y (ix2 r ⟨128 * n.val + k.val, by omega⟩) := by
  unfold stack
  refine (concatenate_ofFn_apply (s₁ := S512x128) 0 (fun n : Fin 16 => extractStridedSlice S512x128 ![0, 128 * n.val] y
    (cols n)) piled rfl 512 rfl _ n ?_ (ix2 r k) ?_ ?_).trans ?_
  · show (512 * n.val + r.val) / 512 = n.val; omega
  · show r.val = (512 * n.val + r.val) % 512; omega
  · intro b hb
    match b with
    | ⟨0, _⟩ => exact absurd rfl hb
    | ⟨1, _⟩ => rfl
  · pointwise []

/-- An unstacked row at an element. -/
theorem unstack_apply (s : FVec Ideal S8192x128 .f32) (n : Fin 16) (r : Fin 512) (k : Fin 128) :
    unstack s (ix2 r ⟨128 * n.val + k.val, by omega⟩) = s (ix2 ⟨512 * n.val + r.val, by omega⟩ k) := by
  unfold unstack
  refine (concatenate_ofFn_apply (s₁ := S512x128) 1 (fun n : Fin 16 => extractStridedSlice S512x128 ![512 * n.val, 0] s
    (bands n)) joined rfl 128 rfl _ n ?_ (ix2 r k) ?_ ?_).trans ?_
  · show (128 * n.val + k.val) / 128 = n.val; omega
  · show k.val = (128 * n.val + k.val) % 128; omega
  · intro b hb
    match b with
    | ⟨0, _⟩ => rfl
    | ⟨1, _⟩ => exact absurd rfl hb
  · pointwise []

/-- The 0/1 matrix: ones where the two lanes are of one head. -/
def sameHead (j : Vec Ideal S128x128 .bf16) : Prop :=
  ∀ k l : Fin 128, j (ix2 k l) = if k.val / 64 = l.val / 64 then (1 : EReal) else 0

/-- A sum over 128 lanes weighted by one head's indicator is the sum over the head's 64 lanes. -/
theorem sum_head (f : Fin 128 → EReal) (q : Fin 2) :
    ∑ k : Fin 128, f k * (if k.val / 64 = q.val then (1 : EReal) else 0) = ∑ x : Fin 64, f ⟨64 * q.val + x.val, by omega⟩ := by
  rw [show (∑ k : Fin 128, f k * (if k.val / 64 = q.val then (1 : EReal) else 0))
    = ∑ k : Fin (64 + 64), f k * (if k.val / 64 = q.val then (1 : EReal) else 0) from rfl, Fin.sum_univ_add]
  match q with
  | ⟨0, _⟩ =>
    rw [show (∑ x : Fin 64, f (Fin.natAdd 64 x) * (if (Fin.natAdd 64 x).val / 64 = 0 then (1 : EReal) else 0)) = 0 from
      Finset.sum_eq_zero fun x _ => by rw [if_neg (by show ¬ (64 + x.val) / 64 = 0; omega), mul_zero], add_zero]
    refine Finset.sum_congr rfl fun x _ => ?_
    rw [if_pos (by show x.val / 64 = 0; omega), mul_one]
    exact congrArg f (Fin.ext (by show x.val = 64 * 0 + x.val; omega))
  | ⟨1, _⟩ =>
    rw [show (∑ x : Fin 64, f (Fin.castAdd 64 x) * (if (Fin.castAdd 64 x).val / 64 = 1 then (1 : EReal) else 0)) = 0 from
      Finset.sum_eq_zero fun x _ => by rw [if_neg (by show ¬ x.val / 64 = 1; omega), mul_zero], zero_add]
    refine Finset.sum_congr rfl fun x _ => ?_
    rw [if_pos (by show (64 + x.val) / 64 = 1; omega), mul_one]
    exact congrArg f (Fin.ext (by show 64 + x.val = 64 * 1 + x.val; omega))

/-- A lane of the 2048, from its head and its place in the head. -/
abbrev lane (h : Fin 32) (d : Fin 64) : Fin 2048 := ⟨64 * h.val + d.val, by omega⟩

/-- The product with the matrix at an element. -/
theorem mm_apply (a : FVec Ideal S8192x128 .bf16) (j : FVec Ideal S128x128 .bf16) (i : Fin 8192) (l : Fin 128) :
    matmul dot_S8192x128_S128x128_S8192x128_1_0_0_1_n_n none a j (constant S8192x128 .f32 0x00000000#32) (ix2 i l)
      = ∑ k : Fin 128, a (ix2 i k) * j (ix2 k l) := by
  pointwise []

/-- The kernel's sum at a lane, as the sum over the lane's block of 128. -/
theorem hsum_block (y : Vec Ideal S512x2048 .f32) (j : Vec Ideal S128x128 .bf16) (r : Fin 512) (n : Fin 16) (l : Fin 128) :
    hsum y j (ix2 r ⟨128 * n.val + l.val, by omega⟩)
      = ∑ k : Fin 128, y (ix2 r ⟨128 * n.val + k.val, by omega⟩) * j (ix2 k l) := by
  unfold hsum
  rw [unstack_apply, shapeCast_self, mm_apply]
  exact Finset.sum_congr rfl fun k _ => congrArg (· * j (ix2 k l)) (stack_apply y n r k)

/-- The kernel's sum at a lane is the sum over the lane's head. -/
theorem hsum_apply (y : Vec Ideal S512x2048 .f32) (j : Vec Ideal S128x128 .bf16) (hj : sameHead j) (r : Fin 512) (h : Fin 32) (d : Fin 64) :
    hsum y j (ix2 r (lane h d)) = ∑ x : Fin 64, y (ix2 r (lane h x)) := by
  have hq : (64 * (h.val % 2) + d.val) / 64 = h.val % 2 := by omega
  have e : ∀ x : Fin 64, lane h x = ⟨128 * (h.val / 2) + (64 * (h.val % 2) + x.val), by omega⟩ := fun x => Fin.ext (by dsimp only; omega)
  rw [e d]
  refine (hsum_block y j r ⟨h.val / 2, by omega⟩ ⟨64 * (h.val % 2) + d.val, by omega⟩).trans ?_
  refine (Finset.sum_congr rfl fun k _ => congrArg (y (ix2 r ⟨128 * (h.val / 2) + k.val, by omega⟩) * ·)
    ((hj k ⟨64 * (h.val % 2) + d.val, by omega⟩).trans
      (show (if k.val / 64 = (64 * (h.val % 2) + d.val) / 64 then (1 : EReal) else 0) = if k.val / 64 = h.val % 2 then 1 else 0 by rw [hq]))).trans ?_
  refine (sum_head (fun k => y (ix2 r ⟨128 * (h.val / 2) + k.val, by omega⟩)) ⟨h.val % 2, by omega⟩).trans ?_
  exact Finset.sum_congr rfl fun x _ => congrArg (fun l => y (ix2 r l)) (e x).symm

/-- The literal 64. -/
theorem lit_64 : Ideal.ofBits .f32 0x42800000#32 = ((64 : ℝ) : EReal) := by
  simp [Ideal.ofBits, Ideal.ieee, -EReal.coe_mul]; norm_num

/-- The literal 1/64. -/
theorem lit_inv64 : Ideal.ofBits .f32 0x3C800000#32 = ((1 / 64 : ℝ) : EReal) := by
  simp [Ideal.ofBits, Ideal.ieee, -EReal.coe_mul]; norm_num

/-- Times 1/64 is divided by 64. -/
theorem mul_inv64 (x : EReal) : x * Ideal.ofBits .f32 0x3C800000#32 = Ideal.div x (Ideal.ofBits .f32 0x42800000#32) := by
  rw [lit_64, lit_inv64, Ideal.div_coe (by norm_num)]

/-- A head's lanes less their mean. -/
def cent (y : Fin 64 → EReal) (d : Fin 64) : EReal := y d - Ideal.div (∑ x, y x) (Ideal.ofBits .f32 0x42800000#32)

/-- The group norm, the bonus and the gate at a lane of a head. -/
def post (y gg gb bo ga : Fin 64 → EReal) (d : Fin 64) : EReal :=
  (cent y d * Ideal.rsqrt (Ideal.div (∑ x, cent y x * cent y x) (Ideal.ofBits .f32 0x42800000#32) + Ideal.ofBits .f32 0x3A27C5AC#32)
    * gg d + gb d + bo d) * ga d

section
variable (v0 v1 : Vec Ideal S512x2048 .f32) (j : Vec Ideal S128x128 .bf16)

/-- The centred sum of the two scans' outputs, by head sums. -/
theorem pay2_eq : k0_pay2 (F := Ideal) v0 v1 j
    = subf (addf (F := Ideal) (φ := .f32) v0 v1) (mulf (hsum (addf (F := Ideal) (φ := .f32) v0 v1) j) (broadcast S512x2048 (Scalar.ofBits .f32 0x3C800000#32))) := rfl

/-- The stored block, by head sums. -/
theorem pay10_eq (gg gb : Vec Ideal S1x2048 .f32) (bo : Vec Ideal S512x2048 .bf16) :
    k0_pay10 (F := Ideal) (k0_pay2 v0 v1 j) (k0_pay3 v0 v1 j) (k0_pay4 v0 v1 j) (k0_pay5 v0 v1 j) (k0_pay6 v0 v1 j) (k0_pay7 v0 v1 j)
      (k0_pay8 v0 v1 j) (k0_pay9 v0 v1 j) j gg gb bo
    = addf (addf (mulf (mulf (k0_pay2 v0 v1 j) (rsqrt (addf (mulf (hsum (k0_pay3 v0 v1 j) j) (broadcast S512x2048 (Scalar.ofBits .f32 0x3C800000#32)))
        (broadcast S512x2048 (Scalar.ofBits .f32 0x3A27C5AC#32)))))
        (broadcastTo S512x2048 (shapeCast S1x2048 gg shapeCasts_S1x2048_S1x2048) broadcasts_S1x2048_S512x2048))
        (broadcastTo S512x2048 (shapeCast S1x2048 gb shapeCasts_S1x2048_S1x2048) broadcasts_S1x2048_S512x2048))
        (extf .f32 bo bitsLt_bf16_f32) := rfl

variable (hj : sameHead j)
include hj

/-- The centred sum at an element. -/
theorem pay2_apply (r : Fin 512) (h : Fin 32) (d : Fin 64) :
    k0_pay2 (F := Ideal) v0 v1 j (ix2 r (lane h d)) = cent (fun x => v0 (ix2 r (lane h x)) + v1 (ix2 r (lane h x))) d := by
  rw [pay2_eq]
  show v0 (ix2 r (lane h d)) + v1 (ix2 r (lane h d)) - hsum (addf (F := Ideal) (φ := .f32) v0 v1) j (ix2 r (lane h d)) * Ideal.ofBits .f32 0x3C800000#32 = _
  rw [hsum_apply _ _ hj, mul_inv64]
  rfl

/-- What a point stores, at an element of its block. -/
theorem pay_apply (gg gb : Vec Ideal S1x2048 .f32) (bo ga : Vec Ideal S512x2048 .bf16) (r : Fin 512) (h : Fin 32) (d : Fin 64) :
    k0_pay1 (F := Ideal) (k0_pay10 (k0_pay2 v0 v1 j) (k0_pay3 v0 v1 j) (k0_pay4 v0 v1 j) (k0_pay5 v0 v1 j) (k0_pay6 v0 v1 j) (k0_pay7 v0 v1 j)
      (k0_pay8 v0 v1 j) (k0_pay9 v0 v1 j) j gg gb bo) ga (ix2 r (lane h d))
    = post (fun x => v0 (ix2 r (lane h x)) + v1 (ix2 r (lane h x))) (fun x => gg (ix2 0 (lane h x))) (fun x => gb (ix2 0 (lane h x)))
      (fun x => bo (ix2 r (lane h x))) (fun x => ga (ix2 r (lane h x))) d := by
  rw [pay10_eq]
  generalize hy : k0_pay2 (F := Ideal) v0 v1 j = yc
  generalize hq : k0_pay3 (F := Ideal) v0 v1 j = sq
  have e1 : ∀ x, yc (ix2 r (lane h x)) = cent (fun x => v0 (ix2 r (lane h x)) + v1 (ix2 r (lane h x))) x := fun x => hy ▸ pay2_apply v0 v1 j hj r h x
  have e2 : ∀ x, sq (ix2 r (lane h x)) = yc (ix2 r (lane h x)) * yc (ix2 r (lane h x)) := fun x => by rw [← hq, ← hy]; rfl
  have e3 := hsum_apply sq j hj r h d
  generalize hsum sq j = hs at e3 ⊢
  pointwise [k0_pay1]
  rw [e3, mul_inv64, e1]
  unfold post
  simp only [e2, e1]

end

end Cert.KernelPostIdeal.Hand
end
-- ==== Proof.Post.Run.lean ====
/-
  The group norm after the two scans: the call's result array after its run is the plain reference's result of
  the argument arrays; the five claims.
-/
module

public import proofs.«01_k».proof.Proof.Gen.KernelPost.Frame
public import proofs.«01_k».proof.Proof.Gen.ReferencePostIdeal.Read
public import proofs.«01_k».proof.Proof.Gen.ReferencePostIdeal.Run
public import Idealize.ShloMosaic.Lib.Quiescent
public import proofs.«01_k».proof.Proof.Post.Pay

@[expose] public section

set_option maxRecDepth 16384

noncomputable section

namespace Cert.KernelPostIdeal.Hand

open Cert.KernelPostIdeal Cert.KernelPostIdeal.Gen Idealize.ShloMosaic Idealize.ShloMosaic.TcCoe Idealize.SL.Sem
open Idealize.ShloMosaic.StableHlo (after)

variable (m : (ℓ : Loc nD τ sig) → Buf (Elt Ideal) ℓ) (ρ : Dev nD → PrngReg) (c : Dev nD)

/-- An argument array: the forward scan's rows. -/
abbrev a0 : Vec Ideal S16384x2048 .f32 := m ((c : Thread nD τ).loc main_arg0)
/-- An argument array: the backward scan's rows. -/
abbrev a1 : Vec Ideal S16384x2048 .f32 := m ((c : Thread nD τ).loc main_arg1)
/-- An argument array: the bonus. -/
abbrev a2 : Vec Ideal S16384x2048 .bf16 := m ((c : Thread nD τ).loc main_arg2)
/-- An argument array: the gate. -/
abbrev a3 : Vec Ideal S16384x2048 .bf16 := m ((c : Thread nD τ).loc main_arg3)
/-- An argument array: the norm's weights. -/
abbrev a4 : Vec Ideal S1x2048 .f32 := m ((c : Thread nD τ).loc main_arg4)
/-- An argument array: the norm's biases. -/
abbrev a5 : Vec Ideal S1x2048 .f32 := m ((c : Thread nD τ).loc main_arg5)

/-- The reference's result of device `c`'s argument arrays. -/
abbrev G : Buf (Elt Ideal) ((c : Thread nD τ).loc main_v12) :=
  ReferencePostIdeal.Read.val_main_v35 (F := Ideal) (a0 m c) (a1 m c) (a2 m c) (a3 m c) (a4 m c) (a5 m c)

/-- The reference's result at an element. -/
theorem ref_apply (x0 x1 : FVec Ideal S16384x2048 .f32) (x2 x3 : FVec Ideal S16384x2048 .bf16) (x4 x5 : FVec Ideal S1x2048 .f32)
    (i : Fin 16384) (h : Fin 32) (d : Fin 64) :
    ReferencePostIdeal.Read.val_main_v35 (F := Ideal) x0 x1 x2 x3 x4 x5 (ix2 i (lane h d))
      = post (fun x => x0 (ix2 i (lane h x)) + x1 (ix2 i (lane h x))) (fun x => x4 (ix2 0 (lane h x))) (fun x => x5 (ix2 0 (lane h x)))
        (fun x => x2 (ix2 i (lane h x))) (fun x => x3 (ix2 i (lane h x))) d := by
  have e1 : (64 * h.val + d.val) / 64 = h.val := by omega
  have e2 : (64 * h.val + d.val) % 64 = d.val := by omega
  have e3 : ∀ x : Fin 64, (⟨h.val * 64 + x.val, by omega⟩ : Fin 2048) = lane h x := fun x => Fin.ext (by dsimp only; omega)
  pointwise [ReferencePostIdeal.Read.val_main_v0, ReferencePostIdeal.Read.val_main_v1, ReferencePostIdeal.Read.val_main_v2, ReferencePostIdeal.Read.val_main_v3, ReferencePostIdeal.Read.val_main_v4, ReferencePostIdeal.Read.val_main_v5, ReferencePostIdeal.Read.val_main_v6, ReferencePostIdeal.Read.val_main_v7, ReferencePostIdeal.Read.val_main_v8, ReferencePostIdeal.Read.val_main_v9, ReferencePostIdeal.Read.val_main_v10, ReferencePostIdeal.Read.val_main_v11, ReferencePostIdeal.Read.val_main_v12, ReferencePostIdeal.Read.val_main_v13, ReferencePostIdeal.Read.val_main_v14, ReferencePostIdeal.Read.val_main_v15, ReferencePostIdeal.Read.val_main_v16, ReferencePostIdeal.Read.val_main_v17, ReferencePostIdeal.Read.val_main_v18, ReferencePostIdeal.Read.val_main_v19, ReferencePostIdeal.Read.val_main_v20, ReferencePostIdeal.Read.val_main_v21, ReferencePostIdeal.Read.val_main_v22, ReferencePostIdeal.Read.val_main_v23, ReferencePostIdeal.Read.val_main_v24, ReferencePostIdeal.Read.val_main_v25, ReferencePostIdeal.Read.val_main_v26, ReferencePostIdeal.Read.val_main_v27, ReferencePostIdeal.Read.val_main_v28, ReferencePostIdeal.Read.val_main_v29, ReferencePostIdeal.Read.val_main_v30, ReferencePostIdeal.Read.val_main_v31, ReferencePostIdeal.Read.val_main_v32, ReferencePostIdeal.Read.val_main_v33, ReferencePostIdeal.Read.val_main_v34, ReferencePostIdeal.Read.val_main_v35, ReferencePostIdeal.Read.val_main_cst, ReferencePostIdeal.Read.val_main_cst_0, ReferencePostIdeal.Read.val_main_cst_1, ReferencePostIdeal.Read.val_main_cst_2, ReferencePostIdeal.Read.val_main_cst_3]
  simp only [e1, e2, e3]
  rfl

/-- The lane numbers divided by 64 and rounded down, as the host takes it. -/
def heads : IVec S128 32 :=
  select (andi (cmpi .ne (signi (iotaInDim S128 32 0)) (broadcastInDim S128 ![] bcast_S_S128 (signi (constantI S_ 32 64#32))))
      (cmpi .ne (Host.remsi (iotaInDim S128 32 0) (broadcastInDim S128 ![] bcast_S_S128 (constantI S_ 32 64#32)))
        (broadcastInDim S128 ![] bcast_S_S128 (constantI S_ 32 0#32))))
    (subi (Host.divsi (iotaInDim S128 32 0) (broadcastInDim S128 ![] bcast_S_S128 (constantI S_ 32 64#32)))
      (broadcastInDim S128 ![] bcast_S_S128 (constantI S_ 32 1#32)))
    (Host.divsi (iotaInDim S128 32 0) (broadcastInDim S128 ![] bcast_S_S128 (constantI S_ 32 64#32)))

/-- A lane's head within the block. -/
theorem heads_apply : ∀ k : Fin 128, heads (ix1 k) = BitVec.ofNat 32 (k.val / 64) := by
  unfold heads
  decide +kernel

/-- The matrix's entry from the two lanes' heads. -/
theorem entry : ∀ a b : Fin 2, FloatOps.uitofp (F := Ideal) .bf16 (IntOp.cmpi .eq (BitVec.ofNat 32 a.val) (BitVec.ofNat 32 b.val))
    = if a.val = b.val then (1 : EReal) else 0 := by
  intro a b
  match a, b with
  | 0, 0 => rw [if_pos rfl]; show (((1 : Nat) : ℝ) : EReal) = 1; norm_num
  | 0, 1 => rw [if_neg (by decide)]; show (((0 : Nat) : ℝ) : EReal) = 0; norm_num
  | 1, 0 => rw [if_neg (by decide)]; show (((0 : Nat) : ℝ) : EReal) = 0; norm_num
  | 1, 1 => rw [if_pos rfl]; show (((1 : Nat) : ℝ) : EReal) = 1; norm_num

/-- The staged matrix of heads. -/
theorem V_j : sameHead (V m c main_v7 : Vec Ideal S128x128 .bf16) := by
  intro k l
  show after (List.flatten [hostOps0, hostOps0_1, hostOps0_2]) (fun b => m (c, b)) (Proc.devRef .tc main_v7) (ix2 k l) = _
  after_reads_simp
  pointwise []
  show FloatOps.uitofp (F := Ideal) .bf16 (IntOp.cmpi .eq (heads (ix1 k)) (heads (ix1 l))) = _
  rw [heads_apply, heads_apply]
  exact entry ⟨k.val / 64, by omega⟩ ⟨l.val / 64, by omega⟩

/-- The staged weights. -/
theorem V_g (j : Fin 2048) : (V m c main_v10 : Vec Ideal S1x2048 .f32) (ix2 0 j) = a4 m c (ix2 0 j) := by
  show after (List.flatten [hostOps0, hostOps0_1, hostOps0_2]) (fun b => m (c, b)) (Proc.devRef .tc main_v10) (ix2 0 j) = _
  after_reads_simp
  pointwise []

/-- The staged biases. -/
theorem V_b (j : Fin 2048) : (V m c main_v11 : Vec Ideal S1x2048 .f32) (ix2 0 j) = a5 m c (ix2 0 j) := by
  show after (List.flatten [hostOps0, hostOps0_1, hostOps0_2]) (fun b => m (c, b)) (Proc.devRef .tc main_v11) (ix2 0 j) = _
  after_reads_simp
  pointwise []

/-- The block indices of the windows at a point, in closed form. -/
theorem idx_facts : ∀ t : Fin cfg0.N,
    win0_0.index t 0 = t.val ∧ win0_0.index t 1 = 0
    ∧ win0_1.index t 0 = t.val ∧ win0_1.index t 1 = 0
    ∧ win0_2.index t 0 = t.val ∧ win0_2.index t 1 = 0
    ∧ win0_3.index t 0 = t.val ∧ win0_3.index t 1 = 0
    ∧ win0_7.index t 0 = t.val ∧ win0_7.index t 1 = 0
    ∧ win0_4.index t 0 = 0 ∧ win0_4.index t 1 = 0
    ∧ win0_5.index t 0 = 0 ∧ win0_5.index t 1 = 0
    ∧ win0_6.index t 0 = 0 ∧ win0_6.index t 1 = 0 :=
  (by decide +kernel : ∀ t : Fin grid0.N,
    win0_0.index t 0 = t.val ∧ win0_0.index t 1 = 0
    ∧ win0_1.index t 0 = t.val ∧ win0_1.index t 1 = 0
    ∧ win0_2.index t 0 = t.val ∧ win0_2.index t 1 = 0
    ∧ win0_3.index t 0 = t.val ∧ win0_3.index t 1 = 0
    ∧ win0_7.index t 0 = t.val ∧ win0_7.index t 1 = 0
    ∧ win0_4.index t 0 = 0 ∧ win0_4.index t 1 = 0
    ∧ win0_5.index t 0 = 0 ∧ win0_5.index t 1 = 0
    ∧ win0_6.index t 0 = 0 ∧ win0_6.index t 1 = 0)

/-- A row of a block of 512 rows, at its place among all rows. -/
theorem row_at {ix : Fin 2 → Nat} (t : Fin cfg0.N) (h : ix 0 = t.val ∧ ix 1 = 0) (p : S16384x2048.Idx) (r : Fin 512) (k : Fin 2048) (i : Fin 16384)
    (hi : i.val = 512 * t.val + r.val) (h0 : (p 0).val = ix 0 * 512 + 1 * r.val) (h1 : (p 1).val = ix 1 * 2048 + 1 * k.val) : p = ix2 i k :=
  Mm.eq_ix2_of _ _ _ (by rw [h0, h.1, hi]; omega) (by rw [h1, h.2]; omega)

/-- A point's block of the forward rows, read at an element. -/
theorem blk0 (t : Fin cfg0.N) (r : Fin 512) (k : Fin 2048) (i : Fin 16384) (hi : i.val = 512 * t.val + r.val) :
    iblk m c 0 t (ix2 r k) = a0 m c (ix2 i k) := by
  unfold iblk
  rw [View.read_apply]
  show V m c main_arg0 _ = _
  rw [V_main_arg0]
  have e := idx_facts t
  exact congrArg (a0 m c) (row_at (ix := win0_0.index t) t ⟨e.1, e.2.1⟩ _ r k i hi rfl rfl)

/-- A point's block of the backward rows, read at an element. -/
theorem blk1 (t : Fin cfg0.N) (r : Fin 512) (k : Fin 2048) (i : Fin 16384) (hi : i.val = 512 * t.val + r.val) :
    iblk m c 1 t (ix2 r k) = a1 m c (ix2 i k) := by
  unfold iblk
  rw [View.read_apply]
  show V m c main_arg1 _ = _
  rw [V_main_arg1]
  have e := idx_facts t
  exact congrArg (a1 m c) (row_at (ix := win0_1.index t) t ⟨e.2.2.1, e.2.2.2.1⟩ _ r k i hi rfl rfl)

/-- A point's block of the bonus, read at an element. -/
theorem blk2 (t : Fin cfg0.N) (r : Fin 512) (k : Fin 2048) (i : Fin 16384) (hi : i.val = 512 * t.val + r.val) :
    iblk m c 2 t (ix2 r k) = a2 m c (ix2 i k) := by
  unfold iblk
  rw [View.read_apply]
  show V m c main_arg2 _ = _
  rw [V_main_arg2]
  have e := idx_facts t
  exact congrArg (a2 m c) (row_at (ix := win0_2.index t) t ⟨e.2.2.2.2.1, e.2.2.2.2.2.1⟩ _ r k i hi rfl rfl)

/-- A point's block of the gate, read at an element. -/
theorem blk3 (t : Fin cfg0.N) (r : Fin 512) (k : Fin 2048) (i : Fin 16384) (hi : i.val = 512 * t.val + r.val) :
    iblk m c 3 t (ix2 r k) = a3 m c (ix2 i k) := by
  unfold iblk
  rw [View.read_apply]
  show V m c main_arg3 _ = _
  rw [V_main_arg3]
  have e := idx_facts t
  exact congrArg (a3 m c) (row_at (ix := win0_3.index t) t ⟨e.2.2.2.2.2.2.1, e.2.2.2.2.2.2.2.1⟩ _ r k i hi rfl rfl)

/-- A point's block of the norm's weights, read at an element. -/
theorem blk4 (t : Fin cfg0.N) (k : Fin 2048) : iblk m c 4 t (ix2 0 k) = a4 m c (ix2 0 k) := by
  unfold iblk
  rw [View.read_apply]
  show (V m c main_v10 : Vec Ideal S1x2048 .f32) _ = _
  have e := idx_facts t
  refine Eq.trans ?_ (V_g m c k)
  refine congrArg (V m c main_v10 : Vec Ideal S1x2048 .f32) (Mm.eq_ix2_of _ _ _ ?_ ?_)
  · show win0_4.index t 0 * 1 + 1 * 0 = 0; rw [e.2.2.2.2.2.2.2.2.2.2.1]
  · show win0_4.index t 1 * 2048 + 1 * k.val = k.val; rw [e.2.2.2.2.2.2.2.2.2.2.2.1]; omega

/-- A point's block of the norm's biases, read at an element. -/
theorem blk5 (t : Fin cfg0.N) (k : Fin 2048) : iblk m c 5 t (ix2 0 k) = a5 m c (ix2 0 k) := by
  unfold iblk
  rw [View.read_apply]
  show (V m c main_v11 : Vec Ideal S1x2048 .f32) _ = _
  have e := idx_facts t
  refine Eq.trans ?_ (V_b m c k)
  refine congrArg (V m c main_v11 : Vec Ideal S1x2048 .f32) (Mm.eq_ix2_of _ _ _ ?_ ?_)
  · show win0_5.index t 0 * 1 + 1 * 0 = 0; rw [e.2.2.2.2.2.2.2.2.2.2.2.2.1]
  · show win0_5.index t 1 * 2048 + 1 * k.val = k.val; rw [e.2.2.2.2.2.2.2.2.2.2.2.2.2.1]; omega

/-- A point's matrix of heads. -/
theorem blk6 (t : Fin cfg0.N) : sameHead (iblk m c 6 t) := by
  intro k l
  refine Eq.trans ?_ (V_j m c k l)
  unfold iblk
  rw [View.read_apply]
  have e := idx_facts t
  refine congrArg (V m c main_v7 : Vec Ideal S128x128 .bf16) (Mm.eq_ix2_of _ _ _ ?_ ?_)
  · show win0_6.index t 0 * 128 + 1 * k.val = k.val; rw [e.2.2.2.2.2.2.2.2.2.2.2.2.2.2.1]; omega
  · show win0_6.index t 1 * 128 + 1 * l.val = l.val; rw [e.2.2.2.2.2.2.2.2.2.2.2.2.2.2.2]; omega

/-- The group norm of equal rows. -/
theorem post_congr {y gg gb bo ga y' gg' gb' bo' ga' : Fin 64 → EReal} (d : Fin 64) (h0 : ∀ x, y x = y' x) (h1 : ∀ x, gg x = gg' x)
    (h2 : ∀ x, gb x = gb' x) (h3 : ∀ x, bo x = bo' x) (h4 : ∀ x, ga x = ga' x) : post y gg gb bo ga d = post y' gg' gb' bo' ga' d := by
  rw [funext h0, funext h1, funext h2, funext h3, funext h4]

/-- What a point writes back is its block of the reference's result. -/
theorem flushed_eq (t : Fin cfg0.N) : (dats m 0 c).flushed 7 t = (win0_7.blk t).view.read (Elt Ideal) (G m c) := by
  have ht : t.val < 32 := N_0 ▸ t.isLt
  have e := idx_facts t
  rw [Value.flushed7]
  unfold out0_7
  frame_out
  funext y
  rw [View.read_apply]
  have y0 : (y 0).val < 512 := (y 0).isLt
  have y1 : (y 1).val < 2048 := (y 1).isLt
  obtain ⟨r, hr⟩ : ∃ r : Fin 512, r.val = (y 0).val := ⟨⟨(y 0).val, y0⟩, rfl⟩
  obtain ⟨h, d, hl⟩ : ∃ (h : Fin 32) (d : Fin 64), (lane h d).val = (y 1).val :=
    ⟨⟨(y 1).val / 64, by omega⟩, ⟨(y 1).val % 64, by omega⟩, by dsimp only; omega⟩
  have hy : y = (ix2 r (lane h d) : S512x2048.Idx) := Mm.eq_ix2_of _ _ _ hr.symm hl.symm
  subst hy
  have hp : (win0_7.blk t).view.emb (ix2 r (lane h d) : S512x2048.Idx) = (ix2 ⟨512 * t.val + r.val, by omega⟩ (lane h d) : S16384x2048.Idx) :=
    row_at (ix := win0_7.index t) t ⟨e.2.2.2.2.2.2.2.2.1, e.2.2.2.2.2.2.2.2.2.1⟩ _ r (lane h d) _ rfl rfl rfl
  rw [hp]
  refine (pay_apply (iblk m c 0 t) (iblk m c 1 t) (iblk m c 6 t) (blk6 m c t) (iblk m c 4 t) (iblk m c 5 t) (iblk m c 2 t) (iblk m c 3 t) r h d).trans ?_
  refine Eq.trans ?_ (ref_apply (a0 m c) (a1 m c) (a2 m c) (a3 m c) (a4 m c) (a5 m c) ⟨512 * t.val + r.val, by omega⟩ h d).symm
  exact post_congr d (fun x => congrArg₂ (fun a b : EReal => a + b) (blk0 m c t r _ _ rfl) (blk1 m c t r _ _ rfl)) (fun x => blk4 m c t _)
    (fun x => blk5 m c t _) (fun x => blk2 m c t r _ _ rfl) (fun x => blk3 m c t r _ _ rfl)

/-- Every index of the result array is in some point's block. -/
theorem cover (i : S16384x2048.Idx) : ∃ t : Fin cfg0.N, (cfg0.win 7).flush t = true ∧ i ∈ ((cfg0.win 7).blk t).view.set := by
  have h0 : (i 0).val < 16384 := (i 0).isLt
  have h1 : (i 1).val < 2048 := (i 1).isLt
  have hN : (i 0).val / 512 < cfg0.N := by show _ < grid0.N; rw [N_0]; omega
  refine ⟨⟨(i 0).val / 512, hN⟩, flush0_7 _, ?_⟩
  show i ∈ ((View.whole main_v12).slice (win0_7.rect ⟨(i 0).val / 512, hN⟩)).set
  rw [View.set_slice_whole, Rect.mem_set_unit]
  have e := idx_facts ⟨(i 0).val / 512, hN⟩
  dsimp only at e
  intro b
  match b with
  | ⟨0, _⟩ => show win0_7.index _ 0 * 512 ≤ (i 0).val ∧ (i 0).val < win0_7.index _ 0 * 512 + 512; rw [e.2.2.2.2.2.2.2.2.1]; omega
  | ⟨1, _⟩ => show win0_7.index _ 1 * 2048 ≤ (i 1).val ∧ (i 1).val < win0_7.index _ 1 * 2048 + 2048; rw [e.2.2.2.2.2.2.2.2.2.1]; omega

/-- The result array after the last point is the reference's result. -/
theorem final : (dats m 0 c).arrAt 7 cfg0.N = G m c :=
  (dats m 0 c).arrAt_eq_of_cover 7 (G m c) (fun t _ => flushed_eq m c t) cover

/-- The kernel as printed terminates without a fault, its arguments unchanged and every counter at zero. -/
theorem frame_kernel : quiescent_KernelPost := fun m ρ _ => KernelPost.Gen.frame m ρ
/-- The idealized kernel likewise. -/
theorem frame_kernelIdeal : quiescent_KernelPostIdeal := fun m ρ _ => KernelPostIdeal.Gen.frame m ρ
/-- The reference likewise. -/
theorem frame_ref : quiescent_ReferencePostIdeal := fun m ρ _ =>
  (θ_run _ _ _).mono (fun r h => ⟨fun c => (h c).2, sem_eq_zero_of_no_sems (by decide) r.2⟩) (ReferencePostIdeal.Value.run (F := Ideal) m ρ)

/-- The idealized kernel's result array equals the reference's. -/
theorem algebraic : algebraic_KernelPostIdeal_ReferencePostIdeal := by
  intro m ρ m' ρ' _ hag
  refine ⟨fun c => G m c, (θ_run _ _ _).mono (fun _ h c => ⟨(h c).1.trans (final m c), (h c).2⟩) (Value.run_blocks m ρ), ?_⟩
  refine (θ_run _ _ _).mono (fun _ h c => ⟨((h c).1.trans (ReferencePostIdeal.Read.val_main_v35_eq ..)).trans ?_, (h c).2⟩)
    (ReferencePostIdeal.Value.run (F := Ideal) m' ρ')
  obtain ⟨h0, h1, h2, h3, h4, h5⟩ := hag c
  rw [h0, h1, h2, h3, h4, h5]

end Cert.KernelPostIdeal.Hand
end
-- ==== Proof.Prep.Frame.lean ====
/-
  The call that prepares the scan's operands: what each window's buffer holds after the body, the body's run at any
  point, the launch, and that the arguments end unchanged.
-/
module

public import proofs.«01_k».proof.Proof.Gen.KernelPrepIdeal.Launch
public import proofs.«01_k».proof.Proof.Gen.KernelPrepIdeal.Skeleton
public import proofs.«01_k».proof.Proof.Gen.KernelPrepIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelPrepIdeal.Hand

open Cert.KernelPrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays when the call is entered: after the host operations. -/
abbrev V (c : Dev nD) (b : Ref sig .tc) : Buf (Elt F) ((c : Thread nD τ).loc b) :=
  StableHlo.after (List.flatten [hostOps0, hostOps0_1, hostOps0_2]) (fun b => m (c, b)) b

/-- These host operations allocate nothing. -/
theorem hostOps0_fresh : (hostOps0 : List (HloOp τ sig (Elt F))).Forall fun op => op.fresh = ∅ := by
  simp only [List.Forall]; repeat' constructor
/-- These host operations allocate nothing. -/
theorem hostOps0_1_fresh : (hostOps0_1 : List (HloOp τ sig (Elt F))).Forall fun op => op.fresh = ∅ := by
  simp only [List.Forall]; repeat' constructor
/-- These host operations allocate nothing. -/
theorem hostOps0_2_fresh : (hostOps0_2 : List (HloOp τ sig (Elt F))).Forall fun op => op.fresh = ∅ := by
  simp only [List.Forall]; repeat' constructor

set_option maxHeartbeats 800000 in
/-- The program is its host operations and then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- The host operations leave the arguments as they were. -/
theorem V_args (c : Dev nD) : ∀ b ∈ ([main_arg0, main_arg1, main_arg2, main_arg3, main_arg4, main_arg5, main_arg6, main_arg7, main_arg8, main_arg9, main_arg10] : List (Ref sig .tc)),
    V m c b = m ((c : Thread nD τ).loc b) := by
  intro b hb
  simp only [List.mem_cons, List.not_mem_nil, or_false] at hb
  rcases hb with rfl | rfl | rfl | rfl | rfl | rfl | rfl | rfl | rfl | rfl | rfl
  all_goals
    refine StableHlo.after_of_forall_not_mem (b := Proc.devRef .tc _) _ _ (List.forall_iff_forall_mem.mp ?_)
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- A window's block at a point, of the arrays as the call finds them. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The arguments hold afterwards what they held before. -/
abbrev Kept (m m' : (ℓ : Loc nD τ sig) → Buf (Elt F) ℓ) (c : Dev nD) : Prop :=
  m' ((c.tc : Thread nD τ).loc main_arg0) = m ((c.tc : Thread nD τ).loc main_arg0)
      ∧ m' ((c.tc : Thread nD τ).loc main_arg1) = m ((c.tc : Thread nD τ).loc main_arg1)
      ∧ m' ((c.tc : Thread nD τ).loc main_arg2) = m ((c.tc : Thread nD τ).loc main_arg2)
      ∧ m' ((c.tc : Thread nD τ).loc main_arg3) = m ((c.tc : Thread nD τ).loc main_arg3)
      ∧ m' ((c.tc : Thread nD τ).loc main_arg4) = m ((c.tc : Thread nD τ).loc main_arg4)
      ∧ m' ((c.tc : Thread nD τ).loc main_arg5) = m ((c.tc : Thread nD τ).loc main_arg5)
      ∧ m' ((c.tc : Thread nD τ).loc main_arg6) = m ((c.tc : Thread nD τ).loc main_arg6)
      ∧ m' ((c.tc : Thread nD τ).loc main_arg7) = m ((c.tc : Thread nD τ).loc main_arg7)
      ∧ m' ((c.tc : Thread nD τ).loc main_arg8) = m ((c.tc : Thread nD τ).loc main_arg8)
      ∧ m' ((c.tc : Thread nD τ).loc main_arg9) = m ((c.tc : Thread nD τ).loc main_arg9)
      ∧ m' ((c.tc : Thread nD τ).loc main_arg10) = m ((c.tc : Thread nD τ).loc main_arg10)

/-- The arguments are kept by a run that ends with the arrays the proof data gives. -/
theorem kept_of (dats : (p : Fin 1) → (c : Dev nD) → Dat τ (Elt F) Unit ℕ (UR sig nD τ) ℕ (cfgs p) c)
    (hA : ∀ c w, (dats 0 c).A w = V m c (Pipeline.arrRef spec0 w)) {r} (h : Pipeline.FramePost cfgs dats 0 (V m) r) (c : Dev nD) :
    Kept m r.2.mem c :=
  have rest : ∀ b ∈ ([main_arg2, main_arg3, main_arg4, main_arg5, main_arg6, main_arg7, main_arg8, main_arg9, main_arg10] : List (Ref sig .tc)), r.2.mem ((c : Thread nD τ).loc b) = m ((c : Thread nD τ).loc b) :=
    fun b hb => ((h c).2 b (Pipeline.mem_restRefs_of b (by revert b; decide) (by revert b; decide))).trans (V_args m c b (by revert b; decide))
  ⟨((h c).1 8).trans (((dats 0 c).arrAt_in 8 rfl _).trans ((hA c 8).trans (V_args m c _ (by decide)))),
    ((h c).1 11).trans (((dats 0 c).arrAt_in 11 rfl _).trans ((hA c 11).trans (V_args m c _ (by decide)))),
    rest main_arg2 (by decide), rest main_arg3 (by decide), rest main_arg4 (by decide), rest main_arg5 (by decide), rest main_arg6 (by decide), rest main_arg7 (by decide), rest main_arg8 (by decide), rest main_arg9 (by decide), rest main_arg10 (by decide)⟩

/-- A rectangle the body reads or writes. -/
abbrev r0_0 : Rect S1x128x2048 := Rect.unit (s := S1x128x2048) ![0, 0, 0] S1x128x2048.size inb_S1x128x2048_S1x128x2048_0_0_0
/-- A rectangle the body reads or writes. -/
abbrev r0_1 : Rect S1x8x2048 := Rect.unit (s := S1x8x2048) ![0, 0, 0] S1x8x2048.size inb_S1x8x2048_S1x8x2048_0_0_0
/-- A rectangle the body reads or writes. -/
abbrev r0_2 : Rect S1x2048 := Rect.unit (s := S1x2048) ![0, 0] S1x2048.size inb_S1x2048_S1x2048_0_0
/-- A rectangle the body reads or writes. -/
abbrev r0_3 : Rect S1x128x768 := Rect.unit (s := S1x128x768) ![0, 0, 0] S1x128x768.size inb_S1x128x768_S1x128x768_0_0_0
/-- A rectangle the body reads or writes. -/
abbrev r0_4 : Rect S1x8x768 := Rect.unit (s := S1x8x768) ![0, 0, 0] S1x8x768.size inb_S1x8x768_S1x8x768_0_0_0
/-- A rectangle the body reads or writes. -/
abbrev r0_5 : Rect S1x768 := Rect.unit (s := S1x768) ![0, 0] S1x768.size inb_S1x768_S1x768_0_0
/-- A rectangle the body reads or writes. -/
abbrev r0_6 : Rect S512x2048 := Rect.unit (s := S512x2048) ![0, 0] S512x2048.size inb_S512x2048_S512x2048_0_0
/-- A rectangle the body reads or writes. -/
abbrev r0_7 : Rect S128x128 := Rect.unit (s := S128x128) ![0, 0] S128x128.size inb_S128x128_S128x128_0_0
/-- A rectangle the body reads or writes. -/
abbrev r0_8 : Rect S2x2048 := Rect.unit (s := S2x2048) ![0, 0] S1x2048.size inb_S2x2048_S1x2048_0_0
/-- A rectangle the body reads or writes. -/
abbrev r0_9 : Rect S2x128x2048 := Rect.unit (s := S2x128x2048) ![0, 0, 0] S1x128x2048.size inb_S2x128x2048_S1x128x2048_0_0_0
/-- A rectangle the body reads or writes. -/
abbrev r0_10 : Rect S2x1x128x2048 := Rect.unit (s := S2x1x128x2048) ![0, 0, 0, 0] S1x1x128x2048.size inb_S2x1x128x2048_S1x1x128x2048_0_0_0_0
/-- A rectangle the body reads or writes. -/
abbrev r0_11 : Rect S2x2048 := Rect.unit (s := S2x2048) ![1, 0] S1x2048.size inb_S2x2048_S1x2048_1_0
/-- A rectangle the body reads or writes. -/
abbrev r0_12 : Rect S2x128x2048 := Rect.unit (s := S2x128x2048) ![1, 0, 0] S1x128x2048.size inb_S2x128x2048_S1x128x2048_1_0_0
/-- A rectangle the body reads or writes. -/
abbrev r0_13 : Rect S2x1x128x2048 := Rect.unit (s := S2x1x128x2048) ![1, 0, 0, 0] S1x1x128x2048.size inb_S2x1x128x2048_S1x1x128x2048_1_0_0_0

/-- The shifted receptance rows. -/
def k0_pay66 (i : grid0.Coords) (x0 : Vec F S1x128x2048 .f32) (x1 : Vec F S1x8x2048 .f32) (x2 : Vec F S1x8x2048 .f32) (x12 : Vec F S1x2048 .f32) : FVec F S128x2048 .f32 :=
  k0_pay7 (k0_pay3 (View.ld x0 r0_0)) (k0_pay4 (View.ld x12 r0_2)) (k0_pay5 i (View.ld x0 r0_0) (View.ld x1 r0_1)) (k0_pay6 i (View.ld x0 r0_0) (View.ld x2 r0_1))
/-- The shifted key rows. -/
def k0_pay67 (i : grid0.Coords) (x3 : Vec F S1x128x2048 .f32) (x4 : Vec F S1x8x2048 .f32) (x5 : Vec F S1x8x2048 .f32) (x13 : Vec F S1x2048 .f32) : FVec F S128x2048 .f32 :=
  k0_pay16 (k0_pay8 (View.ld x3 r0_0)) (k0_pay9 (View.ld x13 r0_2)) (k0_pay10 (Scalar.cmpi .eq (BitVec.ofNat 32 (i 1).val) 31#32) (View.ld x5 r0_1)) (k0_pay12 (Scalar.cmpi .eq (BitVec.ofNat 32 (i 1).val) 0#32) (View.ld x3 r0_0) (View.ld x4 r0_1)) (k0_pay13 (View.ld x3 r0_0)) k0_pay14 (k0_pay15 (View.ld x3 r0_0))
/-- The eight row numbers. -/
def k0_pay68 (i : grid0.Coords) : IVec S8x1 32 :=
  iota .tc S8x1 32 [0] iota_S8x1_d0_w32
/-- The shifted value rows. -/
def k0_pay69 (i : grid0.Coords) (x6 : Vec F S1x128x2048 .f32) (x7 : Vec F S1x8x2048 .f32) (x8 : Vec F S1x8x2048 .f32) (x14 : Vec F S1x2048 .f32) : FVec F S128x2048 .f32 :=
  k0_pay24 (k0_pay17 (View.ld x6 r0_0)) (k0_pay18 (View.ld x14 r0_2)) (iota .tc S8x1 32 [0] iota_S8x1_d0_w32) (k0_pay19 (Scalar.cmpi .eq (BitVec.ofNat 32 (i 1).val) 31#32) (View.ld x8 r0_1)) (k0_pay21 (View.ld x6 r0_0)) (k0_pay22 (Scalar.cmpi .eq (BitVec.ofNat 32 (i 1).val) 0#32) (View.ld x6 r0_0) (View.ld x7 r0_1)) (k0_pay23 (View.ld x6 r0_0))
/-- A part of the shifted low-rank rows. -/
def k0_pay70 (i : grid0.Coords) (x9 : Vec F S1x128x768 .f32) : FVec F S128x768 .f32 :=
  k0_pay25 (View.ld x9 r0_3)
/-- A part of the shifted low-rank rows. -/
def k0_pay71 (i : grid0.Coords) (x15 : Vec F S1x768 .f32) : FVec F S1x768 .f32 :=
  k0_pay26 (View.ld x15 r0_5)
/-- A part of the shifted low-rank rows. -/
def k0_pay72 (i : grid0.Coords) (x10 : Vec F S1x8x768 .f32) : FVec F S1x768 .f32 :=
  k0_pay27 (Scalar.cmpi .eq (BitVec.ofNat 32 (i 1).val) 0#32) (View.ld x10 r0_4)
/-- A part of the shifted low-rank rows. -/
def k0_pay73 (i : grid0.Coords) (x11 : Vec F S1x8x768 .f32) : FVec F S1x768 .f32 :=
  k0_pay28 (Scalar.cmpi .eq (BitVec.ofNat 32 (i 1).val) 31#32) (View.ld x11 r0_4)
/-- A part of the shifted low-rank rows. -/
def k0_pay74 (i : grid0.Coords) (x9 : Vec F S1x128x768 .f32) : FVec F S128x768 .f32 :=
  k0_pay29 (View.ld x9 r0_3)
/-- A part of the shifted low-rank rows. -/
def k0_pay75 (i : grid0.Coords) (x9 : Vec F S1x128x768 .f32) : FVec F S128x768 .f32 :=
  k0_pay30 (View.ld x9 r0_3)
/-- A part of the shifted low-rank rows. -/
def k0_pay76 (i : grid0.Coords) : IVec S8x1 1 :=
  k0_pay31
/-- A part of the shifted low-rank rows. -/
def k0_pay77 (i : grid0.Coords) (x9 : Vec F S1x128x768 .f32) : FVec F S8x768 .f32 :=
  k0_pay32 (View.ld x9 r0_3)
/-- The low-rank decay input. -/
def k0_pay78 (i : grid0.Coords) (x9 : Vec F S1x128x768 .f32) (x10 : Vec F S1x8x768 .f32) (x11 : Vec F S1x8x768 .f32) (x15 : Vec F S1x768 .f32) : FVec F S128x128 .f32 :=
  k0_pay34 (k0_pay70 i x9) (k0_pay71 i x15) (k0_pay68 i) (k0_pay72 i x10) (k0_pay73 i x11) (k0_pay74 i x9) (k0_pay75 i x9) (k0_pay76 i) (k0_pay77 i x9)
/-- The low-rank learning-rate input. -/
def k0_pay79 (i : grid0.Coords) (x9 : Vec F S1x128x768 .f32) (x10 : Vec F S1x8x768 .f32) (x11 : Vec F S1x8x768 .f32) (x15 : Vec F S1x768 .f32) : FVec F S128x128 .bf16 :=
  k0_pay45 (k0_pay35 (k0_pay70 i x9) (k0_pay71 i x15) (k0_pay68 i) (k0_pay72 i x10) (k0_pay73 i x11) (k0_pay74 i x9) (k0_pay75 i x9) (k0_pay76 i) (k0_pay77 i x9))

/-- One store of a block fills it. -/
theorem cover_one (p0 : Vec F S1x128x2048 .bf16) (y : S1x128x2048.Idx) :
    ∃ pc ∈ ([⟨r0_0, p0⟩] : List (View.Piece (Elt F) S1x128x2048 .bf16)), y ∈ pc.1.set :=
  View.cover_of_tiled [⟨r0_0, p0⟩] S1x128x2048.size (by rfl) y

/-- The two directions' stores fill a block. -/
theorem cover_two {e : EltTy} (p0 p1 : Vec F S1x1x128x2048 e) (y : S2x1x128x2048.Idx) :
    ∃ pc ∈ ([⟨r0_13, p0⟩, ⟨r0_10, p1⟩] : List (View.Piece (Elt F) S2x1x128x2048 e)), y ∈ pc.1.set :=
  View.cover_of_tiled [⟨r0_13, p0⟩, ⟨r0_10, p1⟩] S1x1x128x2048.size (by rfl) y

/-- What the body leaves in output window 25's buffer. -/
def out0_25 (i : grid0.Coords) (x0 : Vec F S1x128x2048 .f32) (x1 : Vec F S1x8x2048 .f32) (x2 : Vec F S1x8x2048 .f32) (x12 : Vec F S1x2048 .f32) : Vec F S1x128x2048 .bf16 :=
  View.canon [⟨r0_0, k0_pay63 (k0_pay66 i x0 x1 x2 x12)⟩]

/-- What the body leaves in output window 26's buffer. -/
def out0_26 (i : grid0.Coords) (x6 : Vec F S1x128x2048 .f32) (x7 : Vec F S1x8x2048 .f32) (x8 : Vec F S1x8x2048 .f32) (x14 : Vec F S1x2048 .f32) : Vec F S1x128x2048 .bf16 :=
  View.canon [⟨r0_0, k0_pay64 (k0_pay69 i x6 x7 x8 x14)⟩]

/-- What the body leaves in output window 27's buffer. -/
def out0_27 (i : grid0.Coords) (x3 : Vec F S1x128x2048 .f32) (x4 : Vec F S1x8x2048 .f32) (x5 : Vec F S1x8x2048 .f32) (x13 : Vec F S1x2048 .f32) (x21 : Vec F S1x2048 .f32) (x24 : Vec F S128x128 .bf16) : Vec F S1x128x2048 .bf16 :=
  View.canon [⟨r0_0, k0_pay1 (k0_pay65 (k0_pay43 (k0_pay37 (k0_pay67 i x3 x4 x5 x13) (View.ld x21 r0_2)) (k0_pay38 (k0_pay67 i x3 x4 x5 x13) (View.ld x21 r0_2)) (k0_pay39 (k0_pay67 i x3 x4 x5 x13) (View.ld x21 r0_2)) (k0_pay40 (k0_pay67 i x3 x4 x5 x13) (View.ld x21 r0_2)) (k0_pay41 (k0_pay67 i x3 x4 x5 x13) (View.ld x21 r0_2)) (k0_pay42 (k0_pay67 i x3 x4 x5 x13) (View.ld x21 r0_2)) (View.ld x24 r0_7)))⟩]

/-- What the body leaves in output window 28's buffer. -/
def out0_28 (i : grid0.Coords) (x9 : Vec F S1x128x768 .f32) (x10 : Vec F S1x8x768 .f32) (x11 : Vec F S1x8x768 .f32) (x15 : Vec F S1x768 .f32) (x20 : Vec F S512x2048 .bf16) : Vec F S1x128x2048 .bf16 :=
  View.canon [⟨r0_0, k0_pay36 (k0_pay70 i x9) (k0_pay71 i x15) (k0_pay68 i) (k0_pay72 i x10) (k0_pay73 i x11) (k0_pay74 i x9) (k0_pay75 i x9) (k0_pay76 i) (k0_pay77 i x9) (View.ld x20 r0_6)⟩]

/-- What the body leaves in output window 29's buffer. -/
def out0_29 (i : grid0.Coords) (x0 : Vec F S1x128x2048 .f32) (x1 : Vec F S1x8x2048 .f32) (x2 : Vec F S1x8x2048 .f32) (x3 : Vec F S1x128x2048 .f32) (x4 : Vec F S1x8x2048 .f32) (x5 : Vec F S1x8x2048 .f32) (x6 : Vec F S1x128x2048 .f32) (x7 : Vec F S1x8x2048 .f32) (x8 : Vec F S1x8x2048 .f32) (x9 : Vec F S1x128x768 .f32) (x10 : Vec F S1x8x768 .f32) (x11 : Vec F S1x8x768 .f32) (x12 : Vec F S1x2048 .f32) (x13 : Vec F S1x2048 .f32) (x14 : Vec F S1x2048 .f32) (x15 : Vec F S1x768 .f32) (x18 : Vec F S2x2048 .f32) (x19 : Vec F S2x128x2048 .bf16) (x22 : Vec F S1x2048 .f32) (x23 : Vec F S1x2048 .f32) (x24 : Vec F S128x128 .bf16) : Vec F S1x128x2048 .bf16 :=
  View.canon [⟨r0_0, k0_pay2 (k0_pay69 i x6 x7 x8 x14) (k0_pay62 (k0_pay54 (k0_pay52 (k0_pay66 i x0 x1 x2 x12) (k0_pay67 i x3 x4 x5 x13) (k0_pay79 i x9 x10 x11 x15) (View.ld x18 r0_8) (View.ld x19 r0_9) (View.ld x22 r0_2)) (k0_pay53 (View.ld x23 r0_2)) (View.ld x24 r0_7)) (k0_pay61 (k0_pay66 i x0 x1 x2 x12) (k0_pay67 i x3 x4 x5 x13) (k0_pay79 i x9 x10 x11 x15) (View.ld x18 r0_11) (View.ld x19 r0_12) (View.ld x22 r0_2) (View.ld x23 r0_2)) (View.ld x24 r0_7))⟩]

/-- What the body leaves in output window 30's buffer. -/
def out0_30 (i : grid0.Coords) (x9 : Vec F S1x128x768 .f32) (x10 : Vec F S1x8x768 .f32) (x11 : Vec F S1x8x768 .f32) (x15 : Vec F S1x768 .f32) (x16 : Vec F S2x2048 .f32) (x17 : Vec F S2x128x2048 .bf16) : Vec F S2x1x128x2048 .f32 :=
  View.canon [⟨r0_13, k0_pay56 (k0_pay55 (k0_pay44 (k0_pay78 i x9 x10 x11 x15)) (View.ld x16 r0_11) (View.ld x17 r0_12))⟩,
    ⟨r0_10, k0_pay47 (k0_pay46 (k0_pay78 i x9 x10 x11 x15) (View.ld x16 r0_8) (View.ld x17 r0_9)) (Scalar.ofBits .f32 0xBF1B4598#32)⟩]

/-- What the body leaves in output window 31's buffer. -/
def out0_31 (i : grid0.Coords) (x3 : Vec F S1x128x2048 .f32) (x4 : Vec F S1x8x2048 .f32) (x5 : Vec F S1x8x2048 .f32) (x9 : Vec F S1x128x768 .f32) (x10 : Vec F S1x8x768 .f32) (x11 : Vec F S1x8x768 .f32) (x13 : Vec F S1x2048 .f32) (x15 : Vec F S1x768 .f32) (x18 : Vec F S2x2048 .f32) (x19 : Vec F S2x128x2048 .bf16) (x22 : Vec F S1x2048 .f32) : Vec F S2x1x128x2048 .bf16 :=
  View.canon [⟨r0_13, k0_pay60 (k0_pay67 i x3 x4 x5 x13) (k0_pay79 i x9 x10 x11 x15) (View.ld x18 r0_11) (View.ld x19 r0_12) (View.ld x22 r0_2)⟩,
    ⟨r0_10, k0_pay51 (k0_pay67 i x3 x4 x5 x13) (k0_pay79 i x9 x10 x11 x15) (View.ld x18 r0_8) (View.ld x19 r0_9) (View.ld x22 r0_2)⟩]

/-- What the body leaves in output window 32's buffer. -/
def out0_32 (i : grid0.Coords) (x9 : Vec F S1x128x768 .f32) (x10 : Vec F S1x8x768 .f32) (x11 : Vec F S1x8x768 .f32) (x15 : Vec F S1x768 .f32) (x18 : Vec F S2x2048 .f32) (x19 : Vec F S2x128x2048 .bf16) : Vec F S2x1x128x2048 .bf16 :=
  View.canon [⟨r0_13, k0_pay59 (k0_pay79 i x9 x10 x11 x15) (View.ld x18 r0_11) (View.ld x19 r0_12)⟩,
    ⟨r0_10, k0_pay50 (k0_pay79 i x9 x10 x11 x15) (View.ld x18 r0_8) (View.ld x19 r0_9)⟩]

set_option maxHeartbeats 1000000 in
/-- The body runs from the inputs' buffers to the outputs' buffers. -/
theorem sound_kernel (c : Dev nD) (E : Set ℕ) (i : grid0.Coords) (arg2 : Memref sig .tc .vmem S1x128x2048 .f32) (harg2 : arg2.IsWhole) (arg3 : Memref sig .tc .vmem S1x8x2048 .f32) (harg3 : arg3.IsWhole) (arg4 : Memref sig .tc .vmem S1x8x2048 .f32) (harg4 : arg4.IsWhole) (arg5 : Memref sig .tc .vmem S1x128x2048 .f32) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S1x128x2048 .f32) (harg8 : arg8.IsWhole) (arg9 : Memref sig .tc .vmem S1x8x2048 .f32) (harg9 : arg9.IsWhole) (arg10 : Memref sig .tc .vmem S1x8x2048 .f32) (harg10 : arg10.IsWhole) (arg11 : Memref sig .tc .vmem S1x128x768 .f32) (harg11 : arg11.IsWhole) (arg12 : Memref sig .tc .vmem S1x8x768 .f32) (harg12 : arg12.IsWhole) (arg13 : Memref sig .tc .vmem S1x8x768 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S1x2048 .f32) (harg16 : arg16.IsWhole) (arg17 : Memref sig .tc .vmem S1x768 .f32) (harg17 : arg17.IsWhole) (arg18 : Memref sig .tc .vmem S2x2048 .f32) (harg18 : arg18.IsWhole) (arg19 : Memref sig .tc .vmem S2x128x2048 .bf16) (harg19 : arg19.IsWhole) (arg20 : Memref sig .tc .vmem S2x2048 .f32) (harg20 : arg20.IsWhole) (arg21 : Memref sig .tc .vmem S2x128x2048 .bf16) (harg21 : arg21.IsWhole) (arg22 : Memref sig .tc .vmem S512x2048 .bf16) (harg22 : arg22.IsWhole) (arg23 : Memref sig .tc .vmem S1x2048 .f32) (harg23 : arg23.IsWhole) (arg24 : Memref sig .tc .vmem S1x2048 .f32) (harg24 : arg24.IsWhole) (arg25 : Memref sig .tc .vmem S1x2048 .f32) (harg25 : arg25.IsWhole) (arg26 : Memref sig .tc .vmem S128x128 .bf16) (harg26 : arg26.IsWhole) (arg27 : Memref sig .tc .vmem S1x128x2048 .bf16) (harg27 : arg27.IsWhole) (arg28 : Memref sig .tc .vmem S1x128x2048 .bf16) (harg28 : arg28.IsWhole) (arg29 : Memref sig .tc .vmem S1x128x2048 .bf16) (harg29 : arg29.IsWhole) (arg30 : Memref sig .tc .vmem S1x128x2048 .bf16) (harg30 : arg30.IsWhole) (arg31 : Memref sig .tc .vmem S1x128x2048 .bf16) (harg31 : arg31.IsWhole) (arg32 : Memref sig .tc .vmem S2x1x128x2048 .f32) (harg32 : arg32.IsWhole) (arg33 : Memref sig .tc .vmem S2x1x128x2048 .bf16) (harg33 : arg33.IsWhole) (arg34 : Memref sig .tc .vmem S2x1x128x2048 .bf16) (harg34 : arg34.IsWhole)
    (x0 : Vec F S1x128x2048 .f32) (x1 : Vec F S1x8x2048 .f32) (x2 : Vec F S1x8x2048 .f32) (x3 : Vec F S1x128x2048 .f32) (x4 : Vec F S1x8x2048 .f32) (x5 : Vec F S1x8x2048 .f32) (x6 : Vec F S1x128x2048 .f32) (x7 : Vec F S1x8x2048 .f32) (x8 : Vec F S1x8x2048 .f32) (x9 : Vec F S1x128x768 .f32) (x10 : Vec F S1x8x768 .f32) (x11 : Vec F S1x8x768 .f32) (x12 : Vec F S1x2048 .f32) (x13 : Vec F S1x2048 .f32) (x14 : Vec F S1x2048 .f32) (x15 : Vec F S1x768 .f32) (x16 : Vec F S2x2048 .f32) (x17 : Vec F S2x128x2048 .bf16) (x18 : Vec F S2x2048 .f32) (x19 : Vec F S2x128x2048 .bf16) (x20 : Vec F S512x2048 .bf16) (x21 : Vec F S1x2048 .f32) (x22 : Vec F S1x2048 .f32) (x23 : Vec F S1x2048 .f32) (x24 : Vec F S128x128 .bf16) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare x10 ∗ owns c arg13 fullShare x11 ∗ owns c arg14 fullShare x12 ∗ owns c arg15 fullShare x13 ∗ owns c arg16 fullShare x14 ∗ owns c arg17 fullShare x15 ∗ owns c arg18 fullShare x16 ∗ owns c arg19 fullShare x17 ∗ owns c arg20 fullShare x18 ∗ owns c arg21 fullShare x19 ∗ owns c arg22 fullShare x20 ∗ owns c arg23 fullShare x21 ∗ owns c arg24 fullShare x22 ∗ owns c arg25 fullShare x23 ∗ owns c arg26 fullShare x24 ∗ (∃ d, owns c arg27 fullShare d) ∗ (∃ d, owns c arg28 fullShare d) ∗ (∃ d, owns c arg29 fullShare d) ∗ (∃ d, owns c arg30 fullShare d) ∗ (∃ d, owns c arg31 fullShare d) ∗ (∃ d, owns c arg32 fullShare d) ∗ (∃ d, owns c arg33 fullShare d) ∗ (∃ d, owns c arg34 fullShare d)
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare x7 ∗ owns c arg10 fullShare x8 ∗ owns c arg11 fullShare x9 ∗ owns c arg12 fullShare x10 ∗ owns c arg13 fullShare x11 ∗ owns c arg14 fullShare x12 ∗ owns c arg15 fullShare x13 ∗ owns c arg16 fullShare x14 ∗ owns c arg17 fullShare x15 ∗ owns c arg18 fullShare x16 ∗ owns c arg19 fullShare x17 ∗ owns c arg20 fullShare x18 ∗ owns c arg21 fullShare x19 ∗ owns c arg22 fullShare x20 ∗ owns c arg23 fullShare x21 ∗ owns c arg24 fullShare x22 ∗ owns c arg25 fullShare x23 ∗ owns c arg26 fullShare x24 ∗ owns c arg27 fullShare (out0_25 i x0 x1 x2 x12) ∗ owns c arg28 fullShare (out0_26 i x6 x7 x8 x14) ∗ owns c arg29 fullShare (out0_27 i x3 x4 x5 x13 x21 x24) ∗ owns c arg30 fullShare (out0_28 i x9 x10 x11 x15 x20) ∗ owns c arg31 fullShare (out0_29 i x0 x1 x2 x3 x4 x5 x6 x7 x8 x9 x10 x11 x12 x13 x14 x15 x18 x19 x22 x23 x24) ∗ owns c arg32 fullShare (out0_30 i x9 x10 x11 x15 x16 x17) ∗ owns c arg33 fullShare (out0_31 i x3 x4 x5 x9 x10 x11 x13 x15 x18 x19 x22) ∗ owns c arg34 fullShare (out0_32 i x9 x10 x11 x15 x18 x19)) -∗ K ⟨⟩))
      ⊢ wp frame (wpE (defs₀ (F := F)) Variants.none c none) E (cc0_rwkv_prep i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0_rwkv_prep_eq_skeleton]; unfold cc0_rwkv_prep_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, Hk⟩
  subst hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists _; isplitr
    swap; · iexact H25
    ipureintro
    exact View.read_writes_eq_canon _ _ _ (cover_one _)
  isplitl [H26]
  · iexists _; isplitr
    swap; · iexact H26
    ipureintro
    exact View.read_writes_eq_canon _ _ _ (cover_one _)
  isplitl [H27]
  · iexists _; isplitr
    swap; · iexact H27
    ipureintro
    exact View.read_writes_eq_canon _ _ _ (cover_one _)
  isplitl [H28]
  · iexists _; isplitr
    swap; · iexact H28
    ipureintro
    exact View.read_writes_eq_canon _ _ _ (cover_one _)
  isplitl [H29]
  · iexists _; isplitr
    swap; · iexact H29
    ipureintro
    exact View.read_writes_eq_canon _ _ _ (cover_one _)
  isplitl [H30]
  · iexists _; isplitr
    swap; · iexact H30
    ipureintro
    exact View.read_writes_eq_canon _ _ _ (cover_two _ _)
  isplitl [H31]
  · iexists _; isplitr
    swap; · iexact H31
    ipureintro
    exact View.read_writes_eq_canon _ _ _ (cover_two _ _)
  iexists _; isplitr
  swap; · iexact H32
  ipureintro
  exact View.read_writes_eq_canon _ _ _ (cover_two _ _)

/-- The arrays, and what each buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => out0_25 (grid0.coords t) (iblk m c 0 t) (iblk m c 1 t) (iblk m c 2 t) (iblk m c 12 t)
    | ⟨26, _⟩ => out0_26 (grid0.coords t) (iblk m c 6 t) (iblk m c 7 t) (iblk m c 8 t) (iblk m c 14 t)
    | ⟨27, _⟩ => out0_27 (grid0.coords t) (iblk m c 3 t) (iblk m c 4 t) (iblk m c 5 t) (iblk m c 13 t) (iblk m c 21 t) (iblk m c 24 t)
    | ⟨28, _⟩ => out0_28 (grid0.coords t) (iblk m c 9 t) (iblk m c 10 t) (iblk m c 11 t) (iblk m c 15 t) (iblk m c 20 t)
    | ⟨29, _⟩ => out0_29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 18 t) (iblk m c 19 t) (iblk m c 22 t) (iblk m c 23 t) (iblk m c 24 t)
    | ⟨30, _⟩ => out0_30 (grid0.coords t) (iblk m c 9 t) (iblk m c 10 t) (iblk m c 11 t) (iblk m c 15 t) (iblk m c 16 t) (iblk m c 17 t)
    | ⟨31, _⟩ => out0_31 (grid0.coords t) (iblk m c 3 t) (iblk m c 4 t) (iblk m c 5 t) (iblk m c 9 t) (iblk m c 10 t) (iblk m c 11 t) (iblk m c 13 t) (iblk m c 15 t) (iblk m c 18 t) (iblk m c 19 t) (iblk m c 22 t)
    | ⟨32, _⟩ => out0_32 (grid0.coords t) (iblk m c 9 t) (iblk m c 10 t) (iblk m c 11 t) (iblk m c 15 t) (iblk m c 18 t) (iblk m c 19 t)
    | ⟨_ + 33, h⟩ => absurd h (Nat.not_lt.2 (Nat.le_add_left _ _))
  Φ _ := Pipeline.ΦA spec0 c
  q w := Pipeline.shareOf spec0 w
  owed _ := 0

/-- The arrays are the ones the call finds. -/
theorem A_eq (c : Dev nD) (w : Fin cfg0.W) : (dats m 0 c).A w = V m c (Pipeline.arrRef spec0 w) := by
  dsimp only [dats]

/-- The body leaves an input window's block in its buffer. -/
theorem after_in (c : Dev nD) (t : Fin cfg0.N) : (dats m 0 c).after 0 t = iblk m c 0 t
    ∧ (dats m 0 c).after 1 t = iblk m c 1 t
    ∧ (dats m 0 c).after 2 t = iblk m c 2 t
    ∧ (dats m 0 c).after 3 t = iblk m c 3 t
    ∧ (dats m 0 c).after 4 t = iblk m c 4 t
    ∧ (dats m 0 c).after 5 t = iblk m c 5 t
    ∧ (dats m 0 c).after 6 t = iblk m c 6 t
    ∧ (dats m 0 c).after 7 t = iblk m c 7 t
    ∧ (dats m 0 c).after 8 t = iblk m c 8 t
    ∧ (dats m 0 c).after 9 t = iblk m c 9 t
    ∧ (dats m 0 c).after 10 t = iblk m c 10 t
    ∧ (dats m 0 c).after 11 t = iblk m c 11 t
    ∧ (dats m 0 c).after 12 t = iblk m c 12 t
    ∧ (dats m 0 c).after 13 t = iblk m c 13 t
    ∧ (dats m 0 c).after 14 t = iblk m c 14 t
    ∧ (dats m 0 c).after 15 t = iblk m c 15 t
    ∧ (dats m 0 c).after 16 t = iblk m c 16 t
    ∧ (dats m 0 c).after 17 t = iblk m c 17 t
    ∧ (dats m 0 c).after 18 t = iblk m c 18 t
    ∧ (dats m 0 c).after 19 t = iblk m c 19 t
    ∧ (dats m 0 c).after 20 t = iblk m c 20 t
    ∧ (dats m 0 c).after 21 t = iblk m c 21 t
    ∧ (dats m 0 c).after 22 t = iblk m c 22 t
    ∧ (dats m 0 c).after 23 t = iblk m c 23 t
    ∧ (dats m 0 c).after 24 t = iblk m c 24 t := by
  repeat' apply And.intro
  all_goals dsimp only [dats]

/-- What window 25's buffer holds after a point. -/
theorem after0_25 (c : Dev nD) (t : Fin cfg0.N) : (dats m 0 c).after 25 t = out0_25 (grid0.coords t) (iblk m c 0 t) (iblk m c 1 t) (iblk m c 2 t) (iblk m c 12 t) := by dsimp only [dats]
/-- What window 26's buffer holds after a point. -/
theorem after0_26 (c : Dev nD) (t : Fin cfg0.N) : (dats m 0 c).after 26 t = out0_26 (grid0.coords t) (iblk m c 6 t) (iblk m c 7 t) (iblk m c 8 t) (iblk m c 14 t) := by dsimp only [dats]
/-- What window 27's buffer holds after a point. -/
theorem after0_27 (c : Dev nD) (t : Fin cfg0.N) : (dats m 0 c).after 27 t = out0_27 (grid0.coords t) (iblk m c 3 t) (iblk m c 4 t) (iblk m c 5 t) (iblk m c 13 t) (iblk m c 21 t) (iblk m c 24 t) := by dsimp only [dats]
/-- What window 28's buffer holds after a point. -/
theorem after0_28 (c : Dev nD) (t : Fin cfg0.N) : (dats m 0 c).after 28 t = out0_28 (grid0.coords t) (iblk m c 9 t) (iblk m c 10 t) (iblk m c 11 t) (iblk m c 15 t) (iblk m c 20 t) := by dsimp only [dats]
/-- What window 29's buffer holds after a point. -/
theorem after0_29 (c : Dev nD) (t : Fin cfg0.N) : (dats m 0 c).after 29 t = out0_29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 18 t) (iblk m c 19 t) (iblk m c 22 t) (iblk m c 23 t) (iblk m c 24 t) := by dsimp only [dats]
/-- What window 30's buffer holds after a point. -/
theorem after0_30 (c : Dev nD) (t : Fin cfg0.N) : (dats m 0 c).after 30 t = out0_30 (grid0.coords t) (iblk m c 9 t) (iblk m c 10 t) (iblk m c 11 t) (iblk m c 15 t) (iblk m c 16 t) (iblk m c 17 t) := by dsimp only [dats]
/-- What window 31's buffer holds after a point. -/
theorem after0_31 (c : Dev nD) (t : Fin cfg0.N) : (dats m 0 c).after 31 t = out0_31 (grid0.coords t) (iblk m c 3 t) (iblk m c 4 t) (iblk m c 5 t) (iblk m c 9 t) (iblk m c 10 t) (iblk m c 11 t) (iblk m c 13 t) (iblk m c 15 t) (iblk m c 18 t) (iblk m c 19 t) (iblk m c 22 t) := by dsimp only [dats]
/-- What window 32's buffer holds after a point. -/
theorem after0_32 (c : Dev nD) (t : Fin cfg0.N) : (dats m 0 c).after 32 t = out0_32 (grid0.coords t) (iblk m c 9 t) (iblk m c 10 t) (iblk m c 11 t) (iblk m c 15 t) (iblk m c 18 t) (iblk m c 19 t) := by dsimp only [dats]

set_option maxHeartbeats 4000000 in
/-- An input window's buffer holds its block before every point. -/
theorem before_in (c : Dev nD) (t : Fin cfg0.N) : (∀ d, (dats m 0 c).before 0 t d = iblk m c 0 t)
    ∧ (∀ d, (dats m 0 c).before 1 t d = iblk m c 1 t)
    ∧ (∀ d, (dats m 0 c).before 2 t d = iblk m c 2 t)
    ∧ (∀ d, (dats m 0 c).before 3 t d = iblk m c 3 t)
    ∧ (∀ d, (dats m 0 c).before 4 t d = iblk m c 4 t)
    ∧ (∀ d, (dats m 0 c).before 5 t d = iblk m c 5 t)
    ∧ (∀ d, (dats m 0 c).before 6 t d = iblk m c 6 t)
    ∧ (∀ d, (dats m 0 c).before 7 t d = iblk m c 7 t)
    ∧ (∀ d, (dats m 0 c).before 8 t d = iblk m c 8 t)
    ∧ (∀ d, (dats m 0 c).before 9 t d = iblk m c 9 t)
    ∧ (∀ d, (dats m 0 c).before 10 t d = iblk m c 10 t)
    ∧ (∀ d, (dats m 0 c).before 11 t d = iblk m c 11 t)
    ∧ (∀ d, (dats m 0 c).before 12 t d = iblk m c 12 t)
    ∧ (∀ d, (dats m 0 c).before 13 t d = iblk m c 13 t)
    ∧ (∀ d, (dats m 0 c).before 14 t d = iblk m c 14 t)
    ∧ (∀ d, (dats m 0 c).before 15 t d = iblk m c 15 t)
    ∧ (∀ d, (dats m 0 c).before 16 t d = iblk m c 16 t)
    ∧ (∀ d, (dats m 0 c).before 17 t d = iblk m c 17 t)
    ∧ (∀ d, (dats m 0 c).before 18 t d = iblk m c 18 t)
    ∧ (∀ d, (dats m 0 c).before 19 t d = iblk m c 19 t)
    ∧ (∀ d, (dats m 0 c).before 20 t d = iblk m c 20 t)
    ∧ (∀ d, (dats m 0 c).before 21 t d = iblk m c 21 t)
    ∧ (∀ d, (dats m 0 c).before 22 t d = iblk m c 22 t)
    ∧ (∀ d, (dats m 0 c).before 23 t d = iblk m c 23 t)
    ∧ (∀ d, (dats m 0 c).before 24 t d = iblk m c 24 t) := by
  repeat' apply And.intro
  all_goals exact (dats m 0 c).before_in_eq_fetched _ rfl (fun _ => rfl) (fun _ _ _ => rfl) (fun _ => rfl) t

/-- What the body is called with at a point. -/
def bodyPre (c : Dev nD) (t : Fin cfg0.N) : sProp 𝕄 :=
  iprop((dats m 0 c).Φ t.castSucc ∗ (dats m 0 c).owesAt () t.castSucc
    ∗ (∃ d, owns c (st0_0 t) fullShare ((dats m 0 c).before 0 t d))
    ∗ (∃ d, owns c (st0_1 t) fullShare ((dats m 0 c).before 1 t d))
    ∗ (∃ d, owns c (st0_2 t) fullShare ((dats m 0 c).before 2 t d))
    ∗ (∃ d, owns c (st0_3 t) fullShare ((dats m 0 c).before 3 t d))
    ∗ (∃ d, owns c (st0_4 t) fullShare ((dats m 0 c).before 4 t d))
    ∗ (∃ d, owns c (st0_5 t) fullShare ((dats m 0 c).before 5 t d))
    ∗ (∃ d, owns c (st0_6 t) fullShare ((dats m 0 c).before 6 t d))
    ∗ (∃ d, owns c (st0_7 t) fullShare ((dats m 0 c).before 7 t d))
    ∗ (∃ d, owns c (st0_8 t) fullShare ((dats m 0 c).before 8 t d))
    ∗ (∃ d, owns c (st0_9 t) fullShare ((dats m 0 c).before 9 t d))
    ∗ (∃ d, owns c (st0_10 t) fullShare ((dats m 0 c).before 10 t d))
    ∗ (∃ d, owns c (st0_11 t) fullShare ((dats m 0 c).before 11 t d))
    ∗ (∃ d, owns c (st0_12 t) fullShare ((dats m 0 c).before 12 t d))
    ∗ (∃ d, owns c (st0_13 t) fullShare ((dats m 0 c).before 13 t d))
    ∗ (∃ d, owns c (st0_14 t) fullShare ((dats m 0 c).before 14 t d))
    ∗ (∃ d, owns c (st0_15 t) fullShare ((dats m 0 c).before 15 t d))
    ∗ (∃ d, owns c (st0_16 t) fullShare ((dats m 0 c).before 16 t d))
    ∗ (∃ d, owns c (st0_17 t) fullShare ((dats m 0 c).before 17 t d))
    ∗ (∃ d, owns c (st0_18 t) fullShare ((dats m 0 c).before 18 t d))
    ∗ (∃ d, owns c (st0_19 t) fullShare ((dats m 0 c).before 19 t d))
    ∗ (∃ d, owns c (st0_20 t) fullShare ((dats m 0 c).before 20 t d))
    ∗ (∃ d, owns c (st0_21 t) fullShare ((dats m 0 c).before 21 t d))
    ∗ (∃ d, owns c (st0_22 t) fullShare ((dats m 0 c).before 22 t d))
    ∗ (∃ d, owns c (st0_23 t) fullShare ((dats m 0 c).before 23 t d))
    ∗ (∃ d, owns c (st0_24 t) fullShare ((dats m 0 c).before 24 t d))
    ∗ (∃ d, owns c (st0_25 t) fullShare ((dats m 0 c).before 25 t d))
    ∗ (∃ d, owns c (st0_26 t) fullShare ((dats m 0 c).before 26 t d))
    ∗ (∃ d, owns c (st0_27 t) fullShare ((dats m 0 c).before 27 t d))
    ∗ (∃ d, owns c (st0_28 t) fullShare ((dats m 0 c).before 28 t d))
    ∗ (∃ d, owns c (st0_29 t) fullShare ((dats m 0 c).before 29 t d))
    ∗ (∃ d, owns c (st0_30 t) fullShare ((dats m 0 c).before 30 t d))
    ∗ (∃ d, owns c (st0_31 t) fullShare ((dats m 0 c).before 31 t d))
    ∗ (∃ d, owns c (st0_32 t) fullShare ((dats m 0 c).before 32 t d)))

/-- What the body returns at a point. -/
def bodyPost (c : Dev nD) (t : Fin cfg0.N) : sProp 𝕄 :=
  iprop((dats m 0 c).Φ t.succ ∗ (dats m 0 c).owesAt () t.succ
    ∗ owns c (st0_0 t) fullShare ((dats m 0 c).after 0 t)
    ∗ owns c (st0_1 t) fullShare ((dats m 0 c).after 1 t)
    ∗ owns c (st0_2 t) fullShare ((dats m 0 c).after 2 t)
    ∗ owns c (st0_3 t) fullShare ((dats m 0 c).after 3 t)
    ∗ owns c (st0_4 t) fullShare ((dats m 0 c).after 4 t)
    ∗ owns c (st0_5 t) fullShare ((dats m 0 c).after 5 t)
    ∗ owns c (st0_6 t) fullShare ((dats m 0 c).after 6 t)
    ∗ owns c (st0_7 t) fullShare ((dats m 0 c).after 7 t)
    ∗ owns c (st0_8 t) fullShare ((dats m 0 c).after 8 t)
    ∗ owns c (st0_9 t) fullShare ((dats m 0 c).after 9 t)
    ∗ owns c (st0_10 t) fullShare ((dats m 0 c).after 10 t)
    ∗ owns c (st0_11 t) fullShare ((dats m 0 c).after 11 t)
    ∗ owns c (st0_12 t) fullShare ((dats m 0 c).after 12 t)
    ∗ owns c (st0_13 t) fullShare ((dats m 0 c).after 13 t)
    ∗ owns c (st0_14 t) fullShare ((dats m 0 c).after 14 t)
    ∗ owns c (st0_15 t) fullShare ((dats m 0 c).after 15 t)
    ∗ owns c (st0_16 t) fullShare ((dats m 0 c).after 16 t)
    ∗ owns c (st0_17 t) fullShare ((dats m 0 c).after 17 t)
    ∗ owns c (st0_18 t) fullShare ((dats m 0 c).after 18 t)
    ∗ owns c (st0_19 t) fullShare ((dats m 0 c).after 19 t)
    ∗ owns c (st0_20 t) fullShare ((dats m 0 c).after 20 t)
    ∗ owns c (st0_21 t) fullShare ((dats m 0 c).after 21 t)
    ∗ owns c (st0_22 t) fullShare ((dats m 0 c).after 22 t)
    ∗ owns c (st0_23 t) fullShare ((dats m 0 c).after 23 t)
    ∗ owns c (st0_24 t) fullShare ((dats m 0 c).after 24 t)
    ∗ owns c (st0_25 t) fullShare ((dats m 0 c).after 25 t)
    ∗ owns c (st0_26 t) fullShare ((dats m 0 c).after 26 t)
    ∗ owns c (st0_27 t) fullShare ((dats m 0 c).after 27 t)
    ∗ owns c (st0_28 t) fullShare ((dats m 0 c).after 28 t)
    ∗ owns c (st0_29 t) fullShare ((dats m 0 c).after 29 t)
    ∗ owns c (st0_30 t) fullShare ((dats m 0 c).after 30 t)
    ∗ owns c (st0_31 t) fullShare ((dats m 0 c).after 31 t)
    ∗ owns c (st0_32 t) fullShare ((dats m 0 c).after 32 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in m c t, after_in m c t, after0_25, after0_26, after0_27, after0_28, after0_29, after0_30, after0_31, after0_32]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  iintro ⟨H0, H1, H2, H3, H4, H5, H6, H7, H8, H9, H10, H11, H12, H13, H14, H15, H16, H17, H18, H19, H20, H21, H22, H23, H24, H25, H26, H27, H28, H29, H30, H31, H32⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iexact H32

/-- The body in the table at a point. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD, Kept m r.2.mem c) :=
  (θ_run defs _ _).mono (fun _ h c => kept_of m (dats m) (A_eq m) h c) (run_main m ρ)

/-- The program terminates without a fault, its arguments unchanged and every counter at zero. -/
theorem frame : θ_run defs (onTc (τ := τ) (main (F := F))) ⟨m, fun _ => 0, ρ⟩ (fun r => (∀ c : Dev nD, Kept m r.2.mem c)
      ∧ r.2.sem = fun _ => 0) :=
  θ_run_and (unchanged m ρ) ((θ_run defs _ _).mono (fun _ h => h.2) (run_main_quiescent m ρ))

end Cert.KernelPrepIdeal.Hand

end
-- ==== Proof.Prep.Shift.lean ====
/-
  The token shift: the rows before and after, which the kernel takes by rotating the block and selecting the edge row,
  and the shifted rows at an element.
-/
module

public import Idealize.ShloMosaic.Lib.Pipeline.ValueKit
public import Idealize.ShloMosaic.Lib.Pointwise
public import Idealize.ShloMosaic.Lib.KernelVsHost
public import proofs.«01_k».proof.Proof.Gen.KernelPrepIdeal.Skeleton

@[expose] public section

set_option maxRecDepth 16384

noncomputable section

namespace Cert.KernelPrepIdeal.Hand

open Cert.KernelPrepIdeal Cert.KernelPrepIdeal.Gen Idealize.ShloMosaic Idealize.ShloMosaic.TcCoe

/-- The shape of `n` rows of `W` lanes. -/
abbrev SW (n W : Nat) : Shape := ⟨2, ![n, W]⟩

/-- Which of eight rows is the one numbered `e`. -/
theorem mark_apply (e : Fin 8) : ∀ r : Fin 8, cmpi .eq (iota .tc S8x1 32 [0] iota_S8x1_d0_w32) (broadcast S8x1 (BitVec.ofNat 32 e.val)) (ix2 r 0)
    = if r.val = e.val then 1#1 else 0#1 := by
  revert e
  decide +kernel

/-- The shape of one block of `n` rows of `W` lanes. -/
abbrev SB (n W : Nat) : Shape := ⟨3, ![1, n, W]⟩

/-- What the operations of the shift ask of the number of lanes. -/
structure Wide (W : Nat) : Prop where
  rot : (SW 128 W).Rotates 0 none
  cm : S8x1.ShapeCasts S8x1
  bm : S8x1.Broadcasts (SW 8 W)
  c1 : (SW 1 W).ShapeCasts (SW 1 W)
  b8 : (SW 1 W).Broadcasts (SW 8 W)
  b128 : (SW 1 W).Broadcasts (SW 128 W)
  lo8 : (SW 128 W).Slices ![0, 0] (SW 8 W)
  hi120 : (SW 128 W).Slices ![8, 0] (SW 120 W)
  lo120 : (SW 128 W).Slices ![0, 0] (SW 120 W)
  hi8 : (SW 128 W).Slices ![120, 0] (SW 8 W)
  row7 : (SW 8 W).Slices ![7, 0] (SW 1 W)
  row0 : (SW 8 W).Slices ![0, 0] (SW 1 W)
  cat : Shape.Concatenates [SW 8 W, SW 120 W] (SW 128 W) 0
  cat' : Shape.Concatenates [SW 120 W, SW 8 W] (SW 128 W) 0
  c128 : (SB 128 W).ShapeCasts (SW 128 W)
  c8 : (SB 8 W).ShapeCasts (SW 8 W)

/-- The shift's facts at 2048 lanes. -/
theorem wide2048 : Wide 2048 := ⟨rotates_S128x2048_d0, shapeCasts_S8x1_S8x1, broadcasts_S8x1_S8x2048, shapeCasts_S1x2048_S1x2048,
  broadcasts_S1x2048_S8x2048, broadcasts_S1x2048_S128x2048, slices_S128x2048_o0_0_S8x2048, slices_S128x2048_o8_0_S120x2048,
  slices_S128x2048_o0_0_S120x2048, slices_S128x2048_o120_0_S8x2048, slices_S8x2048_o7_0_S1x2048, slices_S8x2048_o0_0_S1x2048,
  concatenates_S8x2048_S120x2048_S128x2048_d0, concatenates_S120x2048_S8x2048_S128x2048_d0, shapeCasts_S1x128x2048_S128x2048,
  shapeCasts_S1x8x2048_S8x2048⟩

/-- The shift's facts at 768 lanes. -/
theorem wide768 : Wide 768 := ⟨rotates_S128x768_d0, shapeCasts_S8x1_S8x1, broadcasts_S8x1_S8x768, shapeCasts_S1x768_S1x768,
  broadcasts_S1x768_S8x768, broadcasts_S1x768_S128x768, slices_S128x768_o0_0_S8x768, slices_S128x768_o8_0_S120x768,
  slices_S128x768_o0_0_S120x768, slices_S128x768_o120_0_S8x768, slices_S8x768_o7_0_S1x768, slices_S8x768_o0_0_S1x768,
  concatenates_S8x768_S120x768_S128x768_d0, concatenates_S120x768_S8x768_S128x768_d0, shapeCasts_S1x128x768_S128x768,
  shapeCasts_S1x8x768_S8x768⟩

/-- One of two values, by whether a grid index is the one asked for. -/
theorem pick_apply {α : Type} (e : Fin 32) (a b : α) : ∀ n : Fin 32, Scalar.select (Scalar.cmpi .eq (BitVec.ofNat 32 n.val) (BitVec.ofNat 32 e.val)) a b
    = if n.val = e.val then a else b := by
  intro n
  have h : ∀ e n : Fin 32, Scalar.cmpi .eq (BitVec.ofNat 32 n.val) (BitVec.ofNat 32 e.val) = if n.val = e.val then 1#1 else 0#1 := by decide +kernel
  rw [h]
  by_cases he : n.val = e.val
  · rw [if_pos he, if_pos he]; rfl
  · rw [if_neg he, if_neg he]; rfl

/-- The shifted value of a lane, as the kernel takes it. -/
def mixK (z p n mu : EReal) : EReal :=
  z * (Ideal.ofBits .f32 0x3F800000#32 - mu) + (Ideal.ofBits .f32 0x3F000000#32 * mu) * (p + n)

section
variable {W : Nat} (w : Wide W) (z : FVec Ideal (SW 128 W) .f32) (mu p n : FVec Ideal (SW 1 W) .f32)

/-- A row spread over several, at an element. -/
theorem spread_apply {m : Nat} (h : (SW 1 W).Broadcasts (SW m W)) (r : Fin m) (k : Fin W) : broadcastTo (SW m W) p h (ix2 r k) = p (ix2 0 k) := by
  refine broadcastTo_apply p h _ _ fun a => ?_
  match a with
  | ⟨0, _⟩ => rfl
  | ⟨1, _⟩ =>
    show k.val = if W = 1 then 0 else k.val
    have := k.isLt
    split <;> omega

/-- Eight rows with the one numbered `e` replaced. -/
def edge (y : FVec Ideal (SW 8 W) .f32) (e : Fin 8) : FVec Ideal (SW 8 W) .f32 :=
  select (broadcastTo (SW 8 W) (shapeCast S8x1 (cmpi .eq (iota .tc S8x1 32 [0] iota_S8x1_d0_w32) (broadcast S8x1 (BitVec.ofNat 32 e.val))) w.cm) w.bm)
    (broadcastTo (SW 8 W) (shapeCast (SW 1 W) p w.c1) w.b8) y

/-- The eight rows at an element. -/
theorem edge_apply (y : FVec Ideal (SW 8 W) .f32) (e : Fin 8) (r : Fin 8) (k : Fin W) :
    edge w p y e (ix2 r k) = if r.val = e.val then p (ix2 0 k) else y (ix2 r k) := by
  unfold edge
  rw [shapeCast_self, shapeCast_self]
  have h := mark_apply e r
  generalize cmpi .eq (iota .tc S8x1 32 [0] iota_S8x1_d0_w32) (broadcast S8x1 (BitVec.ofNat 32 e.val)) = g at h ⊢
  have h1 : broadcastTo (SW 8 W) g w.bm (ix2 r k) = g (ix2 r 0) := by
    refine broadcastTo_apply g w.bm _ _ fun a => ?_
    match a with
    | ⟨0, _⟩ => rfl
    | ⟨1, _⟩ => rfl
  show Scalar.select (broadcastTo (SW 8 W) g w.bm (ix2 r k)) (broadcastTo (SW 8 W) p w.b8 (ix2 r k)) (y (ix2 r k)) = _
  rw [h1, spread_apply, h]
  by_cases he : r.val = e.val
  · rw [if_pos he, if_pos he]; rfl
  · rw [if_neg he, if_neg he]; rfl

/-- The rows before, the first of them given. -/
def before : FVec Ideal (SW 128 W) .f32 :=
  concatenate (SW 128 W) 0 [⟨SW 8 W, edge w p (extractStridedSlice (SW 8 W) ![0, 0] (dynamicRotate 0 1#32 none z w.rot) w.lo8) 0⟩,
    ⟨SW 120 W, extractStridedSlice (SW 120 W) ![8, 0] (dynamicRotate 0 1#32 none z w.rot) w.hi120⟩] w.cat

/-- The rows after, the last of them given. -/
def behind : FVec Ideal (SW 128 W) .f32 :=
  concatenate (SW 128 W) 0 [⟨SW 120 W, extractStridedSlice (SW 120 W) ![0, 0] (dynamicRotate 0 127#32 none z w.rot) w.lo120⟩,
    ⟨SW 8 W, edge w n (extractStridedSlice (SW 8 W) ![120, 0] (dynamicRotate 0 127#32 none z w.rot) w.hi8) 7⟩] w.cat'

/-- A rotated block at an element. -/
theorem rot_apply (a : BitVec 32) (r q : Fin 128) (k : Fin W) (h : q.val = (r.val + 128 - a.toNat % 128) % 128) :
    dynamicRotate 0 a none z w.rot (ix2 r k) = z (ix2 q k) := by
  refine dynamicRotate_apply 0 a z w.rot _ _ fun b => ?_
  match b with
  | ⟨0, _⟩ => exact h
  | ⟨1, _⟩ => rfl

/-- Some of the rows at an element. -/
theorem rows_apply {s m : Nat} (o : Nat) (x : FVec Ideal (SW s W) .f32) (h : (SW s W).Slices ![o, 0] (SW m W)) (r : Fin m) (q : Fin s) (k : Fin W) (hq : q.val = o + r.val) :
    extractStridedSlice (SW m W) ![o, 0] x h (ix2 r k) = x (ix2 q k) := by
  refine extractStridedSlice_apply _ x h _ _ fun b => ?_
  match b with
  | ⟨0, _⟩ => exact hq
  | ⟨1, _⟩ => show k.val = 0 + k.val; omega

/-- The rows before at an element. -/
theorem before_apply (r : Fin 128) (k : Fin W) :
    before w z p (ix2 r k) = if r.val = 0 then p (ix2 0 k) else z (ix2 ⟨r.val - 1, by omega⟩ k) := by
  unfold before
  by_cases h8 : r.val < 8
  · refine (concatenate_pair_apply_left (s₁ := SW 8 W) (s₂ := SW 120 W) 0 _ _ w.cat _ rfl (ix2 ⟨r.val, h8⟩ k) fun b => ?_).trans ?_
    · match b with
      | ⟨0, _⟩ => rfl
      | ⟨1, _⟩ => rfl
    · rw [edge_apply]
      show (if r.val = 0 then _ else _) = _
      by_cases h0 : r.val = 0
      · rw [if_pos h0, if_pos h0]
      · rw [if_neg h0, if_neg h0, rows_apply 0 _ w.lo8 ⟨r.val, h8⟩ r k (by dsimp only; omega)]
        exact rot_apply w z 1#32 r ⟨r.val - 1, by omega⟩ k (by show r.val - 1 = (r.val + 128 - 1) % 128; omega)
  · refine (concatenate_pair_apply_right (s₁ := SW 8 W) (s₂ := SW 120 W) 0 _ _ w.cat _ rfl rfl (ix2 ⟨r.val - 8, by omega⟩ k) (fun b hb => ?_) ?_).trans ?_
    · match b with
      | ⟨0, _⟩ => exact absurd rfl hb
      | ⟨1, _⟩ => rfl
    · show r.val - 8 + 8 = r.val; omega
    · rw [if_neg (by omega), rows_apply 8 _ w.hi120 ⟨r.val - 8, by omega⟩ r k (by dsimp only; omega)]
      exact rot_apply w z 1#32 r ⟨r.val - 1, by omega⟩ k (by show r.val - 1 = (r.val + 128 - 1) % 128; omega)

/-- The rows after at an element. -/
theorem behind_apply (r : Fin 128) (k : Fin W) :
    behind w z n (ix2 r k) = if h : r.val = 127 then n (ix2 0 k) else z (ix2 ⟨r.val + 1, by omega⟩ k) := by
  unfold behind
  by_cases h8 : r.val < 120
  · refine (concatenate_pair_apply_left (s₁ := SW 120 W) (s₂ := SW 8 W) 0 _ _ w.cat' _ rfl (ix2 ⟨r.val, h8⟩ k) fun b => ?_).trans ?_
    · match b with
      | ⟨0, _⟩ => rfl
      | ⟨1, _⟩ => rfl
    · rw [dif_neg (by omega), rows_apply 0 _ w.lo120 ⟨r.val, h8⟩ r k (by dsimp only; omega)]
      exact rot_apply w z 127#32 r ⟨r.val + 1, by omega⟩ k (by show r.val + 1 = (r.val + 128 - 127) % 128; omega)
  · refine (concatenate_pair_apply_right (s₁ := SW 120 W) (s₂ := SW 8 W) 0 _ _ w.cat' _ rfl rfl (ix2 ⟨r.val - 120, by omega⟩ k) (fun b hb => ?_) ?_).trans ?_
    · match b with
      | ⟨0, _⟩ => exact absurd rfl hb
      | ⟨1, _⟩ => rfl
    · show r.val - 120 + 120 = r.val; omega
    · rw [edge_apply]
      show (if r.val - 120 = 7 then _ else _) = _
      by_cases h0 : r.val = 127
      · rw [if_pos (by omega), dif_pos h0]
      · rw [if_neg (by omega), dif_neg h0, rows_apply 120 _ w.hi8 ⟨r.val - 120, by omega⟩ r k (by dsimp only; omega)]
        exact rot_apply w z 127#32 r ⟨r.val + 1, by omega⟩ k (by show r.val + 1 = (r.val + 128 - 127) % 128; omega)

/-- The shifted rows. -/
def shifted : FVec Ideal (SW 128 W) .f32 :=
  addf (mulf z (broadcastTo (SW 128 W) (subf (broadcast (SW 1 W) (Scalar.ofBits .f32 0x3F800000#32)) mu) w.b128))
    (mulf (broadcastTo (SW 128 W) (mulf (broadcast (SW 1 W) (Scalar.ofBits .f32 0x3F000000#32)) mu) w.b128) (addf (before w z p) (behind w z n)))

/-- The shifted rows at an element. -/
theorem shifted_apply (r : Fin 128) (k : Fin W) :
    shifted w z mu p n (ix2 r k) = mixK (z (ix2 r k)) (before w z p (ix2 r k)) (behind w z n (ix2 r k)) (mu (ix2 0 k)) := by
  show z (ix2 r k) * broadcastTo (SW 128 W) _ w.b128 (ix2 r k) + broadcastTo (SW 128 W) _ w.b128 (ix2 r k) * _ = _
  rw [spread_apply, spread_apply]
  rfl

/-- The shifted rows of a point's blocks: the rows, the eight before, the eight after. -/
def sh (i : grid0.Coords) (x : FVec Ideal (SB 128 W) .f32) (xp xn : FVec Ideal (SB 8 W) .f32) : FVec Ideal (SW 128 W) .f32 :=
  shifted w (shapeCast (SW 128 W) x w.c128) (shapeCast (SW 1 W) mu w.c1)
    (Scalar.select (Scalar.cmpi .eq (BitVec.ofNat 32 (i 1).val) 0#32) (broadcast (SW 1 W) (Scalar.ofBits .f32 0x00000000#32))
      (extractStridedSlice (SW 1 W) ![7, 0] (shapeCast (SW 8 W) xp w.c8) w.row7))
    (Scalar.select (Scalar.cmpi .eq (BitVec.ofNat 32 (i 1).val) 31#32) (broadcast (SW 1 W) (Scalar.ofBits .f32 0x00000000#32))
      (extractStridedSlice (SW 1 W) ![0, 0] (shapeCast (SW 8 W) xn w.c8) w.row0))

/-- A block without its leading axis, at an element. -/
theorem drop_apply {m : Nat} (x : FVec Ideal (SB m W) .f32) (h : (SB m W).ShapeCasts (SW m W)) (r : Fin m) (k : Fin W) :
    shapeCast (SW m W) x h (ix2 r k) = x (ix3 0 r k) := by
  refine (shapeCast_dropUnit_apply ![m, W] x h (ix2 r k)).trans (congrArg x (funext fun a => ?_))
  match a with
  | ⟨0, _⟩ => rfl
  | ⟨1, _⟩ => rfl
  | ⟨2, _⟩ => rfl

/-- The shifted rows of a point's blocks at an element. -/
theorem sh_apply (i : grid0.Coords) (x : FVec Ideal (SB 128 W) .f32) (xp xn : FVec Ideal (SB 8 W) .f32) (r : Fin 128) (k : Fin W) :
    sh w mu i x xp xn (ix2 r k) = mixK (x (ix3 0 r k))
      (if r.val = 0 then (if (i 1).val = 0 then 0 else xp (ix3 0 7 k)) else x (ix3 0 ⟨r.val - 1, by omega⟩ k))
      (if h : r.val = 127 then (if (i 1).val = 31 then 0 else xn (ix3 0 0 k)) else x (ix3 0 ⟨r.val + 1, by omega⟩ k)) (mu (ix2 0 k)) := by
  have z0 : Ideal.ofBits .f32 0x00000000#32 = 0 := by simp [Ideal.ofBits, Ideal.ieee]
  unfold sh
  rw [shifted_apply, before_apply, behind_apply, shapeCast_self, drop_apply, drop_apply]
  have ha := fun a b : FVec Ideal (SW 1 W) .f32 => pick_apply 0 a b (i 1)
  have hb := fun a b : FVec Ideal (SW 1 W) .f32 => pick_apply 31 a b (i 1)
  refine congrArg₂ (fun p q => mixK _ p q _) ?_ ?_
  · refine if_congr Iff.rfl ?_ rfl
    refine (congrFun (ha _ _) _).trans ?_
    show (if (i 1).val = 0 then _ else _ : FVec Ideal (SW 1 W) .f32) _ = _
    split
    · exact z0
    · rw [rows_apply 7 _ w.row7 0 7 k rfl, drop_apply]
  · split
    · refine (congrFun (hb _ _) _).trans ?_
      show (if (i 1).val = 31 then _ else _ : FVec Ideal (SW 1 W) .f32) _ = _
      split
      · exact z0
      · rw [rows_apply 0 _ w.row0 0 0 k rfl, drop_apply]
    · rw [drop_apply]

end

/-- The shifted receptance rows. -/
theorem r_eq (i : grid0.Coords) (x : Vec Ideal S1x128x2048 .f32) (xp xn : Vec Ideal S1x8x2048 .f32) (mu : Vec Ideal S1x2048 .f32) :
    k0_pay7 (F := Ideal) (k0_pay3 x) (k0_pay4 mu) (k0_pay5 i x xp) (k0_pay6 i x xn) = sh wide2048 mu i x xp xn := rfl

/-- The shifted key rows. -/
theorem k_eq (i : grid0.Coords) (x : Vec Ideal S1x128x2048 .f32) (xp xn : Vec Ideal S1x8x2048 .f32) (mu : Vec Ideal S1x2048 .f32) :
    k0_pay16 (F := Ideal) (k0_pay8 x) (k0_pay9 mu) (k0_pay10 (Scalar.cmpi .eq (BitVec.ofNat 32 (i 1).val) 31#32) xn)
      (k0_pay12 (Scalar.cmpi .eq (BitVec.ofNat 32 (i 1).val) 0#32) x xp) (k0_pay13 x) k0_pay14 (k0_pay15 x) = sh wide2048 mu i x xp xn := rfl

/-- The shifted value rows. -/
theorem v_eq (i : grid0.Coords) (x : Vec Ideal S1x128x2048 .f32) (xp xn : Vec Ideal S1x8x2048 .f32) (mu : Vec Ideal S1x2048 .f32) :
    k0_pay24 (F := Ideal) (k0_pay17 x) (k0_pay18 mu) (iota .tc S8x1 32 [0] iota_S8x1_d0_w32)
      (k0_pay19 (Scalar.cmpi .eq (BitVec.ofNat 32 (i 1).val) 31#32) xn) (k0_pay21 x)
      (k0_pay22 (Scalar.cmpi .eq (BitVec.ofNat 32 (i 1).val) 0#32) x xp) (k0_pay23 x) = sh wide2048 mu i x xp xn := rfl

/-- The shifted low-rank rows. -/
theorem lo_eq (i : grid0.Coords) (x : Vec Ideal S1x128x768 .f32) (xp xn : Vec Ideal S1x8x768 .f32) (mu : Vec Ideal S1x768 .f32) :
    k0_pay33 (F := Ideal) (k0_pay25 x) (k0_pay26 mu) (iota .tc S8x1 32 [0] iota_S8x1_d0_w32)
      (k0_pay27 (Scalar.cmpi .eq (BitVec.ofNat 32 (i 1).val) 0#32) xp) (k0_pay28 (Scalar.cmpi .eq (BitVec.ofNat 32 (i 1).val) 31#32) xn)
      (k0_pay29 x) (k0_pay30 x) k0_pay31 (k0_pay32 x) = sh wide768 mu i x xp xn := rfl

end Cert.KernelPrepIdeal.Hand
end
-- ==== Proof.Prep.Spec.lean ====
/-
  The scan's operands at an element, as the reference's mathematics has them: the token shift, the low-rank gates, the
  normalised keys, and the bonus.
-/
module

public import Idealize.ShloMosaic.Lib.Pointwise

@[expose] public section

noncomputable section

namespace Prep

open Idealize.ShloMosaic

/-- A lane of the 2048, from its head and its place in the head. -/
abbrev lane (h : Fin 32) (d : Fin 64) : Fin 2048 := ⟨64 * h.val + d.val, by omega⟩

/-- Every lane is of a head. -/
theorem exists_lane (j : Fin 2048) : ∃ (h : Fin 32) (d : Fin 64), lane h d = j :=
  ⟨⟨j.val / 64, by omega⟩, ⟨j.val % 64, by omega⟩, Fin.ext (by dsimp only; omega)⟩

/-- A value moved by `mu` towards the mean of its two neighbours. -/
def mix (z p n mu : EReal) : EReal := z + mu * (Ideal.ofBits .f32 0x3F000000#32 * (p + n) - z)

/-- The shifted rows of an array of `W` lanes. -/
def shift {W : Nat} (x : (⟨3, ![4, 4096, W]⟩ : Shape).Idx → EReal) (mu : Fin W → EReal) (b : Fin 4) (t : Fin 4096) (j : Fin W) : EReal :=
  mix (x (ix3 b t j)) (if t.val = 0 then 0 else x (ix3 b ⟨t.val - 1, by omega⟩ j))
    (if h : t.val = 4095 then 0 else x (ix3 b ⟨t.val + 1, by omega⟩ j)) (mu j)

/-- The receptance, key and value rows. -/
def rkv (x : (⟨3, ![4, 4096, 6144]⟩ : Shape).Idx → EReal) (mu : (⟨2, ![1, 6912]⟩ : Shape).Idx → EReal) : Fin 4 → Fin 4096 → Fin 6144 → EReal :=
  shift x fun j => mu (ix2 0 ⟨j.val, by omega⟩)

/-- The low-rank rows. -/
def low (x : (⟨3, ![4, 4096, 768]⟩ : Shape).Idx → EReal) (mu : (⟨2, ![1, 6912]⟩ : Shape).Idx → EReal) : Fin 4 → Fin 4096 → Fin 768 → EReal :=
  shift x fun j => mu (ix2 0 ⟨6144 + j.val, by omega⟩)

/-- The receptance at a lane. -/
abbrev rr (z : Fin 6144 → EReal) (j : Fin 2048) : EReal := z ⟨j.val, by omega⟩
/-- The key at a lane. -/
abbrev kr (z : Fin 6144 → EReal) (j : Fin 2048) : EReal := z ⟨2048 + j.val, by omega⟩
/-- The value at a lane. -/
abbrev vr (z : Fin 6144 → EReal) (j : Fin 2048) : EReal := z ⟨4096 + j.val, by omega⟩

/-- The gate at a lane. -/
def gate (l : Fin 768 → EReal) (w : Fin 512 → EReal) : EReal := ∑ x : Fin 512, Ideal.logistic (l ⟨256 + x.val, by omega⟩) * w x

/-- The key at a lane of a head, over the head's length. -/
def unit (k : Fin 64 → EReal) (d : Fin 64) : EReal :=
  k d * Ideal.rsqrt (max (∑ x, k x * k x) (Ideal.ofBits .f32 0x2B8CBCCC#32))

/-- The logarithm of the decay at a lane. -/
def decay (l : Fin 768 → EReal) (b : EReal) (w : Fin 128 → EReal) : EReal :=
  Ideal.ofBits .f32 0xBF1B4598#32 * Ideal.logistic (b + ∑ x : Fin 128, Ideal.tanh (l ⟨x.val, by omega⟩) * w x)

/-- The learning rate at a lane. -/
def rate (l : Fin 768 → EReal) (b : EReal) (w : Fin 128 → EReal) : EReal :=
  Ideal.logistic (b + ∑ x : Fin 128, l ⟨128 + x.val, by omega⟩ * w x)

/-- The scaled key at a lane. -/
def key (k a ka : EReal) : EReal := k * (1 + (a - 1) * ka)

/-- The sum of the bonus of one direction over a head. -/
def score (r k w : Fin 64 → EReal) : EReal := ∑ x, r x * k x * w x

end Prep
end
-- ==== Proof.Prep.Pay.lean ====
/-
  What a point of the call that prepares the scan's operands stores at an element: the sums over a head's lanes it takes by
  a product with a 0/1 matrix, the gates, the scaled keys and the bonus, from its shifted rows.
-/
module

public import proofs.«01_k».proof.Proof.Gen.KernelPrepIdeal.Skeleton
public import Idealize.ShloMosaic.Lib.Pipeline.ValueKit
public import Idealize.ShloMosaic.Lib.Pointwise
public import Idealize.ShloMosaic.Lib.KernelVsHost
public import proofs.«01_k».proof.Proof.Prep.Spec

@[expose] public section

set_option maxRecDepth 16384

noncomputable section

namespace Cert.KernelPrepIdeal.Hand

open Cert.KernelPrepIdeal Cert.KernelPrepIdeal.Gen Idealize.ShloMosaic Idealize.ShloMosaic.TcCoe Prep

/-- A block of 128 columns lies in the 2048. -/
theorem cols : ∀ n : Fin 16, S128x2048.Slices ![0, 128 * n.val] S128x128 := by decide
/-- A band of 128 rows lies in the 2048 stacked ones. -/
theorem bands : ∀ n : Fin 16, S2048x128.Slices ![128 * n.val, 0] S128x128 := by decide
/-- Sixteen blocks stacked make the 2048 rows. -/
theorem piled {α : Type} {f : Fin 16 → (S128x128.Idx → α)} :
    Shape.Concatenates ((List.ofFn fun n : Fin 16 => (⟨S128x128, f n⟩ : (s : Shape) × (s.Idx → α))).map (·.1)) S2048x128 0 :=
  (by decide : Shape.Concatenates (List.replicate 16 S128x128) S2048x128 0)
/-- Sixteen bands side by side make the 2048 columns. -/
theorem joined {α : Type} {f : Fin 16 → (S128x128.Idx → α)} :
    Shape.Concatenates ((List.ofFn fun n : Fin 16 => (⟨S128x128, f n⟩ : (s : Shape) × (s.Idx → α))).map (·.1)) S128x2048 1 :=
  (by decide : Shape.Concatenates (List.replicate 16 S128x128) S128x2048 1)

/-- The sixteen column blocks of 128 lanes, stacked as rows. -/
def stack (y : Vec Ideal S128x2048 .f32) : FVec Ideal S2048x128 .f32 :=
  concatenate S2048x128 0 (List.ofFn fun n : Fin 16 => ⟨S128x128, extractStridedSlice S128x128 ![0, 128 * n.val] y
    (cols n)⟩) piled

/-- The stacked rows laid side by side again. -/
def unstack (s : FVec Ideal S2048x128 .f32) : FVec Ideal S128x2048 .f32 :=
  concatenate S128x2048 1 (List.ofFn fun n : Fin 16 => ⟨S128x128, extractStridedSlice S128x128 ![128 * n.val, 0] s
    (bands n)⟩) joined

/-- The product of the stacked blocks with the matrix, unstacked. -/
def hsum (y : Vec Ideal S128x2048 .f32) (j : Vec Ideal S128x128 .bf16) : FVec Ideal S128x2048 .f32 :=
  unstack (matmul dot_S2048x128_S128x128_S2048x128_1_0_0_1_n_n none (truncf .bf16 (stack y) bitsLt_bf16_f32)
    (shapeCast S128x128 j shapeCasts_S128x128_S128x128 : FVec Ideal S128x128 .bf16) (constant S2048x128 .f32 0x00000000#32))

/-- A stacked row at an element. -/
theorem stack_apply (y : Vec Ideal S128x2048 .f32) (n : Fin 16) (r : Fin 128) (k : Fin 128) :
    stack y (ix2 ⟨128 * n.val + r.val, by omega⟩ k) = y (ix2 r ⟨128 * n.val + k.val, by omega⟩) := by
  unfold stack
  refine (concatenate_ofFn_apply (s₁ := S128x128) 0 (fun n : Fin 16 => extractStridedSlice S128x128 ![0, 128 * n.val] y
    (cols n)) piled rfl 128 rfl _ n ?_ (ix2 r k) ?_ ?_).trans ?_
  · show (128 * n.val + r.val) / 128 = n.val; omega
  · show r.val = (128 * n.val + r.val) % 128; omega
  · intro b hb
    match b with
    | ⟨0, _⟩ => exact absurd rfl hb
    | ⟨1, _⟩ => rfl
  · pointwise []

/-- An unstacked row at an element. -/
theorem unstack_apply (s : FVec Ideal S2048x128 .f32) (n : Fin 16) (r : Fin 128) (k : Fin 128) :
    unstack s (ix2 r ⟨128 * n.val + k.val, by omega⟩) = s (ix2 ⟨128 * n.val + r.val, by omega⟩ k) := by
  unfold unstack
  refine (concatenate_ofFn_apply (s₁ := S128x128) 1 (fun n : Fin 16 => extractStridedSlice S128x128 ![128 * n.val, 0] s
    (bands n)) joined rfl 128 rfl _ n ?_ (ix2 r k) ?_ ?_).trans ?_
  · show (128 * n.val + k.val) / 128 = n.val; omega
  · show k.val = (128 * n.val + k.val) % 128; omega
  · intro b hb
    match b with
    | ⟨0, _⟩ => rfl
    | ⟨1, _⟩ => exact absurd rfl hb
  · pointwise []

/-- The 0/1 matrix: ones where the two lanes are of one head. -/
def sameHead (j : Vec Ideal S128x128 .bf16) : Prop :=
  ∀ k l : Fin 128, j (ix2 k l) = if k.val / 64 = l.val / 64 then (1 : EReal) else 0

/-- A sum over 128 lanes weighted by one head's indicator is the sum over the head's 64 lanes. -/
theorem sum_head (f : Fin 128 → EReal) (q : Fin 2) :
    ∑ k : Fin 128, f k * (if k.val / 64 = q.val then (1 : EReal) else 0) = ∑ x : Fin 64, f ⟨64 * q.val + x.val, by omega⟩ := by
  rw [show (∑ k : Fin 128, f k * (if k.val / 64 = q.val then (1 : EReal) else 0))
    = ∑ k : Fin (64 + 64), f k * (if k.val / 64 = q.val then (1 : EReal) else 0) from rfl, Fin.sum_univ_add]
  match q with
  | ⟨0, _⟩ =>
    rw [show (∑ x : Fin 64, f (Fin.natAdd 64 x) * (if (Fin.natAdd 64 x).val / 64 = 0 then (1 : EReal) else 0)) = 0 from
      Finset.sum_eq_zero fun x _ => by rw [if_neg (by show ¬ (64 + x.val) / 64 = 0; omega), mul_zero], add_zero]
    refine Finset.sum_congr rfl fun x _ => ?_
    rw [if_pos (by show x.val / 64 = 0; omega), mul_one]
    exact congrArg f (Fin.ext (by show x.val = 64 * 0 + x.val; omega))
  | ⟨1, _⟩ =>
    rw [show (∑ x : Fin 64, f (Fin.castAdd 64 x) * (if (Fin.castAdd 64 x).val / 64 = 1 then (1 : EReal) else 0)) = 0 from
      Finset.sum_eq_zero fun x _ => by rw [if_neg (by show ¬ x.val / 64 = 1; omega), mul_zero], zero_add]
    refine Finset.sum_congr rfl fun x _ => ?_
    rw [if_pos (by show (64 + x.val) / 64 = 1; omega), mul_one]
    exact congrArg f (Fin.ext (by show 64 + x.val = 64 * 1 + x.val; omega))

/-- The product with the matrix at an element. -/
theorem mm_apply (a : FVec Ideal S2048x128 .bf16) (j : FVec Ideal S128x128 .bf16) (i : Fin 2048) (l : Fin 128) :
    matmul dot_S2048x128_S128x128_S2048x128_1_0_0_1_n_n none a j (constant S2048x128 .f32 0x00000000#32) (ix2 i l)
      = ∑ k : Fin 128, a (ix2 i k) * j (ix2 k l) := by
  pointwise []

/-- The kernel's sum at a lane, as the sum over the lane's block of 128. -/
theorem hsum_block (y : Vec Ideal S128x2048 .f32) (j : Vec Ideal S128x128 .bf16) (r : Fin 128) (n : Fin 16) (l : Fin 128) :
    hsum y j (ix2 r ⟨128 * n.val + l.val, by omega⟩)
      = ∑ k : Fin 128, y (ix2 r ⟨128 * n.val + k.val, by omega⟩) * j (ix2 k l) := by
  unfold hsum
  rw [unstack_apply, shapeCast_self, mm_apply]
  exact Finset.sum_congr rfl fun k _ => congrArg (· * j (ix2 k l)) (stack_apply y n r k)

/-- The kernel's sum at a lane is the sum over the lane's head. -/
theorem hsum_apply (y : Vec Ideal S128x2048 .f32) (j : Vec Ideal S128x128 .bf16) (hj : sameHead j) (r : Fin 128) (h : Fin 32) (d : Fin 64) :
    hsum y j (ix2 r (lane h d)) = ∑ x : Fin 64, y (ix2 r (lane h x)) := by
  have hq : (64 * (h.val % 2) + d.val) / 64 = h.val % 2 := by omega
  have e : ∀ x : Fin 64, lane h x = ⟨128 * (h.val / 2) + (64 * (h.val % 2) + x.val), by omega⟩ := fun x => Fin.ext (by dsimp only; omega)
  rw [e d]
  refine (hsum_block y j r ⟨h.val / 2, by omega⟩ ⟨64 * (h.val % 2) + d.val, by omega⟩).trans ?_
  refine (Finset.sum_congr rfl fun k _ => congrArg (y (ix2 r ⟨128 * (h.val / 2) + k.val, by omega⟩) * ·)
    ((hj k ⟨64 * (h.val % 2) + d.val, by omega⟩).trans
      (show (if k.val / 64 = (64 * (h.val % 2) + d.val) / 64 then (1 : EReal) else 0) = if k.val / 64 = h.val % 2 then 1 else 0 by rw [hq]))).trans ?_
  refine (sum_head (fun k => y (ix2 r ⟨128 * (h.val / 2) + k.val, by omega⟩)) ⟨h.val % 2, by omega⟩).trans ?_
  exact Finset.sum_congr rfl fun x _ => congrArg (fun l => y (ix2 r l)) (e x).symm

variable (R K V : FVec Ideal S128x2048 .f32) (L : FVec Ideal S128x768 .f32)
  (w ka rk : Vec Ideal S1x2048 .f32) (u : Vec Ideal S1x128x2048 .bf16) (jm : Vec Ideal S128x128 .bf16)

/-- The first 128 low-rank columns. -/
abbrev dec : FVec Ideal S128x128 .f32 := extractStridedSlice S128x128 ![0, 0] L slices_S128x768_o0_0_S128x128
/-- The next 128 low-rank columns. -/
abbrev rat : FVec Ideal S128x128 .bf16 := k0_pay45 (extractStridedSlice S128x128 ![0, 128] L slices_S128x768_o0_128_S128x128)

/-- The logarithm of the decay as the point takes it, forwards. -/
theorem lw0_apply (r : Fin 128) (j : Fin 2048) :
    k0_pay47 (F := Ideal) (k0_pay46 (dec L) w u) (Scalar.ofBits .f32 0xBF1B4598#32) (ix4 0 0 r j)
      = decay (fun x => L (ix2 r x)) (w (ix2 0 j)) fun x => u (ix3 0 x j) := by
  unfold decay
  pointwise [k0_pay47, k0_pay46, k0_pay44]

/-- The logarithm of the decay as the point takes it, backwards. -/
theorem lw1_apply (r : Fin 128) (j : Fin 2048) :
    k0_pay56 (F := Ideal) (k0_pay55 (k0_pay44 (dec L)) w u) (ix4 0 0 r j)
      = decay (fun x => L (ix2 r x)) (w (ix2 0 j)) fun x => u (ix3 0 x j) := by
  unfold decay
  pointwise [k0_pay56, k0_pay55, k0_pay44]

/-- The learning rate as the point takes it. -/
theorem rate_apply (r : Fin 128) (j : Fin 2048) :
    k0_pay48 (F := Ideal) (rat L) w u (ix2 r j) = rate (fun x => L (ix2 r x)) (w (ix2 0 j)) fun x => u (ix3 0 x j) := by
  unfold rate
  pointwise [k0_pay48, k0_pay45]

/-- The learning rate as the point stores it. -/
theorem a_apply (r : Fin 128) (j : Fin 2048) :
    k0_pay50 (F := Ideal) (rat L) w u (ix4 0 0 r j) = rate (fun x => L (ix2 r x)) (w (ix2 0 j)) fun x => u (ix3 0 x j) := by
  rw [← rate_apply]
  generalize ha : k0_pay48 (F := Ideal) (rat L) w u = a
  pointwise [k0_pay50]
  rw [ha]

/-- The scaled key as the point takes it. -/
theorem key_apply (r : Fin 128) (j : Fin 2048) :
    k0_pay49 (F := Ideal) K (rat L) w u ka (ix2 r j)
      = key (K (ix2 r j)) (rate (fun x => L (ix2 r x)) (w (ix2 0 j)) fun x => u (ix3 0 x j)) (ka (ix2 0 j)) := by
  rw [← rate_apply]
  unfold key
  generalize ha : k0_pay48 (F := Ideal) (rat L) w u = a
  pointwise [k0_pay49]
  rw [ha]

/-- The scaled key as the point stores it. -/
theorem kd_apply (r : Fin 128) (j : Fin 2048) :
    k0_pay51 (F := Ideal) K (rat L) w u ka (ix4 0 0 r j)
      = key (K (ix2 r j)) (rate (fun x => L (ix2 r x)) (w (ix2 0 j)) fun x => u (ix3 0 x j)) (ka (ix2 0 j)) := by
  rw [← key_apply]
  generalize ha : k0_pay49 (F := Ideal) K (rat L) w u ka = a
  pointwise [k0_pay51]
  rw [ha]

/-- The backward direction's payloads are the forward one's. -/
theorem back_a : k0_pay59 (F := Ideal) (rat L) w u = k0_pay50 (rat L) w u := rfl
/-- The backward direction's payloads are the forward one's. -/
theorem back_k : k0_pay60 (F := Ideal) K (rat L) w u ka = k0_pay51 K (rat L) w u ka := rfl

/-- The gate as the point stores it. -/
theorem gate_apply (wg : Vec Ideal S512x2048 .bf16) (r : Fin 128) (j : Fin 2048) :
    shapeCast S1x128x2048 (truncf .bf16 (matmul dot_S128x512_S512x2048_S128x2048_1_0_0_1_n_n none (truncf .bf16 (logistic (extractStridedSlice S128x512 ![0, 256] L slices_S128x768_o0_256_S128x512)) bitsLt_bf16_f32)
      (shapeCast S512x2048 wg shapeCasts_S512x2048_S512x2048 : FVec Ideal S512x2048 .bf16) (constant S128x2048 .f32 0x00000000#32) : FVec Ideal S128x2048 .f32) bitsLt_bf16_f32 : FVec Ideal S128x2048 .bf16) shapeCasts_S128x2048_S1x128x2048 (ix3 0 r j)
      = gate (fun x => L (ix2 r x)) fun x => wg (ix2 x j) := by
  unfold gate
  pointwise []

/-- The keys times their weights. -/
theorem kx_apply (r : Fin 128) (j : Fin 2048) : k0_pay37 (F := Ideal) K w (ix2 r j) = K (ix2 r j) * w (ix2 0 j) := by
  pointwise [k0_pay37]

/-- The normalised keys, with the sums over a head as the kernel takes them. -/
theorem kk_eq : k0_pay43 (F := Ideal) (k0_pay37 K w) (k0_pay38 K w) (k0_pay39 K w) (k0_pay40 K w) (k0_pay41 K w) (k0_pay42 K w) jm
    = mulf (k0_pay37 K w) (rsqrt (maximumf (hsum (k0_pay38 K w) jm) (broadcast S128x2048 (Scalar.ofBits .f32 0x2B8CBCCC#32)))) := rfl

/-- The normalised keys as the point stores them. -/
theorem kk_apply (hj : sameHead jm) (r : Fin 128) (h : Fin 32) (d : Fin 64) :
    k0_pay1 (F := Ideal) (k0_pay65 (k0_pay43 (k0_pay37 K w) (k0_pay38 K w) (k0_pay39 K w) (k0_pay40 K w) (k0_pay41 K w) (k0_pay42 K w) jm)) (ix3 0 r (lane h d))
      = unit (fun e => K (ix2 r (lane h e)) * w (ix2 0 (lane h e))) d := by
  rw [kk_eq]
  unfold unit
  have hs := hsum_apply (k0_pay38 K w) jm hj r h d
  have h2 : ∀ e, k0_pay38 (F := Ideal) K w (ix2 r e) = k0_pay37 K w (ix2 r e) * k0_pay37 K w (ix2 r e) := fun e => rfl
  simp only [h2, kx_apply] at hs
  rw [← hs]
  beta_reduce
  rw [← kx_apply]
  generalize hA : hsum (k0_pay38 K w) jm = A
  generalize hB : k0_pay37 (F := Ideal) K w = B
  pointwise [k0_pay1, k0_pay65]

/-- The bonus, with the sums over a head as the kernel takes them. -/
theorem bonus_eq (w' : Vec Ideal S1x2048 .f32) (u' : Vec Ideal S1x128x2048 .bf16) :
    k0_pay2 (F := Ideal) V (k0_pay62 (k0_pay54 (k0_pay52 R K (rat L) w u ka) (k0_pay53 rk) jm) (k0_pay61 R K (rat L) w' u' ka rk) jm)
      = shapeCast S1x128x2048 (truncf .bf16 (mulf (addf (hsum (k0_pay61 R K (rat L) w u ka rk) jm) (hsum (k0_pay61 R K (rat L) w' u' ka rk) jm)) V) bitsLt_bf16_f32 : FVec Ideal S128x2048 .bf16)
          shapeCasts_S128x2048_S1x128x2048 := rfl

/-- A term of a head's score. -/
theorem term_apply (r : Fin 128) (j : Fin 2048) : k0_pay61 (F := Ideal) R K (rat L) w u ka rk (ix2 r j)
    = R (ix2 r j) * key (K (ix2 r j)) (rate (fun x => L (ix2 r x)) (w (ix2 0 j)) fun x => u (ix3 0 x j)) (ka (ix2 0 j)) * rk (ix2 0 j) := by
  rw [← key_apply]
  have hb : k0_pay58 (F := Ideal) K (rat L) w u ka = k0_pay49 K (rat L) w u ka := rfl
  generalize ha : k0_pay49 (F := Ideal) K (rat L) w u ka = a at hb
  pointwise [k0_pay61]
  rw [hb]

/-- The bonus as the point stores it. -/
theorem bonus_apply (w' : Vec Ideal S1x2048 .f32) (u' : Vec Ideal S1x128x2048 .bf16) (hj : sameHead jm) (r : Fin 128) (h : Fin 32) (d : Fin 64) :
    k0_pay2 (F := Ideal) V (k0_pay62 (k0_pay54 (k0_pay52 R K (rat L) w u ka) (k0_pay53 rk) jm) (k0_pay61 R K (rat L) w' u' ka rk) jm) (ix3 0 r (lane h d))
      = (score (fun e => R (ix2 r (lane h e))) (fun e => key (K (ix2 r (lane h e))) (rate (fun x => L (ix2 r x)) (w (ix2 0 (lane h e))) fun x => u (ix3 0 x (lane h e))) (ka (ix2 0 (lane h e)))) (fun e => rk (ix2 0 (lane h e)))
        + score (fun e => R (ix2 r (lane h e))) (fun e => key (K (ix2 r (lane h e))) (rate (fun x => L (ix2 r x)) (w' (ix2 0 (lane h e))) fun x => u' (ix3 0 x (lane h e))) (ka (ix2 0 (lane h e)))) (fun e => rk (ix2 0 (lane h e))))
        * V (ix2 r (lane h d)) := by
  rw [bonus_eq]
  unfold score
  have h1 := hsum_apply (k0_pay61 R K (rat L) w u ka rk) jm hj r h d
  have h2 := hsum_apply (k0_pay61 R K (rat L) w' u' ka rk) jm hj r h d
  simp only [term_apply] at h1 h2
  rw [← h1, ← h2]
  generalize hsum (k0_pay61 R K (rat L) w u ka rk) jm = A
  generalize hsum (k0_pay61 R K (rat L) w' u' ka rk) jm = B
  pointwise []

end Cert.KernelPrepIdeal.Hand
end
-- ==== Proof.Prep.Real.lean ====
/-
  Where the numbers are finite, the kernel's grouping of the token shift and of the bonus is the reference's.
-/
module

public import Idealize.ShloMosaic.Lib.Pointwise
public import proofs.«01_k».proof.Proof.Prep.Spec

@[expose] public section

noncomputable section

namespace Prep

open Idealize.ShloMosaic

/-- A finite number. -/
def Finite (x : EReal) : Prop := ∃ r : ℝ, x = (r : EReal)

/-- Zero is finite. -/
theorem real_zero : Finite 0 := ⟨0, rfl⟩
/-- One is finite. -/
theorem real_one : Finite 1 := ⟨1, rfl⟩
/-- A sum of two finite numbers is finite. -/
theorem real_add {x y : EReal} : Finite x → Finite y → Finite (x + y) := fun ⟨a, ha⟩ ⟨b, hb⟩ => ⟨a + b, by rw [ha, hb, EReal.coe_add]⟩
/-- A difference of two finite numbers is finite. -/
theorem real_sub {x y : EReal} : Finite x → Finite y → Finite (x - y) := fun ⟨a, ha⟩ ⟨b, hb⟩ => ⟨a - b, by rw [ha, hb, EReal.coe_sub]⟩
/-- A product of two finite numbers is finite. -/
theorem real_mul {x y : EReal} : Finite x → Finite y → Finite (x * y) := fun ⟨a, ha⟩ ⟨b, hb⟩ => ⟨a * b, by rw [ha, hb, EReal.coe_mul]⟩
/-- A finite sum of finite numbers is finite. -/
theorem real_sum {ι : Type} (s : Finset ι) (f : ι → EReal) (h : ∀ i, Finite (f i)) : Finite (∑ i ∈ s, f i) :=
  Finset.sum_induction f Finite (fun _ _ => real_add) real_zero fun i _ => h i
/-- A sigmoid is finite, whatever its argument. -/
theorem real_logistic (x : EReal) : Finite (Ideal.logistic x) := by
  induction x with
  | bot => rw [Ideal.logistic_bot]; exact real_zero
  | coe r => exact ⟨_, Ideal.logistic_coe r⟩
  | top => rw [Ideal.logistic_top]; exact real_one

/-- The literal one half. -/
theorem lit_half : Ideal.ofBits .f32 0x3F000000#32 = ((1 / 2 : ℝ) : EReal) := by
  simp [Ideal.ofBits, Ideal.ieee, -EReal.coe_mul]; norm_num
/-- The literal one. -/
theorem lit_one : Ideal.ofBits .f32 0x3F800000#32 = ((1 : ℝ) : EReal) := by
  simp [Ideal.ofBits, Ideal.ieee, -EReal.coe_mul]; norm_num

/-- A value moved towards its neighbours' mean, in the kernel's grouping. -/
theorem mix_of_real {z p n mu : EReal} : Finite z → Finite p → Finite n → Finite mu →
    z * (Ideal.ofBits .f32 0x3F800000#32 - mu) + (Ideal.ofBits .f32 0x3F000000#32 * mu) * (p + n) = mix z p n mu := by
  rintro ⟨a, rfl⟩ ⟨b, rfl⟩ ⟨c, rfl⟩ ⟨d, rfl⟩
  unfold mix
  rw [lit_half, lit_one]
  norm_cast
  ring

/-- A finite value moved towards its finite neighbours' mean is finite. -/
theorem real_mix {z p n mu : EReal} (hz : Finite z) (hp : Finite p) (hn : Finite n) (hm : Finite mu) : Finite (mix z p n mu) :=
  real_add hz (real_mul hm (real_sub (real_mul ⟨_, lit_half⟩ (real_add hp hn)) hz))

/-- The shifted rows of finite rows are finite. -/
theorem real_shift {W : Nat} {x : (⟨3, ![4, 4096, W]⟩ : Shape).Idx → EReal} {mu : Fin W → EReal} (hx : ∀ i, Finite (x i)) (hm : ∀ j, Finite (mu j))
    (b : Fin 4) (t : Fin 4096) (j : Fin W) : Finite (shift x mu b t j) := by
  unfold shift
  refine real_mix (hx _) ?_ ?_ (hm _)
  · split
    · exact real_zero
    · exact hx _
  · split
    · exact real_zero
    · exact hx _

/-- A scaled key is finite when the key and the scale are. -/
theorem real_key {k ka : EReal} (l : Fin 768 → EReal) (b : EReal) (w : Fin 128 → EReal) (hk : Finite k) (ha : Finite ka) : Finite (key k (rate l b w) ka) :=
  real_mul hk (real_add real_one (real_mul (real_sub (real_logistic _) real_one) ha))

/-- A score is finite when its terms are. -/
theorem real_score {r k w : Fin 64 → EReal} (hr : ∀ x, Finite (r x)) (hk : ∀ x, Finite (k x)) (hw : ∀ x, Finite (w x)) : Finite (score r k w) :=
  real_sum _ _ fun x => real_mul (real_mul (hr x) (hk x)) (hw x)

/-- The bonus of the two directions together is the sum of the bonuses. -/
theorem bonus_of_real {s u v : EReal} : Finite s → Finite u → Finite v → (s + u) * v = (0 + s * v) + u * v := by
  rintro ⟨a, rfl⟩ ⟨b, rfl⟩ ⟨c, rfl⟩
  rw [zero_add]
  norm_cast
  ring

/-- A number whose absolute value is below the infinite literal is finite. -/
theorem real_of_test {x : EReal} (h : Ideal.cmp .olt (max x (-x)) (Ideal.ofBits .f32 0x7F800000#32) = 1#1) : Finite x := by
  have htop : Ideal.ofBits .f32 0x7F800000#32 = ⊤ := by simp [Ideal.ofBits, Ideal.ieee]
  have hl := (Ideal.cmp_olt_eq_one _ _).mp h
  rw [htop, max_lt_iff] at hl
  induction x with
  | bot => exact absurd hl.2 (by simp)
  | coe r => exact ⟨r, rfl⟩
  | top => exact absurd hl.1 (by simp)

end Prep
end
-- ==== Proof.Prep.Blocks.lean ====
/-
  The arrays a point of the call that prepares the scan's operands reads, at an element: the argument arrays' rows and
  the constants the host stages.
-/
module

public import proofs.«01_k».proof.Proof.Prep.Frame
public import proofs.«01_k».proof.Proof.Prep.Shift
public import proofs.«01_k».proof.Proof.Prep.Pay
public import proofs.«01_k».proof.Proof.Prep.Real
public import Idealize.ShloMosaic.Lib.StableHlo.RunRead
public import proofs.«01_k».proof.Proof.Mm.Base

@[expose] public section

set_option maxRecDepth 16384

noncomputable section

namespace Cert.KernelPrepIdeal.Hand

open Cert.KernelPrepIdeal Cert.KernelPrepIdeal.Gen Idealize.ShloMosaic Idealize.ShloMosaic.TcCoe Idealize.SL.Sem Prep
open Idealize.ShloMosaic.StableHlo (after)

variable (m : (ℓ : Loc nD τ sig) → Buf (Elt Ideal) ℓ) (c : Dev nD)

/-- An argument array: the receptance, key and value rows. -/
abbrev a0 : Vec Ideal S4x4096x6144 .f32 := m ((c : Thread nD τ).loc main_arg0)
/-- An argument array: the low-rank rows. -/
abbrev a1 : Vec Ideal S4x4096x768 .f32 := m ((c : Thread nD τ).loc main_arg1)
/-- An argument array: the shift's weights. -/
abbrev a2 : Vec Ideal S1x6912 .f32 := m ((c : Thread nD τ).loc main_arg2)
/-- An argument array: the decay's biases. -/
abbrev a3 : Vec Ideal S1x2x2048 .f32 := m ((c : Thread nD τ).loc main_arg3)
/-- An argument array: the decay's matrices. -/
abbrev a4 : Vec Ideal S1x2x128x2048 .f32 := m ((c : Thread nD τ).loc main_arg4)
/-- An argument array: the rates' biases. -/
abbrev a5 : Vec Ideal S1x2x2048 .f32 := m ((c : Thread nD τ).loc main_arg5)
/-- An argument array: the rates' matrices. -/
abbrev a6 : Vec Ideal S1x2x128x2048 .f32 := m ((c : Thread nD τ).loc main_arg6)
/-- An argument array: the gate's matrix. -/
abbrev a7 : Vec Ideal S1x512x2048 .f32 := m ((c : Thread nD τ).loc main_arg7)
/-- An argument array: the weights of the normalised key. -/
abbrev a8 : Vec Ideal S1x2048 .f32 := m ((c : Thread nD τ).loc main_arg8)
/-- An argument array: the weights of the scaled key. -/
abbrev a9 : Vec Ideal S1x2048 .f32 := m ((c : Thread nD τ).loc main_arg9)
/-- An argument array: the bonus weights. -/
abbrev a10 : Vec Ideal S1x32x64 .f32 := m ((c : Thread nD τ).loc main_arg10)

/-- The lane numbers divided by 64 and rounded down, as the host takes it. -/
def heads : IVec S128 32 :=
  select (andi (cmpi .ne (signi (iotaInDim S128 32 0)) (broadcastInDim S128 ![] bcast_S_S128 (signi (constantI S_ 32 64#32))))
      (cmpi .ne (Host.remsi (iotaInDim S128 32 0) (broadcastInDim S128 ![] bcast_S_S128 (constantI S_ 32 64#32)))
        (broadcastInDim S128 ![] bcast_S_S128 (constantI S_ 32 0#32))))
    (subi (Host.divsi (iotaInDim S128 32 0) (broadcastInDim S128 ![] bcast_S_S128 (constantI S_ 32 64#32)))
      (broadcastInDim S128 ![] bcast_S_S128 (constantI S_ 32 1#32)))
    (Host.divsi (iotaInDim S128 32 0) (broadcastInDim S128 ![] bcast_S_S128 (constantI S_ 32 64#32)))

/-- A lane's head within the block. -/
theorem heads_apply : ∀ k : Fin 128, heads (ix1 k) = BitVec.ofNat 32 (k.val / 64) := by
  unfold heads
  decide +kernel

/-- The matrix's entry from the two lanes' heads. -/
theorem entry : ∀ a b : Fin 2, FloatOps.uitofp (F := Ideal) .bf16 (IntOp.cmpi .eq (BitVec.ofNat 32 a.val) (BitVec.ofNat 32 b.val))
    = if a.val = b.val then (1 : EReal) else 0 := by
  intro a b
  match a, b with
  | 0, 0 => rw [if_pos rfl]; show (((1 : Nat) : ℝ) : EReal) = 1; norm_num
  | 0, 1 => rw [if_neg (by decide)]; show (((0 : Nat) : ℝ) : EReal) = 0; norm_num
  | 1, 0 => rw [if_neg (by decide)]; show (((0 : Nat) : ℝ) : EReal) = 0; norm_num
  | 1, 1 => rw [if_pos rfl]; show (((1 : Nat) : ℝ) : EReal) = 1; norm_num

/-- The staged matrix of heads. -/
theorem V_j : sameHead (V m c main_v7 : Vec Ideal S128x128 .bf16) := by
  intro k l
  show after (List.flatten [hostOps0, hostOps0_1, hostOps0_2]) (fun b => m (c, b)) (Proc.devRef .tc main_v7) (ix2 k l) = _
  after_reads_simp
  pointwise []
  show FloatOps.uitofp (F := Ideal) .bf16 (IntOp.cmpi .eq (heads (ix1 k)) (heads (ix1 l))) = _
  rw [heads_apply, heads_apply]
  exact entry ⟨k.val / 64, by omega⟩ ⟨l.val / 64, by omega⟩

/-- The staged weights of the receptance, key and value rows. -/
theorem V_18 (j : Fin 6144) : (V m c main_v18 : Vec Ideal S1x6144 .f32) (ix2 0 j) = a2 m c (ix2 0 ⟨j.val, by omega⟩) := by
  show after (List.flatten [hostOps0, hostOps0_1, hostOps0_2]) (fun b => m (c, b)) (Proc.devRef .tc main_v18) (ix2 0 j) = _
  after_reads_simp
  pointwise []

/-- The staged weights of the low-rank rows. -/
theorem V_19 (j : Fin 768) : (V m c main_v19 : Vec Ideal S1x768 .f32) (ix2 0 j) = a2 m c (ix2 0 ⟨6144 + j.val, by omega⟩) := by
  show after (List.flatten [hostOps0, hostOps0_1, hostOps0_2]) (fun b => m (c, b)) (Proc.devRef .tc main_v19) (ix2 0 j) = _
  after_reads_simp
  pointwise []

/-- The staged biases of the decay. -/
theorem V_9 (s : Fin 2) (j : Fin 2048) : (V m c main_v9 : Vec Ideal S2x2048 .f32) (ix2 s j) = a3 m c (ix3 0 s j) := by
  show after (List.flatten [hostOps0, hostOps0_1, hostOps0_2]) (fun b => m (c, b)) (Proc.devRef .tc main_v9) (ix2 s j) = _
  after_reads_simp
  pointwise []

/-- The staged matrices of the decay. -/
theorem V_20 (s : Fin 2) (x : Fin 128) (j : Fin 2048) : (V m c main_v20 : Vec Ideal S2x128x2048 .bf16) (ix3 s x j) = a4 m c (ix4 0 s x j) := by
  show after (List.flatten [hostOps0, hostOps0_1, hostOps0_2]) (fun b => m (c, b)) (Proc.devRef .tc main_v20) (ix3 s x j) = _
  after_reads_simp
  pointwise []

/-- The staged biases of the rates. -/
theorem V_11 (s : Fin 2) (j : Fin 2048) : (V m c main_v11 : Vec Ideal S2x2048 .f32) (ix2 s j) = a5 m c (ix3 0 s j) := by
  show after (List.flatten [hostOps0, hostOps0_1, hostOps0_2]) (fun b => m (c, b)) (Proc.devRef .tc main_v11) (ix2 s j) = _
  after_reads_simp
  pointwise []

/-- The staged matrices of the rates. -/
theorem V_21 (s : Fin 2) (x : Fin 128) (j : Fin 2048) : (V m c main_v21 : Vec Ideal S2x128x2048 .bf16) (ix3 s x j) = a6 m c (ix4 0 s x j) := by
  show after (List.flatten [hostOps0, hostOps0_1, hostOps0_2]) (fun b => m (c, b)) (Proc.devRef .tc main_v21) (ix3 s x j) = _
  after_reads_simp
  pointwise []

/-- The staged matrix of the gate. -/
theorem V_22 (x : Fin 512) (j : Fin 2048) : (V m c main_v22 : Vec Ideal S512x2048 .bf16) (ix2 x j) = a7 m c (ix3 0 x j) := by
  show after (List.flatten [hostOps0, hostOps0_1, hostOps0_2]) (fun b => m (c, b)) (Proc.devRef .tc main_v22) (ix2 x j) = _
  after_reads_simp
  pointwise []

/-- The staged weights of the normalised key. -/
theorem V_23 (j : Fin 2048) : (V m c main_v23 : Vec Ideal S1x2048 .f32) (ix2 0 j) = a8 m c (ix2 0 j) := by
  show after (List.flatten [hostOps0, hostOps0_1, hostOps0_2]) (fun b => m (c, b)) (Proc.devRef .tc main_v23) (ix2 0 j) = _
  after_reads_simp
  pointwise []

/-- The staged weights of the scaled key. -/
theorem V_24 (j : Fin 2048) : (V m c main_v24 : Vec Ideal S1x2048 .f32) (ix2 0 j) = a9 m c (ix2 0 j) := by
  show after (List.flatten [hostOps0, hostOps0_1, hostOps0_2]) (fun b => m (c, b)) (Proc.devRef .tc main_v24) (ix2 0 j) = _
  after_reads_simp
  pointwise []

/-- The staged bonus weights. -/
theorem V_25 (h : Fin 32) (e : Fin 64) : (V m c main_v25 : Vec Ideal S1x2048 .f32) (ix2 0 (lane h e)) = a10 m c (ix3 0 h e) := by
  show after (List.flatten [hostOps0, hostOps0_1, hostOps0_2]) (fun b => m (c, b)) (Proc.devRef .tc main_v25) (ix2 0 (lane h e)) = _
  after_reads_simp
  pointwise []
  exact congrArg₂ (fun p q => a10 m c (ix3 0 p q)) (Fin.ext (by show (64 * h.val + e.val) / 64 = h.val; omega))
    (Fin.ext (by show (64 * h.val + e.val) % 64 = e.val; omega))

/-- A rank-3 index from its coordinates' values. -/
theorem at3 {n0 n1 n2 : Nat} (p : (⟨3, ![n0, n1, n2]⟩ : Shape).Idx) (x : Fin n0) (y : Fin n1) (z : Fin n2) (h0 : (p 0).val = x.val)
    (h1 : (p 1).val = y.val) (h2 : (p 2).val = z.val) : p = ix3 x y z :=
  (ValueIdx.eq_ix3 p).trans (by rw [show p 0 = x from Fin.ext h0, show p 1 = y from Fin.ext h1, show p 2 = z from Fin.ext h2]; rfl)
/-- A rank-4 index from its coordinates' values. -/
theorem at4 {n0 n1 n2 n3 : Nat} (p : (⟨4, ![n0, n1, n2, n3]⟩ : Shape).Idx) (x : Fin n0) (y : Fin n1) (z : Fin n2) (w : Fin n3) (h0 : (p 0).val = x.val)
    (h1 : (p 1).val = y.val) (h2 : (p 2).val = z.val) (h3 : (p 3).val = w.val) : p = ix4 x y z w :=
  (ValueIdx.eq_ix4 p).trans (by rw [show p 0 = x from Fin.ext h0, show p 1 = y from Fin.ext h1, show p 2 = z from Fin.ext h2, show p 3 = w from Fin.ext h3]; rfl)

/-- The number of points. -/
theorem lt_128 (t : Fin cfg0.N) : t.val < 128 := N_0 ▸ t.isLt

/-- A point's batch. -/
abbrev bt (t : Fin cfg0.N) : Fin 4 := ⟨t.val / 32, by have := lt_128 t; omega⟩
/-- The position of a row of a point's block. -/
abbrev row (t : Fin cfg0.N) (r : Fin 128) : Fin 4096 := ⟨128 * (t.val % 32) + r.val, by omega⟩

/-- A point's second coordinate is its block of rows. -/
theorem coord1 : ∀ t : Fin cfg0.N, (grid0.coords t 1).val = t.val % 32 := (by decide +kernel : ∀ t : Fin grid0.N, (grid0.coords t 1).val = t.val % 32)

/-- A rank-2 index's coordinates. -/
abbrev At2 (ix : Fin 2 → Nat) (a b : Nat) : Prop := ix 0 = a ∧ ix 1 = b
/-- A rank-3 index's coordinates. -/
abbrev At3 (ix : Fin 3 → Nat) (a b c : Nat) : Prop := ix 0 = a ∧ ix 1 = b ∧ ix 2 = c
/-- A rank-4 index's coordinates. -/
abbrev At4 (ix : Fin 4 → Nat) (a b c d : Nat) : Prop := ix 0 = a ∧ ix 1 = b ∧ ix 2 = c ∧ ix 3 = d

/-- The block indices of the windows of rows at a point, in closed form. -/
theorem idx_R : ∀ t : Fin grid0.N, At3 (win0_0.index t) (t.val / 32) (t.val % 32) 0
    ∧ At3 (win0_1.index t) (t.val / 32) (16 * (t.val % 32) - 1) 0
    ∧ At3 (win0_2.index t) (t.val / 32) (min (16 * (t.val % 32) + 16) 511) 0 := by
  decide +kernel

/-- The block indices of the windows of rows at a point, in closed form. -/
theorem idx_K : ∀ t : Fin grid0.N, At3 (win0_3.index t) (t.val / 32) (t.val % 32) 1
    ∧ At3 (win0_4.index t) (t.val / 32) (16 * (t.val % 32) - 1) 1
    ∧ At3 (win0_5.index t) (t.val / 32) (min (16 * (t.val % 32) + 16) 511) 1 := by
  decide +kernel

/-- The block indices of the windows of rows at a point, in closed form. -/
theorem idx_V : ∀ t : Fin grid0.N, At3 (win0_6.index t) (t.val / 32) (t.val % 32) 2
    ∧ At3 (win0_7.index t) (t.val / 32) (16 * (t.val % 32) - 1) 2
    ∧ At3 (win0_8.index t) (t.val / 32) (min (16 * (t.val % 32) + 16) 511) 2 := by
  decide +kernel

/-- The block indices of the windows of rows at a point, in closed form. -/
theorem idx_L : ∀ t : Fin grid0.N, At3 (win0_9.index t) (t.val / 32) (t.val % 32) 0
    ∧ At3 (win0_10.index t) (t.val / 32) (16 * (t.val % 32) - 1) 0
    ∧ At3 (win0_11.index t) (t.val / 32) (min (16 * (t.val % 32) + 16) 511) 0 := by
  decide +kernel

/-- The block indices of the first five results at a point, in closed form. -/
theorem idx_out : ∀ t : Fin grid0.N, At3 (win0_25.index t) (t.val / 32) (t.val % 32) 0
    ∧ At3 (win0_26.index t) (t.val / 32) (t.val % 32) 0
    ∧ At3 (win0_27.index t) (t.val / 32) (t.val % 32) 0
    ∧ At3 (win0_28.index t) (t.val / 32) (t.val % 32) 0
    ∧ At3 (win0_29.index t) (t.val / 32) (t.val % 32) 0 := by
  decide +kernel

/-- The block indices of the last three results at a point, in closed form. -/
theorem idx_out2 : ∀ t : Fin grid0.N, At4 (win0_30.index t) 0 (t.val / 32) (t.val % 32) 0
    ∧ At4 (win0_31.index t) 0 (t.val / 32) (t.val % 32) 0
    ∧ At4 (win0_32.index t) 0 (t.val / 32) (t.val % 32) 0 := by
  decide +kernel

/-- The block indices of the windows of constants at a point, in closed form. -/
theorem idx_w : ∀ t : Fin grid0.N, At2 (win0_12.index t) 0 0
    ∧ At2 (win0_13.index t) 0 1
    ∧ At2 (win0_14.index t) 0 2
    ∧ At2 (win0_15.index t) 0 0
    ∧ At2 (win0_16.index t) 0 0
    ∧ At3 (win0_17.index t) 0 0 0
    ∧ At2 (win0_18.index t) 0 0
    ∧ At3 (win0_19.index t) 0 0 0
    ∧ At2 (win0_20.index t) 0 0
    ∧ At2 (win0_21.index t) 0 0
    ∧ At2 (win0_22.index t) 0 0
    ∧ At2 (win0_23.index t) 0 0
    ∧ At2 (win0_24.index t) 0 0 := by
  decide +kernel

/-- A point's row of a block of 128 rows, at its place among all rows. -/
theorem row_at {W w : Nat} {ix : Fin 3 → Nat} (t : Fin cfg0.N) (o : Nat) (h : ix 0 = t.val / 32 ∧ ix 1 = t.val % 32 ∧ ix 2 = o)
    (p : (⟨3, ![4, 4096, W]⟩ : Shape).Idx) (r : Fin 128) (k : Fin w) (j : Fin W) (hj : j.val = w * o + k.val) (h0 : (p 0).val = ix 0 * 1 + 1 * 0)
    (h1 : (p 1).val = ix 1 * 128 + 1 * r.val) (h2 : (p 2).val = ix 2 * w + 1 * k.val) : p = ix3 (bt t) (row t r) j :=
  at3 _ _ _ _ (by rw [h0, h.1]; show _ = t.val / 32; omega) (by rw [h1, h.2.1]; show _ = 128 * (t.val % 32) + r.val; omega)
    (by rw [h2, h.2.2, hj, Nat.mul_comm]; omega)

/-- The last row of the block of eight rows before a point's rows, at its place among all rows. -/
theorem prev_at {W w : Nat} {ix : Fin 3 → Nat} (t : Fin cfg0.N) (o : Nat) (ht : t.val % 32 ≠ 0)
    (h : ix 0 = t.val / 32 ∧ ix 1 = 16 * (t.val % 32) - 1 ∧ ix 2 = o)
    (p : (⟨3, ![4, 4096, W]⟩ : Shape).Idx) (k : Fin w) (j : Fin W) (hj : j.val = w * o + k.val) (h0 : (p 0).val = ix 0 * 1 + 1 * 0)
    (h1 : (p 1).val = ix 1 * 8 + 1 * 7) (h2 : (p 2).val = ix 2 * w + 1 * k.val) :
    p = ix3 (bt t) ⟨128 * (t.val % 32) - 1, by omega⟩ j :=
  at3 _ _ _ _ (by rw [h0, h.1]; show _ = t.val / 32; omega) (by rw [h1, h.2.1]; show _ = 128 * (t.val % 32) - 1; omega)
    (by rw [h2, h.2.2, hj, Nat.mul_comm]; omega)

/-- The first row of the block of eight rows after a point's rows, at its place among all rows. -/
theorem next_at {W w : Nat} {ix : Fin 3 → Nat} (t : Fin cfg0.N) (o : Nat) (ht : t.val % 32 ≠ 31)
    (h : ix 0 = t.val / 32 ∧ ix 1 = min (16 * (t.val % 32) + 16) 511 ∧ ix 2 = o)
    (p : (⟨3, ![4, 4096, W]⟩ : Shape).Idx) (k : Fin w) (j : Fin W) (hj : j.val = w * o + k.val) (h0 : (p 0).val = ix 0 * 1 + 1 * 0)
    (h1 : (p 1).val = ix 1 * 8 + 1 * 0) (h2 : (p 2).val = ix 2 * w + 1 * k.val) :
    p = ix3 (bt t) ⟨128 * (t.val % 32) + 128, by omega⟩ j :=
  at3 _ _ _ _ (by rw [h0, h.1]; show _ = t.val / 32; omega) (by rw [h1, h.2.1]; show _ = 128 * (t.val % 32) + 128; omega)
    (by rw [h2, h.2.2, hj, Nat.mul_comm]; omega)

/-- The shifted rows of a point are the shifted rows of the array, where the numbers are finite. -/
theorem sh_shift {W W' : Nat} (w : Wide W) (mu : FVec Ideal (SW 1 W) .f32) (t : Fin cfg0.N) (xm : FVec Ideal (SB 128 W) .f32) (xp xn : FVec Ideal (SB 8 W) .f32)
    (x : (⟨3, ![4, 4096, W']⟩ : Shape).Idx → EReal) (M : Fin W' → EReal) (f : Fin W → Fin W') (hx : ∀ i, Finite (x i)) (hM : ∀ j, Finite (M j))
    (hm : ∀ r k, xm (ix3 0 r k) = x (ix3 (bt t) (row t r) (f k)))
    (hp : ∀ h : t.val % 32 ≠ 0, ∀ k, xp (ix3 0 7 k) = x (ix3 (bt t) ⟨128 * (t.val % 32) - 1, by omega⟩ (f k)))
    (hn : ∀ h : t.val % 32 ≠ 31, ∀ k, xn (ix3 0 0 k) = x (ix3 (bt t) ⟨128 * (t.val % 32) + 128, by omega⟩ (f k)))
    (hmu : ∀ k, mu (ix2 0 k) = M (f k)) (r : Fin 128) (k : Fin W) :
    sh w mu (grid0.coords t) xm xp xn (ix2 r k) = shift x M (bt t) (row t r) (f k) := by
  rw [sh_apply, hm, hmu]
  have hP : (if r.val = 0 then (if (grid0.coords t 1).val = 0 then 0 else xp (ix3 0 7 k)) else xm (ix3 0 ⟨r.val - 1, by omega⟩ k))
      = if (row t r).val = 0 then (0 : EReal) else x (ix3 (bt t) ⟨(row t r).val - 1, by omega⟩ (f k)) := by
    rw [coord1 t]
    by_cases hr : r.val = 0
    · rw [if_pos hr]
      by_cases ht : t.val % 32 = 0
      · rw [if_pos ht, if_pos (by show 128 * (t.val % 32) + r.val = 0; omega)]
      · rw [if_neg ht, if_neg (by show ¬ 128 * (t.val % 32) + r.val = 0; omega), hp ht]
        exact congrArg (fun q => x (ix3 (bt t) q (f k))) (Fin.ext (by show 128 * (t.val % 32) - 1 = 128 * (t.val % 32) + r.val - 1; omega))
    · rw [if_neg hr, if_neg (by show ¬ 128 * (t.val % 32) + r.val = 0; omega), hm]
      exact congrArg (fun q => x (ix3 (bt t) q (f k))) (Fin.ext (by show 128 * (t.val % 32) + (r.val - 1) = 128 * (t.val % 32) + r.val - 1; omega))
  have hN : (if h : r.val = 127 then (if (grid0.coords t 1).val = 31 then 0 else xn (ix3 0 0 k)) else xm (ix3 0 ⟨r.val + 1, by omega⟩ k))
      = if h : (row t r).val = 4095 then (0 : EReal) else x (ix3 (bt t) ⟨(row t r).val + 1, by omega⟩ (f k)) := by
    rw [coord1 t]
    by_cases hr : r.val = 127
    · rw [dif_pos hr]
      by_cases ht : t.val % 32 = 31
      · rw [if_pos ht, dif_pos (by show 128 * (t.val % 32) + r.val = 4095; omega)]
      · rw [if_neg ht, dif_neg (by show ¬ 128 * (t.val % 32) + r.val = 4095; omega), hn ht]
        exact congrArg (fun q => x (ix3 (bt t) q (f k))) (Fin.ext (by show 128 * (t.val % 32) + 128 = 128 * (t.val % 32) + r.val + 1; omega))
    · rw [dif_neg hr, dif_neg (by show ¬ 128 * (t.val % 32) + r.val = 4095; omega), hm]
      exact congrArg (fun q => x (ix3 (bt t) q (f k))) (Fin.ext (by show 128 * (t.val % 32) + (r.val + 1) = 128 * (t.val % 32) + r.val + 1; omega))
  refine (congrArg₂ (fun p n => mixK _ p n _) hP hN).trans ?_
  refine mix_of_real (hx _) ?_ ?_ (hM _)
  · split
    · exact real_zero
    · exact hx _
  · split
    · exact real_zero
    · exact hx _

/-- A point's receptance rows, at an element. -/
theorem blk0 (t : Fin cfg0.N) (r : Fin 128) (k : Fin 2048) : iblk m c 0 t (ix3 0 r k) = a0 m c (ix3 (bt t) (row t r) ⟨k.val, by omega⟩) := by
  unfold iblk
  rw [View.read_apply]
  show V m c main_arg0 _ = _
  rw [V_args m c _ (by decide)]
  have e := idx_R t
  exact congrArg (a0 m c) (row_at (ix := win0_0.index t) t 0 e.1 _ r k _ (by show k.val = 2048 * 0 + k.val; omega) rfl rfl rfl)

/-- A point's receptance rows before, at an element. -/
theorem blk1 (t : Fin cfg0.N) (ht : t.val % 32 ≠ 0) (k : Fin 2048) : iblk m c 1 t (ix3 0 7 k) = a0 m c (ix3 (bt t) (⟨128 * (t.val % 32) - 1, by omega⟩ : Fin 4096) ⟨k.val, by omega⟩) := by
  unfold iblk
  rw [View.read_apply]
  show V m c main_arg0 _ = _
  rw [V_args m c _ (by decide)]
  have e := idx_R t
  exact congrArg (a0 m c) (prev_at (ix := win0_1.index t) t 0 ht e.2.1 _ k _ (by show k.val = 2048 * 0 + k.val; omega) rfl rfl rfl)

/-- A point's receptance rows after, at an element. -/
theorem blk2 (t : Fin cfg0.N) (ht : t.val % 32 ≠ 31) (k : Fin 2048) : iblk m c 2 t (ix3 0 0 k) = a0 m c (ix3 (bt t) (⟨128 * (t.val % 32) + 128, by omega⟩ : Fin 4096) ⟨k.val, by omega⟩) := by
  unfold iblk
  rw [View.read_apply]
  show V m c main_arg0 _ = _
  rw [V_args m c _ (by decide)]
  have e := idx_R t
  exact congrArg (a0 m c) (next_at (ix := win0_2.index t) t 0 ht e.2.2 _ k _ (by show k.val = 2048 * 0 + k.val; omega) rfl rfl rfl)

/-- A point's key rows, at an element. -/
theorem blk3 (t : Fin cfg0.N) (r : Fin 128) (k : Fin 2048) : iblk m c 3 t (ix3 0 r k) = a0 m c (ix3 (bt t) (row t r) ⟨2048 + k.val, by omega⟩) := by
  unfold iblk
  rw [View.read_apply]
  show V m c main_arg0 _ = _
  rw [V_args m c _ (by decide)]
  have e := idx_K t
  exact congrArg (a0 m c) (row_at (ix := win0_3.index t) t 1 e.1 _ r k _ (rfl) rfl rfl rfl)

/-- A point's key rows before, at an element. -/
theorem blk4 (t : Fin cfg0.N) (ht : t.val % 32 ≠ 0) (k : Fin 2048) : iblk m c 4 t (ix3 0 7 k) = a0 m c (ix3 (bt t) (⟨128 * (t.val % 32) - 1, by omega⟩ : Fin 4096) ⟨2048 + k.val, by omega⟩) := by
  unfold iblk
  rw [View.read_apply]
  show V m c main_arg0 _ = _
  rw [V_args m c _ (by decide)]
  have e := idx_K t
  exact congrArg (a0 m c) (prev_at (ix := win0_4.index t) t 1 ht e.2.1 _ k _ (rfl) rfl rfl rfl)

/-- A point's key rows after, at an element. -/
theorem blk5 (t : Fin cfg0.N) (ht : t.val % 32 ≠ 31) (k : Fin 2048) : iblk m c 5 t (ix3 0 0 k) = a0 m c (ix3 (bt t) (⟨128 * (t.val % 32) + 128, by omega⟩ : Fin 4096) ⟨2048 + k.val, by omega⟩) := by
  unfold iblk
  rw [View.read_apply]
  show V m c main_arg0 _ = _
  rw [V_args m c _ (by decide)]
  have e := idx_K t
  exact congrArg (a0 m c) (next_at (ix := win0_5.index t) t 1 ht e.2.2 _ k _ (rfl) rfl rfl rfl)

/-- A point's value rows, at an element. -/
theorem blk6 (t : Fin cfg0.N) (r : Fin 128) (k : Fin 2048) : iblk m c 6 t (ix3 0 r k) = a0 m c (ix3 (bt t) (row t r) ⟨4096 + k.val, by omega⟩) := by
  unfold iblk
  rw [View.read_apply]
  show V m c main_arg0 _ = _
  rw [V_args m c _ (by decide)]
  have e := idx_V t
  exact congrArg (a0 m c) (row_at (ix := win0_6.index t) t 2 e.1 _ r k _ (rfl) rfl rfl rfl)

/-- A point's value rows before, at an element. -/
theorem blk7 (t : Fin cfg0.N) (ht : t.val % 32 ≠ 0) (k : Fin 2048) : iblk m c 7 t (ix3 0 7 k) = a0 m c (ix3 (bt t) (⟨128 * (t.val % 32) - 1, by omega⟩ : Fin 4096) ⟨4096 + k.val, by omega⟩) := by
  unfold iblk
  rw [View.read_apply]
  show V m c main_arg0 _ = _
  rw [V_args m c _ (by decide)]
  have e := idx_V t
  exact congrArg (a0 m c) (prev_at (ix := win0_7.index t) t 2 ht e.2.1 _ k _ (rfl) rfl rfl rfl)

/-- A point's value rows after, at an element. -/
theorem blk8 (t : Fin cfg0.N) (ht : t.val % 32 ≠ 31) (k : Fin 2048) : iblk m c 8 t (ix3 0 0 k) = a0 m c (ix3 (bt t) (⟨128 * (t.val % 32) + 128, by omega⟩ : Fin 4096) ⟨4096 + k.val, by omega⟩) := by
  unfold iblk
  rw [View.read_apply]
  show V m c main_arg0 _ = _
  rw [V_args m c _ (by decide)]
  have e := idx_V t
  exact congrArg (a0 m c) (next_at (ix := win0_8.index t) t 2 ht e.2.2 _ k _ (rfl) rfl rfl rfl)

/-- A point's low-rank rows, at an element. -/
theorem blk9 (t : Fin cfg0.N) (r : Fin 128) (k : Fin 768) : iblk m c 9 t (ix3 0 r k) = a1 m c (ix3 (bt t) (row t r) k) := by
  unfold iblk
  rw [View.read_apply]
  show V m c main_arg1 _ = _
  rw [V_args m c _ (by decide)]
  have e := idx_L t
  exact congrArg (a1 m c) (row_at (ix := win0_9.index t) t 0 e.1 _ r k _ (by show k.val = 768 * 0 + k.val; omega) rfl rfl rfl)

/-- A point's low-rank rows before, at an element. -/
theorem blk10 (t : Fin cfg0.N) (ht : t.val % 32 ≠ 0) (k : Fin 768) : iblk m c 10 t (ix3 0 7 k) = a1 m c (ix3 (bt t) (⟨128 * (t.val % 32) - 1, by omega⟩ : Fin 4096) k) := by
  unfold iblk
  rw [View.read_apply]
  show V m c main_arg1 _ = _
  rw [V_args m c _ (by decide)]
  have e := idx_L t
  exact congrArg (a1 m c) (prev_at (ix := win0_10.index t) t 0 ht e.2.1 _ k _ (by show k.val = 768 * 0 + k.val; omega) rfl rfl rfl)

/-- A point's low-rank rows after, at an element. -/
theorem blk11 (t : Fin cfg0.N) (ht : t.val % 32 ≠ 31) (k : Fin 768) : iblk m c 11 t (ix3 0 0 k) = a1 m c (ix3 (bt t) (⟨128 * (t.val % 32) + 128, by omega⟩ : Fin 4096) k) := by
  unfold iblk
  rw [View.read_apply]
  show V m c main_arg1 _ = _
  rw [V_args m c _ (by decide)]
  have e := idx_L t
  exact congrArg (a1 m c) (next_at (ix := win0_11.index t) t 0 ht e.2.2 _ k _ (by show k.val = 768 * 0 + k.val; omega) rfl rfl rfl)

/-- A point's shift's weights, at an element. -/
theorem blk12 (t : Fin cfg0.N) (k : Fin 2048) : iblk m c 12 t (ix2 0 k) = a2 m c (ix2 0 ⟨k.val, by omega⟩) := by
  unfold iblk
  rw [View.read_apply]
  show (V m c main_v18 : Vec Ideal S1x6144 .f32) _ = _
  have e := (idx_w t).1
  refine Eq.trans ?_ (V_18 m c ⟨k.val, by omega⟩)
  refine congrArg (V m c main_v18 : Vec Ideal S1x6144 .f32) (Mm.eq_ix2_of _ _ _ ?_ ?_ )
  · show win0_12.index t 0 * 1 + 1 * 0 = 0; rw [e.1]; try omega
  · show win0_12.index t 1 * 2048 + 1 * k.val = k.val; rw [e.2]; try omega

/-- A point's shift's weights, at an element. -/
theorem blk13 (t : Fin cfg0.N) (k : Fin 2048) : iblk m c 13 t (ix2 0 k) = a2 m c (ix2 0 ⟨2048 + k.val, by omega⟩) := by
  unfold iblk
  rw [View.read_apply]
  show (V m c main_v18 : Vec Ideal S1x6144 .f32) _ = _
  have e := (idx_w t).2.1
  refine Eq.trans ?_ (V_18 m c ⟨2048 + k.val, by omega⟩)
  refine congrArg (V m c main_v18 : Vec Ideal S1x6144 .f32) (Mm.eq_ix2_of _ _ _ ?_ ?_ )
  · show win0_13.index t 0 * 1 + 1 * 0 = 0; rw [e.1]; try omega
  · show win0_13.index t 1 * 2048 + 1 * k.val = 2048 + k.val; rw [e.2]; try omega

/-- A point's shift's weights, at an element. -/
theorem blk14 (t : Fin cfg0.N) (k : Fin 2048) : iblk m c 14 t (ix2 0 k) = a2 m c (ix2 0 ⟨4096 + k.val, by omega⟩) := by
  unfold iblk
  rw [View.read_apply]
  show (V m c main_v18 : Vec Ideal S1x6144 .f32) _ = _
  have e := (idx_w t).2.2.1
  refine Eq.trans ?_ (V_18 m c ⟨4096 + k.val, by omega⟩)
  refine congrArg (V m c main_v18 : Vec Ideal S1x6144 .f32) (Mm.eq_ix2_of _ _ _ ?_ ?_ )
  · show win0_14.index t 0 * 1 + 1 * 0 = 0; rw [e.1]; try omega
  · show win0_14.index t 1 * 2048 + 1 * k.val = 4096 + k.val; rw [e.2]; try omega

/-- A point's shift's weights, at an element. -/
theorem blk15 (t : Fin cfg0.N) (k : Fin 768) : iblk m c 15 t (ix2 0 k) = a2 m c (ix2 0 ⟨6144 + k.val, by omega⟩) := by
  unfold iblk
  rw [View.read_apply]
  show (V m c main_v19 : Vec Ideal S1x768 .f32) _ = _
  have e := (idx_w t).2.2.2.1
  refine Eq.trans ?_ (V_19 m c k)
  refine congrArg (V m c main_v19 : Vec Ideal S1x768 .f32) (Mm.eq_ix2_of _ _ _ ?_ ?_ )
  · show win0_15.index t 0 * 1 + 1 * 0 = 0; rw [e.1]; try omega
  · show win0_15.index t 1 * 768 + 1 * k.val = k.val; rw [e.2]; try omega

/-- A point's decay's biases, at an element. -/
theorem blk16 (t : Fin cfg0.N) (s : Fin 2) (j : Fin 2048) : iblk m c 16 t (ix2 s j) = a3 m c (ix3 0 s j) := by
  unfold iblk
  rw [View.read_apply]
  show (V m c main_v9 : Vec Ideal S2x2048 .f32) _ = _
  have e := (idx_w t).2.2.2.2.1
  refine Eq.trans ?_ (V_9 m c s j)
  refine congrArg (V m c main_v9 : Vec Ideal S2x2048 .f32) (Mm.eq_ix2_of _ _ _ ?_ ?_ )
  · show win0_16.index t 0 * 2 + 1 * s.val = s.val; rw [e.1]; try omega
  · show win0_16.index t 1 * 2048 + 1 * j.val = j.val; rw [e.2]; try omega

/-- A point's rates' biases, at an element. -/
theorem blk18 (t : Fin cfg0.N) (s : Fin 2) (j : Fin 2048) : iblk m c 18 t (ix2 s j) = a5 m c (ix3 0 s j) := by
  unfold iblk
  rw [View.read_apply]
  show (V m c main_v11 : Vec Ideal S2x2048 .f32) _ = _
  have e := (idx_w t).2.2.2.2.2.2.1
  refine Eq.trans ?_ (V_11 m c s j)
  refine congrArg (V m c main_v11 : Vec Ideal S2x2048 .f32) (Mm.eq_ix2_of _ _ _ ?_ ?_ )
  · show win0_18.index t 0 * 2 + 1 * s.val = s.val; rw [e.1]; try omega
  · show win0_18.index t 1 * 2048 + 1 * j.val = j.val; rw [e.2]; try omega

/-- A point's decay's matrices, at an element. -/
theorem blk17 (t : Fin cfg0.N) (s : Fin 2) (x : Fin 128) (j : Fin 2048) : iblk m c 17 t (ix3 s x j) = a4 m c (ix4 0 s x j) := by
  unfold iblk
  rw [View.read_apply]
  show (V m c main_v20 : Vec Ideal S2x128x2048 .bf16) _ = _
  have e := (idx_w t).2.2.2.2.2.1
  refine Eq.trans ?_ (V_20 m c s x j)
  refine congrArg (V m c main_v20 : Vec Ideal S2x128x2048 .bf16) (at3 _ _ _ _ ?_ ?_ ?_ )
  · show win0_17.index t 0 * 2 + 1 * s.val = s.val; rw [e.1]; try omega
  · show win0_17.index t 1 * 128 + 1 * x.val = x.val; rw [e.2.1]; try omega
  · show win0_17.index t 2 * 2048 + 1 * j.val = j.val; rw [e.2.2]; try omega

/-- A point's rates' matrices, at an element. -/
theorem blk19 (t : Fin cfg0.N) (s : Fin 2) (x : Fin 128) (j : Fin 2048) : iblk m c 19 t (ix3 s x j) = a6 m c (ix4 0 s x j) := by
  unfold iblk
  rw [View.read_apply]
  show (V m c main_v21 : Vec Ideal S2x128x2048 .bf16) _ = _
  have e := (idx_w t).2.2.2.2.2.2.2.1
  refine Eq.trans ?_ (V_21 m c s x j)
  refine congrArg (V m c main_v21 : Vec Ideal S2x128x2048 .bf16) (at3 _ _ _ _ ?_ ?_ ?_ )
  · show win0_19.index t 0 * 2 + 1 * s.val = s.val; rw [e.1]; try omega
  · show win0_19.index t 1 * 128 + 1 * x.val = x.val; rw [e.2.1]; try omega
  · show win0_19.index t 2 * 2048 + 1 * j.val = j.val; rw [e.2.2]; try omega

/-- A point's gate's matrix, at an element. -/
theorem blk20 (t : Fin cfg0.N) (x : Fin 512) (j : Fin 2048) : iblk m c 20 t (ix2 x j) = a7 m c (ix3 0 x j) := by
  unfold iblk
  rw [View.read_apply]
  show (V m c main_v22 : Vec Ideal S512x2048 .bf16) _ = _
  have e := (idx_w t).2.2.2.2.2.2.2.2.1
  refine Eq.trans ?_ (V_22 m c x j)
  refine congrArg (V m c main_v22 : Vec Ideal S512x2048 .bf16) (Mm.eq_ix2_of _ _ _ ?_ ?_ )
  · show win0_20.index t 0 * 512 + 1 * x.val = x.val; rw [e.1]; try omega
  · show win0_20.index t 1 * 2048 + 1 * j.val = j.val; rw [e.2]; try omega

/-- A point's weights of the normalised key, at an element. -/
theorem blk21 (t : Fin cfg0.N) (j : Fin 2048) : iblk m c 21 t (ix2 0 j) = a8 m c (ix2 0 j) := by
  unfold iblk
  rw [View.read_apply]
  show (V m c main_v23 : Vec Ideal S1x2048 .f32) _ = _
  have e := (idx_w t).2.2.2.2.2.2.2.2.2.1
  refine Eq.trans ?_ (V_23 m c j)
  refine congrArg (V m c main_v23 : Vec Ideal S1x2048 .f32) (Mm.eq_ix2_of _ _ _ ?_ ?_ )
  · show win0_21.index t 0 * 1 + 1 * 0 = 0; rw [e.1]; try omega
  · show win0_21.index t 1 * 2048 + 1 * j.val = j.val; rw [e.2]; try omega

/-- A point's weights of the scaled key, at an element. -/
theorem blk22 (t : Fin cfg0.N) (j : Fin 2048) : iblk m c 22 t (ix2 0 j) = a9 m c (ix2 0 j) := by
  unfold iblk
  rw [View.read_apply]
  show (V m c main_v24 : Vec Ideal S1x2048 .f32) _ = _
  have e := (idx_w t).2.2.2.2.2.2.2.2.2.2.1
  refine Eq.trans ?_ (V_24 m c j)
  refine congrArg (V m c main_v24 : Vec Ideal S1x2048 .f32) (Mm.eq_ix2_of _ _ _ ?_ ?_ )
  · show win0_22.index t 0 * 1 + 1 * 0 = 0; rw [e.1]; try omega
  · show win0_22.index t 1 * 2048 + 1 * j.val = j.val; rw [e.2]; try omega

/-- A point's bonus weights, at an element. -/
theorem blk23 (t : Fin cfg0.N) (h : Fin 32) (x : Fin 64) : iblk m c 23 t (ix2 0 (lane h x)) = a10 m c (ix3 0 h x) := by
  unfold iblk
  rw [View.read_apply]
  show (V m c main_v25 : Vec Ideal S1x2048 .f32) _ = _
  have e := (idx_w t).2.2.2.2.2.2.2.2.2.2.2.1
  refine Eq.trans ?_ (V_25 m c h x)
  refine congrArg (V m c main_v25 : Vec Ideal S1x2048 .f32) (Mm.eq_ix2_of _ _ _ ?_ ?_ )
  · show win0_23.index t 0 * 1 + 1 * 0 = 0; rw [e.1]; try omega
  · show win0_23.index t 1 * 2048 + 1 * (64 * h.val + x.val) = 64 * h.val + x.val; rw [e.2]; try omega

/-- A point's matrix of heads. -/
theorem blk24 (t : Fin cfg0.N) : sameHead (iblk m c 24 t) := by
  intro k l
  refine Eq.trans ?_ (V_j m c k l)
  unfold iblk
  rw [View.read_apply]
  have e := (idx_w t).2.2.2.2.2.2.2.2.2.2.2.2
  refine congrArg (V m c main_v7 : Vec Ideal S128x128 .bf16) (Mm.eq_ix2_of _ _ _ ?_ ?_)
  · show win0_24.index t 0 * 128 + 1 * k.val = k.val; rw [e.1]; omega
  · show win0_24.index t 1 * 128 + 1 * l.val = l.val; rw [e.2]; omega

end Cert.KernelPrepIdeal.Hand
end
-- ==== Proof.Prep.Out.lean ====
/-
  What a point of the call that prepares the scan's operands leaves in each of its eight result blocks, at an element,
  from its shifted rows.
-/
module

public import proofs.«01_k».proof.Proof.Prep.Frame
public import proofs.«01_k».proof.Proof.Prep.Shift
public import proofs.«01_k».proof.Proof.Prep.Pay

@[expose] public section

set_option maxRecDepth 16384

noncomputable section

namespace Cert.KernelPrepIdeal.Hand

open Cert.KernelPrepIdeal Cert.KernelPrepIdeal.Gen Idealize.ShloMosaic Idealize.ShloMosaic.TcCoe Prep

variable (i : grid0.Coords) (x0 x3 x6 : Vec Ideal S1x128x2048 .f32) (x1 x2 x4 x5 x7 x8 : Vec Ideal S1x8x2048 .f32)
  (x9 : Vec Ideal S1x128x768 .f32) (x10 x11 : Vec Ideal S1x8x768 .f32) (x12 x13 x14 : Vec Ideal S1x2048 .f32) (x15 : Vec Ideal S1x768 .f32)
  (x16 x18 : Vec Ideal S2x2048 .f32) (x17 x19 : Vec Ideal S2x128x2048 .bf16) (x20 : Vec Ideal S512x2048 .bf16)
  (x21 x22 x23 : Vec Ideal S1x2048 .f32) (x24 : Vec Ideal S128x128 .bf16)

/-- A whole array loaded is the array. -/
theorem ld_0 (x : Vec Ideal S1x128x2048 .f32) : View.ld x r0_0 = x := by
  funext y; rw [View.ld_unit_apply_of _ _ _ _ y y (fun a => by match a with | ⟨0, _⟩ => exact (Nat.zero_add _).symm | ⟨1, _⟩ => exact (Nat.zero_add _).symm | ⟨2, _⟩ => exact (Nat.zero_add _).symm)]
/-- A whole array loaded is the array. -/
theorem ld_1 (x : Vec Ideal S1x8x2048 .f32) : View.ld x r0_1 = x := by
  funext y; rw [View.ld_unit_apply_of _ _ _ _ y y (fun a => by match a with | ⟨0, _⟩ => exact (Nat.zero_add _).symm | ⟨1, _⟩ => exact (Nat.zero_add _).symm | ⟨2, _⟩ => exact (Nat.zero_add _).symm)]
/-- A whole array loaded is the array. -/
theorem ld_2 (x : Vec Ideal S1x2048 .f32) : View.ld x r0_2 = x := by
  funext y; rw [View.ld_unit_apply_of _ _ _ _ y y (fun a => by match a with | ⟨0, _⟩ => exact (Nat.zero_add _).symm | ⟨1, _⟩ => exact (Nat.zero_add _).symm)]
/-- A whole array loaded is the array. -/
theorem ld_3 (x : Vec Ideal S1x128x768 .f32) : View.ld x r0_3 = x := by
  funext y; rw [View.ld_unit_apply_of _ _ _ _ y y (fun a => by match a with | ⟨0, _⟩ => exact (Nat.zero_add _).symm | ⟨1, _⟩ => exact (Nat.zero_add _).symm | ⟨2, _⟩ => exact (Nat.zero_add _).symm)]
/-- A whole array loaded is the array. -/
theorem ld_4 (x : Vec Ideal S1x8x768 .f32) : View.ld x r0_4 = x := by
  funext y; rw [View.ld_unit_apply_of _ _ _ _ y y (fun a => by match a with | ⟨0, _⟩ => exact (Nat.zero_add _).symm | ⟨1, _⟩ => exact (Nat.zero_add _).symm | ⟨2, _⟩ => exact (Nat.zero_add _).symm)]
/-- A whole array loaded is the array. -/
theorem ld_5 (x : Vec Ideal S1x768 .f32) : View.ld x r0_5 = x := by
  funext y; rw [View.ld_unit_apply_of _ _ _ _ y y (fun a => by match a with | ⟨0, _⟩ => exact (Nat.zero_add _).symm | ⟨1, _⟩ => exact (Nat.zero_add _).symm)]
/-- A whole array loaded is the array. -/
theorem ld_6 (x : Vec Ideal S512x2048 .bf16) : View.ld x r0_6 = x := by
  funext y; rw [View.ld_unit_apply_of _ _ _ _ y y (fun a => by match a with | ⟨0, _⟩ => exact (Nat.zero_add _).symm | ⟨1, _⟩ => exact (Nat.zero_add _).symm)]
/-- A whole array loaded is the array. -/
theorem ld_7 (x : Vec Ideal S128x128 .bf16) : View.ld x r0_7 = x := by
  funext y; rw [View.ld_unit_apply_of _ _ _ _ y y (fun a => by match a with | ⟨0, _⟩ => exact (Nat.zero_add _).symm | ⟨1, _⟩ => exact (Nat.zero_add _).symm)]
/-- The first row loaded, at an element. -/
theorem ld_8 (x : Vec Ideal S2x2048 .f32) (j : Fin 2048) : View.ld x r0_8 (ix2 0 j : S1x2048.Idx) = x (ix2 0 j) :=
  View.ld_unit_apply_of _ _ _ _ _ _ (fun a => by match a with | ⟨0, _⟩ => rfl | ⟨1, _⟩ => exact (Nat.zero_add _).symm)
/-- The second row loaded, at an element. -/
theorem ld_11 (x : Vec Ideal S2x2048 .f32) (j : Fin 2048) : View.ld x r0_11 (ix2 0 j : S1x2048.Idx) = x (ix2 1 j) :=
  View.ld_unit_apply_of _ _ _ _ _ _ (fun a => by match a with | ⟨0, _⟩ => rfl | ⟨1, _⟩ => exact (Nat.zero_add _).symm)
/-- The first matrix loaded, at an element. -/
theorem ld_9 (x : Vec Ideal S2x128x2048 .bf16) (k : Fin 128) (j : Fin 2048) : View.ld x r0_9 (ix3 0 k j : S1x128x2048.Idx) = x (ix3 0 k j) :=
  View.ld_unit_apply_of _ _ _ _ _ _ (fun a => by match a with | ⟨0, _⟩ => rfl | ⟨1, _⟩ => exact (Nat.zero_add _).symm | ⟨2, _⟩ => exact (Nat.zero_add _).symm)
/-- The second matrix loaded, at an element. -/
theorem ld_12 (x : Vec Ideal S2x128x2048 .bf16) (k : Fin 128) (j : Fin 2048) : View.ld x r0_12 (ix3 0 k j : S1x128x2048.Idx) = x (ix3 1 k j) :=
  View.ld_unit_apply_of _ _ _ _ _ _ (fun a => by match a with | ⟨0, _⟩ => rfl | ⟨1, _⟩ => exact (Nat.zero_add _).symm | ⟨2, _⟩ => exact (Nat.zero_add _).symm)

/-- The point's receptance rows. -/
theorem R_eq : k0_pay66 i x0 x1 x2 x12 = sh wide2048 x12 i x0 x1 x2 := by
  rw [show k0_pay66 i x0 x1 x2 x12 = sh wide2048 (View.ld x12 r0_2) i (View.ld x0 r0_0) (View.ld x1 r0_1) (View.ld x2 r0_1) from rfl, ld_0, ld_1, ld_1, ld_2]
/-- The point's key rows. -/
theorem K_eq : k0_pay67 i x3 x4 x5 x13 = sh wide2048 x13 i x3 x4 x5 := by
  rw [show k0_pay67 i x3 x4 x5 x13 = sh wide2048 (View.ld x13 r0_2) i (View.ld x3 r0_0) (View.ld x4 r0_1) (View.ld x5 r0_1) from rfl, ld_0, ld_1, ld_1, ld_2]
/-- The point's value rows. -/
theorem V_eq : k0_pay69 i x6 x7 x8 x14 = sh wide2048 x14 i x6 x7 x8 := by
  rw [show k0_pay69 i x6 x7 x8 x14 = sh wide2048 (View.ld x14 r0_2) i (View.ld x6 r0_0) (View.ld x7 r0_1) (View.ld x8 r0_1) from rfl, ld_0, ld_1, ld_1, ld_2]
/-- The point's low-rank rows. -/
theorem L_eq : k0_pay33 (k0_pay70 i x9) (k0_pay71 i x15) (k0_pay68 i) (k0_pay72 i x10) (k0_pay73 i x11) (k0_pay74 i x9) (k0_pay75 i x9) (k0_pay76 i) (k0_pay77 i x9)
    = sh wide768 x15 i x9 x10 x11 := by
  rw [show k0_pay33 (k0_pay70 i x9) (k0_pay71 i x15) (k0_pay68 i) (k0_pay72 i x10) (k0_pay73 i x11) (k0_pay74 i x9) (k0_pay75 i x9) (k0_pay76 i) (k0_pay77 i x9)
    = sh wide768 (View.ld x15 r0_5) i (View.ld x9 r0_3) (View.ld x10 r0_4) (View.ld x11 r0_4) from rfl, ld_3, ld_4, ld_4, ld_5]

/-- A block of rows stored whole, at an element. -/
theorem whole_at (p : FVec Ideal S1x128x2048 .bf16) (r : Fin 128) (j : Fin 2048) :
    View.canon (Val := Elt Ideal) (e := .bf16) [⟨r0_0, p⟩] (ix3 0 r j : S1x128x2048.Idx) = p (ix3 0 r j) := by
  refine View.canon_eq_of_allAt _ _ _ (cover_one _ _) ?_
  refine View.allAt_cons _ _ _ ?_ (View.allAt_nil _ _)
  intro x hx
  refine congrArg p (funext fun a => Fin.ext ?_)
  have h := congrArg (fun y : S1x128x2048.Idx => (y a).val) hx
  have h' : (![0, 0, 0] : Fin 3 → Nat) a + 1 * (x a).val = ((ix3 0 r j : S1x128x2048.Idx) a).val := h
  rw [← h']
  match a with
  | ⟨0, _⟩ => show (x 0).val = 0 + 1 * (x 0).val; omega
  | ⟨1, _⟩ => show (x 1).val = 0 + 1 * (x 1).val; omega
  | ⟨2, _⟩ => show (x 2).val = 0 + 1 * (x 2).val; omega

/-- Two blocks of rows stored one per direction, at an element. -/
theorem pair_at {e : EltTy} (p q : S1x1x128x2048.Idx → Elt Ideal e) (s : Fin 2) (r : Fin 128) (j : Fin 2048)
    (hc : ∃ a ∈ ([⟨r0_13, p⟩, ⟨r0_10, q⟩] : List (View.Piece (Elt Ideal) S2x1x128x2048 e)), (ix4 s 0 r j : S2x1x128x2048.Idx) ∈ a.1.set) :
    View.canon (Val := Elt Ideal) (e := e) [⟨r0_13, p⟩, ⟨r0_10, q⟩] (ix4 s 0 r j : S2x1x128x2048.Idx) = if s = 0 then q (ix4 0 0 r j) else p (ix4 0 0 r j) := by
  refine View.canon_eq_of_allAt _ _ _ hc ?_
  refine View.allAt_cons _ _ _ ?_ (View.allAt_cons _ _ _ ?_ (View.allAt_nil _ _))
  · intro x hx
    have h0 : 1 + 1 * (x 0).val = s.val := congrArg (fun y : S2x1x128x2048.Idx => (y 0).val) hx
    have h2 : 0 + 1 * (x 2).val = r.val := congrArg (fun y : S2x1x128x2048.Idx => (y 2).val) hx
    have h3 : 0 + 1 * (x 3).val = j.val := congrArg (fun y : S2x1x128x2048.Idx => (y 3).val) hx
    rw [if_neg (fun h => by rw [h] at h0; exact absurd h0 (by show ¬ 1 + 1 * (x 0).val = 0; omega))]
    refine congrArg p (funext fun a => Fin.ext ?_)
    match a with
    | ⟨0, _⟩ => have := (x 0).isLt; have : (x 0).val < 1 := this; show (x 0).val = 0; omega
    | ⟨1, _⟩ => have := (x 1).isLt; have : (x 1).val < 1 := this; show (x 1).val = 0; omega
    | ⟨2, _⟩ => show (x 2).val = r.val; omega
    | ⟨3, _⟩ => show (x 3).val = j.val; omega
  · intro x hx
    have h0 : 0 + 1 * (x 0).val = s.val := congrArg (fun y : S2x1x128x2048.Idx => (y 0).val) hx
    have h2 : 0 + 1 * (x 2).val = r.val := congrArg (fun y : S2x1x128x2048.Idx => (y 2).val) hx
    have h3 : 0 + 1 * (x 3).val = j.val := congrArg (fun y : S2x1x128x2048.Idx => (y 3).val) hx
    have hx0 : (x 0).val < 1 := (x 0).isLt
    rw [if_pos (Fin.ext (by show s.val = 0; omega))]
    refine congrArg q (funext fun a => Fin.ext ?_)
    match a with
    | ⟨0, _⟩ => show (x 0).val = 0; omega
    | ⟨1, _⟩ => have := (x 1).isLt; have : (x 1).val < 1 := this; show (x 1).val = 0; omega
    | ⟨2, _⟩ => show (x 2).val = r.val; omega
    | ⟨3, _⟩ => show (x 3).val = j.val; omega

/-- The receptance rows a point stores. -/
theorem o25 (r : Fin 128) (j : Fin 2048) : out0_25 i x0 x1 x2 x12 (ix3 0 r j) = sh wide2048 x12 i x0 x1 x2 (ix2 r j) := by
  unfold out0_25
  rw [whole_at, R_eq]
  generalize sh wide2048 x12 i x0 x1 x2 = y
  pointwise [k0_pay63]

/-- The value rows a point stores. -/
theorem o26 (r : Fin 128) (j : Fin 2048) : out0_26 i x6 x7 x8 x14 (ix3 0 r j) = sh wide2048 x14 i x6 x7 x8 (ix2 r j) := by
  unfold out0_26
  rw [whole_at, V_eq]
  generalize sh wide2048 x14 i x6 x7 x8 = y
  pointwise [k0_pay64]

/-- The normalised keys a point stores. -/
theorem o27 (hj : sameHead x24) (r : Fin 128) (h : Fin 32) (d : Fin 64) : out0_27 i x3 x4 x5 x13 x21 x24 (ix3 0 r (lane h d))
    = unit (fun e => sh wide2048 x13 i x3 x4 x5 (ix2 r (lane h e)) * x21 (ix2 0 (lane h e))) d := by
  unfold out0_27
  rw [whole_at, K_eq, ld_2, ld_7]
  exact kk_apply _ _ _ hj r h d

/-- The gate a point stores. -/
theorem o28 (r : Fin 128) (j : Fin 2048) : out0_28 i x9 x10 x11 x15 x20 (ix3 0 r j)
    = gate (fun x => sh wide768 x15 i x9 x10 x11 (ix2 r x)) fun x => x20 (ix2 x j) := by
  unfold out0_28
  rw [whole_at, ld_6]
  unfold k0_pay36
  rw [L_eq]
  exact gate_apply _ _ r j

/-- The first 128 low-rank columns of a point. -/
theorem dec_eq : k0_pay78 i x9 x10 x11 x15 = dec (sh wide768 x15 i x9 x10 x11) := by
  unfold k0_pay78 k0_pay34
  rw [L_eq]
/-- The next 128 low-rank columns of a point. -/
theorem rat_eq : k0_pay79 i x9 x10 x11 x15 = rat (sh wide768 x15 i x9 x10 x11) := by
  unfold k0_pay79 k0_pay35
  rw [L_eq]

/-- The bonus a point stores. -/
theorem o29 (hj : sameHead x24) (r : Fin 128) (h : Fin 32) (d : Fin 64) :
    out0_29 i x0 x1 x2 x3 x4 x5 x6 x7 x8 x9 x10 x11 x12 x13 x14 x15 x18 x19 x22 x23 x24 (ix3 0 r (lane h d))
    = (score (fun e => sh wide2048 x12 i x0 x1 x2 (ix2 r (lane h e)))
          (fun e => key (sh wide2048 x13 i x3 x4 x5 (ix2 r (lane h e))) (rate (fun x => sh wide768 x15 i x9 x10 x11 (ix2 r x)) (x18 (ix2 0 (lane h e))) fun x => x19 (ix3 0 x (lane h e))) (x22 (ix2 0 (lane h e)))) (fun e => x23 (ix2 0 (lane h e)))
        + score (fun e => sh wide2048 x12 i x0 x1 x2 (ix2 r (lane h e)))
          (fun e => key (sh wide2048 x13 i x3 x4 x5 (ix2 r (lane h e))) (rate (fun x => sh wide768 x15 i x9 x10 x11 (ix2 r x)) (x18 (ix2 1 (lane h e))) fun x => x19 (ix3 1 x (lane h e))) (x22 (ix2 0 (lane h e)))) (fun e => x23 (ix2 0 (lane h e))))
        * sh wide2048 x14 i x6 x7 x8 (ix2 r (lane h d)) := by
  unfold out0_29
  rw [whole_at, R_eq, K_eq, V_eq, rat_eq, ld_7, ld_2, ld_2]
  refine (bonus_apply _ _ _ _ _ _ _ _ _ _ _ hj r h d).trans ?_
  have e0 : ∀ e, key (sh wide2048 x13 i x3 x4 x5 (ix2 r (lane h e))) (rate (fun x => sh wide768 x15 i x9 x10 x11 (ix2 r x)) (View.ld x18 r0_8 (ix2 0 (lane h e) : S1x2048.Idx)) fun x => View.ld x19 r0_9 (ix3 0 x (lane h e) : S1x128x2048.Idx)) (x22 (ix2 0 (lane h e)))
      = key (sh wide2048 x13 i x3 x4 x5 (ix2 r (lane h e))) (rate (fun x => sh wide768 x15 i x9 x10 x11 (ix2 r x)) (x18 (ix2 0 (lane h e))) fun x => x19 (ix3 0 x (lane h e))) (x22 (ix2 0 (lane h e))) :=
    fun e => congrArg (fun x => key _ x _) (congrArg₂ (rate _) (ld_8 x18 _) (funext fun k => ld_9 x19 k _))
  have e1 : ∀ e, key (sh wide2048 x13 i x3 x4 x5 (ix2 r (lane h e))) (rate (fun x => sh wide768 x15 i x9 x10 x11 (ix2 r x)) (View.ld x18 r0_11 (ix2 0 (lane h e) : S1x2048.Idx)) fun x => View.ld x19 r0_12 (ix3 0 x (lane h e) : S1x128x2048.Idx)) (x22 (ix2 0 (lane h e)))
      = key (sh wide2048 x13 i x3 x4 x5 (ix2 r (lane h e))) (rate (fun x => sh wide768 x15 i x9 x10 x11 (ix2 r x)) (x18 (ix2 1 (lane h e))) fun x => x19 (ix3 1 x (lane h e))) (x22 (ix2 0 (lane h e))) :=
    fun e => congrArg (fun x => key _ x _) (congrArg₂ (rate _) (ld_11 x18 _) (funext fun k => ld_12 x19 k _))
  exact congrArg (· * _) (congrArg₂ (· + ·) (congrArg (fun k => score _ k _) (funext e0)) (congrArg (fun k => score _ k _) (funext e1)))

/-- The logarithm of the decay a point stores. -/
theorem o30 (s : Fin 2) (r : Fin 128) (j : Fin 2048) : out0_30 i x9 x10 x11 x15 x16 x17 (ix4 s 0 r j)
    = decay (fun x => sh wide768 x15 i x9 x10 x11 (ix2 r x)) (x16 (ix2 s j)) fun x => x17 (ix3 s x j) := by
  unfold out0_30
  rw [pair_at _ _ s r j (cover_two _ _ _), dec_eq]
  match s with
  | 0 =>
    rw [if_pos rfl]
    refine (lw0_apply _ _ _ r j).trans ?_
    exact congrArg₂ (decay _) (ld_8 x16 j) (funext fun k => ld_9 x17 k j)
  | 1 =>
    rw [if_neg (by decide)]
    refine (lw1_apply _ _ _ r j).trans ?_
    exact congrArg₂ (decay _) (ld_11 x16 j) (funext fun k => ld_12 x17 k j)

/-- The scaled key a point stores. -/
theorem o31 (s : Fin 2) (r : Fin 128) (j : Fin 2048) : out0_31 i x3 x4 x5 x9 x10 x11 x13 x15 x18 x19 x22 (ix4 s 0 r j)
    = key (sh wide2048 x13 i x3 x4 x5 (ix2 r j)) (rate (fun x => sh wide768 x15 i x9 x10 x11 (ix2 r x)) (x18 (ix2 s j)) fun x => x19 (ix3 s x j)) (x22 (ix2 0 j)) := by
  unfold out0_31
  rw [pair_at _ _ s r j (cover_two _ _ _), K_eq, rat_eq, ld_2, back_k]
  match s with
  | 0 =>
    rw [if_pos rfl]
    refine (kd_apply _ _ _ _ _ r j).trans ?_
    exact congrArg (fun x => key _ x _) (congrArg₂ (rate _) (ld_8 x18 j) (funext fun k => ld_9 x19 k j))
  | 1 =>
    rw [if_neg (by decide)]
    refine (kd_apply _ _ _ _ _ r j).trans ?_
    exact congrArg (fun x => key _ x _) (congrArg₂ (rate _) (ld_11 x18 j) (funext fun k => ld_12 x19 k j))

/-- The learning rate a point stores. -/
theorem o32 (s : Fin 2) (r : Fin 128) (j : Fin 2048) : out0_32 i x9 x10 x11 x15 x18 x19 (ix4 s 0 r j)
    = rate (fun x => sh wide768 x15 i x9 x10 x11 (ix2 r x)) (x18 (ix2 s j)) fun x => x19 (ix3 s x j) := by
  unfold out0_32
  rw [pair_at _ _ s r j (cover_two _ _ _), rat_eq, back_a]
  match s with
  | 0 =>
    rw [if_pos rfl]
    refine (a_apply _ _ _ r j).trans ?_
    exact congrArg₂ (rate _) (ld_8 x18 j) (funext fun k => ld_9 x19 k j)
  | 1 =>
    rw [if_neg (by decide)]
    refine (a_apply _ _ _ r j).trans ?_
    exact congrArg₂ (rate _) (ld_11 x18 j) (funext fun k => ld_12 x19 k j)

end Cert.KernelPrepIdeal.Hand
end
-- ==== Proof.Prep.Ref.lean ====
/-
  The reference of the call that prepares the scan's operands: its eight results at an element.
-/
module

public import proofs.«01_k».proof.Proof.Gen.ReferencePrepIdeal.Read
public import Idealize.ShloMosaic.Lib.Pipeline.ValueKit
public import Idealize.ShloMosaic.Lib.Pointwise
public import Idealize.ShloMosaic.Lib.KernelVsHost
public import proofs.«01_k».proof.Proof.Prep.Spec

@[expose] public section

set_option maxRecDepth 16384

noncomputable section

namespace Prep.Ref

open Cert.ReferencePrepIdeal Cert.ReferencePrepIdeal.Gen Cert.ReferencePrepIdeal.Read Idealize.ShloMosaic Idealize.ShloMosaic.TcCoe

/-- The literal zero. -/
theorem lit0 : Ideal.ofBits .f32 0x00000000#32 = 0 := by simp [Ideal.ofBits, Ideal.ieee]
/-- A padded array of rows at an element: a row of the array, or the padding value. -/
theorem padded {W : Nat} (x : FVec Ideal ⟨3, ![4, 4096, W]⟩ .f32) (v : FVec Ideal S_ .f32)
    (h : (⟨3, ![4, 4096, W]⟩ : Shape).Pads ![0, 1, 0] ![0, 1, 0] ![0, 0, 0] ⟨3, ![4, 4098, W]⟩) (hu : 0 < S_.numel) (b : Fin 4) (q : Fin 4098) (j : Fin W) :
    pad ⟨3, ![4, 4098, W]⟩ ![0, 1, 0] ![0, 1, 0] ![0, 0, 0] x v h hu (ix3 b q j)
      = if hq : 1 ≤ q.val ∧ q.val ≤ 4096 then x (ix3 b ⟨q.val - 1, by omega⟩ j) else v (Shape.Idx.first hu) := by
  by_cases hq : 1 ≤ q.val ∧ q.val ≤ 4096
  · rw [dif_pos hq]
    refine pad_apply_of_inside _ _ _ x v h hu _ _ fun a => ?_
    match a with
    | ⟨0, _⟩ => show b.val = 0 + b.val * (0 + 1); omega
    | ⟨1, _⟩ => show q.val = 1 + (q.val - 1) * (0 + 1); omega
    | ⟨2, _⟩ => show j.val = 0 + j.val * (0 + 1); omega
  · rw [dif_neg hq]
    refine pad_apply_of_not_inside _ _ _ x v h hu _ 1 fun hc => hq ?_
    have h1 : 1 ≤ q.val := hc.1
    have h2 : (q.val - 1) / (0 + 1) < 4096 := hc.2.2
    omega

/-- A band of rows at an element. -/
theorem band {W : Nat} (o : Nat) (y : FVec Ideal ⟨3, ![4, 4098, W]⟩ .f32) (h : (⟨3, ![4, 4098, W]⟩ : Shape).Slices ![0, o, 0] ⟨3, ![4, 4096, W]⟩)
    (b : Fin 4) (t : Fin 4096) (j : Fin W) (q : Fin 4098) (hq : q.val = o + t.val) :
    extractStridedSlice ⟨3, ![4, 4096, W]⟩ ![0, o, 0] y h (ix3 b t j) = y (ix3 b q j) := by
  refine extractStridedSlice_apply _ y h _ _ fun a => ?_
  match a with
  | ⟨0, _⟩ => show b.val = 0 + b.val; omega
  | ⟨1, _⟩ => exact hq
  | ⟨2, _⟩ => show j.val = 0 + j.val; omega

/-- The padding value. -/
theorem padv (i : S_.Idx) : (sitofp (F := Ideal) .f32 (constantI S_ 32 0#32)) i = 0 := by
  show ((((0#32 : BitVec 32).toInt : ℤ) : ℝ) : EReal) = 0
  norm_num

/-- The mean of the two neighbours' rows, drawn from the padded array. -/
theorem near {W : Nat} (x : FVec Ideal ⟨3, ![4, 4096, W]⟩ .f32) (v : FVec Ideal S_ .f32) (hv : ∀ i, v i = 0)
    (h : (⟨3, ![4, 4096, W]⟩ : Shape).Pads ![0, 1, 0] ![0, 1, 0] ![0, 0, 0] ⟨3, ![4, 4098, W]⟩) (hu : 0 < S_.numel)
    (h0 : (⟨3, ![4, 4098, W]⟩ : Shape).Slices ![0, 0, 0] ⟨3, ![4, 4096, W]⟩) (h2 : (⟨3, ![4, 4098, W]⟩ : Shape).Slices ![0, 2, 0] ⟨3, ![4, 4096, W]⟩)
    (b : Fin 4) (t : Fin 4096) (j : Fin W) :
    extractStridedSlice ⟨3, ![4, 4096, W]⟩ ![0, 0, 0] (pad ⟨3, ![4, 4098, W]⟩ ![0, 1, 0] ![0, 1, 0] ![0, 0, 0] x v h hu) h0 (ix3 b t j)
        = (if t.val = 0 then 0 else x (ix3 b ⟨t.val - 1, by omega⟩ j))
    ∧ extractStridedSlice ⟨3, ![4, 4096, W]⟩ ![0, 2, 0] (pad ⟨3, ![4, 4098, W]⟩ ![0, 1, 0] ![0, 1, 0] ![0, 0, 0] x v h hu) h2 (ix3 b t j)
        = (if h : t.val = 4095 then 0 else x (ix3 b ⟨t.val + 1, by omega⟩ j)) := by
  constructor
  · rw [band 0 _ h0 b t j ⟨t.val, by omega⟩ (by dsimp only; omega), padded]
    by_cases ht : t.val = 0
    · rw [if_pos ht, dif_neg (by dsimp only; omega), hv]
    · rw [if_neg ht, dif_pos (by dsimp only; omega)]
  · rw [band 2 _ h2 b t j ⟨t.val + 2, by omega⟩ (by dsimp only; omega), padded]
    by_cases ht : t.val = 4095
    · rw [dif_pos ht, dif_neg (by dsimp only; omega), hv]
    · rw [dif_neg ht, dif_pos (by dsimp only; omega)]
      exact congrArg x (by congr 1)

variable (x0 : FVec Ideal S4x4096x6144 .f32) (x1 : FVec Ideal S4x4096x768 .f32) (x2 : FVec Ideal S1x6912 .f32) (x3 : FVec Ideal S1x2x2048 .f32)
  (x4 : FVec Ideal S1x2x128x2048 .f32) (x5 : FVec Ideal S1x2x2048 .f32) (x6 : FVec Ideal S1x2x128x2048 .f32) (x7 : FVec Ideal S1x512x2048 .f32)
  (x8 x9 : FVec Ideal S1x2048 .f32) (x10 : FVec Ideal S1x32x64 .f32) (b : Fin 4) (t : Fin 4096)

/-- The shifted receptance, key and value rows. -/
theorem rkv_apply (j : Fin 6144) : val_main_v12 (F := Ideal) x0 x2 (ix3 b t j) = rkv x0 x2 b t j := by
  have h := near x0 (val_main_call0_v0 (F := Ideal)) padv pads_S4x4096x6144_S4x4098x6144_000_110_000 h_S_
    slices_S4x4098x6144_S4x4096x6144_0_0_0 slices_S4x4098x6144_S4x4096x6144_0_2_0 b t j
  unfold rkv shift mix
  rw [← h.1, ← h.2]
  generalize hp : val_main_v3 (F := Ideal) x0 = p
  generalize hn : val_main_v4 (F := Ideal) x0 = n
  have hp' : extractStridedSlice _ _ (pad _ _ _ _ x0 _ _ _) _ = p := hp
  have hn' : extractStridedSlice _ _ (pad _ _ _ _ x0 _ _ _) _ = n := hn
  rw [hp', hn']
  pointwise [val_main_v12, val_main_v11, val_main_v10, val_main_v9, val_main_v8, val_main_v7, val_main_v6, val_main_v5, val_main_v1, val_main_v0, val_main_cst]
  rw [hp, hn]

/-- The shifted low-rank rows. -/
theorem low_apply (j : Fin 768) : val_main_v28 (F := Ideal) x1 x2 (ix3 b t j) = low x1 x2 b t j := by
  have h := near x1 (val_main_call1_v0 (F := Ideal)) padv pads_S4x4096x768_S4x4098x768_000_110_000 h_S_
    slices_S4x4098x768_S4x4096x768_0_0_0 slices_S4x4098x768_S4x4096x768_0_2_0 b t j
  unfold low shift mix
  rw [← h.1, ← h.2]
  generalize hp : val_main_v19 (F := Ideal) x1 = p
  generalize hn : val_main_v20 (F := Ideal) x1 = n
  have hp' : extractStridedSlice _ _ (pad _ _ _ _ x1 _ _ _) _ = p := hp
  have hn' : extractStridedSlice _ _ (pad _ _ _ _ x1 _ _ _) _ = n := hn
  rw [hp', hn']
  pointwise [val_main_v28, val_main_v27, val_main_v26, val_main_v25, val_main_v24, val_main_v23, val_main_v22, val_main_v21, val_main_v17, val_main_v16, val_main_cst_1]
  rw [hp, hn]

/-- The receptance rows. -/
theorem r_apply (j : Fin 2048) : val_main_v13 (F := Ideal) x0 x2 (ix3 b t j) = rr (rkv x0 x2 b t) j := by
  have h := rkv_apply x0 x2 b t
  unfold rr
  rw [← h]
  generalize hy : val_main_v12 (F := Ideal) x0 x2 = y
  pointwise [val_main_v13]
  rw [hy]

/-- The key rows. -/
theorem k_apply (j : Fin 2048) : val_main_v14 (F := Ideal) x0 x2 (ix3 b t j) = kr (rkv x0 x2 b t) j := by
  have h := rkv_apply x0 x2 b t
  unfold kr
  rw [← h]
  generalize hy : val_main_v12 (F := Ideal) x0 x2 = y
  pointwise [val_main_v14]
  rw [hy]

/-- The value rows. -/
theorem v_apply (j : Fin 2048) : val_main_v15 (F := Ideal) x0 x2 (ix3 b t j) = vr (rkv x0 x2 b t) j := by
  have h := rkv_apply x0 x2 b t
  unfold vr
  rw [← h]
  generalize hy : val_main_v12 (F := Ideal) x0 x2 = y
  pointwise [val_main_v15]
  rw [hy]

/-- The gate. -/
theorem g_apply (j : Fin 2048) : val_main_v39 (F := Ideal) x1 x2 x7 (ix3 b t j) = gate (low x1 x2 b t) fun x => x7 (ix3 0 x j) := by
  have h := low_apply x1 x2 b t
  unfold gate Ideal.logistic
  simp only [← h]
  generalize hy : val_main_v28 (F := Ideal) x1 x2 = y
  pointwise [val_main_v39, val_main_v38, val_main_v37, val_main_v36, val_main_v35, val_main_v34, val_main_v33, val_main_v32, val_main_v31, val_main_cst_2, val_main_cst_3]
  simp only [hy]

/-- The logarithm of the decay, forwards. -/
theorem lw0_apply (j : Fin 2048) : val_main_v72 (F := Ideal) x1 x2 x3 x4 (ix3 b t j)
    = decay (low x1 x2 b t) (x3 (ix3 0 0 j)) fun x => x4 (ix4 0 0 x j) := by
  have h := low_apply x1 x2 b t
  unfold decay Ideal.logistic
  simp only [← h]
  generalize hy : val_main_v28 (F := Ideal) x1 x2 = y
  pointwise [val_main_v72, val_main_v71, val_main_v70, val_main_v69, val_main_v68, val_main_v67, val_main_v66, val_main_v65, val_main_v64, val_main_v63, val_main_v62, val_main_v61, val_main_v60, val_main_v59, val_main_v58, val_main_v57, val_main_v55, val_main_v29, val_main_cst_7, val_main_cst_8, val_main_cst_9]
  simp only [hy]

/-- The logarithm of the decay, backwards. -/
theorem lw1_apply (j : Fin 2048) : val_main_v122 (F := Ideal) x1 x2 x3 x4 (ix3 b t j)
    = decay (low x1 x2 b t) (x3 (ix3 0 1 j)) fun x => x4 (ix4 0 1 x j) := by
  have h := low_apply x1 x2 b t
  unfold decay Ideal.logistic
  simp only [← h]
  generalize hy : val_main_v28 (F := Ideal) x1 x2 = y
  pointwise [val_main_v122, val_main_v121, val_main_v120, val_main_v119, val_main_v118, val_main_v117, val_main_v116, val_main_v115, val_main_v114, val_main_v113, val_main_v112, val_main_v111, val_main_v110, val_main_v109, val_main_v108, val_main_v107, val_main_v55, val_main_v29, val_main_cst_15, val_main_cst_16, val_main_cst_17]
  simp only [hy]

/-- The learning rate, forwards. -/
theorem a0_apply (j : Fin 2048) : val_main_v86 (F := Ideal) x1 x2 x5 x6 (ix3 b t j)
    = rate (low x1 x2 b t) (x5 (ix3 0 0 j)) fun x => x6 (ix4 0 0 x j) := by
  have h := low_apply x1 x2 b t
  unfold rate Ideal.logistic
  simp only [← h]
  generalize hy : val_main_v28 (F := Ideal) x1 x2 = y
  pointwise [val_main_v86, val_main_v85, val_main_v84, val_main_v83, val_main_v82, val_main_v81, val_main_v80, val_main_v79, val_main_v78, val_main_v77, val_main_v76, val_main_v75, val_main_v74, val_main_v73, val_main_v30, val_main_cst_10, val_main_cst_11]
  simp only [hy]

/-- The learning rate, backwards. -/
theorem a1_apply (j : Fin 2048) : val_main_v136 (F := Ideal) x1 x2 x5 x6 (ix3 b t j)
    = rate (low x1 x2 b t) (x5 (ix3 0 1 j)) fun x => x6 (ix4 0 1 x j) := by
  have h := low_apply x1 x2 b t
  unfold rate Ideal.logistic
  simp only [← h]
  generalize hy : val_main_v28 (F := Ideal) x1 x2 = y
  pointwise [val_main_v136, val_main_v135, val_main_v134, val_main_v133, val_main_v132, val_main_v131, val_main_v130, val_main_v129, val_main_v128, val_main_v127, val_main_v126, val_main_v125, val_main_v124, val_main_v123, val_main_v30, val_main_cst_18, val_main_cst_19]
  simp only [hy]

/-- The scaled key, forwards. -/
theorem kd0_apply (j : Fin 2048) : val_main_v95 (F := Ideal) x0 x1 x2 x5 x6 x9 (ix3 b t j)
    = key (kr (rkv x0 x2 b t) j) (rate (low x1 x2 b t) (x5 (ix3 0 0 j)) fun x => x6 (ix4 0 0 x j)) (x9 (ix2 0 j)) := by
  rw [← k_apply, ← a0_apply]
  unfold key
  generalize hk : val_main_v14 (F := Ideal) x0 x2 = k
  generalize ha : val_main_v86 (F := Ideal) x1 x2 x5 x6 = a
  pointwise [val_main_v95, val_main_v94, val_main_v93, val_main_v92, val_main_v91, val_main_v90, val_main_v89, val_main_v88, val_main_v87, val_main_cst_12, val_main_cst_13]
  rw [hk, ha]

/-- The scaled key, backwards. -/
theorem kd1_apply (j : Fin 2048) : val_main_v145 (F := Ideal) x0 x1 x2 x5 x6 x9 (ix3 b t j)
    = key (kr (rkv x0 x2 b t) j) (rate (low x1 x2 b t) (x5 (ix3 0 1 j)) fun x => x6 (ix4 0 1 x j)) (x9 (ix2 0 j)) := by
  rw [← k_apply, ← a1_apply]
  unfold key
  generalize hk : val_main_v14 (F := Ideal) x0 x2 = k
  generalize ha : val_main_v136 (F := Ideal) x1 x2 x5 x6 = a
  pointwise [val_main_v145, val_main_v144, val_main_v143, val_main_v142, val_main_v141, val_main_v140, val_main_v139, val_main_v138, val_main_v137, val_main_cst_20, val_main_cst_21]
  rw [hk, ha]

/-- A rows' array split into heads, at an element. -/
theorem split (y : FVec Ideal S4x4096x2048 .f32) (h : Fin 32) (d : Fin 64) :
    shapeCast S4x4096x32x64 y shapeCasts_S4x4096x2048_S4x4096x32x64 (ix4 b t h d) = y (ix3 b t (lane h d)) := by
  pointwise []
  exact congrArg (fun l => y (ix3 b t l)) (Fin.ext (by show h.val * 64 + d.val = 64 * h.val + d.val; omega))

/-- The heads joined again, at an element. -/
theorem join (y : FVec Ideal S4x4096x32x64 .f32) (h : Fin 32) (d : Fin 64) :
    shapeCast S4x4096x2048 y shapeCasts_S4x4096x32x64_S4x4096x2048 (ix3 b t (lane h d)) = y (ix4 b t h d) := by
  pointwise []
  exact congrArg₂ (fun k l => y (ix4 b t k l)) (Fin.ext (by show (64 * h.val + d.val) / 64 = h.val; omega)) (Fin.ext (by show (64 * h.val + d.val) % 64 = d.val; omega))

/-- The normalised keys. -/
theorem kk_apply (h : Fin 32) (d : Fin 64) : val_main_v159 (F := Ideal) x0 x2 x8 (ix3 b t (lane h d))
    = unit (fun e => kr (rkv x0 x2 b t) (lane h e) * x8 (ix2 0 (lane h e))) d := by
  have hk : ∀ e, val_main_v44 (F := Ideal) x0 x2 x8 (ix4 b t h e) = kr (rkv x0 x2 b t) (lane h e) * x8 (ix2 0 (lane h e)) := by
    intro e
    rw [← k_apply]
    generalize hk : val_main_v14 (F := Ideal) x0 x2 = k
    refine (split b t _ h e).trans ?_
    pointwise [val_main_v43, val_main_v42, val_main_v41, val_main_v40]
    rw [hk]
  refine (join b t _ h d).trans ?_
  unfold unit
  simp only [← hk]
  generalize hy : val_main_v44 (F := Ideal) x0 x2 x8 = y
  pointwise [val_main_v52, val_main_v51, val_main_v50, val_main_v49, val_main_v48, val_main_v47, val_main_v46, val_main_v45, val_main_cst_4, val_main_cst_5]
  simp only [hy]

/-- The scores of the bonus, forwards. -/
theorem s0_apply (h : Fin 32) : val_main_v102 (F := Ideal) x0 x1 x2 x5 x6 x9 x10 (ix3 b t h)
    = score (fun e => rr (rkv x0 x2 b t) (lane h e)) (fun e => key (kr (rkv x0 x2 b t) (lane h e)) (rate (low x1 x2 b t) (x5 (ix3 0 0 (lane h e))) fun x => x6 (ix4 0 0 x (lane h e))) (x9 (ix2 0 (lane h e))))
        (fun e => x10 (ix3 0 h e)) := by
  have hr : ∀ e, val_main_v53 (F := Ideal) x0 x2 (ix4 b t h e) = rr (rkv x0 x2 b t) (lane h e) := fun e =>
    (split b t _ h e).trans (r_apply x0 x2 b t _)
  have hk : ∀ e, val_main_v96 (F := Ideal) x0 x1 x2 x5 x6 x9 (ix4 b t h e) = _ := fun e =>
    (split b t _ h e).trans (kd0_apply x0 x1 x2 x5 x6 x9 b t _)
  unfold score
  simp only [← hk, ← hr]
  generalize hR : val_main_v53 (F := Ideal) x0 x2 = r
  generalize hK : val_main_v96 (F := Ideal) x0 x1 x2 x5 x6 x9 = k
  pointwise [val_main_v102, val_main_v101, val_main_v100, val_main_v99, val_main_v98, val_main_v97, val_main_cst_14]
  simp only [hR, hK]

/-- The scores of the bonus, backwards. -/
theorem s1_apply (h : Fin 32) : val_main_v152 (F := Ideal) x0 x1 x2 x5 x6 x9 x10 (ix3 b t h)
    = score (fun e => rr (rkv x0 x2 b t) (lane h e)) (fun e => key (kr (rkv x0 x2 b t) (lane h e)) (rate (low x1 x2 b t) (x5 (ix3 0 1 (lane h e))) fun x => x6 (ix4 0 1 x (lane h e))) (x9 (ix2 0 (lane h e))))
        (fun e => x10 (ix3 0 h e)) := by
  have hr : ∀ e, val_main_v53 (F := Ideal) x0 x2 (ix4 b t h e) = rr (rkv x0 x2 b t) (lane h e) := fun e =>
    (split b t _ h e).trans (r_apply x0 x2 b t _)
  have hk : ∀ e, val_main_v146 (F := Ideal) x0 x1 x2 x5 x6 x9 (ix4 b t h e) = _ := fun e =>
    (split b t _ h e).trans (kd1_apply x0 x1 x2 x5 x6 x9 b t _)
  unfold score
  simp only [← hk, ← hr]
  generalize hR : val_main_v53 (F := Ideal) x0 x2 = r
  generalize hK : val_main_v146 (F := Ideal) x0 x1 x2 x5 x6 x9 = k
  pointwise [val_main_v152, val_main_v151, val_main_v150, val_main_v149, val_main_v148, val_main_v147, val_main_cst_22]
  simp only [hR, hK]

/-- The bonus, from the scores. -/
theorem bonus_apply (h : Fin 32) (d : Fin 64) : val_main_v162 (F := Ideal) x0 x1 x2 x5 x6 x9 x10 (ix3 b t (lane h d))
    = (0 + val_main_v102 (F := Ideal) x0 x1 x2 x5 x6 x9 x10 (ix3 b t h) * vr (rkv x0 x2 b t) (lane h d))
      + val_main_v152 (F := Ideal) x0 x1 x2 x5 x6 x9 x10 (ix3 b t h) * vr (rkv x0 x2 b t) (lane h d) := by
  have hv : val_main_v54 (F := Ideal) x0 x2 (ix4 b t h d) = _ := (split b t _ h d).trans (v_apply x0 x2 b t _)
  refine (join b t _ h d).trans ?_
  rw [← hv]
  generalize hV : val_main_v54 (F := Ideal) x0 x2 = v
  generalize h0 : val_main_v102 (F := Ideal) x0 x1 x2 x5 x6 x9 x10 = s0
  generalize h1 : val_main_v152 (F := Ideal) x0 x1 x2 x5 x6 x9 x10 = s1
  pointwise [val_main_v156, val_main_v155, val_main_v154, val_main_v153, val_main_v106, val_main_v105, val_main_v104, val_main_v103, val_main_v56, val_main_cst_6]
  rw [hV, h0, h1]

/-- Two arrays of rows stacked on a new axis, at an element. -/
theorem stack2 (x y : FVec Ideal S1x4x4096x2048 .f32) (s : Fin 2) (j : Fin 2048) :
    concatenate S2x4x4096x2048 0 [⟨S1x4x4096x2048, x⟩, ⟨S1x4x4096x2048, y⟩] concatenates_S1x4x4096x2048_S1x4x4096x2048_S2x4x4096x2048_d0 (ix4 s b t j)
      = if s = 0 then x (ix4 0 b t j) else y (ix4 0 b t j) := by
  match s with
  | 0 =>
    rw [if_pos rfl]
    refine concatenate_pair_apply_left (t := S2x4x4096x2048) 0 x y _ (ix4 0 b t j) rfl (ix4 0 b t j) (fun a => match a with | ⟨0, _⟩ => rfl | ⟨1, _⟩ => rfl | ⟨2, _⟩ => rfl | ⟨3, _⟩ => rfl)
  | 1 =>
    rw [if_neg (by decide)]
    refine concatenate_pair_apply_right (t := S2x4x4096x2048) 0 x y _ (ix4 1 b t j) rfl rfl (ix4 0 b t j) (fun a => match a with | ⟨0, _⟩ => fun h => absurd rfl h | ⟨1, _⟩ => fun _ => rfl | ⟨2, _⟩ => fun _ => rfl | ⟨3, _⟩ => fun _ => rfl) rfl

/-- Two arrays of rows stacked on a new axis, at an element. -/
theorem stacked (x y : FVec Ideal S4x4096x2048 .f32) (s : Fin 2) (j : Fin 2048) :
    concatenate S2x4x4096x2048 0 [⟨S1x4x4096x2048, broadcastInDim S1x4x4096x2048 ![1, 2, 3] bcast_S4x4096x2048_S1x4x4096x2048_1_2_3 x⟩,
        ⟨S1x4x4096x2048, broadcastInDim S1x4x4096x2048 ![1, 2, 3] bcast_S4x4096x2048_S1x4x4096x2048_1_2_3 y⟩]
        concatenates_S1x4x4096x2048_S1x4x4096x2048_S2x4x4096x2048_d0 (ix4 s b t j)
      = if s = 0 then x (ix3 b t j) else y (ix3 b t j) := by
  rw [stack2]
  have e : ∀ z : FVec Ideal S4x4096x2048 .f32, broadcastInDim S1x4x4096x2048 ![1, 2, 3] bcast_S4x4096x2048_S1x4x4096x2048_1_2_3 z (ix4 0 b t j) = z (ix3 b t j) := by
    intro z
    pointwise []
  rw [e, e]

end Prep.Ref
end
-- ==== Proof.Prep.Run.lean ====
/-
  The call that prepares the scan's operands: where the arguments it rescales are finite, its eight result arrays after
  its run are the plain reference's results of the argument arrays; the five claims.
-/
module

public import proofs.«01_k».proof.Defs
public import proofs.«01_k».proof.Proof.Gen.Pre_prep_finite
public import proofs.«01_k».proof.Proof.Gen.ReferencePrepIdeal.Read
public import proofs.«01_k».proof.Proof.Gen.ReferencePrepIdeal.Run
public import Idealize.ShloMosaic.Lib.Quiescent
public import Idealize.ShloMosaic.Lib.ReduceAll
public import proofs.«01_k».proof.Proof.Prep.Blocks
public import proofs.«01_k».proof.Proof.Prep.Out
public import proofs.«01_k».proof.Proof.Prep.Ref

@[expose] public section

set_option maxRecDepth 65536

noncomputable section

namespace Cert.KernelPrepIdeal.Hand

open Cert.KernelPrepIdeal Cert.KernelPrepIdeal.Gen Idealize.ShloMosaic Idealize.ShloMosaic.TcCoe Idealize.SL.Sem Prep
open Cert.ReferencePrepIdeal.Read (val_main_v157 val_main_v158 val_main_v160 val_main_v161 val_main_v163 val_main_v166 val_main_v170 val_main_v174)

variable (m : (ℓ : Loc nD τ sig) → Buf (Elt Ideal) ℓ) (ρ : Dev nD → PrngReg) (c : Dev nD)

/-- The reference's result of device `c`'s argument arrays: the receptance. -/
abbrev G25 : Buf (Elt Ideal) ((c : Thread nD τ).loc main_v26_0) := val_main_v157 (F := Ideal) (a0 m c) (a2 m c)
/-- The reference's result of device `c`'s argument arrays: the value. -/
abbrev G26 : Buf (Elt Ideal) ((c : Thread nD τ).loc main_v26_1) := val_main_v158 (F := Ideal) (a0 m c) (a2 m c)
/-- The reference's result of device `c`'s argument arrays: the normalised key. -/
abbrev G27 : Buf (Elt Ideal) ((c : Thread nD τ).loc main_v26_2) := val_main_v160 (F := Ideal) (a0 m c) (a2 m c) (a8 m c)
/-- The reference's result of device `c`'s argument arrays: the gate. -/
abbrev G28 : Buf (Elt Ideal) ((c : Thread nD τ).loc main_v26_3) := val_main_v161 (F := Ideal) (a1 m c) (a2 m c) (a7 m c)
/-- The reference's result of device `c`'s argument arrays: the bonus. -/
abbrev G29 : Buf (Elt Ideal) ((c : Thread nD τ).loc main_v26_4) := val_main_v163 (F := Ideal) (a0 m c) (a1 m c) (a2 m c) (a5 m c) (a6 m c) (a9 m c) (a10 m c)
/-- The reference's result of device `c`'s argument arrays: the logarithm of the decay. -/
abbrev G30 : Buf (Elt Ideal) ((c : Thread nD τ).loc main_v26_5) := val_main_v166 (F := Ideal) (a1 m c) (a2 m c) (a3 m c) (a4 m c)
/-- The reference's result of device `c`'s argument arrays: the scaled key. -/
abbrev G31 : Buf (Elt Ideal) ((c : Thread nD τ).loc main_v26_6) := val_main_v170 (F := Ideal) (a0 m c) (a1 m c) (a2 m c) (a5 m c) (a6 m c) (a9 m c)
/-- The reference's result of device `c`'s argument arrays: the learning rate. -/
abbrev G32 : Buf (Elt Ideal) ((c : Thread nD τ).loc main_v26_7) := val_main_v174 (F := Ideal) (a1 m c) (a2 m c) (a5 m c) (a6 m c)

/-- The arguments the call rescales are finite. -/
structure Fin5 : Prop where
  h0 : ∀ i, Finite (a0 m c i)
  h1 : ∀ i, Finite (a1 m c i)
  h2 : ∀ i, Finite (a2 m c i)
  h9 : ∀ i, Finite (a9 m c i)
  h10 : ∀ i, Finite (a10 m c i)

/-- The precondition says that the arguments the call rescales are finite. -/
theorem fin5 (h : Pre_KernelPrepIdeal_prep_finite m) : Fin5 m c := by
  have hc := congrFun (h c) (fun a => a.elim0)
  unfold Pre_prep_finite.fn Pre_prep_finite.fn_part1 at hc
  haveI : Subsingleton (Pre_prep_finite.S_).Idx := ⟨fun a b => funext fun x => x.elim0⟩
  obtain ⟨hc, h10⟩ := IntOp.andi_eq_one.1 hc
  obtain ⟨hc, h9⟩ := IntOp.andi_eq_one.1 hc
  obtain ⟨hc, h2⟩ := IntOp.andi_eq_one.1 hc
  obtain ⟨hc, h1⟩ := IntOp.andi_eq_one.1 hc
  obtain ⟨-, h0⟩ := IntOp.andi_eq_one.1 hc
  exact ⟨fun i => real_of_test (Host.reduce_andi_all _ _ _ _ _ h0 i), fun i => real_of_test (Host.reduce_andi_all _ _ _ _ _ h1 i),
    fun i => real_of_test (Host.reduce_andi_all _ _ _ _ _ h2 i), fun i => real_of_test (Host.reduce_andi_all _ _ _ _ _ h9 i),
    fun i => real_of_test (Host.reduce_andi_all _ _ _ _ _ h10 i)⟩

variable (hf : Fin5 m c) (t : Fin cfg0.N) (r : Fin 128)

include hf in
/-- The receptance rows of a point. -/
theorem rowR (j : Fin 2048) : sh wide2048 (iblk m c 12 t) (grid0.coords t) (iblk m c 0 t) (iblk m c 1 t) (iblk m c 2 t) (ix2 r j)
    = rr (rkv (a0 m c) (a2 m c) (bt t) (row t r)) j :=
  sh_shift wide2048 (iblk m c 12 t) t (iblk m c 0 t) (iblk m c 1 t) (iblk m c 2 t) (a0 m c) (fun j => a2 m c (ix2 0 ⟨j.val, by omega⟩))
    (fun k => ⟨k.val, by omega⟩) hf.h0 (fun _ => hf.h2 _) (blk0 m c t) (blk1 m c t) (blk2 m c t) (fun k => (blk12 m c t k)) r j

include hf in
/-- The key rows of a point. -/
theorem rowK (j : Fin 2048) : sh wide2048 (iblk m c 13 t) (grid0.coords t) (iblk m c 3 t) (iblk m c 4 t) (iblk m c 5 t) (ix2 r j)
    = kr (rkv (a0 m c) (a2 m c) (bt t) (row t r)) j :=
  sh_shift wide2048 (iblk m c 13 t) t (iblk m c 3 t) (iblk m c 4 t) (iblk m c 5 t) (a0 m c) (fun j => a2 m c (ix2 0 ⟨j.val, by omega⟩))
    (fun k => ⟨2048 + k.val, by omega⟩) hf.h0 (fun _ => hf.h2 _) (blk3 m c t) (blk4 m c t) (blk5 m c t) (fun k => (blk13 m c t k)) r j

include hf in
/-- The value rows of a point. -/
theorem rowV (j : Fin 2048) : sh wide2048 (iblk m c 14 t) (grid0.coords t) (iblk m c 6 t) (iblk m c 7 t) (iblk m c 8 t) (ix2 r j)
    = vr (rkv (a0 m c) (a2 m c) (bt t) (row t r)) j :=
  sh_shift wide2048 (iblk m c 14 t) t (iblk m c 6 t) (iblk m c 7 t) (iblk m c 8 t) (a0 m c) (fun j => a2 m c (ix2 0 ⟨j.val, by omega⟩))
    (fun k => ⟨4096 + k.val, by omega⟩) hf.h0 (fun _ => hf.h2 _) (blk6 m c t) (blk7 m c t) (blk8 m c t) (fun k => (blk14 m c t k)) r j

include hf in
/-- The low-rank rows of a point. -/
theorem rowL (j : Fin 768) : sh wide768 (iblk m c 15 t) (grid0.coords t) (iblk m c 9 t) (iblk m c 10 t) (iblk m c 11 t) (ix2 r j)
    = low (a1 m c) (a2 m c) (bt t) (row t r) j :=
  sh_shift wide768 (iblk m c 15 t) t (iblk m c 9 t) (iblk m c 10 t) (iblk m c 11 t) (a1 m c) (fun j => a2 m c (ix2 0 ⟨6144 + j.val, by omega⟩))
    (fun k => k) hf.h1 (fun _ => hf.h2 _) (blk9 m c t) (blk10 m c t) (blk11 m c t) (fun k => (blk15 m c t k)) r j

include hf in
/-- The logarithm of the decay at a point. -/
theorem decayP (s : Fin 2) (j : Fin 2048) :
    decay (fun x => sh wide768 (iblk m c 15 t) (grid0.coords t) (iblk m c 9 t) (iblk m c 10 t) (iblk m c 11 t) (ix2 r x)) (iblk m c 16 t (ix2 s j)) (fun x => iblk m c 17 t (ix3 s x j))
    = decay (low (a1 m c) (a2 m c) (bt t) (row t r)) (a3 m c (ix3 0 s j)) fun x => a4 m c (ix4 0 s x j) := by
  rw [blk16 m c t s j, show (fun x => iblk m c 17 t (ix3 s x j)) = _ from funext fun x => blk17 m c t s x j]
  exact congrArg (fun l => decay l _ _) (funext fun x => rowL m c hf t r x)

include hf in
/-- The learning rate at a point. -/
theorem rateP (s : Fin 2) (j : Fin 2048) :
    rate (fun x => sh wide768 (iblk m c 15 t) (grid0.coords t) (iblk m c 9 t) (iblk m c 10 t) (iblk m c 11 t) (ix2 r x)) (iblk m c 18 t (ix2 s j)) (fun x => iblk m c 19 t (ix3 s x j))
    = rate (low (a1 m c) (a2 m c) (bt t) (row t r)) (a5 m c (ix3 0 s j)) fun x => a6 m c (ix4 0 s x j) := by
  rw [blk18 m c t s j, show (fun x => iblk m c 19 t (ix3 s x j)) = _ from funext fun x => blk19 m c t s x j]
  exact congrArg (fun l => rate l _ _) (funext fun x => rowL m c hf t r x)

include hf in
/-- The scaled key at a point. -/
theorem keyP (s : Fin 2) (j : Fin 2048) :
    key (sh wide2048 (iblk m c 13 t) (grid0.coords t) (iblk m c 3 t) (iblk m c 4 t) (iblk m c 5 t) (ix2 r j))
      (rate (fun x => sh wide768 (iblk m c 15 t) (grid0.coords t) (iblk m c 9 t) (iblk m c 10 t) (iblk m c 11 t) (ix2 r x)) (iblk m c 18 t (ix2 s j)) (fun x => iblk m c 19 t (ix3 s x j)))
      (iblk m c 22 t (ix2 0 j))
    = key (kr (rkv (a0 m c) (a2 m c) (bt t) (row t r)) j) (rate (low (a1 m c) (a2 m c) (bt t) (row t r)) (a5 m c (ix3 0 s j)) fun x => a6 m c (ix4 0 s x j)) (a9 m c (ix2 0 j)) := by
  rw [rateP m c hf t r s j, blk22 m c t j]
  exact congrArg (fun k => key k _ _) (rowK m c hf t r j)

/-- The score of a row's head in one direction. -/
abbrev sc (s : Fin 2) (h : Fin 32) : EReal :=
  score (fun e => rr (rkv (a0 m c) (a2 m c) (bt t) (row t r)) (lane h e))
    (fun e => key (kr (rkv (a0 m c) (a2 m c) (bt t) (row t r)) (lane h e)) (rate (low (a1 m c) (a2 m c) (bt t) (row t r)) (a5 m c (ix3 0 s (lane h e))) fun x => a6 m c (ix4 0 s x (lane h e))) (a9 m c (ix2 0 (lane h e))))
    (fun e => a10 m c (ix3 0 h e))

include hf in
/-- The score of a row's head in one direction, at a point. -/
theorem scoreP (s : Fin 2) (h : Fin 32) :
    score (fun e => sh wide2048 (iblk m c 12 t) (grid0.coords t) (iblk m c 0 t) (iblk m c 1 t) (iblk m c 2 t) (ix2 r (lane h e)))
      (fun e => key (sh wide2048 (iblk m c 13 t) (grid0.coords t) (iblk m c 3 t) (iblk m c 4 t) (iblk m c 5 t) (ix2 r (lane h e)))
        (rate (fun x => sh wide768 (iblk m c 15 t) (grid0.coords t) (iblk m c 9 t) (iblk m c 10 t) (iblk m c 11 t) (ix2 r x)) (iblk m c 18 t (ix2 s (lane h e))) (fun x => iblk m c 19 t (ix3 s x (lane h e))))
        (iblk m c 22 t (ix2 0 (lane h e))))
      (fun e => iblk m c 23 t (ix2 0 (lane h e))) = sc m c t r s h := by
  rw [show (fun e => sh wide2048 (iblk m c 12 t) (grid0.coords t) (iblk m c 0 t) (iblk m c 1 t) (iblk m c 2 t) (ix2 r (lane h e))) = _ from
      funext fun e => rowR m c hf t r (lane h e),
    show (fun e => iblk m c 23 t (ix2 0 (lane h e))) = _ from funext fun e => blk23 m c t h e]
  exact congrArg (fun k => score _ k _) (funext fun e => keyP m c hf t r s (lane h e))

include hf in
/-- A score is finite. -/
theorem real_sc (s : Fin 2) (h : Fin 32) : Finite (sc m c t r s h) :=
  real_score (fun _ => real_shift hf.h0 (fun _ => hf.h2 _) _ _ _)
    (fun _ => real_key _ _ _ (real_shift hf.h0 (fun _ => hf.h2 _) _ _ _) (hf.h9 _)) (fun _ => hf.h10 _)

include hf in
/-- What a point stores of the receptance is the reference's. -/
theorem p25 (j : Fin 2048) : out0_25 (grid0.coords t) (iblk m c 0 t) (iblk m c 1 t) (iblk m c 2 t) (iblk m c 12 t) (ix3 0 r j) = G25 m c (ix3 (bt t) (row t r) j) :=
  (o25 _ _ _ _ _ r j).trans ((rowR m c hf t r j).trans (Ref.r_apply (a0 m c) (a2 m c) (bt t) (row t r) j).symm)

include hf in
/-- What a point stores of the value is the reference's. -/
theorem p26 (j : Fin 2048) : out0_26 (grid0.coords t) (iblk m c 6 t) (iblk m c 7 t) (iblk m c 8 t) (iblk m c 14 t) (ix3 0 r j) = G26 m c (ix3 (bt t) (row t r) j) :=
  (o26 _ _ _ _ _ r j).trans ((rowV m c hf t r j).trans (Ref.v_apply (a0 m c) (a2 m c) (bt t) (row t r) j).symm)

include hf in
/-- What a point stores of the normalised key is the reference's. -/
theorem p27 (j : Fin 2048) : out0_27 (grid0.coords t) (iblk m c 3 t) (iblk m c 4 t) (iblk m c 5 t) (iblk m c 13 t) (iblk m c 21 t) (iblk m c 24 t) (ix3 0 r j)
    = G27 m c (ix3 (bt t) (row t r) j) := by
  obtain ⟨h, d, rfl⟩ := exists_lane j
  refine (o27 _ _ _ _ _ _ _ (blk24 m c t) r h d).trans (Eq.trans ?_ (Ref.kk_apply (a0 m c) (a2 m c) (a8 m c) (bt t) (row t r) h d).symm)
  exact congrArg (fun k => unit k d) (funext fun e => congrArg₂ (fun a b : EReal => a * b) (rowK m c hf t r (lane h e)) (blk21 m c t (lane h e)))

include hf in
/-- What a point stores of the gate is the reference's. -/
theorem p28 (j : Fin 2048) : out0_28 (grid0.coords t) (iblk m c 9 t) (iblk m c 10 t) (iblk m c 11 t) (iblk m c 15 t) (iblk m c 20 t) (ix3 0 r j)
    = G28 m c (ix3 (bt t) (row t r) j) := by
  refine (o28 _ _ _ _ _ _ r j).trans (Eq.trans ?_ (Ref.g_apply (a1 m c) (a2 m c) (a7 m c) (bt t) (row t r) j).symm)
  exact congrArg₂ gate (funext fun x => rowL m c hf t r x) (funext fun x => blk20 m c t x j)

include hf in
/-- What a point stores of the bonus is the reference's. -/
theorem p29 (j : Fin 2048) : out0_29 (grid0.coords t) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t) (iblk m c 18 t) (iblk m c 19 t) (iblk m c 22 t)
      (iblk m c 23 t) (iblk m c 24 t) (ix3 0 r j) = G29 m c (ix3 (bt t) (row t r) j) := by
  obtain ⟨h, d, rfl⟩ := exists_lane j
  refine (o29 _ _ _ _ _ _ _ _ _ _ _ _ _ _ _ _ _ _ _ _ _ _ (blk24 m c t) r h d).trans ?_
  rw [scoreP m c hf t r 0 h, scoreP m c hf t r 1 h, rowV m c hf t r (lane h d)]
  have hv : Finite (vr (rkv (a0 m c) (a2 m c) (bt t) (row t r)) (lane h d)) := real_shift hf.h0 (fun _ => hf.h2 _) _ _ _
  refine (bonus_of_real (real_sc m c hf t r 0 h) (real_sc m c hf t r 1 h) hv).trans ?_
  refine Eq.trans ?_ (Ref.bonus_apply (a0 m c) (a1 m c) (a2 m c) (a5 m c) (a6 m c) (a9 m c) (a10 m c) (bt t) (row t r) h d).symm
  rw [Ref.s0_apply, Ref.s1_apply]

include hf in
/-- What a point stores of the logarithm of the decay is the reference's. -/
theorem p30 (s : Fin 2) (j : Fin 2048) : out0_30 (grid0.coords t) (iblk m c 9 t) (iblk m c 10 t) (iblk m c 11 t) (iblk m c 15 t) (iblk m c 16 t) (iblk m c 17 t) (ix4 s 0 r j)
    = G30 m c (ix4 s (bt t) (row t r) j) := by
  refine (o30 _ _ _ _ _ _ _ s r j).trans ((decayP m c hf t r s j).trans (Eq.trans ?_ (Ref.stacked (bt t) (row t r) (ReferencePrepIdeal.Read.val_main_v72 (F := Ideal) (a1 m c) (a2 m c) (a3 m c) (a4 m c))
    (ReferencePrepIdeal.Read.val_main_v122 (F := Ideal) (a1 m c) (a2 m c) (a3 m c) (a4 m c)) s j).symm))
  match s with
  | 0 => exact (Ref.lw0_apply (a1 m c) (a2 m c) (a3 m c) (a4 m c) (bt t) (row t r) j).symm.trans (if_pos rfl).symm
  | 1 => exact (Ref.lw1_apply (a1 m c) (a2 m c) (a3 m c) (a4 m c) (bt t) (row t r) j).symm.trans (if_neg (by decide)).symm

include hf in
/-- What a point stores of the scaled key is the reference's. -/
theorem p31 (s : Fin 2) (j : Fin 2048) : out0_31 (grid0.coords t) (iblk m c 3 t) (iblk m c 4 t) (iblk m c 5 t) (iblk m c 9 t) (iblk m c 10 t) (iblk m c 11 t) (iblk m c 13 t)
      (iblk m c 15 t) (iblk m c 18 t) (iblk m c 19 t) (iblk m c 22 t) (ix4 s 0 r j) = G31 m c (ix4 s (bt t) (row t r) j) := by
  refine (o31 _ _ _ _ _ _ _ _ _ _ _ _ s r j).trans ((keyP m c hf t r s j).trans (Eq.trans ?_ (Ref.stacked (bt t) (row t r) (ReferencePrepIdeal.Read.val_main_v95 (F := Ideal) (a0 m c) (a1 m c) (a2 m c) (a5 m c) (a6 m c) (a9 m c))
    (ReferencePrepIdeal.Read.val_main_v145 (F := Ideal) (a0 m c) (a1 m c) (a2 m c) (a5 m c) (a6 m c) (a9 m c)) s j).symm))
  match s with
  | 0 => exact (Ref.kd0_apply (a0 m c) (a1 m c) (a2 m c) (a5 m c) (a6 m c) (a9 m c) (bt t) (row t r) j).symm.trans (if_pos rfl).symm
  | 1 => exact (Ref.kd1_apply (a0 m c) (a1 m c) (a2 m c) (a5 m c) (a6 m c) (a9 m c) (bt t) (row t r) j).symm.trans (if_neg (by decide)).symm

include hf in
/-- What a point stores of the learning rate is the reference's. -/
theorem p32 (s : Fin 2) (j : Fin 2048) : out0_32 (grid0.coords t) (iblk m c 9 t) (iblk m c 10 t) (iblk m c 11 t) (iblk m c 15 t) (iblk m c 18 t) (iblk m c 19 t) (ix4 s 0 r j)
    = G32 m c (ix4 s (bt t) (row t r) j) := by
  refine (o32 _ _ _ _ _ _ _ s r j).trans ((rateP m c hf t r s j).trans (Eq.trans ?_ (Ref.stacked (bt t) (row t r) (ReferencePrepIdeal.Read.val_main_v86 (F := Ideal) (a1 m c) (a2 m c) (a5 m c) (a6 m c))
    (ReferencePrepIdeal.Read.val_main_v136 (F := Ideal) (a1 m c) (a2 m c) (a5 m c) (a6 m c)) s j).symm))
  match s with
  | 0 => exact (Ref.a0_apply (a1 m c) (a2 m c) (a5 m c) (a6 m c) (bt t) (row t r) j).symm.trans (if_pos rfl).symm
  | 1 => exact (Ref.a1_apply (a1 m c) (a2 m c) (a5 m c) (a6 m c) (bt t) (row t r) j).symm.trans (if_neg (by decide)).symm

/-- A block of one batch's rows that agrees with an array row by row is the array's block. -/
theorem whole_eq {ix : Fin 3 → Nat} (h : ix 0 = t.val / 32 ∧ ix 1 = t.val % 32 ∧ ix 2 = 0) (o : S1x128x2048.Idx → EReal) (G : S4x4096x2048.Idx → EReal)
    (hG : ∀ r j, o (ix3 0 r j) = G (ix3 (bt t) (row t r) j)) (y : S1x128x2048.Idx) (p : S4x4096x2048.Idx) (h0 : (p 0).val = ix 0 * 1 + 1 * (y 0).val)
    (h1 : (p 1).val = ix 1 * 128 + 1 * (y 1).val) (h2 : (p 2).val = ix 2 * 2048 + 1 * (y 2).val) : o y = G p := by
  have y0 : (y 0).val < 1 := (y 0).isLt
  have e : y = (ix3 0 (y 1) (y 2) : S1x128x2048.Idx) := at3 _ _ _ _ (by show (y 0).val = 0; omega) rfl rfl
  rw [e, row_at (ix := ix) (w := 2048) t 0 h p (y 1) (y 2) (y 2) (by omega) (by omega) h1 h2]
  exact hG _ _

/-- The same with both directions' rows. -/
theorem pair_eq {ix : Fin 4 → Nat} (h : ix 0 = 0 ∧ ix 1 = t.val / 32 ∧ ix 2 = t.val % 32 ∧ ix 3 = 0) (o : S2x1x128x2048.Idx → EReal)
    (G : S2x4x4096x2048.Idx → EReal) (hG : ∀ s r j, o (ix4 s 0 r j) = G (ix4 s (bt t) (row t r) j)) (y : S2x1x128x2048.Idx) (p : S2x4x4096x2048.Idx)
    (h0 : (p 0).val = ix 0 * 2 + 1 * (y 0).val) (h1 : (p 1).val = ix 1 * 1 + 1 * (y 1).val)
    (h2 : (p 2).val = ix 2 * 128 + 1 * (y 2).val) (h3 : (p 3).val = ix 3 * 2048 + 1 * (y 3).val) : o y = G p := by
  have y1 : (y 1).val < 1 := (y 1).isLt
  have e : y = (ix4 (y 0) 0 (y 2) (y 3) : S2x1x128x2048.Idx) := at4 _ _ _ _ _ rfl (by show (y 1).val = 0; omega) rfl rfl
  rw [e, at4 p (y 0) (bt t) (row t (y 2)) (y 3) (by rw [h0, h.1]; omega) (by rw [h1, h.2.1]; show _ = t.val / 32; omega)
    (by rw [h2, h.2.2.1]; show _ = 128 * (t.val % 32) + (y 2).val; omega) (by rw [h3, h.2.2.2]; omega)]
  exact hG _ _ _

/-- The point whose block holds a row. -/
theorem point_lt (b q : Nat) (hb : b < 4) (hq : q < 4096) : 32 * b + q / 128 < cfg0.N := by show _ < grid0.N; rw [N_0]; omega

/-- Every index of a result array is in some point's block. -/
theorem in_whole {ix : Fin 3 → Nat} (i : S4x4096x2048.Idx) (t : Fin cfg0.N) (ht : t.val = 32 * (i 0).val + (i 1).val / 128)
    (h : ix 0 = t.val / 32 ∧ ix 1 = t.val % 32 ∧ ix 2 = 0) :
    ∀ b : Fin 3, ix b * S1x128x2048.size b ≤ (i b).val ∧ (i b).val < ix b * S1x128x2048.size b + S1x128x2048.size b := by
  have h0 : (i 0).val < 4 := (i 0).isLt
  have h1 : (i 1).val < 4096 := (i 1).isLt
  have h2 : (i 2).val < 2048 := (i 2).isLt
  intro b
  match b with
  | ⟨0, _⟩ => show ix 0 * 1 ≤ (i 0).val ∧ (i 0).val < ix 0 * 1 + 1; rw [h.1]; omega
  | ⟨1, _⟩ => show ix 1 * 128 ≤ (i 1).val ∧ (i 1).val < ix 1 * 128 + 128; rw [h.2.1]; omega
  | ⟨2, _⟩ => show ix 2 * 2048 ≤ (i 2).val ∧ (i 2).val < ix 2 * 2048 + 2048; rw [h.2.2]; omega

/-- The same with both directions' rows. -/
theorem in_pair {ix : Fin 4 → Nat} (i : S2x4x4096x2048.Idx) (t : Fin cfg0.N) (ht : t.val = 32 * (i 1).val + (i 2).val / 128)
    (h : ix 0 = 0 ∧ ix 1 = t.val / 32 ∧ ix 2 = t.val % 32 ∧ ix 3 = 0) :
    ∀ b : Fin 4, ix b * S2x1x128x2048.size b ≤ (i b).val ∧ (i b).val < ix b * S2x1x128x2048.size b + S2x1x128x2048.size b := by
  have h0 : (i 0).val < 2 := (i 0).isLt
  have h1 : (i 1).val < 4 := (i 1).isLt
  have h2 : (i 2).val < 4096 := (i 2).isLt
  have h3 : (i 3).val < 2048 := (i 3).isLt
  intro b
  match b with
  | ⟨0, _⟩ => show ix 0 * 2 ≤ (i 0).val ∧ (i 0).val < ix 0 * 2 + 2; rw [h.1]; omega
  | ⟨1, _⟩ => show ix 1 * 1 ≤ (i 1).val ∧ (i 1).val < ix 1 * 1 + 1; rw [h.2.1]; omega
  | ⟨2, _⟩ => show ix 2 * 128 ≤ (i 2).val ∧ (i 2).val < ix 2 * 128 + 128; rw [h.2.2.1]; omega
  | ⟨3, _⟩ => show ix 3 * 2048 ≤ (i 3).val ∧ (i 3).val < ix 3 * 2048 + 2048; rw [h.2.2.2]; omega

include hf in
/-- The result array of the receptance after the last point is the reference's. -/
theorem final25 : (dats m 0 c).arrAt 25 cfg0.N = G25 m c := by
  obtain ⟨G, hG⟩ : ∃ G, G = G25 m c := ⟨_, rfl⟩
  have hq := fun t r j => p25 m c hf t r j
  rw [← hG] at hq ⊢
  refine (dats m 0 c).arrAt_eq_of_cover 25 G (fun t _ => ?_) (fun i => ?_)
  · have e := idx_out t
    show (cfg0.win 25).cut (grid0.coords t) ((dats m 0 c).after 25 t) = _
    rw [after0_25]
    funext y
    rw [View.read_apply]
    exact whole_eq t (ix := win0_25.index t) e.1 _ _ (hq t) y _ rfl rfl rfl
  · have hN := point_lt (i 0).val (i 1).val (i 0).isLt (i 1).isLt
    refine ⟨⟨_, hN⟩, flush0_25 _, ?_⟩
    show i ∈ ((View.whole main_v26_0).slice (win0_25.rect ⟨_, hN⟩)).set
    rw [View.set_slice_whole, Rect.mem_set_unit]
    have e := idx_out ⟨_, hN⟩
    exact in_whole (ix := win0_25.index ⟨_, hN⟩) i ⟨_, hN⟩ rfl e.1

include hf in
/-- The result array of the value after the last point is the reference's. -/
theorem final26 : (dats m 0 c).arrAt 26 cfg0.N = G26 m c := by
  obtain ⟨G, hG⟩ : ∃ G, G = G26 m c := ⟨_, rfl⟩
  have hq := fun t r j => p26 m c hf t r j
  rw [← hG] at hq ⊢
  refine (dats m 0 c).arrAt_eq_of_cover 26 G (fun t _ => ?_) (fun i => ?_)
  · have e := idx_out t
    show (cfg0.win 26).cut (grid0.coords t) ((dats m 0 c).after 26 t) = _
    rw [after0_26]
    funext y
    rw [View.read_apply]
    exact whole_eq t (ix := win0_26.index t) e.2.1 _ _ (hq t) y _ rfl rfl rfl
  · have hN := point_lt (i 0).val (i 1).val (i 0).isLt (i 1).isLt
    refine ⟨⟨_, hN⟩, flush0_26 _, ?_⟩
    show i ∈ ((View.whole main_v26_1).slice (win0_26.rect ⟨_, hN⟩)).set
    rw [View.set_slice_whole, Rect.mem_set_unit]
    have e := idx_out ⟨_, hN⟩
    exact in_whole (ix := win0_26.index ⟨_, hN⟩) i ⟨_, hN⟩ rfl e.2.1

include hf in
/-- The result array of the normalised key after the last point is the reference's. -/
theorem final27 : (dats m 0 c).arrAt 27 cfg0.N = G27 m c := by
  obtain ⟨G, hG⟩ : ∃ G, G = G27 m c := ⟨_, rfl⟩
  have hq := fun t r j => p27 m c hf t r j
  rw [← hG] at hq ⊢
  refine (dats m 0 c).arrAt_eq_of_cover 27 G (fun t _ => ?_) (fun i => ?_)
  · have e := idx_out t
    show (cfg0.win 27).cut (grid0.coords t) ((dats m 0 c).after 27 t) = _
    rw [after0_27]
    funext y
    rw [View.read_apply]
    exact whole_eq t (ix := win0_27.index t) e.2.2.1 _ _ (hq t) y _ rfl rfl rfl
  · have hN := point_lt (i 0).val (i 1).val (i 0).isLt (i 1).isLt
    refine ⟨⟨_, hN⟩, flush0_27 _, ?_⟩
    show i ∈ ((View.whole main_v26_2).slice (win0_27.rect ⟨_, hN⟩)).set
    rw [View.set_slice_whole, Rect.mem_set_unit]
    have e := idx_out ⟨_, hN⟩
    exact in_whole (ix := win0_27.index ⟨_, hN⟩) i ⟨_, hN⟩ rfl e.2.2.1

include hf in
/-- The result array of the gate after the last point is the reference's. -/
theorem final28 : (dats m 0 c).arrAt 28 cfg0.N = G28 m c := by
  obtain ⟨G, hG⟩ : ∃ G, G = G28 m c := ⟨_, rfl⟩
  have hq := fun t r j => p28 m c hf t r j
  rw [← hG] at hq ⊢
  refine (dats m 0 c).arrAt_eq_of_cover 28 G (fun t _ => ?_) (fun i => ?_)
  · have e := idx_out t
    show (cfg0.win 28).cut (grid0.coords t) ((dats m 0 c).after 28 t) = _
    rw [after0_28]
    funext y
    rw [View.read_apply]
    exact whole_eq t (ix := win0_28.index t) e.2.2.2.1 _ _ (hq t) y _ rfl rfl rfl
  · have hN := point_lt (i 0).val (i 1).val (i 0).isLt (i 1).isLt
    refine ⟨⟨_, hN⟩, flush0_28 _, ?_⟩
    show i ∈ ((View.whole main_v26_3).slice (win0_28.rect ⟨_, hN⟩)).set
    rw [View.set_slice_whole, Rect.mem_set_unit]
    have e := idx_out ⟨_, hN⟩
    exact in_whole (ix := win0_28.index ⟨_, hN⟩) i ⟨_, hN⟩ rfl e.2.2.2.1

include hf in
/-- The result array of the bonus after the last point is the reference's. -/
theorem final29 : (dats m 0 c).arrAt 29 cfg0.N = G29 m c := by
  obtain ⟨G, hG⟩ : ∃ G, G = G29 m c := ⟨_, rfl⟩
  have hq := fun t r j => p29 m c hf t r j
  rw [← hG] at hq ⊢
  refine (dats m 0 c).arrAt_eq_of_cover 29 G (fun t _ => ?_) (fun i => ?_)
  · have e := idx_out t
    show (cfg0.win 29).cut (grid0.coords t) ((dats m 0 c).after 29 t) = _
    rw [after0_29]
    funext y
    rw [View.read_apply]
    exact whole_eq t (ix := win0_29.index t) e.2.2.2.2 _ _ (hq t) y _ rfl rfl rfl
  · have hN := point_lt (i 0).val (i 1).val (i 0).isLt (i 1).isLt
    refine ⟨⟨_, hN⟩, flush0_29 _, ?_⟩
    show i ∈ ((View.whole main_v26_4).slice (win0_29.rect ⟨_, hN⟩)).set
    rw [View.set_slice_whole, Rect.mem_set_unit]
    have e := idx_out ⟨_, hN⟩
    exact in_whole (ix := win0_29.index ⟨_, hN⟩) i ⟨_, hN⟩ rfl e.2.2.2.2

include hf in
/-- The result array of the logarithm of the decay after the last point is the reference's. -/
theorem final30 : (dats m 0 c).arrAt 30 cfg0.N = G30 m c := by
  obtain ⟨G, hG⟩ : ∃ G, G = G30 m c := ⟨_, rfl⟩
  have hq := fun t s r j => p30 m c hf t r s j
  rw [← hG] at hq ⊢
  refine (dats m 0 c).arrAt_eq_of_cover 30 G (fun t _ => ?_) (fun i => ?_)
  · have e := idx_out2 t
    show (cfg0.win 30).cut (grid0.coords t) ((dats m 0 c).after 30 t) = _
    rw [after0_30]
    funext y
    rw [View.read_apply]
    exact pair_eq t (ix := win0_30.index t) e.1 _ _ (hq t) y _ rfl rfl rfl rfl
  · have hN := point_lt (i 1).val (i 2).val (i 1).isLt (i 2).isLt
    refine ⟨⟨_, hN⟩, flush0_30 _, ?_⟩
    show i ∈ ((View.whole main_v26_5).slice (win0_30.rect ⟨_, hN⟩)).set
    rw [View.set_slice_whole, Rect.mem_set_unit]
    have e := idx_out2 ⟨_, hN⟩
    exact in_pair (ix := win0_30.index ⟨_, hN⟩) i ⟨_, hN⟩ rfl e.1

include hf in
/-- The result array of the scaled key after the last point is the reference's. -/
theorem final31 : (dats m 0 c).arrAt 31 cfg0.N = G31 m c := by
  obtain ⟨G, hG⟩ : ∃ G, G = G31 m c := ⟨_, rfl⟩
  have hq := fun t s r j => p31 m c hf t r s j
  rw [← hG] at hq ⊢
  refine (dats m 0 c).arrAt_eq_of_cover 31 G (fun t _ => ?_) (fun i => ?_)
  · have e := idx_out2 t
    show (cfg0.win 31).cut (grid0.coords t) ((dats m 0 c).after 31 t) = _
    rw [after0_31]
    funext y
    rw [View.read_apply]
    exact pair_eq t (ix := win0_31.index t) e.2.1 _ _ (hq t) y _ rfl rfl rfl rfl
  · have hN := point_lt (i 1).val (i 2).val (i 1).isLt (i 2).isLt
    refine ⟨⟨_, hN⟩, flush0_31 _, ?_⟩
    show i ∈ ((View.whole main_v26_6).slice (win0_31.rect ⟨_, hN⟩)).set
    rw [View.set_slice_whole, Rect.mem_set_unit]
    have e := idx_out2 ⟨_, hN⟩
    exact in_pair (ix := win0_31.index ⟨_, hN⟩) i ⟨_, hN⟩ rfl e.2.1

include hf in
/-- The result array of the learning rate after the last point is the reference's. -/
theorem final32 : (dats m 0 c).arrAt 32 cfg0.N = G32 m c := by
  obtain ⟨G, hG⟩ : ∃ G, G = G32 m c := ⟨_, rfl⟩
  have hq := fun t s r j => p32 m c hf t r s j
  rw [← hG] at hq ⊢
  refine (dats m 0 c).arrAt_eq_of_cover 32 G (fun t _ => ?_) (fun i => ?_)
  · have e := idx_out2 t
    show (cfg0.win 32).cut (grid0.coords t) ((dats m 0 c).after 32 t) = _
    rw [after0_32]
    funext y
    rw [View.read_apply]
    exact pair_eq t (ix := win0_32.index t) e.2.2 _ _ (hq t) y _ rfl rfl rfl rfl
  · have hN := point_lt (i 1).val (i 2).val (i 1).isLt (i 2).isLt
    refine ⟨⟨_, hN⟩, flush0_32 _, ?_⟩
    show i ∈ ((View.whole main_v26_7).slice (win0_32.rect ⟨_, hN⟩)).set
    rw [View.set_slice_whole, Rect.mem_set_unit]
    have e := idx_out2 ⟨_, hN⟩
    exact in_pair (ix := win0_32.index ⟨_, hN⟩) i ⟨_, hN⟩ rfl e.2.2

set_option maxHeartbeats 4000000 in
/-- The host operations and the kernel leave the arguments and compute the reference's results. -/
theorem run_blocks (hf : ∀ c, Fin5 m c) : θ_run defs (onTc (τ := τ) (main (F := Ideal))) ⟨m, fun _ => 0, ρ⟩ (fun r => ∀ c : Dev nD,
      r.2.mem ((c.tc : Thread nD τ).loc main_v26_0) = G25 m c
      ∧ r.2.mem ((c.tc : Thread nD τ).loc main_v26_1) = G26 m c
      ∧ r.2.mem ((c.tc : Thread nD τ).loc main_v26_2) = G27 m c
      ∧ r.2.mem ((c.tc : Thread nD τ).loc main_v26_3) = G28 m c
      ∧ r.2.mem ((c.tc : Thread nD τ).loc main_v26_4) = G29 m c
      ∧ r.2.mem ((c.tc : Thread nD τ).loc main_v26_5) = G30 m c
      ∧ r.2.mem ((c.tc : Thread nD τ).loc main_v26_6) = G31 m c
      ∧ r.2.mem ((c.tc : Thread nD τ).loc main_v26_7) = G32 m c
      ∧ Kept m r.2.mem c) :=
  (θ_run defs _ _).mono (fun r h c => ⟨((h c).1 25).trans (final25 m c (hf c)), ((h c).1 26).trans (final26 m c (hf c)), ((h c).1 27).trans (final27 m c (hf c)), ((h c).1 28).trans (final28 m c (hf c)), ((h c).1 29).trans (final29 m c (hf c)), ((h c).1 30).trans (final30 m c (hf c)), ((h c).1 31).trans (final31 m c (hf c)), ((h c).1 32).trans (final32 m c (hf c)),
      kept_of m (dats m) (A_eq m) h c⟩) (run_main m ρ)

set_option maxHeartbeats 4000000 in
/-- Where the arguments the call rescales are finite, the idealized kernel's result arrays equal the reference's. -/
theorem algebraic : algebraic_KernelPrepIdeal_ReferencePrepIdeal_pre_prep_finite := by
  intro m ρ m' ρ' hpre hag
  refine ⟨fun c => G25 m c, fun c => G26 m c, fun c => G27 m c, fun c => G28 m c, fun c => G29 m c, fun c => G30 m c, fun c => G31 m c, fun c => G32 m c,
    run_blocks m ρ (fun c => fin5 m c hpre), ?_⟩
  refine (θ_run _ _ _).mono (fun _ h c => ?_) (ReferencePrepIdeal.Value.run (F := Ideal) m' ρ')
  obtain ⟨h0, h1, h2, h3, h4, h5, h6, h7, h8, h9, h10⟩ := hag c
  obtain ⟨r0, r1, r2, r3, r4, r5, r6, r7, hk⟩ := h c
  refine ⟨(r0.trans (ReferencePrepIdeal.Read.val_main_v157_eq ..)).trans ?_, (r1.trans (ReferencePrepIdeal.Read.val_main_v158_eq ..)).trans ?_, (r2.trans (ReferencePrepIdeal.Read.val_main_v160_eq ..)).trans ?_, (r3.trans (ReferencePrepIdeal.Read.val_main_v161_eq ..)).trans ?_, (r4.trans (ReferencePrepIdeal.Read.val_main_v163_eq ..)).trans ?_, (r5.trans (ReferencePrepIdeal.Read.val_main_v166_eq ..)).trans ?_, (r6.trans (ReferencePrepIdeal.Read.val_main_v170_eq ..)).trans ?_, (r7.trans (ReferencePrepIdeal.Read.val_main_v174_eq ..)).trans ?_, hk⟩
  · show val_main_v157 (F := Ideal) (m' ((c.tc : Thread ReferencePrepIdeal.nD ReferencePrepIdeal.τ).loc ReferencePrepIdeal.main_arg0)) (m' ((c.tc : Thread ReferencePrepIdeal.nD ReferencePrepIdeal.τ).loc ReferencePrepIdeal.main_arg2)) = _; rw [h0, h2]
  · show val_main_v158 (F := Ideal) (m' ((c.tc : Thread ReferencePrepIdeal.nD ReferencePrepIdeal.τ).loc ReferencePrepIdeal.main_arg0)) (m' ((c.tc : Thread ReferencePrepIdeal.nD ReferencePrepIdeal.τ).loc ReferencePrepIdeal.main_arg2)) = _; rw [h0, h2]
  · show val_main_v160 (F := Ideal) (m' ((c.tc : Thread ReferencePrepIdeal.nD ReferencePrepIdeal.τ).loc ReferencePrepIdeal.main_arg0)) (m' ((c.tc : Thread ReferencePrepIdeal.nD ReferencePrepIdeal.τ).loc ReferencePrepIdeal.main_arg2)) (m' ((c.tc : Thread ReferencePrepIdeal.nD ReferencePrepIdeal.τ).loc ReferencePrepIdeal.main_arg8)) = _; rw [h0, h2, h8]
  · show val_main_v161 (F := Ideal) (m' ((c.tc : Thread ReferencePrepIdeal.nD ReferencePrepIdeal.τ).loc ReferencePrepIdeal.main_arg1)) (m' ((c.tc : Thread ReferencePrepIdeal.nD ReferencePrepIdeal.τ).loc ReferencePrepIdeal.main_arg2)) (m' ((c.tc : Thread ReferencePrepIdeal.nD ReferencePrepIdeal.τ).loc ReferencePrepIdeal.main_arg7)) = _; rw [h1, h2, h7]
  · show val_main_v163 (F := Ideal) (m' ((c.tc : Thread ReferencePrepIdeal.nD ReferencePrepIdeal.τ).loc ReferencePrepIdeal.main_arg0)) (m' ((c.tc : Thread ReferencePrepIdeal.nD ReferencePrepIdeal.τ).loc ReferencePrepIdeal.main_arg1)) (m' ((c.tc : Thread ReferencePrepIdeal.nD ReferencePrepIdeal.τ).loc ReferencePrepIdeal.main_arg2)) (m' ((c.tc : Thread ReferencePrepIdeal.nD ReferencePrepIdeal.τ).loc ReferencePrepIdeal.main_arg5)) (m' ((c.tc : Thread ReferencePrepIdeal.nD ReferencePrepIdeal.τ).loc ReferencePrepIdeal.main_arg6)) (m' ((c.tc : Thread ReferencePrepIdeal.nD ReferencePrepIdeal.τ).loc ReferencePrepIdeal.main_arg9)) (m' ((c.tc : Thread ReferencePrepIdeal.nD ReferencePrepIdeal.τ).loc ReferencePrepIdeal.main_arg10)) = _; rw [h0, h1, h2, h5, h6, h9, h10]
  · show val_main_v166 (F := Ideal) (m' ((c.tc : Thread ReferencePrepIdeal.nD ReferencePrepIdeal.τ).loc ReferencePrepIdeal.main_arg1)) (m' ((c.tc : Thread ReferencePrepIdeal.nD ReferencePrepIdeal.τ).loc ReferencePrepIdeal.main_arg2)) (m' ((c.tc : Thread ReferencePrepIdeal.nD ReferencePrepIdeal.τ).loc ReferencePrepIdeal.main_arg3)) (m' ((c.tc : Thread ReferencePrepIdeal.nD ReferencePrepIdeal.τ).loc ReferencePrepIdeal.main_arg4)) = _; rw [h1, h2, h3, h4]
  · show val_main_v170 (F := Ideal) (m' ((c.tc : Thread ReferencePrepIdeal.nD ReferencePrepIdeal.τ).loc ReferencePrepIdeal.main_arg0)) (m' ((c.tc : Thread ReferencePrepIdeal.nD ReferencePrepIdeal.τ).loc ReferencePrepIdeal.main_arg1)) (m' ((c.tc : Thread ReferencePrepIdeal.nD ReferencePrepIdeal.τ).loc ReferencePrepIdeal.main_arg2)) (m' ((c.tc : Thread ReferencePrepIdeal.nD ReferencePrepIdeal.τ).loc ReferencePrepIdeal.main_arg5)) (m' ((c.tc : Thread ReferencePrepIdeal.nD ReferencePrepIdeal.τ).loc ReferencePrepIdeal.main_arg6)) (m' ((c.tc : Thread ReferencePrepIdeal.nD ReferencePrepIdeal.τ).loc ReferencePrepIdeal.main_arg9)) = _; rw [h0, h1, h2, h5, h6, h9]
  · show val_main_v174 (F := Ideal) (m' ((c.tc : Thread ReferencePrepIdeal.nD ReferencePrepIdeal.τ).loc ReferencePrepIdeal.main_arg1)) (m' ((c.tc : Thread ReferencePrepIdeal.nD ReferencePrepIdeal.τ).loc ReferencePrepIdeal.main_arg2)) (m' ((c.tc : Thread ReferencePrepIdeal.nD ReferencePrepIdeal.τ).loc ReferencePrepIdeal.main_arg5)) (m' ((c.tc : Thread ReferencePrepIdeal.nD ReferencePrepIdeal.τ).loc ReferencePrepIdeal.main_arg6)) = _; rw [h1, h2, h5, h6]

end Cert.KernelPrepIdeal.Hand
end
-- ==== Proof.Prep.Frames.lean ====
/-
  The call that prepares the scan's operands: the frames of the kernel as printed, of the idealized kernel and of the
  reference.
-/
module

public import proofs.«01_k».proof.Defs
public import proofs.«01_k».proof.Proof.Gen.KernelPrep
public import proofs.«01_k».proof.Proof.Gen.Pre_prep_finite
public import proofs.«01_k».proof.Proof.Gen.ReferencePrepIdeal.Run
public import Idealize.ShloMosaic.Lib.Quiescent
public import proofs.«01_k».proof.Proof.Prep.Frame

@[expose] public section

set_option maxRecDepth 65536

noncomputable section

namespace Cert.KernelPrepIdeal.Hand

open Cert.KernelPrepIdeal Cert.KernelPrepIdeal.Gen Idealize.ShloMosaic Idealize.ShloMosaic.TcCoe Idealize.SL.Sem

set_option maxHeartbeats 4000000 in
/-- The two programs' definitions at a sequence are one. -/
theorem defs₀_eq {F : FTy → Type} [FloatOps F] : (Cert.KernelPrep.defs₀ (F := F)) = Cert.KernelPrepIdeal.defs₀ (F := F) := by
  funext p ℓ a
  match p with
  | .tc => match ℓ, a with
    | 0, (t, s) => rfl
  | .scScalar _ => rfl
  | .scVector _ _ => rfl

set_option maxHeartbeats 4000000 in
/-- The two programs' definitions are one. -/
theorem defs_eq {F : FTy → Type} [FloatOps F] : (Cert.KernelPrep.defs (F := F)) = Cert.KernelPrepIdeal.defs (F := F) :=
  congrArg (Pipeline.defs Cert.KernelPrepIdeal.pcfgs) defs₀_eq

set_option maxHeartbeats 4000000 in
/-- The kernel as printed terminates without a fault, its arguments unchanged and every counter at zero. -/
theorem frame_kernel : Cert.quiescent_KernelPrep := by
  intro m ρ _
  have h := frame (F := Bits) m ρ
  rw [← defs_eq] at h
  exact h
/-- The idealized kernel likewise. -/
theorem frame_kernelIdeal : Cert.quiescent_KernelPrepIdeal := fun m ρ _ => frame m ρ
/-- The idealized kernel likewise, under the precondition. -/
theorem frame_kernelIdeal_pre : Cert.quiescent_KernelPrepIdeal_pre_prep_finite := fun m ρ _ => frame m ρ
/-- The reference likewise. -/
theorem frame_ref : Cert.quiescent_ReferencePrepIdeal := fun m ρ _ =>
  (θ_run _ _ _).mono (fun r h => ⟨fun c => (h c).2.2.2.2.2.2.2.2, sem_eq_zero_of_no_sems (by decide) r.2⟩) (Cert.ReferencePrepIdeal.Value.run (F := Ideal) m ρ)
/-- The reference likewise, under the precondition. -/
theorem frame_ref_pre : Cert.quiescent_ReferencePrepIdeal_pre_prep_finite := fun m ρ _ => frame_ref m ρ trivial

end Cert.KernelPrepIdeal.Hand
end
-- ==== Proof.lean ====
module

public import proofs.«01_k».proof.Defs
public import proofs.«01_k».proof.Proof.Attn.Claims
public import proofs.«01_k».proof.Proof.Ffn.Claims
public import proofs.«01_k».proof.Proof.FfnSample.Claims
public import proofs.«01_k».proof.Proof.Mm.Za
public import proofs.«01_k».proof.Proof.Mm.Zb
public import proofs.«01_k».proof.Proof.Mm.Zl
public import proofs.«01_k».proof.Proof.Mm.Out
public import proofs.«01_k».proof.Proof.Mm.Q
public import proofs.«01_k».proof.Proof.Mm.Kv
public import proofs.«01_k».proof.Proof.Mm.O
public import proofs.«01_k».proof.Proof.Norm.Rows
public import proofs.«01_k».proof.Proof.Norm.Mem
public import proofs.«01_k».proof.Proof.Gmlp.Run
public import proofs.«01_k».proof.Proof.Post.Run
public import proofs.«01_k».proof.Proof.Prep.Run
public import proofs.«01_k».proof.Proof.Prep.Frames
public import Idealize.ShloMosaic.Adequacy
public import Idealize.ShloMosaic.Init

@[expose] public section

noncomputable section

namespace Cert.Proof

open Idealize.ShloMosaic Idealize.SL.Sem Cert.Kernel

theorem claim : Cert.Claim := ⟨Kernel.Gen.facts, KernelIdeal.Gen.facts, ReferenceIdeal.Gen.facts,
  KernelFfn.Gen.facts, KernelFfnIdeal.Gen.facts, ReferenceFfnIdeal.Gen.facts,
  KernelZa.Gen.facts, KernelZaIdeal.Gen.facts, ReferenceZaIdeal.Gen.facts,
  KernelZb.Gen.facts, KernelZbIdeal.Gen.facts, ReferenceZbIdeal.Gen.facts,
  KernelZl.Gen.facts, KernelZlIdeal.Gen.facts, ReferenceZlIdeal.Gen.facts,
  KernelOut.Gen.facts, KernelOutIdeal.Gen.facts, ReferenceOutIdeal.Gen.facts,
  KernelQ.Gen.facts, KernelQIdeal.Gen.facts, ReferenceQIdeal.Gen.facts,
  KernelKv.Gen.facts, KernelKvIdeal.Gen.facts, ReferenceKvIdeal.Gen.facts,
  KernelO.Gen.facts, KernelOIdeal.Gen.facts, ReferenceOIdeal.Gen.facts,
  KernelFfnSample.Gen.facts, KernelFfnSampleIdeal.Gen.facts, ReferenceFfnSampleIdeal.Gen.facts,
  KernelNorm.Gen.facts, KernelNormIdeal.Gen.facts, ReferenceNormIdeal.Gen.facts,
  KernelNormMem.Gen.facts, KernelNormMemIdeal.Gen.facts, ReferenceNormMemIdeal.Gen.facts,
  KernelGmlp.Gen.facts, KernelGmlpIdeal.Gen.facts, ReferenceGmlpIdeal.Gen.facts,
  KernelPost.Gen.facts, KernelPostIdeal.Gen.facts, ReferencePostIdeal.Gen.facts,
  KernelPrep.Gen.facts, KernelPrepIdeal.Gen.facts, ReferencePrepIdeal.Gen.facts, Pre_prep_finite.Gen.facts,
  Attn.frame_kernel, Attn.frame_kernelIdeal, Attn.frame_ref,
  Ffn.frame_kernel, Ffn.frame_kernelIdeal, Ffn.frame_ref,
  KernelZaIdeal.Hand.frame_kernel, KernelZaIdeal.Hand.frame_kernelIdeal, KernelZaIdeal.Hand.frame_ref,
  KernelZbIdeal.Hand.frame_kernel, KernelZbIdeal.Hand.frame_kernelIdeal, KernelZbIdeal.Hand.frame_ref,
  KernelZlIdeal.Hand.frame_kernel, KernelZlIdeal.Hand.frame_kernelIdeal, KernelZlIdeal.Hand.frame_ref,
  KernelOutIdeal.Hand.frame_kernel, KernelOutIdeal.Hand.frame_kernelIdeal, KernelOutIdeal.Hand.frame_ref,
  KernelQIdeal.Hand.frame_kernel, KernelQIdeal.Hand.frame_kernelIdeal, KernelQIdeal.Hand.frame_ref,
  KernelKvIdeal.Hand.frame_kernel, KernelKvIdeal.Hand.frame_kernelIdeal, KernelKvIdeal.Hand.frame_ref,
  KernelOIdeal.Hand.frame_kernel, KernelOIdeal.Hand.frame_kernelIdeal, KernelOIdeal.Hand.frame_ref,
  FfnSample.frame_kernel, FfnSample.frame_kernelIdeal, FfnSample.frame_ref,
  KernelNormIdeal.Hand.frame_kernel, KernelNormIdeal.Hand.frame_kernelIdeal, KernelNormIdeal.Hand.frame_ref,
  KernelNormMemIdeal.Hand.frame_kernel, KernelNormMemIdeal.Hand.frame_kernelIdeal, KernelNormMemIdeal.Hand.frame_ref,
  KernelGmlpIdeal.Hand.frame_kernel, KernelGmlpIdeal.Hand.frame_kernelIdeal, KernelGmlpIdeal.Hand.frame_ref,
  KernelPostIdeal.Hand.frame_kernel, KernelPostIdeal.Hand.frame_kernelIdeal, KernelPostIdeal.Hand.frame_ref,
  KernelPrepIdeal.Hand.frame_kernel, KernelPrepIdeal.Hand.frame_kernelIdeal, KernelPrepIdeal.Hand.frame_kernelIdeal_pre,
  KernelPrepIdeal.Hand.frame_ref, KernelPrepIdeal.Hand.frame_ref_pre,
  trivial, Attn.algebraic, trivial, Ffn.algebraic,
  trivial, KernelZaIdeal.Hand.algebraic,
  trivial, KernelZbIdeal.Hand.algebraic,
  trivial, KernelZlIdeal.Hand.algebraic,
  trivial, KernelOutIdeal.Hand.algebraic,
  trivial, KernelQIdeal.Hand.algebraic,
  trivial, KernelKvIdeal.Hand.algebraic,
  trivial, KernelOIdeal.Hand.algebraic,
  trivial, FfnSample.algebraic,
  trivial, KernelNormIdeal.Hand.algebraic,
  trivial, KernelNormMemIdeal.Hand.algebraic,
  trivial, KernelGmlpIdeal.Hand.algebraic,
  trivial, KernelPostIdeal.Hand.algebraic,
  trivial, KernelPrepIdeal.Hand.algebraic⟩

end Cert.Proof

end
